-- ==== Defs.lean ====
def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_PrepBwd (m : (ℓ : Loc Cert.PrepBwd.nD Cert.PrepBwd.τ Cert.PrepBwd.sig) → Buf (Elt Bits) ℓ) : Prop :=
  True

def Pre_PrepBwdIdeal (m : (ℓ : Loc Cert.PrepBwdIdeal.nD Cert.PrepBwdIdeal.τ Cert.PrepBwdIdeal.sig) → Buf (Elt Ideal) ℓ) : Prop :=
  True

def Pre_PrepBwdIdeal_finite_prep [hPre_finite_prep : Cert.Pre_finite_prep.Facts] (m : (ℓ : Loc Cert.PrepBwdIdeal.nD Cert.PrepBwdIdeal.τ Cert.PrepBwdIdeal.sig) → Buf (Elt Ideal) ℓ) : Prop :=
  ∀ c : Dev Cert.PrepBwdIdeal.nD,
    (Cert.Pre_finite_prep.fn (F := Ideal) (m ((c.tc : Thread Cert.PrepBwdIdeal.nD Cert.PrepBwdIdeal.τ).loc Cert.PrepBwdIdeal.main_arg0)) (m ((c.tc : Thread Cert.PrepBwdIdeal.nD Cert.PrepBwdIdeal.τ).loc Cert.PrepBwdIdeal.main_arg1)) (m ((c.tc : Thread Cert.PrepBwdIdeal.nD Cert.PrepBwdIdeal.τ).loc Cert.PrepBwdIdeal.main_arg2)) (m ((c.tc : Thread Cert.PrepBwdIdeal.nD Cert.PrepBwdIdeal.τ).loc Cert.PrepBwdIdeal.main_arg3)) (m ((c.tc : Thread Cert.PrepBwdIdeal.nD Cert.PrepBwdIdeal.τ).loc Cert.PrepBwdIdeal.main_arg4)) (m ((c.tc : Thread Cert.PrepBwdIdeal.nD Cert.PrepBwdIdeal.τ).loc Cert.PrepBwdIdeal.main_arg5)) (m ((c.tc : Thread Cert.PrepBwdIdeal.nD Cert.PrepBwdIdeal.τ).loc Cert.PrepBwdIdeal.main_arg6)) (m ((c.tc : Thread Cert.PrepBwdIdeal.nD Cert.PrepBwdIdeal.τ).loc Cert.PrepBwdIdeal.main_arg7))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_finite_up [hPre_finite_up : Cert.Pre_finite_up.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_finite_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_finite_up [hPre_finite_up : Cert.Pre_finite_up.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_finite_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1))) = (fun _ => 1#1)

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactIdeal_finite_dact [hPre_finite_dact : Cert.Pre_finite_dact.Facts] (m : (ℓ : Loc Cert.FfnDactIdeal.nD Cert.FfnDactIdeal.τ Cert.FfnDactIdeal.sig) → Buf (Elt Ideal) ℓ) : Prop :=
  ∀ c : Dev Cert.FfnDactIdeal.nD,
    (Cert.Pre_finite_dact.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2)) (m ((c.tc : Thread Cert.FfnDactIdeal.nD Cert.FfnDactIdeal.τ).loc Cert.FfnDactIdeal.main_arg3))) = (fun _ => 1#1)

def Pre_FfnDactRefIdeal (m : (ℓ : Loc Cert.FfnDactRefIdeal.nD Cert.FfnDactRefIdeal.τ Cert.FfnDactRefIdeal.sig) → Buf (Elt Ideal) ℓ) : Prop :=
  True

def Pre_FfnDactRefIdeal_finite_dact [hPre_finite_dact : Cert.Pre_finite_dact.Facts] (m : (ℓ : Loc Cert.FfnDactRefIdeal.nD Cert.FfnDactRefIdeal.τ Cert.FfnDactRefIdeal.sig) → Buf (Elt Ideal) ℓ) : Prop :=
  ∀ c : Dev Cert.FfnDactRefIdeal.nD,
    (Cert.Pre_finite_dact.fn (F := Ideal) (m ((c.tc : Thread Cert.FfnDactRefIdeal.nD Cert.FfnDactRefIdeal.τ).loc Cert.FfnDactRefIdeal.main_arg0)) (m ((c.tc : Thread Cert.FfnDactRefIdeal.nD Cert.FfnDactRefIdeal.τ).loc Cert.FfnDactRefIdeal.main_arg1)) (m ((c.tc : Thread Cert.FfnDactRefIdeal.nD Cert.FfnDactRefIdeal.τ).loc Cert.FfnDactRefIdeal.main_arg2)) (m ((c.tc : Thread Cert.FfnDactRefIdeal.nD Cert.FfnDactRefIdeal.τ).loc Cert.FfnDactRefIdeal.main_arg3))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attend [hPre_finite_attend : Cert.Pre_finite_attend.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attend.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))) = (fun _ => 1#1)

def Pre_AttendRefIdeal (m : (ℓ : Loc Cert.AttendRefIdeal.nD Cert.AttendRefIdeal.τ Cert.AttendRefIdeal.sig) → Buf (Elt Ideal) ℓ) : Prop :=
  True

def Pre_AttendRefIdeal_finite_attend [hPre_finite_attend : Cert.Pre_finite_attend.Facts] (m : (ℓ : Loc Cert.AttendRefIdeal.nD Cert.AttendRefIdeal.τ Cert.AttendRefIdeal.sig) → Buf (Elt Ideal) ℓ) : Prop :=
  ∀ c : Dev Cert.AttendRefIdeal.nD,
    (Cert.Pre_finite_attend.fn (F := Ideal) (m ((c.tc : Thread Cert.AttendRefIdeal.nD Cert.AttendRefIdeal.τ).loc Cert.AttendRefIdeal.main_arg0)) (m ((c.tc : Thread Cert.AttendRefIdeal.nD Cert.AttendRefIdeal.τ).loc Cert.AttendRefIdeal.main_arg1)) (m ((c.tc : Thread Cert.AttendRefIdeal.nD Cert.AttendRefIdeal.τ).loc Cert.AttendRefIdeal.main_arg2)) (m ((c.tc : Thread Cert.AttendRefIdeal.nD Cert.AttendRefIdeal.τ).loc Cert.AttendRefIdeal.main_arg3)) (m ((c.tc : Thread Cert.AttendRefIdeal.nD Cert.AttendRefIdeal.τ).loc Cert.AttendRefIdeal.main_arg4))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_PrepFwd (m : (ℓ : Loc Cert.PrepFwd.nD Cert.PrepFwd.τ Cert.PrepFwd.sig) → Buf (Elt Bits) ℓ) : Prop :=
  True

def Pre_PrepFwdIdeal (m : (ℓ : Loc Cert.PrepFwdIdeal.nD Cert.PrepFwdIdeal.τ Cert.PrepFwdIdeal.sig) → Buf (Elt Ideal) ℓ) : Prop :=
  True

def Pre_PrepFwdRefIdeal (m : (ℓ : Loc Cert.PrepFwdRefIdeal.nD Cert.PrepFwdRefIdeal.τ Cert.PrepFwdRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnRefIdeal (m : (ℓ : Loc Cert.DhnRefIdeal.nD Cert.DhnRefIdeal.τ Cert.DhnRefIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguRefIdeal (m : (ℓ : Loc Cert.DwguRefIdeal.nD Cert.DwguRefIdeal.τ Cert.DwguRefIdeal.sig) → Buf (Elt Ideal) ℓ) : Prop :=
  True

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_PrepBwd [hPrepBwd : Cert.PrepBwd.Facts] : Prop :=
  ∀ (m : (ℓ : Loc Cert.PrepBwd.nD Cert.PrepBwd.τ Cert.PrepBwd.sig) → Buf (Elt Bits) ℓ) (g : Dev Cert.PrepBwd.nD → PrngReg), Pre_PrepBwd m →
    θ_run (Cert.PrepBwd.defs (F := Bits)) (onTc (τ := Cert.PrepBwd.τ) (Cert.PrepBwd.main (F := Bits))) ⟨m, fun _ => 0, g⟩ (fun r => (∀ c : Dev Cert.PrepBwd.nD,
      r.2.mem ((c.tc : Thread Cert.PrepBwd.nD Cert.PrepBwd.τ).loc Cert.PrepBwd.main_arg0) = m ((c.tc : Thread Cert.PrepBwd.nD Cert.PrepBwd.τ).loc Cert.PrepBwd.main_arg0)
      ∧ r.2.mem ((c.tc : Thread Cert.PrepBwd.nD Cert.PrepBwd.τ).loc Cert.PrepBwd.main_arg1) = m ((c.tc : Thread Cert.PrepBwd.nD Cert.PrepBwd.τ).loc Cert.PrepBwd.main_arg1)
      ∧ r.2.mem ((c.tc : Thread Cert.PrepBwd.nD Cert.PrepBwd.τ).loc Cert.PrepBwd.main_arg2) = m ((c.tc : Thread Cert.PrepBwd.nD Cert.PrepBwd.τ).loc Cert.PrepBwd.main_arg2)
      ∧ r.2.mem ((c.tc : Thread Cert.PrepBwd.nD Cert.PrepBwd.τ).loc Cert.PrepBwd.main_arg3) = m ((c.tc : Thread Cert.PrepBwd.nD Cert.PrepBwd.τ).loc Cert.PrepBwd.main_arg3)
      ∧ r.2.mem ((c.tc : Thread Cert.PrepBwd.nD Cert.PrepBwd.τ).loc Cert.PrepBwd.main_arg4) = m ((c.tc : Thread Cert.PrepBwd.nD Cert.PrepBwd.τ).loc Cert.PrepBwd.main_arg4)
      ∧ r.2.mem ((c.tc : Thread Cert.PrepBwd.nD Cert.PrepBwd.τ).loc Cert.PrepBwd.main_arg5) = m ((c.tc : Thread Cert.PrepBwd.nD Cert.PrepBwd.τ).loc Cert.PrepBwd.main_arg5)
      ∧ r.2.mem ((c.tc : Thread Cert.PrepBwd.nD Cert.PrepBwd.τ).loc Cert.PrepBwd.main_arg6) = m ((c.tc : Thread Cert.PrepBwd.nD Cert.PrepBwd.τ).loc Cert.PrepBwd.main_arg6)
      ∧ r.2.mem ((c.tc : Thread Cert.PrepBwd.nD Cert.PrepBwd.τ).loc Cert.PrepBwd.main_arg7) = m ((c.tc : Thread Cert.PrepBwd.nD Cert.PrepBwd.τ).loc Cert.PrepBwd.main_arg7))
      ∧ r.2.sem = fun _ => 0)

def quiescent_PrepBwdIdeal [hPrepBwdIdeal : Cert.PrepBwdIdeal.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
      ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
      ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
      ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7))
      ∧ r.2.sem = fun _ => 0)

def quiescent_PrepBwdIdeal_pre_finite_prep [hPrepBwdIdeal : Cert.PrepBwdIdeal.Facts] [hPre_finite_prep : Cert.Pre_finite_prep.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg), Pre_PrepBwdIdeal_finite_prep m →
    θ_run (Cert.PrepBwdIdeal.defs (F := Ideal)) (onTc (τ := Cert.PrepBwdIdeal.τ) (Cert.PrepBwdIdeal.main (F := Ideal))) ⟨m, fun _ => 0, g⟩ (fun r => (∀ c : Dev Cert.PrepBwdIdeal.nD,
      r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
      ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
      ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
      ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
      ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
      ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
      ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
      ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpIdeal_pre_finite_up [hFfnUpIdeal : Cert.FfnUpIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_finite_up m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnUpRefIdeal_pre_finite_up [hFfnUpRefIdeal : Cert.FfnUpRefIdeal.Facts] [hPre_finite_up : Cert.Pre_finite_up.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_finite_up m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2)
      ∧ r.2.mem ((c.tc : Thread Cert.FfnDact.nD Cert.FfnDact.τ).loc Cert.FfnDact.main_arg3) = m ((c.tc : Thread Cert.FfnDact.nD Cert.FfnDact.τ).loc Cert.FfnDact.main_arg3))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactIdeal_pre_finite_dact [hFfnDactIdeal : Cert.FfnDactIdeal.Facts] [hPre_finite_dact : Cert.Pre_finite_dact.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal_finite_dact m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
      ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_FfnDactRefIdeal_pre_finite_dact [hFfnDactRefIdeal : Cert.FfnDactRefIdeal.Facts] [hPre_finite_dact : Cert.Pre_finite_dact.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal_finite_dact m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2)
      ∧ r.2.mem ((c.tc : Thread Cert.FfnDactRefIdeal.nD Cert.FfnDactRefIdeal.τ).loc Cert.FfnDactRefIdeal.main_arg3) = m ((c.tc : Thread Cert.FfnDactRefIdeal.nD Cert.FfnDactRefIdeal.τ).loc Cert.FfnDactRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_finite_attend [hAttnFwdIdeal : Cert.AttnFwdIdeal.Facts] [hPre_finite_attend : Cert.Pre_finite_attend.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attend m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttendRefIdeal [hAttendRefIdeal : Cert.AttendRefIdeal.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_AttendRefIdeal_pre_finite_attend [hAttendRefIdeal : Cert.AttendRefIdeal.Facts] [hPre_finite_attend : Cert.Pre_finite_attend.Facts] : Prop :=
  ∀ (m : (ℓ : Loc Cert.AttendRefIdeal.nD Cert.AttendRefIdeal.τ Cert.AttendRefIdeal.sig) → Buf (Elt Ideal) ℓ) (g : Dev Cert.AttendRefIdeal.nD → PrngReg), Pre_AttendRefIdeal_finite_attend m →
    θ_run (Cert.AttendRefIdeal.defs (F := Ideal)) (onTc (τ := Cert.AttendRefIdeal.τ) (Cert.AttendRefIdeal.main (F := Ideal))) ⟨m, fun _ => 0, g⟩ (fun r => (∀ c : Dev Cert.AttendRefIdeal.nD,
      r.2.mem ((c.tc : Thread Cert.AttendRefIdeal.nD Cert.AttendRefIdeal.τ).loc Cert.AttendRefIdeal.main_arg0) = m ((c.tc : Thread Cert.AttendRefIdeal.nD Cert.AttendRefIdeal.τ).loc Cert.AttendRefIdeal.main_arg0)
      ∧ r.2.mem ((c.tc : Thread Cert.AttendRefIdeal.nD Cert.AttendRefIdeal.τ).loc Cert.AttendRefIdeal.main_arg1) = m ((c.tc : Thread Cert.AttendRefIdeal.nD Cert.AttendRefIdeal.τ).loc Cert.AttendRefIdeal.main_arg1)
      ∧ r.2.mem ((c.tc : Thread Cert.AttendRefIdeal.nD Cert.AttendRefIdeal.τ).loc Cert.AttendRefIdeal.main_arg2) = m ((c.tc : Thread Cert.AttendRefIdeal.nD Cert.AttendRefIdeal.τ).loc Cert.AttendRefIdeal.main_arg2)
      ∧ r.2.mem ((c.tc : Thread Cert.AttendRefIdeal.nD Cert.AttendRefIdeal.τ).loc Cert.AttendRefIdeal.main_arg3) = m ((c.tc : Thread Cert.AttendRefIdeal.nD Cert.AttendRefIdeal.τ).loc Cert.AttendRefIdeal.main_arg3)
      ∧ r.2.mem ((c.tc : Thread Cert.AttendRefIdeal.nD Cert.AttendRefIdeal.τ).loc Cert.AttendRefIdeal.main_arg4) = m ((c.tc : Thread Cert.AttendRefIdeal.nD Cert.AttendRefIdeal.τ).loc Cert.AttendRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_PrepFwd [hPrepFwd : Cert.PrepFwd.Facts] : Prop :=
  ∀ (m : (ℓ : Loc Cert.PrepFwd.nD Cert.PrepFwd.τ Cert.PrepFwd.sig) → Buf (Elt Bits) ℓ) (g : Dev Cert.PrepFwd.nD → PrngReg), Pre_PrepFwd m →
    θ_run (Cert.PrepFwd.defs (F := Bits)) (onTc (τ := Cert.PrepFwd.τ) (Cert.PrepFwd.main (F := Bits))) ⟨m, fun _ => 0, g⟩ (fun r => (∀ c : Dev Cert.PrepFwd.nD,
      r.2.mem ((c.tc : Thread Cert.PrepFwd.nD Cert.PrepFwd.τ).loc Cert.PrepFwd.main_arg0) = m ((c.tc : Thread Cert.PrepFwd.nD Cert.PrepFwd.τ).loc Cert.PrepFwd.main_arg0)
      ∧ r.2.mem ((c.tc : Thread Cert.PrepFwd.nD Cert.PrepFwd.τ).loc Cert.PrepFwd.main_arg1) = m ((c.tc : Thread Cert.PrepFwd.nD Cert.PrepFwd.τ).loc Cert.PrepFwd.main_arg1)
      ∧ r.2.mem ((c.tc : Thread Cert.PrepFwd.nD Cert.PrepFwd.τ).loc Cert.PrepFwd.main_arg2) = m ((c.tc : Thread Cert.PrepFwd.nD Cert.PrepFwd.τ).loc Cert.PrepFwd.main_arg2)
      ∧ r.2.mem ((c.tc : Thread Cert.PrepFwd.nD Cert.PrepFwd.τ).loc Cert.PrepFwd.main_arg3) = m ((c.tc : Thread Cert.PrepFwd.nD Cert.PrepFwd.τ).loc Cert.PrepFwd.main_arg3)
      ∧ r.2.mem ((c.tc : Thread Cert.PrepFwd.nD Cert.PrepFwd.τ).loc Cert.PrepFwd.main_arg4) = m ((c.tc : Thread Cert.PrepFwd.nD Cert.PrepFwd.τ).loc Cert.PrepFwd.main_arg4))
      ∧ r.2.sem = fun _ => 0)

def quiescent_PrepFwdIdeal [hPrepFwdIdeal : Cert.PrepFwdIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg), Pre_PrepFwdIdeal m →
    θ_run (Cert.PrepFwdIdeal.defs (F := Ideal)) (onTc (τ := Cert.PrepFwdIdeal.τ) (Cert.PrepFwdIdeal.main (F := Ideal))) ⟨m, fun _ => 0, g⟩ (fun r => (∀ c : Dev Cert.PrepFwdIdeal.nD,
      r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
      ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
      ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
      ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
      ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ r.2.sem = fun _ => 0)

def quiescent_PrepFwdRefIdeal [hPrepFwdRefIdeal : Cert.PrepFwdRefIdeal.Facts] : Prop :=
  ∀ (m : (ℓ : Loc Cert.PrepFwdRefIdeal.nD Cert.PrepFwdRefIdeal.τ Cert.PrepFwdRefIdeal.sig) → Buf (Elt Ideal) ℓ) (g : Dev Cert.PrepFwdRefIdeal.nD → PrngReg), Pre_PrepFwdRefIdeal m →
    θ_run (Cert.PrepFwdRefIdeal.defs (F := Ideal)) (onTc (τ := Cert.PrepFwdRefIdeal.τ) (Cert.PrepFwdRefIdeal.main (F := Ideal))) ⟨m, fun _ => 0, g⟩ (fun r => (∀ c : Dev Cert.PrepFwdRefIdeal.nD,
      r.2.mem ((c.tc : Thread Cert.PrepFwdRefIdeal.nD Cert.PrepFwdRefIdeal.τ).loc Cert.PrepFwdRefIdeal.main_arg0) = m ((c.tc : Thread Cert.PrepFwdRefIdeal.nD Cert.PrepFwdRefIdeal.τ).loc Cert.PrepFwdRefIdeal.main_arg0)
      ∧ r.2.mem ((c.tc : Thread Cert.PrepFwdRefIdeal.nD Cert.PrepFwdRefIdeal.τ).loc Cert.PrepFwdRefIdeal.main_arg1) = m ((c.tc : Thread Cert.PrepFwdRefIdeal.nD Cert.PrepFwdRefIdeal.τ).loc Cert.PrepFwdRefIdeal.main_arg1)
      ∧ r.2.mem ((c.tc : Thread Cert.PrepFwdRefIdeal.nD Cert.PrepFwdRefIdeal.τ).loc Cert.PrepFwdRefIdeal.main_arg2) = m ((c.tc : Thread Cert.PrepFwdRefIdeal.nD Cert.PrepFwdRefIdeal.τ).loc Cert.PrepFwdRefIdeal.main_arg2)
      ∧ r.2.mem ((c.tc : Thread Cert.PrepFwdRefIdeal.nD Cert.PrepFwdRefIdeal.τ).loc Cert.PrepFwdRefIdeal.main_arg3) = m ((c.tc : Thread Cert.PrepFwdRefIdeal.nD Cert.PrepFwdRefIdeal.τ).loc Cert.PrepFwdRefIdeal.main_arg3)
      ∧ r.2.mem ((c.tc : Thread Cert.PrepFwdRefIdeal.nD Cert.PrepFwdRefIdeal.τ).loc Cert.PrepFwdRefIdeal.main_arg4) = m ((c.tc : Thread Cert.PrepFwdRefIdeal.nD Cert.PrepFwdRefIdeal.τ).loc Cert.PrepFwdRefIdeal.main_arg4))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ r.2.sem = fun _ => 0)

def quiescent_DhnRefIdeal [hDhnRefIdeal : Cert.DhnRefIdeal.Facts] : Prop :=
  ∀ (m : (ℓ : Loc Cert.DhnRefIdeal.nD Cert.DhnRefIdeal.τ Cert.DhnRefIdeal.sig) → Buf (Elt Ideal) ℓ) (g : Dev Cert.DhnRefIdeal.nD → PrngReg), Pre_DhnRefIdeal m →
    θ_run (Cert.DhnRefIdeal.defs (F := Ideal)) (onTc (τ := Cert.DhnRefIdeal.τ) (Cert.DhnRefIdeal.main (F := Ideal))) ⟨m, fun _ => 0, g⟩ (fun r => (∀ c : Dev Cert.DhnRefIdeal.nD,
      r.2.mem ((c.tc : Thread Cert.DhnRefIdeal.nD Cert.DhnRefIdeal.τ).loc Cert.DhnRefIdeal.main_arg0) = m ((c.tc : Thread Cert.DhnRefIdeal.nD Cert.DhnRefIdeal.τ).loc Cert.DhnRefIdeal.main_arg0)
      ∧ r.2.mem ((c.tc : Thread Cert.DhnRefIdeal.nD Cert.DhnRefIdeal.τ).loc Cert.DhnRefIdeal.main_arg1) = m ((c.tc : Thread Cert.DhnRefIdeal.nD Cert.DhnRefIdeal.τ).loc Cert.DhnRefIdeal.main_arg1))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ r.2.sem = fun _ => 0)

def quiescent_DwguRefIdeal [hDwguRefIdeal : Cert.DwguRefIdeal.Facts] : Prop :=
  ∀ (m : (ℓ : Loc Cert.DwguRefIdeal.nD Cert.DwguRefIdeal.τ Cert.DwguRefIdeal.sig) → Buf (Elt Ideal) ℓ) (g : Dev Cert.DwguRefIdeal.nD → PrngReg), Pre_DwguRefIdeal m →
    θ_run (Cert.DwguRefIdeal.defs (F := Ideal)) (onTc (τ := Cert.DwguRefIdeal.τ) (Cert.DwguRefIdeal.main (F := Ideal))) ⟨m, fun _ => 0, g⟩ (fun r => (∀ c : Dev Cert.DwguRefIdeal.nD,
      r.2.mem ((c.tc : Thread Cert.DwguRefIdeal.nD Cert.DwguRefIdeal.τ).loc Cert.DwguRefIdeal.main_arg0) = m ((c.tc : Thread Cert.DwguRefIdeal.nD Cert.DwguRefIdeal.τ).loc Cert.DwguRefIdeal.main_arg0)
      ∧ r.2.mem ((c.tc : Thread Cert.DwguRefIdeal.nD Cert.DwguRefIdeal.τ).loc Cert.DwguRefIdeal.main_arg1) = m ((c.tc : Thread Cert.DwguRefIdeal.nD Cert.DwguRefIdeal.τ).loc Cert.DwguRefIdeal.main_arg1))
      ∧ r.2.sem = fun _ => 0)

def preserves_NormBwd_NormBwdIdeal : Prop :=
  True

def algebraic_NormBwdIdeal_NormRefIdeal_pre_finite_norm [hNormBwdIdeal : Cert.NormBwdIdeal.Facts] [hNormRefIdeal : Cert.NormRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormBwdIdeal_finite_norm m →
    (∀ c : Dev Cert.NormBwdIdeal.nD,
      m' ((c.tc : Thread Cert.NormRefIdeal.nD Cert.NormRefIdeal.τ).loc Cert.NormRefIdeal.main_arg0) = m ((c.tc : Thread Cert.NormBwdIdeal.nD Cert.NormBwdIdeal.τ).loc Cert.NormBwdIdeal.main_arg0)
      ∧ m' ((c.tc : Thread Cert.NormRefIdeal.nD Cert.NormRefIdeal.τ).loc Cert.NormRefIdeal.main_arg1) = m ((c.tc : Thread Cert.NormBwdIdeal.nD Cert.NormBwdIdeal.τ).loc Cert.NormBwdIdeal.main_arg1)
      ∧ m' ((c.tc : Thread Cert.NormRefIdeal.nD Cert.NormRefIdeal.τ).loc Cert.NormRefIdeal.main_arg2) = m ((c.tc : Thread Cert.NormBwdIdeal.nD Cert.NormBwdIdeal.τ).loc Cert.NormBwdIdeal.main_arg2)
      ∧ m' ((c.tc : Thread Cert.NormRefIdeal.nD Cert.NormRefIdeal.τ).loc Cert.NormRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v5_0)) (v1 : (c : Dev Cert.NormBwdIdeal.nD) → Buf (Elt Ideal) ((c.tc : Thread Cert.NormBwdIdeal.nD Cert.NormBwdIdeal.τ).loc Cert.NormBwdIdeal.main_v5_1)) (v2 : (c : Dev Cert.NormBwdIdeal.nD) → Buf (Elt Ideal) ((c.tc : Thread Cert.NormBwdIdeal.nD Cert.NormBwdIdeal.τ).loc Cert.NormBwdIdeal.main_v5_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v5_0) = v0 c
          ∧ r.2.mem ((c.tc : Thread Cert.NormBwdIdeal.nD Cert.NormBwdIdeal.τ).loc Cert.NormBwdIdeal.main_v5_1) = v1 c
          ∧ r.2.mem ((c.tc : Thread Cert.NormBwdIdeal.nD Cert.NormBwdIdeal.τ).loc Cert.NormBwdIdeal.main_v5_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v37) = v0 c
          ∧ r.2.mem ((c.tc : Thread Cert.NormRefIdeal.nD Cert.NormRefIdeal.τ).loc Cert.NormRefIdeal.main_v38) = v1 c
          ∧ r.2.mem ((c.tc : Thread Cert.NormRefIdeal.nD Cert.NormRefIdeal.τ).loc Cert.NormRefIdeal.main_v39) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_AttnBwd_AttnBwdIdeal : Prop :=
  True

def algebraic_AttnBwdIdeal_AttnRefIdeal_pre_finite_attn [hAttnBwdIdeal : Cert.AttnBwdIdeal.Facts] [hAttnRefIdeal : Cert.AttnRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_attn m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)
      ∧ m' ((c.tc : Thread Cert.AttnRefIdeal.nD Cert.AttnRefIdeal.τ).loc Cert.AttnRefIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v105_0)) (v1 : (c : Dev Cert.AttnBwdIdeal.nD) → Buf (Elt Ideal) ((c.tc : Thread Cert.AttnBwdIdeal.nD Cert.AttnBwdIdeal.τ).loc Cert.AttnBwdIdeal.main_v105_1)) (v2 : (c : Dev Cert.AttnBwdIdeal.nD) → Buf (Elt Ideal) ((c.tc : Thread Cert.AttnBwdIdeal.nD Cert.AttnBwdIdeal.τ).loc Cert.AttnBwdIdeal.main_v105_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v105_0) = v0 c
          ∧ r.2.mem ((c.tc : Thread Cert.AttnBwdIdeal.nD Cert.AttnBwdIdeal.τ).loc Cert.AttnBwdIdeal.main_v105_1) = v1 c
          ∧ r.2.mem ((c.tc : Thread Cert.AttnBwdIdeal.nD Cert.AttnBwdIdeal.τ).loc Cert.AttnBwdIdeal.main_v105_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v122) = v0 c
          ∧ r.2.mem ((c.tc : Thread Cert.AttnRefIdeal.nD Cert.AttnRefIdeal.τ).loc Cert.AttnRefIdeal.main_v123) = v1 c
          ∧ r.2.mem ((c.tc : Thread Cert.AttnRefIdeal.nD Cert.AttnRefIdeal.τ).loc Cert.AttnRefIdeal.main_v124) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_LossHead_LossHeadIdeal : Prop :=
  True

def algebraic_LossHeadIdeal_LossRefIdeal_pre_finite_loss [hLossHeadIdeal : Cert.LossHeadIdeal.Facts] [hLossRefIdeal : Cert.LossRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal_finite_loss m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)
      ∧ m' ((c.tc : Thread Cert.LossRefIdeal.nD Cert.LossRefIdeal.τ).loc Cert.LossRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)) (v3 : (c : Dev Cert.LossHeadIdeal.nD) → Buf (Elt Ideal) ((c.tc : Thread Cert.LossHeadIdeal.nD Cert.LossHeadIdeal.τ).loc Cert.LossHeadIdeal.main_v3_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_v3_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v54) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_v56) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_PrepBwd_PrepBwdIdeal : Prop :=
  True

def algebraic_PrepBwdIdeal_PrepRefIdeal_pre_finite_prep [hPrepBwdIdeal : Cert.PrepBwdIdeal.Facts] [hPrepRefIdeal : Cert.PrepRefIdeal.Facts] [hPre_finite_prep : Cert.Pre_finite_prep.Facts] : Prop :=
  ∀ (m : (ℓ : Loc Cert.PrepBwdIdeal.nD Cert.PrepBwdIdeal.τ Cert.PrepBwdIdeal.sig) → Buf (Elt Ideal) ℓ) (g : Dev Cert.PrepBwdIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepBwdIdeal_finite_prep m →
    (∀ c : Dev Cert.PrepBwdIdeal.nD,
      m' ((c.tc : Thread Cert.PrepRefIdeal.nD Cert.PrepRefIdeal.τ).loc Cert.PrepRefIdeal.main_arg0) = m ((c.tc : Thread Cert.PrepBwdIdeal.nD Cert.PrepBwdIdeal.τ).loc Cert.PrepBwdIdeal.main_arg0)
      ∧ m' ((c.tc : Thread Cert.PrepRefIdeal.nD Cert.PrepRefIdeal.τ).loc Cert.PrepRefIdeal.main_arg1) = m ((c.tc : Thread Cert.PrepBwdIdeal.nD Cert.PrepBwdIdeal.τ).loc Cert.PrepBwdIdeal.main_arg1)
      ∧ m' ((c.tc : Thread Cert.PrepRefIdeal.nD Cert.PrepRefIdeal.τ).loc Cert.PrepRefIdeal.main_arg2) = m ((c.tc : Thread Cert.PrepBwdIdeal.nD Cert.PrepBwdIdeal.τ).loc Cert.PrepBwdIdeal.main_arg2)
      ∧ m' ((c.tc : Thread Cert.PrepRefIdeal.nD Cert.PrepRefIdeal.τ).loc Cert.PrepRefIdeal.main_arg3) = m ((c.tc : Thread Cert.PrepBwdIdeal.nD Cert.PrepBwdIdeal.τ).loc Cert.PrepBwdIdeal.main_arg3)
      ∧ m' ((c.tc : Thread Cert.PrepRefIdeal.nD Cert.PrepRefIdeal.τ).loc Cert.PrepRefIdeal.main_arg4) = m ((c.tc : Thread Cert.PrepBwdIdeal.nD Cert.PrepBwdIdeal.τ).loc Cert.PrepBwdIdeal.main_arg4)
      ∧ m' ((c.tc : Thread Cert.PrepRefIdeal.nD Cert.PrepRefIdeal.τ).loc Cert.PrepRefIdeal.main_arg5) = m ((c.tc : Thread Cert.PrepBwdIdeal.nD Cert.PrepBwdIdeal.τ).loc Cert.PrepBwdIdeal.main_arg5)
      ∧ m' ((c.tc : Thread Cert.PrepRefIdeal.nD Cert.PrepRefIdeal.τ).loc Cert.PrepRefIdeal.main_arg6) = m ((c.tc : Thread Cert.PrepBwdIdeal.nD Cert.PrepBwdIdeal.τ).loc Cert.PrepBwdIdeal.main_arg6)
      ∧ m' ((c.tc : Thread Cert.PrepRefIdeal.nD Cert.PrepRefIdeal.τ).loc Cert.PrepRefIdeal.main_arg7) = m ((c.tc : Thread Cert.PrepBwdIdeal.nD Cert.PrepBwdIdeal.τ).loc Cert.PrepBwdIdeal.main_arg7)) →
    ∃ (v0 : (c : Dev Cert.PrepBwdIdeal.nD) → Buf (Elt Ideal) ((c.tc : Thread Cert.PrepBwdIdeal.nD Cert.PrepBwdIdeal.τ).loc Cert.PrepBwdIdeal.main_v14_0)) (v1 : (c : Dev Cert.PrepBwdIdeal.nD) → Buf (Elt Ideal) ((c.tc : Thread Cert.PrepBwdIdeal.nD Cert.PrepBwdIdeal.τ).loc Cert.PrepBwdIdeal.main_v14_1)) (v2 : (c : Dev Cert.PrepBwdIdeal.nD) → Buf (Elt Ideal) ((c.tc : Thread Cert.PrepBwdIdeal.nD Cert.PrepBwdIdeal.τ).loc Cert.PrepBwdIdeal.main_v14_2)),
      θ_run (Cert.PrepBwdIdeal.defs (F := Ideal)) (onTc (τ := Cert.PrepBwdIdeal.τ) (Cert.PrepBwdIdeal.main (F := Ideal))) ⟨m, fun _ => 0, g⟩ (fun r => ∀ c : Dev Cert.PrepBwdIdeal.nD,
          r.2.mem ((c.tc : Thread Cert.PrepBwdIdeal.nD Cert.PrepBwdIdeal.τ).loc Cert.PrepBwdIdeal.main_v14_0) = v0 c
          ∧ r.2.mem ((c.tc : Thread Cert.PrepBwdIdeal.nD Cert.PrepBwdIdeal.τ).loc Cert.PrepBwdIdeal.main_v14_1) = v1 c
          ∧ r.2.mem ((c.tc : Thread Cert.PrepBwdIdeal.nD Cert.PrepBwdIdeal.τ).loc Cert.PrepBwdIdeal.main_v14_2) = v2 c
          ∧ r.2.mem ((c.tc : Thread Cert.PrepBwdIdeal.nD Cert.PrepBwdIdeal.τ).loc Cert.PrepBwdIdeal.main_arg0) = m ((c.tc : Thread Cert.PrepBwdIdeal.nD Cert.PrepBwdIdeal.τ).loc Cert.PrepBwdIdeal.main_arg0)
          ∧ r.2.mem ((c.tc : Thread Cert.PrepBwdIdeal.nD Cert.PrepBwdIdeal.τ).loc Cert.PrepBwdIdeal.main_arg1) = m ((c.tc : Thread Cert.PrepBwdIdeal.nD Cert.PrepBwdIdeal.τ).loc Cert.PrepBwdIdeal.main_arg1)
          ∧ r.2.mem ((c.tc : Thread Cert.PrepBwdIdeal.nD Cert.PrepBwdIdeal.τ).loc Cert.PrepBwdIdeal.main_arg2) = m ((c.tc : Thread Cert.PrepBwdIdeal.nD Cert.PrepBwdIdeal.τ).loc Cert.PrepBwdIdeal.main_arg2)
          ∧ r.2.mem ((c.tc : Thread Cert.PrepBwdIdeal.nD Cert.PrepBwdIdeal.τ).loc Cert.PrepBwdIdeal.main_arg3) = m ((c.tc : Thread Cert.PrepBwdIdeal.nD Cert.PrepBwdIdeal.τ).loc Cert.PrepBwdIdeal.main_arg3)
          ∧ r.2.mem ((c.tc : Thread Cert.PrepBwdIdeal.nD Cert.PrepBwdIdeal.τ).loc Cert.PrepBwdIdeal.main_arg4) = m ((c.tc : Thread Cert.PrepBwdIdeal.nD Cert.PrepBwdIdeal.τ).loc Cert.PrepBwdIdeal.main_arg4)
          ∧ r.2.mem ((c.tc : Thread Cert.PrepBwdIdeal.nD Cert.PrepBwdIdeal.τ).loc Cert.PrepBwdIdeal.main_arg5) = m ((c.tc : Thread Cert.PrepBwdIdeal.nD Cert.PrepBwdIdeal.τ).loc Cert.PrepBwdIdeal.main_arg5)
          ∧ r.2.mem ((c.tc : Thread Cert.PrepBwdIdeal.nD Cert.PrepBwdIdeal.τ).loc Cert.PrepBwdIdeal.main_arg6) = m ((c.tc : Thread Cert.PrepBwdIdeal.nD Cert.PrepBwdIdeal.τ).loc Cert.PrepBwdIdeal.main_arg6)
          ∧ r.2.mem ((c.tc : Thread Cert.PrepBwdIdeal.nD Cert.PrepBwdIdeal.τ).loc Cert.PrepBwdIdeal.main_arg7) = m ((c.tc : Thread Cert.PrepBwdIdeal.nD Cert.PrepBwdIdeal.τ).loc Cert.PrepBwdIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v101) = v0 c
          ∧ r.2.mem ((c.tc : Thread Cert.PrepRefIdeal.nD Cert.PrepRefIdeal.τ).loc Cert.PrepRefIdeal.main_v102) = v1 c
          ∧ r.2.mem ((c.tc : Thread Cert.PrepRefIdeal.nD Cert.PrepRefIdeal.τ).loc Cert.PrepRefIdeal.main_v103) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def preserves_FfnUp_FfnUpIdeal : Prop :=
  True

def algebraic_FfnUpIdeal_FfnUpRefIdeal_pre_finite_up [hFfnUpIdeal : Cert.FfnUpIdeal.Facts] [hFfnUpRefIdeal : Cert.FfnUpRefIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_finite_up m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v5_0)) (v1 : (c : Dev Cert.FfnUpIdeal.nD) → Buf (Elt Ideal) ((c.tc : Thread Cert.FfnUpIdeal.nD Cert.FfnUpIdeal.τ).loc Cert.FfnUpIdeal.main_v5_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v5_0) = v0 c
          ∧ r.2.mem ((c.tc : Thread Cert.FfnUpIdeal.nD Cert.FfnUpIdeal.τ).loc Cert.FfnUpIdeal.main_v5_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v11) = v1 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDact_FfnDactIdeal : Prop :=
  True

def algebraic_FfnDactIdeal_FfnDactRefIdeal_pre_finite_dact [hFfnDactIdeal : Cert.FfnDactIdeal.Facts] [hFfnDactRefIdeal : Cert.FfnDactRefIdeal.Facts] [hPre_finite_dact : Cert.Pre_finite_dact.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal_finite_dact m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)
      ∧ m' ((c.tc : Thread Cert.FfnDactRefIdeal.nD Cert.FfnDactRefIdeal.τ).loc Cert.FfnDactRefIdeal.main_arg2) = m ((c.tc : Thread Cert.FfnDactIdeal.nD Cert.FfnDactIdeal.τ).loc Cert.FfnDactIdeal.main_arg2)
      ∧ m' ((c.tc : Thread Cert.FfnDactRefIdeal.nD Cert.FfnDactRefIdeal.τ).loc Cert.FfnDactRefIdeal.main_arg3) = m ((c.tc : Thread Cert.FfnDactIdeal.nD Cert.FfnDactIdeal.τ).loc Cert.FfnDactIdeal.main_arg3)) →
    ∃ (v0 : (c : Dev Cert.FfnDactIdeal.nD) → Buf (Elt Ideal) ((c.tc : Thread Cert.FfnDactIdeal.nD Cert.FfnDactIdeal.τ).loc Cert.FfnDactIdeal.main_v11)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v11) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2)
          ∧ r.2.mem ((c.tc : Thread Cert.FfnDactIdeal.nD Cert.FfnDactIdeal.τ).loc Cert.FfnDactIdeal.main_arg3) = m ((c.tc : Thread Cert.FfnDactIdeal.nD Cert.FfnDactIdeal.τ).loc Cert.FfnDactIdeal.main_arg3))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v14) = v0 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1)
          ∧ r.2.mem ((c.tc : Thread Cert.FfnDactRefIdeal.nD Cert.FfnDactRefIdeal.τ).loc Cert.FfnDactRefIdeal.main_arg2) = m' ((c.tc : Thread Cert.FfnDactRefIdeal.nD Cert.FfnDactRefIdeal.τ).loc Cert.FfnDactRefIdeal.main_arg2)
          ∧ r.2.mem ((c.tc : Thread Cert.FfnDactRefIdeal.nD Cert.FfnDactRefIdeal.τ).loc Cert.FfnDactRefIdeal.main_arg3) = m' ((c.tc : Thread Cert.FfnDactRefIdeal.nD Cert.FfnDactRefIdeal.τ).loc Cert.FfnDactRefIdeal.main_arg3))

def preserves_AttnFwd_AttnFwdIdeal : Prop :=
  IdealRules.named_const.Statement Cert.AttnFwdIdeal.κ "mask" .f32 0xF149F2CA#32 ⊥

def algebraic_AttnFwdIdeal_AttendRefIdeal_pre_finite_attend [hAttnFwdIdeal : Cert.AttnFwdIdeal.Facts] [hAttendRefIdeal : Cert.AttendRefIdeal.Facts] [hPre_finite_attend : Cert.Pre_finite_attend.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttendRefIdeal.nD Cert.AttendRefIdeal.τ Cert.AttendRefIdeal.sig) → Buf (Elt Ideal) ℓ) (g' : Dev Cert.AttendRefIdeal.nD → PrngReg), Pre_AttnFwdIdeal_finite_attend m →
    (∀ c : Dev Cert.AttnFwdIdeal.nD,
      m' ((c.tc : Thread Cert.AttendRefIdeal.nD Cert.AttendRefIdeal.τ).loc Cert.AttendRefIdeal.main_arg0) = m ((c.tc : Thread Cert.AttnFwdIdeal.nD Cert.AttnFwdIdeal.τ).loc Cert.AttnFwdIdeal.main_arg0)
      ∧ m' ((c.tc : Thread Cert.AttendRefIdeal.nD Cert.AttendRefIdeal.τ).loc Cert.AttendRefIdeal.main_arg1) = m ((c.tc : Thread Cert.AttnFwdIdeal.nD Cert.AttnFwdIdeal.τ).loc Cert.AttnFwdIdeal.main_arg1)
      ∧ m' ((c.tc : Thread Cert.AttendRefIdeal.nD Cert.AttendRefIdeal.τ).loc Cert.AttendRefIdeal.main_arg2) = m ((c.tc : Thread Cert.AttnFwdIdeal.nD Cert.AttnFwdIdeal.τ).loc Cert.AttnFwdIdeal.main_arg2)
      ∧ m' ((c.tc : Thread Cert.AttendRefIdeal.nD Cert.AttendRefIdeal.τ).loc Cert.AttendRefIdeal.main_arg3) = m ((c.tc : Thread Cert.AttnFwdIdeal.nD Cert.AttnFwdIdeal.τ).loc Cert.AttnFwdIdeal.main_arg3)
      ∧ m' ((c.tc : Thread Cert.AttendRefIdeal.nD Cert.AttendRefIdeal.τ).loc Cert.AttendRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v26_0)) (v1 : (c : Dev Cert.AttnFwdIdeal.nD) → Buf (Elt Ideal) ((c.tc : Thread Cert.AttnFwdIdeal.nD Cert.AttnFwdIdeal.τ).loc Cert.AttnFwdIdeal.main_v26_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v26_0) = v0 c
          ∧ r.2.mem ((c.tc : Thread Cert.AttnFwdIdeal.nD Cert.AttnFwdIdeal.τ).loc Cert.AttnFwdIdeal.main_v26_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttendRefIdeal.defs (F := Ideal)) (onTc (τ := Cert.AttendRefIdeal.τ) (Cert.AttendRefIdeal.main (F := Ideal))) ⟨m', fun _ => 0, g'⟩ (fun r => ∀ c : Dev Cert.AttendRefIdeal.nD,
          r.2.mem ((c.tc : Thread Cert.AttendRefIdeal.nD Cert.AttendRefIdeal.τ).loc Cert.AttendRefIdeal.main_v66) = v0 c
          ∧ r.2.mem ((c.tc : Thread Cert.AttendRefIdeal.nD Cert.AttendRefIdeal.τ).loc Cert.AttendRefIdeal.main_v68) = v1 c
          ∧ r.2.mem ((c.tc : Thread Cert.AttendRefIdeal.nD Cert.AttendRefIdeal.τ).loc Cert.AttendRefIdeal.main_arg0) = m' ((c.tc : Thread Cert.AttendRefIdeal.nD Cert.AttendRefIdeal.τ).loc Cert.AttendRefIdeal.main_arg0)
          ∧ r.2.mem ((c.tc : Thread Cert.AttendRefIdeal.nD Cert.AttendRefIdeal.τ).loc Cert.AttendRefIdeal.main_arg1) = m' ((c.tc : Thread Cert.AttendRefIdeal.nD Cert.AttendRefIdeal.τ).loc Cert.AttendRefIdeal.main_arg1)
          ∧ r.2.mem ((c.tc : Thread Cert.AttendRefIdeal.nD Cert.AttendRefIdeal.τ).loc Cert.AttendRefIdeal.main_arg2) = m' ((c.tc : Thread Cert.AttendRefIdeal.nD Cert.AttendRefIdeal.τ).loc Cert.AttendRefIdeal.main_arg2)
          ∧ r.2.mem ((c.tc : Thread Cert.AttendRefIdeal.nD Cert.AttendRefIdeal.τ).loc Cert.AttendRefIdeal.main_arg3) = m' ((c.tc : Thread Cert.AttendRefIdeal.nD Cert.AttendRefIdeal.τ).loc Cert.AttendRefIdeal.main_arg3)
          ∧ r.2.mem ((c.tc : Thread Cert.AttendRefIdeal.nD Cert.AttendRefIdeal.τ).loc Cert.AttendRefIdeal.main_arg4) = m' ((c.tc : Thread Cert.AttendRefIdeal.nD Cert.AttendRefIdeal.τ).loc Cert.AttendRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v2)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_PrepFwd_PrepFwdIdeal : Prop :=
  True

def algebraic_PrepFwdIdeal_PrepFwdRefIdeal [hPrepFwdIdeal : Cert.PrepFwdIdeal.Facts] [hPrepFwdRefIdeal : Cert.PrepFwdRefIdeal.Facts] : Prop :=
  ∀ (m : (ℓ : Loc Cert.PrepFwdIdeal.nD Cert.PrepFwdIdeal.τ Cert.PrepFwdIdeal.sig) → Buf (Elt Ideal) ℓ) (g : Dev Cert.PrepFwdIdeal.nD → PrngReg)
    (m' : (ℓ : Loc Cert.PrepFwdRefIdeal.nD Cert.PrepFwdRefIdeal.τ Cert.PrepFwdRefIdeal.sig) → Buf (Elt Ideal) ℓ) (g' : Dev Cert.PrepFwdRefIdeal.nD → PrngReg), Pre_PrepFwdIdeal m →
    (∀ c : Dev Cert.PrepFwdIdeal.nD,
      m' ((c.tc : Thread Cert.PrepFwdRefIdeal.nD Cert.PrepFwdRefIdeal.τ).loc Cert.PrepFwdRefIdeal.main_arg0) = m ((c.tc : Thread Cert.PrepFwdIdeal.nD Cert.PrepFwdIdeal.τ).loc Cert.PrepFwdIdeal.main_arg0)
      ∧ m' ((c.tc : Thread Cert.PrepFwdRefIdeal.nD Cert.PrepFwdRefIdeal.τ).loc Cert.PrepFwdRefIdeal.main_arg1) = m ((c.tc : Thread Cert.PrepFwdIdeal.nD Cert.PrepFwdIdeal.τ).loc Cert.PrepFwdIdeal.main_arg1)
      ∧ m' ((c.tc : Thread Cert.PrepFwdRefIdeal.nD Cert.PrepFwdRefIdeal.τ).loc Cert.PrepFwdRefIdeal.main_arg2) = m ((c.tc : Thread Cert.PrepFwdIdeal.nD Cert.PrepFwdIdeal.τ).loc Cert.PrepFwdIdeal.main_arg2)
      ∧ m' ((c.tc : Thread Cert.PrepFwdRefIdeal.nD Cert.PrepFwdRefIdeal.τ).loc Cert.PrepFwdRefIdeal.main_arg3) = m ((c.tc : Thread Cert.PrepFwdIdeal.nD Cert.PrepFwdIdeal.τ).loc Cert.PrepFwdIdeal.main_arg3)
      ∧ m' ((c.tc : Thread Cert.PrepFwdRefIdeal.nD Cert.PrepFwdRefIdeal.τ).loc Cert.PrepFwdRefIdeal.main_arg4) = m ((c.tc : Thread Cert.PrepFwdIdeal.nD Cert.PrepFwdIdeal.τ).loc Cert.PrepFwdIdeal.main_arg4)) →
    ∃ (v0 : (c : Dev Cert.PrepFwdIdeal.nD) → Buf (Elt Ideal) ((c.tc : Thread Cert.PrepFwdIdeal.nD Cert.PrepFwdIdeal.τ).loc Cert.PrepFwdIdeal.main_v11_0)) (v1 : (c : Dev Cert.PrepFwdIdeal.nD) → Buf (Elt Ideal) ((c.tc : Thread Cert.PrepFwdIdeal.nD Cert.PrepFwdIdeal.τ).loc Cert.PrepFwdIdeal.main_v11_1)) (v2 : (c : Dev Cert.PrepFwdIdeal.nD) → Buf (Elt Ideal) ((c.tc : Thread Cert.PrepFwdIdeal.nD Cert.PrepFwdIdeal.τ).loc Cert.PrepFwdIdeal.main_v11_2)),
      θ_run (Cert.PrepFwdIdeal.defs (F := Ideal)) (onTc (τ := Cert.PrepFwdIdeal.τ) (Cert.PrepFwdIdeal.main (F := Ideal))) ⟨m, fun _ => 0, g⟩ (fun r => ∀ c : Dev Cert.PrepFwdIdeal.nD,
          r.2.mem ((c.tc : Thread Cert.PrepFwdIdeal.nD Cert.PrepFwdIdeal.τ).loc Cert.PrepFwdIdeal.main_v11_0) = v0 c
          ∧ r.2.mem ((c.tc : Thread Cert.PrepFwdIdeal.nD Cert.PrepFwdIdeal.τ).loc Cert.PrepFwdIdeal.main_v11_1) = v1 c
          ∧ r.2.mem ((c.tc : Thread Cert.PrepFwdIdeal.nD Cert.PrepFwdIdeal.τ).loc Cert.PrepFwdIdeal.main_v11_2) = v2 c
          ∧ r.2.mem ((c.tc : Thread Cert.PrepFwdIdeal.nD Cert.PrepFwdIdeal.τ).loc Cert.PrepFwdIdeal.main_arg0) = m ((c.tc : Thread Cert.PrepFwdIdeal.nD Cert.PrepFwdIdeal.τ).loc Cert.PrepFwdIdeal.main_arg0)
          ∧ r.2.mem ((c.tc : Thread Cert.PrepFwdIdeal.nD Cert.PrepFwdIdeal.τ).loc Cert.PrepFwdIdeal.main_arg1) = m ((c.tc : Thread Cert.PrepFwdIdeal.nD Cert.PrepFwdIdeal.τ).loc Cert.PrepFwdIdeal.main_arg1)
          ∧ r.2.mem ((c.tc : Thread Cert.PrepFwdIdeal.nD Cert.PrepFwdIdeal.τ).loc Cert.PrepFwdIdeal.main_arg2) = m ((c.tc : Thread Cert.PrepFwdIdeal.nD Cert.PrepFwdIdeal.τ).loc Cert.PrepFwdIdeal.main_arg2)
          ∧ r.2.mem ((c.tc : Thread Cert.PrepFwdIdeal.nD Cert.PrepFwdIdeal.τ).loc Cert.PrepFwdIdeal.main_arg3) = m ((c.tc : Thread Cert.PrepFwdIdeal.nD Cert.PrepFwdIdeal.τ).loc Cert.PrepFwdIdeal.main_arg3)
          ∧ r.2.mem ((c.tc : Thread Cert.PrepFwdIdeal.nD Cert.PrepFwdIdeal.τ).loc Cert.PrepFwdIdeal.main_arg4) = m ((c.tc : Thread Cert.PrepFwdIdeal.nD Cert.PrepFwdIdeal.τ).loc Cert.PrepFwdIdeal.main_arg4))
      ∧ θ_run (Cert.PrepFwdRefIdeal.defs (F := Ideal)) (onTc (τ := Cert.PrepFwdRefIdeal.τ) (Cert.PrepFwdRefIdeal.main (F := Ideal))) ⟨m', fun _ => 0, g'⟩ (fun r => ∀ c : Dev Cert.PrepFwdRefIdeal.nD,
          r.2.mem ((c.tc : Thread Cert.PrepFwdRefIdeal.nD Cert.PrepFwdRefIdeal.τ).loc Cert.PrepFwdRefIdeal.main_v26) = v0 c
          ∧ r.2.mem ((c.tc : Thread Cert.PrepFwdRefIdeal.nD Cert.PrepFwdRefIdeal.τ).loc Cert.PrepFwdRefIdeal.main_v41) = v1 c
          ∧ r.2.mem ((c.tc : Thread Cert.PrepFwdRefIdeal.nD Cert.PrepFwdRefIdeal.τ).loc Cert.PrepFwdRefIdeal.main_v43) = v2 c
          ∧ r.2.mem ((c.tc : Thread Cert.PrepFwdRefIdeal.nD Cert.PrepFwdRefIdeal.τ).loc Cert.PrepFwdRefIdeal.main_arg0) = m' ((c.tc : Thread Cert.PrepFwdRefIdeal.nD Cert.PrepFwdRefIdeal.τ).loc Cert.PrepFwdRefIdeal.main_arg0)
          ∧ r.2.mem ((c.tc : Thread Cert.PrepFwdRefIdeal.nD Cert.PrepFwdRefIdeal.τ).loc Cert.PrepFwdRefIdeal.main_arg1) = m' ((c.tc : Thread Cert.PrepFwdRefIdeal.nD Cert.PrepFwdRefIdeal.τ).loc Cert.PrepFwdRefIdeal.main_arg1)
          ∧ r.2.mem ((c.tc : Thread Cert.PrepFwdRefIdeal.nD Cert.PrepFwdRefIdeal.τ).loc Cert.PrepFwdRefIdeal.main_arg2) = m' ((c.tc : Thread Cert.PrepFwdRefIdeal.nD Cert.PrepFwdRefIdeal.τ).loc Cert.PrepFwdRefIdeal.main_arg2)
          ∧ r.2.mem ((c.tc : Thread Cert.PrepFwdRefIdeal.nD Cert.PrepFwdRefIdeal.τ).loc Cert.PrepFwdRefIdeal.main_arg3) = m' ((c.tc : Thread Cert.PrepFwdRefIdeal.nD Cert.PrepFwdRefIdeal.τ).loc Cert.PrepFwdRefIdeal.main_arg3)
          ∧ r.2.mem ((c.tc : Thread Cert.PrepFwdRefIdeal.nD Cert.PrepFwdRefIdeal.τ).loc Cert.PrepFwdRefIdeal.main_arg4) = m' ((c.tc : Thread Cert.PrepFwdRefIdeal.nD Cert.PrepFwdRefIdeal.τ).loc Cert.PrepFwdRefIdeal.main_arg4))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v4_0)) (v1 : (c : Dev Cert.AdamwIdeal.nD) → Buf (Elt Ideal) ((c.tc : Thread Cert.AdamwIdeal.nD Cert.AdamwIdeal.τ).loc Cert.AdamwIdeal.main_v4_1)) (v2 : (c : Dev Cert.AdamwIdeal.nD) → Buf (Elt Ideal) ((c.tc : Thread Cert.AdamwIdeal.nD Cert.AdamwIdeal.τ).loc Cert.AdamwIdeal.main_v4_2)) (v3 : (c : Dev Cert.AdamwIdeal.nD) → Buf (Elt Ideal) ((c.tc : Thread Cert.AdamwIdeal.nD Cert.AdamwIdeal.τ).loc Cert.AdamwIdeal.main_v4_3)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v4_0) = v0 c
          ∧ r.2.mem ((c.tc : Thread Cert.AdamwIdeal.nD Cert.AdamwIdeal.τ).loc Cert.AdamwIdeal.main_v4_1) = v1 c
          ∧ r.2.mem ((c.tc : Thread Cert.AdamwIdeal.nD Cert.AdamwIdeal.τ).loc Cert.AdamwIdeal.main_v4_2) = v2 c
          ∧ r.2.mem ((c.tc : Thread Cert.AdamwIdeal.nD Cert.AdamwIdeal.τ).loc Cert.AdamwIdeal.main_v4_3) = v3 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v25) = v0 c
          ∧ r.2.mem ((c.tc : Thread Cert.AdamwRefIdeal.nD Cert.AdamwRefIdeal.τ).loc Cert.AdamwRefIdeal.main_v26) = v1 c
          ∧ r.2.mem ((c.tc : Thread Cert.AdamwRefIdeal.nD Cert.AdamwRefIdeal.τ).loc Cert.AdamwRefIdeal.main_v27) = v2 c
          ∧ r.2.mem ((c.tc : Thread Cert.AdamwRefIdeal.nD Cert.AdamwRefIdeal.τ).loc Cert.AdamwRefIdeal.main_v28) = v3 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dhn_DhnIdeal : Prop :=
  True

def algebraic_DhnIdeal_DhnRefIdeal [hDhnIdeal : Cert.DhnIdeal.Facts] [hDhnRefIdeal : Cert.DhnRefIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnRefIdeal.nD Cert.DhnRefIdeal.τ Cert.DhnRefIdeal.sig) → Buf (Elt Ideal) ℓ) (g' : Dev Cert.DhnRefIdeal.nD → PrngReg), Pre_DhnIdeal m →
    (∀ c : Dev Cert.DhnIdeal.nD,
      m' ((c.tc : Thread Cert.DhnRefIdeal.nD Cert.DhnRefIdeal.τ).loc Cert.DhnRefIdeal.main_arg0) = m ((c.tc : Thread Cert.DhnIdeal.nD Cert.DhnIdeal.τ).loc Cert.DhnIdeal.main_arg0)
      ∧ m' ((c.tc : Thread Cert.DhnRefIdeal.nD Cert.DhnRefIdeal.τ).loc Cert.DhnRefIdeal.main_arg1) = m ((c.tc : Thread Cert.DhnIdeal.nD Cert.DhnIdeal.τ).loc Cert.DhnIdeal.main_arg1)) →
    ∃ (v0 : (c : Dev Cert.DhnIdeal.nD) → Buf (Elt Ideal) ((c.tc : Thread Cert.DhnIdeal.nD Cert.DhnIdeal.τ).loc Cert.DhnIdeal.main_v2)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v2) = v0 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1))
      ∧ θ_run (Cert.DhnRefIdeal.defs (F := Ideal)) (onTc (τ := Cert.DhnRefIdeal.τ) (Cert.DhnRefIdeal.main (F := Ideal))) ⟨m', fun _ => 0, g'⟩ (fun r => ∀ c : Dev Cert.DhnRefIdeal.nD,
          r.2.mem ((c.tc : Thread Cert.DhnRefIdeal.nD Cert.DhnRefIdeal.τ).loc Cert.DhnRefIdeal.main_v9) = v0 c
          ∧ r.2.mem ((c.tc : Thread Cert.DhnRefIdeal.nD Cert.DhnRefIdeal.τ).loc Cert.DhnRefIdeal.main_arg0) = m' ((c.tc : Thread Cert.DhnRefIdeal.nD Cert.DhnRefIdeal.τ).loc Cert.DhnRefIdeal.main_arg0)
          ∧ r.2.mem ((c.tc : Thread Cert.DhnRefIdeal.nD Cert.DhnRefIdeal.τ).loc Cert.DhnRefIdeal.main_arg1) = m' ((c.tc : Thread Cert.DhnRefIdeal.nD Cert.DhnRefIdeal.τ).loc Cert.DhnRefIdeal.main_arg1))

def preserves_Dwgu_DwguIdeal : Prop :=
  True

def algebraic_DwguIdeal_DwguRefIdeal [hDwguIdeal : Cert.DwguIdeal.Facts] [hDwguRefIdeal : Cert.DwguRefIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguRefIdeal.nD Cert.DwguRefIdeal.τ Cert.DwguRefIdeal.sig) → Buf (Elt Ideal) ℓ) (g' : Dev Cert.DwguRefIdeal.nD → PrngReg), Pre_DwguIdeal m →
    (∀ c : Dev Cert.DwguIdeal.nD,
      m' ((c.tc : Thread Cert.DwguRefIdeal.nD Cert.DwguRefIdeal.τ).loc Cert.DwguRefIdeal.main_arg0) = m ((c.tc : Thread Cert.DwguIdeal.nD Cert.DwguIdeal.τ).loc Cert.DwguIdeal.main_arg0)
      ∧ m' ((c.tc : Thread Cert.DwguRefIdeal.nD Cert.DwguRefIdeal.τ).loc Cert.DwguRefIdeal.main_arg1) = m ((c.tc : Thread Cert.DwguIdeal.nD Cert.DwguIdeal.τ).loc Cert.DwguIdeal.main_arg1)) →
    ∃ (v0 : (c : Dev Cert.DwguIdeal.nD) → Buf (Elt Ideal) ((c.tc : Thread Cert.DwguIdeal.nD Cert.DwguIdeal.τ).loc Cert.DwguIdeal.main_v0)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v0) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v11) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1))

def Claim : Prop :=
  ∃ (hNormBwd : Cert.NormBwd.Facts) (hNormBwdIdeal : Cert.NormBwdIdeal.Facts) (hNormRefIdeal : Cert.NormRefIdeal.Facts) (hAttnBwd : Cert.AttnBwd.Facts) (hAttnBwdIdeal : Cert.AttnBwdIdeal.Facts) (hAttnRefIdeal : Cert.AttnRefIdeal.Facts) (hLossHead : Cert.LossHead.Facts) (hLossHeadIdeal : Cert.LossHeadIdeal.Facts) (hLossRefIdeal : Cert.LossRefIdeal.Facts) (hPrepBwd : Cert.PrepBwd.Facts) (hPrepBwdIdeal : Cert.PrepBwdIdeal.Facts) (hPrepRefIdeal : Cert.PrepRefIdeal.Facts) (hFfnUp : Cert.FfnUp.Facts) (hFfnUpIdeal : Cert.FfnUpIdeal.Facts) (hFfnUpRefIdeal : Cert.FfnUpRefIdeal.Facts) (hFfnDact : Cert.FfnDact.Facts) (hFfnDactIdeal : Cert.FfnDactIdeal.Facts) (hFfnDactRefIdeal : Cert.FfnDactRefIdeal.Facts) (hAttnFwd : Cert.AttnFwd.Facts) (hAttnFwdIdeal : Cert.AttnFwdIdeal.Facts) (hAttendRefIdeal : Cert.AttendRefIdeal.Facts) (hNormFwd : Cert.NormFwd.Facts) (hNormFwdIdeal : Cert.NormFwdIdeal.Facts) (hNormFwdRefIdeal : Cert.NormFwdRefIdeal.Facts) (hPrepFwd : Cert.PrepFwd.Facts) (hPrepFwdIdeal : Cert.PrepFwdIdeal.Facts) (hPrepFwdRefIdeal : Cert.PrepFwdRefIdeal.Facts) (hAdamw : Cert.Adamw.Facts) (hAdamwIdeal : Cert.AdamwIdeal.Facts) (hAdamwRefIdeal : Cert.AdamwRefIdeal.Facts) (hDown : Cert.Down.Facts) (hDownIdeal : Cert.DownIdeal.Facts) (hDownRefIdeal : Cert.DownRefIdeal.Facts) (hDhn : Cert.Dhn.Facts) (hDhnIdeal : Cert.DhnIdeal.Facts) (hDhnRefIdeal : Cert.DhnRefIdeal.Facts) (hDwgu : Cert.Dwgu.Facts) (hDwguIdeal : Cert.DwguIdeal.Facts) (hDwguRefIdeal : Cert.DwguRefIdeal.Facts) (hPre_finite_norm : Cert.Pre_finite_norm.Facts) (hPre_finite_attn : Cert.Pre_finite_attn.Facts) (hPre_finite_loss : Cert.Pre_finite_loss.Facts) (hPre_finite_prep : Cert.Pre_finite_prep.Facts) (hPre_finite_up : Cert.Pre_finite_up.Facts) (hPre_finite_dact : Cert.Pre_finite_dact.Facts) (hPre_finite_attend : Cert.Pre_finite_attend.Facts),
    quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_PrepBwd (hPrepBwd := hPrepBwd)
    ∧ quiescent_PrepBwdIdeal (hPrepBwdIdeal := hPrepBwdIdeal)
    ∧ quiescent_PrepBwdIdeal_pre_finite_prep (hPrepBwdIdeal := hPrepBwdIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ quiescent_FfnUp (hFfnUp := hFfnUp)
    ∧ quiescent_FfnUpIdeal (hFfnUpIdeal := hFfnUpIdeal)
    ∧ quiescent_FfnUpIdeal_pre_finite_up (hFfnUpIdeal := hFfnUpIdeal) (hPre_finite_up := hPre_finite_up)
    ∧ quiescent_FfnUpRefIdeal (hFfnUpRefIdeal := hFfnUpRefIdeal)
    ∧ quiescent_FfnUpRefIdeal_pre_finite_up (hFfnUpRefIdeal := hFfnUpRefIdeal) (hPre_finite_up := hPre_finite_up)
    ∧ quiescent_FfnDact (hFfnDact := hFfnDact)
    ∧ quiescent_FfnDactIdeal (hFfnDactIdeal := hFfnDactIdeal)
    ∧ quiescent_FfnDactIdeal_pre_finite_dact (hFfnDactIdeal := hFfnDactIdeal) (hPre_finite_dact := hPre_finite_dact)
    ∧ quiescent_FfnDactRefIdeal (hFfnDactRefIdeal := hFfnDactRefIdeal)
    ∧ quiescent_FfnDactRefIdeal_pre_finite_dact (hFfnDactRefIdeal := hFfnDactRefIdeal) (hPre_finite_dact := hPre_finite_dact)
    ∧ quiescent_AttnFwd (hAttnFwd := hAttnFwd)
    ∧ quiescent_AttnFwdIdeal (hAttnFwdIdeal := hAttnFwdIdeal)
    ∧ quiescent_AttnFwdIdeal_pre_finite_attend (hAttnFwdIdeal := hAttnFwdIdeal) (hPre_finite_attend := hPre_finite_attend)
    ∧ quiescent_AttendRefIdeal (hAttendRefIdeal := hAttendRefIdeal)
    ∧ quiescent_AttendRefIdeal_pre_finite_attend (hAttendRefIdeal := hAttendRefIdeal) (hPre_finite_attend := hPre_finite_attend)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_PrepFwd (hPrepFwd := hPrepFwd)
    ∧ quiescent_PrepFwdIdeal (hPrepFwdIdeal := hPrepFwdIdeal)
    ∧ quiescent_PrepFwdRefIdeal (hPrepFwdRefIdeal := hPrepFwdRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Down (hDown := hDown)
    ∧ quiescent_DownIdeal (hDownIdeal := hDownIdeal)
    ∧ quiescent_DownRefIdeal (hDownRefIdeal := hDownRefIdeal)
    ∧ quiescent_Dhn (hDhn := hDhn)
    ∧ quiescent_DhnIdeal (hDhnIdeal := hDhnIdeal)
    ∧ quiescent_DhnRefIdeal (hDhnRefIdeal := hDhnRefIdeal)
    ∧ quiescent_Dwgu (hDwgu := hDwgu)
    ∧ quiescent_DwguIdeal (hDwguIdeal := hDwguIdeal)
    ∧ quiescent_DwguRefIdeal (hDwguRefIdeal := hDwguRefIdeal)
    ∧ preserves_NormBwd_NormBwdIdeal
    ∧ algebraic_NormBwdIdeal_NormRefIdeal_pre_finite_norm (hNormBwdIdeal := hNormBwdIdeal) (hNormRefIdeal := hNormRefIdeal) (hPre_finite_norm := hPre_finite_norm)
    ∧ preserves_AttnBwd_AttnBwdIdeal
    ∧ algebraic_AttnBwdIdeal_AttnRefIdeal_pre_finite_attn (hAttnBwdIdeal := hAttnBwdIdeal) (hAttnRefIdeal := hAttnRefIdeal) (hPre_finite_attn := hPre_finite_attn)
    ∧ preserves_LossHead_LossHeadIdeal
    ∧ algebraic_LossHeadIdeal_LossRefIdeal_pre_finite_loss (hLossHeadIdeal := hLossHeadIdeal) (hLossRefIdeal := hLossRefIdeal) (hPre_finite_loss := hPre_finite_loss)
    ∧ preserves_PrepBwd_PrepBwdIdeal
    ∧ algebraic_PrepBwdIdeal_PrepRefIdeal_pre_finite_prep (hPrepBwdIdeal := hPrepBwdIdeal) (hPrepRefIdeal := hPrepRefIdeal) (hPre_finite_prep := hPre_finite_prep)
    ∧ preserves_FfnUp_FfnUpIdeal
    ∧ algebraic_FfnUpIdeal_FfnUpRefIdeal_pre_finite_up (hFfnUpIdeal := hFfnUpIdeal) (hFfnUpRefIdeal := hFfnUpRefIdeal) (hPre_finite_up := hPre_finite_up)
    ∧ preserves_FfnDact_FfnDactIdeal
    ∧ algebraic_FfnDactIdeal_FfnDactRefIdeal_pre_finite_dact (hFfnDactIdeal := hFfnDactIdeal) (hFfnDactRefIdeal := hFfnDactRefIdeal) (hPre_finite_dact := hPre_finite_dact)
    ∧ preserves_AttnFwd_AttnFwdIdeal
    ∧ algebraic_AttnFwdIdeal_AttendRefIdeal_pre_finite_attend (hAttnFwdIdeal := hAttnFwdIdeal) (hAttendRefIdeal := hAttendRefIdeal) (hPre_finite_attend := hPre_finite_attend)
    ∧ preserves_NormFwd_NormFwdIdeal
    ∧ algebraic_NormFwdIdeal_NormFwdRefIdeal (hNormFwdIdeal := hNormFwdIdeal) (hNormFwdRefIdeal := hNormFwdRefIdeal)
    ∧ preserves_PrepFwd_PrepFwdIdeal
    ∧ algebraic_PrepFwdIdeal_PrepFwdRefIdeal (hPrepFwdIdeal := hPrepFwdIdeal) (hPrepFwdRefIdeal := hPrepFwdRefIdeal)
    ∧ preserves_Adamw_AdamwIdeal
    ∧ algebraic_AdamwIdeal_AdamwRefIdeal (hAdamwIdeal := hAdamwIdeal) (hAdamwRefIdeal := hAdamwRefIdeal)
    ∧ preserves_Down_DownIdeal
    ∧ algebraic_DownIdeal_DownRefIdeal (hDownIdeal := hDownIdeal) (hDownRefIdeal := hDownRefIdeal)
    ∧ preserves_Dhn_DhnIdeal
    ∧ algebraic_DhnIdeal_DhnRefIdeal (hDhnIdeal := hDhnIdeal) (hDhnRefIdeal := hDhnRefIdeal)
    ∧ preserves_Dwgu_DwguIdeal
    ∧ algebraic_DwguIdeal_DwguRefIdeal (hDwguIdeal := hDwguIdeal) (hDwguRefIdeal := hDwguRefIdeal)
-- ==== Pre_finite_attend.lean ====
abbrev S4112x16x192 : Shape := ⟨3, ![4112, 16, 192]⟩
abbrev S4112x16x256 : Shape := ⟨3, ![4112, 16, 256]⟩
abbrev S4112x64 : Shape := ⟨2, ![4112, 64]⟩
abbrev S4112x32 : Shape := ⟨2, ![4112, 32]⟩
abbrev S_ : Shape := ⟨0, ![]⟩

class Facts : Prop where
  bcast_S_S4112x16x192 : S_.BroadcastsInDim S4112x16x192 (![] : Fin 0 → Fin S4112x16x192.rank)
  reducesTo_S4112x16x192_S_d0_1_2 : S4112x16x192.ReducesTo [0, 1, 2] S_
  h_S_ : 0 < S_.numel
  bcast_S_S4112x16x256 : S_.BroadcastsInDim S4112x16x256 (![] : Fin 0 → Fin S4112x16x256.rank)
  reducesTo_S4112x16x256_S_d0_1_2 : S4112x16x256.ReducesTo [0, 1, 2] S_
  bcast_S_S4112x64 : S_.BroadcastsInDim S4112x64 (![] : Fin 0 → Fin S4112x64.rank)
  reducesTo_S4112x64_S_d0_1 : S4112x64.ReducesTo [0, 1] S_
  bcast_S_S4112x32 : S_.BroadcastsInDim S4112x32 (![] : Fin 0 → Fin S4112x32.rank)
  reducesTo_S4112x32_S_d0_1 : S4112x32.ReducesTo [0, 1] S_

variable [Facts]

def fn_part1 {F : FTy → Type} [FloatOps F] (main_arg4 : FVec F S4112x32 .f32) (main_v13 : IVec S_ 1) (main_v16 : IVec S4112x32 1) : IVec S_ 1 :=
  let main_c_5 : IVec S_ 1 := constantI S_ 1 1#1
  let main_v17 : IVec S_ 1 := (fun x v => Host.reduce IntOp.andi x v reducesTo_S4112x32_S_d0_1 h_S_) main_v16 main_c_5
  let main_v18 : IVec S_ 1 := andi main_v13 main_v17
  let main_v19 : FVec F S4112x32 .f32 := Host.absf main_arg4
  let main_cst_6 : FVec F S_ .f32 := constant S_ .f32 0x7F800000#32
  let main_v20 : FVec F S4112x32 .f32 := broadcastInDim S4112x32 ![] bcast_S_S4112x32 main_cst_6
  let main_v21 : IVec S4112x32 1 := cmpf .olt main_v19 main_v20
  let main_c_7 : IVec S_ 1 := constantI S_ 1 1#1
  let main_v22 : IVec S_ 1 := (fun x v => Host.reduce IntOp.andi x v reducesTo_S4112x32_S_d0_1 h_S_) main_v21 main_c_7
  let main_v23 : IVec S_ 1 := andi main_v18 main_v22
  main_v23

def fn {F : FTy → Type} [FloatOps F] (main_arg0 : FVec F S4112x16x192 .f32) (main_arg1 : FVec F S4112x16x256 .f32) (main_arg2 : FVec F S4112x64 .f32) (main_arg3 : FVec F S4112x32 .f32) (main_arg4 : FVec F S4112x32 .f32) : IVec S_ 1 :=
  let main_v0 : FVec F S4112x16x192 .f32 := Host.absf main_arg0
  let main_cst : FVec F S_ .f32 := constant S_ .f32 0x7F800000#32
  let main_v1 : FVec F S4112x16x192 .f32 := broadcastInDim S4112x16x192 ![] bcast_S_S4112x16x192 main_cst
  let main_v2 : IVec S4112x16x192 1 := cmpf .olt main_v0 main_v1
  let main_c : IVec S_ 1 := constantI S_ 1 1#1
  let main_v3 : IVec S_ 1 := (fun x v => Host.reduce IntOp.andi x v reducesTo_S4112x16x192_S_d0_1_2 h_S_) main_v2 main_c
  let main_v4 : FVec F S4112x16x256 .f32 := Host.absf main_arg1
  let main_cst_0 : FVec F S_ .f32 := constant S_ .f32 0x7F800000#32
  let main_v5 : FVec F S4112x16x256 .f32 := broadcastInDim S4112x16x256 ![] bcast_S_S4112x16x256 main_cst_0
  let main_v6 : IVec S4112x16x256 1 := cmpf .olt main_v4 main_v5
  let main_c_1 : IVec S_ 1 := constantI S_ 1 1#1
  let main_v7 : IVec S_ 1 := (fun x v => Host.reduce IntOp.andi x v reducesTo_S4112x16x256_S_d0_1_2 h_S_) main_v6 main_c_1
  let main_v8 : IVec S_ 1 := andi main_v3 main_v7
  let main_v9 : FVec F S4112x64 .f32 := Host.absf main_arg2
  let main_cst_2 : FVec F S_ .f32 := constant S_ .f32 0x7F800000#32
  let main_v10 : FVec F S4112x64 .f32 := broadcastInDim S4112x64 ![] bcast_S_S4112x64 main_cst_2
  let main_v11 : IVec S4112x64 1 := cmpf .olt main_v9 main_v10
  let main_c_3 : IVec S_ 1 := constantI S_ 1 1#1
  let main_v12 : IVec S_ 1 := (fun x v => Host.reduce IntOp.andi x v reducesTo_S4112x64_S_d0_1 h_S_) main_v11 main_c_3
  let main_v13 : IVec S_ 1 := andi main_v8 main_v12
  let main_v14 : FVec F S4112x32 .f32 := Host.absf main_arg3
  let main_cst_4 : FVec F S_ .f32 := constant S_ .f32 0x7F800000#32
  let main_v15 : FVec F S4112x32 .f32 := broadcastInDim S4112x32 ![] bcast_S_S4112x32 main_cst_4
  let main_v16 : IVec S4112x32 1 := cmpf .olt main_v14 main_v15
  fn_part1 (F := F) main_arg4 main_v13 main_v16
-- ==== Pre_finite_attn.lean ====
abbrev S4112x16x192 : Shape := ⟨3, ![4112, 16, 192]⟩
abbrev S4112x16x256 : Shape := ⟨3, ![4112, 16, 256]⟩
abbrev S4112x64 : Shape := ⟨2, ![4112, 64]⟩
abbrev S4112x32 : Shape := ⟨2, ![4112, 32]⟩
abbrev S4112x2048 : Shape := ⟨2, ![4112, 2048]⟩
abbrev S_ : Shape := ⟨0, ![]⟩

class Facts : Prop where
  bcast_S_S4112x16x192 : S_.BroadcastsInDim S4112x16x192 (![] : Fin 0 → Fin S4112x16x192.rank)
  reducesTo_S4112x16x192_S_d0_1_2 : S4112x16x192.ReducesTo [0, 1, 2] S_
  h_S_ : 0 < S_.numel
  bcast_S_S4112x16x256 : S_.BroadcastsInDim S4112x16x256 (![] : Fin 0 → Fin S4112x16x256.rank)
  reducesTo_S4112x16x256_S_d0_1_2 : S4112x16x256.ReducesTo [0, 1, 2] S_
  bcast_S_S4112x64 : S_.BroadcastsInDim S4112x64 (![] : Fin 0 → Fin S4112x64.rank)
  reducesTo_S4112x64_S_d0_1 : S4112x64.ReducesTo [0, 1] S_
  bcast_S_S4112x32 : S_.BroadcastsInDim S4112x32 (![] : Fin 0 → Fin S4112x32.rank)
  reducesTo_S4112x32_S_d0_1 : S4112x32.ReducesTo [0, 1] S_
  bcast_S_S4112x2048 : S_.BroadcastsInDim S4112x2048 (![] : Fin 0 → Fin S4112x2048.rank)
  reducesTo_S4112x2048_S_d0_1 : S4112x2048.ReducesTo [0, 1] S_

variable [Facts]

def fn_part1 {F : FTy → Type} [FloatOps F] (main_arg4 : FVec F S4112x32 .f32) (main_arg5 : FVec F S4112x2048 .f32) (main_v13 : IVec S_ 1) (main_v16 : IVec S4112x32 1) : IVec S_ 1 :=
  let main_c_5 : IVec S_ 1 := constantI S_ 1 1#1
  let main_v17 : IVec S_ 1 := (fun x v => Host.reduce IntOp.andi x v reducesTo_S4112x32_S_d0_1 h_S_) main_v16 main_c_5
  let main_v18 : IVec S_ 1 := andi main_v13 main_v17
  let main_v19 : FVec F S4112x32 .f32 := Host.absf main_arg4
  let main_cst_6 : FVec F S_ .f32 := constant S_ .f32 0x7F800000#32
  let main_v20 : FVec F S4112x32 .f32 := broadcastInDim S4112x32 ![] bcast_S_S4112x32 main_cst_6
  let main_v21 : IVec S4112x32 1 := cmpf .olt main_v19 main_v20
  let main_c_7 : IVec S_ 1 := constantI S_ 1 1#1
  let main_v22 : IVec S_ 1 := (fun x v => Host.reduce IntOp.andi x v reducesTo_S4112x32_S_d0_1 h_S_) main_v21 main_c_7
  let main_v23 : IVec S_ 1 := andi main_v18 main_v22
  let main_v24 : FVec F S4112x2048 .f32 := Host.absf main_arg5
  let main_cst_8 : FVec F S_ .f32 := constant S_ .f32 0x7F800000#32
  let main_v25 : FVec F S4112x2048 .f32 := broadcastInDim S4112x2048 ![] bcast_S_S4112x2048 main_cst_8
  let main_v26 : IVec S4112x2048 1 := cmpf .olt main_v24 main_v25
  let main_c_9 : IVec S_ 1 := constantI S_ 1 1#1
  let main_v27 : IVec S_ 1 := (fun x v => Host.reduce IntOp.andi x v reducesTo_S4112x2048_S_d0_1 h_S_) main_v26 main_c_9
  let main_v28 : IVec S_ 1 := andi main_v23 main_v27
  main_v28

def fn {F : FTy → Type} [FloatOps F] (main_arg0 : FVec F S4112x16x192 .f32) (main_arg1 : FVec F S4112x16x256 .f32) (main_arg2 : FVec F S4112x64 .f32) (main_arg3 : FVec F S4112x32 .f32) (main_arg4 : FVec F S4112x32 .f32) (main_arg5 : FVec F S4112x2048 .f32) : IVec S_ 1 :=
  let main_v0 : FVec F S4112x16x192 .f32 := Host.absf main_arg0
  let main_cst : FVec F S_ .f32 := constant S_ .f32 0x7F800000#32
  let main_v1 : FVec F S4112x16x192 .f32 := broadcastInDim S4112x16x192 ![] bcast_S_S4112x16x192 main_cst
  let main_v2 : IVec S4112x16x192 1 := cmpf .olt main_v0 main_v1
  let main_c : IVec S_ 1 := constantI S_ 1 1#1
  let main_v3 : IVec S_ 1 := (fun x v => Host.reduce IntOp.andi x v reducesTo_S4112x16x192_S_d0_1_2 h_S_) main_v2 main_c
  let main_v4 : FVec F S4112x16x256 .f32 := Host.absf main_arg1
  let main_cst_0 : FVec F S_ .f32 := constant S_ .f32 0x7F800000#32
  let main_v5 : FVec F S4112x16x256 .f32 := broadcastInDim S4112x16x256 ![] bcast_S_S4112x16x256 main_cst_0
  let main_v6 : IVec S4112x16x256 1 := cmpf .olt main_v4 main_v5
  let main_c_1 : IVec S_ 1 := constantI S_ 1 1#1
  let main_v7 : IVec S_ 1 := (fun x v => Host.reduce IntOp.andi x v reducesTo_S4112x16x256_S_d0_1_2 h_S_) main_v6 main_c_1
  let main_v8 : IVec S_ 1 := andi main_v3 main_v7
  let main_v9 : FVec F S4112x64 .f32 := Host.absf main_arg2
  let main_cst_2 : FVec F S_ .f32 := constant S_ .f32 0x7F800000#32
  let main_v10 : FVec F S4112x64 .f32 := broadcastInDim S4112x64 ![] bcast_S_S4112x64 main_cst_2
  let main_v11 : IVec S4112x64 1 := cmpf .olt main_v9 main_v10
  let main_c_3 : IVec S_ 1 := constantI S_ 1 1#1
  let main_v12 : IVec S_ 1 := (fun x v => Host.reduce IntOp.andi x v reducesTo_S4112x64_S_d0_1 h_S_) main_v11 main_c_3
  let main_v13 : IVec S_ 1 := andi main_v8 main_v12
  let main_v14 : FVec F S4112x32 .f32 := Host.absf main_arg3
  let main_cst_4 : FVec F S_ .f32 := constant S_ .f32 0x7F800000#32
  let main_v15 : FVec F S4112x32 .f32 := broadcastInDim S4112x32 ![] bcast_S_S4112x32 main_cst_4
  let main_v16 : IVec S4112x32 1 := cmpf .olt main_v14 main_v15
  fn_part1 (F := F) main_arg4 main_arg5 main_v13 main_v16
-- ==== Pre_finite_dact.lean ====
abbrev S4112x2048 : Shape := ⟨2, ![4112, 2048]⟩
abbrev S2048x11264 : Shape := ⟨2, ![2048, 11264]⟩
abbrev S5632x2048 : Shape := ⟨2, ![5632, 2048]⟩
abbrev S_ : Shape := ⟨0, ![]⟩

class Facts : Prop where
  bcast_S_S4112x2048 : S_.BroadcastsInDim S4112x2048 (![] : Fin 0 → Fin S4112x2048.rank)
  reducesTo_S4112x2048_S_d0_1 : S4112x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_v13 : IVec S_ 1) (main_v16 : IVec S4112x2048 1) : IVec S_ 1 :=
  let main_c_5 : IVec S_ 1 := constantI S_ 1 1#1
  let main_v17 : IVec S_ 1 := (fun x v => Host.reduce IntOp.andi x v reducesTo_S4112x2048_S_d0_1 h_S_) main_v16 main_c_5
  let main_v18 : IVec S_ 1 := andi main_v13 main_v17
  main_v18

def fn {F : FTy → Type} [FloatOps F] (main_arg0 : FVec F S4112x2048 .f32) (main_arg1 : FVec F S2048x11264 .f32) (main_arg2 : FVec F S5632x2048 .f32) (main_arg3 : FVec F S4112x2048 .f32) : IVec S_ 1 :=
  let main_v0 : FVec F S4112x2048 .f32 := Host.absf main_arg0
  let main_cst : FVec F S_ .f32 := constant S_ .f32 0x7F800000#32
  let main_v1 : FVec F S4112x2048 .f32 := broadcastInDim S4112x2048 ![] bcast_S_S4112x2048 main_cst
  let main_v2 : IVec S4112x2048 1 := cmpf .olt main_v0 main_v1
  let main_c : IVec S_ 1 := constantI S_ 1 1#1
  let main_v3 : IVec S_ 1 := (fun x v => Host.reduce IntOp.andi x v reducesTo_S4112x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  let main_v14 : FVec F S4112x2048 .f32 := Host.absf main_arg3
  let main_cst_4 : FVec F S_ .f32 := constant S_ .f32 0x7F800000#32
  let main_v15 : FVec F S4112x2048 .f32 := broadcastInDim S4112x2048 ![] bcast_S_S4112x2048 main_cst_4
  let main_v16 : IVec S4112x2048 1 := cmpf .olt main_v14 main_v15
  fn_part1 (F := F) main_v13 main_v16
-- ==== Pre_finite_loss.lean ====
abbrev S4112x2048 : Shape := ⟨2, ![4112, 2048]⟩
abbrev S2048 : Shape := ⟨1, ![2048]⟩
abbrev S4096x2048 : Shape := ⟨2, ![4096, 2048]⟩
abbrev S_ : Shape := ⟨0, ![]⟩

class Facts : Prop where
  bcast_S_S4112x2048 : S_.BroadcastsInDim S4112x2048 (![] : Fin 0 → Fin S4112x2048.rank)
  reducesTo_S4112x2048_S_d0_1 : S4112x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4112x2048 .f32) (main_arg1 : FVec F S2048 .f32) (main_arg2 : FVec F S4096x2048 .f32) : IVec S_ 1 :=
  let main_v0 : FVec F S4112x2048 .f32 := Host.absf main_arg0
  let main_cst : FVec F S_ .f32 := constant S_ .f32 0x7F800000#32
  let main_v1 : FVec F S4112x2048 .f32 := broadcastInDim S4112x2048 ![] bcast_S_S4112x2048 main_cst
  let main_v2 : IVec S4112x2048 1 := cmpf .olt main_v0 main_v1
  let main_c : IVec S_ 1 := constantI S_ 1 1#1
  let main_v3 : IVec S_ 1 := (fun x v => Host.reduce IntOp.andi x v reducesTo_S4112x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Pre_finite_norm.lean ====
abbrev S4112x2048 : Shape := ⟨2, ![4112, 2048]⟩
abbrev S2048 : Shape := ⟨1, ![2048]⟩
abbrev S_ : Shape := ⟨0, ![]⟩

class Facts : Prop where
  bcast_S_S4112x2048 : S_.BroadcastsInDim S4112x2048 (![] : Fin 0 → Fin S4112x2048.rank)
  reducesTo_S4112x2048_S_d0_1 : S4112x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S4112x2048 .f32) (main_arg1 : FVec F S2048 .f32) (main_arg2 : FVec F S4112x2048 .f32) (main_arg3 : FVec F S4112x2048 .f32) : IVec S_ 1 :=
  let main_v0 : FVec F S4112x2048 .f32 := Host.absf main_arg0
  let main_cst : FVec F S_ .f32 := constant S_ .f32 0x7F800000#32
  let main_v1 : FVec F S4112x2048 .f32 := broadcastInDim S4112x2048 ![] bcast_S_S4112x2048 main_cst
  let main_v2 : IVec S4112x2048 1 := cmpf .olt main_v0 main_v1
  let main_c : IVec S_ 1 := constantI S_ 1 1#1
  let main_v3 : IVec S_ 1 := (fun x v => Host.reduce IntOp.andi x v reducesTo_S4112x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4112x2048 .f32 := Host.absf main_arg2
  let main_cst_2 : FVec F S_ .f32 := constant S_ .f32 0x7F800000#32
  let main_v10 : FVec F S4112x2048 .f32 := broadcastInDim S4112x2048 ![] bcast_S_S4112x2048 main_cst_2
  let main_v11 : IVec S4112x2048 1 := cmpf .olt main_v9 main_v10
  let main_c_3 : IVec S_ 1 := constantI S_ 1 1#1
  let main_v12 : IVec S_ 1 := (fun x v => Host.reduce IntOp.andi x v reducesTo_S4112x2048_S_d0_1 h_S_) main_v11 main_c_3
  let main_v13 : IVec S_ 1 := andi main_v8 main_v12
  main_v13
-- ==== Pre_finite_prep.lean ====
abbrev S4112x1088 : Shape := ⟨2, ![4112, 1088]⟩
abbrev S512 : Shape := ⟨1, ![512]⟩
abbrev S4112x32 : Shape := ⟨2, ![4112, 32]⟩
abbrev S4112x512 : Shape := ⟨2, ![4112, 512]⟩
abbrev S16x4112x64 : Shape := ⟨3, ![16, 4112, 64]⟩
abbrev S_ : Shape := ⟨0, ![]⟩

class Facts : Prop where
  bcast_S_S4112x1088 : S_.BroadcastsInDim S4112x1088 (![] : Fin 0 → Fin S4112x1088.rank)
  reducesTo_S4112x1088_S_d0_1 : S4112x1088.ReducesTo [0, 1] S_
  h_S_ : 0 < S_.numel
  bcast_S_S512 : S_.BroadcastsInDim S512 (![] : Fin 0 → Fin S512.rank)
  reducesTo_S512_S_d0 : S512.ReducesTo [0] S_
  bcast_S_S4112x32 : S_.BroadcastsInDim S4112x32 (![] : Fin 0 → Fin S4112x32.rank)
  reducesTo_S4112x32_S_d0_1 : S4112x32.ReducesTo [0, 1] S_
  bcast_S_S4112x512 : S_.BroadcastsInDim S4112x512 (![] : Fin 0 → Fin S4112x512.rank)
  reducesTo_S4112x512_S_d0_1 : S4112x512.ReducesTo [0, 1] S_
  bcast_S_S16x4112x64 : S_.BroadcastsInDim S16x4112x64 (![] : Fin 0 → Fin S16x4112x64.rank)
  reducesTo_S16x4112x64_S_d0_1_2 : S16x4112x64.ReducesTo [0, 1, 2] S_

variable [Facts]

def fn_part2 {F : FTy → Type} [FloatOps F] (main_arg7 : FVec F S16x4112x64 .f32) (main_v33 : IVec S_ 1) : IVec S_ 1 :=
  let main_v34 : FVec F S16x4112x64 .f32 := Host.absf main_arg7
  let main_cst_12 : FVec F S_ .f32 := constant S_ .f32 0x7F800000#32
  let main_v35 : FVec F S16x4112x64 .f32 := broadcastInDim S16x4112x64 ![] bcast_S_S16x4112x64 main_cst_12
  let main_v36 : IVec S16x4112x64 1 := cmpf .olt main_v34 main_v35
  let main_c_13 : IVec S_ 1 := constantI S_ 1 1#1
  let main_v37 : IVec S_ 1 := (fun x v => Host.reduce IntOp.andi x v reducesTo_S16x4112x64_S_d0_1_2 h_S_) main_v36 main_c_13
  let main_v38 : IVec S_ 1 := andi main_v33 main_v37
  main_v38

def fn_part1 {F : FTy → Type} [FloatOps F] (main_arg4 : FVec F S4112x32 .f32) (main_arg5 : FVec F S4112x512 .f32) (main_arg6 : FVec F S4112x512 .f32) (main_arg7 : FVec F S16x4112x64 .f32) (main_v13 : IVec S_ 1) (main_v16 : IVec S4112x32 1) : IVec S_ 1 :=
  let main_c_5 : IVec S_ 1 := constantI S_ 1 1#1
  let main_v17 : IVec S_ 1 := (fun x v => Host.reduce IntOp.andi x v reducesTo_S4112x32_S_d0_1 h_S_) main_v16 main_c_5
  let main_v18 : IVec S_ 1 := andi main_v13 main_v17
  let main_v19 : FVec F S4112x32 .f32 := Host.absf main_arg4
  let main_cst_6 : FVec F S_ .f32 := constant S_ .f32 0x7F800000#32
  let main_v20 : FVec F S4112x32 .f32 := broadcastInDim S4112x32 ![] bcast_S_S4112x32 main_cst_6
  let main_v21 : IVec S4112x32 1 := cmpf .olt main_v19 main_v20
  let main_c_7 : IVec S_ 1 := constantI S_ 1 1#1
  let main_v22 : IVec S_ 1 := (fun x v => Host.reduce IntOp.andi x v reducesTo_S4112x32_S_d0_1 h_S_) main_v21 main_c_7
  let main_v23 : IVec S_ 1 := andi main_v18 main_v22
  let main_v24 : FVec F S4112x512 .f32 := Host.absf main_arg5
  let main_cst_8 : FVec F S_ .f32 := constant S_ .f32 0x7F800000#32
  let main_v25 : FVec F S4112x512 .f32 := broadcastInDim S4112x512 ![] bcast_S_S4112x512 main_cst_8
  let main_v26 : IVec S4112x512 1 := cmpf .olt main_v24 main_v25
  let main_c_9 : IVec S_ 1 := constantI S_ 1 1#1
  let main_v27 : IVec S_ 1 := (fun x v => Host.reduce IntOp.andi x v reducesTo_S4112x512_S_d0_1 h_S_) main_v26 main_c_9
  let main_v28 : IVec S_ 1 := andi main_v23 main_v27
  let main_v29 : FVec F S4112x512 .f32 := Host.absf main_arg6
  let main_cst_10 : FVec F S_ .f32 := constant S_ .f32 0x7F800000#32
  let main_v30 : FVec F S4112x512 .f32 := broadcastInDim S4112x512 ![] bcast_S_S4112x512 main_cst_10
  let main_v31 : IVec S4112x512 1 := cmpf .olt main_v29 main_v30
  let main_c_11 : IVec S_ 1 := constantI S_ 1 1#1
  let main_v32 : IVec S_ 1 := (fun x v => Host.reduce IntOp.andi x v reducesTo_S4112x512_S_d0_1 h_S_) main_v31 main_c_11
  let main_v33 : IVec S_ 1 := andi main_v28 main_v32
  fn_part2 (F := F) main_arg7 main_v33

def fn {F : FTy → Type} [FloatOps F] (main_arg0 : FVec F S4112x1088 .f32) (main_arg1 : FVec F S512 .f32) (main_arg2 : FVec F S512 .f32) (main_arg3 : FVec F S4112x32 .f32) (main_arg4 : FVec F S4112x32 .f32) (main_arg5 : FVec F S4112x512 .f32) (main_arg6 : FVec F S4112x512 .f32) (main_arg7 : FVec F S16x4112x64 .f32) : IVec S_ 1 :=
  let main_v0 : FVec F S4112x1088 .f32 := Host.absf main_arg0
  let main_cst : FVec F S_ .f32 := constant S_ .f32 0x7F800000#32
  let main_v1 : FVec F S4112x1088 .f32 := broadcastInDim S4112x1088 ![] bcast_S_S4112x1088 main_cst
  let main_v2 : IVec S4112x1088 1 := cmpf .olt main_v0 main_v1
  let main_c : IVec S_ 1 := constantI S_ 1 1#1
  let main_v3 : IVec S_ 1 := (fun x v => Host.reduce IntOp.andi x v reducesTo_S4112x1088_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S4112x32 .f32 := Host.absf main_arg3
  let main_cst_4 : FVec F S_ .f32 := constant S_ .f32 0x7F800000#32
  let main_v15 : FVec F S4112x32 .f32 := broadcastInDim S4112x32 ![] bcast_S_S4112x32 main_cst_4
  let main_v16 : IVec S4112x32 1 := cmpf .olt main_v14 main_v15
  fn_part1 (F := F) main_arg4 main_arg5 main_arg6 main_arg7 main_v13 main_v16
-- ==== Pre_finite_up.lean ====
abbrev S4112x2048 : Shape := ⟨2, ![4112, 2048]⟩
abbrev S2048x11264 : Shape := ⟨2, ![2048, 11264]⟩
abbrev S_ : Shape := ⟨0, ![]⟩

class Facts : Prop where
  bcast_S_S4112x2048 : S_.BroadcastsInDim S4112x2048 (![] : Fin 0 → Fin S4112x2048.rank)
  reducesTo_S4112x2048_S_d0_1 : S4112x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_

variable [Facts]

def fn {F : FTy → Type} [FloatOps F] (main_arg0 : FVec F S4112x2048 .f32) (main_arg1 : FVec F S2048x11264 .f32) : IVec S_ 1 :=
  let main_v0 : FVec F S4112x2048 .f32 := Host.absf main_arg0
  let main_cst : FVec F S_ .f32 := constant S_ .f32 0x7F800000#32
  let main_v1 : FVec F S4112x2048 .f32 := broadcastInDim S4112x2048 ![] bcast_S_S4112x2048 main_cst
  let main_v2 : IVec S4112x2048 1 := cmpf .olt main_v0 main_v1
  let main_c : IVec S_ 1 := constantI S_ 1 1#1
  let main_v3 : IVec S_ 1 := (fun x v => Host.reduce IntOp.andi x v reducesTo_S4112x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  main_v8
-- ==== NormBwd.lean ====
abbrev S4112x2048 : Shape := ⟨2, ![4112, 2048]⟩
abbrev S2048 : Shape := ⟨1, ![2048]⟩
abbrev S_ : Shape := ⟨0, ![]⟩
abbrev S4224x2048 : Shape := ⟨2, ![4224, 2048]⟩
abbrev S1x2048 : Shape := ⟨2, ![1, 2048]⟩
abbrev S384x2048 : Shape := ⟨2, ![384, 2048]⟩
abbrev S384 : Shape := ⟨1, ![384]⟩
abbrev S384x1 : Shape := ⟨2, ![384, 1]⟩

abbrev nBuf : Space → Nat
  | .hbm => 18
  | .vmem => 12
  | .smem => 0
  | _ => 0

abbrev bufTy : (tb : Table) → Fin (tcTables nBuf tb) → BufTy
  | .hbm, ⟨0, _⟩ => ⟨S4112x2048, .f32⟩
  | .hbm, ⟨1, _⟩ => ⟨S2048, .f32⟩
  | .hbm, ⟨2, _⟩ => ⟨S4112x2048, .f32⟩
  | .hbm, ⟨3, _⟩ => ⟨S4112x2048, .f32⟩
  | .hbm, ⟨4, _⟩ => ⟨S_, .i32⟩
  | .hbm, ⟨5, _⟩ => ⟨S_, .f32⟩
  | .hbm, ⟨6, _⟩ => ⟨S4224x2048, .f32⟩
  | .hbm, ⟨7, _⟩ => ⟨S4224x2048, .bf16⟩
  | .hbm, ⟨8, _⟩ => ⟨S_, .i32⟩
  | .hbm, ⟨9, _⟩ => ⟨S_, .f32⟩
  | .hbm, ⟨10, _⟩ => ⟨S4224x2048, .f32⟩
  | .hbm, ⟨11, _⟩ => ⟨S1x2048, .f32⟩
  | .hbm, ⟨12, _⟩ => ⟨S_, .i32⟩
  | .hbm, ⟨13, _⟩ => ⟨S_, .f32⟩
  | .hbm, ⟨14, _⟩ => ⟨S4224x2048, .f32⟩
  | .hbm, ⟨15, _⟩ => ⟨S4224x2048, .f32⟩
  | .hbm, ⟨16, _⟩ => ⟨S4224x2048, .bf16⟩
  | .hbm, ⟨17, _⟩ => ⟨S1x2048, .f32⟩
  | .local _ .vmem, ⟨0, _⟩ => ⟨S384x2048, .bf16⟩
  | .local _ .vmem, ⟨1, _⟩ => ⟨S384x2048, .bf16⟩
  | .local _ .vmem, ⟨2, _⟩ => ⟨S384x2048, .f32⟩
  | .local _ .vmem, ⟨3, _⟩ => ⟨S384x2048, .f32⟩
  | .local _ .vmem, ⟨4, _⟩ => ⟨S1x2048, .f32⟩
  | .local _ .vmem, ⟨5, _⟩ => ⟨S384x2048, .f32⟩
  | .local _ .vmem, ⟨6, _⟩ => ⟨S384x2048, .f32⟩
  | .local _ .vmem, ⟨7, _⟩ => ⟨S384x2048, .f32⟩
  | .local _ .vmem, ⟨8, _⟩ => ⟨S384x2048, .f32⟩
  | .local _ .vmem, ⟨9, _⟩ => ⟨S384x2048, .bf16⟩
  | .local _ .vmem, ⟨10, _⟩ => ⟨S384x2048, .bf16⟩
  | .local _ .vmem, ⟨11, _⟩ => ⟨S1x2048, .f32⟩
  | _, _ => ⟨S4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call2_v0 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_16 : BitVec 32 := 0#32
  let v40 : BitVec 1 := Scalar.cmpi .ne v39 c0_i32_16
  v40

def k0_cond2 (i : grid0.Coords) : BitVec 1 :=
  let arg0 : BitVec 32 := BitVec.ofNat 32 (i 0).val
  let c0_i32_17 : BitVec 32 := 0#32
  let v41 : BitVec 1 := Scalar.cmpi .sgt arg0 c0_i32_17
  let v42 : BitVec 32 := Scalar.extui v41
  let c0_i32_18 : BitVec 32 := 0#32
  let v43 : BitVec 1 := Scalar.cmpi .ne v42 c0_i32_18
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S4112x2048 : Shape := ⟨2, ![4112, 2048]⟩
abbrev S2048 : Shape := ⟨1, ![2048]⟩
abbrev S_ : Shape := ⟨0, ![]⟩
abbrev S4112 : Shape := ⟨1, ![4112]⟩
abbrev S4112x1 : Shape := ⟨2, ![4112, 1]⟩
abbrev S1x2048 : Shape := ⟨2, ![1, 2048]⟩
abbrev S4224x2048 : Shape := ⟨2, ![4224, 2048]⟩

abbrev nBuf : Space → Nat
  | .hbm => 55
  | .vmem => 0
  | .smem => 0
  | _ => 0

abbrev bufTy : (tb : Table) → Fin (tcTables nBuf tb) → BufTy
  | .hbm, ⟨0, _⟩ => ⟨S4112x2048, .f32⟩
  | .hbm, ⟨1, _⟩ => ⟨S2048, .f32⟩
  | .hbm, ⟨2, _⟩ => ⟨S4112x2048, .f32⟩
  | .hbm, ⟨3, _⟩ => ⟨S4112x2048, .f32⟩
  | .hbm, ⟨4, _⟩ => ⟨S4112x2048, .f32⟩
  | .hbm, ⟨5, _⟩ => ⟨S_, .f32⟩
  | .hbm, ⟨6, _⟩ => ⟨S4112, .f32⟩
  | .hbm, ⟨7, _⟩ => ⟨S4112x1, .f32⟩
  | .hbm, ⟨8, _⟩ => ⟨S_, .f32⟩
  | .hbm, ⟨9, _⟩ => ⟨S4112x1, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S4112x2048, .f32⟩
  | .hbm, ⟨20, _⟩ => ⟨S4112x2048, .f32⟩
  | .hbm, ⟨21, _⟩ => ⟨S1x2048, .f32⟩
  | .hbm, ⟨22, _⟩ => ⟨S4112x2048, .f32⟩
  | .hbm, ⟨23, _⟩ => ⟨S4112x2048, .f32⟩
  | .hbm, ⟨24, _⟩ => ⟨S4112x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4112x2048, .f32⟩
  | .hbm, ⟨29, _⟩ => ⟨S4112x2048, .f32⟩
  | .hbm, ⟨30, _⟩ => ⟨S_, .f32⟩
  | .hbm, ⟨31, _⟩ => ⟨S2048, .f32⟩
  | .hbm, ⟨32, _⟩ => ⟨S4112x2048, .f32⟩
  | .hbm, ⟨33, _⟩ => ⟨S_, .f32⟩
  | .hbm, ⟨34, _⟩ => ⟨S4112, .f32⟩
  | .hbm, ⟨35, _⟩ => ⟨S4112x1, .f32⟩
  | .hbm, ⟨36, _⟩ => ⟨S4112x2048, .f32⟩
  | .hbm, ⟨37, _⟩ => ⟨S4112x2048, .f32⟩
  | .hbm, ⟨38, _⟩ => ⟨S4112x2048, .f32⟩
  | .hbm, ⟨39, _⟩ => ⟨S4112x1, .f32⟩
  | .hbm, ⟨40, _⟩ => ⟨S_, .f32⟩
  | .hbm, ⟨41, _⟩ => ⟨S4112x1, .f32⟩
  | .hbm, ⟨42, _⟩ => ⟨S4112x1, .f32⟩
  | .hbm, ⟨43, _⟩ => ⟨S_, .f32⟩
  | .hbm, ⟨44, _⟩ => ⟨S4112, .f32⟩
  | .hbm, ⟨45, _⟩ => ⟨S4112x2048, .f32⟩
  | .hbm, ⟨46, _⟩ => ⟨S4112x2048, .f32⟩
  | .hbm, ⟨47, _⟩ => ⟨S4112x2048, .f32⟩
  | .hbm, ⟨48, _⟩ => ⟨S4112x2048, .f32⟩
  | .hbm, ⟨49, _⟩ => ⟨S4112x2048, .f32⟩
  | .hbm, ⟨50, _⟩ => ⟨S_, .i32⟩
  | .hbm, ⟨51, _⟩ => ⟨S_, .f32⟩
  | .hbm, ⟨52, _⟩ => ⟨S4224x2048, .f32⟩
  | .hbm, ⟨53, _⟩ => ⟨S4224x2048, .bf16⟩
  | .hbm, ⟨54, _⟩ => ⟨S1x2048, .f32⟩
  | _, _ => ⟨S4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c : Ref sig .tc := ⟨.hbm, 50, rfl⟩
abbrev main_call0_v0 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== AttnBwd.lean ====
abbrev S4112x16x192 : Shape := ⟨3, ![4112, 16, 192]⟩
abbrev S4112x16x256 : Shape := ⟨3, ![4112, 16, 256]⟩
abbrev S4112x64 : Shape := ⟨2, ![4112, 64]⟩
abbrev S4112x32 : Shape := ⟨2, ![4112, 32]⟩
abbrev S4112x2048 : Shape := ⟨2, ![4112, 2048]⟩
abbrev S1x4112x64 : Shape := ⟨3, ![1, 4112, 64]⟩
abbrev S16x4112x64 : Shape := ⟨3, ![16, 4112, 64]⟩
abbrev S4112x16x128 : Shape := ⟨3, ![4112, 16, 128]⟩
abbrev S4112x16x64 : Shape := ⟨3, ![4112, 16, 64]⟩
abbrev S4112x1x32 : Shape := ⟨3, ![4112, 1, 32]⟩
abbrev S4112x16x32 : Shape := ⟨3, ![4112, 16, 32]⟩
abbrev S16x4112x4112 : Shape := ⟨3, ![16, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x4112x4112 : Shape := ⟨3, ![1, 4112, 4112]⟩
abbrev S16x4112 : Shape := ⟨2, ![16, 4112]⟩
abbrev S16x4112x1 : Shape := ⟨3, ![16, 4112, 1]⟩
abbrev S16x128x4112 : Shape := ⟨3, ![16, 128, 4112]⟩
abbrev S16x4224x1 : Shape := ⟨3, ![16, 4224, 1]⟩
abbrev S16x4224x128 : Shape := ⟨3, ![16, 4224, 128]⟩
abbrev S4224x16x256 : Shape := ⟨3, ![4224, 16, 256]⟩
abbrev S4224x4096 : Shape := ⟨2, ![4224, 4096]⟩
abbrev S4112x4096 : Shape := ⟨2, ![4112, 4096]⟩
abbrev S4224x128 : Shape := ⟨2, ![4224, 128]⟩
abbrev S1x4112x1x32 : Shape := ⟨4, ![1, 4112, 1, 32]⟩
abbrev S1x4112x4x32 : Shape := ⟨4, ![1, 4112, 4, 32]⟩
abbrev S4112x128 : Shape := ⟨2, ![4112, 128]⟩
abbrev S4224x2048 : Shape := ⟨2, ![4224, 2048]⟩
abbrev S4224x256 : Shape := ⟨2, ![4224, 256]⟩
abbrev S1x4224x128 : Shape := ⟨3, ![1, 4224, 128]⟩
abbrev S512x256 : Shape := ⟨2, ![512, 256]⟩
abbrev S112x256 : Shape := ⟨2, ![112, 256]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x128x1 : Shape := ⟨3, ![1, 128, 1]⟩
abbrev S16x256 : Shape := ⟨2, ![16, 256]⟩
abbrev S16x128 : Shape := ⟨2, ![16, 128]⟩
abbrev S512x128 : Shape := ⟨2, ![512, 128]⟩
abbrev S1x512x1 : Shape := ⟨3, ![1, 512, 1]⟩
abbrev S512x1 : Shape := ⟨2, ![512, 1]⟩
abbrev S512 : Shape := ⟨1, ![512]⟩
abbrev S512x512 : Shape := ⟨2, ![512, 512]⟩
abbrev S640x256 : Shape := ⟨2, ![640, 256]⟩
abbrev S640x128 : Shape := ⟨2, ![640, 128]⟩
abbrev S512x640 : Shape := ⟨2, ![512, 640]⟩
abbrev S1024x256 : Shape := ⟨2, ![1024, 256]⟩
abbrev S1024x128 : Shape := ⟨2, ![1024, 128]⟩
abbrev S512x1024 : Shape := ⟨2, ![512, 1024]⟩

abbrev nBuf : Space → Nat
  | .hbm => 163
  | .vmem => 23
  | .smem => 0
  | _ => 0

abbrev hbmTy0_0 (i : Nat) : BufTy := match i % 128 with
  | 0 => ⟨S4112x16x192, .f32⟩
  | 1 => ⟨S4112x16x256, .f32⟩
  | 2 => ⟨S4112x64, .f32⟩
  | 3 => ⟨S4112x32, .f32⟩
  | 4 => ⟨S4112x32, .f32⟩
  | 5 => ⟨S4112x2048, .f32⟩
  | 6 => ⟨S1x4112x64, .f32⟩
  | 7 => ⟨S16x4112x64, .f32⟩
  | 8 => ⟨S4112x16x128, .f32⟩
  | 9 => ⟨S4112x16x64, .f32⟩
  | 10 => ⟨S4112x16x128, .f32⟩
  | 11 => ⟨S4112x1x32, .f32⟩
  | 12 => ⟨S4112x1x32, .f32⟩
  | 13 => ⟨S4112x16x32, .f32⟩
  | 14 => ⟨S4112x16x32, .f32⟩
  | 15 => ⟨S4112x16x32, .f32⟩
  | 16 => ⟨S4112x16x32, .f32⟩
  | 17 => ⟨S4112x16x32, .f32⟩
  | 18 => ⟨S4112x16x32, .f32⟩
  | 19 => ⟨S4112x16x32, .f32⟩
  | 20 => ⟨S4112x16x32, .f32⟩
  | 21 => ⟨S4112x16x32, .f32⟩
  | 22 => ⟨S4112x16x32, .f32⟩
  | 23 => ⟨S4112x16x32, .f32⟩
  | 24 => ⟨S4112x16x32, .f32⟩
  | 25 => ⟨S4112x16x64, .f32⟩
  | 26 => ⟨S16x4112x4112, .f32⟩
  | 27 => ⟨S16x4112x4112, .f32⟩
  | 28 => ⟨S16x4112x4112, .f32⟩
  | 29 => ⟨S_, .f32⟩
  | 30 => ⟨S16x4112x4112, .f32⟩
  | 31 => ⟨S16x4112x4112, .f32⟩
  | 32 => ⟨S4112, .i32⟩
  | 33 => ⟨S_, .i32⟩
  | 34 => ⟨S4112, .i32⟩
  | 35 => ⟨S4112, .i1⟩
  | 36 => ⟨S_, .i32⟩
  | 37 => ⟨S4112, .i32⟩
  | 38 => ⟨S4112, .i32⟩
  | 39 => ⟨S_, .i32⟩
  | 40 => ⟨S_, .i32⟩
  | 41 => ⟨S4112, .i32⟩
  | 42 => ⟨S4112, .i32⟩
  | 43 => ⟨S4112, .i32⟩
  | 44 => ⟨S_, .i32⟩
  | 45 => ⟨S4112, .i32⟩
  | 46 => ⟨S4112, .i1⟩
  | 47 => ⟨S4112, .i32⟩
  | 48 => ⟨S4112, .i32⟩
  | 49 => ⟨S_, .i32⟩
  | 50 => ⟨S4112, .i32⟩
  | 51 => ⟨S4112, .i1⟩
  | 52 => ⟨S4112, .i1⟩
  | 53 => ⟨S_, .i32⟩
  | 54 => ⟨S4112, .i32⟩
  | 55 => ⟨S4112, .i32⟩
  | 56 => ⟨S4112, .i32⟩
  | 57 => ⟨S_, .i32⟩
  | 58 => ⟨S4112, .i32⟩
  | 59 => ⟨S4112, .i32⟩
  | 60 => ⟨S_, .i32⟩
  | 61 => ⟨S_, .i32⟩
  | 62 => ⟨S4112, .i32⟩
  | 63 => ⟨S4112, .i32⟩
  | 64 => ⟨S1x4112, .i32⟩
  | 65 => ⟨S4112x1, .i32⟩
  | 66 => ⟨S4112x4112, .i32⟩
  | 67 => ⟨S4112x4112, .i32⟩
  | 68 => ⟨S4112x4112, .i1⟩
  | 69 => ⟨S1x4112x4112, .i1⟩
  | 70 => ⟨S_, .f32⟩
  | 71 => ⟨S_, .f32⟩
  | 72 => ⟨S16x4112x4112, .i1⟩
  | 73 => ⟨S16x4112x4112, .f32⟩
  | 74 => ⟨S16x4112x4112, .f32⟩
  | 75 => ⟨S_, .f32⟩
  | 76 => ⟨S16x4112, .f32⟩
  | 77 => ⟨S_, .f32⟩
  | 78 => ⟨S16x4112, .f32⟩
  | 79 => ⟨S16x4112, .f32⟩
  | 80 => ⟨S16x4112x1, .f32⟩
  | 81 => ⟨S16x4112x4112, .f32⟩
  | 82 => ⟨S16x4112x4112, .f32⟩
  | 83 => ⟨S16x4112x4112, .f32⟩
  | 84 => ⟨S_, .f32⟩
  | 85 => ⟨S16x4112, .f32⟩
  | 86 => ⟨S16x4112x1, .f32⟩
  | 87 => ⟨S16x4112x4112, .f32⟩
  | 88 => ⟨S16x4112x4112, .f32⟩
  | 89 => ⟨S4112x16x128, .f32⟩
  | 90 => ⟨S16x128x4112, .f32⟩
  | 91 => ⟨S4112x16x128, .f32⟩
  | 92 => ⟨S4112x2048, .f32⟩
  | 93 => ⟨S_, .f32⟩
  | 94 => ⟨S16x4112, .f32⟩
  | 95 => ⟨S16x4112x1, .f32⟩
  | 96 => ⟨S16x4112x4112, .f32⟩
  | 97 => ⟨S16x4112x4112, .f32⟩
  | 98 => ⟨S16x4112x4112, .f32⟩
  | 99 => ⟨S_, .f32⟩
  | 100 => ⟨S16x4112, .f32⟩
  | 101 => ⟨S16x4112x1, .f32⟩
  | 102 => ⟨S16x4112x1, .f32⟩
  | 103 => ⟨S16x4112x1, .f32⟩
  | 104 => ⟨S_, .i32⟩
  | 105 => ⟨S_, .f32⟩
  | 106 => ⟨S16x4224x1, .f32⟩
  | 107 => ⟨S16x4224x128, .f32⟩
  | 108 => ⟨S4112x16x128, .f32⟩
  | 109 => ⟨S4112x16x64, .f32⟩
  | 110 => ⟨S4112x1x32, .f32⟩
  | 111 => ⟨S4112x1x32, .f32⟩
  | 112 => ⟨S4112x16x32, .f32⟩
  | 113 => ⟨S4112x16x32, .f32⟩
  | 114 => ⟨S4112x16x32, .f32⟩
  | 115 => ⟨S4112x16x32, .f32⟩
  | 116 => ⟨S4112x16x32, .f32⟩
  | 117 => ⟨S4112x16x32, .f32⟩
  | 118 => ⟨S4112x16x32, .f32⟩
  | 119 => ⟨S4112x16x32, .f32⟩
  | 120 => ⟨S4112x16x32, .f32⟩
  | 121 => ⟨S4112x16x32, .f32⟩
  | 122 => ⟨S4112x16x32, .f32⟩
  | 123 => ⟨S4112x16x32, .f32⟩
  | 124 => ⟨S4112x16x64, .f32⟩
  | 125 => ⟨S4112x16x192, .f32⟩
  | 126 => ⟨S_, .i32⟩
  | 127 => ⟨S_, .f32⟩
  | _ => ⟨S4112x16x192, .f32⟩

abbrev hbmTy0_1 (i : Nat) : BufTy := match i % 128 with
  | 0 => ⟨S4224x16x256, .f32⟩
  | 1 => ⟨S4224x4096, .f32⟩
  | 2 => ⟨S4224x4096, .bf16⟩
  | 3 => ⟨S4112x4096, .f32⟩
  | 4 => ⟨S_, .i32⟩
  | 5 => ⟨S_, .f32⟩
  | 6 => ⟨S4224x4096, .f32⟩
  | 7 => ⟨S4224x4096, .bf16⟩
  | 8 => ⟨S_, .i32⟩
  | 9 => ⟨S_, .f32⟩
  | 10 => ⟨S4224x128, .f32⟩
  | 11 => ⟨S4224x128, .bf16⟩
  | 12 => ⟨S1x4112x1x32, .f32⟩
  | 13 => ⟨S1x4112x4x32, .f32⟩
  | 14 => ⟨S4112x128, .f32⟩
  | 15 => ⟨S_, .i32⟩
  | 16 => ⟨S_, .f32⟩
  | 17 => ⟨S4224x128, .f32⟩
  | 18 => ⟨S1x4112x1x32, .f32⟩
  | 19 => ⟨S1x4112x4x32, .f32⟩
  | 20 => ⟨S4112x128, .f32⟩
  | 21 => ⟨S_, .i32⟩
  | 22 => ⟨S_, .f32⟩
  | 23 => ⟨S4224x128, .f32⟩
  | 24 => ⟨S_, .i32⟩
  | 25 => ⟨S_, .f32⟩
  | 26 => ⟨S4224x2048, .f32⟩
  | 27 => ⟨S4224x2048, .bf16⟩
  | 28 => ⟨S_, .i32⟩
  | 29 => ⟨S_, .f32⟩
  | 30 => ⟨S4224x2048, .f32⟩
  | 31 => ⟨S4224x2048, .bf16⟩
  | 32 => ⟨S4224x4096, .bf16⟩
  | 33 => ⟨S4224x4096, .bf16⟩
  | 34 => ⟨S16x4224x128, .f32⟩
  | _ => ⟨S4112x16x192, .f32⟩

abbrev hbmTy (i : Nat) : BufTy := match i / 128 with
  | 0 => hbmTy0_0 i
  | 1 => hbmTy0_1 i
  | _ => ⟨S4112x16x192, .f32⟩

abbrev bufTy : (tb : Table) → Fin (tcTables nBuf tb) → BufTy
  | .hbm, ⟨i, _⟩ => hbmTy i
  | .local _ .vmem, ⟨0, _⟩ => ⟨S4224x256, .bf16⟩
  | .local _ .vmem, ⟨1, _⟩ => ⟨S4224x256, .bf16⟩
  | .local _ .vmem, ⟨2, _⟩ => ⟨S4224x256, .bf16⟩
  | .local _ .vmem, ⟨3, _⟩ => ⟨S4224x256, .bf16⟩
  | .local _ .vmem, ⟨4, _⟩ => ⟨S4224x128, .bf16⟩
  | .local _ .vmem, ⟨5, _⟩ => ⟨S4224x128, .bf16⟩
  | .local _ .vmem, ⟨6, _⟩ => ⟨S4224x128, .bf16⟩
  | .local _ .vmem, ⟨7, _⟩ => ⟨S1x4224x128, .f32⟩
  | .local _ .vmem, ⟨8, _⟩ => ⟨S1x4224x128, .f32⟩
  | .local _ .vmem, ⟨9, _⟩ => ⟨S4224x128, .bf16⟩
  | .local _ .vmem, ⟨10, _⟩ => ⟨S4224x128, .bf16⟩
  | .local _ .vmem, ⟨11, _⟩ => ⟨S4224x128, .f32⟩
  | .local _ .vmem, ⟨12, _⟩ => ⟨S4224x128, .f32⟩
  | .local _ .vmem, ⟨13, _⟩ => ⟨S4224x256, .bf16⟩
  | .local _ .vmem, ⟨14, _⟩ => ⟨S4224x256, .bf16⟩
  | .local _ .vmem, ⟨15, _⟩ => ⟨S4224x256, .bf16⟩
  | .local _ .vmem, ⟨16, _⟩ => ⟨S4224x256, .bf16⟩
  | .local _ .vmem, ⟨17, _⟩ => ⟨S1x4224x128, .f32⟩
  | .local _ .vmem, ⟨18, _⟩ => ⟨S1x4224x128, .f32⟩
  | .local _ .vmem, ⟨19, _⟩ => ⟨S4224x256, .bf16⟩
  | .local _ .vmem, ⟨20, _⟩ => ⟨S4224x256, .f32⟩
  | .local _ .vmem, ⟨21, _⟩ => ⟨S4224x128, .f32⟩
  | .local _ .vmem, ⟨22, _⟩ => ⟨S512x256, .f32⟩
  | _, _ => ⟨S4112x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_v27 : Ref sig .tc := ⟨.hbm, 35, rfl⟩
abbrev main_c_0 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v30 : Ref sig .tc := ⟨.hbm, 56, rfl⟩
abbrev main_c_2 : Ref sig .tc := ⟨.hbm, 57, rfl⟩
abbrev main_v31 : Ref sig .tc := ⟨.hbm, 58, rfl⟩
abbrev main_v32 : Ref sig .tc := ⟨.hbm, 59, rfl⟩
abbrev main_c_3 : Ref sig .tc := ⟨.hbm, 60, rfl⟩
abbrev main_call1_v0 : Ref sig .tc := ⟨.hbm, 61, rfl⟩
abbrev main_call1_v1 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_4 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v40 : Ref sig .tc := ⟨.hbm, 74, rfl⟩
abbrev main_cst_5 : Ref sig .tc := ⟨.hbm, 75, rfl⟩
abbrev main_v41 : Ref sig .tc := ⟨.hbm, 76, rfl⟩
abbrev main_cst_6 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_7 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_8 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_9 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_c_10 : Ref sig .tc := ⟨.hbm, 104, rfl⟩
abbrev main_call3_v0 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_c_11 : Ref sig .tc := ⟨.hbm, 126, rfl⟩
abbrev main_call4_v0 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_12 : Ref sig .tc := ⟨.hbm, 132, rfl⟩
abbrev main_call5_v0 : Ref sig .tc := ⟨.hbm, 133, rfl⟩
abbrev main_v89 : Ref sig .tc := ⟨.hbm, 134, rfl⟩
abbrev main_v90 : Ref sig .tc := ⟨.hbm, 135, rfl⟩
abbrev main_c_13 : Ref sig .tc := ⟨.hbm, 136, rfl⟩
abbrev main_call6_v0 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_14 : Ref sig .tc := ⟨.hbm, 143, rfl⟩
abbrev main_call7_v0 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_c_15 : Ref sig .tc := ⟨.hbm, 149, rfl⟩
abbrev main_call8_v0 : Ref sig .tc := ⟨.hbm, 150, rfl⟩
abbrev main_v100 : Ref sig .tc := ⟨.hbm, 151, rfl⟩
abbrev main_c_16 : Ref sig .tc := ⟨.hbm, 152, rfl⟩
abbrev main_call9_v0 : Ref sig .tc := ⟨.hbm, 153, rfl⟩
abbrev main_v101 : Ref sig .tc := ⟨.hbm, 154, rfl⟩
abbrev main_v102 : Ref sig .tc := ⟨.hbm, 155, rfl⟩
abbrev main_c_17 : Ref sig .tc := ⟨.hbm, 156, rfl⟩
abbrev main_call10_v0 : Ref sig .tc := ⟨.hbm, 157, rfl⟩
abbrev main_v103 : Ref sig .tc := ⟨.hbm, 158, rfl⟩
abbrev main_v104 : Ref sig .tc := ⟨.hbm, 159, rfl⟩
abbrev main_v105_0 : Ref sig .tc := ⟨.hbm, 160, rfl⟩
abbrev main_v105_1 : Ref sig .tc := ⟨.hbm, 161, rfl⟩
abbrev main_v105_2 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_55 : BitVec 32 := 0#32
  let c8_i32 : BitVec 32 := 8#32
  let v109 : BitVec 32 := Scalar.addi c0_i32_55 c8_i32
  let c1_i32_56 : BitVec 32 := 1#32
  ⟨c0_i32_55, v109, c1_i32_56⟩
def k0_mult1 (k0_t1 : Fin k0_t1_loop.trips) : BitVec 32 :=
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  v121
def k0_off1 (k0_t1 : Fin k0_t1_loop.trips) : Fin 2 → Nat :=
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  let v122 : BitVec 32 := v121
  let v123 : Index := Scalar.indexCast v122
  let c0_68 : Index := 0#32
  ![v123.toNat, 0]
def k0_off2 (k0_t1 : Fin k0_t1_loop.trips) : Fin 2 → Nat :=
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  let v122 : BitVec 32 := v121
  let v126 : Index := Scalar.indexCast v122
  let c0_69 : Index := 0#32
  ![v126.toNat, 0]
def k0_off3 (k0_t1 : Fin k0_t1_loop.trips) : Fin 3 → Nat :=
  let c0_70 : Index := 0#32
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  let v122 : BitVec 32 := v121
  let v129 : Index := Scalar.indexCast v122
  let c0_71 : Index := 0#32
  ![0, v129.toNat, 0]
def k0_off4 (k0_t1 : Fin k0_t1_loop.trips) : Fin 2 → Nat :=
  let c16_i32_67 : BitVec 32 := 16#32
  let c0_i32_55 : BitVec 32 := 0#32
  let c1_i32_56 : BitVec 32 := 1#32
  let arg16 : BitVec 32 := Scf.iv c0_i32_55 c1_i32_56 k0_t1
  let c512_i32 : BitVec 32 := 512#32
  let v120 : BitVec 32 := Scalar.muli arg16 c512_i32
  let v121 : BitVec 32 := Scalar.addi c16_i32_67 v120
  let v122 : BitVec 32 := v121
  let v158 : Index := Scalar.indexCast v122
  let c128_82 : Index := 128#32
  ![v158.toNat, 128]
@[reducible] def k0_t2_loop (k0_t1 : Fin k0_t1_loop.trips) : Scf.Loop 32 :=
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_114 : BitVec 32 := 1#32
  ⟨c0_i32_112, v234, c1_i32_114⟩
def k0_mult2 (k0_t1 : Fin k0_t1_loop.trips) (k0_t2 : Fin (k0_t2_loop k0_t1).trips) : BitVec 32 :=
  let c16_i32_141 : BitVec 32 := 16#32
  let c2_i32_139 : BitVec 32 := 2#32
  let c0_i32_112 : BitVec 32 := 0#32
  let c1_i32_114 : BitVec 32 := 1#32
  let arg17 : BitVec 32 := Scf.iv c0_i32_112 c1_i32_114 k0_t2
  let v288 : BitVec 32 := Scalar.muli c2_i32_139 arg17
  let c512_i32_140 : BitVec 32 := 512#32
  let v289 : BitVec 32 := Scalar.muli v288 c512_i32_140
  let v290 : BitVec 32 := Scalar.addi c16_i32_141 v289
  v290
def k0_off5 (k0_t1 : Fin k0_t1_loop.trips) (k0_t2 : Fin (k0_t2_loop k0_t1).trips) : Fin 2 → Nat :=
  let c16_i32_141 : BitVec 32 := 16#32
  let c2_i32_139 : BitVec 32 := 2#32
  let c0_i32_112 : BitVec 32 := 0#32
  let c1_i32_114 : BitVec 32 := 1#32
  let arg17 : BitVec 32 := Scf.iv c0_i32_112 c1_i32_114 k0_t2
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v293 : Index := Scalar.indexCast v291
  let c0_144 : Index := 0#32
  ![v293.toNat, 0]
def k0_off6 (k0_t1 : Fin k0_t1_loop.trips) (k0_t2 : Fin (k0_t2_loop k0_t1).trips) : Fin 2 → Nat :=
  let c16_i32_141 : BitVec 32 := 16#32
  let c2_i32_139 : BitVec 32 := 2#32
  let c0_i32_112 : BitVec 32 := 0#32
  let c1_i32_114 : BitVec 32 := 1#32
  let arg17 : BitVec 32 := Scf.iv c0_i32_112 c1_i32_114 k0_t2
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v295 : Index := Scalar.indexCast v291
  let c128_145 : Index := 128#32
  ![v295.toNat, 128]
def k0_off7 (k0_t1 : Fin k0_t1_loop.trips) (k0_t2 : Fin (k0_t2_loop k0_t1).trips) : Fin 2 → Nat :=
  let c16_i32_141 : BitVec 32 := 16#32
  let c2_i32_139 : BitVec 32 := 2#32
  let c0_i32_112 : BitVec 32 := 0#32
  let c1_i32_114 : BitVec 32 := 1#32
  let arg17 : BitVec 32 := Scf.iv c0_i32_112 c1_i32_114 k0_t2
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v314 : Index := Scalar.indexCast v291
  let c0_152 : Index := 0#32
  ![v314.toNat, 0]
@[reducible] def k0_t3_loop (k0_t1 : Fin k0_t1_loop.trips) : Scf.Loop 32 :=
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let v231 : BitVec 32 := Scalar.addi c0_i32_112 v230
  let c1_i32_115 : BitVec 32 := 1#32
  ⟨v234, v231, c1_i32_115⟩
def k0_mult3 (k0_t1 : Fin k0_t1_loop.trips) (k0_t3 : Fin (k0_t3_loop k0_t1).trips) : BitVec 32 :=
  let c16_i32_141 : BitVec 32 := 16#32
  let c2_i32_139 : BitVec 32 := 2#32
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_115 : BitVec 32 := 1#32
  let arg17 : BitVec 32 := Scf.iv v234 c1_i32_115 k0_t3
  let v288 : BitVec 32 := Scalar.muli c2_i32_139 arg17
  let c512_i32_140 : BitVec 32 := 512#32
  let v289 : BitVec 32 := Scalar.muli v288 c512_i32_140
  let v290 : BitVec 32 := Scalar.addi c16_i32_141 v289
  v290
def k0_off8 (k0_t1 : Fin k0_t1_loop.trips) (k0_t3 : Fin (k0_t3_loop k0_t1).trips) : Fin 2 → Nat :=
  let c16_i32_141 : BitVec 32 := 16#32
  let c2_i32_139 : BitVec 32 := 2#32
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_115 : BitVec 32 := 1#32
  let arg17 : BitVec 32 := Scf.iv v234 c1_i32_115 k0_t3
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v293 : Index := Scalar.indexCast v291
  let c0_144 : Index := 0#32
  ![v293.toNat, 0]
def k0_off9 (k0_t1 : Fin k0_t1_loop.trips) (k0_t3 : Fin (k0_t3_loop k0_t1).trips) : Fin 2 → Nat :=
  let c16_i32_141 : BitVec 32 := 16#32
  let c2_i32_139 : BitVec 32 := 2#32
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_115 : BitVec 32 := 1#32
  let arg17 : BitVec 32 := Scf.iv v234 c1_i32_115 k0_t3
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v295 : Index := Scalar.indexCast v291
  let c128_145 : Index := 128#32
  ![v295.toNat, 128]
def k0_off10 (k0_t1 : Fin k0_t1_loop.trips) (k0_t3 : Fin (k0_t3_loop k0_t1).trips) : Fin 2 → Nat :=
  let c16_i32_141 : BitVec 32 := 16#32
  let c2_i32_139 : BitVec 32 := 2#32
  let c0_i32_112 : BitVec 32 := 0#32
  let c0_i32_55 : BitVec 32 := 0#32
  let c1_i32_56 : BitVec 32 := 1#32
  let arg16 : BitVec 32 := Scf.iv c0_i32_55 c1_i32_56 k0_t1
  let c0_i32_105 : BitVec 32 := 0#32
  let v214 : BitVec 1 := Scalar.cmpi .sgt arg16 c0_i32_105
  let v215 : BitVec 32 := Scalar.extui v214
  let c0_i32_106 : BitVec 32 := 0#32
  let v216 : BitVec 1 := Scalar.cmpi .slt arg16 c0_i32_106
  let v217 : BitVec 32 := Scalar.extui v216
  let v218 : BitVec 32 := Scalar.subi v215 v217
  let c2_i32 : BitVec 32 := 2#32
  let c0_i32_107 : BitVec 32 := 0#32
  let v219 : BitVec 1 := Scalar.cmpi .sgt c2_i32 c0_i32_107
  let v220 : BitVec 32 := Scalar.extui v219
  let c0_i32_108 : BitVec 32 := 0#32
  let v221 : BitVec 1 := Scalar.cmpi .slt c2_i32 c0_i32_108
  let v222 : BitVec 32 := Scalar.extui v221
  let v223 : BitVec 32 := Scalar.subi v220 v222
  let v224 : BitVec 1 := Scalar.cmpi .ne v218 v223
  let v225 : BitVec 32 := Scalar.remsi arg16 c2_i32
  let c0_i32_109 : BitVec 32 := 0#32
  let v226 : BitVec 1 := Scalar.cmpi .ne v225 c0_i32_109
  let v227 : BitVec 1 := Scalar.andi v224 v226
  let v213 : BitVec 32 := Scalar.divsi arg16 c2_i32
  let c1_i32_110 : BitVec 32 := 1#32
  let v228 : BitVec 32 := Scalar.subi v213 c1_i32_110
  let v229 : BitVec 32 := Scalar.select v227 v228 v213
  let v230 : BitVec 32 := Scalar.subi v229 c0_i32_112
  let c1_i32_113 : BitVec 32 := 1#32
  let v232 : BitVec 32 := Scalar.divsi v230 c1_i32_113
  let v233 : BitVec 32 := Scalar.muli v232 c1_i32_113
  let v234 : BitVec 32 := Scalar.addi c0_i32_112 v233
  let c1_i32_115 : BitVec 32 := 1#32
  let arg17 : BitVec 32 := Scf.iv v234 c1_i32_115 k0_t3
  let v288 : BitVec 32 := Scalar.muli c2_i32_139 arg17
  let c512_i32_140 : BitVec 32 := 512#32
  let v289 : BitVec 32 := Scalar.muli v288 c512_i32_140
  let v290 : BitVec 32 := Scalar.addi c16_i32_141 v289
  let v291 : BitVec 32 := v290
  let v314 : Index := Scalar.indexCast v291
  let c0_152 : Index := 0#32
  ![v314.toNat, 0]
def k0_cond1 (k0_t1 : Fin k0_t1_loop.trips) : BitVec 1 :=
  let c0_i32_55 : BitVec 32 := 0#32
  let c1_i32_56 : BitVec 32 := 1#32
  let arg16 : BitVec 32 := Scf.iv c0_i32_55 c1_i32_56 k0_t1
  let c2_i32_116 : BitVec 32 := 2#32
  let c0_i32_117 : BitVec 32 := 0#32
  let v235 : BitVec 1 := Scalar.cmpi .eq c2_i32_116 c0_i32_117
  let c1_i32_118 : BitVec 32 := 1#32
  let v236 : BitVec 32 := Scalar.select v235 c1_i32_118 c2_i32_116
  let v237 : BitVec 32 := Scalar.remsi arg16 v236
  let c0_i32_120 : BitVec 32 := 0#32
  let v239 : BitVec 1 := Scalar.cmpi .slt v237 c0_i32_120
  let c0_i32_121 : BitVec 32 := 0#32
  let v240 : BitVec 1 := Scalar.cmpi .slt v236 c0_i32_121
  let v241 : BitVec 1 := Scalar.xori v239 v240
  let c0_i32_119 : BitVec 32 := 0#32
  let v238 : BitVec 1 := Scalar.cmpi .ne v237 c0_i32_119
  let v242 : BitVec 1 := Scalar.andi v241 v238
  let v243 : BitVec 32 := Scalar.addi v237 v236
  let v244 : BitVec 32 := Scalar.select v242 v243 v237
  let c1_i32_122 : BitVec 32 := 1#32
  let v245 : BitVec 1 := Scalar.cmpi .eq v244 c1_i32_122
  let v246 : BitVec 32 := Scalar.extui v245
  let c0_i32_123 : BitVec 32 := 0#32
  let v247 : BitVec 1 := Scalar.cmpi .ne v246 c0_i32_123
  v247

def k0_mult4 (k0_t1 : Fin k0_t1_loop.trips) : BitVec 32 :=
  let c16_i32_141 : BitVec 32 := 16#32
  let c0_i32_55 : BitVec 32 := 0#32
  let c1_i32_56 : BitVec 32 := 1#32
  let arg16 : BitVec 32 := Scf.iv c0_i32_55 c1_i32_56 k0_t1
  let c1_i32_139 : BitVec 32 := 1#32
  let v288 : BitVec 32 := Scalar.subi arg16 c1_i32_139
  let c512_i32_140 : BitVec 32 := 512#32
  let v289 : BitVec 32 := Scalar.muli v288 c512_i32_140
  let v290 : BitVec 32 := Scalar.addi c16_i32_141 v289
  v290
def k0_off11 (k0_t1 : Fin k0_t1_loop.trips) : Fin 2 → Nat :=
  let c16_i32_141 : BitVec 32 := 16#32
  let c0_i32_55 : BitVec 32 := 0#32
  let c1_i32_56 : BitVec 32 := 1#32
  let arg16 : BitVec 32 := Scf.iv c0_i32_55 c1_i32_56 k0_t1
  let c1_i32_139 : BitVec 32 := 1#32
  let v288 : BitVec 32 := Scalar.subi arg16 c1_i32_139
  let c512_i32_140 : BitVec 32 := 512#32
  let v289 : BitVec 32 := Scalar.muli v288 c512_i32_140
  let v290 : BitVec 32 := Scalar.addi c16_i32_141 v289
  let v291 : BitVec 32 := v290
  let v293 : Index := Scalar.indexCast v291
  let c0_144 : Index := 0#32
  ![v293.toNat, 0]
def k0_off12 (k0_t1 : Fin k0_t1_loop.trips) : Fin 2 → Nat :=
  let c16_i32_141 : BitVec 32 := 16#32
  let c0_i32_55 : BitVec 32 := 0#32
  let c1_i32_56 : BitVec 32 := 1#32
  let arg16 : BitVec 32 := Scf.iv c0_i32_55 c1_i32_56 k0_t1
  let c1_i32_139 : BitVec 32 := 1#32
  let v288 : BitVec 32 := Scalar.subi arg16 c1_i32_139
  let c512_i32_140 : BitVec 32 := 512#32
  let v289 : BitVec 32 := Scalar.muli v288 c512_i32_140
  let v290 : BitVec 32 := Scalar.addi c16_i32_141 v289
  let v291 : BitVec 32 := v290
  let v295 : Index := Scalar.indexCast v291
  let c128_145 : Index := 128#32
  ![v295.toNat, 128]
def k0_off13 (k0_t1 : Fin k0_t1_loop.trips) : Fin 2 → Nat :=
  let c16_i32_141 : BitVec 32 := 16#32
  let c0_i32_55 : BitVec 32 := 0#32
  let c1_i32_56 : BitVec 32 := 1#32
  let arg16 : BitVec 32 := Scf.iv c0_i32_55 c1_i32_56 k0_t1
  let c1_i32_139 : BitVec 32 := 1#32
  let v288 : BitVec 32 := Scalar.subi arg16 c1_i32_139
  let c512_i32_140 : BitVec 32 := 512#32
  let v289 : BitVec 32 := Scalar.muli v288 c512_i32_140
  let v290 : BitVec 32 := Scalar.addi c16_i32_141 v289
  let v291 : BitVec 32 := v290
  let v314 : Index := Scalar.indexCast v291
  let c0_152 : Index := 0#32
  ![v314.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4224x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4224x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4224x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4224x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4224x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== AttnRefIdeal.lean ====
abbrev S4112x16x192 : Shape := ⟨3, ![4112, 16, 192]⟩
abbrev S4112x16x256 : Shape := ⟨3, ![4112, 16, 256]⟩
abbrev S4112x64 : Shape := ⟨2, ![4112, 64]⟩
abbrev S4112x32 : Shape := ⟨2, ![4112, 32]⟩
abbrev S4112x2048 : Shape := ⟨2, ![4112, 2048]⟩
abbrev S1x4112x64 : Shape := ⟨3, ![1, 4112, 64]⟩
abbrev S16x4112x64 : Shape := ⟨3, ![16, 4112, 64]⟩
abbrev S4112x16x128 : Shape := ⟨3, ![4112, 16, 128]⟩
abbrev S4112x16x64 : Shape := ⟨3, ![4112, 16, 64]⟩
abbrev S4112x1x32 : Shape := ⟨3, ![4112, 1, 32]⟩
abbrev S4112x16x32 : Shape := ⟨3, ![4112, 16, 32]⟩
abbrev S16x4112x4112 : Shape := ⟨3, ![16, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x4112x4112 : Shape := ⟨3, ![1, 4112, 4112]⟩
abbrev S16x4112 : Shape := ⟨2, ![16, 4112]⟩
abbrev S16x4112x1 : Shape := ⟨3, ![16, 4112, 1]⟩
abbrev S16x128x4112 : Shape := ⟨3, ![16, 128, 4112]⟩
abbrev S16x4112x128 : Shape := ⟨3, ![16, 4112, 128]⟩
abbrev S4224x16x256 : Shape := ⟨3, ![4224, 16, 256]⟩
abbrev S4224x4096 : Shape := ⟨2, ![4224, 4096]⟩
abbrev S4112x4096 : Shape := ⟨2, ![4112, 4096]⟩
abbrev S16x4224x128 : Shape := ⟨3, ![16, 4224, 128]⟩

abbrev nBuf : Space → Nat
  | .hbm => 184
  | .vmem => 0
  | .smem => 0
  | _ => 0

abbrev hbmTy0_0 (i : Nat) : BufTy := match i % 128 with
  | 0 => ⟨S4112x16x192, .f32⟩
  | 1 => ⟨S4112x16x256, .f32⟩
  | 2 => ⟨S4112x64, .f32⟩
  | 3 => ⟨S4112x32, .f32⟩
  | 4 => ⟨S4112x32, .f32⟩
  | 5 => ⟨S4112x2048, .f32⟩
  | 6 => ⟨S1x4112x64, .f32⟩
  | 7 => ⟨S16x4112x64, .f32⟩
  | 8 => ⟨S4112x16x128, .f32⟩
  | 9 => ⟨S4112x16x64, .f32⟩
  | 10 => ⟨S4112x16x128, .f32⟩
  | 11 => ⟨S4112x1x32, .f32⟩
  | 12 => ⟨S4112x1x32, .f32⟩
  | 13 => ⟨S4112x16x32, .f32⟩
  | 14 => ⟨S4112x16x32, .f32⟩
  | 15 => ⟨S4112x16x32, .f32⟩
  | 16 => ⟨S4112x16x32, .f32⟩
  | 17 => ⟨S4112x16x32, .f32⟩
  | 18 => ⟨S4112x16x32, .f32⟩
  | 19 => ⟨S4112x16x32, .f32⟩
  | 20 => ⟨S4112x16x32, .f32⟩
  | 21 => ⟨S4112x16x32, .f32⟩
  | 22 => ⟨S4112x16x32, .f32⟩
  | 23 => ⟨S4112x16x32, .f32⟩
  | 24 => ⟨S4112x16x32, .f32⟩
  | 25 => ⟨S4112x16x64, .f32⟩
  | 26 => ⟨S16x4112x4112, .f32⟩
  | 27 => ⟨S16x4112x4112, .f32⟩
  | 28 => ⟨S16x4112x4112, .f32⟩
  | 29 => ⟨S_, .f32⟩
  | 30 => ⟨S16x4112x4112, .f32⟩
  | 31 => ⟨S16x4112x4112, .f32⟩
  | 32 => ⟨S4112, .i32⟩
  | 33 => ⟨S_, .i32⟩
  | 34 => ⟨S4112, .i32⟩
  | 35 => ⟨S4112, .i1⟩
  | 36 => ⟨S_, .i32⟩
  | 37 => ⟨S4112, .i32⟩
  | 38 => ⟨S4112, .i32⟩
  | 39 => ⟨S_, .i32⟩
  | 40 => ⟨S_, .i32⟩
  | 41 => ⟨S4112, .i32⟩
  | 42 => ⟨S4112, .i32⟩
  | 43 => ⟨S4112, .i32⟩
  | 44 => ⟨S_, .i32⟩
  | 45 => ⟨S4112, .i32⟩
  | 46 => ⟨S4112, .i1⟩
  | 47 => ⟨S4112, .i32⟩
  | 48 => ⟨S4112, .i32⟩
  | 49 => ⟨S_, .i32⟩
  | 50 => ⟨S4112, .i32⟩
  | 51 => ⟨S4112, .i1⟩
  | 52 => ⟨S4112, .i1⟩
  | 53 => ⟨S_, .i32⟩
  | 54 => ⟨S4112, .i32⟩
  | 55 => ⟨S4112, .i32⟩
  | 56 => ⟨S4112, .i32⟩
  | 57 => ⟨S_, .i32⟩
  | 58 => ⟨S4112, .i32⟩
  | 59 => ⟨S4112, .i32⟩
  | 60 => ⟨S_, .i32⟩
  | 61 => ⟨S_, .i32⟩
  | 62 => ⟨S4112, .i32⟩
  | 63 => ⟨S4112, .i32⟩
  | 64 => ⟨S1x4112, .i32⟩
  | 65 => ⟨S4112x1, .i32⟩
  | 66 => ⟨S4112x4112, .i32⟩
  | 67 => ⟨S4112x4112, .i32⟩
  | 68 => ⟨S4112x4112, .i1⟩
  | 69 => ⟨S1x4112x4112, .i1⟩
  | 70 => ⟨S_, .f32⟩
  | 71 => ⟨S_, .f32⟩
  | 72 => ⟨S16x4112x4112, .i1⟩
  | 73 => ⟨S16x4112x4112, .f32⟩
  | 74 => ⟨S16x4112x4112, .f32⟩
  | 75 => ⟨S_, .f32⟩
  | 76 => ⟨S16x4112x4112, .f32⟩
  | 77 => ⟨S_, .f32⟩
  | 78 => ⟨S16x4112, .f32⟩
  | 79 => ⟨S16x4112x1, .f32⟩
  | 80 => ⟨S16x4112x4112, .f32⟩
  | 81 => ⟨S16x4112x4112, .i1⟩
  | 82 => ⟨S16x4112x4112, .f32⟩
  | 83 => ⟨S_, .f32⟩
  | 84 => ⟨S16x4112, .f32⟩
  | 85 => ⟨S_, .f32⟩
  | 86 => ⟨S16x4112, .f32⟩
  | 87 => ⟨S16x4112, .f32⟩
  | 88 => ⟨S_, .f32⟩
  | 89 => ⟨S16x4112, .f32⟩
  | 90 => ⟨S16x4112, .i1⟩
  | 91 => ⟨S_, .f32⟩
  | 92 => ⟨S16x4112, .f32⟩
  | 93 => ⟨S16x4112, .i1⟩
  | 94 => ⟨S_, .f32⟩
  | 95 => ⟨S16x4112, .f32⟩
  | 96 => ⟨S_, .f32⟩
  | 97 => ⟨S16x4112, .f32⟩
  | 98 => ⟨S_, .f32⟩
  | 99 => ⟨S16x4112, .f32⟩
  | 100 => ⟨S16x4112, .f32⟩
  | 101 => ⟨S16x4112, .f32⟩
  | 102 => ⟨S16x4112x1, .f32⟩
  | 103 => ⟨S16x4112x4112, .f32⟩
  | 104 => ⟨S16x4112x4112, .f32⟩
  | 105 => ⟨S16x4112x4112, .f32⟩
  | 106 => ⟨S_, .f32⟩
  | 107 => ⟨S16x4112, .f32⟩
  | 108 => ⟨S16x4112x1, .f32⟩
  | 109 => ⟨S16x4112x4112, .f32⟩
  | 110 => ⟨S16x4112x4112, .f32⟩
  | 111 => ⟨S16x4112x1, .f32⟩
  | 112 => ⟨S_, .f32⟩
  | 113 => ⟨S16x4112x1, .f32⟩
  | 114 => ⟨S16x4112x1, .f32⟩
  | 115 => ⟨S4112x16x128, .f32⟩
  | 116 => ⟨S16x128x4112, .f32⟩
  | 117 => ⟨S4112x16x128, .f32⟩
  | 118 => ⟨S4112x2048, .f32⟩
  | 119 => ⟨S4112x16x128, .f32⟩
  | 120 => ⟨S16x128x4112, .f32⟩
  | 121 => ⟨S16x4112x4112, .f32⟩
  | 122 => ⟨S16x128x4112, .f32⟩
  | 123 => ⟨S4112x16x128, .f32⟩
  | 124 => ⟨S_, .f32⟩
  | 125 => ⟨S4112x16x256, .f32⟩
  | 126 => ⟨S16x4112x4112, .f32⟩
  | 127 => ⟨S16x4112x4112, .f32⟩
  | _ => ⟨S4112x16x192, .f32⟩

abbrev hbmTy0_1 (i : Nat) : BufTy := match i % 128 with
  | 0 => ⟨S16x4112x4112, .f32⟩
  | 1 => ⟨S_, .f32⟩
  | 2 => ⟨S16x4112, .f32⟩
  | 3 => ⟨S16x4112x1, .f32⟩
  | 4 => ⟨S16x4112x1, .f32⟩
  | 5 => ⟨S16x4112x4112, .f32⟩
  | 6 => ⟨S16x4112x4112, .f32⟩
  | 7 => ⟨S_, .f32⟩
  | 8 => ⟨S16x4112, .f32⟩
  | 9 => ⟨S16x4112x4112, .f32⟩
  | 10 => ⟨S16x4112x4112, .f32⟩
  | 11 => ⟨S16x4112x4112, .f32⟩
  | 12 => ⟨S_, .f32⟩
  | 13 => ⟨S16x4112x4112, .f32⟩
  | 14 => ⟨S16x4112x4112, .f32⟩
  | 15 => ⟨S_, .f32⟩
  | 16 => ⟨S16x4112x4112, .f32⟩
  | 17 => ⟨S16x4112x4112, .f32⟩
  | 18 => ⟨S16x4112x64, .f32⟩
  | 19 => ⟨S16x4112x64, .f32⟩
  | 20 => ⟨S4112x16x64, .f32⟩
  | 21 => ⟨S16x4112x128, .f32⟩
  | 22 => ⟨S4112x16x128, .f32⟩
  | 23 => ⟨S16x4112x128, .f32⟩
  | 24 => ⟨S4112x16x128, .f32⟩
  | 25 => ⟨S4112x16x32, .f32⟩
  | 26 => ⟨S4112x16x32, .f32⟩
  | 27 => ⟨S4112x16x32, .f32⟩
  | 28 => ⟨S4112x16x32, .f32⟩
  | 29 => ⟨S4112x16x32, .f32⟩
  | 30 => ⟨S4112x16x32, .f32⟩
  | 31 => ⟨S4112x16x32, .f32⟩
  | 32 => ⟨S4112x16x32, .f32⟩
  | 33 => ⟨S4112x16x32, .f32⟩
  | 34 => ⟨S4112x16x32, .f32⟩
  | 35 => ⟨S4112x16x32, .f32⟩
  | 36 => ⟨S4112x16x32, .f32⟩
  | 37 => ⟨S4112x16x32, .f32⟩
  | 38 => ⟨S4112x16x64, .f32⟩
  | 39 => ⟨S_, .f32⟩
  | 40 => ⟨S4112x16x256, .f32⟩
  | 41 => ⟨S4112x16x256, .f32⟩
  | 42 => ⟨S4112x16x192, .f32⟩
  | 43 => ⟨S_, .i32⟩
  | 44 => ⟨S_, .f32⟩
  | 45 => ⟨S4224x16x256, .f32⟩
  | 46 => ⟨S4224x4096, .f32⟩
  | 47 => ⟨S4112x4096, .f32⟩
  | 48 => ⟨S_, .i32⟩
  | 49 => ⟨S_, .f32⟩
  | 50 => ⟨S4224x4096, .f32⟩
  | 51 => ⟨S4224x4096, .bf16⟩
  | 52 => ⟨S4224x4096, .bf16⟩
  | 53 => ⟨S_, .i32⟩
  | 54 => ⟨S_, .f32⟩
  | 55 => ⟨S16x4224x128, .f32⟩
  | _ => ⟨S4112x16x192, .f32⟩

abbrev hbmTy (i : Nat) : BufTy := match i / 128 with
  | 0 => hbmTy0_0 i
  | 1 => hbmTy0_1 i
  | _ => ⟨S4112x16x192, .f32⟩

abbrev bufTy : (tb : Table) → Fin (tcTables nBuf tb) → BufTy
  | .hbm, ⟨i, _⟩ => hbmTy i
  | _, _ => ⟨S4112x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c : Ref sig .tc := ⟨.hbm, 33, rfl⟩
abbrev main_v26 : Ref sig .tc := ⟨.hbm, 34, rfl⟩
abbrev main_v27 : Ref sig .tc := ⟨.hbm, 35, rfl⟩
abbrev main_c_0 : Ref sig .tc := ⟨.hbm, 36, rfl⟩
abbrev main_v28 : Ref sig .tc := ⟨.hbm, 37, rfl⟩
abbrev main_v29 : Ref sig .tc := ⟨.hbm, 38, rfl⟩
abbrev main_c_1 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v30 : Ref sig .tc := ⟨.hbm, 56, rfl⟩
abbrev main_c_2 : Ref sig .tc := ⟨.hbm, 57, rfl⟩
abbrev main_v31 : Ref sig .tc := ⟨.hbm, 58, rfl⟩
abbrev main_v32 : Ref sig .tc := ⟨.hbm, 59, rfl⟩
abbrev main_c_3 : Ref sig .tc := ⟨.hbm, 60, rfl⟩
abbrev main_call1_v0 : Ref sig .tc := ⟨.hbm, 61, rfl⟩
abbrev main_call1_v1 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_4 : Ref sig .tc := ⟨.hbm, 70, rfl⟩
abbrev main_call2_v0 : Ref sig .tc := ⟨.hbm, 71, rfl⟩
abbrev main_v40_1 : Ref sig .tc := ⟨.hbm, 72, rfl⟩
abbrev main_call2_v2 : Ref sig .tc := ⟨.hbm, 73, rfl⟩
abbrev main_v40_0 : Ref sig .tc := ⟨.hbm, 74, rfl⟩
abbrev main_call2_cst : Ref sig .tc := ⟨.hbm, 75, rfl⟩
abbrev main_v40_2 : Ref sig .tc := ⟨.hbm, 76, rfl⟩
abbrev main_cst_5 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_6 : Ref sig .tc := ⟨.hbm, 83, rfl⟩
abbrev main_v46 : Ref sig .tc := ⟨.hbm, 84, rfl⟩
abbrev main_cst_7 : Ref sig .tc := ⟨.hbm, 85, rfl⟩
abbrev main_v47 : Ref sig .tc := ⟨.hbm, 86, rfl⟩
abbrev main_v48 : Ref sig .tc := ⟨.hbm, 87, rfl⟩
abbrev main_cst_8 : Ref sig .tc := ⟨.hbm, 88, rfl⟩
abbrev main_v49 : Ref sig .tc := ⟨.hbm, 89, rfl⟩
abbrev main_v50 : Ref sig .tc := ⟨.hbm, 90, rfl⟩
abbrev main_cst_9 : Ref sig .tc := ⟨.hbm, 91, rfl⟩
abbrev main_v51 : Ref sig .tc := ⟨.hbm, 92, rfl⟩
abbrev main_v52 : Ref sig .tc := ⟨.hbm, 93, rfl⟩
abbrev main_cst_10 : Ref sig .tc := ⟨.hbm, 94, rfl⟩
abbrev main_v53 : Ref sig .tc := ⟨.hbm, 95, rfl⟩
abbrev main_cst_11 : Ref sig .tc := ⟨.hbm, 96, rfl⟩
abbrev main_v54 : Ref sig .tc := ⟨.hbm, 97, rfl⟩
abbrev main_cst_12 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_cst_13 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_14 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_15 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_16 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_17 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_call3_cst : Ref sig .tc := ⟨.hbm, 140, rfl⟩
abbrev main_call3_v0 : Ref sig .tc := ⟨.hbm, 141, rfl⟩
abbrev main_v91 : Ref sig .tc := ⟨.hbm, 142, rfl⟩
abbrev main_cst_18 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_19 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_c_20 : Ref sig .tc := ⟨.hbm, 171, rfl⟩
abbrev main_call4_v0 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_c_21 : Ref sig .tc := ⟨.hbm, 176, rfl⟩
abbrev main_call5_v0 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_c_22 : Ref sig .tc := ⟨.hbm, 181, rfl⟩
abbrev main_call6_v0 : Ref sig .tc := ⟨.hbm, 182, rfl⟩
abbrev main_v124 : Ref sig .tc := ⟨.hbm, 183, rfl⟩

abbrev nD : Nat := 1
abbrev τ : Topo := Topo.v7x

variable {F : FTy → Type} [FloatOps F]
-- ==== LossHead.lean ====
abbrev S4112x2048 : Shape := ⟨2, ![4112, 2048]⟩
abbrev S2048 : Shape := ⟨1, ![2048]⟩
abbrev S4096x2048 : Shape := ⟨2, ![4096, 2048]⟩
abbrev S_ : Shape := ⟨0, ![]⟩
abbrev S4224x2048 : Shape := ⟨2, ![4224, 2048]⟩
abbrev S1x2048 : Shape := ⟨2, ![1, 2048]⟩
abbrev S1x128 : Shape := ⟨2, ![1, 128]⟩
abbrev S384x2048 : Shape := ⟨2, ![384, 2048]⟩
abbrev S384 : Shape := ⟨1, ![384]⟩
abbrev S384x1 : Shape := ⟨2, ![384, 1]⟩
abbrev S1 : Shape := ⟨1, ![1]⟩
abbrev S1x1 : Shape := ⟨2, ![1, 1]⟩

abbrev nBuf : Space → Nat
  | .hbm => 14
  | .vmem => 11
  | .smem => 0
  | _ => 0

abbrev bufTy : (tb : Table) → Fin (tcTables nBuf tb) → BufTy
  | .hbm, ⟨0, _⟩ => ⟨S4112x2048, .f32⟩
  | .hbm, ⟨1, _⟩ => ⟨S2048, .f32⟩
  | .hbm, ⟨2, _⟩ => ⟨S4096x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S_, .i32⟩
  | .hbm, ⟨7, _⟩ => ⟨S_, .f32⟩
  | .hbm, ⟨8, _⟩ => ⟨S4224x2048, .f32⟩
  | .hbm, ⟨9, _⟩ => ⟨S1x2048, .f32⟩
  | .hbm, ⟨10, _⟩ => ⟨S1x128, .f32⟩
  | .hbm, ⟨11, _⟩ => ⟨S4224x2048, .f32⟩
  | .hbm, ⟨12, _⟩ => ⟨S4224x2048, .bf16⟩
  | .hbm, ⟨13, _⟩ => ⟨S1x2048, .f32⟩
  | .local _ .vmem, ⟨0, _⟩ => ⟨S384x2048, .f32⟩
  | .local _ .vmem, ⟨1, _⟩ => ⟨S384x2048, .f32⟩
  | .local _ .vmem, ⟨2, _⟩ => ⟨S384x2048, .f32⟩
  | .local _ .vmem, ⟨3, _⟩ => ⟨S384x2048, .f32⟩
  | .local _ .vmem, ⟨4, _⟩ => ⟨S1x2048, .f32⟩
  | .local _ .vmem, ⟨5, _⟩ => ⟨S1x128, .f32⟩
  | .local _ .vmem, ⟨6, _⟩ => ⟨S384x2048, .f32⟩
  | .local _ .vmem, ⟨7, _⟩ => ⟨S384x2048, .f32⟩
  | .local _ .vmem, ⟨8, _⟩ => ⟨S384x2048, .bf16⟩
  | .local _ .vmem, ⟨9, _⟩ => ⟨S384x2048, .bf16⟩
  | .local _ .vmem, ⟨10, _⟩ => ⟨S1x2048, .f32⟩
  | _, _ => ⟨S4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_23 : BitVec 32 := 0#32
  let v73 : BitVec 1 := Scalar.cmpi .ne v72 c0_i32_23
  v73

def k0_cond2 (i : grid0.Coords) : BitVec 1 :=
  let arg0 : BitVec 32 := BitVec.ofNat 32 (i 0).val
  let c0_i32_24 : BitVec 32 := 0#32
  let v74 : BitVec 1 := Scalar.cmpi .sgt arg0 c0_i32_24
  let v75 : BitVec 32 := Scalar.extui v74
  let c0_i32_25 : BitVec 32 := 0#32
  let v76 : BitVec 1 := Scalar.cmpi .ne v75 c0_i32_25
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4112x2048 : Shape := ⟨2, ![4112, 2048]⟩
abbrev S2048 : Shape := ⟨1, ![2048]⟩
abbrev S4096x2048 : Shape := ⟨2, ![4096, 2048]⟩
abbrev S_ : Shape := ⟨0, ![]⟩
abbrev S4112 : Shape := ⟨1, ![4112]⟩
abbrev S4112x1 : Shape := ⟨2, ![4112, 1]⟩
abbrev S1x2048 : Shape := ⟨2, ![1, 2048]⟩
abbrev S4096 : Shape := ⟨1, ![4096]⟩
abbrev S4224x2048 : Shape := ⟨2, ![4224, 2048]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4112x2048, .f32⟩
  | .hbm, ⟨1, _⟩ => ⟨S2048, .f32⟩
  | .hbm, ⟨2, _⟩ => ⟨S4096x2048, .f32⟩
  | .hbm, ⟨3, _⟩ => ⟨S4112x2048, .f32⟩
  | .hbm, ⟨4, _⟩ => ⟨S_, .f32⟩
  | .hbm, ⟨5, _⟩ => ⟨S4112, .f32⟩
  | .hbm, ⟨6, _⟩ => ⟨S4112x1, .f32⟩
  | .hbm, ⟨7, _⟩ => ⟨S_, .f32⟩
  | .hbm, ⟨8, _⟩ => ⟨S4112x1, .f32⟩
  | .hbm, ⟨9, _⟩ => ⟨S4112x1, .f32⟩
  | .hbm, ⟨10, _⟩ => ⟨S_, .f32⟩
  | .hbm, ⟨11, _⟩ => ⟨S4112x1, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S_, .f32⟩
  | .hbm, ⟨16, _⟩ => ⟨S4112x1, .f32⟩
  | .hbm, ⟨17, _⟩ => ⟨S4112x1, .f32⟩
  | .hbm, ⟨18, _⟩ => ⟨S4112x2048, .f32⟩
  | .hbm, ⟨19, _⟩ => ⟨S4112x2048, .f32⟩
  | .hbm, ⟨20, _⟩ => ⟨S1x2048, .f32⟩
  | .hbm, ⟨21, _⟩ => ⟨S4112x2048, .f32⟩
  | .hbm, ⟨22, _⟩ => ⟨S4112x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4112x2048, .f32⟩
  | .hbm, ⟨49, _⟩ => ⟨S4112x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S4112x2048, .f32⟩
  | .hbm, ⟨54, _⟩ => ⟨S4112x2048, .f32⟩
  | .hbm, ⟨55, _⟩ => ⟨S_, .f32⟩
  | .hbm, ⟨56, _⟩ => ⟨S2048, .f32⟩
  | .hbm, ⟨57, _⟩ => ⟨S4112x2048, .f32⟩
  | .hbm, ⟨58, _⟩ => ⟨S_, .f32⟩
  | .hbm, ⟨59, _⟩ => ⟨S4112, .f32⟩
  | .hbm, ⟨60, _⟩ => ⟨S4112x1, .f32⟩
  | .hbm, ⟨61, _⟩ => ⟨S4112x2048, .f32⟩
  | .hbm, ⟨62, _⟩ => ⟨S4112x2048, .f32⟩
  | .hbm, ⟨63, _⟩ => ⟨S4112x1, .f32⟩
  | .hbm, ⟨64, _⟩ => ⟨S_, .f32⟩
  | .hbm, ⟨65, _⟩ => ⟨S4112x1, .f32⟩
  | .hbm, ⟨66, _⟩ => ⟨S4112x1, .f32⟩
  | .hbm, ⟨67, _⟩ => ⟨S_, .f32⟩
  | .hbm, ⟨68, _⟩ => ⟨S4112, .f32⟩
  | .hbm, ⟨69, _⟩ => ⟨S4112x2048, .f32⟩
  | .hbm, ⟨70, _⟩ => ⟨S4112x2048, .f32⟩
  | .hbm, ⟨71, _⟩ => ⟨S4112x2048, .f32⟩
  | .hbm, ⟨72, _⟩ => ⟨S4112x2048, .f32⟩
  | .hbm, ⟨73, _⟩ => ⟨S4112x2048, .f32⟩
  | .hbm, ⟨74, _⟩ => ⟨S_, .i32⟩
  | .hbm, ⟨75, _⟩ => ⟨S_, .f32⟩
  | .hbm, ⟨76, _⟩ => ⟨S4224x2048, .f32⟩
  | .hbm, ⟨77, _⟩ => ⟨S1x128, .f32⟩
  | .hbm, ⟨78, _⟩ => ⟨S4224x2048, .bf16⟩
  | .hbm, ⟨79, _⟩ => ⟨S1x2048, .f32⟩
  | _, _ => ⟨S4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c : Ref sig .tc := ⟨.hbm, 74, rfl⟩
abbrev main_call0_v0 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]
-- ==== PrepBwd.lean ====
abbrev S4112x1088 : Shape := ⟨2, ![4112, 1088]⟩
abbrev S512 : Shape := ⟨1, ![512]⟩
abbrev S4112x32 : Shape := ⟨2, ![4112, 32]⟩
abbrev S4112x512 : Shape := ⟨2, ![4112, 512]⟩
abbrev S16x4112x64 : Shape := ⟨3, ![16, 4112, 64]⟩
abbrev S_ : Shape := ⟨0, ![]⟩
abbrev S16x4224x128 : Shape := ⟨3, ![16, 4224, 128]⟩
abbrev S1x4112x1x32 : Shape := ⟨4, ![1, 4112, 1, 32]⟩
abbrev S1x4112x4x32 : Shape := ⟨4, ![1, 4112, 4, 32]⟩
abbrev S4112x128 : Shape := ⟨2, ![4112, 128]⟩
abbrev S4224x128 : Shape := ⟨2, ![4224, 128]⟩
abbrev S4224x512 : Shape := ⟨2, ![4224, 512]⟩
abbrev S4224x1152 : Shape := ⟨2, ![4224, 1152]⟩
abbrev S1x512 : Shape := ⟨2, ![1, 512]⟩
abbrev S384x512 : Shape := ⟨2, ![384, 512]⟩
abbrev S16x384x128 : Shape := ⟨3, ![16, 384, 128]⟩
abbrev S384x1152 : Shape := ⟨2, ![384, 1152]⟩
abbrev S384x128 : Shape := ⟨2, ![384, 128]⟩
abbrev S384 : Shape := ⟨1, ![384]⟩
abbrev S384x1 : Shape := ⟨2, ![384, 1]⟩
abbrev S1x384x128 : Shape := ⟨3, ![1, 384, 128]⟩

abbrev nBuf : Space → Nat
  | .hbm => 37
  | .vmem => 18
  | .smem => 0
  | _ => 0

abbrev bufTy : (tb : Table) → Fin (tcTables nBuf tb) → BufTy
  | .hbm, ⟨0, _⟩ => ⟨S4112x1088, .f32⟩
  | .hbm, ⟨1, _⟩ => ⟨S512, .f32⟩
  | .hbm, ⟨2, _⟩ => ⟨S512, .f32⟩
  | .hbm, ⟨3, _⟩ => ⟨S4112x32, .f32⟩
  | .hbm, ⟨4, _⟩ => ⟨S4112x32, .f32⟩
  | .hbm, ⟨5, _⟩ => ⟨S4112x512, .f32⟩
  | .hbm, ⟨6, _⟩ => ⟨S4112x512, .f32⟩
  | .hbm, ⟨7, _⟩ => ⟨S16x4112x64, .f32⟩
  | .hbm, ⟨8, _⟩ => ⟨S_, .i32⟩
  | .hbm, ⟨9, _⟩ => ⟨S_, .f32⟩
  | .hbm, ⟨10, _⟩ => ⟨S16x4224x128, .f32⟩
  | .hbm, ⟨11, _⟩ => ⟨S1x4112x1x32, .f32⟩
  | .hbm, ⟨12, _⟩ => ⟨S1x4112x4x32, .f32⟩
  | .hbm, ⟨13, _⟩ => ⟨S4112x128, .f32⟩
  | .hbm, ⟨14, _⟩ => ⟨S_, .i32⟩
  | .hbm, ⟨15, _⟩ => ⟨S_, .f32⟩
  | .hbm, ⟨16, _⟩ => ⟨S4224x128, .f32⟩
  | .hbm, ⟨17, _⟩ => ⟨S1x4112x1x32, .f32⟩
  | .hbm, ⟨18, _⟩ => ⟨S1x4112x4x32, .f32⟩
  | .hbm, ⟨19, _⟩ => ⟨S4112x128, .f32⟩
  | .hbm, ⟨20, _⟩ => ⟨S_, .i32⟩
  | .hbm, ⟨21, _⟩ => ⟨S_, .f32⟩
  | .hbm, ⟨22, _⟩ => ⟨S4224x128, .f32⟩
  | .hbm, ⟨23, _⟩ => ⟨S_, .i32⟩
  | .hbm, ⟨24, _⟩ => ⟨S_, .f32⟩
  | .hbm, ⟨25, _⟩ => ⟨S4224x512, .f32⟩
  | .hbm, ⟨26, _⟩ => ⟨S_, .i32⟩
  | .hbm, ⟨27, _⟩ => ⟨S_, .f32⟩
  | .hbm, ⟨28, _⟩ => ⟨S4224x512, .f32⟩
  | .hbm, ⟨29, _⟩ => ⟨S_, .i32⟩
  | .hbm, ⟨30, _⟩ => ⟨S_, .f32⟩
  | .hbm, ⟨31, _⟩ => ⟨S4224x1152, .f32⟩
  | .hbm, ⟨32, _⟩ => ⟨S1x512, .f32⟩
  | .hbm, ⟨33, _⟩ => ⟨S1x512, .f32⟩
  | .hbm, ⟨34, _⟩ => ⟨S4224x1152, .bf16⟩
  | .hbm, ⟨35, _⟩ => ⟨S1x512, .f32⟩
  | .hbm, ⟨36, _⟩ => ⟨S1x512, .f32⟩
  | .local _ .vmem, ⟨0, _⟩ => ⟨S384x512, .f32⟩
  | .local _ .vmem, ⟨1, _⟩ => ⟨S384x512, .f32⟩
  | .local _ .vmem, ⟨2, _⟩ => ⟨S384x512, .f32⟩
  | .local _ .vmem, ⟨3, _⟩ => ⟨S384x512, .f32⟩
  | .local _ .vmem, ⟨4, _⟩ => ⟨S16x384x128, .f32⟩
  | .local _ .vmem, ⟨5, _⟩ => ⟨S16x384x128, .f32⟩
  | .local _ .vmem, ⟨6, _⟩ => ⟨S384x1152, .f32⟩
  | .local _ .vmem, ⟨7, _⟩ => ⟨S384x1152, .f32⟩
  | .local _ .vmem, ⟨8, _⟩ => ⟨S1x512, .f32⟩
  | .local _ .vmem, ⟨9, _⟩ => ⟨S1x512, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | .local _ .vmem, ⟨14, _⟩ => ⟨S384x1152, .bf16⟩
  | .local _ .vmem, ⟨15, _⟩ => ⟨S384x1152, .bf16⟩
  | .local _ .vmem, ⟨16, _⟩ => ⟨S1x512, .f32⟩
  | .local _ .vmem, ⟨17, _⟩ => ⟨S1x512, .f32⟩
  | _, _ => ⟨S4112x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_c_2 : Ref sig .tc := ⟨.hbm, 23, rfl⟩
abbrev main_call3_v0 : Ref sig .tc := ⟨.hbm, 24, rfl⟩
abbrev main_v9 : Ref sig .tc := ⟨.hbm, 25, rfl⟩
abbrev main_c_3 : Ref sig .tc := ⟨.hbm, 26, rfl⟩
abbrev main_call4_v0 : Ref sig .tc := ⟨.hbm, 27, rfl⟩
abbrev main_v10 : Ref sig .tc := ⟨.hbm, 28, rfl⟩
abbrev main_c_4 : Ref sig .tc := ⟨.hbm, 29, rfl⟩
abbrev main_call5_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v14_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32_64 : BitVec 32 := 0#32
  let v143 : BitVec 1 := Scalar.cmpi .eq arg0 c0_i32_64
  let v144 : BitVec 32 := Scalar.extui v143
  let c0_i32_65 : BitVec 32 := 0#32
  let v145 : BitVec 1 := Scalar.cmpi .ne v144 c0_i32_65
  v145

def k0_cond2 (i : grid0.Coords) : BitVec 1 :=
  let arg0 : BitVec 32 := BitVec.ofNat 32 (i 0).val
  let c0_i32_66 : BitVec 32 := 0#32
  let v146 : BitVec 1 := Scalar.cmpi .sgt arg0 c0_i32_66
  let v147 : BitVec 32 := Scalar.extui v146
  let c0_i32_67 : BitVec 32 := 0#32
  let v148 : BitVec 1 := Scalar.cmpi .ne v147 c0_i32_67
  v148

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1152 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PrepRefIdeal.lean ====
abbrev S4112x1088 : Shape := ⟨2, ![4112, 1088]⟩
abbrev S512 : Shape := ⟨1, ![512]⟩
abbrev S4112x32 : Shape := ⟨2, ![4112, 32]⟩
abbrev S4112x512 : Shape := ⟨2, ![4112, 512]⟩
abbrev S16x4112x64 : Shape := ⟨3, ![16, 4112, 64]⟩
abbrev S4112x64 : Shape := ⟨2, ![4112, 64]⟩
abbrev S_ : Shape := ⟨0, ![]⟩
abbrev S4112 : Shape := ⟨1, ![4112]⟩
abbrev S4112x1 : Shape := ⟨2, ![4112, 1]⟩
abbrev S1x512 : Shape := ⟨2, ![1, 512]⟩
abbrev S1x4112x64 : Shape := ⟨3, ![1, 4112, 64]⟩
abbrev S4224x1152 : Shape := ⟨2, ![4224, 1152]⟩

abbrev nBuf : Space → Nat
  | .hbm => 134
  | .vmem => 0
  | .smem => 0
  | _ => 0

abbrev hbmTy0_0 (i : Nat) : BufTy := match i % 128 with
  | 0 => ⟨S4112x1088, .f32⟩
  | 1 => ⟨S512, .f32⟩
  | 2 => ⟨S512, .f32⟩
  | 3 => ⟨S4112x32, .f32⟩
  | 4 => ⟨S4112x32, .f32⟩
  | 5 => ⟨S4112x512, .f32⟩
  | 6 => ⟨S4112x512, .f32⟩
  | 7 => ⟨S16x4112x64, .f32⟩
  | 8 => ⟨S4112x512, .f32⟩
  | 9 => ⟨S4112x512, .f32⟩
  | 10 => ⟨S4112x64, .f32⟩
  | 11 => ⟨S4112x32, .f32⟩
  | 12 => ⟨S4112x32, .f32⟩
  | 13 => ⟨S4112x32, .f32⟩
  | 14 => ⟨S4112x32, .f32⟩
  | 15 => ⟨S4112x32, .f32⟩
  | 16 => ⟨S4112x32, .f32⟩
  | 17 => ⟨S4112x32, .f32⟩
  | 18 => ⟨S4112x32, .f32⟩
  | 19 => ⟨S4112x64, .f32⟩
  | 20 => ⟨S4112x512, .f32⟩
  | 21 => ⟨S_, .f32⟩
  | 22 => ⟨S4112, .f32⟩
  | 23 => ⟨S4112x1, .f32⟩
  | 24 => ⟨S_, .f32⟩
  | 25 => ⟨S4112x1, .f32⟩
  | 26 => ⟨S4112x1, .f32⟩
  | 27 => ⟨S_, .f32⟩
  | 28 => ⟨S4112x1, .f32⟩
  | 29 => ⟨S4112x1, .f32⟩
  | 30 => ⟨S4112x1, .f32⟩
  | 31 => ⟨S4112x1, .f32⟩
  | 32 => ⟨S_, .f32⟩
  | 33 => ⟨S4112x1, .f32⟩
  | 34 => ⟨S4112x1, .f32⟩
  | 35 => ⟨S4112x512, .f32⟩
  | 36 => ⟨S4112x512, .f32⟩
  | 37 => ⟨S1x512, .f32⟩
  | 38 => ⟨S4112x512, .f32⟩
  | 39 => ⟨S4112x512, .f32⟩
  | 40 => ⟨S4112x512, .f32⟩
  | 41 => ⟨S_, .f32⟩
  | 42 => ⟨S4112, .f32⟩
  | 43 => ⟨S4112x1, .f32⟩
  | 44 => ⟨S_, .f32⟩
  | 45 => ⟨S4112x1, .f32⟩
  | 46 => ⟨S4112x1, .f32⟩
  | 47 => ⟨S_, .f32⟩
  | 48 => ⟨S4112x1, .f32⟩
  | 49 => ⟨S4112x1, .f32⟩
  | 50 => ⟨S4112x1, .f32⟩
  | 51 => ⟨S4112x1, .f32⟩
  | 52 => ⟨S_, .f32⟩
  | 53 => ⟨S4112x1, .f32⟩
  | 54 => ⟨S4112x1, .f32⟩
  | 55 => ⟨S4112x512, .f32⟩
  | 56 => ⟨S4112x512, .f32⟩
  | 57 => ⟨S1x512, .f32⟩
  | 58 => ⟨S4112x512, .f32⟩
  | 59 => ⟨S4112x512, .f32⟩
  | 60 => ⟨S1x4112x64, .f32⟩
  | 61 => ⟨S16x4112x64, .f32⟩
  | 62 => ⟨S_, .f32⟩
  | 63 => ⟨S4112x64, .f32⟩
  | 64 => ⟨S1x4112x64, .f32⟩
  | 65 => ⟨S_, .f32⟩
  | 66 => ⟨S4112x64, .f32⟩
  | 67 => ⟨S4112x512, .f32⟩
  | 68 => ⟨S_, .f32⟩
  | 69 => ⟨S512, .f32⟩
  | 70 => ⟨S1x512, .f32⟩
  | 71 => ⟨S4112x512, .f32⟩
  | 72 => ⟨S4112x512, .f32⟩
  | 73 => ⟨S_, .f32⟩
  | 74 => ⟨S512, .f32⟩
  | 75 => ⟨S4112x512, .f32⟩
  | 76 => ⟨S_, .f32⟩
  | 77 => ⟨S4112, .f32⟩
  | 78 => ⟨S4112x1, .f32⟩
  | 79 => ⟨S4112x512, .f32⟩
  | 80 => ⟨S4112x512, .f32⟩
  | 81 => ⟨S4112x1, .f32⟩
  | 82 => ⟨S_, .f32⟩
  | 83 => ⟨S4112x1, .f32⟩
  | 84 => ⟨S4112x1, .f32⟩
  | 85 => ⟨S_, .f32⟩
  | 86 => ⟨S4112, .f32⟩
  | 87 => ⟨S4112x512, .f32⟩
  | 88 => ⟨S4112x512, .f32⟩
  | 89 => ⟨S4112x512, .f32⟩
  | 90 => ⟨S4112x512, .f32⟩
  | 91 => ⟨S4112x512, .f32⟩
  | 92 => ⟨S4112x512, .f32⟩
  | 93 => ⟨S_, .f32⟩
  | 94 => ⟨S512, .f32⟩
  | 95 => ⟨S1x512, .f32⟩
  | 96 => ⟨S4112x512, .f32⟩
  | 97 => ⟨S4112x512, .f32⟩
  | 98 => ⟨S_, .f32⟩
  | 99 => ⟨S512, .f32⟩
  | 100 => ⟨S4112x512, .f32⟩
  | 101 => ⟨S_, .f32⟩
  | 102 => ⟨S4112, .f32⟩
  | 103 => ⟨S4112x1, .f32⟩
  | 104 => ⟨S4112x512, .f32⟩
  | 105 => ⟨S4112x512, .f32⟩
  | 106 => ⟨S4112x1, .f32⟩
  | 107 => ⟨S_, .f32⟩
  | 108 => ⟨S4112x1, .f32⟩
  | 109 => ⟨S4112x1, .f32⟩
  | 110 => ⟨S_, .f32⟩
  | 111 => ⟨S4112, .f32⟩
  | 112 => ⟨S4112x512, .f32⟩
  | 113 => ⟨S4112x512, .f32⟩
  | 114 => ⟨S4112x512, .f32⟩
  | 115 => ⟨S4112x512, .f32⟩
  | 116 => ⟨S4112x512, .f32⟩
  | 117 => ⟨S4112x32, .f32⟩
  | 118 => ⟨S4112x32, .f32⟩
  | 119 => ⟨S4112x32, .f32⟩
  | 120 => ⟨S4112x32, .f32⟩
  | 121 => ⟨S4112x32, .f32⟩
  | 122 => ⟨S4112x32, .f32⟩
  | 123 => ⟨S4112x32, .f32⟩
  | 124 => ⟨S4112x32, .f32⟩
  | 125 => ⟨S4112x32, .f32⟩
  | 126 => ⟨S4112x64, .f32⟩
  | 127 => ⟨S4112x1088, .f32⟩
  | _ => ⟨S4112x1088, .f32⟩

abbrev hbmTy0_1 (i : Nat) : BufTy := match i % 128 with
  | 0 => ⟨S_, .i32⟩
  | 1 => ⟨S_, .f32⟩
  | 2 => ⟨S4224x1152, .f32⟩
  | 3 => ⟨S4224x1152, .bf16⟩
  | 4 => ⟨S1x512, .f32⟩
  | 5 => ⟨S1x512, .f32⟩
  | _ => ⟨S4112x1088, .f32⟩

abbrev hbmTy (i : Nat) : BufTy := match i / 128 with
  | 0 => hbmTy0_0 i
  | 1 => hbmTy0_1 i
  | _ => ⟨S4112x1088, .f32⟩

abbrev bufTy : (tb : Table) → Fin (tcTables nBuf tb) → BufTy
  | .hbm, ⟨i, _⟩ => hbmTy i
  | _, _ => ⟨S4112x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_15 : Ref sig .tc := ⟨.hbm, 98, rfl⟩
abbrev main_v74 : Ref sig .tc := ⟨.hbm, 99, rfl⟩
abbrev main_v75 : Ref sig .tc := ⟨.hbm, 100, rfl⟩
abbrev main_cst_16 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_17 : Ref sig .tc := ⟨.hbm, 107, rfl⟩
abbrev main_v81 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_c : Ref sig .tc := ⟨.hbm, 128, rfl⟩
abbrev main_call0_v0 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]
-- ==== FfnUp.lean ====
abbrev S4112x2048 : Shape := ⟨2, ![4112, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S_ : Shape := ⟨0, ![]⟩
abbrev S4224x2048 : Shape := ⟨2, ![4224, 2048]⟩
abbrev S2x4224x5632 : Shape := ⟨3, ![2, 4224, 5632]⟩
abbrev S4224x5632 : Shape := ⟨2, ![4224, 5632]⟩
abbrev S704x2048 : Shape := ⟨2, ![704, 2048]⟩
abbrev S1x2048x1408 : Shape := ⟨3, ![1, 2048, 1408]⟩
abbrev S2x704x1408 : Shape := ⟨3, ![2, 704, 1408]⟩
abbrev S704x1408 : Shape := ⟨2, ![704, 1408]⟩
abbrev S2048x1408 : Shape := ⟨2, ![2048, 1408]⟩
abbrev S1x704x1408 : Shape := ⟨3, ![1, 704, 1408]⟩

abbrev nBuf : Space → Nat
  | .hbm => 11
  | .vmem => 10
  | .smem => 0
  | _ => 0

abbrev bufTy : (tb : Table) → Fin (tcTables nBuf tb) → BufTy
  | .hbm, ⟨0, _⟩ => ⟨S4112x2048, .f32⟩
  | .hbm, ⟨1, _⟩ => ⟨S2048x11264, .f32⟩
  | .hbm, ⟨2, _⟩ => ⟨S2048x8x1408, .f32⟩
  | .hbm, ⟨3, _⟩ => ⟨S8x2048x1408, .f32⟩
  | .hbm, ⟨4, _⟩ => ⟨S8x2048x1408, .bf16⟩
  | .hbm, ⟨5, _⟩ => ⟨S_, .i32⟩
  | .hbm, ⟨6, _⟩ => ⟨S_, .f32⟩
  | .hbm, ⟨7, _⟩ => ⟨S4224x2048, .f32⟩
  | .hbm, ⟨8, _⟩ => ⟨S4224x2048, .bf16⟩
  | .hbm, ⟨9, _⟩ => ⟨S2x4224x5632, .bf16⟩
  | .hbm, ⟨10, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x704x1408, .bf16⟩
  | .local _ .vmem, ⟨7, _⟩ => ⟨S2x704x1408, .bf16⟩
  | .local _ .vmem, ⟨8, _⟩ => ⟨S704x1408, .bf16⟩
  | .local _ .vmem, ⟨9, _⟩ => ⟨S704x1408, .bf16⟩
  | _, _ => ⟨S4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x704x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnUpRefIdeal.lean ====
abbrev S4112x2048 : Shape := ⟨2, ![4112, 2048]⟩
abbrev S2048x11264 : Shape := ⟨2, ![2048, 11264]⟩
abbrev S4112x11264 : Shape := ⟨2, ![4112, 11264]⟩
abbrev S4112x5632 : Shape := ⟨2, ![4112, 5632]⟩
abbrev S1x4112x5632 : Shape := ⟨3, ![1, 4112, 5632]⟩
abbrev S2x4112x5632 : Shape := ⟨3, ![2, 4112, 5632]⟩
abbrev S_ : Shape := ⟨0, ![]⟩
abbrev S2x4224x5632 : Shape := ⟨3, ![2, 4224, 5632]⟩
abbrev S4224x5632 : Shape := ⟨2, ![4224, 5632]⟩

abbrev nBuf : Space → Nat
  | .hbm => 26
  | .vmem => 0
  | .smem => 0
  | _ => 0

abbrev bufTy : (tb : Table) → Fin (tcTables nBuf tb) → BufTy
  | .hbm, ⟨0, _⟩ => ⟨S4112x2048, .f32⟩
  | .hbm, ⟨1, _⟩ => ⟨S2048x11264, .f32⟩
  | .hbm, ⟨2, _⟩ => ⟨S4112x11264, .f32⟩
  | .hbm, ⟨3, _⟩ => ⟨S4112x5632, .f32⟩
  | .hbm, ⟨4, _⟩ => ⟨S4112x5632, .f32⟩
  | .hbm, ⟨5, _⟩ => ⟨S1x4112x5632, .f32⟩
  | .hbm, ⟨6, _⟩ => ⟨S1x4112x5632, .f32⟩
  | .hbm, ⟨7, _⟩ => ⟨S2x4112x5632, .f32⟩
  | .hbm, ⟨8, _⟩ => ⟨S_, .i32⟩
  | .hbm, ⟨9, _⟩ => ⟨S_, .f32⟩
  | .hbm, ⟨10, _⟩ => ⟨S2x4224x5632, .f32⟩
  | .hbm, ⟨11, _⟩ => ⟨S2x4224x5632, .bf16⟩
  | .hbm, ⟨12, _⟩ => ⟨S4112x5632, .f32⟩
  | .hbm, ⟨13, _⟩ => ⟨S4112x5632, .f32⟩
  | .hbm, ⟨14, _⟩ => ⟨S_, .f32⟩
  | .hbm, ⟨15, _⟩ => ⟨S4112x5632, .f32⟩
  | .hbm, ⟨16, _⟩ => ⟨S4112x5632, .f32⟩
  | .hbm, ⟨17, _⟩ => ⟨S_, .f32⟩
  | .hbm, ⟨18, _⟩ => ⟨S4112x5632, .f32⟩
  | .hbm, ⟨19, _⟩ => ⟨S4112x5632, .f32⟩
  | .hbm, ⟨20, _⟩ => ⟨S4112x5632, .f32⟩
  | .hbm, ⟨21, _⟩ => ⟨S4112x5632, .f32⟩
  | .hbm, ⟨22, _⟩ => ⟨S_, .i32⟩
  | .hbm, ⟨23, _⟩ => ⟨S_, .f32⟩
  | .hbm, ⟨24, _⟩ => ⟨S4224x5632, .f32⟩
  | .hbm, ⟨25, _⟩ => ⟨S4224x5632, .bf16⟩
  | _, _ => ⟨S4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_call1_v0 : Ref sig .tc := ⟨.hbm, 12, rfl⟩
abbrev main_call1_v1 : Ref sig .tc := ⟨.hbm, 13, rfl⟩
abbrev main_call1_cst : Ref sig .tc := ⟨.hbm, 14, rfl⟩
abbrev main_call1_v2 : Ref sig .tc := ⟨.hbm, 15, rfl⟩
abbrev main_call1_v3 : Ref sig .tc := ⟨.hbm, 16, rfl⟩
abbrev main_call1_cst_0 : Ref sig .tc := ⟨.hbm, 17, rfl⟩
abbrev main_call1_v4 : Ref sig .tc := ⟨.hbm, 18, rfl⟩
abbrev main_call1_v5 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call2_v0 : Ref sig .tc := ⟨.hbm, 23, rfl⟩
abbrev main_v10 : Ref sig .tc := ⟨.hbm, 24, rfl⟩
abbrev main_v11 : Ref sig .tc := ⟨.hbm, 25, rfl⟩

abbrev nD : Nat := 1
abbrev τ : Topo := Topo.v7x

variable {F : FTy → Type} [FloatOps F]
-- ==== FfnDact.lean ====
abbrev S4112x2048 : Shape := ⟨2, ![4112, 2048]⟩
abbrev S2048x11264 : Shape := ⟨2, ![2048, 11264]⟩
abbrev S5632x2048 : Shape := ⟨2, ![5632, 2048]⟩
abbrev S4112x11264 : Shape := ⟨2, ![4112, 11264]⟩
abbrev S4112x5632 : Shape := ⟨2, ![4112, 5632]⟩
abbrev S1x4112x5632 : Shape := ⟨3, ![1, 4112, 5632]⟩
abbrev S2x4112x5632 : Shape := ⟨3, ![2, 4112, 5632]⟩
abbrev S_ : Shape := ⟨0, ![]⟩
abbrev S2x4224x5632 : Shape := ⟨3, ![2, 4224, 5632]⟩
abbrev S4224x2048 : Shape := ⟨2, ![4224, 2048]⟩
abbrev S704x2048 : Shape := ⟨2, ![704, 2048]⟩
abbrev S1408x2048 : Shape := ⟨2, ![1408, 2048]⟩
abbrev S2x704x1408 : Shape := ⟨3, ![2, 704, 1408]⟩
abbrev S704x1408 : Shape := ⟨2, ![704, 1408]⟩
abbrev S1x704x1408 : Shape := ⟨3, ![1, 704, 1408]⟩

abbrev nBuf : Space → Nat
  | .hbm => 20
  | .vmem => 8
  | .smem => 0
  | _ => 0

abbrev bufTy : (tb : Table) → Fin (tcTables nBuf tb) → BufTy
  | .hbm, ⟨0, _⟩ => ⟨S4112x2048, .f32⟩
  | .hbm, ⟨1, _⟩ => ⟨S2048x11264, .f32⟩
  | .hbm, ⟨2, _⟩ => ⟨S5632x2048, .f32⟩
  | .hbm, ⟨3, _⟩ => ⟨S4112x2048, .f32⟩
  | .hbm, ⟨4, _⟩ => ⟨S4112x11264, .f32⟩
  | .hbm, ⟨5, _⟩ => ⟨S4112x5632, .f32⟩
  | .hbm, ⟨6, _⟩ => ⟨S4112x5632, .f32⟩
  | .hbm, ⟨7, _⟩ => ⟨S1x4112x5632, .f32⟩
  | .hbm, ⟨8, _⟩ => ⟨S1x4112x5632, .f32⟩
  | .hbm, ⟨9, _⟩ => ⟨S2x4112x5632, .f32⟩
  | .hbm, ⟨10, _⟩ => ⟨S_, .i32⟩
  | .hbm, ⟨11, _⟩ => ⟨S_, .f32⟩
  | .hbm, ⟨12, _⟩ => ⟨S2x4224x5632, .f32⟩
  | .hbm, ⟨13, _⟩ => ⟨S2x4224x5632, .bf16⟩
  | .hbm, ⟨14, _⟩ => ⟨S_, .i32⟩
  | .hbm, ⟨15, _⟩ => ⟨S_, .f32⟩
  | .hbm, ⟨16, _⟩ => ⟨S4224x2048, .f32⟩
  | .hbm, ⟨17, _⟩ => ⟨S4224x2048, .bf16⟩
  | .hbm, ⟨18, _⟩ => ⟨S5632x2048, .bf16⟩
  | .hbm, ⟨19, _⟩ => ⟨S2x4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2x704x1408, .bf16⟩
  | .local _ .vmem, ⟨5, _⟩ => ⟨S2x704x1408, .bf16⟩
  | .local _ .vmem, ⟨6, _⟩ => ⟨S2x704x1408, .bf16⟩
  | .local _ .vmem, ⟨7, _⟩ => ⟨S2x704x1408, .bf16⟩
  | _, _ => ⟨S4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x704x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDactRefIdeal.lean ====
abbrev S4112x2048 : Shape := ⟨2, ![4112, 2048]⟩
abbrev S2048x11264 : Shape := ⟨2, ![2048, 11264]⟩
abbrev S5632x2048 : Shape := ⟨2, ![5632, 2048]⟩
abbrev S4112x11264 : Shape := ⟨2, ![4112, 11264]⟩
abbrev S4112x5632 : Shape := ⟨2, ![4112, 5632]⟩
abbrev S_ : Shape := ⟨0, ![]⟩
abbrev S1x4112x5632 : Shape := ⟨3, ![1, 4112, 5632]⟩
abbrev S2x4112x5632 : Shape := ⟨3, ![2, 4112, 5632]⟩
abbrev S2x4224x5632 : Shape := ⟨3, ![2, 4224, 5632]⟩

abbrev nBuf : Space → Nat
  | .hbm => 36
  | .vmem => 0
  | .smem => 0
  | _ => 0

abbrev bufTy : (tb : Table) → Fin (tcTables nBuf tb) → BufTy
  | .hbm, ⟨0, _⟩ => ⟨S4112x2048, .f32⟩
  | .hbm, ⟨1, _⟩ => ⟨S2048x11264, .f32⟩
  | .hbm, ⟨2, _⟩ => ⟨S5632x2048, .f32⟩
  | .hbm, ⟨3, _⟩ => ⟨S4112x2048, .f32⟩
  | .hbm, ⟨4, _⟩ => ⟨S4112x11264, .f32⟩
  | .hbm, ⟨5, _⟩ => ⟨S4112x5632, .f32⟩
  | .hbm, ⟨6, _⟩ => ⟨S4112x5632, .f32⟩
  | .hbm, ⟨7, _⟩ => ⟨S4112x5632, .f32⟩
  | .hbm, ⟨8, _⟩ => ⟨S4112x5632, .f32⟩
  | .hbm, ⟨9, _⟩ => ⟨S_, .f32⟩
  | .hbm, ⟨10, _⟩ => ⟨S4112x5632, .f32⟩
  | .hbm, ⟨11, _⟩ => ⟨S4112x5632, .f32⟩
  | .hbm, ⟨12, _⟩ => ⟨S_, .f32⟩
  | .hbm, ⟨13, _⟩ => ⟨S4112x5632, .f32⟩
  | .hbm, ⟨14, _⟩ => ⟨S4112x5632, .f32⟩
  | .hbm, ⟨15, _⟩ => ⟨S_, .f32⟩
  | .hbm, ⟨16, _⟩ => ⟨S4112x5632, .f32⟩
  | .hbm, ⟨17, _⟩ => ⟨S4112x5632, .f32⟩
  | .hbm, ⟨18, _⟩ => ⟨S4112x5632, .f32⟩
  | .hbm, ⟨19, _⟩ => ⟨S4112x5632, .f32⟩
  | .hbm, ⟨20, _⟩ => ⟨S4112x5632, .f32⟩
  | .hbm, ⟨21, _⟩ => ⟨S4112x2048, .f32⟩
  | .hbm, ⟨22, _⟩ => ⟨S4112x5632, .f32⟩
  | .hbm, ⟨23, _⟩ => ⟨S4112x5632, .f32⟩
  | .hbm, ⟨24, _⟩ => ⟨S4112x5632, .f32⟩
  | .hbm, ⟨25, _⟩ => ⟨S4112x5632, .f32⟩
  | .hbm, ⟨26, _⟩ => ⟨S4112x5632, .f32⟩
  | .hbm, ⟨27, _⟩ => ⟨S4112x5632, .f32⟩
  | .hbm, ⟨28, _⟩ => ⟨S4112x5632, .f32⟩
  | .hbm, ⟨29, _⟩ => ⟨S1x4112x5632, .f32⟩
  | .hbm, ⟨30, _⟩ => ⟨S1x4112x5632, .f32⟩
  | .hbm, ⟨31, _⟩ => ⟨S2x4112x5632, .f32⟩
  | .hbm, ⟨32, _⟩ => ⟨S_, .i32⟩
  | .hbm, ⟨33, _⟩ => ⟨S_, .f32⟩
  | .hbm, ⟨34, _⟩ => ⟨S2x4224x5632, .f32⟩
  | .hbm, ⟨35, _⟩ => ⟨S2x4224x5632, .bf16⟩
  | _, _ => ⟨S4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_call2_v0 : Ref sig .tc := ⟨.hbm, 33, rfl⟩
abbrev main_v13 : Ref sig .tc := ⟨.hbm, 34, rfl⟩
abbrev main_v14 : Ref sig .tc := ⟨.hbm, 35, rfl⟩

abbrev nD : Nat := 1
abbrev τ : Topo := Topo.v7x

variable {F : FTy → Type} [FloatOps F]
-- ==== AttnFwd.lean ====
abbrev S4112x16x192 : Shape := ⟨3, ![4112, 16, 192]⟩
abbrev S4112x16x256 : Shape := ⟨3, ![4112, 16, 256]⟩
abbrev S4112x64 : Shape := ⟨2, ![4112, 64]⟩
abbrev S4112x32 : Shape := ⟨2, ![4112, 32]⟩
abbrev S4112x16x128 : Shape := ⟨3, ![4112, 16, 128]⟩
abbrev S4112x16x64 : Shape := ⟨3, ![4112, 16, 64]⟩
abbrev S4112x1x32 : Shape := ⟨3, ![4112, 1, 32]⟩
abbrev S4112x16x32 : Shape := ⟨3, ![4112, 16, 32]⟩
abbrev S_ : Shape := ⟨0, ![]⟩
abbrev S4224x16x256 : Shape := ⟨3, ![4224, 16, 256]⟩
abbrev S4224x4096 : Shape := ⟨2, ![4224, 4096]⟩
abbrev S4112x4096 : Shape := ⟨2, ![4112, 4096]⟩
abbrev S4224x128 : Shape := ⟨2, ![4224, 128]⟩
abbrev S4224x2048 : Shape := ⟨2, ![4224, 2048]⟩
abbrev S16x4224x128 : Shape := ⟨3, ![16, 4224, 128]⟩
abbrev S4224x256 : Shape := ⟨2, ![4224, 256]⟩
abbrev S1x4224x128 : Shape := ⟨3, ![1, 4224, 128]⟩
abbrev S512x1 : Shape := ⟨2, ![512, 1]⟩
abbrev S512x128 : Shape := ⟨2, ![512, 128]⟩
abbrev S112x128 : Shape := ⟨2, ![112, 128]⟩
abbrev S1x112x128 : Shape := ⟨3, ![1, 112, 128]⟩
abbrev S128x128 : Shape := ⟨2, ![128, 128]⟩
abbrev S128x256 : Shape := ⟨2, ![128, 256]⟩
abbrev S128 : Shape := ⟨1, ![128]⟩
abbrev S128x1 : Shape := ⟨2, ![128, 1]⟩
abbrev S16x128 : Shape := ⟨2, ![16, 128]⟩
abbrev S16x1 : Shape := ⟨2, ![16, 1]⟩
abbrev S1x16x128 : Shape := ⟨3, ![1, 16, 128]⟩
abbrev S256x256 : Shape := ⟨2, ![256, 256]⟩
abbrev S1024x256 : Shape := ⟨2, ![1024, 256]⟩
abbrev S256x1024 : Shape := ⟨2, ![256, 1024]⟩
abbrev S1024x128 : Shape := ⟨2, ![1024, 128]⟩
abbrev S256x1 : Shape := ⟨2, ![256, 1]⟩
abbrev S256 : Shape := ⟨1, ![256]⟩
abbrev S256x128 : Shape := ⟨2, ![256, 128]⟩
abbrev S512x256 : Shape := ⟨2, ![512, 256]⟩
abbrev S256x512 : Shape := ⟨2, ![256, 512]⟩
abbrev S256x384 : Shape := ⟨2, ![256, 384]⟩
abbrev S384x128 : Shape := ⟨2, ![384, 128]⟩
abbrev S256x640 : Shape := ⟨2, ![256, 640]⟩
abbrev S640x128 : Shape := ⟨2, ![640, 128]⟩
abbrev S1x512x128 : Shape := ⟨3, ![1, 512, 128]⟩

abbrev nBuf : Space → Nat
  | .hbm => 39
  | .vmem => 13
  | .smem => 0
  | _ => 0

abbrev bufTy : (tb : Table) → Fin (tcTables nBuf tb) → BufTy
  | .hbm, ⟨0, _⟩ => ⟨S4112x16x192, .f32⟩
  | .hbm, ⟨1, _⟩ => ⟨S4112x16x256, .f32⟩
  | .hbm, ⟨2, _⟩ => ⟨S4112x64, .f32⟩
  | .hbm, ⟨3, _⟩ => ⟨S4112x32, .f32⟩
  | .hbm, ⟨4, _⟩ => ⟨S4112x32, .f32⟩
  | .hbm, ⟨5, _⟩ => ⟨S4112x16x128, .f32⟩
  | .hbm, ⟨6, _⟩ => ⟨S4112x16x64, .f32⟩
  | .hbm, ⟨7, _⟩ => ⟨S4112x1x32, .f32⟩
  | .hbm, ⟨8, _⟩ => ⟨S4112x1x32, .f32⟩
  | .hbm, ⟨9, _⟩ => ⟨S4112x16x32, .f32⟩
  | .hbm, ⟨10, _⟩ => ⟨S4112x16x32, .f32⟩
  | .hbm, ⟨11, _⟩ => ⟨S4112x16x32, .f32⟩
  | .hbm, ⟨12, _⟩ => ⟨S4112x16x32, .f32⟩
  | .hbm, ⟨13, _⟩ => ⟨S4112x16x32, .f32⟩
  | .hbm, ⟨14, _⟩ => ⟨S4112x16x32, .f32⟩
  | .hbm, ⟨15, _⟩ => ⟨S4112x16x32, .f32⟩
  | .hbm, ⟨16, _⟩ => ⟨S4112x16x32, .f32⟩
  | .hbm, ⟨17, _⟩ => ⟨S4112x16x32, .f32⟩
  | .hbm, ⟨18, _⟩ => ⟨S4112x16x32, .f32⟩
  | .hbm, ⟨19, _⟩ => ⟨S4112x16x32, .f32⟩
  | .hbm, ⟨20, _⟩ => ⟨S4112x16x32, .f32⟩
  | .hbm, ⟨21, _⟩ => ⟨S4112x16x64, .f32⟩
  | .hbm, ⟨22, _⟩ => ⟨S4112x16x192, .f32⟩
  | .hbm, ⟨23, _⟩ => ⟨S_, .i32⟩
  | .hbm, ⟨24, _⟩ => ⟨S_, .f32⟩
  | .hbm, ⟨25, _⟩ => ⟨S4224x16x256, .f32⟩
  | .hbm, ⟨26, _⟩ => ⟨S4224x4096, .f32⟩
  | .hbm, ⟨27, _⟩ => ⟨S4224x4096, .bf16⟩
  | .hbm, ⟨28, _⟩ => ⟨S4112x4096, .f32⟩
  | .hbm, ⟨29, _⟩ => ⟨S_, .i32⟩
  | .hbm, ⟨30, _⟩ => ⟨S_, .f32⟩
  | .hbm, ⟨31, _⟩ => ⟨S4224x4096, .f32⟩
  | .hbm, ⟨32, _⟩ => ⟨S4224x4096, .bf16⟩
  | .hbm, ⟨33, _⟩ => ⟨S_, .i32⟩
  | .hbm, ⟨34, _⟩ => ⟨S_, .f32⟩
  | .hbm, ⟨35, _⟩ => ⟨S4224x128, .f32⟩
  | .hbm, ⟨36, _⟩ => ⟨S4224x128, .bf16⟩
  | .hbm, ⟨37, _⟩ => ⟨S4224x2048, .bf16⟩
  | .hbm, ⟨38, _⟩ => ⟨S16x4224x128, .f32⟩
  | .local _ .vmem, ⟨0, _⟩ => ⟨S4224x256, .bf16⟩
  | .local _ .vmem, ⟨1, _⟩ => ⟨S4224x256, .bf16⟩
  | .local _ .vmem, ⟨2, _⟩ => ⟨S4224x256, .bf16⟩
  | .local _ .vmem, ⟨3, _⟩ => ⟨S4224x256, .bf16⟩
  | .local _ .vmem, ⟨4, _⟩ => ⟨S4224x128, .bf16⟩
  | .local _ .vmem, ⟨5, _⟩ => ⟨S4224x128, .bf16⟩
  | .local _ .vmem, ⟨6, _⟩ => ⟨S4224x128, .bf16⟩
  | .local _ .vmem, ⟨7, _⟩ => ⟨S1x4224x128, .f32⟩
  | .local _ .vmem, ⟨8, _⟩ => ⟨S1x4224x128, .f32⟩
  | .local _ .vmem, ⟨9, _⟩ => ⟨S4224x256, .bf16⟩
  | .local _ .vmem, ⟨10, _⟩ => ⟨S512x1, .f32⟩
  | .local _ .vmem, ⟨11, _⟩ => ⟨S512x1, .f32⟩
  | .local _ .vmem, ⟨12, _⟩ => ⟨S512x128, .f32⟩
  | _, _ => ⟨S4112x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_call0_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_call1_v0 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_call2_v0 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v51 : BitVec 32 := Scalar.addi c0_i32 c8_i32
  let c1_i32 : BitVec 32 := 1#32
  ⟨c0_i32, v51, c1_i32⟩
def k0_mult1 (k0_t1 : Fin k0_t1_loop.trips) : BitVec 32 :=
  let c16_i32_29 : BitVec 32 := 16#32
  let c0_i32 : BitVec 32 := 0#32
  let c1_i32 : BitVec 32 := 1#32
  let arg10 : BitVec 32 := Scf.iv c0_i32 c1_i32 k0_t1
  let c512_i32 : BitVec 32 := 512#32
  let v52 : BitVec 32 := Scalar.muli arg10 c512_i32
  let v53 : BitVec 32 := Scalar.addi c16_i32_29 v52
  v53
def k0_off1 (k0_t1 : Fin k0_t1_loop.trips) (c0_i32_30 : BitVec 32) : Fin 2 → Nat :=
  let c16_i32_29 : BitVec 32 := 16#32
  let c0_i32 : BitVec 32 := 0#32
  let c1_i32 : BitVec 32 := 1#32
  let arg10 : BitVec 32 := Scf.iv c0_i32 c1_i32 k0_t1
  let c512_i32 : BitVec 32 := 512#32
  let v52 : BitVec 32 := Scalar.muli arg10 c512_i32
  let v53 : BitVec 32 := Scalar.addi c16_i32_29 v52
  let v54 : BitVec 32 := v53
  let v55 : BitVec 32 := Scalar.addi v54 c0_i32_30
  let v56 : Index := Scalar.indexCast v55
  let c0_31 : Index := 0#32
  ![v56.toNat, 0]
@[reducible] def k0_t2_loop (k0_t1 : Fin k0_t1_loop.trips) : Scf.Loop 32 :=
  let c0_i32_49 : BitVec 32 := 0#32
  let c0_i32 : BitVec 32 := 0#32
  let c1_i32 : BitVec 32 := 1#32
  let arg10 : BitVec 32 := Scf.iv c0_i32 c1_i32 k0_t1
  let c0_i32_42 : BitVec 32 := 0#32
  let v76 : BitVec 1 := Scalar.cmpi .sgt arg10 c0_i32_42
  let v77 : BitVec 32 := Scalar.extui v76
  let c0_i32_43 : BitVec 32 := 0#32
  let v78 : BitVec 1 := Scalar.cmpi .slt arg10 c0_i32_43
  let v79 : BitVec 32 := Scalar.extui v78
  let v80 : BitVec 32 := Scalar.subi v77 v79
  let c2_i32 : BitVec 32 := 2#32
  let c0_i32_44 : BitVec 32 := 0#32
  let v81 : BitVec 1 := Scalar.cmpi .sgt c2_i32 c0_i32_44
  let v82 : BitVec 32 := Scalar.extui v81
  let c0_i32_45 : BitVec 32 := 0#32
  let v83 : BitVec 1 := Scalar.cmpi .slt c2_i32 c0_i32_45
  let v84 : BitVec 32 := Scalar.extui v83
  let v85 : BitVec 32 := Scalar.subi v82 v84
  let v86 : BitVec 1 := Scalar.cmpi .ne v80 v85
  let v87 : BitVec 32 := Scalar.remsi arg10 c2_i32
  let c0_i32_46 : BitVec 32 := 0#32
  let v88 : BitVec 1 := Scalar.cmpi .ne v87 c0_i32_46
  let v89 : BitVec 1 := Scalar.andi v86 v88
  let v75 : BitVec 32 := Scalar.divsi arg10 c2_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let c1_i32_51 : BitVec 32 := 1#32
  ⟨c0_i32_49, v96, c1_i32_51⟩
def k0_mult2 (k0_t1 : Fin k0_t1_loop.trips) (k0_t2 : Fin (k0_t2_loop k0_t1).trips) : BitVec 32 :=
  let c16_i32_134 : BitVec 32 := 16#32
  let c2_i32_132 : BitVec 32 := 2#32
  let c0_i32_49 : BitVec 32 := 0#32
  let c1_i32_51 : BitVec 32 := 1#32
  let arg11 : BitVec 32 := Scf.iv c0_i32_49 c1_i32_51 k0_t2
  let v249 : BitVec 32 := Scalar.muli c2_i32_132 arg11
  let c512_i32_133 : BitVec 32 := 512#32
  let v250 : BitVec 32 := Scalar.muli v249 c512_i32_133
  let v251 : BitVec 32 := Scalar.addi c16_i32_134 v250
  v251
def k0_off2 (k0_t1 : Fin k0_t1_loop.trips) (k0_t2 : Fin (k0_t2_loop k0_t1).trips) : Fin 2 → Nat :=
  let c16_i32_134 : BitVec 32 := 16#32
  let c2_i32_132 : BitVec 32 := 2#32
  let c0_i32_49 : BitVec 32 := 0#32
  let c1_i32_51 : BitVec 32 := 1#32
  let arg11 : BitVec 32 := Scf.iv c0_i32_49 c1_i32_51 k0_t2
  let v249 : BitVec 32 := Scalar.muli c2_i32_132 arg11
  let c512_i32_133 : BitVec 32 := 512#32
  let v250 : BitVec 32 := Scalar.muli v249 c512_i32_133
  let v251 : BitVec 32 := Scalar.addi c16_i32_134 v250
  let v252 : BitVec 32 := v251
  let v253 : Index := Scalar.indexCast v252
  let c0_135 : Index := 0#32
  ![v253.toNat, 0]
def k0_off3 (k0_t1 : Fin k0_t1_loop.trips) (k0_t2 : Fin (k0_t2_loop k0_t1).trips) : Fin 2 → Nat :=
  let c16_i32_134 : BitVec 32 := 16#32
  let c2_i32_132 : BitVec 32 := 2#32
  let c0_i32_49 : BitVec 32 := 0#32
  let c1_i32_51 : BitVec 32 := 1#32
  let arg11 : BitVec 32 := Scf.iv c0_i32_49 c1_i32_51 k0_t2
  let v249 : BitVec 32 := Scalar.muli c2_i32_132 arg11
  let c512_i32_133 : BitVec 32 := 512#32
  let v250 : BitVec 32 := Scalar.muli v249 c512_i32_133
  let v251 : BitVec 32 := Scalar.addi c16_i32_134 v250
  let v252 : BitVec 32 := v251
  let v258 : Index := Scalar.indexCast v252
  let c128_138 : Index := 128#32
  ![v258.toNat, 128]
@[reducible] def k0_t3_loop (k0_t1 : Fin k0_t1_loop.trips) : Scf.Loop 32 :=
  let c0_i32_49 : BitVec 32 := 0#32
  let c0_i32 : BitVec 32 := 0#32
  let c1_i32 : BitVec 32 := 1#32
  let arg10 : BitVec 32 := Scf.iv c0_i32 c1_i32 k0_t1
  let c0_i32_42 : BitVec 32 := 0#32
  let v76 : BitVec 1 := Scalar.cmpi .sgt arg10 c0_i32_42
  let v77 : BitVec 32 := Scalar.extui v76
  let c0_i32_43 : BitVec 32 := 0#32
  let v78 : BitVec 1 := Scalar.cmpi .slt arg10 c0_i32_43
  let v79 : BitVec 32 := Scalar.extui v78
  let v80 : BitVec 32 := Scalar.subi v77 v79
  let c2_i32 : BitVec 32 := 2#32
  let c0_i32_44 : BitVec 32 := 0#32
  let v81 : BitVec 1 := Scalar.cmpi .sgt c2_i32 c0_i32_44
  let v82 : BitVec 32 := Scalar.extui v81
  let c0_i32_45 : BitVec 32 := 0#32
  let v83 : BitVec 1 := Scalar.cmpi .slt c2_i32 c0_i32_45
  let v84 : BitVec 32 := Scalar.extui v83
  let v85 : BitVec 32 := Scalar.subi v82 v84
  let v86 : BitVec 1 := Scalar.cmpi .ne v80 v85
  let v87 : BitVec 32 := Scalar.remsi arg10 c2_i32
  let c0_i32_46 : BitVec 32 := 0#32
  let v88 : BitVec 1 := Scalar.cmpi .ne v87 c0_i32_46
  let v89 : BitVec 1 := Scalar.andi v86 v88
  let v75 : BitVec 32 := Scalar.divsi arg10 c2_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let v93 : BitVec 32 := Scalar.addi c0_i32_49 v92
  let c1_i32_52 : BitVec 32 := 1#32
  ⟨v96, v93, c1_i32_52⟩
def k0_mult3 (k0_t1 : Fin k0_t1_loop.trips) (k0_t3 : Fin (k0_t3_loop k0_t1).trips) : BitVec 32 :=
  let c16_i32_134 : BitVec 32 := 16#32
  let c2_i32_132 : BitVec 32 := 2#32
  let c0_i32_49 : BitVec 32 := 0#32
  let c0_i32 : BitVec 32 := 0#32
  let c1_i32 : BitVec 32 := 1#32
  let arg10 : BitVec 32 := Scf.iv c0_i32 c1_i32 k0_t1
  let c0_i32_42 : BitVec 32 := 0#32
  let v76 : BitVec 1 := Scalar.cmpi .sgt arg10 c0_i32_42
  let v77 : BitVec 32 := Scalar.extui v76
  let c0_i32_43 : BitVec 32 := 0#32
  let v78 : BitVec 1 := Scalar.cmpi .slt arg10 c0_i32_43
  let v79 : BitVec 32 := Scalar.extui v78
  let v80 : BitVec 32 := Scalar.subi v77 v79
  let c2_i32 : BitVec 32 := 2#32
  let c0_i32_44 : BitVec 32 := 0#32
  let v81 : BitVec 1 := Scalar.cmpi .sgt c2_i32 c0_i32_44
  let v82 : BitVec 32 := Scalar.extui v81
  let c0_i32_45 : BitVec 32 := 0#32
  let v83 : BitVec 1 := Scalar.cmpi .slt c2_i32 c0_i32_45
  let v84 : BitVec 32 := Scalar.extui v83
  let v85 : BitVec 32 := Scalar.subi v82 v84
  let v86 : BitVec 1 := Scalar.cmpi .ne v80 v85
  let v87 : BitVec 32 := Scalar.remsi arg10 c2_i32
  let c0_i32_46 : BitVec 32 := 0#32
  let v88 : BitVec 1 := Scalar.cmpi .ne v87 c0_i32_46
  let v89 : BitVec 1 := Scalar.andi v86 v88
  let v75 : BitVec 32 := Scalar.divsi arg10 c2_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let c1_i32_52 : BitVec 32 := 1#32
  let arg11 : BitVec 32 := Scf.iv v96 c1_i32_52 k0_t3
  let v249 : BitVec 32 := Scalar.muli c2_i32_132 arg11
  let c512_i32_133 : BitVec 32 := 512#32
  let v250 : BitVec 32 := Scalar.muli v249 c512_i32_133
  let v251 : BitVec 32 := Scalar.addi c16_i32_134 v250
  v251
def k0_off4 (k0_t1 : Fin k0_t1_loop.trips) (k0_t3 : Fin (k0_t3_loop k0_t1).trips) : Fin 2 → Nat :=
  let c16_i32_134 : BitVec 32 := 16#32
  let c2_i32_132 : BitVec 32 := 2#32
  let c0_i32_49 : BitVec 32 := 0#32
  let c0_i32 : BitVec 32 := 0#32
  let c1_i32 : BitVec 32 := 1#32
  let arg10 : BitVec 32 := Scf.iv c0_i32 c1_i32 k0_t1
  let c0_i32_42 : BitVec 32 := 0#32
  let v76 : BitVec 1 := Scalar.cmpi .sgt arg10 c0_i32_42
  let v77 : BitVec 32 := Scalar.extui v76
  let c0_i32_43 : BitVec 32 := 0#32
  let v78 : BitVec 1 := Scalar.cmpi .slt arg10 c0_i32_43
  let v79 : BitVec 32 := Scalar.extui v78
  let v80 : BitVec 32 := Scalar.subi v77 v79
  let c2_i32 : BitVec 32 := 2#32
  let c0_i32_44 : BitVec 32 := 0#32
  let v81 : BitVec 1 := Scalar.cmpi .sgt c2_i32 c0_i32_44
  let v82 : BitVec 32 := Scalar.extui v81
  let c0_i32_45 : BitVec 32 := 0#32
  let v83 : BitVec 1 := Scalar.cmpi .slt c2_i32 c0_i32_45
  let v84 : BitVec 32 := Scalar.extui v83
  let v85 : BitVec 32 := Scalar.subi v82 v84
  let v86 : BitVec 1 := Scalar.cmpi .ne v80 v85
  let v87 : BitVec 32 := Scalar.remsi arg10 c2_i32
  let c0_i32_46 : BitVec 32 := 0#32
  let v88 : BitVec 1 := Scalar.cmpi .ne v87 c0_i32_46
  let v89 : BitVec 1 := Scalar.andi v86 v88
  let v75 : BitVec 32 := Scalar.divsi arg10 c2_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let c1_i32_52 : BitVec 32 := 1#32
  let arg11 : BitVec 32 := Scf.iv v96 c1_i32_52 k0_t3
  let v249 : BitVec 32 := Scalar.muli c2_i32_132 arg11
  let c512_i32_133 : BitVec 32 := 512#32
  let v250 : BitVec 32 := Scalar.muli v249 c512_i32_133
  let v251 : BitVec 32 := Scalar.addi c16_i32_134 v250
  let v252 : BitVec 32 := v251
  let v253 : Index := Scalar.indexCast v252
  let c0_135 : Index := 0#32
  ![v253.toNat, 0]
def k0_off5 (k0_t1 : Fin k0_t1_loop.trips) (k0_t3 : Fin (k0_t3_loop k0_t1).trips) : Fin 2 → Nat :=
  let c16_i32_134 : BitVec 32 := 16#32
  let c2_i32_132 : BitVec 32 := 2#32
  let c0_i32_49 : BitVec 32 := 0#32
  let c0_i32 : BitVec 32 := 0#32
  let c1_i32 : BitVec 32 := 1#32
  let arg10 : BitVec 32 := Scf.iv c0_i32 c1_i32 k0_t1
  let c0_i32_42 : BitVec 32 := 0#32
  let v76 : BitVec 1 := Scalar.cmpi .sgt arg10 c0_i32_42
  let v77 : BitVec 32 := Scalar.extui v76
  let c0_i32_43 : BitVec 32 := 0#32
  let v78 : BitVec 1 := Scalar.cmpi .slt arg10 c0_i32_43
  let v79 : BitVec 32 := Scalar.extui v78
  let v80 : BitVec 32 := Scalar.subi v77 v79
  let c2_i32 : BitVec 32 := 2#32
  let c0_i32_44 : BitVec 32 := 0#32
  let v81 : BitVec 1 := Scalar.cmpi .sgt c2_i32 c0_i32_44
  let v82 : BitVec 32 := Scalar.extui v81
  let c0_i32_45 : BitVec 32 := 0#32
  let v83 : BitVec 1 := Scalar.cmpi .slt c2_i32 c0_i32_45
  let v84 : BitVec 32 := Scalar.extui v83
  let v85 : BitVec 32 := Scalar.subi v82 v84
  let v86 : BitVec 1 := Scalar.cmpi .ne v80 v85
  let v87 : BitVec 32 := Scalar.remsi arg10 c2_i32
  let c0_i32_46 : BitVec 32 := 0#32
  let v88 : BitVec 1 := Scalar.cmpi .ne v87 c0_i32_46
  let v89 : BitVec 1 := Scalar.andi v86 v88
  let v75 : BitVec 32 := Scalar.divsi arg10 c2_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let c1_i32_52 : BitVec 32 := 1#32
  let arg11 : BitVec 32 := Scf.iv v96 c1_i32_52 k0_t3
  let v249 : BitVec 32 := Scalar.muli c2_i32_132 arg11
  let c512_i32_133 : BitVec 32 := 512#32
  let v250 : BitVec 32 := Scalar.muli v249 c512_i32_133
  let v251 : BitVec 32 := Scalar.addi c16_i32_134 v250
  let v252 : BitVec 32 := v251
  let v258 : Index := Scalar.indexCast v252
  let c128_138 : Index := 128#32
  ![v258.toNat, 128]
def k0_cond1 (k0_t1 : Fin k0_t1_loop.trips) : BitVec 1 :=
  let c0_i32 : BitVec 32 := 0#32
  let c1_i32 : BitVec 32 := 1#32
  let arg10 : BitVec 32 := Scf.iv c0_i32 c1_i32 k0_t1
  let c2_i32_53 : BitVec 32 := 2#32
  let c0_i32_54 : BitVec 32 := 0#32
  let v97 : BitVec 1 := Scalar.cmpi .eq c2_i32_53 c0_i32_54
  let c1_i32_55 : BitVec 32 := 1#32
  let v98 : BitVec 32 := Scalar.select v97 c1_i32_55 c2_i32_53
  let v99 : BitVec 32 := Scalar.remsi arg10 v98
  let c0_i32_57 : BitVec 32 := 0#32
  let v101 : BitVec 1 := Scalar.cmpi .slt v99 c0_i32_57
  let c0_i32_58 : BitVec 32 := 0#32
  let v102 : BitVec 1 := Scalar.cmpi .slt v98 c0_i32_58
  let v103 : BitVec 1 := Scalar.xori v101 v102
  let c0_i32_56 : BitVec 32 := 0#32
  let v100 : BitVec 1 := Scalar.cmpi .ne v99 c0_i32_56
  let v104 : BitVec 1 := Scalar.andi v103 v100
  let v105 : BitVec 32 := Scalar.addi v99 v98
  let v106 : BitVec 32 := Scalar.select v104 v105 v99
  let c1_i32_59 : BitVec 32 := 1#32
  let v107 : BitVec 1 := Scalar.cmpi .eq v106 c1_i32_59
  let v108 : BitVec 32 := Scalar.extui v107
  let c0_i32_60 : BitVec 32 := 0#32
  let v109 : BitVec 1 := Scalar.cmpi .ne v108 c0_i32_60
  v109

def k0_mult4 (k0_t1 : Fin k0_t1_loop.trips) : BitVec 32 :=
  let c16_i32_134 : BitVec 32 := 16#32
  let c0_i32 : BitVec 32 := 0#32
  let c1_i32 : BitVec 32 := 1#32
  let arg10 : BitVec 32 := Scf.iv c0_i32 c1_i32 k0_t1
  let c1_i32_132 : BitVec 32 := 1#32
  let v249 : BitVec 32 := Scalar.subi arg10 c1_i32_132
  let c512_i32_133 : BitVec 32 := 512#32
  let v250 : BitVec 32 := Scalar.muli v249 c512_i32_133
  let v251 : BitVec 32 := Scalar.addi c16_i32_134 v250
  v251
def k0_off6 (k0_t1 : Fin k0_t1_loop.trips) : Fin 2 → Nat :=
  let c16_i32_134 : BitVec 32 := 16#32
  let c0_i32 : BitVec 32 := 0#32
  let c1_i32 : BitVec 32 := 1#32
  let arg10 : BitVec 32 := Scf.iv c0_i32 c1_i32 k0_t1
  let c1_i32_132 : BitVec 32 := 1#32
  let v249 : BitVec 32 := Scalar.subi arg10 c1_i32_132
  let c512_i32_133 : BitVec 32 := 512#32
  let v250 : BitVec 32 := Scalar.muli v249 c512_i32_133
  let v251 : BitVec 32 := Scalar.addi c16_i32_134 v250
  let v252 : BitVec 32 := v251
  let v253 : Index := Scalar.indexCast v252
  let c0_135 : Index := 0#32
  ![v253.toNat, 0]
def k0_off7 (k0_t1 : Fin k0_t1_loop.trips) : Fin 2 → Nat :=
  let c16_i32_134 : BitVec 32 := 16#32
  let c0_i32 : BitVec 32 := 0#32
  let c1_i32 : BitVec 32 := 1#32
  let arg10 : BitVec 32 := Scf.iv c0_i32 c1_i32 k0_t1
  let c1_i32_132 : BitVec 32 := 1#32
  let v249 : BitVec 32 := Scalar.subi arg10 c1_i32_132
  let c512_i32_133 : BitVec 32 := 512#32
  let v250 : BitVec 32 := Scalar.muli v249 c512_i32_133
  let v251 : BitVec 32 := Scalar.addi c16_i32_134 v250
  let v252 : BitVec 32 := v251
  let v258 : Index := Scalar.indexCast v252
  let c128_138 : Index := 128#32
  ![v258.toNat, 128]
def k0_off8 (k0_t1 : Fin k0_t1_loop.trips) : Fin 2 → Nat :=
  let c16_i32_29 : BitVec 32 := 16#32
  let c0_i32 : BitVec 32 := 0#32
  let c1_i32 : BitVec 32 := 1#32
  let arg10 : BitVec 32 := Scf.iv c0_i32 c1_i32 k0_t1
  let c512_i32 : BitVec 32 := 512#32
  let v52 : BitVec 32 := Scalar.muli arg10 c512_i32
  let v53 : BitVec 32 := Scalar.addi c16_i32_29 v52
  let v54 : BitVec 32 := v53
  let v128 : Index := Scalar.indexCast v54
  let c0_69 : Index := 0#32
  ![v128.toNat, 0]
def k0_off9 (k0_t1 : Fin k0_t1_loop.trips) : Fin 2 → Nat :=
  let c16_i32_29 : BitVec 32 := 16#32
  let c0_i32 : BitVec 32 := 0#32
  let c1_i32 : BitVec 32 := 1#32
  let arg10 : BitVec 32 := Scf.iv c0_i32 c1_i32 k0_t1
  let c512_i32 : BitVec 32 := 512#32
  let v52 : BitVec 32 := Scalar.muli arg10 c512_i32
  let v53 : BitVec 32 := Scalar.addi c16_i32_29 v52
  let v54 : BitVec 32 := v53
  let v138 : Index := Scalar.indexCast v54
  let c128_75 : Index := 128#32
  ![v138.toNat, 128]
def k0_off10 (k0_t1 : Fin k0_t1_loop.trips) : Fin 2 → Nat :=
  let c16_i32_29 : BitVec 32 := 16#32
  let c0_i32 : BitVec 32 := 0#32
  let c1_i32 : BitVec 32 := 1#32
  let arg10 : BitVec 32 := Scf.iv c0_i32 c1_i32 k0_t1
  let c512_i32 : BitVec 32 := 512#32
  let v52 : BitVec 32 := Scalar.muli arg10 c512_i32
  let v53 : BitVec 32 := Scalar.addi c16_i32_29 v52
  let v54 : BitVec 32 := v53
  let v189 : Index := Scalar.indexCast v54
  let c0_100 : Index := 0#32
  ![v189.toNat, 0]
def k0_off11 (k0_t1 : Fin k0_t1_loop.trips) : Fin 2 → Nat :=
  let c16_i32_29 : BitVec 32 := 16#32
  let c0_i32 : BitVec 32 := 0#32
  let c1_i32 : BitVec 32 := 1#32
  let arg10 : BitVec 32 := Scf.iv c0_i32 c1_i32 k0_t1
  let c512_i32 : BitVec 32 := 512#32
  let v52 : BitVec 32 := Scalar.muli arg10 c512_i32
  let v53 : BitVec 32 := Scalar.addi c16_i32_29 v52
  let v54 : BitVec 32 := v53
  let v199 : Index := Scalar.indexCast v54
  let c128_106 : Index := 128#32
  ![v199.toNat, 128]
def k0_off12 (k0_t1 : Fin k0_t1_loop.trips) : Fin 2 → Nat :=
  let c16_i32_29 : BitVec 32 := 16#32
  let c0_i32 : BitVec 32 := 0#32
  let c1_i32 : BitVec 32 := 1#32
  let arg10 : BitVec 32 := Scf.iv c0_i32 c1_i32 k0_t1
  let c512_i32 : BitVec 32 := 512#32
  let v52 : BitVec 32 := Scalar.muli arg10 c512_i32
  let v53 : BitVec 32 := Scalar.addi c16_i32_29 v52
  let v54 : BitVec 32 := v53
  let v237 : Index := Scalar.indexCast v54
  let c0_125 : Index := 0#32
  ![v237.toNat, 0]
def k0_off13 (k0_t1 : Fin k0_t1_loop.trips) : Fin 3 → Nat :=
  let c0_130 : Index := 0#32
  let c16_i32_29 : BitVec 32 := 16#32
  let c0_i32 : BitVec 32 := 0#32
  let c1_i32 : BitVec 32 := 1#32
  let arg10 : BitVec 32 := Scf.iv c0_i32 c1_i32 k0_t1
  let c512_i32 : BitVec 32 := 512#32
  let v52 : BitVec 32 := Scalar.muli arg10 c512_i32
  let v53 : BitVec 32 := Scalar.addi c16_i32_29 v52
  let v54 : BitVec 32 := v53
  let v245 : Index := Scalar.indexCast v54
  let c0_131 : Index := 0#32
  ![0, v245.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4224x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdIdeal.lean ====
variable {F : FTy → Type} [FloatOps F] [Named F]
def κ : String → Option EReal := fun
  | "mask" => some ⊥
  | _ => none
-- ==== AttendRefIdeal.lean ====
abbrev S4112x16x192 : Shape := ⟨3, ![4112, 16, 192]⟩
abbrev S4112x16x256 : Shape := ⟨3, ![4112, 16, 256]⟩
abbrev S4112x64 : Shape := ⟨2, ![4112, 64]⟩
abbrev S4112x32 : Shape := ⟨2, ![4112, 32]⟩
abbrev S1x4112x64 : Shape := ⟨3, ![1, 4112, 64]⟩
abbrev S16x4112x64 : Shape := ⟨3, ![16, 4112, 64]⟩
abbrev S4112x16x128 : Shape := ⟨3, ![4112, 16, 128]⟩
abbrev S4112x16x64 : Shape := ⟨3, ![4112, 16, 64]⟩
abbrev S4112x1x32 : Shape := ⟨3, ![4112, 1, 32]⟩
abbrev S4112x16x32 : Shape := ⟨3, ![4112, 16, 32]⟩
abbrev S16x4112x4112 : Shape := ⟨3, ![16, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S1x4112x4112 : Shape := ⟨3, ![1, 4112, 4112]⟩
abbrev S16x4112 : Shape := ⟨2, ![16, 4112]⟩
abbrev S16x4112x1 : Shape := ⟨3, ![16, 4112, 1]⟩
abbrev S16x128x4112 : Shape := ⟨3, ![16, 128, 4112]⟩
abbrev S4112x2048 : Shape := ⟨2, ![4112, 2048]⟩
abbrev S4224x2048 : Shape := ⟨2, ![4224, 2048]⟩
abbrev S16x4224x1 : Shape := ⟨3, ![16, 4224, 1]⟩
abbrev S16x4224x128 : Shape := ⟨3, ![16, 4224, 128]⟩

abbrev nBuf : Space → Nat
  | .hbm => 111
  | .vmem => 0
  | .smem => 0
  | _ => 0

abbrev bufTy : (tb : Table) → Fin (tcTables nBuf tb) → BufTy
  | .hbm, ⟨0, _⟩ => ⟨S4112x16x192, .f32⟩
  | .hbm, ⟨1, _⟩ => ⟨S4112x16x256, .f32⟩
  | .hbm, ⟨2, _⟩ => ⟨S4112x64, .f32⟩
  | .hbm, ⟨3, _⟩ => ⟨S4112x32, .f32⟩
  | .hbm, ⟨4, _⟩ => ⟨S4112x32, .f32⟩
  | .hbm, ⟨5, _⟩ => ⟨S1x4112x64, .f32⟩
  | .hbm, ⟨6, _⟩ => ⟨S16x4112x64, .f32⟩
  | .hbm, ⟨7, _⟩ => ⟨S4112x16x128, .f32⟩
  | .hbm, ⟨8, _⟩ => ⟨S4112x16x64, .f32⟩
  | .hbm, ⟨9, _⟩ => ⟨S4112x16x128, .f32⟩
  | .hbm, ⟨10, _⟩ => ⟨S4112x1x32, .f32⟩
  | .hbm, ⟨11, _⟩ => ⟨S4112x1x32, .f32⟩
  | .hbm, ⟨12, _⟩ => ⟨S4112x16x32, .f32⟩
  | .hbm, ⟨13, _⟩ => ⟨S4112x16x32, .f32⟩
  | .hbm, ⟨14, _⟩ => ⟨S4112x16x32, .f32⟩
  | .hbm, ⟨15, _⟩ => ⟨S4112x16x32, .f32⟩
  | .hbm, ⟨16, _⟩ => ⟨S4112x16x32, .f32⟩
  | .hbm, ⟨17, _⟩ => ⟨S4112x16x32, .f32⟩
  | .hbm, ⟨18, _⟩ => ⟨S4112x16x32, .f32⟩
  | .hbm, ⟨19, _⟩ => ⟨S4112x16x32, .f32⟩
  | .hbm, ⟨20, _⟩ => ⟨S4112x16x32, .f32⟩
  | .hbm, ⟨21, _⟩ => ⟨S4112x16x32, .f32⟩
  | .hbm, ⟨22, _⟩ => ⟨S4112x16x32, .f32⟩
  | .hbm, ⟨23, _⟩ => ⟨S4112x16x32, .f32⟩
  | .hbm, ⟨24, _⟩ => ⟨S4112x16x64, .f32⟩
  | .hbm, ⟨25, _⟩ => ⟨S16x4112x4112, .f32⟩
  | .hbm, ⟨26, _⟩ => ⟨S16x4112x4112, .f32⟩
  | .hbm, ⟨27, _⟩ => ⟨S16x4112x4112, .f32⟩
  | .hbm, ⟨28, _⟩ => ⟨S_, .f32⟩
  | .hbm, ⟨29, _⟩ => ⟨S16x4112x4112, .f32⟩
  | .hbm, ⟨30, _⟩ => ⟨S16x4112x4112, .f32⟩
  | .hbm, ⟨31, _⟩ => ⟨S4112, .i32⟩
  | .hbm, ⟨32, _⟩ => ⟨S_, .i32⟩
  | .hbm, ⟨33, _⟩ => ⟨S4112, .i32⟩
  | .hbm, ⟨34, _⟩ => ⟨S4112, .i1⟩
  | .hbm, ⟨35, _⟩ => ⟨S_, .i32⟩
  | .hbm, ⟨36, _⟩ => ⟨S4112, .i32⟩
  | .hbm, ⟨37, _⟩ => ⟨S4112, .i32⟩
  | .hbm, ⟨38, _⟩ => ⟨S_, .i32⟩
  | .hbm, ⟨39, _⟩ => ⟨S_, .i32⟩
  | .hbm, ⟨40, _⟩ => ⟨S4112, .i32⟩
  | .hbm, ⟨41, _⟩ => ⟨S4112, .i32⟩
  | .hbm, ⟨42, _⟩ => ⟨S4112, .i32⟩
  | .hbm, ⟨43, _⟩ => ⟨S_, .i32⟩
  | .hbm, ⟨44, _⟩ => ⟨S4112, .i32⟩
  | .hbm, ⟨45, _⟩ => ⟨S4112, .i1⟩
  | .hbm, ⟨46, _⟩ => ⟨S4112, .i32⟩
  | .hbm, ⟨47, _⟩ => ⟨S4112, .i32⟩
  | .hbm, ⟨48, _⟩ => ⟨S_, .i32⟩
  | .hbm, ⟨49, _⟩ => ⟨S4112, .i32⟩
  | .hbm, ⟨50, _⟩ => ⟨S4112, .i1⟩
  | .hbm, ⟨51, _⟩ => ⟨S4112, .i1⟩
  | .hbm, ⟨52, _⟩ => ⟨S_, .i32⟩
  | .hbm, ⟨53, _⟩ => ⟨S4112, .i32⟩
  | .hbm, ⟨54, _⟩ => ⟨S4112, .i32⟩
  | .hbm, ⟨55, _⟩ => ⟨S4112, .i32⟩
  | .hbm, ⟨56, _⟩ => ⟨S_, .i32⟩
  | .hbm, ⟨57, _⟩ => ⟨S4112, .i32⟩
  | .hbm, ⟨58, _⟩ => ⟨S4112, .i32⟩
  | .hbm, ⟨59, _⟩ => ⟨S_, .i32⟩
  | .hbm, ⟨60, _⟩ => ⟨S_, .i32⟩
  | .hbm, ⟨61, _⟩ => ⟨S4112, .i32⟩
  | .hbm, ⟨62, _⟩ => ⟨S4112, .i32⟩
  | .hbm, ⟨63, _⟩ => ⟨S1x4112, .i32⟩
  | .hbm, ⟨64, _⟩ => ⟨S4112x1, .i32⟩
  | .hbm, ⟨65, _⟩ => ⟨S4112x4112, .i32⟩
  | .hbm, ⟨66, _⟩ => ⟨S4112x4112, .i32⟩
  | .hbm, ⟨67, _⟩ => ⟨S4112x4112, .i1⟩
  | .hbm, ⟨68, _⟩ => ⟨S1x4112x4112, .i1⟩
  | .hbm, ⟨69, _⟩ => ⟨S_, .f32⟩
  | .hbm, ⟨70, _⟩ => ⟨S_, .f32⟩
  | .hbm, ⟨71, _⟩ => ⟨S16x4112x4112, .i1⟩
  | .hbm, ⟨72, _⟩ => ⟨S16x4112x4112, .f32⟩
  | .hbm, ⟨73, _⟩ => ⟨S16x4112x4112, .f32⟩
  | .hbm, ⟨74, _⟩ => ⟨S_, .f32⟩
  | .hbm, ⟨75, _⟩ => ⟨S16x4112, .f32⟩
  | .hbm, ⟨76, _⟩ => ⟨S_, .f32⟩
  | .hbm, ⟨77, _⟩ => ⟨S16x4112, .f32⟩
  | .hbm, ⟨78, _⟩ => ⟨S16x4112, .f32⟩
  | .hbm, ⟨79, _⟩ => ⟨S16x4112x1, .f32⟩
  | .hbm, ⟨80, _⟩ => ⟨S16x4112x4112, .f32⟩
  | .hbm, ⟨81, _⟩ => ⟨S16x4112x4112, .f32⟩
  | .hbm, ⟨82, _⟩ => ⟨S16x4112x4112, .f32⟩
  | .hbm, ⟨83, _⟩ => ⟨S_, .f32⟩
  | .hbm, ⟨84, _⟩ => ⟨S16x4112, .f32⟩
  | .hbm, ⟨85, _⟩ => ⟨S16x4112x1, .f32⟩
  | .hbm, ⟨86, _⟩ => ⟨S16x4112x4112, .f32⟩
  | .hbm, ⟨87, _⟩ => ⟨S16x4112x4112, .f32⟩
  | .hbm, ⟨88, _⟩ => ⟨S4112x16x128, .f32⟩
  | .hbm, ⟨89, _⟩ => ⟨S16x128x4112, .f32⟩
  | .hbm, ⟨90, _⟩ => ⟨S4112x16x128, .f32⟩
  | .hbm, ⟨91, _⟩ => ⟨S4112x2048, .f32⟩
  | .hbm, ⟨92, _⟩ => ⟨S_, .f32⟩
  | .hbm, ⟨93, _⟩ => ⟨S16x4112, .f32⟩
  | .hbm, ⟨94, _⟩ => ⟨S16x4112x1, .f32⟩
  | .hbm, ⟨95, _⟩ => ⟨S16x4112x4112, .f32⟩
  | .hbm, ⟨96, _⟩ => ⟨S16x4112x4112, .f32⟩
  | .hbm, ⟨97, _⟩ => ⟨S16x4112x4112, .f32⟩
  | .hbm, ⟨98, _⟩ => ⟨S_, .f32⟩
  | .hbm, ⟨99, _⟩ => ⟨S16x4112, .f32⟩
  | .hbm, ⟨100, _⟩ => ⟨S16x4112x1, .f32⟩
  | .hbm, ⟨101, _⟩ => ⟨S16x4112x1, .f32⟩
  | .hbm, ⟨102, _⟩ => ⟨S16x4112x1, .f32⟩
  | .hbm, ⟨103, _⟩ => ⟨S_, .i32⟩
  | .hbm, ⟨104, _⟩ => ⟨S_, .f32⟩
  | .hbm, ⟨105, _⟩ => ⟨S4224x2048, .f32⟩
  | .hbm, ⟨106, _⟩ => ⟨S4224x2048, .bf16⟩
  | .hbm, ⟨107, _⟩ => ⟨S_, .i32⟩
  | .hbm, ⟨108, _⟩ => ⟨S_, .f32⟩
  | .hbm, ⟨109, _⟩ => ⟨S16x4224x1, .f32⟩
  | .hbm, ⟨110, _⟩ => ⟨S16x4224x128, .f32⟩
  | _, _ => ⟨S4112x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c : Ref sig .tc := ⟨.hbm, 32, rfl⟩
abbrev main_v26 : Ref sig .tc := ⟨.hbm, 33, rfl⟩
abbrev main_v27 : Ref sig .tc := ⟨.hbm, 34, rfl⟩
abbrev main_c_0 : Ref sig .tc := ⟨.hbm, 35, rfl⟩
abbrev main_v28 : Ref sig .tc := ⟨.hbm, 36, rfl⟩
abbrev main_v29 : Ref sig .tc := ⟨.hbm, 37, rfl⟩
abbrev main_c_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_c : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_call0_c_0 : Ref sig .tc := ⟨.hbm, 52, rfl⟩
abbrev main_call0_v12 : Ref sig .tc := ⟨.hbm, 53, rfl⟩
abbrev main_call0_v13 : Ref sig .tc := ⟨.hbm, 54, rfl⟩
abbrev main_v30 : Ref sig .tc := ⟨.hbm, 55, rfl⟩
abbrev main_c_2 : Ref sig .tc := ⟨.hbm, 56, rfl⟩
abbrev main_v31 : Ref sig .tc := ⟨.hbm, 57, rfl⟩
abbrev main_v32 : Ref sig .tc := ⟨.hbm, 58, rfl⟩
abbrev main_c_3 : Ref sig .tc := ⟨.hbm, 59, rfl⟩
abbrev main_call1_v0 : Ref sig .tc := ⟨.hbm, 60, rfl⟩
abbrev main_call1_v1 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_4 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v40 : Ref sig .tc := ⟨.hbm, 73, rfl⟩
abbrev main_cst_5 : Ref sig .tc := ⟨.hbm, 74, rfl⟩
abbrev main_v41 : Ref sig .tc := ⟨.hbm, 75, rfl⟩
abbrev main_cst_6 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_7 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_8 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_9 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_10 : Ref sig .tc := ⟨.hbm, 103, rfl⟩
abbrev main_call3_v0 : Ref sig .tc := ⟨.hbm, 104, rfl⟩
abbrev main_v65 : Ref sig .tc := ⟨.hbm, 105, rfl⟩
abbrev main_v66 : Ref sig .tc := ⟨.hbm, 106, rfl⟩
abbrev main_c_11 : Ref sig .tc := ⟨.hbm, 107, rfl⟩
abbrev main_call4_v0 : Ref sig .tc := ⟨.hbm, 108, rfl⟩
abbrev main_v67 : Ref sig .tc := ⟨.hbm, 109, rfl⟩
abbrev main_v68 : Ref sig .tc := ⟨.hbm, 110, rfl⟩

abbrev nD : Nat := 1
abbrev τ : Topo := Topo.v7x

variable {F : FTy → Type} [FloatOps F]
-- ==== NormFwd.lean ====
abbrev S4112x2048 : Shape := ⟨2, ![4112, 2048]⟩
abbrev S2048 : Shape := ⟨1, ![2048]⟩
abbrev S_ : Shape := ⟨0, ![]⟩
abbrev S4224x2048 : Shape := ⟨2, ![4224, 2048]⟩
abbrev S1x2048 : Shape := ⟨2, ![1, 2048]⟩
abbrev S1408x2048 : Shape := ⟨2, ![1408, 2048]⟩
abbrev S1408 : Shape := ⟨1, ![1408]⟩
abbrev S1408x1 : Shape := ⟨2, ![1408, 1]⟩

abbrev nBuf : Space → Nat
  | .hbm => 7
  | .vmem => 5
  | .smem => 0
  | _ => 0

abbrev bufTy : (tb : Table) → Fin (tcTables nBuf tb) → BufTy
  | .hbm, ⟨0, _⟩ => ⟨S4112x2048, .f32⟩
  | .hbm, ⟨1, _⟩ => ⟨S2048, .f32⟩
  | .hbm, ⟨2, _⟩ => ⟨S_, .i32⟩
  | .hbm, ⟨3, _⟩ => ⟨S_, .f32⟩
  | .hbm, ⟨4, _⟩ => ⟨S4224x2048, .f32⟩
  | .hbm, ⟨5, _⟩ => ⟨S1x2048, .f32⟩
  | .hbm, ⟨6, _⟩ => ⟨S4224x2048, .bf16⟩
  | .local _ .vmem, ⟨0, _⟩ => ⟨S1408x2048, .f32⟩
  | .local _ .vmem, ⟨1, _⟩ => ⟨S1408x2048, .f32⟩
  | .local _ .vmem, ⟨2, _⟩ => ⟨S1x2048, .f32⟩
  | .local _ .vmem, ⟨3, _⟩ => ⟨S1408x2048, .bf16⟩
  | .local _ .vmem, ⟨4, _⟩ => ⟨S1408x2048, .bf16⟩
  | _, _ => ⟨S4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1408x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4112x2048 : Shape := ⟨2, ![4112, 2048]⟩
abbrev S2048 : Shape := ⟨1, ![2048]⟩
abbrev S_ : Shape := ⟨0, ![]⟩
abbrev S4112 : Shape := ⟨1, ![4112]⟩
abbrev S4112x1 : Shape := ⟨2, ![4112, 1]⟩
abbrev S1x2048 : Shape := ⟨2, ![1, 2048]⟩
abbrev S4224x2048 : Shape := ⟨2, ![4224, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4112x2048, .f32⟩
  | .hbm, ⟨1, _⟩ => ⟨S2048, .f32⟩
  | .hbm, ⟨2, _⟩ => ⟨S4112x2048, .f32⟩
  | .hbm, ⟨3, _⟩ => ⟨S_, .f32⟩
  | .hbm, ⟨4, _⟩ => ⟨S4112, .f32⟩
  | .hbm, ⟨5, _⟩ => ⟨S4112x1, .f32⟩
  | .hbm, ⟨6, _⟩ => ⟨S_, .f32⟩
  | .hbm, ⟨7, _⟩ => ⟨S4112x1, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S4112x1, .f32⟩
  | .hbm, ⟨13, _⟩ => ⟨S4112x2048, .f32⟩
  | .hbm, ⟨14, _⟩ => ⟨S4112x2048, .f32⟩
  | .hbm, ⟨15, _⟩ => ⟨S1x2048, .f32⟩
  | .hbm, ⟨16, _⟩ => ⟨S4112x2048, .f32⟩
  | .hbm, ⟨17, _⟩ => ⟨S4112x2048, .f32⟩
  | .hbm, ⟨18, _⟩ => ⟨S_, .i32⟩
  | .hbm, ⟨19, _⟩ => ⟨S_, .f32⟩
  | .hbm, ⟨20, _⟩ => ⟨S4224x2048, .f32⟩
  | .hbm, ⟨21, _⟩ => ⟨S4224x2048, .bf16⟩
  | _, _ => ⟨S4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== PrepFwd.lean ====
abbrev S4112x1088 : Shape := ⟨2, ![4112, 1088]⟩
abbrev S512 : Shape := ⟨1, ![512]⟩
abbrev S4112x32 : Shape := ⟨2, ![4112, 32]⟩
abbrev S1x4112x1x32 : Shape := ⟨4, ![1, 4112, 1, 32]⟩
abbrev S1x4112x4x32 : Shape := ⟨4, ![1, 4112, 4, 32]⟩
abbrev S4112x128 : Shape := ⟨2, ![4112, 128]⟩
abbrev S_ : Shape := ⟨0, ![]⟩
abbrev S4224x128 : Shape := ⟨2, ![4224, 128]⟩
abbrev S4224x1152 : Shape := ⟨2, ![4224, 1152]⟩
abbrev S1x512 : Shape := ⟨2, ![1, 512]⟩
abbrev S4224x512 : Shape := ⟨2, ![4224, 512]⟩
abbrev S384x1152 : Shape := ⟨2, ![384, 1152]⟩
abbrev S384x128 : Shape := ⟨2, ![384, 128]⟩
abbrev S384x512 : Shape := ⟨2, ![384, 512]⟩
abbrev S384 : Shape := ⟨1, ![384]⟩
abbrev S384x1 : Shape := ⟨2, ![384, 1]⟩

abbrev nBuf : Space → Nat
  | .hbm => 25
  | .vmem => 14
  | .smem => 0
  | _ => 0

abbrev bufTy : (tb : Table) → Fin (tcTables nBuf tb) → BufTy
  | .hbm, ⟨0, _⟩ => ⟨S4112x1088, .f32⟩
  | .hbm, ⟨1, _⟩ => ⟨S512, .f32⟩
  | .hbm, ⟨2, _⟩ => ⟨S512, .f32⟩
  | .hbm, ⟨3, _⟩ => ⟨S4112x32, .f32⟩
  | .hbm, ⟨4, _⟩ => ⟨S4112x32, .f32⟩
  | .hbm, ⟨5, _⟩ => ⟨S1x4112x1x32, .f32⟩
  | .hbm, ⟨6, _⟩ => ⟨S1x4112x4x32, .f32⟩
  | .hbm, ⟨7, _⟩ => ⟨S4112x128, .f32⟩
  | .hbm, ⟨8, _⟩ => ⟨S_, .i32⟩
  | .hbm, ⟨9, _⟩ => ⟨S_, .f32⟩
  | .hbm, ⟨10, _⟩ => ⟨S4224x128, .f32⟩
  | .hbm, ⟨11, _⟩ => ⟨S1x4112x1x32, .f32⟩
  | .hbm, ⟨12, _⟩ => ⟨S1x4112x4x32, .f32⟩
  | .hbm, ⟨13, _⟩ => ⟨S4112x128, .f32⟩
  | .hbm, ⟨14, _⟩ => ⟨S_, .i32⟩
  | .hbm, ⟨15, _⟩ => ⟨S_, .f32⟩
  | .hbm, ⟨16, _⟩ => ⟨S4224x128, .f32⟩
  | .hbm, ⟨17, _⟩ => ⟨S_, .i32⟩
  | .hbm, ⟨18, _⟩ => ⟨S_, .f32⟩
  | .hbm, ⟨19, _⟩ => ⟨S4224x1152, .f32⟩
  | .hbm, ⟨20, _⟩ => ⟨S1x512, .f32⟩
  | .hbm, ⟨21, _⟩ => ⟨S1x512, .f32⟩
  | .hbm, ⟨22, _⟩ => ⟨S4224x512, .bf16⟩
  | .hbm, ⟨23, _⟩ => ⟨S4224x512, .bf16⟩
  | .hbm, ⟨24, _⟩ => ⟨S4224x128, .bf16⟩
  | .local _ .vmem, ⟨0, _⟩ => ⟨S384x1152, .f32⟩
  | .local _ .vmem, ⟨1, _⟩ => ⟨S384x1152, .f32⟩
  | .local _ .vmem, ⟨2, _⟩ => ⟨S1x512, .f32⟩
  | .local _ .vmem, ⟨3, _⟩ => ⟨S1x512, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | .local _ .vmem, ⟨8, _⟩ => ⟨S384x512, .bf16⟩
  | .local _ .vmem, ⟨9, _⟩ => ⟨S384x512, .bf16⟩
  | .local _ .vmem, ⟨10, _⟩ => ⟨S384x512, .bf16⟩
  | .local _ .vmem, ⟨11, _⟩ => ⟨S384x512, .bf16⟩
  | .local _ .vmem, ⟨12, _⟩ => ⟨S384x128, .bf16⟩
  | .local _ .vmem, ⟨13, _⟩ => ⟨S384x128, .bf16⟩
  | _, _ => ⟨S4112x1088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_call1_v0 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PrepFwdRefIdeal.lean ====
abbrev S4112x1088 : Shape := ⟨2, ![4112, 1088]⟩
abbrev S512 : Shape := ⟨1, ![512]⟩
abbrev S4112x32 : Shape := ⟨2, ![4112, 32]⟩
abbrev S4112x512 : Shape := ⟨2, ![4112, 512]⟩
abbrev S4112x64 : Shape := ⟨2, ![4112, 64]⟩
abbrev S_ : Shape := ⟨0, ![]⟩
abbrev S4112 : Shape := ⟨1, ![4112]⟩
abbrev S4112x1 : Shape := ⟨2, ![4112, 1]⟩
abbrev S1x512 : Shape := ⟨2, ![1, 512]⟩
abbrev S4224x512 : Shape := ⟨2, ![4224, 512]⟩
abbrev S4224x128 : Shape := ⟨2, ![4224, 128]⟩

abbrev nBuf : Space → Nat
  | .hbm => 61
  | .vmem => 0
  | .smem => 0
  | _ => 0

abbrev bufTy : (tb : Table) → Fin (tcTables nBuf tb) → BufTy
  | .hbm, ⟨0, _⟩ => ⟨S4112x1088, .f32⟩
  | .hbm, ⟨1, _⟩ => ⟨S512, .f32⟩
  | .hbm, ⟨2, _⟩ => ⟨S512, .f32⟩
  | .hbm, ⟨3, _⟩ => ⟨S4112x32, .f32⟩
  | .hbm, ⟨4, _⟩ => ⟨S4112x32, .f32⟩
  | .hbm, ⟨5, _⟩ => ⟨S4112x512, .f32⟩
  | .hbm, ⟨6, _⟩ => ⟨S4112x512, .f32⟩
  | .hbm, ⟨7, _⟩ => ⟨S4112x64, .f32⟩
  | .hbm, ⟨8, _⟩ => ⟨S4112x32, .f32⟩
  | .hbm, ⟨9, _⟩ => ⟨S4112x32, .f32⟩
  | .hbm, ⟨10, _⟩ => ⟨S4112x32, .f32⟩
  | .hbm, ⟨11, _⟩ => ⟨S4112x32, .f32⟩
  | .hbm, ⟨12, _⟩ => ⟨S4112x32, .f32⟩
  | .hbm, ⟨13, _⟩ => ⟨S4112x32, .f32⟩
  | .hbm, ⟨14, _⟩ => ⟨S4112x32, .f32⟩
  | .hbm, ⟨15, _⟩ => ⟨S4112x32, .f32⟩
  | .hbm, ⟨16, _⟩ => ⟨S4112x64, .f32⟩
  | .hbm, ⟨17, _⟩ => ⟨S4112x512, .f32⟩
  | .hbm, ⟨18, _⟩ => ⟨S_, .f32⟩
  | .hbm, ⟨19, _⟩ => ⟨S4112, .f32⟩
  | .hbm, ⟨20, _⟩ => ⟨S4112x1, .f32⟩
  | .hbm, ⟨21, _⟩ => ⟨S_, .f32⟩
  | .hbm, ⟨22, _⟩ => ⟨S4112x1, .f32⟩
  | .hbm, ⟨23, _⟩ => ⟨S4112x1, .f32⟩
  | .hbm, ⟨24, _⟩ => ⟨S_, .f32⟩
  | .hbm, ⟨25, _⟩ => ⟨S4112x1, .f32⟩
  | .hbm, ⟨26, _⟩ => ⟨S4112x1, .f32⟩
  | .hbm, ⟨27, _⟩ => ⟨S4112x1, .f32⟩
  | .hbm, ⟨28, _⟩ => ⟨S4112x512, .f32⟩
  | .hbm, ⟨29, _⟩ => ⟨S4112x512, .f32⟩
  | .hbm, ⟨30, _⟩ => ⟨S1x512, .f32⟩
  | .hbm, ⟨31, _⟩ => ⟨S4112x512, .f32⟩
  | .hbm, ⟨32, _⟩ => ⟨S4112x512, .f32⟩
  | .hbm, ⟨33, _⟩ => ⟨S_, .i32⟩
  | .hbm, ⟨34, _⟩ => ⟨S_, .f32⟩
  | .hbm, ⟨35, _⟩ => ⟨S4224x512, .f32⟩
  | .hbm, ⟨36, _⟩ => ⟨S4224x512, .bf16⟩
  | .hbm, ⟨37, _⟩ => ⟨S4112x512, .f32⟩
  | .hbm, ⟨38, _⟩ => ⟨S_, .f32⟩
  | .hbm, ⟨39, _⟩ => ⟨S4112, .f32⟩
  | .hbm, ⟨40, _⟩ => ⟨S4112x1, .f32⟩
  | .hbm, ⟨41, _⟩ => ⟨S_, .f32⟩
  | .hbm, ⟨42, _⟩ => ⟨S4112x1, .f32⟩
  | .hbm, ⟨43, _⟩ => ⟨S4112x1, .f32⟩
  | .hbm, ⟨44, _⟩ => ⟨S_, .f32⟩
  | .hbm, ⟨45, _⟩ => ⟨S4112x1, .f32⟩
  | .hbm, ⟨46, _⟩ => ⟨S4112x1, .f32⟩
  | .hbm, ⟨47, _⟩ => ⟨S4112x1, .f32⟩
  | .hbm, ⟨48, _⟩ => ⟨S4112x512, .f32⟩
  | .hbm, ⟨49, _⟩ => ⟨S4112x512, .f32⟩
  | .hbm, ⟨50, _⟩ => ⟨S1x512, .f32⟩
  | .hbm, ⟨51, _⟩ => ⟨S4112x512, .f32⟩
  | .hbm, ⟨52, _⟩ => ⟨S4112x512, .f32⟩
  | .hbm, ⟨53, _⟩ => ⟨S_, .i32⟩
  | .hbm, ⟨54, _⟩ => ⟨S_, .f32⟩
  | .hbm, ⟨55, _⟩ => ⟨S4224x512, .f32⟩
  | .hbm, ⟨56, _⟩ => ⟨S4224x512, .bf16⟩
  | .hbm, ⟨57, _⟩ => ⟨S_, .i32⟩
  | .hbm, ⟨58, _⟩ => ⟨S_, .f32⟩
  | .hbm, ⟨59, _⟩ => ⟨S4224x128, .f32⟩
  | .hbm, ⟨60, _⟩ => ⟨S4224x128, .bf16⟩
  | _, _ => ⟨S4112x1088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_call1_v0 : Ref sig .tc := ⟨.hbm, 54, rfl⟩
abbrev main_v40 : Ref sig .tc := ⟨.hbm, 55, rfl⟩
abbrev main_v41 : Ref sig .tc := ⟨.hbm, 56, rfl⟩
abbrev main_c_6 : Ref sig .tc := ⟨.hbm, 57, rfl⟩
abbrev main_call2_v0 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Adamw.lean ====
abbrev S4x2048 : Shape := ⟨2, ![4, 2048]⟩
abbrev S8x4x2048 : Shape := ⟨3, ![8, 4, 2048]⟩
abbrev S_ : Shape := ⟨0, ![]⟩
abbrev S8x2048 : Shape := ⟨2, ![8, 2048]⟩
abbrev S8x8x2048 : Shape := ⟨3, ![8, 8, 2048]⟩
abbrev S1x8x2048 : Shape := ⟨3, ![1, 8, 2048]⟩

abbrev nBuf : Space → Nat
  | .hbm => 20
  | .vmem => 8
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S8x4x2048, .f32⟩
  | .hbm, ⟨4, _⟩ => ⟨S_, .i32⟩
  | .hbm, ⟨5, _⟩ => ⟨S_, .f32⟩
  | .hbm, ⟨6, _⟩ => ⟨S8x2048, .f32⟩
  | .hbm, ⟨7, _⟩ => ⟨S_, .i32⟩
  | .hbm, ⟨8, _⟩ => ⟨S_, .f32⟩
  | .hbm, ⟨9, _⟩ => ⟨S8x2048, .f32⟩
  | .hbm, ⟨10, _⟩ => ⟨S_, .i32⟩
  | .hbm, ⟨11, _⟩ => ⟨S_, .f32⟩
  | .hbm, ⟨12, _⟩ => ⟨S8x2048, .f32⟩
  | .hbm, ⟨13, _⟩ => ⟨S_, .i32⟩
  | .hbm, ⟨14, _⟩ => ⟨S_, .f32⟩
  | .hbm, ⟨15, _⟩ => ⟨S8x8x2048, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S8x2048, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamwRefIdeal.lean ====
abbrev S4x2048 : Shape := ⟨2, ![4, 2048]⟩
abbrev S8x4x2048 : Shape := ⟨3, ![8, 4, 2048]⟩
abbrev S_ : Shape := ⟨0, ![]⟩
abbrev S8x2048 : Shape := ⟨2, ![8, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S8x4x2048, .f32⟩
  | .hbm, ⟨4, _⟩ => ⟨S_, .f32⟩
  | .hbm, ⟨5, _⟩ => ⟨S4x2048, .f32⟩
  | .hbm, ⟨6, _⟩ => ⟨S_, .f32⟩
  | .hbm, ⟨7, _⟩ => ⟨S4x2048, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S_, .f32⟩
  | .hbm, ⟨18, _⟩ => ⟨S4x2048, .f32⟩
  | .hbm, ⟨19, _⟩ => ⟨S4x2048, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S_, .i32⟩
  | .hbm, ⟨40, _⟩ => ⟨S_, .f32⟩
  | .hbm, ⟨41, _⟩ => ⟨S8x2048, .f32⟩
  | .hbm, ⟨42, _⟩ => ⟨S_, .i32⟩
  | .hbm, ⟨43, _⟩ => ⟨S_, .f32⟩
  | .hbm, ⟨44, _⟩ => ⟨S8x2048, .f32⟩
  | .hbm, ⟨45, _⟩ => ⟨S_, .i32⟩
  | .hbm, ⟨46, _⟩ => ⟨S_, .f32⟩
  | .hbm, ⟨47, _⟩ => ⟨S8x2048, .f32⟩
  | .hbm, ⟨48, _⟩ => ⟨S_, .i32⟩
  | .hbm, ⟨49, _⟩ => ⟨S_, .f32⟩
  | .hbm, ⟨50, _⟩ => ⟨S8x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_call0_v0 : Ref sig .tc := ⟨.hbm, 40, rfl⟩
abbrev main_v25 : Ref sig .tc := ⟨.hbm, 41, rfl⟩
abbrev main_c_9 : Ref sig .tc := ⟨.hbm, 42, rfl⟩
abbrev main_call1_v0 : Ref sig .tc := ⟨.hbm, 43, rfl⟩
abbrev main_v26 : Ref sig .tc := ⟨.hbm, 44, rfl⟩
abbrev main_c_10 : Ref sig .tc := ⟨.hbm, 45, rfl⟩
abbrev main_call2_v0 : Ref sig .tc := ⟨.hbm, 46, rfl⟩
abbrev main_v27 : Ref sig .tc := ⟨.hbm, 47, rfl⟩
abbrev main_c_11 : Ref sig .tc := ⟨.hbm, 48, rfl⟩
abbrev main_call3_v0 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Down.lean ====
abbrev S4224x5632 : Shape := ⟨2, ![4224, 5632]⟩
abbrev S5632x2048 : Shape := ⟨2, ![5632, 2048]⟩
abbrev S4224x2048 : Shape := ⟨2, ![4224, 2048]⟩
abbrev S384x5632 : Shape := ⟨2, ![384, 5632]⟩
abbrev S5632x1024 : Shape := ⟨2, ![5632, 1024]⟩
abbrev S384x1024 : Shape := ⟨2, ![384, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x2048, .f32⟩
  | .local _ .vmem, ⟨0, _⟩ => ⟨S384x5632, .bf16⟩
  | .local _ .vmem, ⟨1, _⟩ => ⟨S384x5632, .bf16⟩
  | .local _ .vmem, ⟨2, _⟩ => ⟨S5632x1024, .bf16⟩
  | .local _ .vmem, ⟨3, _⟩ => ⟨S5632x1024, .bf16⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4224x5632 : Shape := ⟨2, ![4224, 5632]⟩
abbrev S5632x2048 : Shape := ⟨2, ![5632, 2048]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S5632x2048, .bf16⟩
  | .hbm, ⟨2, _⟩ => ⟨S4224x2048, .f32⟩
  | .hbm, ⟨3, _⟩ => ⟨S4224x5632, .f32⟩
  | .hbm, ⟨4, _⟩ => ⟨S5632x2048, .f32⟩
  | .hbm, ⟨5, _⟩ => ⟨S4224x2048, .f32⟩
  | .hbm, ⟨6, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dhn.lean ====
abbrev S2x4224x5632 : Shape := ⟨3, ![2, 4224, 5632]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4224x2048 : Shape := ⟨2, ![4224, 2048]⟩
abbrev S2x384x5632 : Shape := ⟨3, ![2, 384, 5632]⟩
abbrev S8x512x1408 : Shape := ⟨3, ![8, 512, 1408]⟩
abbrev S384x512 : Shape := ⟨2, ![384, 512]⟩
abbrev S1x384x1408 : Shape := ⟨3, ![1, 384, 1408]⟩
abbrev S384x1408 : Shape := ⟨2, ![384, 1408]⟩
abbrev S1x512x1408 : Shape := ⟨3, ![1, 512, 1408]⟩
abbrev S512x1408 : Shape := ⟨2, ![512, 1408]⟩

abbrev nBuf : Space → Nat
  | .hbm => 5
  | .vmem => 6
  | .smem => 0
  | _ => 0

abbrev bufTy : (tb : Table) → Fin (tcTables nBuf tb) → BufTy
  | .hbm, ⟨0, _⟩ => ⟨S2x4224x5632, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S4224x2048, .bf16⟩
  | .local _ .vmem, ⟨0, _⟩ => ⟨S2x384x5632, .bf16⟩
  | .local _ .vmem, ⟨1, _⟩ => ⟨S2x384x5632, .bf16⟩
  | .local _ .vmem, ⟨2, _⟩ => ⟨S8x512x1408, .bf16⟩
  | .local _ .vmem, ⟨3, _⟩ => ⟨S8x512x1408, .bf16⟩
  | .local _ .vmem, ⟨4, _⟩ => ⟨S384x512, .bf16⟩
  | .local _ .vmem, ⟨5, _⟩ => ⟨S384x512, .bf16⟩
  | _, _ => ⟨S2x4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DhnRefIdeal.lean ====
abbrev S2x4224x5632 : Shape := ⟨3, ![2, 4224, 5632]⟩
abbrev S2048x11264 : Shape := ⟨2, ![2048, 11264]⟩
abbrev S1x4224x5632 : Shape := ⟨3, ![1, 4224, 5632]⟩
abbrev S4224x5632 : Shape := ⟨2, ![4224, 5632]⟩
abbrev S4224x11264 : Shape := ⟨2, ![4224, 11264]⟩
abbrev S11264x2048 : Shape := ⟨2, ![11264, 2048]⟩
abbrev S4224x2048 : Shape := ⟨2, ![4224, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x4224x5632, .bf16⟩
  | .hbm, ⟨1, _⟩ => ⟨S2048x11264, .bf16⟩
  | .hbm, ⟨2, _⟩ => ⟨S1x4224x5632, .bf16⟩
  | .hbm, ⟨3, _⟩ => ⟨S4224x5632, .bf16⟩
  | .hbm, ⟨4, _⟩ => ⟨S1x4224x5632, .bf16⟩
  | .hbm, ⟨5, _⟩ => ⟨S4224x5632, .bf16⟩
  | .hbm, ⟨6, _⟩ => ⟨S4224x11264, .bf16⟩
  | .hbm, ⟨7, _⟩ => ⟨S4224x11264, .f32⟩
  | .hbm, ⟨8, _⟩ => ⟨S2048x11264, .f32⟩
  | .hbm, ⟨9, _⟩ => ⟨S11264x2048, .f32⟩
  | .hbm, ⟨10, _⟩ => ⟨S4224x2048, .f32⟩
  | .hbm, ⟨11, _⟩ => ⟨S4224x2048, .bf16⟩
  | _, _ => ⟨S2x4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Dwgu.lean ====
abbrev S4224x2048 : Shape := ⟨2, ![4224, 2048]⟩
abbrev S2x4224x5632 : Shape := ⟨3, ![2, 4224, 5632]⟩
abbrev S8x2048x1408 : Shape := ⟨3, ![8, 2048, 1408]⟩
abbrev S4224x512 : Shape := ⟨2, ![4224, 512]⟩
abbrev S1x4224x1408 : Shape := ⟨3, ![1, 4224, 1408]⟩
abbrev S1x512x1408 : Shape := ⟨3, ![1, 512, 1408]⟩
abbrev S4224x1408 : Shape := ⟨2, ![4224, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S8x2048x1408, .bf16⟩
  | .local _ .vmem, ⟨0, _⟩ => ⟨S4224x512, .bf16⟩
  | .local _ .vmem, ⟨1, _⟩ => ⟨S4224x512, .bf16⟩
  | .local _ .vmem, ⟨2, _⟩ => ⟨S1x4224x1408, .bf16⟩
  | .local _ .vmem, ⟨3, _⟩ => ⟨S1x4224x1408, .bf16⟩
  | .local _ .vmem, ⟨4, _⟩ => ⟨S1x512x1408, .bf16⟩
  | .local _ .vmem, ⟨5, _⟩ => ⟨S1x512x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4224x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguRefIdeal.lean ====
abbrev S4224x2048 : Shape := ⟨2, ![4224, 2048]⟩
abbrev S2x4224x5632 : Shape := ⟨3, ![2, 4224, 5632]⟩
abbrev S1x4224x5632 : Shape := ⟨3, ![1, 4224, 5632]⟩
abbrev S4224x5632 : Shape := ⟨2, ![4224, 5632]⟩
abbrev S4224x11264 : Shape := ⟨2, ![4224, 11264]⟩
abbrev S2048x4224 : Shape := ⟨2, ![2048, 4224]⟩
abbrev S2048x11264 : Shape := ⟨2, ![2048, 11264]⟩
abbrev S2048x8x1408 : Shape := ⟨3, ![2048, 8, 1408]⟩
abbrev S8x2048x1408 : Shape := ⟨3, ![8, 2048, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S2x4224x5632, .bf16⟩
  | .hbm, ⟨2, _⟩ => ⟨S1x4224x5632, .bf16⟩
  | .hbm, ⟨3, _⟩ => ⟨S4224x5632, .bf16⟩
  | .hbm, ⟨4, _⟩ => ⟨S1x4224x5632, .bf16⟩
  | .hbm, ⟨5, _⟩ => ⟨S4224x5632, .bf16⟩
  | .hbm, ⟨6, _⟩ => ⟨S4224x11264, .bf16⟩
  | .hbm, ⟨7, _⟩ => ⟨S4224x11264, .f32⟩
  | .hbm, ⟨8, _⟩ => ⟨S4224x2048, .f32⟩
  | .hbm, ⟨9, _⟩ => ⟨S2048x4224, .f32⟩
  | .hbm, ⟨10, _⟩ => ⟨S2048x11264, .f32⟩
  | .hbm, ⟨11, _⟩ => ⟨S2048x8x1408, .f32⟩
  | .hbm, ⟨12, _⟩ => ⟨S8x2048x1408, .f32⟩
  | .hbm, ⟨13, _⟩ => ⟨S8x2048x1408, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Proof.Reals.lean ====
/- Real numbers under the extended reals: a finite array read as a real function of two natural indices, sums and
   quotients of reals, and the finiteness predicate of the claims. -/
module

public import Idealize.ShloMosaic.Lib.Pointwise
public import Idealize.ShloMosaic.Lib.ReduceAll
public import Idealize.ShloMosaic.Lib.KernelVsHost
public import Idealize.ShloMosaic.PureOps

@[expose] public section

noncomputable section

namespace Cert.Reals

open Idealize.ShloMosaic

/-! ## Finite values -/

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A value whose magnitude is below infinity is a real. -/
theorem coe_toReal_of_abs_lt {x : EReal} (h : max x (-x) < ⊤) : ((x.toReal : ℝ) : EReal) = x := by
  refine EReal.coe_toReal ?_ ?_
  · rintro rfl; exact absurd (lt_of_le_of_lt (le_max_left _ _) h) (lt_irrefl _)
  · rintro rfl
    rw [EReal.neg_bot] at h
    exact absurd (lt_of_le_of_lt (le_max_right _ _) h) (lt_irrefl _)

/-- The word of positive infinity. -/
theorem ofBits_inf : Ideal.ofBits .f32 0x7F800000#32 = ⊤ := by simp [Ideal.ofBits, Ideal.ieee]

/-- What one comparison of the finiteness predicate says. -/
theorem finite_of_cmpf {x : Ideal .f32} (h : FloatOps.cmpf (F := Ideal) .olt (FloatOps.absf x) (FloatOps.ofBits .f32 0x7F800000#32) = 1#1) :
    (((show EReal from x).toReal : ℝ) : EReal) = x := by
  refine coe_toReal_of_abs_lt ?_
  have h' : BitVec.ofBool (decide ((show EReal from max (show EReal from x) (-(show EReal from x))) < Ideal.ofBits .f32 0x7F800000#32)) = 1#1 := h
  rw [ofBits_inf] at h'
  by_contra hc
  rw [decide_eq_false hc] at h'
  exact absurd h' (by decide)

/-- A conjunction of two bits is one only if both are. -/
theorem andi_one {u : Shape} (x y : IVec u 1) (j : u.Idx) (h : andi x y j = 1#1) : x j = 1#1 ∧ y j = 1#1 := by
  have h' : (x j) &&& (y j) = 1#1 := h
  generalize x j = a at h' ⊢
  generalize y j = b at h' ⊢
  revert a b; decide

/-! ## Quotients and roots -/

theorem div_coe {x y : ℝ} (h : y ≠ 0) : Ideal.div (x : EReal) (y : EReal) = ((x / y : ℝ) : EReal) := by
  simp only [Ideal.div_coe h, div_eq_mul_inv, EReal.coe_mul, EReal.coe_one, one_mul]

theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-! ## An array of extended reals read as a real function of natural indices -/

/-- Element `(r, l)` of a matrix as a real number; zero outside it. -/
def at2 {a b : ℕ} (x : (⟨2, ![a, b]⟩ : Shape).Idx → EReal) (r l : ℕ) : ℝ :=
  if h : r < a ∧ l < b then (x (ix2 ⟨r, h.1⟩ ⟨l, h.2⟩)).toReal else 0

/-- Element `l` of a vector as a real number; zero outside it. -/
def at1 {a : ℕ} (x : (⟨1, ![a]⟩ : Shape).Idx → EReal) (l : ℕ) : ℝ :=
  if h : l < a then (x (ix1 ⟨l, h⟩)).toReal else 0

theorem at2_coe {a b : ℕ} {x : (⟨2, ![a, b]⟩ : Shape).Idx → EReal} (hx : ∀ i, ((x i).toReal : EReal) = x i) (r : Fin a) (l : Fin b) :
    x (ix2 r l) = (at2 x r l : EReal) := by
  unfold at2
  rw [dif_pos ⟨r.isLt, l.isLt⟩, hx]

theorem at1_coe {a : ℕ} {x : (⟨1, ![a]⟩ : Shape).Idx → EReal} (hx : ∀ i, ((x i).toReal : EReal) = x i) (l : Fin a) :
    x (ix1 l) = (at1 x l : EReal) := by
  unfold at1
  rw [dif_pos l.isLt, hx]

theorem at2_out {a b : ℕ} (x : (⟨2, ![a, b]⟩ : Shape).Idx → EReal) {r : ℕ} (l : ℕ) (h : a ≤ r) : at2 x r l = 0 := by
  unfold at2
  rw [dif_neg (fun h' => by omega)]

/-- Rows added below a finite matrix hold zero. -/
theorem pad_rows {a b k n : ℕ} {x : (⟨2, ![a, b]⟩ : Shape).Idx → EReal} (hx : ∀ i, ((x i).toReal : EReal) = x i)
    {u : Shape} (v : u.Idx → EReal) (h : (⟨2, ![a, b]⟩ : Shape).Pads ![0, 0] ![k, 0] ![0, 0] ⟨2, ![n, b]⟩) (hu : 0 < u.numel)
    (hv : v (Shape.Idx.first hu) = 0) (r : Fin n) (l : Fin b) :
    pad ⟨2, ![n, b]⟩ ![0, 0] ![k, 0] ![0, 0] x v h hu (ix2 r l) = (at2 x r l : EReal) := by
  by_cases hr : r.val < a
  · refine (pad_apply_of_inside _ _ _ x v h hu (ix2 r l) (ix2 ⟨r.val, hr⟩ l) ?_).trans (at2_coe hx ⟨r.val, hr⟩ l)
    intro c
    fin_cases c
    · show r.val = 0 + r.val * (0 + 1); omega
    · show l.val = 0 + l.val * (0 + 1); omega
  · refine (pad_apply_of_not_inside _ _ _ x v h hu (ix2 r l) 0 ?_).trans ?_
    · show ¬(0 ≤ r.val ∧ (r.val - 0) % (0 + 1) = 0 ∧ (r.val - 0) / (0 + 1) < a)
      omega
    · rw [hv, at2_out x _ (not_lt.mp hr), EReal.coe_zero]

/-- A sum over consecutive tiles of rows. -/
theorem sum_tile (f : ℕ → ℝ) (n k : ℕ) :
    ∑ i ∈ Finset.range (k * (n + 1)), f i = ∑ i ∈ Finset.range (k * n), f i + ∑ r : Fin k, f (k * n + r) := by
  rw [Nat.mul_succ, Finset.sum_range_add, Finset.sum_range fun r => f (k * n + r)]

/-- Terms that are zero from `a` on add nothing. -/
theorem sum_range_zero (f : ℕ → ℝ) {a n : ℕ} (h : a ≤ n) (h0 : ∀ i, a ≤ i → f i = 0) : ∑ i ∈ Finset.range n, f i = ∑ i ∈ Finset.range a, f i := by
  obtain ⟨d, rfl⟩ := Nat.exists_eq_add_of_le h
  rw [Finset.sum_range_add, Finset.sum_eq_zero (s := Finset.range d) (fun i _ => h0 _ (Nat.le_add_right _ _)), add_zero]

/-! ## The constants of the norm -/

/-- The norm's small constant, the rational of its word. -/
def eps : ℝ := (Ideal.ofBits .f32 0x358637BD#32).toReal

theorem ofBits_eps : Ideal.ofBits .f32 0x358637BD#32 = (eps : EReal) := by
  have h : Ideal.ofBits .f32 0x358637BD#32 = ((8796093 / 8796093022208 : ℝ) : EReal) := by
    simp [Ideal.ofBits, Ideal.ieee, -EReal.coe_mul]; norm_num
  rw [eps, h, EReal.toReal_coe]

theorem eps_pos : 0 < eps := by
  have h : Ideal.ofBits .f32 0x358637BD#32 = ((8796093 / 8796093022208 : ℝ) : EReal) := by
    simp [Ideal.ofBits, Ideal.ieee, -EReal.coe_mul]; norm_num
  rw [eps, h, EReal.toReal_coe]; norm_num

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- A product of two finite reals, an extended sum of two. -/
theorem mul_coe (x y : ℝ) : (x : EReal) * (y : EReal) = ((x * y : ℝ) : EReal) := (EReal.coe_mul x y).symm
theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem sum_coe {ι : Type*} (s : Finset ι) (f : ι → ℝ) : ∑ i ∈ s, (f i : EReal) = ((∑ i ∈ s, f i : ℝ) : EReal) := (coe_sum s f).symm

end Cert.Reals
-- ==== Proof.Tile.lean ====
/- A tile of a matrix, entry by entry. -/
module

public import Idealize.ShloMosaic.Lib.Pipeline.ValueKit
public import Idealize.ShloMosaic.Lib.Pointwise

@[expose] public section

noncomputable section

namespace Cert.Tile

open Idealize.ShloMosaic

/-- Tile `(p, q)` of `a` rows and `b` columns holds at `(r, l)` the matrix's entry at `(p a + r, q b + l)`. -/
theorem tile2 {Val : EltTy → Type} {e : EltTy} {A B a b : ℕ} (x : (⟨2, ![A, B]⟩ : Shape).Idx → Val e) {n : Fin 2 → ℕ} (inb) {p q : ℕ}
    (h : n 0 = p ∧ n 1 = q) (r : Fin a) (l : Fin b) (R : Fin A) (L : Fin B) (hr : R.val = p * a + r.val) (hl : L.val = q * b + l.val) :
    View.ld x (Rect.unit (fun k => n k * (⟨2, ![a, b]⟩ : Shape).size k) (⟨2, ![a, b]⟩ : Shape).size inb) (ix2 r l) = x (ix2 R L) :=
  View.ld_unit_apply_of x _ _ inb (ix2 r l) (ix2 R L) fun k => by
    match k with
    | ⟨0, _⟩ => exact hr.trans (congrArg (fun z => z * a + r.val) h.1.symm)
    | ⟨1, _⟩ => exact hl.trans (congrArg (fun z => z * b + l.val) h.2.symm)

/-- The same for a stack of matrices. -/
theorem tile3 {Val : EltTy → Type} {e : EltTy} {G A B g a b : ℕ} (x : (⟨3, ![G, A, B]⟩ : Shape).Idx → Val e) {n : Fin 3 → ℕ} (inb) {o p q : ℕ}
    (h : n 0 = o ∧ n 1 = p ∧ n 2 = q) (k : Fin g) (r : Fin a) (l : Fin b) (K : Fin G) (R : Fin A) (L : Fin B) (hk : K.val = o * g + k.val)
    (hr : R.val = p * a + r.val) (hl : L.val = q * b + l.val) :
    View.ld x (Rect.unit (fun k => n k * (⟨3, ![g, a, b]⟩ : Shape).size k) (⟨3, ![g, a, b]⟩ : Shape).size inb) (ix3 k r l) = x (ix3 K R L) :=
  View.ld_unit_apply_of x _ _ inb (ix3 k r l) (ix3 K R L) fun i => by
    match i with
    | ⟨0, _⟩ => exact hk.trans (congrArg (fun z => z * g + k.val) h.1.symm)
    | ⟨1, _⟩ => exact hr.trans (congrArg (fun z => z * a + r.val) h.2.1.symm)
    | ⟨2, _⟩ => exact hl.trans (congrArg (fun z => z * b + l.val) h.2.2.symm)

section Halves

variable {A B : ℕ}

/-- Half of a stack of two. -/
abbrev half (e : ℕ) (inb : ∀ k, (![e, 0, 0] : Fin 3 → ℕ) k + (⟨3, ![1, A, B]⟩ : Shape).size k ≤ (⟨3, ![2, A, B]⟩ : Shape).size k) : Rect ⟨3, ![2, A, B]⟩ :=
  Rect.unit (s := ⟨3, ![2, A, B]⟩) ![e, 0, 0] (⟨3, ![1, A, B]⟩ : Shape).size inb

theorem emb_half (r : Fin A) (l : Fin B) {e : ℕ} (g : Fin 2) (h : e = g.val) (inb) : (half e inb).emb (ix3 0 r l) = ix3 g r l := by
  funext a
  apply Fin.ext
  match a with
  | ⟨0, _⟩ => exact h
  | ⟨1, _⟩ => exact (Nat.zero_add _).trans (Nat.one_mul _)
  | ⟨2, _⟩ => exact (Nat.zero_add _).trans (Nat.one_mul _)

variable {e : EltTy} (inb inb') (u v : (⟨3, ![1, A, B]⟩ : Shape).Idx → Elt Ideal e) (r : Fin A) (l : Fin B)

/-- What two stores side by side leave: in the second half, the last one's payload, -/
theorem canon_snd : (View.canon [⟨half 1 inb, u⟩, ⟨half 0 inb', v⟩] : (⟨3, ![2, A, B]⟩ : Shape).Idx → Elt Ideal e) (ix3 1 r l) = u (ix3 0 r l) := by
  rw [← emb_half r l 1 rfl inb]
  exact View.canon_cons_emb (half 1 inb) u _ (ix3 0 r l)

/-- and in the first half the other's. -/
theorem canon_fst : (View.canon [⟨half 1 inb, u⟩, ⟨half 0 inb', v⟩] : (⟨3, ![2, A, B]⟩ : Shape).Idx → Elt Ideal e) (ix3 0 r l) = v (ix3 0 r l) := by
  refine (View.canon_cons_of_not_mem (Val := Elt Ideal) (e := e) ⟨half 1 inb, u⟩ [⟨half 0 inb', v⟩] fun hm => ?_).trans ?_
  · exact absurd ((Rect.mem_set_unit (inb := inb) |>.1 hm) 0).1 (by show ¬(1 ≤ 0); omega)
  · rw [← emb_half r l 0 rfl inb']
    exact View.canon_cons_emb (half 0 inb') v [] (ix3 0 r l)

end Halves

end Cert.Tile
-- ==== Proof.Norm.lean ====
/- The gradient of the root-mean-square norm with the residual path added: the kernel's tiles as real formulas. -/
module

public import proofs.«01_k».proof.Proof.Gen.NormBwdIdeal.Value
public import proofs.«01_k».proof.Proof.Reals
public import proofs.«01_k».proof.Proof.Tile
public import Idealize.ShloMosaic.Lib.Pointwise
public import Idealize.ShloMosaic.Lib.Quiescent

@[expose] public section

noncomputable section

namespace Cert.Norm

open Idealize.ShloMosaic Cert.Reals

/-! ## The real formulas -/

/-- The mean of squares of row `r` plus the small constant. -/
def ms (X : ℕ → ℕ → ℝ) (r : ℕ) : ℝ := (∑ k : Fin 2048, X r k * X r k) / 2048 + eps

/-- The reciprocal root of `ms`. -/
def rs (X : ℕ → ℕ → ℝ) (r : ℕ) : ℝ := (Real.sqrt (ms X r))⁻¹

/-- The gradient of the norm at `(r, l)`. -/
def dx (X : ℕ → ℕ → ℝ) (G : ℕ → ℝ) (D : ℕ → ℕ → ℝ) (r l : ℕ) : ℝ :=
  rs X r * (D r l * G l - X r l * rs X r * ((∑ k : Fin 2048, D r k * G k * (X r k * rs X r)) / 2048))

/-- Row `r`'s part of the gradient of the norm's weight. -/
def dgRow (X D : ℕ → ℕ → ℝ) (r l : ℕ) : ℝ := D r l * (X r l * rs X r)

theorem ms_pos (X : ℕ → ℕ → ℝ) (r : ℕ) : 0 < ms X r :=
  add_pos_of_nonneg_of_pos (div_nonneg (Finset.sum_nonneg fun k _ => mul_self_nonneg _) (by norm_num)) eps_pos

end Cert.Norm

namespace Cert.NormBwdIdeal.Tiles

open Idealize.ShloMosaic Idealize.SL.Sem Cert.NormBwdIdeal Cert.NormBwdIdeal.Gen Cert.Reals Cert.Norm Cert.Tile
open Facts

/-! ## One tile -/

section Tile

variable {X D : ℕ → ℕ → ℝ} {G : ℕ → ℝ} {n : ℕ} (v0 : Vec Ideal S384x2048 .bf16) (v3 : Vec Ideal S384x2048 .f32) (v5 : Vec Ideal S1x2048 .f32)
  (h0 : ∀ (r : Fin 384) (l : Fin 2048), v0 (ix2 r l) = (D (n + r) l : EReal))
  (h3 : ∀ (r : Fin 384) (l : Fin 2048), v3 (ix2 r l) = (X (n + r) l : EReal))
  (h5 : ∀ l : Fin 2048, v5 (ix2 0 l) = (G l : EReal))

include h3 in
theorem rs_tile (r : Fin 384) : Ideal.rsqrt (Ideal.div (∑ x : Fin 2048, v3 (ix2 r x) * v3 (ix2 r x)) (Ideal.ofBits .f32 0x45000000#32)
      + Ideal.ofBits .f32 0x358637BD#32) = (rs X (n + r) : EReal) := by
  have h2 : (2048 : ℝ) ≠ 0 := by norm_num
  simp only [h3, mul_coe, sum_coe, ofBits_2048, ofBits_eps, div_coe h2, add_coe]
  exact rsqrt_pos (ms_pos X (n + r))

include h0 h3 h5 in
theorem pay7_eq (v32 : Vec Ideal S384x2048 .f32) (r : Fin 384) (l : Fin 2048) :
    k0_pay7 v0 v3 v5 v32 (ix2 r l) = v32 (ix2 r l) + (dx X G D (n + r) l : EReal) := by
  have h2 : (2048 : ℝ) ≠ 0 := by norm_num
  pointwise [k0_pay7, k0_pay5, k0_pay4, k0_pay3, k0_pay2]
  rw [rs_tile v3 h3 r]
  simp only [h0, h3, h5, mul_coe, sum_coe, ofBits_2048, div_coe h2, sub_coe]
  rfl

include h0 h3 in
theorem pay6_eq (l : Fin 2048) : k0_pay6 v0 v3 (ix2 0 l) = ((∑ r : Fin 384, dgRow X D (n + r) l : ℝ) : EReal) := by
  pointwise [k0_pay6, k0_pay5, k0_pay4, k0_pay3, k0_pay2]
  simp only [rs_tile v3 h3]
  simp only [h0, h3, mul_coe, sum_coe]
  rfl

end Tile

/-! ## What the arrays hold when the kernel starts -/

abbrev Mem := (ℓ : Loc nD τ sig) → Buf (Elt Ideal) ℓ

variable (m : Mem) (c : Dev nD)

abbrev argX : S4112x2048.Idx → EReal := m ((c.tc : Thread nD τ).loc main_arg0)
abbrev argG : S2048.Idx → EReal := m ((c.tc : Thread nD τ).loc main_arg1)
abbrev argD : S4112x2048.Idx → EReal := m ((c.tc : Thread nD τ).loc main_arg2)
abbrev argR : S4112x2048.Idx → EReal := m ((c.tc : Thread nD τ).loc main_arg3)

/-- The value the host pads with. -/
abbrev padv : S_.Idx → EReal := sitofp (F := Ideal) .f32 (constantI S_ 32 0#32)

theorem padv_zero (i : S_.Idx) : padv i = 0 := by
  show ((((0#32 : BitVec 32).toInt : ℝ)) : EReal) = 0
  simp

/-- Rows of zeros below a matrix. -/
abbrev padded (x : S4112x2048.Idx → EReal) : S4224x2048.Idx → EReal :=
  pad S4224x2048 ![0, 0] ![112, 0] ![0, 0] x padv pads_S4112x2048_S4224x2048_01120_000 h_S_

theorem hosts : V m c main_v1 = truncf (F := Ideal) (s := S4224x2048) .bf16 (padded (argD m c)) bitsLt_bf16_f32 ∧ V m c main_v2 = padded (argX m c)
    ∧ V m c main_v3 = broadcastInDim S1x2048 ![1] bcast_S2048_S1x2048_1 (argG m c) ∧ V m c main_v4 = padded (argR m c) := by
  refine ⟨?_, ?_, ?_, ?_⟩ <;>
  · simp only [V, hostOps0, hostOps0_1, hostOps0_2, hostOps0_3, hostOps0_4, hostOps0_5, List.flatten_cons, List.flatten_nil, List.append_nil,
      List.cons_append, List.nil_append]
    after_results
    try rfl

/-! ## The blocks -/

theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0) := by
  decide +kernel

theorem row_lt (t : Fin cfg0.N) (r : Fin 384) : 384 * t.val + r.val < 4224 := by
  have h : t.val < 11 := lt_of_lt_of_eq t.isLt N_0
  omega

/-- Row `r` of tile `t`. -/
abbrev row (t : Fin cfg0.N) (r : Fin 384) : Fin 4224 := ⟨384 * t.val + r.val, row_lt t r⟩

theorem mul_row (t : Fin cfg0.N) (r : Fin 384) : (row t r).val = t.val * 384 + r.val := congrArg (· + r.val) (Nat.mul_comm _ _)

theorem iblk0 (t : Fin cfg0.N) (r : Fin 384) (l : Fin 2048) :
    (iblk m c 0 t : Vec Ideal S384x2048 .bf16) (ix2 r l) = padded (argD m c) (ix2 (row t r) l) :=
  (tile2 (Val := Elt Ideal) (e := .bf16) (V m c main_v1) _ (idx t).1 r l (row t r) l (mul_row t r) (by omega)).trans (congrFun (hosts m c).1 _)

theorem iblk1 (t : Fin cfg0.N) (r : Fin 384) (l : Fin 2048) :
    (iblk m c 1 t : Vec Ideal S384x2048 .f32) (ix2 r l) = padded (argX m c) (ix2 (row t r) l) :=
  (tile2 (Val := Elt Ideal) (e := .f32) (V m c main_v2) _ (idx t).2.1 r l (row t r) l (mul_row t r) (by omega)).trans (congrFun (hosts m c).2.1 _)

theorem iblk2 (t : Fin cfg0.N) (l : Fin 2048) :
    (iblk m c 2 t : Vec Ideal S1x2048 .f32) (ix2 0 l) = argG m c (ix1 l) := by
  refine (tile2 (Val := Elt Ideal) (e := .f32) (V m c main_v3) _ (idx t).2.2.1 0 l 0 l rfl (by omega)).trans ((congrFun (hosts m c).2.2.1 _).trans ?_)
  pointwise

theorem iblk3 (t : Fin cfg0.N) (r : Fin 384) (l : Fin 2048) :
    (iblk m c 3 t : Vec Ideal S384x2048 .f32) (ix2 r l) = padded (argR m c) (ix2 (row t r) l) :=
  (tile2 (Val := Elt Ideal) (e := .f32) (V m c main_v4) _ (idx t).2.2.2.1 r l (row t r) l (mul_row t r) (by omega)).trans (congrFun (hosts m c).2.2.2 _)

/-! ## What each point leaves in the staging buffers -/

theorem hz : (![0, 0] : Fin 2 → Nat) = fun _ => 0 := by funext a; fin_cases a <;> rfl

theorem after_A (t : Fin cfg0.N) (h0 : t.val % 11 = 0) (h1 : ¬1 ≤ t.val) :
    outsAt0 m c t.val t.isLt = (k0_pay7 (iblk m c 0 t) (iblk m c 1 t) (iblk m c 2 t) (iblk m c 3 t),
      k0_pay8 (iblk m c 0 t) (iblk m c 1 t) (iblk m c 2 t) (iblk m c 3 t), k0_pay6 (iblk m c 0 t) (iblk m c 1 t)) := by
  rw [outsAt0_A m c t h0 h1]
  unfold out0_A_4 out0_A_5 out0_A_6
  rw [View.read_writes_eq_canon _ _ _ (fun y => cover0_A_4 ..), View.read_writes_eq_canon _ _ _ (fun y => cover0_A_5 ..),
    View.read_writes_eq_canon _ _ _ (fun y => cover0_A_6 ..)]
  unfold kernelRun0_A; dsimp only; sl_unfold_words
  simp only [View.canon_unit_zero (S := S384x2048) hz, View.canon_unit_zero (S := S1x2048) hz, View.readAt_eq_ld, Memref.IsWhole.read_unread, View.ld_unit_zero (S := S384x2048) hz,
    View.ld_unit_zero (S := S1x2048) hz, shapeCast_self]

theorem after_B (t : Fin cfg0.N) (h0 : ¬t.val % 11 = 0) (h1 : 1 ≤ t.val) :
    outsAt0 m c t.val t.isLt = (k0_pay7 (iblk m c 0 t) (iblk m c 1 t) (iblk m c 2 t) (iblk m c 3 t),
      k0_pay8 (iblk m c 0 t) (iblk m c 1 t) (iblk m c 2 t) (iblk m c 3 t),
      k0_pay1 (k0_pay6 (iblk m c 0 t) (iblk m c 1 t)) (outsAt0 m c (t.val - 1) (Nat.lt_of_le_of_lt (Nat.sub_le _ _) t.isLt)).2.2) := by
  rw [outsAt0_B m c t h0 h1]
  unfold out0_B_4 out0_B_5 out0_B_6
  rw [View.read_writes_eq_canon _ _ _ (fun y => cover0_B_4 ..), View.read_writes_eq_canon _ _ _ (fun y => cover0_B_5 ..),
    View.read_writes_eq_canon _ _ _ (fun y => cover0_B_6 ..)]
  unfold kernelRun0_B; dsimp only; sl_unfold_words
  simp only [View.canon_unit_zero (S := S384x2048) hz, View.canon_unit_zero (S := S1x2048) hz, View.readAt_eq_ld, Memref.IsWhole.read_unread, View.ld_unit_zero (S := S384x2048) hz,
    View.ld_unit_zero (S := S1x2048) hz, shapeCast_self]

/-- The first two outputs after a point. -/
theorem after_dx (t : Fin cfg0.N) : (outsAt0 m c t.val t.isLt).1 = k0_pay7 (iblk m c 0 t) (iblk m c 1 t) (iblk m c 2 t) (iblk m c 3 t)
    ∧ (outsAt0 m c t.val t.isLt).2.1 = k0_pay8 (iblk m c 0 t) (iblk m c 1 t) (iblk m c 2 t) (iblk m c 3 t) := by
  have hN : t.val < 11 := lt_of_lt_of_eq t.isLt N_0
  by_cases h1 : 1 ≤ t.val
  · rw [after_B m c t (by omega) h1]; exact ⟨rfl, rfl⟩
  · rw [after_A m c t (by omega) h1]; exact ⟨rfl, rfl⟩

theorem at_row (i : S4224x2048.Idx) : ∃ t r l, i = ix2 (row t r) l := by
  have hi : (i 0).val < 4224 := (i 0).isLt
  refine ⟨⟨(i 0).val / 384, lt_of_lt_of_eq (by omega) N_0.symm⟩, ⟨(i 0).val % 384, by omega⟩, i 1, ?_⟩
  funext a
  match a with
  | ⟨0, _⟩ => exact Fin.ext (Nat.div_add_mod _ _).symm
  | ⟨1, _⟩ => rfl

/-! ## The result arrays -/

/-- The arguments that must be finite, finite. -/
structure Fin3 : Prop where
  x : ∀ i, ((argX m c i).toReal : EReal) = argX m c i
  g : ∀ i, ((argG m c i).toReal : EReal) = argG m c i
  d : ∀ i, ((argD m c i).toReal : EReal) = argD m c i

/-- The gradient plus the residual path's, as the kernel leaves it. -/
def resDx : S4224x2048.Idx → EReal := fun i =>
  padded (argR m c) i + (dx (at2 (argX m c)) (at1 (argG m c)) (at2 (argD m c)) (i 0).val (i 1).val : EReal)

/-- The gradient of the weight, as the kernel leaves it. -/
def resDg : S1x2048.Idx → EReal := fun i =>
  ((∑ r ∈ Finset.range 4224, dgRow (at2 (argX m c)) (at2 (argD m c)) r (i 1).val : ℝ) : EReal)

variable {m c} (h : Fin3 m c)
include h

theorem blkD (t : Fin cfg0.N) (r : Fin 384) (l : Fin 2048) :
    (iblk m c 0 t : Vec Ideal S384x2048 .bf16) (ix2 r l) = (at2 (argD m c) (384 * t.val + r.val) l.val : EReal) :=
  (iblk0 m c t r l).trans (pad_rows h.d padv _ _ (padv_zero _) (row t r) l)

theorem blkX (t : Fin cfg0.N) (r : Fin 384) (l : Fin 2048) :
    (iblk m c 1 t : Vec Ideal S384x2048 .f32) (ix2 r l) = (at2 (argX m c) (384 * t.val + r.val) l.val : EReal) :=
  (iblk1 m c t r l).trans (pad_rows h.x padv _ _ (padv_zero _) (row t r) l)

theorem blkG (t : Fin cfg0.N) (l : Fin 2048) :
    (iblk m c 2 t : Vec Ideal S1x2048 .f32) (ix2 0 l) = (at1 (argG m c) l.val : EReal) :=
  (iblk2 m c t l).trans (at1_coe h.g l)

theorem tile_dx (t : Fin cfg0.N) (r : Fin 384) (l : Fin 2048) :
    k0_pay7 (iblk m c 0 t) (iblk m c 1 t) (iblk m c 2 t) (iblk m c 3 t) (ix2 r l) = resDx m c (ix2 (row t r) l) := by
  rw [pay7_eq _ _ _ (blkD h t) (blkX h t) (blkG h t), iblk3]
  rfl

/-- After point `n` the third output holds the sum over the rows of the tiles up to `n`. -/
theorem after_dg : ∀ (n : ℕ) (hn : n < cfg0.N) (l : Fin 2048), (outsAt0 m c n hn).2.2 (ix2 0 l)
      = ((∑ r ∈ Finset.range (384 * (n + 1)), dgRow (at2 (argX m c)) (at2 (argD m c)) r l.val : ℝ) : EReal)
  | 0, hn, l => by
    have hA := after_A m c ⟨0, hn⟩ rfl (by simp)
    rw [hA]
    show k0_pay6 (iblk m c 0 ⟨0, hn⟩) (iblk m c 1 ⟨0, hn⟩) (ix2 0 l) = _
    rw [sum_tile, pay6_eq _ _ (blkD h ⟨0, hn⟩) (blkX h ⟨0, hn⟩)]
    simp
  | n + 1, hn, l => by
    have hN : n + 1 < 11 := lt_of_lt_of_eq hn N_0
    have hB := after_B m c ⟨n + 1, hn⟩ (by show ¬(n + 1) % 11 = 0; omega) (Nat.le_add_left 1 n)
    rw [hB]
    have ih := after_dg n (Nat.lt_of_succ_lt hn) l
    show k0_pay1 _ (outsAt0 m c n _).2.2 (ix2 0 l) = _
    rw [sum_tile, ← add_coe, ← ih, ← pay6_eq _ _ (blkD h ⟨n + 1, hn⟩) (blkX h ⟨n + 1, hn⟩)]
    pointwise [k0_pay1]

theorem final_dx : (dats m 0 c).arrAt 4 cfg0.N = resDx m c := by
  funext i
  obtain ⟨t, r, l, rfl⟩ := at_row i
  refine (tile2 ((dats m 0 c).arrAt 4 cfg0.N) _ (idx t).2.2.2.2.1 r l (row t r) l (mul_row t r) (by omega)).symm.trans
    ((congrFun (Value.blocks4 m c t (flush0_4 t)) (ix2 r l)).trans ?_)
  rw [Value.flushed4, (after_dx m c t).1]
  exact tile_dx h t r l

theorem final_dxb : (dats m 0 c).arrAt 5 cfg0.N = resDx m c := by
  funext i
  obtain ⟨t, r, l, rfl⟩ := at_row i
  refine (tile2 ((dats m 0 c).arrAt 5 cfg0.N) _ (idx t).2.2.2.2.2.1 r l (row t r) l (mul_row t r) (by omega)).symm.trans
    ((congrFun (Value.blocks5 m c t (flush0_5 t)) (ix2 r l)).trans ?_)
  rw [Value.flushed5, (after_dx m c t).2]
  exact tile_dx h t r l

theorem flushed_dg (t : Fin cfg0.N) (hf : (cfg0.win 6).flush t = true) :
    (dats m 0 c).flushed 6 t = ((cfg0.win 6).blk t).view.read (Elt Ideal) (resDg m c) := by
  have hN : t.val < 11 := lt_of_lt_of_eq t.isLt N_0
  have ht : t.val = 10 := by have := (flush0_6 t).mp hf; omega
  rw [Value.flushed6]
  funext j
  obtain ⟨r, l, rfl⟩ : ∃ (r : Fin 1) (l : Fin 2048), j = ix2 r l := ⟨j 0, j 1, by funext a; fin_cases a <;> rfl⟩
  obtain rfl : r = 0 := Subsingleton.elim _ _
  rw [View.read_apply]
  show (outsAt0 m c t.val t.isLt).2.2 (ix2 0 l) = resDg m c _
  rw [after_dg h, ht]
  unfold resDg
  have hl : l.val = (((cfg0.win 6).blk t).view.emb (ix2 0 l) 1).val := ?_
  · rw [← hl]
  show l.val = win0_6.index t 1 * 2048 + 1 * l.val
  rw [(idx t).2.2.2.2.2.2.2]; omega

theorem final_dg : (dats m 0 c).arrAt 6 cfg0.N = resDg m c :=
  (dats m 0 c).arrAt_eq_of_cover 6 (resDg m c) (fun t hf => flushed_dg h t hf) fun i => by
    have h0 : (i 0 : Nat) < 1 := (i 0).isLt
    have h1 : (i 1 : Nat) < 2048 := (i 1).isLt
    refine ⟨⟨10, by decide⟩, (flush0_6 _).mpr rfl, ?_⟩
    generalize (⟨10, _⟩ : Fin cfg0.N) = q
    show i ∈ ((View.whole main_v5_2).slice (win0_6.rect q)).set
    rw [View.set_slice_whole, Rect.mem_set_unit]
    intro a
    match a with
    | ⟨0, _⟩ => show win0_6.index q 0 * 1 ≤ (i 0 : Nat) ∧ (i 0 : Nat) < win0_6.index q 0 * 1 + 1; rw [(idx q).2.2.2.2.2.2.1]; omega
    | ⟨1, _⟩ => show win0_6.index q 1 * 2048 ≤ (i 1 : Nat) ∧ (i 1 : Nat) < win0_6.index q 1 * 2048 + 2048; rw [(idx q).2.2.2.2.2.2.2]; omega

end Cert.NormBwdIdeal.Tiles
-- ==== Proof.NormRef.lean ====
/- The gradient of the root-mean-square norm as `jax.vjp` writes it, as the same real formulas. -/
module

public import proofs.«01_k».proof.Proof.Gen.NormRefIdeal.Run
public import proofs.«01_k».proof.Proof.Gen.NormRefIdeal.Read
public import proofs.«01_k».proof.Proof.Norm

@[expose] public section

noncomputable section

namespace Cert.NormRefIdeal.Rows

open Idealize.ShloMosaic Cert.NormRefIdeal Cert.NormRefIdeal.Gen Cert.NormRefIdeal.Read Cert.Reals Cert.Norm
open Facts

variable (x : S4112x2048.Idx → EReal) (g : S2048.Idx → EReal) (d res : S4112x2048.Idx → EReal)
  (hx : ∀ i, ((x i).toReal : EReal) = x i) (hg : ∀ i, ((g i).toReal : EReal) = g i) (hd : ∀ i, ((d i).toReal : EReal) = d i)

include hx in
theorem ms_row (r : Fin 4112) : Ideal.div (∑ k : Fin 2048, x (ix2 r k) * x (ix2 r k)) (Ideal.ofBits .f32 0x45000000#32)
      + Ideal.ofBits .f32 0x358637BD#32 = (ms (at2 x) r : EReal) := by
  have h2 : (2048 : ℝ) ≠ 0 := by norm_num
  simp only [at2_coe hx, mul_coe, sum_coe, ofBits_2048, ofBits_eps, div_coe h2, add_coe]
  rfl

/-- The two ways of writing the gradient of the norm agree. -/
theorem dx_eq (X D : ℕ → ℕ → ℝ) (G : ℕ → ℝ) (r l : ℕ) :
    D r l * G l * rs X r + X r l * ((∑ k : Fin 2048, X r k * (D r k * G k)) * (-(1 / 2) * (rs X r / ms X r)) / 2048)
      + (∑ k : Fin 2048, X r k * (D r k * G k)) * (-(1 / 2) * (rs X r / ms X r)) / 2048 * X r l = dx X G D r l := by
  have hs : rs X r / ms X r = rs X r * (rs X r * rs X r) := by
    rw [div_eq_mul_inv]
    congr 1
    unfold rs
    rw [← mul_inv, Real.mul_self_sqrt (ms_pos X r).le]
  have hsum : ∑ k : Fin 2048, D r k * G k * (X r k * rs X r) = (∑ k : Fin 2048, X r k * (D r k * G k)) * rs X r := by
    rw [Finset.sum_mul]
    exact Finset.sum_congr rfl fun k _ => by ring
  unfold dx
  rw [hs, hsum]
  ring

include hx hg hd in
theorem v36_eq (r : Fin 4112) (l : Fin 2048) :
    val_main_v36 (F := Ideal) x g d res (ix2 r l) = res (ix2 r l) + (dx (at2 x) (at1 g) (at2 d) r l : EReal) := by
  have h2 : (2048 : ℝ) ≠ 0 := by norm_num
  pointwise [val_main_v36, val_main_v35, val_main_v34, val_main_v33, val_main_v32, val_main_v31, val_main_v30, val_main_v29, val_main_v28, val_main_v27,
    val_main_v26, val_main_v25, val_main_v24, val_main_v23, val_main_v22, val_main_v20, val_main_v19, val_main_v13, val_main_v10, val_main_v9,
    val_main_v8, val_main_v7, val_main_v6, val_main_v5, val_main_v4, val_main_v3, val_main_v2, val_main_v1, val_main_v0, val_main_cst, val_main_cst_0,
    val_main_cst_1, val_main_cst_2, val_main_cst_3, val_main_cst_4, val_main_cst_5, val_main_cst_6, val_main_cst_7]
  rw [ms_row x hx r, rsqrt_pos (ms_pos _ _), ← dx_eq]
  simp only [at2_coe hx, at2_coe hd, at1_coe hg, mul_coe, sum_coe, ofBits_2048, ofBits_neg_half, div_coe h2, div_coe (ms_pos (at2 x) r).ne', add_coe, add_assoc,
    Finset.univ_unique, Finset.sum_singleton]
  rfl

include hx hd in
theorem v39_eq (l : Fin 2048) :
    val_main_v39 (F := Ideal) x d (ix2 0 l) = ((∑ r ∈ Finset.range 4112, dgRow (at2 x) (at2 d) r l : ℝ) : EReal) := by
  pointwise [val_main_v39, val_main_v21, val_main_v18, val_main_v17, val_main_v16, val_main_v12, val_main_v11,
     val_main_v7, val_main_v6, val_main_v5, val_main_v4, val_main_v3, val_main_v2, val_main_v1, val_main_v0, val_main_cst, val_main_cst_0,
    val_main_cst_1, val_main_cst_2, val_main_cst_3, val_main_cst_4, val_main_cst_5, val_main_cst_6, val_main_cst_7]
  simp only [ms_row x hx, rsqrt_pos (ms_pos _ _)]
  simp only [at2_coe hx, at2_coe hd, mul_coe, sum_coe, Finset.univ_unique, Finset.sum_singleton]
  rw [Finset.sum_range fun r => dgRow (at2 x) (at2 d) r l]
  refine congrArg Real.toEReal (Finset.sum_congr rfl fun r _ => ?_)
  unfold dgRow rs
  ring

/-! ## The kernel's arrays are the reference's -/

/-- Equal matrices padded alike are read alike. -/
theorem pad_add (y : S4112x2048.Idx → EReal) (f : ℕ → ℕ → ℝ) (hf : ∀ r l, 4112 ≤ r → f r l = 0)
    (hy : ∀ (r : Fin 4112) (l : Fin 2048), y (ix2 r l) = res (ix2 r l) + (f r l : EReal)) (v : S_.Idx → EReal) (hv : ∀ i, v i = 0) (i : S4224x2048.Idx) :
    pad S4224x2048 ![0, 0] ![112, 0] ![0, 0] y v pads_S4112x2048_S4224x2048_01120_000 h_S_ i
      = pad S4224x2048 ![0, 0] ![112, 0] ![0, 0] res v pads_S4112x2048_S4224x2048_01120_000 h_S_ i + (f (i 0).val (i 1).val : EReal) := by
  have h1 : (i 1 : Nat) < 2048 := (i 1).isLt
  by_cases hr : (i 0).val < 4112
  · have hk : ∀ a : Fin 2, (i a).val = (![0, 0] : Fin 2 → ℕ) a + ((ix2 (⟨(i 0).val, hr⟩ : Fin 4112) (⟨(i 1).val, h1⟩ : Fin 2048)) a).val * ((![0, 0] : Fin 2 → ℕ) a + 1) := by
      intro a
      fin_cases a
      · show (i 0).val = 0 + (i 0).val * (0 + 1); omega
      · show (i 1).val = 0 + (i 1).val * (0 + 1); omega
    rw [pad_apply_of_inside _ _ _ y v _ _ i (ix2 ⟨(i 0).val, hr⟩ ⟨(i 1).val, h1⟩) hk, pad_apply_of_inside _ _ _ res v _ _ i (ix2 ⟨(i 0).val, hr⟩ ⟨(i 1).val, h1⟩) hk]
    exact hy _ _
  · have hn : ¬((![0, 0] : Fin 2 → ℕ) 0 ≤ (i 0).val ∧ ((i 0).val - (![0, 0] : Fin 2 → ℕ) 0) % ((![0, 0] : Fin 2 → ℕ) 0 + 1) = 0
        ∧ ((i 0).val - (![0, 0] : Fin 2 → ℕ) 0) / ((![0, 0] : Fin 2 → ℕ) 0 + 1) < 4112) := by
      show ¬(0 ≤ (i 0).val ∧ ((i 0).val - 0) % (0 + 1) = 0 ∧ ((i 0).val - 0) / (0 + 1) < 4112)
      omega
    rw [pad_apply_of_not_inside _ _ _ y v _ _ i 0 hn, pad_apply_of_not_inside _ _ _ res v _ _ i 0 hn, hv, hf _ _ (not_lt.mp hr)]
    simp

end Cert.NormRefIdeal.Rows
-- ==== Proof.NormClaim.lean ====
/- The claims about the norm's gradient, assembled. -/
module

public import proofs.«01_k».proof.Defs
public import proofs.«01_k».proof.Proof.Gen.NormBwd.Frame
public import proofs.«01_k».proof.Proof.Norm
public import proofs.«01_k».proof.Proof.NormRef

@[expose] public section

noncomputable section

namespace Cert.Pre_finite_norm

open Idealize.ShloMosaic

theorem facts : Facts where
  bcast_S_S4112x2048 := by decide
  reducesTo_S4112x2048_S_d0_1 := by decide
  h_S_ := by decide
  bcast_S_S2048 := by decide
  reducesTo_S2048_S_d0 := by decide

end Cert.Pre_finite_norm

namespace Cert.Norm

open Idealize.ShloMosaic Idealize.SL.Sem Cert.Reals

instance : Subsingleton Cert.Pre_finite_norm.S_.Idx := ⟨fun a b => funext fun i => i.elim0⟩

/-- The precondition says that the norm's input, weight and cotangent are finite. -/
theorem fin3 [Cert.Pre_finite_norm.Facts] {m : Cert.NormBwdIdeal.Tiles.Mem} (h : Cert.Pre_NormBwdIdeal_finite_norm m) (c : Dev Cert.NormBwdIdeal.nD) :
    Cert.NormBwdIdeal.Tiles.Fin3 m c := by
  have e := congrFun (h c) (fun i => i.elim0)
  dsimp only [Cert.Pre_finite_norm.fn] at e
  obtain ⟨e', e3⟩ := andi_one _ _ _ e
  obtain ⟨e1, e2⟩ := andi_one _ _ _ e'
  exact ⟨fun i => finite_of_cmpf (Host.reduce_andi_all _ _ _ _ _ e1 i), fun i => finite_of_cmpf (Host.reduce_andi_all _ _ _ _ _ e2 i),
    fun i => finite_of_cmpf (Host.reduce_andi_all _ _ _ _ _ e3 i)⟩

/-- The reference runs and leaves its arguments and the semaphores as they were. -/
theorem quiescent_ref : Cert.quiescent_NormRefIdeal (hNormRefIdeal := Cert.NormRefIdeal.Gen.facts) := fun m ρ _ =>
  (θ_run _ _ _).mono (fun r h => ⟨fun c => (h c).2.2.2, sem_eq_zero_of_no_sems (by decide) r.2⟩) (Cert.NormRefIdeal.Value.run (F := Ideal) m ρ)

/-- The padded zero of the host. -/
theorem host_zero (i : Cert.NormRefIdeal.S_.Idx) : Cert.NormRefIdeal.Read.val_main_call0_v0 (F := Ideal) i = 0 := by
  show ((((0#32 : BitVec 32).toInt : ℝ)) : EReal) = 0
  simp

section Values

variable {m : Cert.NormBwdIdeal.Tiles.Mem} {c : Dev Cert.NormBwdIdeal.nD} (h : Cert.NormBwdIdeal.Tiles.Fin3 m c)
open Cert.NormBwdIdeal.Tiles
include h

theorem ref_dx : Cert.NormRefIdeal.Read.val_main_v37 (F := Ideal) (argX m c) (argG m c) (argD m c) (argR m c) = resDx m c := by
  funext i
  refine (Cert.NormRefIdeal.Rows.pad_add (argR m c) _ (dx (at2 (argX m c)) (at1 (argG m c)) (at2 (argD m c))) (fun r l hr => ?_)
    (Cert.NormRefIdeal.Rows.v36_eq (argX m c) (argG m c) (argD m c) (argR m c) h.x h.g h.d) _ host_zero i).trans rfl
  unfold dx
  simp only [at2_out (argX m c) _ hr, at2_out (argD m c) _ hr]
  simp

theorem ref_dg : Cert.NormRefIdeal.Read.val_main_v39 (F := Ideal) (argX m c) (argD m c) = resDg m c := by
  funext i
  obtain ⟨r, l, rfl⟩ : ∃ (r : Fin 1) (l : Fin 2048), i = ix2 r l := ⟨i 0, i 1, by funext a; fin_cases a <;> rfl⟩
  obtain rfl : r = 0 := Subsingleton.elim _ _
  rw [Cert.NormRefIdeal.Rows.v39_eq (argX m c) (argD m c) h.x h.d]
  unfold resDg
  refine congrArg Real.toEReal (sum_range_zero _ (by norm_num) fun r hr => ?_).symm
  unfold dgRow
  rw [at2_out (argD m c) _ hr, zero_mul]

end Values

theorem algebraic [hp : Cert.Pre_finite_norm.Facts] : Cert.algebraic_NormBwdIdeal_NormRefIdeal_pre_finite_norm (hNormBwdIdeal := Cert.NormBwdIdeal.Gen.facts)
    (hNormRefIdeal := Cert.NormRefIdeal.Gen.facts) := by
  intro m ρ m' ρ' hpre hag
  have hf := fun c => fin3 hpre c
  refine ⟨fun c => Cert.NormBwdIdeal.Tiles.resDx m c, fun c => Cert.NormBwdIdeal.Tiles.resDx m c, fun c => Cert.NormBwdIdeal.Tiles.resDg m c, ?_, ?_⟩
  · refine (θ_run _ _ _).mono (fun r h c => ?_) (Cert.NormBwdIdeal.Value.run_blocks m ρ)
    obtain ⟨h0, h1, h2, h3⟩ := h c
    exact ⟨h0.trans (Cert.NormBwdIdeal.Tiles.final_dx (hf c)), h1.trans (Cert.NormBwdIdeal.Tiles.final_dxb (hf c)),
      h2.trans (Cert.NormBwdIdeal.Tiles.final_dg (hf c)), h3⟩
  · refine (θ_run _ _ _).mono (fun r h c => ?_) (Cert.NormRefIdeal.Value.run (F := Ideal) m' ρ')
    obtain ⟨h0, h1, h2, h3⟩ := h c
    obtain ⟨a0, a1, a2, a3⟩ := hag c
    refine ⟨h0.trans ?_, h1.trans ?_, h2.trans ?_, h3⟩
    · rw [Cert.NormRefIdeal.Read.val_main_v37_eq, a0, a1, a2, a3]
      exact ref_dx (hf c)
    · rw [Cert.NormRefIdeal.Read.val_main_v38_eq, a0, a1, a2, a3]
      exact ref_dx (hf c)
    · rw [Cert.NormRefIdeal.Read.val_main_v39_eq, a0, a2]
      exact ref_dg (hf c)

end Cert.Norm
-- ==== Proof.AttnLoop.lean ====
/- The loop over query tiles of the attention gradient: what one trip reads and writes, and what all trips before
   a given one have written. -/
module

public import proofs.«01_k».proof.Proof.Gen.AttnBwdIdeal.Frame
public import proofs.«01_k».proof.Proof.Gen.AttnBwdIdeal.Loops

@[expose] public section

set_option maxRecDepth 16384
set_option maxHeartbeats 4000000

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnBwdIdeal Cert.AttnBwdIdeal.Gen

variable {F : FTy → Type} [FloatOps F]

/-- The kernel's fifteen blocks: eight it reads, three it writes, and its four scratch buffers. -/
structure Args where
  a1 : Memref sig .tc .vmem S4224x256 .bf16
  h1 : a1.IsWhole
  a2 : Memref sig .tc .vmem S4224x256 .bf16
  h2 : a2.IsWhole
  a3 : Memref sig .tc .vmem S4224x128 .bf16
  h3 : a3.IsWhole
  a4 : Memref sig .tc .vmem S4224x128 .bf16
  h4 : a4.IsWhole
  a5 : Memref sig .tc .vmem S1x4224x128 .f32
  h5 : a5.IsWhole
  a6 : Memref sig .tc .vmem S4224x128 .bf16
  h6 : a6.IsWhole
  a7 : Memref sig .tc .vmem S4224x128 .f32
  h7 : a7.IsWhole
  a8 : Memref sig .tc .vmem S4224x128 .f32
  h8 : a8.IsWhole
  a9 : Memref sig .tc .vmem S4224x256 .bf16
  h9 : a9.IsWhole
  a10 : Memref sig .tc .vmem S4224x256 .bf16
  h10 : a10.IsWhole
  a11 : Memref sig .tc .vmem S1x4224x128 .f32
  h11 : a11.IsWhole
  a12 : Memref sig .tc .vmem S4224x256 .bf16
  h12 : a12.IsWhole
  a13 : Memref sig .tc .vmem S4224x256 .f32
  h13 : a13.IsWhole
  a14 : Memref sig .tc .vmem S4224x128 .f32
  h14 : a14.IsWhole
  a15 : Memref sig .tc .vmem S512x256 .f32
  h15 : a15.IsWhole

/-- The contents of the blocks a trip only reads: the eight arguments and the copy of the keys. -/
structure Ins (F : FTy → Type) (A : Args) where
  x1 : BufTy.Contents (Elt F) A.a1.view.ty
  x2 : BufTy.Contents (Elt F) A.a2.view.ty
  x3 : BufTy.Contents (Elt F) A.a3.view.ty
  x4 : BufTy.Contents (Elt F) A.a4.view.ty
  x5 : BufTy.Contents (Elt F) A.a5.view.ty
  x6 : BufTy.Contents (Elt F) A.a6.view.ty
  x7 : BufTy.Contents (Elt F) A.a7.view.ty
  x8 : BufTy.Contents (Elt F) A.a8.view.ty
  x12 : BufTy.Contents (Elt F) A.a12.view.ty

/-- What a trip holds. -/
abbrev Trip (c : Dev nD) (A : Args) (X : Ins F A) (f9 : BufTy.Contents (Elt F) A.a9.view.ty) (f13 : BufTy.Contents (Elt F) A.a13.view.ty) (f14 : BufTy.Contents (Elt F) A.a14.view.ty) (f15 : BufTy.Contents (Elt F) A.a15.view.ty) :
    sProp (MT nD τ sig Unit (Elt F) ℕ (UR sig nD τ) ℕ) :=
  iprop((A.a1.view.loc (c : Thread nD τ) ↦[A.a1.view.set]{fullShare} X.x1) ∗ (A.a2.view.loc (c : Thread nD τ) ↦[A.a2.view.set]{fullShare} X.x2) ∗ (A.a3.view.loc (c : Thread nD τ) ↦[A.a3.view.set]{fullShare} X.x3) ∗ (A.a4.view.loc (c : Thread nD τ) ↦[A.a4.view.set]{fullShare} X.x4) ∗ (A.a5.view.loc (c : Thread nD τ) ↦[A.a5.view.set]{fullShare} X.x5) ∗ (A.a6.view.loc (c : Thread nD τ) ↦[A.a6.view.set]{fullShare} X.x6) ∗ (A.a7.view.loc (c : Thread nD τ) ↦[A.a7.view.set]{fullShare} X.x7) ∗ (A.a8.view.loc (c : Thread nD τ) ↦[A.a8.view.set]{fullShare} X.x8) ∗ (A.a12.view.loc (c : Thread nD τ) ↦[A.a12.view.set]{fullShare} X.x12) ∗ (A.a9.view.loc (c : Thread nD τ) ↦[A.a9.view.set]{fullShare} f9) ∗ (A.a13.view.loc (c : Thread nD τ) ↦[A.a13.view.set]{fullShare} f13) ∗ (A.a14.view.loc (c : Thread nD τ) ↦[A.a14.view.set]{fullShare} f14) ∗ (A.a15.view.loc (c : Thread nD τ) ↦[A.a15.view.set]{fullShare} f15))

/-- The pieces one trip writes, each a function of the contents found. -/
structure Pieces (F : FTy → Type) [FloatOps F] (A : Args) where
  L9 : BufTy.Contents (Elt F) A.a13.view.ty → BufTy.Contents (Elt F) A.a14.view.ty → List (View.Piece (Elt F) S4224x256 .bf16)
  L13 : BufTy.Contents (Elt F) A.a13.view.ty → BufTy.Contents (Elt F) A.a14.view.ty → List (View.Piece (Elt F) S4224x256 .f32)
  L14 : BufTy.Contents (Elt F) A.a13.view.ty → BufTy.Contents (Elt F) A.a14.view.ty → List (View.Piece (Elt F) S4224x128 .f32)
  C15 : BufTy.Contents (Elt F) A.a13.view.ty → BufTy.Contents (Elt F) A.a14.view.ty → BufTy.Contents (Elt F) A.a15.view.ty

/-- One trip, at an odd tile (a half block remains). -/
@[irreducible] def trip_odd (c : Dev nD) (i : grid0.Coords) (A : Args) (X : Ins F A)
    (k : Fin k0_t1_loop.trips) (hk : k0_cond1 k = 1#1) :
    { L : Pieces F A //
        ∀ (E : Set ℕ) (f9 : BufTy.Contents (Elt F) A.a9.view.ty) (f13 : BufTy.Contents (Elt F) A.a13.view.ty) (f14 : BufTy.Contents (Elt F) A.a14.view.ty) (f15 : BufTy.Contents (Elt F) A.a15.view.ty),
          Trip c A X f9 f13 f14 f15
          ⊢ wp frame (wpE (defs₀ (F := F)) Variants.none (c : Thread nD τ) none) E
              (k0_t1_body (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 k PUnit.unit)
              (fun _ => Trip c A X (A.a9.view.writes (Elt F) f9 (L.L9 f13 f14)) (A.a13.view.writes (Elt F) f13 (L.L13 f13 f14)) (A.a14.view.writes (Elt F) f14 (L.L14 f13 f14)) (L.C15 f13 f14)) } := by
  refine ⟨⟨?_, ?_, ?_, ?_⟩, fun E f9 f13 f14 f15 => ?run⟩
  case run =>
    unfold k0_t1_body
    iintro ⟨HR1, HR2, HR3, HR4, HR5, HR6, HR7, HR8, HR12, HW9, HW13, HW14, HW15⟩
    sl_exec
    sl_step
    sl_close

/-- One trip, at an even tile (no half block remains). -/
@[irreducible] def trip_even (c : Dev nD) (i : grid0.Coords) (A : Args) (X : Ins F A)
    (k : Fin k0_t1_loop.trips) (hk : ¬ k0_cond1 k = 1#1) :
    { L : Pieces F A //
        ∀ (E : Set ℕ) (f9 : BufTy.Contents (Elt F) A.a9.view.ty) (f13 : BufTy.Contents (Elt F) A.a13.view.ty) (f14 : BufTy.Contents (Elt F) A.a14.view.ty) (f15 : BufTy.Contents (Elt F) A.a15.view.ty),
          Trip c A X f9 f13 f14 f15
          ⊢ wp frame (wpE (defs₀ (F := F)) Variants.none (c : Thread nD τ) none) E
              (k0_t1_body (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 k PUnit.unit)
              (fun _ => Trip c A X (A.a9.view.writes (Elt F) f9 (L.L9 f13 f14)) (A.a13.view.writes (Elt F) f13 (L.L13 f13 f14)) (A.a14.view.writes (Elt F) f14 (L.L14 f13 f14)) (L.C15 f13 f14)) } := by
  refine ⟨⟨?_, ?_, ?_, ?_⟩, fun E f9 f13 f14 f15 => ?run⟩
  case run =>
    unfold k0_t1_body
    iintro ⟨HR1, HR2, HR3, HR4, HR5, HR6, HR7, HR8, HR12, HW9, HW13, HW14, HW15⟩
    sl_exec
    sl_step
    sl_close

/-- What one trip writes, at either parity. -/
def tripL (c : Dev nD) (i : grid0.Coords) (A : Args) (X : Ins F A) (k : Fin k0_t1_loop.trips) : Pieces F A :=
  if hk : k0_cond1 k = 1#1 then (trip_odd c i A X k hk).1 else (trip_even c i A X k hk).1

theorem trip_run (c : Dev nD) (i : grid0.Coords) (A : Args) (X : Ins F A) (k : Fin k0_t1_loop.trips) (E : Set ℕ)
    (f9 : BufTy.Contents (Elt F) A.a9.view.ty) (f13 : BufTy.Contents (Elt F) A.a13.view.ty) (f14 : BufTy.Contents (Elt F) A.a14.view.ty) (f15 : BufTy.Contents (Elt F) A.a15.view.ty) :
    Trip c A X f9 f13 f14 f15
    ⊢ wp frame (wpE (defs₀ (F := F)) Variants.none (c : Thread nD τ) none) E
        (k0_t1_body (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 k PUnit.unit)
        (fun _ => Trip c A X (A.a9.view.writes (Elt F) f9 ((tripL c i A X k).L9 f13 f14)) (A.a13.view.writes (Elt F) f13 ((tripL c i A X k).L13 f13 f14)) (A.a14.view.writes (Elt F) f14 ((tripL c i A X k).L14 f13 f14)) ((tripL c i A X k).C15 f13 f14)) := by
  unfold tripL
  split
  · next hk => exact (trip_odd c i A X k hk).2 E f9 f13 f14 f15
  · next hk => exact (trip_even c i A X k hk).2 E f9 f13 f14 f15

/-- The pieces written so far: of the query gradient, of the two accumulators. -/
structure Done (F : FTy → Type) [FloatOps F] where
  p9 : List (View.Piece (Elt F) S4224x256 .bf16)
  p13 : List (View.Piece (Elt F) S4224x256 .f32)
  p14 : List (View.Piece (Elt F) S4224x128 .f32)

/-- One more trip, from accumulators that were `G13` and `G14` when the loop began. -/
def doneStep (c : Dev nD) (i : grid0.Coords) (A : Args) (X : Ins F A) (G13 : BufTy.Contents (Elt F) A.a13.view.ty) (G14 : BufTy.Contents (Elt F) A.a14.view.ty)
    (k : ℕ) (d : Done F) : Done F :=
  if h : k < k0_t1_loop.trips then
    ⟨(tripL c i A X ⟨k, h⟩).L9 (A.a13.view.writes (Elt F) G13 d.p13) (A.a14.view.writes (Elt F) G14 d.p14) ++ d.p9,
     (tripL c i A X ⟨k, h⟩).L13 (A.a13.view.writes (Elt F) G13 d.p13) (A.a14.view.writes (Elt F) G14 d.p14) ++ d.p13,
     (tripL c i A X ⟨k, h⟩).L14 (A.a13.view.writes (Elt F) G13 d.p13) (A.a14.view.writes (Elt F) G14 d.p14) ++ d.p14⟩
  else d

/-- What the trips before the `k`-th have written. -/
def done (c : Dev nD) (i : grid0.Coords) (A : Args) (X : Ins F A) (G13 : BufTy.Contents (Elt F) A.a13.view.ty) (G14 : BufTy.Contents (Elt F) A.a14.view.ty) : ℕ → Done F
  | 0 => ⟨[], [], []⟩
  | k + 1 => doneStep c i A X G13 G14 k (done c i A X G13 G14 k)

theorem done_succ (c : Dev nD) (i : grid0.Coords) (A : Args) (X : Ins F A) (G13 : BufTy.Contents (Elt F) A.a13.view.ty) (G14 : BufTy.Contents (Elt F) A.a14.view.ty)
    (k : Fin k0_t1_loop.trips) :
    done c i A X G13 G14 (k.val + 1) =
      ⟨(tripL c i A X k).L9 (A.a13.view.writes (Elt F) G13 (done c i A X G13 G14 k.val).p13)
          (A.a14.view.writes (Elt F) G14 (done c i A X G13 G14 k.val).p14) ++ (done c i A X G13 G14 k.val).p9,
       (tripL c i A X k).L13 (A.a13.view.writes (Elt F) G13 (done c i A X G13 G14 k.val).p13)
          (A.a14.view.writes (Elt F) G14 (done c i A X G13 G14 k.val).p14) ++ (done c i A X G13 G14 k.val).p13,
       (tripL c i A X k).L14 (A.a13.view.writes (Elt F) G13 (done c i A X G13 G14 k.val).p13)
          (A.a14.view.writes (Elt F) G14 (done c i A X G13 G14 k.val).p14) ++ (done c i A X G13 G14 k.val).p14⟩ := by
  show doneStep c i A X G13 G14 k.val (done c i A X G13 G14 k.val) = _
  unfold doneStep
  exact dif_pos k.isLt

set_option warn.classDefReducibility false in
/-- The loop's invariant: before trip `k`, the blocks read as they were, the blocks written with the pieces of the
    earlier trips. -/
@[sl_loop] def loopInv (c : Dev nD) (i : grid0.Coords) (A : Args) (x1 : BufTy.Contents (Elt F) A.a1.view.ty) (x2 : BufTy.Contents (Elt F) A.a2.view.ty) (x3 : BufTy.Contents (Elt F) A.a3.view.ty) (x4 : BufTy.Contents (Elt F) A.a4.view.ty) (x5 : BufTy.Contents (Elt F) A.a5.view.ty) (x6 : BufTy.Contents (Elt F) A.a6.view.ty) (x7 : BufTy.Contents (Elt F) A.a7.view.ty) (x8 : BufTy.Contents (Elt F) A.a8.view.ty) (x12 : BufTy.Contents (Elt F) A.a12.view.ty) (E : Set ℕ)
    (G9 : BufTy.Contents (Elt F) A.a9.view.ty) (G13 : BufTy.Contents (Elt F) A.a13.view.ty) (G14 : BufTy.Contents (Elt F) A.a14.view.ty) :
    LoopInvTy_k0_t1 (F := F) Unit ℕ (UR sig nD τ) ℕ Variants.none c none E i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 where
  inv k _ := iprop((A.a1.view.loc (c : Thread nD τ) ↦[A.a1.view.set]{fullShare} x1) ∗ (A.a2.view.loc (c : Thread nD τ) ↦[A.a2.view.set]{fullShare} x2) ∗ (A.a3.view.loc (c : Thread nD τ) ↦[A.a3.view.set]{fullShare} x3) ∗ (A.a4.view.loc (c : Thread nD τ) ↦[A.a4.view.set]{fullShare} x4) ∗ (A.a5.view.loc (c : Thread nD τ) ↦[A.a5.view.set]{fullShare} x5) ∗ (A.a6.view.loc (c : Thread nD τ) ↦[A.a6.view.set]{fullShare} x6) ∗ (A.a7.view.loc (c : Thread nD τ) ↦[A.a7.view.set]{fullShare} x7) ∗ (A.a8.view.loc (c : Thread nD τ) ↦[A.a8.view.set]{fullShare} x8) ∗ (A.a12.view.loc (c : Thread nD τ) ↦[A.a12.view.set]{fullShare} x12) ∗
    (∃ f, (A.a9.view.loc (c : Thread nD τ) ↦[A.a9.view.set]{fullShare} f) ∗ ⌜f = A.a9.view.writes (Elt F) G9 (done c i A ⟨x1, x2, x3, x4, x5, x6, x7, x8, x12⟩ G13 G14 k).p9⌝) ∗
    (∃ f, (A.a13.view.loc (c : Thread nD τ) ↦[A.a13.view.set]{fullShare} f) ∗ ⌜f = A.a13.view.writes (Elt F) G13 (done c i A ⟨x1, x2, x3, x4, x5, x6, x7, x8, x12⟩ G13 G14 k).p13⌝) ∗
    (∃ f, (A.a14.view.loc (c : Thread nD τ) ↦[A.a14.view.set]{fullShare} f) ∗ ⌜f = A.a14.view.writes (Elt F) G14 (done c i A ⟨x1, x2, x3, x4, x5, x6, x7, x8, x12⟩ G13 G14 k).p14⌝) ∗
    (∃ f, (A.a15.view.loc (c : Thread nD τ) ↦[A.a15.view.set]{fullShare} f)))
  step k acc := by
    iintro ⟨HR1, HR2, HR3, HR4, HR5, HR6, HR7, HR8, HR12, ⟨%f9, HW9, %h9⟩, ⟨%f13, HW13, %h13⟩, ⟨%f14, HW14, %h14⟩, ⟨%f15, HW15⟩⟩
    iapply (wp_wand_r Idealize.ShloMosaic.frame (wpE (defs₀ (F := F)) Variants.none (c : Thread nD τ) none) E)
    isplitl [HR1 HR2 HR3 HR4 HR5 HR6 HR7 HR8 HR12 HW9 HW13 HW14 HW15]
    · iapply (trip_run c i A ⟨x1, x2, x3, x4, x5, x6, x7, x8, x12⟩ k E f9 f13 f14 f15)
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR12]; · iexact HR12
      isplitl [HW9]; · iexact HW9
      isplitl [HW13]; · iexact HW13
      isplitl [HW14]; · iexact HW14
      iexact HW15
    · iintro %_ ⟨HR1, HR2, HR3, HR4, HR5, HR6, HR7, HR8, HR12, HW9, HW13, HW14, HW15⟩
      rw [done_succ]
      isplitl [HR1]; · iexact HR1
      isplitl [HR2]; · iexact HR2
      isplitl [HR3]; · iexact HR3
      isplitl [HR4]; · iexact HR4
      isplitl [HR5]; · iexact HR5
      isplitl [HR6]; · iexact HR6
      isplitl [HR7]; · iexact HR7
      isplitl [HR8]; · iexact HR8
      isplitl [HR12]; · iexact HR12
      isplitl [HW9]
      · iexists _; isplitl [HW9]
        · iexact HW9
        · ipureintro; rw [h9, h13, h14, ← View.writes_append]
      isplitl [HW13]
      · iexists _; isplitl [HW13]
        · iexact HW13
        · ipureintro; rw [h13, h14, ← View.writes_append]
      isplitl [HW14]
      · iexists _; isplitl [HW14]
        · iexact HW14
        · ipureintro; rw [h13, h14, ← View.writes_append]
      iexists _; iexact HW15

end Cert.AttnBwdIdeal.Hand
-- ==== Proof.AttnBody.lean ====
/- One run of the attention gradient's body: the pieces it leaves in its three outputs. -/
module

public import proofs.«01_k».proof.Proof.AttnLoop

@[expose] public section

set_option maxRecDepth 16384
set_option maxHeartbeats 8000000

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnBwdIdeal Cert.AttnBwdIdeal.Gen

variable {F : FTy → Type} [FloatOps F]

/-- The eight blocks read. -/
structure Blocks (F : FTy → Type) where
  x1 : Vec F S4224x256 .bf16
  x2 : Vec F S4224x256 .bf16
  x3 : Vec F S4224x128 .bf16
  x4 : Vec F S4224x128 .bf16
  x5 : Vec F S1x4224x128 .f32
  x6 : Vec F S4224x128 .bf16
  x7 : Vec F S4224x128 .f32
  x8 : Vec F S4224x128 .f32

/-- The pieces left in the three outputs. -/
structure Outs (F : FTy → Type) [FloatOps F] where
  L9 : List (View.Piece (Elt F) S4224x256 .bf16)
  L10 : List (View.Piece (Elt F) S4224x256 .bf16)
  L11 : List (View.Piece (Elt F) S1x4224x128 .f32)

/-- The body, run once on any blocks: the inputs come back, the outputs hold the pieces, the scratch holds something. -/
def bodyRun (c : Dev nD) (i : grid0.Coords) (A : Args) (X : Blocks F) :
    { L : Outs F // ∀ (E : Set ℕ) (K : PUnit → sProp (MT nD τ sig Unit (Elt F) ℕ (UR sig nD τ) ℕ)),
        iprop(owns (c : Thread nD τ) A.a1 fullShare X.x1 ∗ owns (c : Thread nD τ) A.a2 fullShare X.x2 ∗ owns (c : Thread nD τ) A.a3 fullShare X.x3 ∗ owns (c : Thread nD τ) A.a4 fullShare X.x4 ∗ owns (c : Thread nD τ) A.a5 fullShare X.x5 ∗ owns (c : Thread nD τ) A.a6 fullShare X.x6 ∗ owns (c : Thread nD τ) A.a7 fullShare X.x7 ∗ owns (c : Thread nD τ) A.a8 fullShare X.x8 ∗ (∃ d, owns (c : Thread nD τ) A.a9 fullShare d) ∗ (∃ d, owns (c : Thread nD τ) A.a10 fullShare d) ∗ (∃ d, owns (c : Thread nD τ) A.a11 fullShare d) ∗ (∃ d, owns (c : Thread nD τ) A.a12 fullShare d) ∗ (∃ d, owns (c : Thread nD τ) A.a13 fullShare d) ∗ (∃ d, owns (c : Thread nD τ) A.a14 fullShare d) ∗ (∃ d, owns (c : Thread nD τ) A.a15 fullShare d) ∗
          (iprop(owns (c : Thread nD τ) A.a1 fullShare X.x1 ∗ owns (c : Thread nD τ) A.a2 fullShare X.x2 ∗ owns (c : Thread nD τ) A.a3 fullShare X.x3 ∗ owns (c : Thread nD τ) A.a4 fullShare X.x4 ∗ owns (c : Thread nD τ) A.a5 fullShare X.x5 ∗ owns (c : Thread nD τ) A.a6 fullShare X.x6 ∗ owns (c : Thread nD τ) A.a7 fullShare X.x7 ∗ owns (c : Thread nD τ) A.a8 fullShare X.x8 ∗ (∃ f, A.a9.view.loc (c : Thread nD τ) ↦[A.a9.view.set]{fullShare} A.a9.view.writes (Elt F) f L.L9) ∗ (∃ f, A.a10.view.loc (c : Thread nD τ) ↦[A.a10.view.set]{fullShare} A.a10.view.writes (Elt F) f L.L10) ∗ (∃ f, A.a11.view.loc (c : Thread nD τ) ↦[A.a11.view.set]{fullShare} A.a11.view.writes (Elt F) f L.L11) ∗ (∃ d, owns (c : Thread nD τ) A.a12 fullShare d) ∗ (∃ d, owns (c : Thread nD τ) A.a13 fullShare d) ∗ (∃ d, owns (c : Thread nD τ) A.a14 fullShare d) ∗ (∃ d, owns (c : Thread nD τ) A.a15 fullShare d)) -∗ K ⟨⟩))
        ⊢ wp frame (wpE (defs₀ (F := F)) Variants.none (c : Thread nD τ) none) E (cc0_attn_bwd i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15) K } := by
  refine ⟨⟨?_, ?_, ?_⟩, fun E K => ?run⟩
  case run =>
    simp only [cc0_attn_bwd_eq_skeleton]
    unfold cc0_attn_bwd_skel
    simp only [k0_part8_eq_skeleton, k0_part9_eq_skeleton, k0_part10_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := A.h1.eq_unread hf1
    obtain rfl := A.h2.eq_unread hf2
    obtain rfl := A.h3.eq_unread hf3
    obtain rfl := A.h4.eq_unread hf4
    obtain rfl := A.h5.eq_unread hf5
    obtain rfl := A.h6.eq_unread hf6
    obtain rfl := A.h7.eq_unread hf7
    obtain rfl := A.h8.eq_unread hf8
    sl_exec
    sl_step
    iapply Hk
    isplitl [H1]
    · iexists _; isplitr; · ipureintro; exact A.h1.read_unread _
      iexact H1
    isplitl [H2]
    · iexists _; isplitr; · ipureintro; exact A.h2.read_unread _
      iexact H2
    isplitl [H3]
    · iexists _; isplitr; · ipureintro; exact A.h3.read_unread _
      iexact H3
    isplitl [H4]
    · iexists _; isplitr; · ipureintro; exact A.h4.read_unread _
      iexact H4
    isplitl [H5]
    · iexists _; isplitr; · ipureintro; exact A.h5.read_unread _
      iexact H5
    isplitl [H6]
    · iexists _; isplitr; · ipureintro; exact A.h6.read_unread _
      iexact H6
    isplitl [H7]
    · iexists _; isplitr; · ipureintro; exact A.h7.read_unread _
      iexact H7
    isplitl [H8]
    · iexists _; isplitr; · ipureintro; exact A.h8.read_unread _
      iexact H8
    isplitl [H9]; · iexists _; iexact H9
    isplitl [H10]; · iexists _; iexact H10
    isplitl [H11]; · iexists _; iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    iexists _, _; isplitr; swap; · iexact H15
    ipureintro; rfl

end Cert.AttnBwdIdeal.Hand
-- ==== Proof.AttnFrame.lean ====
/- The attention gradient's frame: the pieces one run leaves cover its outputs, so the program runs to the end and
   returns its arguments unchanged; and what its three result arrays then hold, block by block. -/
module

public import proofs.«01_k».proof.Proof.AttnBody
public import Idealize.ShloMosaic.Lib.Claim

@[expose] public section

set_option maxRecDepth 16384
set_option maxHeartbeats 4000000

noncomputable section

namespace Cert.AttnBwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal Cert.AttnBwdIdeal.Gen

variable {F : FTy → Type} [FloatOps F]

theorem trips_eight : k0_t1_loop.trips = 8 := by decide +kernel

theorem off1_row (k : Fin k0_t1_loop.trips) : k0_off1 k = ![16 + 512 * k.val, 0] := by
  revert k; decide +kernel

/-- A trip writes the rows of its query tile. -/
theorem tripL_L9 (c : Dev nD) (i : grid0.Coords) (A : Args) (X : Ins F A) (k : Fin k0_t1_loop.trips) (f13) (f14) :
    ∃ v, (tripL c i A X k).L9 f13 f14 = [⟨Rect.unit (k0_off1 k) S512x256.size (k0_off1_inb k), v⟩] := by
  unfold tripL
  split
  · unfold trip_odd; exact ⟨_, rfl⟩
  · unfold trip_even; exact ⟨_, rfl⟩

/-- The rows of every earlier tile are among the pieces. -/
theorem done_p9_mem (c : Dev nD) (i : grid0.Coords) (A : Args) (X : Ins F A) (G13) (G14) :
    ∀ (n : ℕ) (hn : n ≤ k0_t1_loop.trips) (k : Fin k0_t1_loop.trips), k.val < n →
      ∃ v, (⟨Rect.unit (k0_off1 k) S512x256.size (k0_off1_inb k), v⟩ : View.Piece (Elt F) S4224x256 .bf16)
        ∈ (done c i A X G13 G14 n).p9
  | 0, _, k, h => absurd h (Nat.not_lt_zero _)
  | n + 1, hn, k, h => by
    rw [done_succ c i A X G13 G14 ⟨n, hn⟩]
    dsimp only
    obtain ⟨v, hv⟩ := tripL_L9 c i A X ⟨n, hn⟩ (A.a13.view.writes (Elt F) G13 (done c i A X G13 G14 n).p13)
      (A.a14.view.writes (Elt F) G14 (done c i A X G13 G14 n).p14)
    rw [hv]
    by_cases hk : k.val = n
    · obtain rfl : k = ⟨n, hn⟩ := Fin.ext hk
      exact ⟨v, List.mem_append_left _ (List.mem_singleton.2 rfl)⟩
    · obtain ⟨w, hw⟩ := done_p9_mem c i A X G13 G14 n (by omega) k (by omega)
      exact ⟨w, List.mem_append_right _ hw⟩

theorem cover9 (c : Dev nD) (i : grid0.Coords) (A : Args) (X : Blocks F) (y : S4224x256.Idx) :
    ∃ q ∈ (bodyRun c i A X).1.L9, y ∈ q.1.set := by
  have h0 : (y 0).val < 4224 := (y 0).isLt
  have h1 : (y 1).val < 256 := (y 1).isLt
  unfold bodyRun
  dsimp only
  by_cases hlo : (y 0).val < 16
  · refine ⟨_, List.mem_append_right _ (List.mem_cons_self ..), ?_⟩
    rw [Rect.mem_set_unit]
    intro a
    match a with
    | ⟨0, _⟩ => exact ⟨Nat.zero_le _, by show (y 0).val < 0 + 16; omega⟩
    | ⟨1, _⟩ => exact ⟨Nat.zero_le _, by show (y 1).val < 0 + 256; omega⟩
  by_cases hhi : 4112 ≤ (y 0).val
  · refine ⟨_, List.mem_append_right _ (List.mem_cons_of_mem _ (List.mem_cons_self ..)), ?_⟩
    rw [Rect.mem_set_unit]
    intro a
    match a with
    | ⟨0, _⟩ => exact ⟨hhi, by show (y 0).val < 4112 + 112; omega⟩
    | ⟨1, _⟩ => exact ⟨Nat.zero_le _, by show (y 1).val < 0 + 256; omega⟩
  · have hk : ((y 0).val - 16) / 512 < k0_t1_loop.trips := by rw [trips_eight]; omega
    obtain ⟨v, hv⟩ := done_p9_mem (F := F) c i A _ _ _ (Scf.trips (0#32) (Scalar.addi (0#32) (8#32)) 1#32) (by decide +kernel)
      ⟨((y 0).val - 16) / 512, hk⟩ (lt_of_lt_of_eq hk (by decide +kernel))
    refine ⟨_, List.mem_append_left _ hv, ?_⟩
    rw [Rect.mem_set_unit, off1_row]
    intro a
    match a with
    | ⟨0, _⟩ => exact ⟨by show 16 + 512 * (((y 0).val - 16) / 512) ≤ (y 0).val; omega,
        by show (y 0).val < 16 + 512 * (((y 0).val - 16) / 512) + 512; omega⟩
    | ⟨1, _⟩ => exact ⟨Nat.zero_le _, by show (y 1).val < 0 + 256; omega⟩

theorem cover10 (c : Dev nD) (i : grid0.Coords) (A : Args) (X : Blocks F) (y : S4224x256.Idx) :
    ∃ q ∈ (bodyRun c i A X).1.L10, y ∈ q.1.set := by
  unfold bodyRun
  refine ⟨_, List.mem_cons_self .., ?_⟩
  rw [Rect.mem_set_unit]
  intro a
  exact ⟨by fin_cases a <;> exact Nat.zero_le _, by fin_cases a <;> exact lt_of_lt_of_eq (y _).isLt (by rfl)⟩

theorem cover11 (c : Dev nD) (i : grid0.Coords) (A : Args) (X : Blocks F) (y : S1x4224x128.Idx) :
    ∃ q ∈ (bodyRun c i A X).1.L11, y ∈ q.1.set := by
  unfold bodyRun
  refine ⟨_, List.mem_cons_self .., ?_⟩
  rw [Rect.mem_set_unit]
  intro a
  exact ⟨by fin_cases a <;> exact Nat.zero_le _, by fin_cases a <;> exact lt_of_lt_of_eq (y _).isLt (by rfl)⟩

variable (m : (ℓ : Loc nD τ sig) → Buf (Elt F) ℓ) (ρ : Dev nD → PrngReg)

/-- The blocks the body is called with at point `t`. -/
abbrev argsAt (t : Fin cfg0.N) : Args :=
  ⟨(win0_0.stage (cfg0.slots t 0)), (hstage0_0 ((cfg0.slots t 0).cast nbuf0_0)),
   (win0_1.stage (cfg0.slots t 1)), (hstage0_1 ((cfg0.slots t 1).cast nbuf0_1)),
   (win0_2.stage (cfg0.slots t 2)), (hstage0_2 ((cfg0.slots t 2).cast nbuf0_2)),
   (win0_3.stage (cfg0.slots t 3)), (hstage0_3 ((cfg0.slots t 3).cast nbuf0_3)),
   (win0_4.stage (cfg0.slots t 4)), (hstage0_4 ((cfg0.slots t 4).cast nbuf0_4)),
   (win0_5.stage (cfg0.slots t 5)), (hstage0_5 ((cfg0.slots t 5).cast nbuf0_5)),
   (win0_6.stage (cfg0.slots t 6)), (hstage0_6 ((cfg0.slots t 6).cast nbuf0_6)),
   (win0_7.stage (cfg0.slots t 7)), (hstage0_7 ((cfg0.slots t 7).cast nbuf0_7)),
   (win0_8.stage (cfg0.slots t 8)), (hstage0_8 ((cfg0.slots t 8).cast nbuf0_8)),
   (win0_9.stage (cfg0.slots t 9)), (hstage0_9 ((cfg0.slots t 9).cast nbuf0_9)),
   (win0_10.stage (cfg0.slots t 10)), (hstage0_10 ((cfg0.slots t 10).cast nbuf0_10)),
   Memref.whole cc0_scratch0, Memref.isWhole_whole _,
   Memref.whole cc0_scratch1, Memref.isWhole_whole _,
   Memref.whole cc0_scratch2, Memref.isWhole_whole _,
   Memref.whole cc0_scratch3, Memref.isWhole_whole _⟩

/-- What they hold. -/
abbrev blocksAt (c : Dev nD) (t : Fin cfg0.N) : Blocks F :=
  ⟨iblk m c 0 t, iblk m c 1 t, iblk m c 2 t, iblk m c 3 t, iblk m c 4 t, iblk m c 5 t, iblk m c 6 t, iblk m c 7 t⟩

/-- What the run leaves at point `t`. -/
def outsAt (c : Dev nD) (t : Fin cfg0.N) : Outs F := (bodyRun c (grid0.coords t) (argsAt t) (blocksAt m c t)).1

/-- The pipeline's proof data: at each point the inputs' blocks as staged, the outputs at what the run's pieces leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon (outsAt m c t).L9
    | ⟨9, _⟩ => View.canon (outsAt m c t).L10
    | ⟨10, _⟩ => View.canon (outsAt m c t).L11
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = View.canon (outsAt m c t).L9 := by
  dsimp only [dats]
theorem after0_9 (c : Dev nD) (t : Fin cfg0.N) : (dats m 0 c).after 9 t = View.canon (outsAt m c t).L10 := by
  dsimp only [dats]
theorem after0_10 (c : Dev nD) (t : Fin cfg0.N) : (dats m 0 c).after 10 t = View.canon (outsAt m c t).L11 := by
  dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The scratch buffers hold something, and the generator register. -/
theorem PhiA0_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is given at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (argsAt t).a1 fullShare ((dats m 0 c).before 0 t d))
    ∗ (∃ d, owns (c : Thread nD τ) (argsAt t).a2 fullShare ((dats m 0 c).before 1 t d))
    ∗ (∃ d, owns (c : Thread nD τ) (argsAt t).a3 fullShare ((dats m 0 c).before 2 t d))
    ∗ (∃ d, owns (c : Thread nD τ) (argsAt t).a4 fullShare ((dats m 0 c).before 3 t d))
    ∗ (∃ d, owns (c : Thread nD τ) (argsAt t).a5 fullShare ((dats m 0 c).before 4 t d))
    ∗ (∃ d, owns (c : Thread nD τ) (argsAt t).a6 fullShare ((dats m 0 c).before 5 t d))
    ∗ (∃ d, owns (c : Thread nD τ) (argsAt t).a7 fullShare ((dats m 0 c).before 6 t d))
    ∗ (∃ d, owns (c : Thread nD τ) (argsAt t).a8 fullShare ((dats m 0 c).before 7 t d))
    ∗ (∃ d, owns (c : Thread nD τ) (argsAt t).a9 fullShare ((dats m 0 c).before 8 t d))
    ∗ (∃ d, owns (c : Thread nD τ) (argsAt t).a10 fullShare ((dats m 0 c).before 9 t d))
    ∗ (∃ d, owns (c : Thread nD τ) (argsAt t).a11 fullShare ((dats m 0 c).before 10 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (argsAt t).a1 fullShare ((dats m 0 c).after 0 t)
    ∗ owns (c : Thread nD τ) (argsAt t).a2 fullShare ((dats m 0 c).after 1 t)
    ∗ owns (c : Thread nD τ) (argsAt t).a3 fullShare ((dats m 0 c).after 2 t)
    ∗ owns (c : Thread nD τ) (argsAt t).a4 fullShare ((dats m 0 c).after 3 t)
    ∗ owns (c : Thread nD τ) (argsAt t).a5 fullShare ((dats m 0 c).after 4 t)
    ∗ owns (c : Thread nD τ) (argsAt t).a6 fullShare ((dats m 0 c).after 5 t)
    ∗ owns (c : Thread nD τ) (argsAt t).a7 fullShare ((dats m 0 c).after 6 t)
    ∗ owns (c : Thread nD τ) (argsAt t).a8 fullShare ((dats m 0 c).after 7 t)
    ∗ owns (c : Thread nD τ) (argsAt t).a9 fullShare ((dats m 0 c).after 8 t)
    ∗ owns (c : Thread nD τ) (argsAt t).a10 fullShare ((dats m 0 c).after 9 t)
    ∗ owns (c : Thread nD τ) (argsAt t).a11 fullShare ((dats m 0 c).after 10 t))

theorem sound_body (c : Dev nD) (t : Fin cfg0.N) :
    bodyPre m c t ⊢ wp frame (wpE (defs₀ (F := F)) Variants.none (c : Thread nD τ) none) Set.univ (bodyAt0 t)
      (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((bodyRun c (grid0.coords t) (argsAt t) (blocksAt m c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, ⟨%e8, H8⟩, ⟨%e9, H9⟩, ⟨%e10, H10⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact View.read_writes_eq_canon _ _ _ (cover9 c _ _ _)
  isplitl [H9]
  · unfold owns; iexists _; isplitr
    swap; · iexact H9
    ipureintro; exact View.read_writes_eq_canon _ _ _ (cover10 c _ _ _)
  unfold owns; iexists _; isplitr
  swap; · iexact H10
  ipureintro; exact View.read_writes_eq_canon _ _ _ (cover11 c _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline ends at what the proof data say, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments are unchanged and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ))
    ((θ_run defs _ _).mono (fun _ h => h.2) (run_main_quiescent m ρ))

end Cert.AttnBwdIdeal.Hand
-- ==== Proof.AttnSame.lean ====
/- The attention gradient's kernel and its idealization are one program: no operation of it is rewritten. So the frame
   proved of the idealization over every element type is the kernel's as well. -/
module

public import proofs.«01_k».proof.Defs
public import proofs.«01_k».proof.Proof.AttnFrame

@[expose] public section

set_option maxRecDepth 16384
set_option maxHeartbeats 4000000

open Idealize.ShloMosaic

namespace Cert.AttnBwd

variable {F : FTy → Type} [FloatOps F] [Cert.AttnBwd.Facts] [Cert.AttnBwdIdeal.Facts]

/-- One grid step's body is the same. -/
theorem body_same : @cc0_attn_bwd F _ _ = @Cert.AttnBwdIdeal.cc0_attn_bwd F _ _ := rfl

/-- So is the table of bodies, which has one entry, -/
theorem bodies_same : @defs₀ F _ _ = @Cert.AttnBwdIdeal.defs₀ F _ _ := by
  refine congrArg Defs.onTc (funext fun l => ?_)
  obtain ⟨l, hl⟩ := l
  cases l with
  | zero => exact funext fun a => rfl
  | succ l => exact absurd hl (by show ¬ (l + 1 < 1); omega)

theorem defs_same : @defs F _ _ = @Cert.AttnBwdIdeal.defs F _ _ :=
  congrArg (Pipeline.defs (Cert.AttnBwdIdeal.pcfgs (F := F))) bodies_same

/-- and the host program around it, window by window. -/
theorem main_same : @main F _ _ = @Cert.AttnBwdIdeal.main F _ _ := by
  have h0 : @main_part0 F _ _ = @Cert.AttnBwdIdeal.main_part0 F _ _ := rfl
  have h1 : @main_part1 F _ _ = @Cert.AttnBwdIdeal.main_part1 F _ _ := rfl
  have h2 : @main_part2 F _ _ = @Cert.AttnBwdIdeal.main_part2 F _ _ := rfl
  unfold main Cert.AttnBwdIdeal.main
  rw [h0, h1, h2]
  rfl

theorem quiescent : Cert.quiescent_AttnBwd := fun m ρ _ => by
  rw [defs_same, main_same]
  exact Cert.AttnBwdIdeal.Hand.frame (F := Bits) m ρ

end Cert.AttnBwd
-- ==== Proof.Tiles.lean ====
/- Matrices of extended reals that hold a real function of two natural indices, and what loads and stores of whole
   rows do to such a function. -/
module

public import Idealize.ShloMosaic.Lib.Pointwise
public import Idealize.ShloMosaic.Lib.Writes
public import Idealize.ShloMosaic.Lib.Pipeline.FrameBody
public import Idealize.ShloMosaic.PureOps
public import proofs.«01_k».proof.Proof.Reals

@[expose] public section

noncomputable section

namespace Cert.Reals

open Idealize.ShloMosaic

/-- The matrix holds the real function. -/
def Holds {a b : ℕ} (x : (⟨2, ![a, b]⟩ : Shape).Idx → EReal) (f : ℕ → ℕ → ℝ) : Prop :=
  ∀ (r : Fin a) (l : Fin b), x (ix2 r l) = ((f r l : ℝ) : EReal)

theorem Holds.congr {a b : ℕ} {x : (⟨2, ![a, b]⟩ : Shape).Idx → EReal} {f g : ℕ → ℕ → ℝ} (h : Holds x f)
    (e : ∀ r l, r < a → l < b → f r l = g r l) : Holds x g := fun r l => by
  rw [h r l, e r l r.isLt l.isLt]

variable {sig : RefSig} {κ : Kind} {sp : Space} {e : EltTy}

/-- One element of a load of a rectangle. -/
theorem load_apply {a b n m : ℕ} (v : View sig κ sp ⟨2, ![a, b]⟩ e) (f : v.ty.Contents (Elt Ideal)) (off : Fin 2 → ℕ) (inb)
    (r : Fin n) (l : Fin m) (h0 : off 0 + n ≤ a) (h1 : off 1 + m ≤ b) :
    v.readAt (Elt Ideal) (Rect.unit (s := ⟨2, ![a, b]⟩) off ![n, m] inb).toLoadRect f (ix2 r l)
      = v.read (Elt Ideal) f (ix2 ⟨off 0 + r, by omega⟩ ⟨off 1 + l, by omega⟩) := by
  show v.read (Elt Ideal) f _ = v.read (Elt Ideal) f _
  congr 1
  funext c
  apply Fin.ext
  match c with
  | ⟨0, _⟩ => show off 0 + 1 * r.val = off 0 + r.val; omega
  | ⟨1, _⟩ => show off 1 + 1 * l.val = off 1 + l.val; omega

/-- One element after a store of whole rows: inside it, -/
theorem store_in {a b n : ℕ} (v : View sig κ sp ⟨2, ![a, b]⟩ e) (f : v.ty.Contents (Elt Ideal))
    (L : List (View.Piece (Elt Ideal) ⟨2, ![a, b]⟩ e)) (off : Fin 2 → ℕ) (inb)
    (p : (⟨2, ![n, b]⟩ : Shape).Idx → Elt Ideal e) (h1 : off 1 = 0) (r : Fin a) (l : Fin b) (hr : off 0 ≤ r.val) (hn : r.val < off 0 + n) :
    v.read (Elt Ideal) (v.writes (Elt Ideal) f (⟨Rect.unit (s := ⟨2, ![a, b]⟩) off ![n, b] inb, p⟩ :: L)) (ix2 r l)
      = p (ix2 ⟨r.val - off 0, by omega⟩ l) := by
  refine View.read_writes_cons_hit_of_coords _ _ _ _ _ _ _ ?_
  intro c
  match c with
  | ⟨0, _⟩ => show r.val = off 0 + 1 * (r.val - off 0); omega
  | ⟨1, _⟩ => show l.val = off 1 + 1 * l.val; omega

/-- and outside. -/
theorem store_out {a b n : ℕ} (v : View sig κ sp ⟨2, ![a, b]⟩ e) (f : v.ty.Contents (Elt Ideal))
    (L : List (View.Piece (Elt Ideal) ⟨2, ![a, b]⟩ e)) (off : Fin 2 → ℕ) (inb)
    (p : (⟨2, ![n, b]⟩ : Shape).Idx → Elt Ideal e) (r : Fin a) (l : Fin b) (hc : ¬(off 0 ≤ r.val ∧ r.val < off 0 + n)) :
    v.read (Elt Ideal) (v.writes (Elt Ideal) f (⟨Rect.unit (s := ⟨2, ![a, b]⟩) off ![n, b] inb, p⟩ :: L)) (ix2 r l)
      = v.read (Elt Ideal) (v.writes (Elt Ideal) f L) (ix2 r l) := by
  refine View.read_writes_cons_miss _ _ _ _ _ ?_
  rw [Rect.mem_set_unit]
  intro hm
  exact hc (hm 0)

/-- A load of a rectangle. -/
theorem Holds.load {a b n m : ℕ} {v : View sig κ sp ⟨2, ![a, b]⟩ .f32} {f : v.ty.Contents (Elt Ideal)} {g : ℕ → ℕ → ℝ}
    (h : Holds (a := a) (b := b) (v.read (Elt Ideal) f) g) (off : Fin 2 → ℕ) (inb) :
    Holds (a := n) (b := m) (v.readAt (Elt Ideal) (Rect.unit (s := ⟨2, ![a, b]⟩) off ![n, m] inb).toLoadRect f)
      (fun r l => g (off 0 + r) (off 1 + l)) := fun r l =>
  (load_apply v f off inb r l (inb 0) (inb 1)).trans (h _ _)

/-- A store of whole rows. -/
theorem Holds.store {a b n : ℕ} {v : View sig κ sp ⟨2, ![a, b]⟩ .f32} {f : v.ty.Contents (Elt Ideal)} {g w : ℕ → ℕ → ℝ}
    {L : List (View.Piece (Elt Ideal) ⟨2, ![a, b]⟩ .f32)} (h : Holds (a := a) (b := b) (v.read (Elt Ideal) (v.writes (Elt Ideal) f L)) g)
    (off : Fin 2 → ℕ) (inb) {p : (⟨2, ![n, b]⟩ : Shape).Idx → EReal} (hp : Holds p w) (h1 : off 1 = 0) :
    Holds (a := a) (b := b) (v.read (Elt Ideal) (v.writes (Elt Ideal) f (⟨Rect.unit (s := ⟨2, ![a, b]⟩) off ![n, b] inb, p⟩ :: L)))
      (fun r l => if off 0 ≤ r ∧ r < off 0 + n then w (r - off 0) l else g r l) := by
  intro r l
  dsimp only
  split
  · next hc => exact (store_in v f L off inb p h1 r l hc.1 hc.2).trans (hp _ _)
  · next hc => exact (store_out v f L off inb p r l hc).trans (h _ _)

/-- A load of a rectangle. -/
theorem Holds.load16 {a b n m : ℕ} {v : View sig κ sp ⟨2, ![a, b]⟩ .bf16} {f : v.ty.Contents (Elt Ideal)} {g : ℕ → ℕ → ℝ}
    (h : Holds (a := a) (b := b) (v.read (Elt Ideal) f) g) (off : Fin 2 → ℕ) (inb) :
    Holds (a := n) (b := m) (v.readAt (Elt Ideal) (Rect.unit (s := ⟨2, ![a, b]⟩) off ![n, m] inb).toLoadRect f)
      (fun r l => g (off 0 + r) (off 1 + l)) := fun r l =>
  (load_apply v f off inb r l (inb 0) (inb 1)).trans (h _ _)

/-- A store of whole rows. -/
theorem Holds.store16 {a b n : ℕ} {v : View sig κ sp ⟨2, ![a, b]⟩ .bf16} {f : v.ty.Contents (Elt Ideal)} {g w : ℕ → ℕ → ℝ}
    {L : List (View.Piece (Elt Ideal) ⟨2, ![a, b]⟩ .bf16)} (h : Holds (a := a) (b := b) (v.read (Elt Ideal) (v.writes (Elt Ideal) f L)) g)
    (off : Fin 2 → ℕ) (inb) {p : (⟨2, ![n, b]⟩ : Shape).Idx → EReal} (hp : Holds p w) (h1 : off 1 = 0) :
    Holds (a := a) (b := b) (v.read (Elt Ideal) (v.writes (Elt Ideal) f (⟨Rect.unit (s := ⟨2, ![a, b]⟩) off ![n, b] inb, p⟩ :: L)))
      (fun r l => if off 0 ≤ r ∧ r < off 0 + n then w (r - off 0) l else g r l) := by
  intro r l
  dsimp only
  split
  · next hc => exact (store_in v f L off inb p h1 r l hc.1 hc.2).trans (hp _ _)
  · next hc => exact (store_out v f L off inb p r l hc).trans (h _ _)

/-- A store of all rows, whatever was there. -/
theorem Holds.whole {a b : ℕ} {v : View sig κ sp ⟨2, ![a, b]⟩ .f32} {f : v.ty.Contents (Elt Ideal)} {w : ℕ → ℕ → ℝ}
    {L : List (View.Piece (Elt Ideal) ⟨2, ![a, b]⟩ .f32)} (off : Fin 2 → ℕ) (inb) {p : (⟨2, ![a, b]⟩ : Shape).Idx → EReal} (hp : Holds p w)
    (h0 : off 0 = 0) (h1 : off 1 = 0) :
    Holds (a := a) (b := b) (v.read (Elt Ideal) (v.writes (Elt Ideal) f (⟨Rect.unit (s := ⟨2, ![a, b]⟩) off ![a, b] inb, p⟩ :: L))) w := by
  intro r l
  refine (store_in v f L off inb p h1 r l (by omega) (by omega)).trans ((hp _ _).trans ?_)
  simp only [h0, Nat.sub_zero]

/-- One element of a load of a column of a stack of one matrix. -/
theorem load3_apply {a b n : ℕ} (v : View sig κ sp ⟨3, ![1, a, b]⟩ e) (f : v.ty.Contents (Elt Ideal)) (off : Fin 3 → ℕ) (inb)
    (r : Fin n) (h0 : off 0 = 0) (h1 : off 1 + n ≤ a) (h2 : off 2 = 0) (hb : 0 < b) :
    v.readAt (Elt Ideal) (Rect.unit (s := ⟨3, ![1, a, b]⟩) off ![1, n, 1] inb).toLoadRect f (ix3 0 r 0)
      = v.read (Elt Ideal) f (ix3 0 ⟨off 1 + r, by omega⟩ ⟨0, hb⟩) := by
  show v.read (Elt Ideal) f _ = v.read (Elt Ideal) f _
  congr 1
  funext c
  apply Fin.ext
  match c with
  | ⟨0, _⟩ => show off 0 + 1 * 0 = 0; omega
  | ⟨1, _⟩ => show off 1 + 1 * r.val = off 1 + r.val; omega
  | ⟨2, _⟩ => show off 2 + 1 * 0 = 0; omega

/-- Two stores of column bands side by side. -/
theorem Holds.bands {a b m n : ℕ} {v : View sig κ sp ⟨2, ![a, b]⟩ .bf16} {f : v.ty.Contents (Elt Ideal)} {w z : ℕ → ℕ → ℝ}
    {L : List (View.Piece (Elt Ideal) ⟨2, ![a, b]⟩ .bf16)} (o1 o2 : Fin 2 → ℕ) (inb1) (inb2) {p : (⟨2, ![a, m]⟩ : Shape).Idx → EReal}
    {q : (⟨2, ![a, n]⟩ : Shape).Idx → EReal} (hp : Holds p w) (hq : Holds q z) (e10 : o1 0 = 0) (e11 : o1 1 = 0) (e20 : o2 0 = 0) (e21 : o2 1 = m)
    (hb : b = m + n) :
    Holds (a := a) (b := b) (v.read (Elt Ideal) (v.writes (Elt Ideal) f
      (⟨Rect.unit (s := ⟨2, ![a, b]⟩) o2 ![a, n] inb2, q⟩ :: ⟨Rect.unit (s := ⟨2, ![a, b]⟩) o1 ![a, m] inb1, p⟩ :: L)))
      fun r l => if l < m then w r l else z r (l - m) := by
  intro r l
  dsimp only
  split
  · next e =>
    have h1 : ix2 r l ∉ (Rect.unit (s := ⟨2, ![a, b]⟩) o2 ![a, n] inb2).set := by
      rw [Rect.mem_set_unit]
      intro hm
      have := (hm 1).1
      rw [e21] at this
      change m ≤ l.val at this
      omega
    refine (View.read_writes_cons_miss v f _ _ _ h1).trans
      ((View.read_writes_cons_hit_of_coords v f (Rect.unit (s := ⟨2, ![a, b]⟩) o1 ![a, m] inb1) p L (ix2 (n0 := a) (n1 := m) r ⟨l.val, e⟩) (ix2 r l) ?_).trans (hp r ⟨l.val, e⟩))
    intro c
    match c with
    | ⟨0, _⟩ => show r.val = o1 0 + 1 * r.val; omega
    | ⟨1, _⟩ => show l.val = o1 1 + 1 * l.val; omega
  · next e =>
    refine (View.read_writes_cons_hit_of_coords v f (Rect.unit (s := ⟨2, ![a, b]⟩) o2 ![a, n] inb2) q _ (ix2 (n0 := a) (n1 := n) r ⟨l.val - m, by omega⟩) (ix2 r l) ?_).trans (hq r ⟨l.val - m, by omega⟩)
    intro c
    match c with
    | ⟨0, _⟩ => show r.val = o2 0 + 1 * r.val; omega
    | ⟨1, _⟩ => show l.val = o2 1 + 1 * (l.val - m); omega

/-- One element after a store of a whole stack of one matrix. -/
theorem store3_apply {a b : ℕ} (v : View sig κ sp ⟨3, ![1, a, b]⟩ e) (f : v.ty.Contents (Elt Ideal))
    (L : List (View.Piece (Elt Ideal) ⟨3, ![1, a, b]⟩ e)) (off : Fin 3 → ℕ) (inb) (p : (⟨3, ![1, a, b]⟩ : Shape).Idx → Elt Ideal e)
    (h0 : off 0 = 0) (h1 : off 1 = 0) (h2 : off 2 = 0) (r : Fin a) (l : Fin b) :
    v.read (Elt Ideal) (v.writes (Elt Ideal) f (⟨Rect.unit (s := ⟨3, ![1, a, b]⟩) off ![1, a, b] inb, p⟩ :: L)) (ix3 0 r l) = p (ix3 0 r l) := by
  refine View.read_writes_cons_hit_of_coords _ _ _ _ _ _ _ ?_
  intro c
  match c with
  | ⟨0, _⟩ => show 0 = off 0 + 1 * 0; omega
  | ⟨1, _⟩ => show r.val = off 1 + 1 * r.val; omega
  | ⟨2, _⟩ => show l.val = off 2 + 1 * l.val; omega

end Cert.Reals
-- ==== Proof.AttnPay.lean ====
/- The attention gradient's blocks over the reals: the probabilities of a block of queries against a block of keys,
   their gradients, and what each of the kernel's block computations holds. -/
module

public import proofs.«01_k».proof.Proof.Tiles
public import proofs.«01_k».proof.Proof.Gen.AttnBwdIdeal.Skeleton

@[expose] public section

set_option maxRecDepth 16384

noncomputable section

namespace Cert.Attn

open Idealize.ShloMosaic Cert.Reals

/-- The softmax's scale, the rational of its word. -/
def scale : ℝ := (Ideal.ofBits .f32 0x3D93CD3A#32).toReal

theorem ofBits_scale : Ideal.ofBits .f32 0x3D93CD3A#32 = (scale : EReal) := by
  have h : Ideal.ofBits .f32 0x3D93CD3A#32 = ((9686330 / 134217728 : ℝ) : EReal) := by
    simp [Ideal.ofBits, Ideal.ieee, -EReal.coe_mul]; norm_num
  rw [scale, h, EReal.toReal_coe]

/-- The probability of query `r` against key `j`, from the query's log-sum `ls`, -/
def prob (q k : ℕ → ℕ → ℝ) (ls : ℕ → ℝ) (r j : ℕ) : ℝ :=
  Real.exp ((∑ d : Fin 256, q r d * k j d) * scale - ls r)

/-- and the gradient of its score: from the output's cotangent `g`, the values `v` and the row's `δ`. -/
def dscore (p : ℕ → ℕ → ℝ) (g v : ℕ → ℕ → ℝ) (δ : ℕ → ℝ) (r j : ℕ) : ℝ :=
  p r j * ((∑ d : Fin 128, g r d * v j d) - δ r) * scale

/-- Probabilities kept where the mask holds. -/
def kept (M : ℕ → ℕ → Prop) [∀ r j, Decidable (M r j)] (p : ℕ → ℕ → ℝ) (r j : ℕ) : ℝ := if M r j then p r j else 0

/-- Two blocks of rows, one after the other. -/
def rows2 (n : ℕ) (a b : ℕ → ℕ → ℝ) (r l : ℕ) : ℝ := if r < n then a r l else b (r - n) l

/-- The rotary embedding undone on 128 lanes, two pairs of halves of 32. -/
def unrope (x c s : ℕ → ℕ → ℝ) (r l : ℕ) : ℝ :=
  x r l * c r l - (if l % 64 < 32 then -x r ((l + 32) % 128) else x r ((l + 96) % 128)) * s r l

/-- A row of the query gradient: its first 128 lanes, and the others with the rotary embedding undone. -/
def dqrow (x c s : ℕ → ℕ → ℝ) (r l : ℕ) : ℝ :=
  if l < 128 then x r l else unrope (fun r l => x r (128 + l)) c s r (l - 128)

/-! ## The masks' words -/

theorem select_bool {α : Type} (p : Prop) [Decidable p] (a b : α) :
    Scalar.select (BitVec.ofBool (decide p)) a b = if p then a else b := by
  by_cases h : p <;> simp [h, Scalar.select]

theorem slt16 : ∀ l : Fin 640, IntOp.cmpi .slt (BitVec.ofNat 32 l.val) 16#32 = BitVec.ofBool (decide (l.val < 16)) := by
  decide +kernel

theorem shr6 : ∀ l : Fin 512, IntOp.shrsi .vector (BitVec.ofNat 32 l.val) 6#32 = BitVec.ofNat 32 (l.val / 64) := by
  decide +kernel

theorem add0 : ∀ l : Fin 512, IntOp.addi (0#32) (BitVec.ofNat 32 l.val) = BitVec.ofNat 32 l.val := by decide +kernel

theorem sle8 : ∀ a b : Fin 8, IntOp.cmpi .sle (BitVec.ofNat 32 a.val) (BitVec.ofNat 32 b.val)
    = BitVec.ofBool (decide (a.val ≤ b.val)) := by decide +kernel

theorem chunkle (a b : ℕ) (ha : a < 512) (hb : b < 512) :
    IntOp.cmpi .sle (IntOp.shrsi .vector (BitVec.ofNat 32 a) 6#32)
      (IntOp.shrsi .vector (IntOp.addi (0#32) (BitVec.ofNat 32 b)) 6#32) = BitVec.ofBool (decide (a / 64 ≤ b / 64)) := by
  rw [add0 ⟨b, hb⟩, shr6 ⟨a, ha⟩, shr6 ⟨b, hb⟩]
  exact sle8 ⟨a / 64, by omega⟩ ⟨b / 64, by omega⟩

theorem and16 : ∀ a b : Fin 128, IntOp.andi (IntOp.cmpi .slt (BitVec.ofNat 32 a.val) 16#32)
    (IntOp.cmpi .slt (BitVec.ofNat 32 b.val) 16#32) = BitVec.ofBool (decide (a.val < 16 ∧ b.val < 16)) := by
  intro a b
  rw [slt16 ⟨a, by omega⟩, slt16 ⟨b, by omega⟩]
  by_cases h : a.val < 16 <;> by_cases h' : b.val < 16 <;> simp [h, h'] <;> rfl

theorem firstHalf : ∀ n : Fin 128, IntOp.cmpi CmpIPredicate.slt
      (Scalar.select
        (IntOp.andi
          (IntOp.xori
            (IntOp.cmpi CmpIPredicate.slt
              (IntOp.remsi ArithUnit.vector (BitVec.ofNat 32 n.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32)
              0#32))
          (IntOp.cmpi CmpIPredicate.ne
            (IntOp.remsi ArithUnit.vector (BitVec.ofNat 32 n.val)
              (Scalar.select (Scalar.cmpi CmpIPredicate.eq 64#32 0#32) 1#32 64#32))
            0#32))
        (IntOp.addi
          (IntOp.remsi ArithUnit.vector (BitVec.ofNat 32 n.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 n.val)
          (Scalar.select (Scalar.cmpi CmpIPredicate.eq 64#32 0#32) 1#32 64#32)))
      32#32 = BitVec.ofBool (decide (n.val % 64 < 32)) := by decide +kernel

end Cert.Attn

namespace Cert.AttnBwdIdeal.Hand

open Idealize.ShloMosaic Cert.AttnBwdIdeal Cert.AttnBwdIdeal.Gen Cert.Reals Cert.Attn

variable {q k g v o old : ℕ → ℕ → ℝ} {ls δ : ℕ → ℝ}

/-! ## A pair of tiles: 1024 keys, none masked -/

section Pair
variable {xq : FVec Ideal S512x256 .bf16} {xg : FVec Ideal S512x128 .bf16} {xl xδ : FVec Ideal S512x1 .f32}
  {xk : Vec Ideal S1024x256 .bf16} {xv : Vec Ideal S1024x128 .bf16}
  (hq : Holds xq q) (hg : Holds xg g) (hl : Holds xl fun r _ => ls r) (hδ : Holds xδ fun r _ => δ r)
  (hk : Holds xk k) (hv : Holds xv v)

include hq hl hk in
theorem pay4_holds : Holds (k0_pay4 xq xl xk) (prob q k ls) := by
  intro r l
  pointwise [k0_pay4]
  simp only [hq _ _, hl _ _, hk _ _, ofBits_scale, mul_coe, sum_coe, sub_coe, Ideal.exp_coe]
  rfl

include hq hg hl hδ hk hv in
theorem pay5_holds : Holds (k0_pay5 xq xg xl xδ xk xv) (dscore (prob q k ls) g v δ) := by
  intro r l
  pointwise [k0_pay5]
  rw [show ∀ a b, k0_pay4 xq xl xk (ix2 a b) = _ from pay4_holds hq hl hk]
  simp only [hg _ _, hδ _ _, hv _ _, ofBits_scale, mul_coe, sum_coe, sub_coe]
  rfl

include hq hg hl hk in
theorem pay6_holds {xo : Vec Ideal S1024x128 .f32} (ho : Holds xo old) :
    Holds (k0_pay6 xq xg xl xk xo) fun j d => old j d + ∑ r : Fin 512, prob q k ls r j * g r d := by
  intro r l
  pointwise [k0_pay6]
  simp only [show ∀ a b, k0_pay4 xq xl xk (ix2 a b) = _ from pay4_holds hq hl hk]
  simp only [hg _ _, ho _ _, mul_coe, sum_coe, add_coe]

include hq hg hl hδ hk hv in
theorem pay7_holds {xo : Vec Ideal S1024x256 .f32} (ho : Holds xo old) :
    Holds (k0_pay7 xq xg xl xδ xk xv xo)
      fun j d => old j d + ∑ r : Fin 512, dscore (prob q k ls) g v δ r j * q r d := by
  intro r l
  pointwise [k0_pay7]
  simp only [show ∀ a b, k0_pay5 xq xg xl xδ xk xv (ix2 a b) = _ from pay5_holds hq hg hl hδ hk hv]
  simp only [hq _ _, ho _ _, mul_coe, sum_coe, add_coe]

include hk in
theorem pay34_holds {xo : Vec Ideal S512x256 .f32} {xs : FVec Ideal S512x1024 .bf16} {ds : ℕ → ℕ → ℝ} (ho : Holds xo old) (hs : Holds xs ds) :
    Holds (k0_pay34 xo xk xs) fun r d => old r d + ∑ j : Fin 1024, ds r j * k j d := by
  intro r l
  pointwise [k0_pay34]
  simp only [hs _ _, hk _ _, ho _ _, mul_coe, sum_coe, add_coe]

end Pair

/-! ## One whole tile: 512 keys, none masked -/

section Tile
variable {xq : FVec Ideal S512x256 .bf16} {xg : FVec Ideal S512x128 .bf16} {xl xδ : FVec Ideal S512x1 .f32}
  {xk : Vec Ideal S512x256 .bf16} {xv : Vec Ideal S512x128 .bf16}
  (hq : Holds xq q) (hg : Holds xg g) (hl : Holds xl fun r _ => ls r) (hδ : Holds xδ fun r _ => δ r)
  (hk : Holds xk k) (hv : Holds xv v)

include hq hl hk in
theorem pay12_holds : Holds (k0_pay12 xq xl xk) (prob q k ls) := by
  intro r l
  pointwise [k0_pay12]
  simp only [hq _ _, hl _ _, hk _ _, ofBits_scale, mul_coe, sum_coe, sub_coe, Ideal.exp_coe]
  rfl

include hq hg hl hδ hk hv in
theorem pay13_holds : Holds (k0_pay13 xq xg xl xδ xk xv) (dscore (prob q k ls) g v δ) := by
  intro r l
  pointwise [k0_pay13]
  rw [show ∀ a b, k0_pay12 xq xl xk (ix2 a b) = _ from pay12_holds hq hl hk]
  simp only [hg _ _, hδ _ _, hv _ _, ofBits_scale, mul_coe, sum_coe, sub_coe]
  rfl

include hq hg hl hk in
theorem pay14_holds {xo : Vec Ideal S512x128 .f32} (ho : Holds xo old) :
    Holds (k0_pay14 xq xg xl xk xo) fun j d => old j d + ∑ r : Fin 512, prob q k ls r j * g r d := by
  intro r l
  pointwise [k0_pay14]
  simp only [show ∀ a b, k0_pay12 xq xl xk (ix2 a b) = _ from pay12_holds hq hl hk]
  simp only [hg _ _, ho _ _, mul_coe, sum_coe, add_coe]

include hq hg hl hδ hk hv in
theorem pay15_holds {xo : Vec Ideal S512x256 .f32} (ho : Holds xo old) :
    Holds (k0_pay15 xq xg xl xδ xk xv xo)
      fun j d => old j d + ∑ r : Fin 512, dscore (prob q k ls) g v δ r j * q r d := by
  intro r l
  pointwise [k0_pay15]
  simp only [show ∀ a b, k0_pay13 xq xg xl xδ xk xv (ix2 a b) = _ from pay13_holds hq hg hl hδ hk hv]
  simp only [hq _ _, ho _ _, mul_coe, sum_coe, add_coe]

include hk in
theorem pay36_holds {xo : Vec Ideal S512x256 .f32} {xs : FVec Ideal S512x512 .bf16} {ds : ℕ → ℕ → ℝ} (ho : Holds xo old) (hs : Holds xs ds) :
    Holds (k0_pay36 xo xk xs (constant S512x256 .f32 0x00000000#32)) fun r d => old r d + ∑ j : Fin 512, ds r j * k j d := by
  intro r l
  pointwise [k0_pay36]
  simp only [hs _ _, hk _ _, ho _ _, mul_coe, sum_coe, add_coe]

end Tile

/-! ## The blocks as loaded -/

theorem pay16_holds {x : Vec Ideal S512x256 .bf16} (h : Holds x q) : Holds (k0_pay16 x) q := by
  intro r l; pointwise [k0_pay16]; exact h r l

theorem pay17_holds {x : Vec Ideal S512x128 .bf16} (h : Holds x g) : Holds (k0_pay17 x) g := by
  intro r l; pointwise [k0_pay17]; exact h r l

theorem pay18_holds {x : Vec Ideal S1x512x1 .f32} (h : ∀ r : Fin 512, x (ix3 0 r 0) = ((ls r : ℝ) : EReal)) :
    Holds (k0_pay18 x) fun r _ => ls r := by
  intro r l; pointwise [k0_pay18]; exact h r

theorem pay19_holds {x : Vec Ideal S512x128 .bf16} {y : Vec Ideal S512x128 .bf16} (hx : Holds x g) (hy : Holds y o) :
    Holds (k0_pay19 x y) fun r _ => ∑ d : Fin 128, g r d * o r d := by
  intro r l
  pointwise [k0_pay19, k0_pay17]
  simp only [hx _ _, hy _ _, mul_coe, sum_coe]

theorem pay22_holds {x : Vec Ideal S128x256 .bf16} {y : Vec Ideal S512x256 .bf16} (hx : Holds x k) (hy : Holds y v) :
    Holds (k0_pay22 x y) (rows2 128 k v) := by
  intro r l
  pointwise [k0_pay22]
  unfold rows2
  split
  · next h => exact hx ⟨r, h⟩ l
  · next h => exact hy ⟨r - 128, by omega⟩ l

theorem pay23_holds {x : Vec Ideal S128x128 .bf16} (h : Holds x g) : Holds (k0_pay23 x) g := by
  intro r l; pointwise [k0_pay23]; exact h r l

theorem pay24_holds {x : Vec Ideal S512x128 .bf16} (h : Holds x g) : Holds (k0_pay24 x) g := by
  intro r l; pointwise [k0_pay24]; exact h r l

/-! ## A tile against the keys of the shared prefix and its own -/

/-- Which of the 640 keys a row of the tile attends to: the first sixteen, and its own tile up to its chunk. -/
def ownMask (r l : ℕ) : Prop := if l < 128 then l < 16 else (l - 128) / 64 ≤ r / 64

instance (r l : ℕ) : Decidable (ownMask r l) := by unfold ownMask; infer_instance

section Own
variable {xq : FVec Ideal S512x256 .bf16} {xg : FVec Ideal S512x128 .bf16} {xl xδ : FVec Ideal S512x1 .f32}
  {xk : FVec Ideal S640x256 .bf16} {xv : FVec Ideal S128x128 .bf16} {xw : FVec Ideal S512x128 .bf16} {w : ℕ → ℕ → ℝ}
  (hq : Holds xq q) (hg : Holds xg g) (hl : Holds xl fun r _ => ls r) (hδ : Holds xδ fun r _ => δ r)
  (hk : Holds xk k) (hv : Holds xv v) (hw : Holds xw w)

include hq hl hk in
theorem pay25_holds : Holds (k0_pay25 xq xl k0_pay20 k0_pay21 xk) (kept ownMask (prob q k ls)) := by
  intro r l
  pointwise [k0_pay25, k0_pay20, k0_pay21]
  simp only [hq _ _, hl _ _, hk _ _, ofBits_scale, mul_coe, sum_coe, sub_coe, Ideal.exp_coe]
  have e : (if h : l.val < 128 then IntOp.cmpi CmpIPredicate.slt (BitVec.ofNat 32 l.val) 16#32
      else
        IntOp.cmpi CmpIPredicate.sle (IntOp.shrsi ArithUnit.vector (BitVec.ofNat 32 (l.val - 128)) 6#32)
          (IntOp.shrsi ArithUnit.vector (IntOp.addi (0#32) (BitVec.ofNat 32 r.val)) 6#32))
      = BitVec.ofBool (decide (ownMask r l)) := by
    unfold ownMask
    split
    · next h => rw [slt16 l]
    · next h => rw [chunkle _ _ (by omega) r.isLt]
  rw [e, select_bool]
  unfold kept prob
  split
  · rfl
  · exact EReal.coe_zero.symm

include hq hg hl hδ hk hv hw in
theorem pay26_holds : Holds (k0_pay26 xq xg xl xδ k0_pay20 k0_pay21 xk xv xw)
    (dscore (kept ownMask (prob q k ls)) g (rows2 128 v w) δ) := by
  have hvw : ∀ (x : Fin 640) (d : Fin 128), (if h : x.val < 128 then xv (ix2 ⟨x.val, h⟩ d) else xw (ix2 ⟨x.val - 128, by omega⟩ d))
      = ((rows2 128 v w x d : ℝ) : EReal) := by
    intro x d
    unfold rows2
    split
    · next h => exact hv ⟨x, h⟩ d
    · next h => exact hw ⟨x - 128, by omega⟩ d
  intro r l
  pointwise [k0_pay26]
  simp only [show ∀ a b, k0_pay25 xq xl k0_pay20 k0_pay21 xk (ix2 a b) = _ from pay25_holds hq hl hk]
  simp only [hvw]
  simp only [hg _ _, hδ _ _, ofBits_scale, mul_coe, sum_coe, sub_coe]
  rfl

include hq hg hl hk in
theorem pay27_holds : Holds (k0_pay27 xq xg xl k0_pay20 k0_pay21 xk)
    fun j d => ∑ r : Fin 512, kept ownMask (prob q k ls) r j * g r d := by
  intro r l
  pointwise [k0_pay27]
  simp only [show ∀ a b, k0_pay25 xq xl k0_pay20 k0_pay21 xk (ix2 a b) = _ from pay25_holds hq hl hk]
  simp only [hg _ _, mul_coe, sum_coe]

include hq hg hl hδ hk hv hw in
theorem pay28_holds : Holds (k0_pay28 xq xg xl xδ k0_pay20 k0_pay21 xk xv xw)
    fun j d => ∑ r : Fin 512, dscore (kept ownMask (prob q k ls)) g (rows2 128 v w) δ r j * q r d := by
  intro r l
  pointwise [k0_pay28]
  simp only [show ∀ a b, k0_pay26 xq xg xl xδ k0_pay20 k0_pay21 xk xv xw (ix2 a b) = _ from pay26_holds hq hg hl hδ hk hv hw]
  simp only [hq _ _, mul_coe, sum_coe]

include hq hg hl hk in
theorem pay29_holds {xo : Vec Ideal S128x128 .f32} (ho : Holds xo old) : Holds (k0_pay29 xq xg xl k0_pay20 k0_pay21 xk xo)
    fun j d => old j d + ∑ r : Fin 512, kept ownMask (prob q k ls) r j * g r d := by
  intro r l
  pointwise [k0_pay29]
  simp only [show ∀ a b, k0_pay27 xq xg xl k0_pay20 k0_pay21 xk (ix2 a b) = _ from pay27_holds hq hg hl hk]
  simp only [ho _ _, add_coe]

include hq hg hl hδ hk hv hw in
theorem pay30_holds {xo : Vec Ideal S128x256 .f32} (ho : Holds xo old) : Holds (k0_pay30 xq xg xl xδ k0_pay20 k0_pay21 xk xv xw xo)
    fun j d => old j d + ∑ r : Fin 512, dscore (kept ownMask (prob q k ls)) g (rows2 128 v w) δ r j * q r d := by
  intro r l
  pointwise [k0_pay30]
  simp only [show ∀ a b, k0_pay28 xq xg xl xδ k0_pay20 k0_pay21 xk xv xw (ix2 a b) = _ from pay28_holds hq hg hl hδ hk hv hw]
  simp only [ho _ _, add_coe]

include hq hg hl hk in
theorem pay31_holds {xo : Vec Ideal S512x128 .f32} (ho : Holds xo old) : Holds (k0_pay31 xq xg xl k0_pay20 k0_pay21 xk xo)
    fun j d => old j d + ∑ r : Fin 512, kept ownMask (prob q k ls) r (128 + j) * g r d := by
  intro r l
  pointwise [k0_pay31]
  simp only [show ∀ a b, k0_pay27 xq xg xl k0_pay20 k0_pay21 xk (ix2 a b) = _ from pay27_holds hq hg hl hk]
  simp only [ho _ _, add_coe]

theorem pay32_holds {x : FVec Ideal S640x256 .f32} {f : ℕ → ℕ → ℝ} (h : Holds x f) {xo : Vec Ideal S512x256 .f32} (ho : Holds xo old) :
    Holds (k0_pay32 x xo) fun j d => old j d + f (128 + j) d := by
  intro r l
  pointwise [k0_pay32]
  simp only [h _ _, ho _ _, add_coe]

theorem pay33_holds {xk : FVec Ideal S640x256 .bf16} {xs : FVec Ideal S512x640 .bf16} {ds : ℕ → ℕ → ℝ} (hk : Holds xk k) (hs : Holds xs ds) :
    Holds (k0_pay33 xk xs) fun r d => ∑ j : Fin 640, ds r j * k j d := by
  intro r l
  pointwise [k0_pay33]
  simp only [hs _ _, hk _ _, mul_coe, sum_coe]

end Own

/-! ## The rows of the shared prefix -/

/-- The prefix's sixteen rows attend to its sixteen keys. -/
def prefixMask (r l : ℕ) : Prop := l < 16 ∧ r < 16

instance (r l : ℕ) : Decidable (prefixMask r l) := by unfold prefixMask; infer_instance

section Prefix
variable {xq : Vec Ideal S128x256 .bf16} {xg : FVec Ideal S128x128 .bf16} {xδ : FVec Ideal S128 .f32} {xl : Vec Ideal S1x128x1 .f32}
  {xk : Vec Ideal S128x256 .bf16} {xv : Vec Ideal S128x128 .bf16}
  (hq : Holds xq q) (hg : Holds xg g) (hl : ∀ r : Fin 128, xl (ix3 0 r 0) = ((ls r : ℝ) : EReal))
  (hδ : ∀ r : Fin 128, xδ (ix1 r) = ((δ r : ℝ) : EReal)) (hk : Holds xk k) (hv : Holds xv v)

theorem pay49_holds {x : Vec Ideal S128x128 .bf16} (h : Holds x g) : Holds (k0_pay49 x) g := by
  intro r l; pointwise [k0_pay49]; exact h r l

theorem pay50_holds {x : Vec Ideal S128x128 .bf16} {y : Vec Ideal S128x128 .bf16} (hx : Holds x g) (hy : Holds y o) (r : Fin 128) :
    k0_pay50 x y (ix1 r) = ((∑ d : Fin 128, g r d * o r d : ℝ) : EReal) := by
  pointwise [k0_pay50, k0_pay49]
  simp only [hx _ _, hy _ _, mul_coe, sum_coe]

include hq hl hk in
theorem pay52_holds : Holds (k0_pay52 k0_pay48 xq xl xk) (kept prefixMask (prob q k ls)) := by
  intro r l
  pointwise [k0_pay52, k0_pay48, k0_pay51]
  simp only [hq _ _, hl _, hk _ _, ofBits_scale, mul_coe, sum_coe, sub_coe, Ideal.exp_coe]
  rw [and16, select_bool]
  by_cases h : l.val < 16 ∧ r.val < 16
  · rw [if_pos h]; exact congrArg Real.toEReal (if_pos (c := prefixMask r l) h).symm
  · rw [if_neg h]; exact (congrArg Real.toEReal (if_neg (c := prefixMask r l) h)).symm

include hq hg hl hδ hk hv in
theorem pay53_holds : Holds (k0_pay53 k0_pay48 xg xδ xq xl xk xv) (dscore (kept prefixMask (prob q k ls)) g v δ) := by
  intro r l
  pointwise [k0_pay53]
  simp only [show ∀ a b, k0_pay52 k0_pay48 xq xl xk (ix2 a b) = _ from pay52_holds hq hl hk]
  simp only [hg _ _, hδ _, hv _ _, ofBits_scale, mul_coe, sum_coe, sub_coe]
  rfl

include hq hg hl hδ hk hv in
theorem pay54_holds : Holds (k0_pay54 k0_pay48 xg xδ xq xl xk xv)
    fun j d => ∑ r : Fin 128, dscore (kept prefixMask (prob q k ls)) g v δ r j * q r d := by
  intro r l
  pointwise [k0_pay54, k0_pay51]
  simp only [show ∀ a b, k0_pay53 k0_pay48 xg xδ xq xl xk xv (ix2 a b) = _ from pay53_holds hq hg hl hδ hk hv]
  simp only [hq _ _, mul_coe, sum_coe]

include hq hg hl hk in
theorem pay55_holds {xo : Vec Ideal S128x128 .f32} (ho : Holds xo old) : Holds (k0_pay55 k0_pay48 xg xq xl xk xo)
    fun j d => old j d + ∑ r : Fin 128, kept prefixMask (prob q k ls) r j * g r d := by
  intro r l
  pointwise [k0_pay55]
  simp only [show ∀ a b, k0_pay52 k0_pay48 xq xl xk (ix2 a b) = _ from pay52_holds hq hl hk]
  simp only [hg _ _, ho _ _, mul_coe, sum_coe, add_coe]

theorem pay56_holds {x : FVec Ideal S128x256 .f32} {f : ℕ → ℕ → ℝ} (h : Holds x f) {xo : Vec Ideal S128x256 .f32} (ho : Holds xo old) :
    Holds (k0_pay56 x xo) fun j d => old j d + f j d := by
  intro r l
  pointwise [k0_pay56]
  simp only [h _ _, ho _ _, add_coe]

end Prefix

/-! ## The query gradient's rows as stored -/

theorem unrope_coe (x c s : ℕ → ℕ → ℝ) (r l : ℕ) (hl : l < 128) :
    ((x r l : ℝ) : EReal) * ((c r l : ℝ) : EReal) - Scalar.select (BitVec.ofBool (decide (l % 64 < 32)))
      (0 - ((x r ((l + 128 - 96) % 128) : ℝ) : EReal)) ((x r ((l + 128 - 32) % 128) : ℝ) : EReal) * ((s r l : ℝ) : EReal)
      = ((unrope x c s r l : ℝ) : EReal) := by
  rw [select_bool]
  unfold unrope
  split
  · rw [show l + 128 - 96 = l + 32 by omega, zero_sub, ← EReal.coe_neg, mul_coe, mul_coe, sub_coe]
  · rw [show l + 128 - 32 = l + 96 by omega, mul_coe, mul_coe, sub_coe]

theorem pay1_holds {x : Vec Ideal S512x256 .f32} {xc xs : Vec Ideal S512x128 .f32} {f c s : ℕ → ℕ → ℝ}
    (hx : Holds x f) (hc : Holds xc c) (hs : Holds xs s) :
    Holds (k0_pay1 (k0_pay37 xs) (k0_pay38 x) (k0_pay39 x) (k0_pay40 x xc) k0_pay41 (k0_pay42 x) (Scalar.ofBits .f32 0x00000000#32))
      (dqrow f c s) := by
  intro r l
  pointwise [k0_pay1, k0_pay37, k0_pay38, k0_pay39, k0_pay40, k0_pay41, k0_pay42]
  unfold dqrow
  split
  · exact hx r l
  · next h =>
    rw [firstHalf ⟨l.val - 128, by omega⟩]
    simp only [hx _ _, hc _ _, hs _ _]
    exact unrope_coe (fun r l => f r (128 + l)) c s r (l.val - 128) (by omega)

theorem pay57_holds {xk : Vec Ideal S128x256 .bf16} {xd : FVec Ideal S128x128 .bf16} {xc xs : Vec Ideal S16x128 .f32}
    {ds c s : ℕ → ℕ → ℝ} (hk : Holds xk k) (hd : Holds xd ds) (hc : Holds xc c) (hs : Holds xs s) :
    Holds (k0_pay57 xk xd xc xs) (dqrow (fun r d => ∑ j : Fin 128, ds r j * k j d) c s) := by
  intro r l
  pointwise [k0_pay57]
  simp only [hk _ _, hd _ _, hc _ _, hs _ _, mul_coe, sum_coe]
  unfold dqrow
  split
  · rfl
  · next h =>
    rw [firstHalf ⟨l.val - 128, by omega⟩]
    exact unrope_coe (fun r l => ∑ j : Fin 128, ds r j * k j (128 + l)) c s r (l.val - 128) (by omega)

end Cert.AttnBwdIdeal.Hand
-- ==== Proof.AttnTrip.lean ====
/- One tile of query rows of the attention gradient over the reals: what its key blocks add to the two accumulators
   and to the tile's query gradient. -/
module

public import proofs.«01_k».proof.Proof.AttnBody
public import proofs.«01_k».proof.Proof.AttnPay

@[expose] public section

set_option maxRecDepth 16384
set_option maxHeartbeats 4000000

noncomputable section

namespace Cert.Attn

/-- One head's arguments over the reals: queries, keys, keys and values, the forward's output, the cotangent, the
    rows' logarithms of the sum, the two tables. -/
structure Head where
  Q : ℕ → ℕ → ℝ
  K : ℕ → ℕ → ℝ
  KV : ℕ → ℕ → ℝ
  O : ℕ → ℕ → ℝ
  G : ℕ → ℕ → ℝ
  ls : ℕ → ℝ
  C : ℕ → ℕ → ℝ
  S : ℕ → ℕ → ℝ

/-- The chunk of a position: the prefix of sixteen, then chunks of 64. -/
def chunk (t : ℕ) : ℕ := if t < 16 then 0 else 1 + (t - 16) / 64

/-- Two disjoint intervals make one. -/
theorem ite_step (p q r : Prop) [Decidable p] [Decidable q] [Decidable r] (x : ℝ) (h : r ↔ p ∨ q) (hd : ¬(p ∧ q)) :
    ((if p then x else 0) + if q then x else 0) = if r then x else 0 := by
  by_cases hp : p <;> by_cases hq : q <;> simp_all

namespace Head
variable (h : Head)

/-- The sum of the products of cotangent and output, per row. -/
def δ (t : ℕ) : ℝ := ∑ d : Fin 128, h.G t d * h.O t d

/-- The attention probabilities. -/
def P (t j : ℕ) : ℝ := if chunk j ≤ chunk t then prob h.Q h.K h.ls t j else 0

/-- The gradient of the scores. -/
def D (t j : ℕ) : ℝ := dscore h.P h.G (fun j d => h.KV j (128 + d)) h.δ t j

/-- What tile `i` adds to the gradient of the keys, -/
def dk (i j d : ℕ) : ℝ := ∑ r : Fin 512, h.D (16 + 512 * i + r) j * h.Q (16 + 512 * i + r) d

/-- and to the gradient of the values. -/
def dv (i j d : ℕ) : ℝ := ∑ r : Fin 512, h.P (16 + 512 * i + r) j * h.G (16 + 512 * i + r) d

/-- The part of a query's gradient owed to the keys of an interval. -/
def dq (a b t d : ℕ) : ℝ := ∑ j ∈ Finset.Ico a b, h.D t j * h.K j d

theorem P_on {t j : ℕ} (e : chunk j ≤ chunk t) : h.P t j = prob h.Q h.K h.ls t j := if_pos e

theorem P_off {t j : ℕ} (e : ¬chunk j ≤ chunk t) : h.P t j = 0 := if_neg e

theorem D_off {t j : ℕ} (e : ¬chunk j ≤ chunk t) : h.D t j = 0 := by
  unfold D dscore
  rw [h.P_off e, zero_mul, zero_mul]

/-- The keys before a tile are all attended to. -/
theorem chunk_le {i r j : ℕ} (hj : j < 16 + 512 * i) : chunk j ≤ chunk (16 + 512 * i + r) := by
  unfold chunk
  split
  · omega
  · rw [if_neg (by omega)]; omega

/-- The keys after a tile are not. -/
theorem not_chunk_le {i r j : ℕ} (hr : r < 512) (hj : 16 + 512 * (i + 1) ≤ j) : ¬chunk j ≤ chunk (16 + 512 * i + r) := by
  unfold chunk
  rw [if_neg (by omega), if_neg (by omega)]; omega

end Head
end Cert.Attn

namespace Cert.AttnBwdIdeal.Hand

open Idealize.ShloMosaic Cert.AttnBwdIdeal Cert.AttnBwdIdeal.Gen Cert.Reals Cert.Attn

/-! ## Where the blocks lie -/

theorem off1_eq : ∀ t, k0_off1 t = ![16 + 512 * t.val, 0] := by decide +kernel
theorem off2_eq : ∀ t, k0_off2 t = ![16 + 512 * t.val, 0] := by decide +kernel
theorem off3_eq : ∀ t, k0_off3 t = ![0, 16 + 512 * t.val, 0] := by decide +kernel
theorem off4_eq : ∀ t, k0_off4 t = ![16 + 512 * t.val, 128] := by decide +kernel
theorem off5_eq : ∀ t k, k0_off5 t k = ![16 + 1024 * k.val, 0] := by decide +kernel
theorem off6_eq : ∀ t k, k0_off6 t k = ![16 + 1024 * k.val, 128] := by decide +kernel
theorem off7_eq : ∀ t k, k0_off7 t k = ![16 + 1024 * k.val, 0] := by decide +kernel
theorem off11_eq : ∀ t, k0_cond1 t = 1#1 → k0_off11 t = ![16 + 512 * (t.val - 1), 0] := by decide +kernel
theorem off12_eq : ∀ t, k0_cond1 t = 1#1 → k0_off12 t = ![16 + 512 * (t.val - 1), 128] := by decide +kernel
theorem off13_eq : ∀ t, k0_cond1 t = 1#1 → k0_off13 t = ![16 + 512 * (t.val - 1), 0] := by decide +kernel
theorem pairs_eq : ∀ t, (k0_t2_loop t).trips = t.val / 2 := by decide +kernel
theorem rest_eq : ∀ t, (k0_t3_loop t).trips = 0 := by decide +kernel
theorem odd_iff : ∀ t, k0_cond1 t = 1#1 ↔ t.val % 2 = 1 := by decide +kernel

/-- What the blocks a trip reads hold. -/
structure Reads (A : Args) (X : Ins Ideal A) (h : Head) : Prop where
  q : Holds (a := 4224) (b := 256) (A.a1.view.read (Elt Ideal) X.x1) h.Q
  kv : Holds (a := 4224) (b := 256) (A.a2.view.read (Elt Ideal) X.x2) h.KV
  o : Holds (a := 4224) (b := 128) (A.a4.view.read (Elt Ideal) X.x4) h.O
  l : ∀ (r : Fin 4224) (l : Fin 128), A.a5.view.read (Elt Ideal) X.x5 (ix3 0 r l) = ((h.ls r : ℝ) : EReal)
  g : Holds (a := 4224) (b := 128) (A.a6.view.read (Elt Ideal) X.x6) h.G
  c : Holds (a := 4224) (b := 128) (A.a7.view.read (Elt Ideal) X.x7) h.C
  s : Holds (a := 4224) (b := 128) (A.a8.view.read (Elt Ideal) X.x8) h.S
  k : Holds (a := 4224) (b := 256) (A.a12.view.read (Elt Ideal) X.x12) h.K

/-! ## A pair of whole tiles of keys -/

section Pair
variable {h : Head} {A : Args} {x2 : BufTy.Contents (Elt Ideal) A.a2.view.ty} {x12 : BufTy.Contents (Elt Ideal) A.a12.view.ty}
  {t : Fin k0_t1_loop.trips} {v125 : FVec Ideal S512x256 .bf16} {v128 : FVec Ideal S512x128 .bf16} {v131 v139 : FVec Ideal S512x1 .f32}
  (hkv : Holds (a := 4224) (b := 256) (A.a2.view.read (Elt Ideal) x2) h.KV) (hk : Holds (a := 4224) (b := 256) (A.a12.view.read (Elt Ideal) x12) h.K)
  (hq : Holds v125 fun r d => h.Q (16 + 512 * t.val + r) d) (hg : Holds v128 fun r d => h.G (16 + 512 * t.val + r) d)
  (hl : Holds v131 fun r _ => h.ls (16 + 512 * t.val + r)) (hδ : Holds v139 fun r _ => h.δ (16 + 512 * t.val + r))
  (c : Dev nD) (i : grid0.Coords) (w1 w2 : BitVec 32) (v155 : FVec Ideal S640x256 .bf16) (v177 : FVec Ideal S512x640 .bf16) (v180 : FVec Ideal S640x256 .f32)

include hkv hk hq hg hl hδ in
/-- One pair: what it adds to the keys' gradient, -/
theorem pair13 (k : Fin (k0_t2_loop t).trips) {f13 : BufTy.Contents (Elt Ideal) A.a13.view.ty} (f14 : BufTy.Contents (Elt Ideal) A.a14.view.ty)
    (f15 : BufTy.Contents (Elt Ideal) A.a15.view.ty) {a : ℕ → ℕ → ℝ} (h13 : Holds (a := 4224) (b := 256) (A.a13.view.read (Elt Ideal) f13) a) :
    Holds (a := 4224) (b := 256) (A.a13.view.read (Elt Ideal) (A.a13.view.writes (Elt Ideal) f13
      ((trip_k0_t2 (F := Ideal) Variants.none c none i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 t w1 w2 v125 v128 v131 v139 v155 v177 v180 x2 x12 k).1 f13 f14 f15)))
      (fun j d => a j d + if 16 + 1024 * k.val ≤ j ∧ j < 16 + 1024 * (k.val + 1) then h.dk t j d else 0) := by
  have hn : k.val < t.val / 2 := pairs_eq t ▸ k.isLt
  unfold trip_k0_t2
  dsimp only
  refine (Holds.store (n := 1024) (L := []) h13 _ _ (pay7_holds hq hg hl hδ (hk.load16 _ _) (hkv.load16 _ _) (h13.load _ _)) ?_).congr ?_
  · rw [off5_eq]; rfl
  · intro j d hj hd
    rw [off5_eq, off6_eq]
    show (if 16 + 1024 * k.val ≤ j ∧ j < 16 + 1024 * k.val + 1024 then _ else _) = _
    by_cases e : 16 + 1024 * k.val ≤ j ∧ j < 16 + 1024 * k.val + 1024
    · rw [if_pos e, if_pos (by omega)]
      dsimp only [Matrix.cons_val_zero, Matrix.cons_val_one]
      rw [show 16 + 1024 * k.val + (j - (16 + 1024 * k.val)) = j by omega, Nat.zero_add]
      congr 1
      refine Finset.sum_congr rfl fun r _ => ?_
      congr 1
      unfold Head.D dscore
      rw [h.P_on (Head.chunk_le (by omega))]
      unfold prob
      simp only [Nat.zero_add, show 16 + 1024 * k.val + (j - (16 + 1024 * k.val)) = j by omega]
    · rw [if_neg e, if_neg (by omega), add_zero]

include hk hq hg hl in
/-- to the values' gradient, -/
theorem pair14 (k : Fin (k0_t2_loop t).trips) (f13 : BufTy.Contents (Elt Ideal) A.a13.view.ty) {f14 : BufTy.Contents (Elt Ideal) A.a14.view.ty}
    (f15 : BufTy.Contents (Elt Ideal) A.a15.view.ty) {a : ℕ → ℕ → ℝ} (h14 : Holds (a := 4224) (b := 128) (A.a14.view.read (Elt Ideal) f14) a) :
    Holds (a := 4224) (b := 128) (A.a14.view.read (Elt Ideal) (A.a14.view.writes (Elt Ideal) f14
      ((trip_k0_t2 (F := Ideal) Variants.none c none i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 t w1 w2 v125 v128 v131 v139 v155 v177 v180 x2 x12 k).2.1 f13 f14 f15)))
      (fun j d => a j d + if 16 + 1024 * k.val ≤ j ∧ j < 16 + 1024 * (k.val + 1) then h.dv t j d else 0) := by
  have hn : k.val < t.val / 2 := pairs_eq t ▸ k.isLt
  unfold trip_k0_t2
  dsimp only
  refine (Holds.store (n := 1024) (L := []) h14 _ _ (pay6_holds hq hg hl (hk.load16 _ _) (h14.load _ _)) ?_).congr ?_
  · rw [off7_eq]; rfl
  · intro j d hj hd
    rw [off5_eq, off7_eq]
    show (if 16 + 1024 * k.val ≤ j ∧ j < 16 + 1024 * k.val + 1024 then _ else _) = _
    by_cases e : 16 + 1024 * k.val ≤ j ∧ j < 16 + 1024 * k.val + 1024
    · rw [if_pos e, if_pos (by omega)]
      dsimp only [Matrix.cons_val_zero, Matrix.cons_val_one]
      rw [show 16 + 1024 * k.val + (j - (16 + 1024 * k.val)) = j by omega, Nat.zero_add]
      congr 1
      refine Finset.sum_congr rfl fun r _ => ?_
      congr 1
      rw [h.P_on (Head.chunk_le (by omega))]
      unfold prob
      simp only [Nat.zero_add, show 16 + 1024 * k.val + (j - (16 + 1024 * k.val)) = j by omega]
    · rw [if_neg e, if_neg (by omega), add_zero]

include hkv hk hq hg hl hδ in
/-- and to the queries' gradient. -/
theorem pair15 (k : Fin (k0_t2_loop t).trips) (f13 : BufTy.Contents (Elt Ideal) A.a13.view.ty) (f14 : BufTy.Contents (Elt Ideal) A.a14.view.ty)
    {f15 : BufTy.Contents (Elt Ideal) A.a15.view.ty} {a : ℕ → ℕ → ℝ} (h15 : Holds (a := 512) (b := 256) (A.a15.view.read (Elt Ideal) f15) a) :
    Holds (a := 512) (b := 256) (A.a15.view.read (Elt Ideal) (A.a15.view.writes (Elt Ideal) f15
      ((trip_k0_t2 (F := Ideal) Variants.none c none i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 t w1 w2 v125 v128 v131 v139 v155 v177 v180 x2 x12 k).2.2.1 f13 f14 f15)))
      (fun r d => a r d + h.dq (16 + 1024 * k.val) (16 + 1024 * (k.val + 1)) (16 + 512 * t.val + r) d) := by
  have hn : k.val < t.val / 2 := pairs_eq t ▸ k.isLt
  unfold trip_k0_t2
  dsimp only
  unfold trip_k0_t2.sl.r trip_k0_t2.sl.r_1 trip_k0_t2.sl.r_2
  dsimp only
  refine (Holds.store (n := 512) (L := []) h15 ![0, 0] _ (pay34_holds (hk.load16 _ _) (h15.load ![0, 0] _)
    (pay5_holds hq hg hl hδ (hk.load16 _ _) (hkv.load16 _ _))) rfl).congr ?_
  intro r d hr hd
  rw [off5_eq, off6_eq]
  show (if 0 ≤ r ∧ r < 0 + 512 then _ else _) = _
  rw [if_pos (by omega)]
  dsimp only [Matrix.cons_val_zero, Matrix.cons_val_one]
  simp only [Nat.zero_add, Nat.sub_zero]
  congr 1
  unfold Head.dq
  rw [Finset.sum_Ico_eq_sum_range, show 16 + 1024 * (k.val + 1) - (16 + 1024 * k.val) = 1024 by omega, Finset.sum_range]
  refine Finset.sum_congr rfl fun j _ => ?_
  congr 1
  unfold Head.D dscore
  rw [h.P_on (Head.chunk_le (by omega))]
  unfold prob
  simp only [Nat.zero_add]

include hkv hk hq hg hl hδ in
/-- All pairs before the `n`-th. -/
theorem pairs (n : ℕ) (hn : n ≤ t.val / 2) {f13 : BufTy.Contents (Elt Ideal) A.a13.view.ty} {f14 : BufTy.Contents (Elt Ideal) A.a14.view.ty}
    {f15 : BufTy.Contents (Elt Ideal) A.a15.view.ty} {a b e : ℕ → ℕ → ℝ} (h13 : Holds (a := 4224) (b := 256) (A.a13.view.read (Elt Ideal) f13) a)
    (h14 : Holds (a := 4224) (b := 128) (A.a14.view.read (Elt Ideal) f14) b) (h15 : Holds (a := 512) (b := 256) (A.a15.view.read (Elt Ideal) f15) e) :
    Holds (a := 4224) (b := 256) (A.a13.view.read (Elt Ideal) (A.a13.view.writes (Elt Ideal) f13
      (pb_k0_t2 (F := Ideal) Variants.none c none i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 t w1 w2 v125 v128 v131 v139 v155 v177 v180 x2 x12 f13 f14 f15 n).1))
      (fun j d => a j d + if 16 ≤ j ∧ j < 16 + 1024 * n then h.dk t j d else 0) ∧
    Holds (a := 4224) (b := 128) (A.a14.view.read (Elt Ideal) (A.a14.view.writes (Elt Ideal) f14
      (pb_k0_t2 (F := Ideal) Variants.none c none i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 t w1 w2 v125 v128 v131 v139 v155 v177 v180 x2 x12 f13 f14 f15 n).2.1))
      (fun j d => b j d + if 16 ≤ j ∧ j < 16 + 1024 * n then h.dv t j d else 0) ∧
    Holds (a := 512) (b := 256) (A.a15.view.read (Elt Ideal) (A.a15.view.writes (Elt Ideal) f15
      (pb_k0_t2 (F := Ideal) Variants.none c none i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 t w1 w2 v125 v128 v131 v139 v155 v177 v180 x2 x12 f13 f14 f15 n).2.2))
      (fun r d => e r d + h.dq 16 (16 + 1024 * n) (16 + 512 * t.val + r) d) := by
  induction n with
  | zero =>
    refine ⟨h13.congr fun j d _ _ => ?_, h14.congr fun j d _ _ => ?_, h15.congr fun j d _ _ => ?_⟩
    · rw [if_neg (by omega), add_zero]
    · rw [if_neg (by omega), add_zero]
    · unfold Head.dq; simp
  | succ n ih =>
    obtain ⟨e13, e14, e15⟩ := ih (by omega)
    have hlt : n < (k0_t2_loop t).trips := by rw [pairs_eq]; omega
    have s := pb_k0_t2_succ (F := Ideal) Variants.none c none i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 t w1 w2 v125 v128 v131 v139 v155 v177 v180 x2 x12 f13 f14 f15 ⟨n, hlt⟩
    dsimp only at s
    rw [s]
    dsimp only
    rw [View.writes_append, View.writes_append, View.writes_append]
    refine ⟨(pair13 hkv hk hq hg hl hδ c i w1 w2 v155 v177 v180 ⟨n, hlt⟩ _ _ e13).congr fun j d _ _ => ?_,
      (pair14 hk hq hg hl c i w1 w2 v155 v177 v180 ⟨n, hlt⟩ _ _ e14).congr fun j d _ _ => ?_,
      (pair15 hkv hk hq hg hl hδ c i w1 w2 v155 v177 v180 ⟨n, hlt⟩ _ _ e15).congr fun r d _ _ => ?_⟩
    · dsimp only; rw [add_assoc, ite_step _ _ (16 ≤ j ∧ j < 16 + 1024 * (n + 1)) _ (by omega) (by omega)]
    · dsimp only; rw [add_assoc, ite_step _ _ (16 ≤ j ∧ j < 16 + 1024 * (n + 1)) _ (by omega) (by omega)]
    · dsimp only
      rw [add_assoc]
      congr 1
      exact Finset.sum_Ico_consecutive _ (by omega) (by omega)

end Pair

/-! ## The prefix and the tile's own keys -/

/-- The key a column of the first block stands for. -/
def ownKey (t j : ℕ) : ℕ := if j < 128 then j else 16 + 512 * t + (j - 128)

theorem rows2_own (f : ℕ → ℕ → ℝ) (t : ℕ) : rows2 128 f (fun r d => f (16 + 512 * t + r) d) = fun j d => f (ownKey t j) d := by
  funext j d
  unfold rows2 ownKey
  split <;> rfl

/-- The first block's mask leaves the probabilities of the prefix and of the tile's own keys. -/
theorem own_P (h : Head) (t : ℕ) {r j : ℕ} (hr : r < 512) (hj : j < 640) :
    kept ownMask (prob (fun r d => h.Q (16 + 512 * t + r) d) (fun j d => h.K (ownKey t j) d) fun r => h.ls (16 + 512 * t + r)) r j
      = if 16 ≤ j ∧ j < 128 then 0 else h.P (16 + 512 * t + r) (ownKey t j) := by
  unfold kept
  by_cases e : 16 ≤ j ∧ j < 128
  · rw [if_pos e, if_neg]
    unfold ownMask
    rw [if_pos e.2]; omega
  · rw [if_neg e]
    have : ownMask r j ↔ chunk (ownKey t j) ≤ chunk (16 + 512 * t + r) := by
      unfold ownMask ownKey chunk
      by_cases u : j < 128
      · rw [if_pos u, if_pos u, if_pos (by omega)]; omega
      · rw [if_neg u, if_neg u, if_neg (by omega), if_neg (by omega)]; omega
    unfold Head.P
    by_cases m : ownMask r j
    · rw [if_pos m, if_pos (this.1 m)]; rfl
    · rw [if_neg m, if_neg fun q => m (this.2 q)]

theorem own_D (h : Head) (t : ℕ) {r j : ℕ} (hr : r < 512) (hj : j < 640) :
    dscore (kept ownMask (prob (fun r d => h.Q (16 + 512 * t + r) d) (fun j d => h.K (ownKey t j) d) fun r => h.ls (16 + 512 * t + r)))
        (fun r d => h.G (16 + 512 * t + r) d) (fun j d => h.KV (ownKey t j) (128 + d)) (fun r => h.δ (16 + 512 * t + r)) r j
      = if 16 ≤ j ∧ j < 128 then 0 else h.D (16 + 512 * t + r) (ownKey t j) := by
  unfold dscore
  rw [own_P h t hr hj]
  split
  · rw [zero_mul, zero_mul]
  · rfl

section Own
variable {h : Head} {A : Args} {t : Fin k0_t1_loop.trips} {v125 : FVec Ideal S512x256 .bf16} {v128 : FVec Ideal S512x128 .bf16}
  {v131 v139 : FVec Ideal S512x1 .f32} {x4 : FVec Ideal S640x256 .bf16} {x5 : FVec Ideal S128x128 .bf16} {x6 : FVec Ideal S512x128 .bf16}
  (hq : Holds v125 fun r d => h.Q (16 + 512 * t.val + r) d) (hg : Holds v128 fun r d => h.G (16 + 512 * t.val + r) d)
  (hl : Holds v131 fun r _ => h.ls (16 + 512 * t.val + r)) (hδ : Holds v139 fun r _ => h.δ (16 + 512 * t.val + r))
  (h4 : Holds x4 fun j d => h.K (ownKey t.val j) d) (h5 : Holds x5 fun j d => h.KV j (128 + d))
  (h6 : Holds x6 fun r d => h.KV (16 + 512 * t.val + r) (128 + d))

include hq hg hl hδ h4 h5 h6 in
/-- What the first block adds to the keys' gradient, -/
theorem own13 {f13 : BufTy.Contents (Elt Ideal) A.a13.view.ty} {a : ℕ → ℕ → ℝ} (h13 : Holds (a := 4224) (b := 256) (A.a13.view.read (Elt Ideal) f13) a)
    (inb0) (inb1) :
    Holds (a := 4224) (b := 256) (A.a13.view.read (Elt Ideal) (A.a13.view.writes (Elt Ideal) f13
      (⟨Rect.unit (s := S4224x256) (k0_off1 t) ![512, 256] inb1, k0_pay32 (k0_pay28 v125 v128 v131 v139 k0_pay20 k0_pay21 x4 x5 x6)
        (A.a13.view.readAt (Elt Ideal) (Rect.unit (s := S4224x256) (k0_off1 t) ![512, 256] inb1).toLoadRect (A.a13.view.writes (Elt Ideal) f13
          [⟨Rect.unit (s := S4224x256) ![0, 0] ![128, 256] inb0, k0_pay30 v125 v128 v131 v139 k0_pay20 k0_pay21 x4 x5 x6
            (A.a13.view.readAt (Elt Ideal) (Rect.unit (s := S4224x256) ![0, 0] ![128, 256] inb0).toLoadRect f13)⟩]))⟩ ::
       [⟨Rect.unit (s := S4224x256) ![0, 0] ![128, 256] inb0, k0_pay30 v125 v128 v131 v139 k0_pay20 k0_pay21 x4 x5 x6
            (A.a13.view.readAt (Elt Ideal) (Rect.unit (s := S4224x256) ![0, 0] ![128, 256] inb0).toLoadRect f13)⟩])))
      (fun j d => a j d + if j < 16 ∨ 16 + 512 * t.val ≤ j ∧ j < 16 + 512 * (t.val + 1) then h.dk t j d else 0) := by
  have first := (Holds.store (n := 128) (L := []) h13 ![0, 0] inb0 (pay30_holds hq hg hl hδ h4 h5 h6 (h13.load ![0, 0] inb0)) rfl)
  have first' := first.congr (g := fun j d => a j d + if j < 16 then h.dk t j d else 0) (by
    intro j d hj hd
    show (if 0 ≤ j ∧ j < 0 + 128 then _ else _) = _
    by_cases e : j < 128
    · rw [if_pos (by omega)]
      dsimp only [Matrix.cons_val_zero, Matrix.cons_val_one]
      simp only [Nat.zero_add, Nat.sub_zero, rows2_own (fun j d => h.KV j (128 + d)) t.val]
      congr 1
      by_cases u : j < 16
      · rw [if_pos u]
        refine Finset.sum_congr rfl fun r _ => ?_
        rw [own_D h t.val r.isLt (by omega), if_neg (by omega)]
        unfold ownKey
        rw [if_pos e]
      · rw [if_neg u]
        refine Finset.sum_eq_zero fun r _ => ?_
        rw [own_D h t.val r.isLt (by omega), if_pos (by omega), zero_mul]
    · rw [if_neg (by omega), if_neg (by omega), add_zero])
  refine (Holds.store (n := 512) first' (k0_off1 t) inb1 (pay32_holds (pay28_holds hq hg hl hδ h4 h5 h6) (first'.load _ _)) ?_).congr ?_
  · rw [off1_eq]; rfl
  · intro j d hj hd
    rw [off1_eq]
    show (if 16 + 512 * t.val ≤ j ∧ j < 16 + 512 * t.val + 512 then _ else _) = _
    by_cases e : 16 + 512 * t.val ≤ j ∧ j < 16 + 512 * t.val + 512
    · rw [if_pos e]
      dsimp only [Matrix.cons_val_zero, Matrix.cons_val_one]
      simp only [show 16 + 512 * t.val + (j - (16 + 512 * t.val)) = j by omega, Nat.zero_add, rows2_own (fun j d => h.KV j (128 + d)) t.val]
      rw [if_neg (by omega : ¬j < 16), add_zero, if_pos (by omega)]
      congr 1
      refine Finset.sum_congr rfl fun r _ => ?_
      rw [own_D h t.val r.isLt (by omega), if_neg (by omega)]
      unfold ownKey
      rw [if_neg (by omega), show 16 + 512 * t.val + (128 + (j - (16 + 512 * t.val)) - 128) = j by omega]
    · rw [if_neg e]
      congr 1
      by_cases u : j < 16
      · rw [if_pos u, if_pos (by omega)]
      · rw [if_neg u, if_neg (by omega)]

include hq hg hl h4 in
/-- to the values' gradient, -/
theorem own14 {f14 : BufTy.Contents (Elt Ideal) A.a14.view.ty} {a : ℕ → ℕ → ℝ} (h14 : Holds (a := 4224) (b := 128) (A.a14.view.read (Elt Ideal) f14) a)
    (inb0) (inb1) :
    Holds (a := 4224) (b := 128) (A.a14.view.read (Elt Ideal) (A.a14.view.writes (Elt Ideal) f14
      (⟨Rect.unit (s := S4224x128) (k0_off2 t) ![512, 128] inb1, k0_pay31 v125 v128 v131 k0_pay20 k0_pay21 x4
        (A.a14.view.readAt (Elt Ideal) (Rect.unit (s := S4224x128) (k0_off2 t) ![512, 128] inb1).toLoadRect (A.a14.view.writes (Elt Ideal) f14
          [⟨Rect.unit (s := S4224x128) ![0, 0] ![128, 128] inb0, k0_pay29 v125 v128 v131 k0_pay20 k0_pay21 x4
            (A.a14.view.readAt (Elt Ideal) (Rect.unit (s := S4224x128) ![0, 0] ![128, 128] inb0).toLoadRect f14)⟩]))⟩ ::
       [⟨Rect.unit (s := S4224x128) ![0, 0] ![128, 128] inb0, k0_pay29 v125 v128 v131 k0_pay20 k0_pay21 x4
            (A.a14.view.readAt (Elt Ideal) (Rect.unit (s := S4224x128) ![0, 0] ![128, 128] inb0).toLoadRect f14)⟩])))
      (fun j d => a j d + if j < 16 ∨ 16 + 512 * t.val ≤ j ∧ j < 16 + 512 * (t.val + 1) then h.dv t j d else 0) := by
  have first := (Holds.store (n := 128) (L := []) h14 ![0, 0] inb0 (pay29_holds hq hg hl h4 (h14.load ![0, 0] inb0)) rfl)
  have first' := first.congr (g := fun j d => a j d + if j < 16 then h.dv t j d else 0) (by
    intro j d hj hd
    show (if 0 ≤ j ∧ j < 0 + 128 then _ else _) = _
    by_cases e : j < 128
    · rw [if_pos (by omega)]
      dsimp only [Matrix.cons_val_zero, Matrix.cons_val_one]
      simp only [Nat.zero_add, Nat.sub_zero]
      congr 1
      by_cases u : j < 16
      · rw [if_pos u]
        refine Finset.sum_congr rfl fun r _ => ?_
        rw [own_P h t.val r.isLt (by omega), if_neg (by omega)]
        unfold ownKey
        rw [if_pos e]
      · rw [if_neg u]
        refine Finset.sum_eq_zero fun r _ => ?_
        rw [own_P h t.val r.isLt (by omega), if_pos (by omega), zero_mul]
    · rw [if_neg (by omega), if_neg (by omega), add_zero])
  refine (Holds.store (n := 512) first' (k0_off2 t) inb1 (pay31_holds hq hg hl h4 (first'.load _ _)) ?_).congr ?_
  · rw [off2_eq]; rfl
  · intro j d hj hd
    rw [off2_eq]
    show (if 16 + 512 * t.val ≤ j ∧ j < 16 + 512 * t.val + 512 then _ else _) = _
    by_cases e : 16 + 512 * t.val ≤ j ∧ j < 16 + 512 * t.val + 512
    · rw [if_pos e]
      dsimp only [Matrix.cons_val_zero, Matrix.cons_val_one]
      simp only [show 16 + 512 * t.val + (j - (16 + 512 * t.val)) = j by omega, Nat.zero_add]
      rw [if_neg (by omega : ¬j < 16), add_zero, if_pos (by omega)]
      congr 1
      refine Finset.sum_congr rfl fun r _ => ?_
      rw [own_P h t.val r.isLt (by omega), if_neg (by omega)]
      unfold ownKey
      rw [if_neg (by omega), show 16 + 512 * t.val + (128 + (j - (16 + 512 * t.val)) - 128) = j by omega]
    · rw [if_neg e]
      congr 1
      by_cases u : j < 16
      · rw [if_pos u, if_pos (by omega)]
      · rw [if_neg u, if_neg (by omega)]

include hq hg hl hδ h4 h5 h6 in
/-- and the query gradient it starts from. -/
theorem own15 : Holds (k0_pay33 x4 (k0_pay26 v125 v128 v131 v139 k0_pay20 k0_pay21 x4 x5 x6))
    fun r d => h.dq 0 16 (16 + 512 * t.val + r) d + h.dq (16 + 512 * t.val) (16 + 512 * (t.val + 1)) (16 + 512 * t.val + r) d := by
  refine (pay33_holds h4 (pay26_holds hq hg hl hδ h4 h5 h6)).congr ?_
  intro r d hr hd
  simp only [rows2_own (fun j d => h.KV j (128 + d)) t.val]
  rw [← Finset.sum_range (fun j => dscore (kept ownMask (prob (fun r d => h.Q (16 + 512 * t.val + r) d) (fun j d => h.K (ownKey t.val j) d) fun r => h.ls (16 + 512 * t.val + r)))
        (fun r d => h.G (16 + 512 * t.val + r) d) (fun j d => h.KV (ownKey t.val j) (128 + d)) (fun r => h.δ (16 + 512 * t.val + r)) r j * h.K (ownKey t.val j) d),
    Finset.range_eq_Ico, ← Finset.sum_Ico_consecutive _ (show 0 ≤ 128 by omega) (show 128 ≤ 640 by omega),
    ← Finset.sum_Ico_consecutive _ (show 0 ≤ 16 by omega) (show 16 ≤ 128 by omega)]
  congr 1
  · have z : ∀ j ∈ Finset.Ico 16 128, dscore (kept ownMask (prob (fun r d => h.Q (16 + 512 * t.val + r) d) (fun j d => h.K (ownKey t.val j) d) fun r => h.ls (16 + 512 * t.val + r)))
        (fun r d => h.G (16 + 512 * t.val + r) d) (fun j d => h.KV (ownKey t.val j) (128 + d)) (fun r => h.δ (16 + 512 * t.val + r)) r j * h.K (ownKey t.val j) d = 0 := by
      intro j hj
      rw [Finset.mem_Ico] at hj
      rw [own_D h t.val hr (by omega), if_pos (by omega), zero_mul]
    rw [Finset.sum_eq_zero z, add_zero]
    refine Finset.sum_congr rfl fun j hj => ?_
    rw [Finset.mem_Ico] at hj
    rw [own_D h t.val hr (by omega), if_neg (by omega)]
    unfold ownKey
    rw [if_pos (by omega)]
  · unfold Head.dq
    rw [Finset.sum_Ico_eq_sum_range, Finset.sum_Ico_eq_sum_range, show 16 + 512 * (t.val + 1) - (16 + 512 * t.val) = 640 - 128 by omega]
    refine Finset.sum_congr rfl fun j hj => ?_
    rw [Finset.mem_range] at hj
    rw [own_D h t.val hr (by omega), if_neg (by omega)]
    unfold ownKey
    rw [if_neg (by omega), show 128 + j - 128 = j by omega]

end Own

end Cert.AttnBwdIdeal.Hand
-- ==== Proof.AttnTile.lean ====
/- All key blocks of one tile of query rows, and the tiles together. -/
module

public import proofs.«01_k».proof.Proof.AttnTrip

@[expose] public section

set_option maxRecDepth 16384
set_option maxHeartbeats 400000

noncomputable section

namespace Cert.AttnBwdIdeal.Hand

open Idealize.ShloMosaic Cert.AttnBwdIdeal Cert.AttnBwdIdeal.Gen Cert.Reals Cert.Attn

/-! ## The tile of keys before an odd tile -/

section Before
variable {h : Head} {A : Args} {x2 : BufTy.Contents (Elt Ideal) A.a2.view.ty} {x12 : BufTy.Contents (Elt Ideal) A.a12.view.ty}
  {t : Fin k0_t1_loop.trips} (ho : k0_cond1 t = 1#1) {v125 : FVec Ideal S512x256 .bf16} {v128 : FVec Ideal S512x128 .bf16} {v131 v139 : FVec Ideal S512x1 .f32}
  (hkv : Holds (a := 4224) (b := 256) (A.a2.view.read (Elt Ideal) x2) h.KV) (hk : Holds (a := 4224) (b := 256) (A.a12.view.read (Elt Ideal) x12) h.K)
  (hq : Holds v125 fun r d => h.Q (16 + 512 * t.val + r) d) (hg : Holds v128 fun r d => h.G (16 + 512 * t.val + r) d)
  (hl : Holds v131 fun r _ => h.ls (16 + 512 * t.val + r)) (hδ : Holds v139 fun r _ => h.δ (16 + 512 * t.val + r))

include ho hkv hk hq hg hl hδ in
theorem before13 {f13 : BufTy.Contents (Elt Ideal) A.a13.view.ty} {L : List (View.Piece (Elt Ideal) S4224x256 .f32)} {a : ℕ → ℕ → ℝ}
    (h13 : Holds (a := 4224) (b := 256) (A.a13.view.read (Elt Ideal) (A.a13.view.writes (Elt Ideal) f13 L)) a) (inb) (inb') :
    Holds (a := 4224) (b := 256) (A.a13.view.read (Elt Ideal) (A.a13.view.writes (Elt Ideal) f13
      (⟨Rect.unit (s := S4224x256) (k0_off11 t) ![512, 256] inb, k0_pay15 v125 v128 v131 v139
        (A.a12.view.readAt (Elt Ideal) (Rect.unit (s := S4224x256) (k0_off11 t) ![512, 256] inb).toLoadRect x12)
        (A.a2.view.readAt (Elt Ideal) (Rect.unit (s := S4224x256) (k0_off12 t) ![512, 128] inb').toLoadRect x2)
        (A.a13.view.readAt (Elt Ideal) (Rect.unit (s := S4224x256) (k0_off11 t) ![512, 256] inb).toLoadRect (A.a13.view.writes (Elt Ideal) f13 L))⟩ :: L)))
      (fun j d => a j d + if 16 + 512 * (t.val - 1) ≤ j ∧ j < 16 + 512 * t.val then h.dk t j d else 0) := by
  have hn : t.val % 2 = 1 := (odd_iff t).1 ho
  refine (Holds.store (n := 512) h13 _ inb (pay15_holds hq hg hl hδ (hk.load16 _ _) (hkv.load16 _ _) (h13.load _ _)) ?_).congr ?_
  · rw [off11_eq t ho]; rfl
  · intro j d hj hd
    rw [off11_eq t ho, off12_eq t ho]
    show (if 16 + 512 * (t.val - 1) ≤ j ∧ j < 16 + 512 * (t.val - 1) + 512 then _ else _) = _
    by_cases e : 16 + 512 * (t.val - 1) ≤ j ∧ j < 16 + 512 * (t.val - 1) + 512
    · rw [if_pos e, if_pos (by omega)]
      dsimp only [Matrix.cons_val_zero, Matrix.cons_val_one]
      rw [show 16 + 512 * (t.val - 1) + (j - (16 + 512 * (t.val - 1))) = j by omega, Nat.zero_add]
      congr 1
      refine Finset.sum_congr rfl fun r _ => ?_
      congr 1
      unfold Head.D dscore
      rw [h.P_on (Head.chunk_le (by omega))]
      unfold prob
      simp only [Nat.zero_add, show 16 + 512 * (t.val - 1) + (j - (16 + 512 * (t.val - 1))) = j by omega]
    · rw [if_neg e, if_neg (by omega), add_zero]

include ho hk hq hg hl in
theorem before14 {f14 : BufTy.Contents (Elt Ideal) A.a14.view.ty} {L : List (View.Piece (Elt Ideal) S4224x128 .f32)} {a : ℕ → ℕ → ℝ}
    (h14 : Holds (a := 4224) (b := 128) (A.a14.view.read (Elt Ideal) (A.a14.view.writes (Elt Ideal) f14 L)) a) (inb) (inb') :
    Holds (a := 4224) (b := 128) (A.a14.view.read (Elt Ideal) (A.a14.view.writes (Elt Ideal) f14
      (⟨Rect.unit (s := S4224x128) (k0_off13 t) ![512, 128] inb, k0_pay14 v125 v128 v131
        (A.a12.view.readAt (Elt Ideal) (Rect.unit (s := S4224x256) (k0_off11 t) ![512, 256] inb').toLoadRect x12)
        (A.a14.view.readAt (Elt Ideal) (Rect.unit (s := S4224x128) (k0_off13 t) ![512, 128] inb).toLoadRect (A.a14.view.writes (Elt Ideal) f14 L))⟩ :: L)))
      (fun j d => a j d + if 16 + 512 * (t.val - 1) ≤ j ∧ j < 16 + 512 * t.val then h.dv t j d else 0) := by
  have hn : t.val % 2 = 1 := (odd_iff t).1 ho
  refine (Holds.store (n := 512) h14 _ inb (pay14_holds hq hg hl (hk.load16 _ _) (h14.load _ _)) ?_).congr ?_
  · rw [off13_eq t ho]; rfl
  · intro j d hj hd
    rw [off11_eq t ho, off13_eq t ho]
    show (if 16 + 512 * (t.val - 1) ≤ j ∧ j < 16 + 512 * (t.val - 1) + 512 then _ else _) = _
    by_cases e : 16 + 512 * (t.val - 1) ≤ j ∧ j < 16 + 512 * (t.val - 1) + 512
    · rw [if_pos e, if_pos (by omega)]
      dsimp only [Matrix.cons_val_zero, Matrix.cons_val_one]
      rw [show 16 + 512 * (t.val - 1) + (j - (16 + 512 * (t.val - 1))) = j by omega, Nat.zero_add]
      congr 1
      refine Finset.sum_congr rfl fun r _ => ?_
      congr 1
      rw [h.P_on (Head.chunk_le (by omega))]
      unfold prob
      simp only [Nat.zero_add, show 16 + 512 * (t.val - 1) + (j - (16 + 512 * (t.val - 1))) = j by omega]
    · rw [if_neg e, if_neg (by omega), add_zero]

include ho hkv hk hq hg hl hδ in
theorem before15 {xo : Vec Ideal S512x256 .f32} {a : ℕ → ℕ → ℝ} (h15 : Holds xo a) (inb) (inb') :
    Holds (k0_pay36 xo (A.a12.view.readAt (Elt Ideal) (Rect.unit (s := S4224x256) (k0_off11 t) ![512, 256] inb).toLoadRect x12)
        (k0_pay13 v125 v128 v131 v139 (A.a12.view.readAt (Elt Ideal) (Rect.unit (s := S4224x256) (k0_off11 t) ![512, 256] inb).toLoadRect x12)
          (A.a2.view.readAt (Elt Ideal) (Rect.unit (s := S4224x256) (k0_off12 t) ![512, 128] inb').toLoadRect x2)) (constant S512x256 .f32 0x00000000#32))
      (fun r d => a r d + h.dq (16 + 512 * (t.val - 1)) (16 + 512 * t.val) (16 + 512 * t.val + r) d) := by
  have hn : t.val % 2 = 1 := (odd_iff t).1 ho
  refine (pay36_holds (hk.load16 _ _) h15 (pay13_holds hq hg hl hδ (hk.load16 _ _) (hkv.load16 _ _))).congr ?_
  intro r d hr hd
  rw [off11_eq t ho, off12_eq t ho]
  dsimp only [Matrix.cons_val_zero, Matrix.cons_val_one]
  simp only [Nat.zero_add]
  congr 1
  unfold Head.dq
  rw [Finset.sum_Ico_eq_sum_range, show 16 + 512 * t.val - (16 + 512 * (t.val - 1)) = 512 by omega, Finset.sum_range]
  refine Finset.sum_congr rfl fun j _ => ?_
  congr 1
  unfold Head.D dscore
  rw [h.P_on (Head.chunk_le (by omega))]
  unfold prob
  simp only [Nat.zero_add]

end Before

theorem tiles_eq : k0_t1_loop.trips = 8 := by decide +kernel

/-! ## All blocks of a tile -/

/-- After a tile, the keys' gradient has grown by the tile's part of it. -/
theorem dk_off (h : Head) {i j d : ℕ} (hj : 16 + 512 * (i + 1) ≤ j) : h.dk i j d = 0 :=
  Finset.sum_eq_zero fun r _ => by rw [h.D_off (Head.not_chunk_le r.isLt hj), zero_mul]

theorem dv_off (h : Head) {i j d : ℕ} (hj : 16 + 512 * (i + 1) ≤ j) : h.dv i j d = 0 :=
  Finset.sum_eq_zero fun r _ => by rw [h.P_off (Head.not_chunk_le r.isLt hj), zero_mul]

theorem dq_all (h : Head) {i r d : ℕ} (hr : r < 512) (hi : i < 8) : h.dq 0 4112 (16 + 512 * i + r) d = h.dq 0 (16 + 512 * (i + 1)) (16 + 512 * i + r) d := by
  unfold Head.dq
  rw [← Finset.sum_Ico_consecutive _ (show 0 ≤ 16 + 512 * (i + 1) by omega) (show 16 + 512 * (i + 1) ≤ 4112 by omega), add_eq_left]
  refine Finset.sum_eq_zero fun j hj => ?_
  rw [Finset.mem_Ico] at hj
  rw [h.D_off (Head.not_chunk_le hr hj.1), zero_mul]

theorem dq_add (h : Head) {a b c t d : ℕ} (hab : a ≤ b) (hbc : b ≤ c) : h.dq a b t d + h.dq b c t d = h.dq a c t d :=
  Finset.sum_Ico_consecutive _ hab hbc

section Words
variable {h : Head} {A : Args} {X : Ins Ideal A} (R : Reads A X h) (t : Fin k0_t1_loop.trips)
include R

theorem load_q (inb) : Holds (k0_pay16 (A.a1.view.readAt (Elt Ideal) (Rect.unit (s := S4224x256) (k0_off1 t) ![512, 256] inb).toLoadRect X.x1))
    fun r d => h.Q (16 + 512 * t.val + r) d := by
  refine (pay16_holds (R.q.load16 _ _)).congr fun r d _ _ => ?_
  rw [off1_eq]; show h.Q _ (0 + d) = _; rw [Nat.zero_add]; rfl

theorem load_g (inb) : Holds (k0_pay17 (A.a6.view.readAt (Elt Ideal) (Rect.unit (s := S4224x128) (k0_off2 t) ![512, 128] inb).toLoadRect X.x6))
    fun r d => h.G (16 + 512 * t.val + r) d := by
  refine (pay17_holds (R.g.load16 _ _)).congr fun r d _ _ => ?_
  rw [off2_eq]; show h.G _ (0 + d) = _; rw [Nat.zero_add]; rfl

theorem load_l (inb) : Holds (k0_pay18 (A.a5.view.readAt (Elt Ideal) (Rect.unit (s := S1x4224x128) (k0_off3 t) ![1, 512, 1] inb).toLoadRect X.x5))
    fun r _ => h.ls (16 + 512 * t.val + r) := by
  have e := off3_eq t
  refine pay18_holds fun r => ?_
  rw [load3_apply A.a5.view X.x5 (k0_off3 t) inb r (by rw [e]; rfl) (inb 1) (by rw [e]; rfl) (by omega), R.l]
  exact congrArg (fun n => ((h.ls (n + r.val) : ℝ) : EReal)) (congrFun e 1)

theorem load_δ (inb) : Holds (k0_pay19 (A.a6.view.readAt (Elt Ideal) (Rect.unit (s := S4224x128) (k0_off2 t) ![512, 128] inb).toLoadRect X.x6)
      (A.a4.view.readAt (Elt Ideal) (Rect.unit (s := S4224x128) (k0_off2 t) ![512, 128] inb).toLoadRect X.x4))
    fun r _ => h.δ (16 + 512 * t.val + r) := by
  refine (pay19_holds (R.g.load16 _ _) (R.o.load16 _ _)).congr fun r d _ _ => ?_
  rw [off2_eq]
  dsimp only [Matrix.cons_val_zero, Matrix.cons_val_one]
  simp only [Nat.zero_add]; rfl

theorem load_k (inb0) (inb) : Holds (k0_pay22 (A.a12.view.readAt (Elt Ideal) (Rect.unit (s := S4224x256) ![0, 0] ![128, 256] inb0).toLoadRect X.x12)
      (A.a12.view.readAt (Elt Ideal) (Rect.unit (s := S4224x256) (k0_off1 t) ![512, 256] inb).toLoadRect X.x12))
    fun j d => h.K (ownKey t.val j) d := by
  refine (pay22_holds (R.k.load16 ![0, 0] inb0) (R.k.load16 (k0_off1 t) inb)).congr fun j d _ _ => ?_
  rw [off1_eq, show h.K (ownKey t.val j) d = (fun j d => h.K (ownKey t.val j) d) j d from rfl, ← rows2_own h.K t.val]
  dsimp only [Matrix.cons_val_zero, Matrix.cons_val_one]
  simp only [Nat.zero_add]

theorem load_v0 (inb) : Holds (k0_pay23 (A.a2.view.readAt (Elt Ideal) (Rect.unit (s := S4224x256) ![0, 128] ![128, 128] inb).toLoadRect X.x2))
    fun j d => h.KV j (128 + d) := by
  refine (pay23_holds (R.kv.load16 ![0, 128] inb)).congr fun r d _ _ => ?_
  show h.KV (0 + r) _ = _; rw [Nat.zero_add]; rfl

theorem load_v (inb) : Holds (k0_pay24 (A.a2.view.readAt (Elt Ideal) (Rect.unit (s := S4224x256) (k0_off4 t) ![512, 128] inb).toLoadRect X.x2))
    fun r d => h.KV (16 + 512 * t.val + r) (128 + d) := by
  refine (pay24_holds (R.kv.load16 _ inb)).congr fun r d _ _ => ?_
  rw [off4_eq]; rfl

theorem load_s (inb) : Holds (A.a8.view.readAt (Elt Ideal) (Rect.unit (s := S4224x128) (k0_off2 t) ![512, 128] inb).toLoadRect X.x8)
    fun r d => h.S (16 + 512 * t.val + r) d := by
  refine (R.s.load _ inb).congr fun r d _ _ => ?_
  rw [off2_eq]; show h.S _ (0 + d) = _; rw [Nat.zero_add]; rfl

theorem load_c (inb) : Holds (A.a7.view.readAt (Elt Ideal) (Rect.unit (s := S4224x128) (k0_off2 t) ![512, 128] inb).toLoadRect X.x7)
    fun r d => h.C (16 + 512 * t.val + r) d := by
  refine (R.c.load _ inb).congr fun r d _ _ => ?_
  rw [off2_eq]; show h.C _ (0 + d) = _; rw [Nat.zero_add]; rfl

end Words

theorem value_odd {h : Head} {A : Args} {X : Ins Ideal A} (R : Reads A X h) (c : Dev nD) (i : grid0.Coords) (t : Fin k0_t1_loop.trips) (ho : k0_cond1 t = 1#1)
    {f13 : BufTy.Contents (Elt Ideal) A.a13.view.ty} {f14 : BufTy.Contents (Elt Ideal) A.a14.view.ty} {a b : ℕ → ℕ → ℝ}
    (h13 : Holds (a := 4224) (b := 256) (A.a13.view.read (Elt Ideal) f13) a) (h14 : Holds (a := 4224) (b := 128) (A.a14.view.read (Elt Ideal) f14) b) :
    Holds (a := 4224) (b := 256) (A.a13.view.read (Elt Ideal) (A.a13.view.writes (Elt Ideal) f13 ((trip_odd c i A X t ho).1.L13 f13 f14)))
      (fun j d => a j d + h.dk t j d) ∧
    Holds (a := 4224) (b := 128) (A.a14.view.read (Elt Ideal) (A.a14.view.writes (Elt Ideal) f14 ((trip_odd c i A X t ho).1.L14 f13 f14)))
      (fun j d => b j d + h.dv t j d) ∧
    ∃ inb p, (trip_odd c i A X t ho).1.L9 f13 f14 = [⟨Rect.unit (s := S4224x256) (k0_off1 t) ![512, 256] inb, p⟩] ∧
      Holds p (dqrow (fun r d => h.dq 0 4112 (16 + 512 * t.val + r) d) (fun r d => h.C (16 + 512 * t.val + r) d) fun r d => h.S (16 + 512 * t.val + r) d) := by
  have ht : t.val < 8 := tiles_eq ▸ t.isLt
  have hp := (odd_iff t).1 ho
  have hq := load_q R t (k0_off1_inb t)
  have hg := load_g R t (k0_off2_inb t)
  have hl := load_l R t (k0_off3_inb t)
  have hδ := load_δ R t (k0_off2_inb t)
  have h4 := load_k R t inb_S4224x256_S128x256_0_0 (k0_off1_inb t)
  have h5 := load_v0 R inb_S4224x256_S128x128_0_128
  have h6 := load_v R t (k0_off4_inb t)
  have o13 := own13 hq hg hl hδ h4 h5 h6 h13 inb_S4224x256_S128x256_0_0 (k0_off1_inb t)
  have o14 := own14 hq hg hl h4 h14 inb_S4224x128_S128x128_0_0 (k0_off2_inb t)
  have o15 := Holds.whole (v := A.a15.view) (f := A.a15.view.junk) (L := []) ![0, 0] inb_S512x256_S512x256_0_0 (own15 hq hg hl hδ h4 h5 h6) rfl rfl
  obtain ⟨e13, e14, e15⟩ := pairs R.kv R.k hq hg hl hδ c i (trip_odd.sl.arg16 t) (trip_odd.sl.v121 t) (trip_odd.sl.r_4 A X t) (trip_odd.sl.r_7 A X t)
    (trip_odd.sl.r_8 A X t) (t.val / 2) le_rfl o13 o14 o15
  rw [← View.writes_append] at e13 e14 e15
  have n2 : Scf.trips (k0_t2_loop t).lb (k0_t2_loop t).ub (k0_t2_loop t).st = t.val / 2 := pairs_eq t
  have n3 : Scf.trips (k0_t3_loop t).lb (k0_t3_loop t).ub (k0_t3_loop t).st = 0 := rest_eq t
  refine ⟨?_, ?_, ?_⟩
  · unfold trip_odd
    dsimp only
    unfold trip_odd.sl.v322
    rw [n3, n2]
    refine ((before13 ho R.kv R.k hq hg hl hδ e13 (k0_off11_inb t ho) (k0_off12_inb t ho))).congr fun j d _ _ => ?_
    rw [add_assoc, add_assoc, ite_step _ _ (16 ≤ j ∧ j < 16 + 512 * t.val) _ (by omega) (by omega),
      ite_step _ _ (j < 16 + 512 * (t.val + 1)) _ (by omega) (by omega)]
    split
    · rfl
    · next e => rw [dk_off h (by omega)]
  · unfold trip_odd
    dsimp only
    unfold trip_odd.sl.v315
    rw [n3, n2]
    refine ((before14 ho R.k hq hg hl e14 (k0_off13_inb t ho) (k0_off11_inb t ho))).congr fun j d _ _ => ?_
    rw [add_assoc, add_assoc, ite_step _ _ (16 ≤ j ∧ j < 16 + 512 * t.val) _ (by omega) (by omega),
      ite_step _ _ (j < 16 + 512 * (t.val + 1)) _ (by omega) (by omega)]
    split
    · rfl
    · next e => rw [dv_off h (by omega)]
  · unfold trip_odd
    dsimp only
    refine ⟨k0_off1_inb t, _, rfl, ?_⟩
    have v' : Holds (trip_odd.sl.v248 c i A X t ho f13 f14) fun r d => h.dq 0 4112 (16 + 512 * t.val + r) d := by
      unfold trip_odd.sl.v248 trip_odd.sl.HW15_1_1 trip_odd.sl.v292
      rw [n3, n2]
      refine ((Holds.whole (v := A.a15.view) (f := A.a15.view.junk) ![0, 0] inb_S512x256_S512x256_0_0
        (before15 ho R.kv R.k hq hg hl hδ (e15.load (n := 512) (m := 256) ![0, 0] inb_S512x256_S512x256_0_0) (k0_off11_inb t ho) (k0_off12_inb t ho)) rfl rfl).load (n := 512) (m := 256) ![0, 0] inb_S512x256_S512x256_0_0).congr fun r d hr hd => ?_
      dsimp only [Matrix.cons_val_zero, Matrix.cons_val_one]
      simp only [Nat.zero_add]
      rw [dq_all h hr ht]
      have u : h.dq 0 16 (16 + 512 * t.val + r) d + h.dq 16 (16 + 1024 * (t.val / 2)) (16 + 512 * t.val + r) d
          + h.dq (16 + 512 * (t.val - 1)) (16 + 512 * t.val) (16 + 512 * t.val + r) d
          + h.dq (16 + 512 * t.val) (16 + 512 * (t.val + 1)) (16 + 512 * t.val + r) d = h.dq 0 (16 + 512 * (t.val + 1)) (16 + 512 * t.val + r) d := by
        rw [dq_add h (by omega) (by omega), show 16 + 1024 * (t.val / 2) = 16 + 512 * (t.val - 1) by omega, dq_add h (by omega) (by omega), dq_add h (by omega) (by omega)]
      linarith
    exact pay1_holds v' (load_c R t (k0_off2_inb t)) (load_s R t (k0_off2_inb t))

theorem value_even {h : Head} {A : Args} {X : Ins Ideal A} (R : Reads A X h) (c : Dev nD) (i : grid0.Coords) (t : Fin k0_t1_loop.trips) (ho : ¬k0_cond1 t = 1#1)
    {f13 : BufTy.Contents (Elt Ideal) A.a13.view.ty} {f14 : BufTy.Contents (Elt Ideal) A.a14.view.ty} {a b : ℕ → ℕ → ℝ}
    (h13 : Holds (a := 4224) (b := 256) (A.a13.view.read (Elt Ideal) f13) a) (h14 : Holds (a := 4224) (b := 128) (A.a14.view.read (Elt Ideal) f14) b) :
    Holds (a := 4224) (b := 256) (A.a13.view.read (Elt Ideal) (A.a13.view.writes (Elt Ideal) f13 ((trip_even c i A X t ho).1.L13 f13 f14)))
      (fun j d => a j d + h.dk t j d) ∧
    Holds (a := 4224) (b := 128) (A.a14.view.read (Elt Ideal) (A.a14.view.writes (Elt Ideal) f14 ((trip_even c i A X t ho).1.L14 f13 f14)))
      (fun j d => b j d + h.dv t j d) ∧
    ∃ inb p, (trip_even c i A X t ho).1.L9 f13 f14 = [⟨Rect.unit (s := S4224x256) (k0_off1 t) ![512, 256] inb, p⟩] ∧
      Holds p (dqrow (fun r d => h.dq 0 4112 (16 + 512 * t.val + r) d) (fun r d => h.C (16 + 512 * t.val + r) d) fun r d => h.S (16 + 512 * t.val + r) d) := by
  have ht : t.val < 8 := tiles_eq ▸ t.isLt
  have hp := mt (odd_iff t).2 ho
  have hq := load_q R t (k0_off1_inb t)
  have hg := load_g R t (k0_off2_inb t)
  have hl := load_l R t (k0_off3_inb t)
  have hδ := load_δ R t (k0_off2_inb t)
  have h4 := load_k R t inb_S4224x256_S128x256_0_0 (k0_off1_inb t)
  have h5 := load_v0 R inb_S4224x256_S128x128_0_128
  have h6 := load_v R t (k0_off4_inb t)
  have o13 := own13 hq hg hl hδ h4 h5 h6 h13 inb_S4224x256_S128x256_0_0 (k0_off1_inb t)
  have o14 := own14 hq hg hl h4 h14 inb_S4224x128_S128x128_0_0 (k0_off2_inb t)
  have o15 := Holds.whole (v := A.a15.view) (f := A.a15.view.junk) (L := []) ![0, 0] inb_S512x256_S512x256_0_0 (own15 hq hg hl hδ h4 h5 h6) rfl rfl
  obtain ⟨e13, e14, e15⟩ := pairs R.kv R.k hq hg hl hδ c i (trip_even.sl.arg16 t) (trip_even.sl.v121 t) (trip_even.sl.r_4 A X t) (trip_even.sl.r_7 A X t)
    (trip_even.sl.r_8 A X t) (t.val / 2) le_rfl o13 o14 o15
  rw [← View.writes_append] at e13 e14 e15
  have n2 : Scf.trips (k0_t2_loop t).lb (k0_t2_loop t).ub (k0_t2_loop t).st = t.val / 2 := pairs_eq t
  have n3 : Scf.trips (k0_t3_loop t).lb (k0_t3_loop t).ub (k0_t3_loop t).st = 0 := rest_eq t
  refine ⟨?_, ?_, ?_⟩
  · unfold trip_even
    dsimp only
    rw [n3, n2]
    refine (e13).congr fun j d _ _ => ?_
    rw [add_assoc, ite_step _ _ (j < 16 + 512 * (t.val + 1)) _ (by omega) (by omega)]
    split
    · rfl
    · next e => rw [dk_off h (by omega)]
  · unfold trip_even
    dsimp only
    rw [n3, n2]
    refine (e14).congr fun j d _ _ => ?_
    rw [add_assoc, ite_step _ _ (j < 16 + 512 * (t.val + 1)) _ (by omega) (by omega)]
    split
    · rfl
    · next e => rw [dv_off h (by omega)]
  · unfold trip_even
    dsimp only
    refine ⟨k0_off1_inb t, _, rfl, ?_⟩
    have v' : Holds (trip_even.sl.v248 c i A X t f13 f14) fun r d => h.dq 0 4112 (16 + 512 * t.val + r) d := by
      unfold trip_even.sl.v248
      rw [n3, n2]
      refine (e15.load (n := 512) (m := 256) ![0, 0] inb_S512x256_S512x256_0_0).congr fun r d hr hd => ?_
      dsimp only [Matrix.cons_val_zero, Matrix.cons_val_one]
      simp only [Nat.zero_add]
      rw [dq_all h hr ht]
      have u : h.dq 0 16 (16 + 512 * t.val + r) d + h.dq 16 (16 + 1024 * (t.val / 2)) (16 + 512 * t.val + r) d
          + h.dq (16 + 512 * t.val) (16 + 512 * (t.val + 1)) (16 + 512 * t.val + r) d = h.dq 0 (16 + 512 * (t.val + 1)) (16 + 512 * t.val + r) d := by
        rw [dq_add h (by omega) (by omega), show 16 + 1024 * (t.val / 2) = 16 + 512 * t.val by omega, dq_add h (by omega) (by omega)]
      linarith
    exact pay1_holds v' (load_c R t (k0_off2_inb t)) (load_s R t (k0_off2_inb t))
end Cert.AttnBwdIdeal.Hand
-- ==== Proof.AttnHead.lean ====
/- One head of the attention gradient over the reals: the eight tiles together, the rows of the prefix, and the three
   outputs. -/
module

public import proofs.«01_k».proof.Proof.AttnTile

@[expose] public section

set_option maxRecDepth 16384
set_option maxHeartbeats 400000

noncomputable section

namespace Cert.AttnBwdIdeal.Hand

open Idealize.ShloMosaic Cert.AttnBwdIdeal Cert.AttnBwdIdeal.Gen Cert.Reals Cert.Attn

/-- One trip, at either parity. -/
theorem value_trip {h : Head} {A : Args} {X : Ins Ideal A} (R : Reads A X h) (c : Dev nD) (i : grid0.Coords) (t : Fin k0_t1_loop.trips)
    {f13 : BufTy.Contents (Elt Ideal) A.a13.view.ty} {f14 : BufTy.Contents (Elt Ideal) A.a14.view.ty} {a b : ℕ → ℕ → ℝ}
    (h13 : Holds (a := 4224) (b := 256) (A.a13.view.read (Elt Ideal) f13) a) (h14 : Holds (a := 4224) (b := 128) (A.a14.view.read (Elt Ideal) f14) b) :
    Holds (a := 4224) (b := 256) (A.a13.view.read (Elt Ideal) (A.a13.view.writes (Elt Ideal) f13 ((tripL c i A X t).L13 f13 f14)))
      (fun j d => a j d + h.dk t j d) ∧
    Holds (a := 4224) (b := 128) (A.a14.view.read (Elt Ideal) (A.a14.view.writes (Elt Ideal) f14 ((tripL c i A X t).L14 f13 f14)))
      (fun j d => b j d + h.dv t j d) ∧
    ∃ inb p, (tripL c i A X t).L9 f13 f14 = [⟨Rect.unit (s := S4224x256) (k0_off1 t) ![512, 256] inb, p⟩] ∧
      Holds p (dqrow (fun r d => h.dq 0 4112 (16 + 512 * t.val + r) d) (fun r d => h.C (16 + 512 * t.val + r) d) fun r d => h.S (16 + 512 * t.val + r) d) := by
  unfold tripL
  split
  · next ho => exact value_odd R c i t ho h13 h14
  · next ho => exact value_even R c i t ho h13 h14

/-- The tiles before the `n`-th. -/
theorem tiles {h : Head} {A : Args} {X : Ins Ideal A} (R : Reads A X h) (c : Dev nD) (i : grid0.Coords)
    {f13 : BufTy.Contents (Elt Ideal) A.a13.view.ty} {f14 : BufTy.Contents (Elt Ideal) A.a14.view.ty} {a b : ℕ → ℕ → ℝ}
    (h13 : Holds (a := 4224) (b := 256) (A.a13.view.read (Elt Ideal) f13) a) (h14 : Holds (a := 4224) (b := 128) (A.a14.view.read (Elt Ideal) f14) b)
    (n : ℕ) (hn : n ≤ 8) :
    Holds (a := 4224) (b := 256) (A.a13.view.read (Elt Ideal) (A.a13.view.writes (Elt Ideal) f13 (done c i A X f13 f14 n).p13))
      (fun j d => a j d + ∑ k ∈ Finset.range n, h.dk k j d) ∧
    Holds (a := 4224) (b := 128) (A.a14.view.read (Elt Ideal) (A.a14.view.writes (Elt Ideal) f14 (done c i A X f13 f14 n).p14))
      (fun j d => b j d + ∑ k ∈ Finset.range n, h.dv k j d) ∧
    ∀ (f9 : BufTy.Contents (Elt Ideal) A.a9.view.ty) (L : List (View.Piece (Elt Ideal) S4224x256 .bf16)) (r : Fin 4224) (l : Fin 256),
      A.a9.view.read (Elt Ideal) (A.a9.view.writes (Elt Ideal) f9 ((done c i A X f13 f14 n).p9 ++ L)) (ix2 r l)
        = if 16 ≤ r.val ∧ r.val < 16 + 512 * n then ((dqrow (h.dq 0 4112) h.C h.S r l : ℝ) : EReal)
          else A.a9.view.read (Elt Ideal) (A.a9.view.writes (Elt Ideal) f9 L) (ix2 r l) := by
  induction n with
  | zero =>
    refine ⟨h13.congr fun j d _ _ => ?_, h14.congr fun j d _ _ => ?_, fun f9 L r l => ?_⟩
    · rw [Finset.sum_range_zero, add_zero]
    · rw [Finset.sum_range_zero, add_zero]
    · rw [if_neg (by omega)]; rfl
  | succ n ih =>
    obtain ⟨e13, e14, e9⟩ := ih (by omega)
    have hlt : n < k0_t1_loop.trips := by rw [tiles_eq]; omega
    have s := done_succ c i A X f13 f14 ⟨n, hlt⟩
    dsimp only at s
    rw [s]
    dsimp only
    obtain ⟨v13, v14, inb, p, v9, hp⟩ := value_trip R c i ⟨n, hlt⟩ e13 e14
    rw [View.writes_append, View.writes_append, v9]
    refine ⟨v13.congr fun j d _ _ => ?_, v14.congr fun j d _ _ => ?_, fun f9 L r l => ?_⟩
    · rw [Finset.sum_range_succ, add_assoc]
    · rw [Finset.sum_range_succ, add_assoc]
    · have o0 : k0_off1 ⟨n, hlt⟩ 0 = 16 + 512 * n := by rw [off1_eq]; rfl
      have o1 : k0_off1 ⟨n, hlt⟩ 1 = 0 := by rw [off1_eq]; rfl
      by_cases u : 16 + 512 * n ≤ r.val ∧ r.val < 16 + 512 * n + 512
      · rw [if_pos (by omega)]
        refine (store_in A.a9.view f9 ((done c i A X f13 f14 n).p9 ++ L) (k0_off1 ⟨n, hlt⟩) inb p o1 r l (by omega) (by omega)).trans ((hp _ _).trans ?_)
        show ((dqrow (h.dq 0 4112) h.C h.S (16 + 512 * n + (r.val - k0_off1 ⟨n, hlt⟩ 0)) l : ℝ) : EReal) = _
        rw [o0, show 16 + 512 * n + (r.val - (16 + 512 * n)) = r.val by omega]
      · refine (store_out A.a9.view f9 ((done c i A X f13 f14 n).p9 ++ L) (k0_off1 ⟨n, hlt⟩) inb p r l (by omega)).trans ((e9 f9 L r l).trans ?_)
        by_cases w : 16 ≤ r.val ∧ r.val < 16 + 512 * n
        · rw [if_pos w, if_pos (by omega)]
        · rw [if_neg w, if_neg (by omega)]

/-! ## The prefix and the outputs -/

/-- The blocks hold one head's arguments; the keys are the first half of `KV` beside the rotary keys. -/
structure BlockReads (X : Blocks Ideal) (h : Head) (KR : ℕ → ℕ → ℝ) : Prop where
  q : Holds X.x1 h.Q
  kv : Holds X.x2 h.KV
  kr : Holds X.x3 KR
  o : Holds X.x4 h.O
  l : ∀ (r : Fin 4224) (l : Fin 128), X.x5 (ix3 0 r l) = ((h.ls r : ℝ) : EReal)
  g : Holds X.x6 h.G
  c : Holds X.x7 h.C
  s : Holds X.x8 h.S
  k : h.K = fun j d => if d < 128 then h.KV j d else KR j (d - 128)

theorem pay43_holds {x : Vec Ideal S4224x128 .bf16} {f : ℕ → ℕ → ℝ} (hx : Holds x f) : Holds (k0_pay43 x) f := by
  intro r l; pointwise [k0_pay43]; exact hx r l

theorem pay44_holds {x : Vec Ideal S4224x128 .bf16} {f : ℕ → ℕ → ℝ} (hx : Holds x f) : Holds (k0_pay44 x) f := by
  intro r l; pointwise [k0_pay44]; exact hx r l

theorem pay45_holds : Holds (a := 4224) (b := 256) (k0_pay45 (F := Ideal)) fun _ _ => 0 := by
  intro r l; pointwise [k0_pay45]; exact EReal.coe_zero.symm

theorem pay46_holds : Holds (a := 4224) (b := 128) (k0_pay46 (F := Ideal)) fun _ _ => 0 := by
  intro r l; pointwise [k0_pay46]; exact EReal.coe_zero.symm

theorem pay47_holds : Holds (a := 112) (b := 256) (k0_pay47 (F := Ideal)) fun _ _ => 0 := by
  intro r l; pointwise [k0_pay47]; exact EReal.coe_zero.symm

theorem pay2_holds {x : Vec Ideal S4224x256 .f32} {y : Vec Ideal S4224x128 .f32} {f g : ℕ → ℕ → ℝ} (hx : Holds x f) (hy : Holds y g) :
    Holds (k0_pay2 x y) fun j l => if l < 128 then f j l else g j (l - 128) := by
  intro r l
  pointwise [k0_pay2]
  split
  · exact hx r _
  · exact hy r _

theorem pay3_apply {x : Vec Ideal S4224x256 .f32} {f : ℕ → ℕ → ℝ} (hx : Holds x f) (r : Fin 4224) (l : Fin 128) :
    k0_pay3 x (ix3 0 r l) = ((f r (128 + l) : ℝ) : EReal) := by
  pointwise [k0_pay3]
  exact hx r _

/-- A store of a half of the columns. -/
theorem keys_holds {X : Blocks Ideal} {h : Head} {KR : ℕ → ℕ → ℝ} (B : BlockReads X h KR) (c : Dev nD) (A : Args) :
    Holds (a := 4224) (b := 256) (A.a12.view.read (Elt Ideal) (A.a12.view.writes (Elt Ideal) A.a12.view.junk (bodyRun.sl.H12_2 c A X))) h.K := by
  have hr : Holds (A.a3.view.readAt (Elt Ideal) (Rect.unit (s := S4224x128) ![0, 0] ![4224, 128] inb_S4224x128_S4224x128_0_0).toLoadRect (A.h3.unread X.x3)) KR := by
    refine (Holds.load16 (g := KR) ?_ ![0, 0] inb_S4224x128_S4224x128_0_0).congr fun r l _ _ => ?_
    · rw [A.h3.read_unread]; exact B.kr
    · show KR (0 + r) (0 + l) = _; rw [Nat.zero_add, Nat.zero_add]
  have hk : Holds (A.a2.view.readAt (Elt Ideal) (Rect.unit (s := S4224x256) ![0, 0] ![4224, 128] inb_S4224x256_S4224x128_0_0).toLoadRect (A.h2.unread X.x2)) h.KV := by
    refine (Holds.load16 (g := h.KV) ?_ ![0, 0] inb_S4224x256_S4224x128_0_0).congr fun r l _ _ => ?_
    · rw [A.h2.read_unread]; exact B.kv
    · show h.KV (0 + r) (0 + l) = _; rw [Nat.zero_add, Nat.zero_add]
  unfold bodyRun.sl.H12_2
  refine (Holds.bands ![0, 0] ![0, 128] inb_S4224x256_S4224x128_0_0 inb_S4224x256_S4224x128_0_128 (pay43_holds hk) (pay44_holds hr) rfl rfl rfl rfl rfl).congr
    fun r l _ _ => ?_
  rw [B.k]

/-- What the loop reads. -/
abbrev insOf (c : Dev nD) (A : Args) (X : Blocks Ideal) : Ins Ideal A :=
  { x1 := A.h1.unread X.x1, x2 := A.h2.unread X.x2, x3 := A.h3.unread X.x3, x4 := A.h4.unread X.x4, x5 := A.h5.unread X.x5,
    x6 := A.h6.unread X.x6, x7 := A.h7.unread X.x7, x8 := A.h8.unread X.x8,
    x12 := A.a12.view.writes (Elt Ideal) A.a12.view.junk (bodyRun.sl.H12_2 c A X) }

/-- What the body's blocks hold when the loop begins. -/
theorem reads_of {X : Blocks Ideal} {h : Head} {KR : ℕ → ℕ → ℝ} (B : BlockReads X h KR) (c : Dev nD) (A : Args) :
    Reads A (insOf c A X) h := by
  refine ⟨?_, ?_, ?_, ?_, ?_, ?_, ?_, ?_⟩
  · show Holds (a := 4224) (b := 256) (A.a1.view.read (Elt Ideal) (A.h1.unread X.x1)) h.Q
    rw [A.h1.read_unread]; exact B.q
  · show Holds (a := 4224) (b := 256) (A.a2.view.read (Elt Ideal) (A.h2.unread X.x2)) h.KV
    rw [A.h2.read_unread]; exact B.kv
  · show Holds (a := 4224) (b := 128) (A.a4.view.read (Elt Ideal) (A.h4.unread X.x4)) h.O
    rw [A.h4.read_unread]; exact B.o
  · show ∀ (r : Fin 4224) (l : Fin 128), A.a5.view.read (Elt Ideal) (A.h5.unread X.x5) (ix3 0 r l) = ((h.ls r : ℝ) : EReal)
    rw [A.h5.read_unread]; exact B.l
  · show Holds (a := 4224) (b := 128) (A.a6.view.read (Elt Ideal) (A.h6.unread X.x6)) h.G
    rw [A.h6.read_unread]; exact B.g
  · show Holds (a := 4224) (b := 128) (A.a7.view.read (Elt Ideal) (A.h7.unread X.x7)) h.C
    rw [A.h7.read_unread]; exact B.c
  · show Holds (a := 4224) (b := 128) (A.a8.view.read (Elt Ideal) (A.h8.unread X.x8)) h.S
    rw [A.h8.read_unread]; exact B.s
  · dsimp only [insOf]
    have e := keys_holds B c A
    revert e
    generalize A.a12.view.writes (Elt Ideal) A.a12.view.junk (bodyRun.sl.H12_2 c A X) = z
    exact fun e => e

/-- A row of the prefix attends to the prefix only. -/
theorem prefix_P (h : Head) (r j : ℕ) (hr : r < 16) : kept prefixMask (prob h.Q h.K h.ls) r j = h.P r j := by
  have : prefixMask r j ↔ chunk j ≤ chunk r := by
    unfold prefixMask chunk
    rw [if_pos hr]
    split <;> omega
  unfold kept Head.P
  by_cases m : prefixMask r j
  · rw [if_pos m, if_pos (this.1 m)]
  · rw [if_neg m, if_neg fun q => m (this.2 q)]

theorem prefix_P0 (h : Head) (r j : ℕ) (hr : 16 ≤ r) : kept prefixMask (prob h.Q h.K h.ls) r j = 0 := by
  unfold kept
  rw [if_neg]
  unfold prefixMask
  omega

theorem prefix_D (h : Head) (r j : ℕ) (hr : r < 16) :
    dscore (kept prefixMask (prob h.Q h.K h.ls)) h.G (fun j d => h.KV j (128 + d)) h.δ r j = h.D r j := by
  unfold dscore
  rw [prefix_P h r j hr]
  rfl

theorem prefix_D0 (h : Head) (r j : ℕ) (hr : 16 ≤ r) :
    dscore (kept prefixMask (prob h.Q h.K h.ls)) h.G (fun j d => h.KV j (128 + d)) h.δ r j = 0 := by
  unfold dscore
  rw [prefix_P0 h r j hr, zero_mul, zero_mul]

theorem sum_prefix (f : ℕ → ℝ) (hf : ∀ r, 16 ≤ r → f r = 0) : ∑ r : Fin 128, f r = ∑ r ∈ Finset.range 16, f r := by
  rw [← Finset.sum_range, Finset.range_eq_Ico, ← Finset.sum_Ico_consecutive f (show 0 ≤ 16 by omega) (show 16 ≤ 128 by omega), Finset.range_eq_Ico, add_eq_left]
  exact Finset.sum_eq_zero fun r hr => hf r (Finset.mem_Ico.1 hr).1

/-- The keys beyond the prefix get nothing from its rows. -/
theorem prefix_off (h : Head) {r j : ℕ} (hr : r < 16) (hj : 16 ≤ j) : ¬chunk j ≤ chunk r := by
  unfold chunk
  rw [if_pos hr, if_neg (by omega)]; omega

section Prefix
variable {X : Blocks Ideal} {h : Head} {KR : ℕ → ℕ → ℝ} (B : BlockReads X h KR) (c : Dev nD) (A : Args)
include B c A

theorem first_q : Holds (A.a1.view.readAt (Elt Ideal) (Rect.unit (s := S4224x256) ![0, 0] ![128, 256] inb_S4224x256_S128x256_0_0).toLoadRect (A.h1.unread X.x1)) h.Q := by
  refine ((reads_of B c A).q.load16 ![0, 0] inb_S4224x256_S128x256_0_0).congr fun r l _ _ => ?_
  show h.Q (0 + r) (0 + l) = _; rw [Nat.zero_add, Nat.zero_add]

theorem first_g : Holds (bodyRun.sl.r c A X) h.G := by
  refine pay49_holds (((reads_of B c A).g.load16 ![0, 0] inb_S4224x128_S128x128_0_0).congr fun r l _ _ => ?_)
  show h.G (0 + r) (0 + l) = _; rw [Nat.zero_add, Nat.zero_add]

theorem first_δ (r : Fin 128) : bodyRun.sl.r_1 c A X (ix1 r) = ((h.δ r : ℝ) : EReal) := by
  refine (pay50_holds (((reads_of B c A).g.load16 ![0, 0] inb_S4224x128_S128x128_0_0).congr (g := h.G) fun r l _ _ => ?_)
    (((reads_of B c A).o.load16 ![0, 0] inb_S4224x128_S128x128_0_0).congr (g := h.O) fun r l _ _ => ?_) r).trans rfl
  · show h.G (0 + r) (0 + l) = _; rw [Nat.zero_add, Nat.zero_add]
  · show h.O (0 + r) (0 + l) = _; rw [Nat.zero_add, Nat.zero_add]

theorem first_l (r : Fin 128) : A.a5.view.readAt (Elt Ideal) (Rect.unit (s := S1x4224x128) ![0, 0, 0] ![1, 128, 1] inb_S1x4224x128_S1x128x1_0_0_0).toLoadRect (A.h5.unread X.x5) (ix3 0 r 0)
    = ((h.ls r : ℝ) : EReal) := by
  refine (load3_apply A.a5.view (A.h5.unread X.x5) ![0, 0, 0] inb_S1x4224x128_S1x128x1_0_0_0 r rfl (by decide) rfl (by omega)).trans
    (((reads_of B c A).l _ _).trans ?_)
  show ((h.ls (0 + r.val) : ℝ) : EReal) = _
  rw [Nat.zero_add]

theorem first_k : Holds (bodyRun.sl.v40 c A X) h.K := by
  unfold bodyRun.sl.v40
  refine ((keys_holds B c A).load16 ![0, 0] inb_S4224x256_S128x256_0_0).congr fun r l _ _ => ?_
  show h.K (0 + r) (0 + l) = _; rw [Nat.zero_add, Nat.zero_add]

theorem first_v : Holds (A.a2.view.readAt (Elt Ideal) (Rect.unit (s := S4224x256) ![0, 128] ![128, 128] inb_S4224x256_S128x128_0_128).toLoadRect (A.h2.unread X.x2))
    fun j d => h.KV j (128 + d) := by
  refine ((reads_of B c A).kv.load16 ![0, 128] inb_S4224x256_S128x128_0_128).congr fun r l _ _ => ?_
  show h.KV (0 + r) _ = _; rw [Nat.zero_add]; rfl

theorem prefix13 : Holds (a := 4224) (b := 256) (A.a13.view.read (Elt Ideal) (A.a13.view.writes (Elt Ideal) A.a13.view.junk (bodyRun.sl.H13_2 c A X)))
    fun j d => ∑ r ∈ Finset.range 16, h.D r j * h.Q r d := by
  have z : Holds (a := 4224) (b := 256) (A.a13.view.read (Elt Ideal) (A.a13.view.writes (Elt Ideal) A.a13.view.junk bodyRun.sl.H13_1)) fun _ _ => 0 :=
    Holds.whole ![0, 0] inb_S4224x256_S4224x256_0_0 pay45_holds rfl rfl
  unfold bodyRun.sl.H13_2 bodyRun.sl.v66 bodyRun.sl.r_3
  refine (Holds.store (n := 128) z ![0, 0] inb_S4224x256_S128x256_0_0
    (pay56_holds (pay54_holds (first_q B c A) (first_g B c A) (first_l B c A) (first_δ B c A) (first_k B c A) (first_v B c A))
      (z.load ![0, 0] inb_S4224x256_S128x256_0_0)) rfl).congr fun j d hj hd => ?_
  show (if 0 ≤ j ∧ j < 0 + 128 then _ else _) = _
  by_cases e : j < 128
  · rw [if_pos (by omega), zero_add]
    show (∑ r : Fin 128, dscore (kept prefixMask (prob h.Q h.K h.ls)) h.G (fun j d => h.KV j (128 + d)) h.δ r (j - 0) * h.Q r d) = _
    rw [sum_prefix (fun r => dscore (kept prefixMask (prob h.Q h.K h.ls)) h.G (fun j d => h.KV j (128 + d)) h.δ r (j - 0) * h.Q r d)
      fun r hr => by rw [prefix_D0 h r _ hr, zero_mul], Nat.sub_zero]
    exact Finset.sum_congr rfl fun r hr => by rw [prefix_D h r j (Finset.mem_range.1 hr)]
  · rw [if_neg (by omega)]
    exact (Finset.sum_eq_zero fun r hr => by rw [h.D_off (prefix_off h (Finset.mem_range.1 hr) (by omega)), zero_mul]).symm

theorem prefix14 : Holds (a := 4224) (b := 128) (A.a14.view.read (Elt Ideal) (A.a14.view.writes (Elt Ideal) A.a14.view.junk (bodyRun.sl.H14_2 c A X)))
    fun j d => ∑ r ∈ Finset.range 16, h.P r j * h.G r d := by
  have z : Holds (a := 4224) (b := 128) (A.a14.view.read (Elt Ideal) (A.a14.view.writes (Elt Ideal) A.a14.view.junk bodyRun.sl.H14_1)) fun _ _ => 0 :=
    Holds.whole ![0, 0] inb_S4224x128_S4224x128_0_0 pay46_holds rfl rfl
  unfold bodyRun.sl.H14_2 bodyRun.sl.v61
  refine (Holds.store (n := 128) z ![0, 0] inb_S4224x128_S128x128_0_0
    (pay55_holds (first_q B c A) (first_g B c A) (first_l B c A) (first_k B c A)
      (z.load ![0, 0] inb_S4224x128_S128x128_0_0)) rfl).congr fun j d hj hd => ?_
  show (if 0 ≤ j ∧ j < 0 + 128 then _ else _) = _
  by_cases e : j < 128
  · rw [if_pos (by omega), zero_add]
    show (∑ r : Fin 128, kept prefixMask (prob h.Q h.K h.ls) r (j - 0) * h.G r d) = _
    rw [sum_prefix (fun r => kept prefixMask (prob h.Q h.K h.ls) r (j - 0) * h.G r d)
      fun r hr => by rw [prefix_P0 h r _ hr, zero_mul], Nat.sub_zero]
    exact Finset.sum_congr rfl fun r hr => by rw [prefix_P h r j (Finset.mem_range.1 hr)]
  · rw [if_neg (by omega)]
    exact (Finset.sum_eq_zero fun r hr => by rw [h.P_off (prefix_off h (Finset.mem_range.1 hr) (by omega)), zero_mul]).symm

theorem prefix9 : Holds (a := 16) (b := 256) (bodyRun.sl.r_4 c A X) (dqrow (h.dq 0 4112) h.C h.S) := by
  have hc : Holds (A.a7.view.readAt (Elt Ideal) (Rect.unit (s := S4224x128) ![0, 0] ![16, 128] inb_S4224x128_S16x128_0_0).toLoadRect (A.h7.unread X.x7)) h.C := by
    refine ((reads_of B c A).c.load ![0, 0] inb_S4224x128_S16x128_0_0).congr fun r l _ _ => ?_
    show h.C (0 + r) (0 + l) = _; rw [Nat.zero_add, Nat.zero_add]
  have hs : Holds (A.a8.view.readAt (Elt Ideal) (Rect.unit (s := S4224x128) ![0, 0] ![16, 128] inb_S4224x128_S16x128_0_0).toLoadRect (A.h8.unread X.x8)) h.S := by
    refine ((reads_of B c A).s.load ![0, 0] inb_S4224x128_S16x128_0_0).congr fun r l _ _ => ?_
    show h.S (0 + r) (0 + l) = _; rw [Nat.zero_add, Nat.zero_add]
  refine (pay57_holds (first_k B c A) (pay53_holds (first_q B c A) (first_g B c A) (first_l B c A) (first_δ B c A) (first_k B c A) (first_v B c A)) hc hs).congr
    fun r l hr hl => ?_
  have e : ∀ d, (∑ j : Fin 128, dscore (kept prefixMask (prob h.Q h.K h.ls)) h.G (fun j d => h.KV j (128 + d)) h.δ r j * h.K j d) = h.dq 0 4112 r d := by
    intro d
    rw [sum_prefix (fun j => dscore (kept prefixMask (prob h.Q h.K h.ls)) h.G (fun j d => h.KV j (128 + d)) h.δ r j * h.K j d)
      fun j hj => by rw [prefix_D h r j hr, h.D_off (prefix_off h hr hj), zero_mul]]
    unfold Head.dq
    rw [← Finset.sum_Ico_consecutive _ (show 0 ≤ 16 by omega) (show 16 ≤ 4112 by omega), Finset.range_eq_Ico]
    refine (add_eq_left.2 ?_).symm.trans (congrArg₂ (· + ·) (Finset.sum_congr rfl fun j _ => ?_) rfl)
    · exact Finset.sum_eq_zero fun j hj => by rw [h.D_off (prefix_off h hr (Finset.mem_Ico.1 hj).1), zero_mul]
    · rw [prefix_D h r j hr]
  unfold dqrow unrope
  simp only [e]

end Prefix

/-! ## The sums over all rows -/

/-- Sixteen rows and eight tiles of 512 are all 4112 rows. -/
theorem sum_rows (f : ℕ → ℝ) : (∑ r ∈ Finset.range 16, f r) + ∑ k ∈ Finset.range 8, ∑ r : Fin 512, f (16 + 512 * k + r) = ∑ r ∈ Finset.range 4112, f r := by
  have key : ∀ n, (∑ r ∈ Finset.range 16, f r) + ∑ k ∈ Finset.range n, ∑ r : Fin 512, f (16 + 512 * k + r) = ∑ r ∈ Finset.range (16 + 512 * n), f r := by
    intro n
    induction n with
    | zero => simp
    | succ n ih =>
      rw [Finset.sum_range_succ (fun k => ∑ r : Fin 512, f (16 + 512 * k + r)) n, ← add_assoc, ih, show 16 + 512 * (n + 1) = 16 + 512 * n + 512 by omega, Finset.sum_range_add f (16 + 512 * n) 512,
        Finset.sum_range (fun r => f (16 + 512 * n + r))]
  exact key 8

section Head
variable {X : Blocks Ideal} {h : Head} {KR : ℕ → ℕ → ℝ} (B : BlockReads X h KR) (c : Dev nD) (i : grid0.Coords) (A : Args)
include B

/-- The gradient of the keys, -/
theorem head13 : Holds (bodyRun.sl.v110 c i A X) fun j d => ∑ t ∈ Finset.range 4112, h.D t j * h.Q t d := by
  unfold bodyRun.sl.v110
  rw [show Scf.trips (0#32) (Scalar.addi 0#32 8#32) 1#32 = 8 from tiles_eq]
  have L := tiles (reads_of B c A) c i (prefix13 B c A) (prefix14 B c A) 8 le_rfl
  rw [← View.writes_append, ← View.writes_append] at L
  refine (L.1.load ![0, 0] inb_S4224x256_S4224x256_0_0).congr fun j d _ _ => ?_
  show _ + ∑ k ∈ Finset.range 8, ∑ r : Fin 512, _ = _
  simp only [Matrix.cons_val_zero, Matrix.cons_val_one, Nat.zero_add]
  exact sum_rows fun t => h.D t j * h.Q t d

/-- of the values, -/
theorem head14 : Holds (bodyRun.sl.v112 c i A X) fun j d => ∑ t ∈ Finset.range 4112, h.P t j * h.G t d := by
  unfold bodyRun.sl.v112
  rw [show Scf.trips (0#32) (Scalar.addi 0#32 8#32) 1#32 = 8 from tiles_eq]
  have L := tiles (reads_of B c A) c i (prefix13 B c A) (prefix14 B c A) 8 le_rfl
  rw [← View.writes_append, ← View.writes_append] at L
  refine (L.2.1.load ![0, 0] inb_S4224x128_S4224x128_0_0).congr fun j d _ _ => ?_
  show _ + ∑ k ∈ Finset.range 8, ∑ r : Fin 512, _ = _
  simp only [Matrix.cons_val_zero, Matrix.cons_val_one, Nat.zero_add]
  exact sum_rows fun t => h.P t j * h.G t d

end Head

end Cert.AttnBwdIdeal.Hand
-- ==== Proof.AttnOut.lean ====
/- What one head's run of the attention gradient leaves in its three blocks, over the reals. -/
module

public import proofs.«01_k».proof.Proof.AttnHead
public import proofs.«01_k».proof.Proof.AttnFrame

@[expose] public section

set_option maxRecDepth 16384
set_option maxHeartbeats 400000

noncomputable section

namespace Cert.Attn

/-- The gradient of the keys -/
def Head.DK (h : Head) (j d : ℕ) : ℝ := ∑ t ∈ Finset.range 4112, h.D t j * h.Q t d

/-- and of the values. -/
def Head.DV (h : Head) (j d : ℕ) : ℝ := ∑ t ∈ Finset.range 4112, h.P t j * h.G t d

/-- The three blocks of a head: queries, -/
def Head.out9 (h : Head) (r l : ℕ) : ℝ := if r < 4112 then dqrow (h.dq 0 4112) h.C h.S r l else 0

/-- keys beside values, -/
def Head.out10 (h : Head) (j l : ℕ) : ℝ := if l < 128 then h.DK j l else h.DV j (l - 128)

/-- rotary keys. -/
def Head.out11 (h : Head) (j l : ℕ) : ℝ := h.DK j (128 + l)

end Cert.Attn

namespace Cert.AttnBwdIdeal.Hand

open Idealize.ShloMosaic Cert.AttnBwdIdeal Cert.AttnBwdIdeal.Gen Cert.Reals Cert.Attn

section Out
variable {X : Blocks Ideal} {h : Head} {KR : ℕ → ℕ → ℝ} (B : BlockReads X h KR) (c : Dev nD) (i : grid0.Coords) (A : Args)
include B

theorem block10 : Holds (a := 4224) (b := 256) (View.canon (bodyRun c i A X).1.L10) h.out10 := by
  rw [← View.read_writes_eq_canon A.a10.view A.a10.view.junk _ (cover10 c i A X)]
  unfold bodyRun
  dsimp only
  exact fun r l => (store_in A.a10.view A.a10.view.junk [] ![0, 0] inb_S4224x256_S4224x256_0_0 _ rfl r l (Nat.zero_le _) (by show r.val < 0 + 4224; omega)).trans
    (pay2_holds (head13 B c i A) (head14 B c i A) r l)

theorem block11 (r : Fin 4224) (l : Fin 128) : View.canon (bodyRun c i A X).1.L11 (ix3 0 r l) = ((h.out11 r l : ℝ) : EReal) := by
  rw [← View.read_writes_eq_canon A.a11.view A.a11.view.junk _ (cover11 c i A X)]
  unfold bodyRun
  dsimp only
  exact (store3_apply A.a11.view A.a11.view.junk [] ![0, 0, 0] inb_S1x4224x128_S1x4224x128_0_0_0 _ rfl rfl rfl r l).trans (pay3_apply (head13 B c i A) r l)

theorem block9 : Holds (a := 4224) (b := 256) (View.canon (bodyRun c i A X).1.L9) h.out9 := by
  rw [← View.read_writes_eq_canon A.a9.view A.a9.view.junk _ (cover9 c i A X)]
  unfold bodyRun
  dsimp only
  rw [show Scf.trips (0#32) (Scalar.addi 0#32 8#32) 1#32 = 8 from tiles_eq]
  intro r l
  have L := (tiles (reads_of B c A) c i (prefix13 B c A) (prefix14 B c A) 8 le_rfl).2.2
  refine (L _ _ r l).trans ?_
  unfold Head.out9
  by_cases w : 16 ≤ r.val ∧ r.val < 16 + 512 * 8
  · rw [if_pos w, if_pos (by omega)]
  · rw [if_neg w]
    by_cases u : r.val < 16
    · rw [if_pos (by omega)]
      exact (store_in A.a9.view A.a9.view.junk _ ![0, 0] inb_S4224x256_S16x256_0_0 _ rfl r l (Nat.zero_le _) (by show r.val < 0 + 16; omega)).trans
        (prefix9 B c A _ _)
    · rw [if_neg (by omega)]
      refine (store_out A.a9.view A.a9.view.junk _ ![0, 0] inb_S4224x256_S16x256_0_0 _ r l (by show ¬(0 ≤ r.val ∧ r.val < 0 + 16); omega)).trans ?_
      exact (store_in A.a9.view A.a9.view.junk [] ![4112, 0] inb_S4224x256_S112x256_4112_0 _ rfl r l (by show 4112 ≤ r.val; omega) (by show r.val < 4112 + 112; omega)).trans
        (pay47_holds _ _)

end Out

end Cert.AttnBwdIdeal.Hand
-- ==== Proof.AttnMath.lean ====
/- Multi-head attention with a shared rotary key over the reals, in reference.py's own terms, and how one head of it
   reads as the gradient kernel's head. -/
module

public import proofs.«01_k».proof.Proof.AttnTrip
public import proofs.«01_k».proof.Proof.AttnOut

@[expose] public section

noncomputable section

namespace Cert.Reals

open Idealize.ShloMosaic

/-- A maximum of extended reals none of which is the top and one of which is no bottom is a real number. -/
theorem fold_max_real {n : ℕ} (f : Fin n → EReal) (h : ∀ x, f x ≠ ⊤) (x0 : Fin n) (h0 : f x0 ≠ ⊥) :
    (((Finset.fold max ⊥ f Finset.univ).toReal : ℝ) : EReal) = Finset.fold max ⊥ f Finset.univ := by
  refine EReal.coe_toReal (ne_of_lt ?_) (ne_of_gt ?_)
  · exact Finset.fold_max_lt _ |>.2 ⟨bot_lt_top, fun x _ => lt_top_iff_ne_top.2 (h x)⟩
  · exact lt_of_lt_of_le (bot_lt_iff_ne_bot.2 h0) (Finset.le_fold_max _ |>.2 (Or.inr ⟨x0, Finset.mem_univ _, le_rfl⟩))

/-- The maximum over the last of three axes. -/
theorem reduce_max3 {a b n : ℕ} {u : Shape} (x : (⟨3, ![a, b, n]⟩ : Shape).Idx → EReal) (init : u.Idx → EReal)
    (h : (⟨3, ![a, b, n]⟩ : Shape).ReducesTo [2] ⟨2, ![a, b]⟩) (hu : 0 < u.numel) (i : Fin a) (j : Fin b) :
    Host.reduce (FloatOps.maximumf (F := Ideal) (φ := .f32)) x init h hu (ix2 i j)
      = Finset.fold max (init (Shape.Idx.first hu)) (fun k : Fin n => x (ix3 i j k)) Finset.univ := by
  pointwise []

end Cert.Reals

namespace Cert.Attn

open Idealize.ShloMosaic Cert.Reals

/-- The forward inputs and the output's cotangent: queries and key-values by position, head and lane; the rotary keys
    and the tables by position and lane; the cotangent by position and column. -/
structure Inputs where
  q : ℕ → ℕ → ℕ → ℝ
  kv : ℕ → ℕ → ℕ → ℝ
  kr : ℕ → ℕ → ℝ
  co : ℕ → ℕ → ℝ
  si : ℕ → ℕ → ℝ
  ct : ℕ → ℕ → ℝ

namespace Inputs
variable (I : Inputs) (h : ℕ)

/-- The rotated lanes of a query. -/
def rope (t l : ℕ) : ℝ :=
  if l < 32 then I.q t h (128 + l) * I.co t l - I.q t h (160 + l) * I.si t l
  else I.q t h (128 + l) * I.co t (l - 32) + I.q t h (96 + l) * I.si t (l - 32)

/-- The scaled score of query `t` against key `j`. -/
def score (t j : ℕ) : ℝ := ((∑ d : Fin 128, I.q t h d * I.kv j h d) + ∑ d : Fin 64, I.rope h t d * I.kr j d) * scale

/-- The score where the chunk mask lets it through, minus infinity elsewhere. -/
def masked (t j : ℕ) : EReal := if chunk j ≤ chunk t then ((I.score h t j : ℝ) : EReal) else ⊥

/-- A row's greatest score, -/
def top (t : ℕ) : ℝ := (Finset.fold max ⊥ (fun j : Fin 4112 => I.masked h t j) Finset.univ).toReal

/-- its exponentials -/
def expo (t j : ℕ) : ℝ := if chunk j ≤ chunk t then Real.exp (I.score h t j - I.top h t) else 0

/-- and their sum. -/
def den (t : ℕ) : ℝ := ∑ j : Fin 4112, I.expo h t j

/-- The attention's output, -/
def out (t d : ℕ) : ℝ := ∑ j : Fin 4112, I.kv j h (128 + d) * (I.expo h t j / I.den h t)

/-- and the product of its cotangent with the values. -/
def dp (t j : ℕ) : ℝ := ∑ d : Fin 128, I.ct t (h * 128 + d) * I.kv j h (128 + d)

theorem top_coe {t : ℕ} (ht : t < 4112) :
    ((I.top h t : ℝ) : EReal) = Finset.fold max ⊥ (fun j : Fin 4112 => I.masked h t j) Finset.univ := by
  refine fold_max_real _ (fun x => ?_) ⟨t, ht⟩ ?_
  · unfold masked
    split
    · exact EReal.coe_ne_top _
    · exact bot_ne_top
  · unfold masked
    rw [if_pos le_rfl]
    exact EReal.coe_ne_bot _

theorem expo_nonneg (t j : ℕ) : 0 ≤ I.expo h t j := by
  unfold expo
  split
  · exact (Real.exp_pos _).le
  · exact le_rfl

theorem den_pos {t : ℕ} (ht : t < 4112) : 0 < I.den h t := by
  unfold den
  refine Finset.sum_pos' (fun j _ => I.expo_nonneg h t j) ⟨⟨t, ht⟩, Finset.mem_univ _, ?_⟩
  unfold expo
  rw [if_pos le_rfl]
  exact Real.exp_pos _

/-- One head as the gradient kernel takes it: rotated queries beside their plain lanes, keys beside the rotary keys,
    rows beyond the sequence zero. -/
def head : Head where
  Q t d := if t < 4112 then if d < 128 then I.q t h d else if d < 192 then I.rope h t (d - 128) else 0 else 0
  K j d := if d < 128 then I.kv j h d else I.kr j (d - 128)
  KV j d := I.kv j h d
  O t d := if t < 4112 then I.out h t d else 0
  G t d := I.ct t (h * 128 + d)
  ls t := if t < 4112 then I.top h t + Real.log (I.den h t) else 0
  C t l := I.co t (l % 32)
  S t l := I.si t (l % 32)

/-- Rotary keys have 64 lanes. -/
def Narrow : Prop := ∀ j l, 64 ≤ l → I.kr j l = 0

variable {I}

theorem dot_eq (hn : I.Narrow) {t j : ℕ} (ht : t < 4112) :
    (∑ d : Fin 256, (I.head h).Q t d * (I.head h).K j d) * scale = I.score h t j := by
  unfold score
  congr 1
  rw [← Finset.sum_range fun d => (I.head h).Q t d * (I.head h).K j d, show 256 = 128 + (64 + 64) from rfl, Finset.sum_range_add, Finset.sum_range_add,
    ← Finset.sum_range fun d => I.q t h d * I.kv j h d, ← Finset.sum_range fun d => I.rope h t d * I.kr j d]
  congr 1
  · refine Finset.sum_congr rfl fun d hd => ?_
    have := Finset.mem_range.1 hd
    dsimp only [head]
    rw [if_pos ht, if_pos this, if_pos this]
  · refine add_eq_left.2 (Finset.sum_eq_zero fun d _ => ?_) |>.trans (Finset.sum_congr rfl fun d hd => ?_)
    · dsimp only [head]
      rw [if_neg (by omega : ¬128 + (64 + d) < 128), if_neg (by omega : ¬128 + (64 + d) < 128), hn _ _ (by omega), mul_zero]
    · have := Finset.mem_range.1 hd
      dsimp only [head]
      rw [if_pos ht, if_neg (by omega : ¬128 + d < 128), if_neg (by omega : ¬128 + d < 128), if_pos (by omega), Nat.add_sub_cancel_left]

/-- The kernel's probabilities are the softmax's. -/
theorem P_eq (hn : I.Narrow) {t : ℕ} (ht : t < 4112) (j : ℕ) : (I.head h).P t j = I.expo h t j / I.den h t := by
  unfold Head.P expo
  split
  · unfold prob
    rw [dot_eq h hn ht]
    dsimp only [head]
    rw [if_pos ht, ← sub_sub, Real.exp_sub _ (Real.log _), Real.exp_log (I.den_pos h ht)]
  · rw [zero_div]

/-- The sum of cotangent times output is the sum of probability times its cotangent. -/
theorem δ_eq {t : ℕ} (ht : t < 4112) : (I.head h).δ t = ∑ j : Fin 4112, I.expo h t j / I.den h t * I.dp h t j := by
  unfold Head.δ dp
  dsimp only [head]
  simp only [if_pos ht, out, Finset.mul_sum]
  rw [Finset.sum_comm]
  exact Finset.sum_congr rfl fun j _ => Finset.sum_congr rfl fun d _ => by ring

/-- The gradient of the scores as the derivative of the softmax writes it. -/
theorem D_eq (hn : I.Narrow) {t : ℕ} (ht : t < 4112) (j : ℕ) :
    (I.head h).D t j = (if chunk j ≤ chunk t then (I.dp h t j / I.den h t
      + -(∑ x : Fin 4112, I.dp h t x * (1 / (I.den h t * I.den h t)) * I.expo h t x)) * I.expo h t j else 0) * scale := by
  by_cases e : chunk j ≤ chunk t
  · rw [if_pos e]
    unfold Head.D dscore
    rw [P_eq h hn ht, δ_eq h ht]
    have hd := (I.den_pos h ht).ne'
    have hs : ∑ x : Fin 4112, I.dp h t x * (1 / (I.den h t * I.den h t)) * I.expo h t x
        = (∑ x : Fin 4112, I.expo h t x / I.den h t * I.dp h t x) / I.den h t := by
      rw [Finset.sum_div]
      exact Finset.sum_congr rfl fun x _ => by field_simp
    rw [hs]
    show I.expo h t j / I.den h t * (I.dp h t j - _) * scale = _
    field_simp
    ring
  · rw [if_neg e, zero_mul, (I.head h).D_off e]

end Inputs
end Cert.Attn
-- ==== Proof.AttnRef.lean ====
/- The derivative of the attention's forward lines, read as real formulas. -/
module

public import proofs.«01_k».proof.Proof.Gen.AttnRefIdeal.Run
public import proofs.«01_k».proof.Proof.Gen.AttnRefIdeal.Read
public import proofs.«01_k».proof.Proof.AttnMath

@[expose] public section

noncomputable section

namespace Cert.Reals

open Idealize.ShloMosaic

/-- Element `(i, j, k)` of a stack as a real number; zero outside it. -/
def at3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

theorem at3_coe {a b c : ℕ} {x : (⟨3, ![a, b, c]⟩ : Shape).Idx → EReal} (hx : ∀ i, ((x i).toReal : EReal) = x i) (i : Fin a) (j : Fin b) (k : Fin c) :
    x (ix3 i j k) = (at3 x i j k : EReal) := by
  unfold at3
  rw [dif_pos ⟨i.isLt, j.isLt, k.isLt⟩, hx]

theorem ofBits_neg_inf : Ideal.ofBits .f32 0xFF800000#32 = ⊥ := by simp [Ideal.ofBits, Ideal.ieee]

theorem neg_coe (x : ℝ) : -(x : EReal) = ((-x : ℝ) : EReal) := (EReal.coe_neg x).symm

end Cert.Reals

namespace Cert.Attn

open Idealize.ShloMosaic Cert.Reals

/-- The arguments as real functions. -/
def inputs (q : (⟨3, ![4112, 16, 192]⟩ : Shape).Idx → EReal) (kv : (⟨3, ![4112, 16, 256]⟩ : Shape).Idx → EReal) (kr : (⟨2, ![4112, 64]⟩ : Shape).Idx → EReal)
    (co si : (⟨2, ![4112, 32]⟩ : Shape).Idx → EReal) (ct : (⟨2, ![4112, 2048]⟩ : Shape).Idx → EReal) : Inputs where
  q := at3 q
  kv := at3 kv
  kr := at2 kr
  co := at2 co
  si := at2 si
  ct := at2 ct

/-- Every argument is finite. -/
structure Finite (q : (⟨3, ![4112, 16, 192]⟩ : Shape).Idx → EReal) (kv : (⟨3, ![4112, 16, 256]⟩ : Shape).Idx → EReal) (kr : (⟨2, ![4112, 64]⟩ : Shape).Idx → EReal)
    (co si : (⟨2, ![4112, 32]⟩ : Shape).Idx → EReal) (ct : (⟨2, ![4112, 2048]⟩ : Shape).Idx → EReal) : Prop where
  q : ∀ i, ((q i).toReal : EReal) = q i
  kv : ∀ i, ((kv i).toReal : EReal) = kv i
  kr : ∀ i, ((kr i).toReal : EReal) = kr i
  co : ∀ i, ((co i).toReal : EReal) = co i
  si : ∀ i, ((si i).toReal : EReal) = si i
  ct : ∀ i, ((ct i).toReal : EReal) = ct i

theorem narrow (q kv kr co si ct) : (inputs q kv kr co si ct).Narrow := fun j l hl => by
  show at2 kr j l = 0
  unfold at2
  rw [dif_neg (by omega)]

theorem sle_chunk (a b : ℕ) (ha : a < 4112) (hb : b < 4112) :
    IntOp.cmpi .sle (BitVec.ofNat 32 (chunk a)) (BitVec.ofNat 32 (chunk b)) = BitVec.ofBool (decide (chunk a ≤ chunk b)) := by
  have key : ∀ a b : Fin 66, IntOp.cmpi .sle (BitVec.ofNat 32 a.val) (BitVec.ofNat 32 b.val) = BitVec.ofBool (decide (a.val ≤ b.val)) := by decide +kernel
  have bound : ∀ t, t < 4112 → chunk t < 66 := fun t ht => by unfold chunk; split <;> omega
  exact key ⟨chunk a, bound a ha⟩ ⟨chunk b, bound b hb⟩

end Cert.Attn

namespace Cert.AttnRefIdeal.Rows

open Idealize.ShloMosaic Cert.AttnRefIdeal Cert.AttnRefIdeal.Gen Cert.AttnRefIdeal.Read Cert.Reals Cert.Attn
open Facts

theorem v33_eq (t : Fin 4112) : val_main_v33 (F := Ideal) (ix1 t) = BitVec.ofNat 32 (chunk t) := by
  pointwise [val_main_v33, val_main_v27, val_main_v32, val_main_v30, val_main_v29, val_main_v28, val_main_v26, val_main_v31, val_main_v25, val_main_c,
    val_main_c_0, val_main_c_1, val_main_c_2, val_main_c_3, val_main_call0_v0, val_main_call0_v1, val_main_call0_v2, val_main_call0_v3,
    val_main_call0_v4, val_main_call0_v5, val_main_call0_v6, val_main_call0_v7, val_main_call0_v8, val_main_call0_v9, val_main_call0_v10,
    val_main_call0_v11, val_main_call0_v12, val_main_call0_v13, val_main_call0_c, val_main_call0_c_0, val_main_call1_v0, val_main_call1_v1]
  revert t
  decide +kernel

variable {q : S4112x16x192.Idx → EReal} {kv : S4112x16x256.Idx → EReal} {kr : S4112x64.Idx → EReal} {co si : S4112x32.Idx → EReal} {ct : S4112x2048.Idx → EReal}
  (fin : Finite q kv kr co si ct)
include fin

theorem v19_eq (t : Fin 4112) (h : Fin 16) (l : Fin 64) : val_main_v19 (F := Ideal) q co si (ix3 t h l) = (((inputs q kv kr co si ct).rope h t l : ℝ) : EReal) := by
  pointwise [val_main_v19, val_main_v18, val_main_v17, val_main_v16, val_main_v15, val_main_v14, val_main_v13, val_main_v12, val_main_v11, val_main_v10,
    val_main_v9, val_main_v8, val_main_v7, val_main_v6, val_main_v5, val_main_v3]
  unfold Inputs.rope
  by_cases e : l.val < 32
  · rw [dif_pos e, if_pos e]
    simp only [at3_coe fin.q, at2_coe fin.co, at2_coe fin.si, mul_coe, sub_coe, ← add_assoc]
    rfl
  · rw [dif_neg e, if_neg e]
    simp only [at3_coe fin.q, at2_coe fin.co, at2_coe fin.si, mul_coe, add_coe]
    rw [show 128 + (32 + (l.val - 32)) = 128 + l.val by omega, show 128 + (l.val - 32) = 96 + l.val by omega]
    rfl

theorem v40_eq (h : Fin 16) (t j : Fin 4112) : val_main_v40_0 (F := Ideal) q kv kr co si (ix3 h t j) = (inputs q kv kr co si ct).masked h t j := by
  pointwise [val_main_v40_0, val_main_v40_1, val_main_v39, val_main_v38, val_main_v37, val_main_v36, val_main_v35, val_main_v34, val_main_v24, val_main_v23,
    val_main_cst, val_main_cst_4, val_main_call2_v0, val_main_call2_v2, val_main_v22, val_main_v21, val_main_v20, val_main_v4, val_main_v2, val_main_v1, val_main_v0]
  simp only [v19_eq fin, v33_eq, sle_chunk _ _ j.isLt t.isLt, select_bool, at3_coe fin.q, at3_coe fin.kv, at2_coe fin.kr, mul_coe, sum_coe, add_coe, ofBits_scale]
  unfold Inputs.masked
  by_cases e : chunk j ≤ chunk t
  · rw [if_pos e, if_pos e]; rfl
  · rw [if_neg e, if_neg e]; exact ofBits_neg_inf

theorem v41_eq (h : Fin 16) (t : Fin 4112) : val_main_v41 (F := Ideal) q kv kr co si (ix2 h t) = (((inputs q kv kr co si ct).top h t : ℝ) : EReal) := by
  have e : (fun k : Fin 4112 => val_main_v40_0 (F := Ideal) q kv kr co si (ix3 h t k)) = fun k : Fin 4112 => (inputs q kv kr co si ct).masked h t k :=
    funext fun k => v40_eq fin h t k
  have i : val_main_cst_5 (F := Ideal) (Shape.Idx.first h_S_) = ⊥ := ofBits_neg_inf
  rw [Inputs.top_coe _ _ t.isLt, ← e, ← i]
  exact reduce_max3 (val_main_v40_0 (F := Ideal) q kv kr co si) (val_main_cst_5 (F := Ideal)) _ _ h t

theorem v48_eq (h : Fin 16) (t : Fin 4112) : val_main_v48 (F := Ideal) q kv kr co si (ix2 h t) = (((inputs q kv kr co si ct).top h t : ℝ) : EReal) := by
  have i : val_main_v47 (F := Ideal) (ix2 h t) = ⊥ := by
    rw [val_main_v47_apply]; exact ofBits_neg_inf
  rw [val_main_v48_apply, v41_eq fin, i]
  exact max_eq_right bot_le

theorem v61_eq (h : Fin 16) (t j : Fin 4112) : val_main_v61 (F := Ideal) q kv kr co si (ix3 h t j) = (((inputs q kv kr co si ct).expo h t j : ℝ) : EReal) := by
  pointwise [val_main_v61, val_main_v60, val_main_v59, val_main_v58]
  rw [v40_eq fin, v48_eq fin]
  unfold Inputs.masked Inputs.expo
  split
  · rw [sub_coe, Ideal.exp_coe]
  · rw [EReal.bot_sub, EReal.coe_zero]; exact Ideal.exp_bot

theorem v63_eq (h : Fin 16) (t : Fin 4112) : val_main_v63 (F := Ideal) q kv kr co si (ix3 h t 0) = (((inputs q kv kr co si ct).den h t : ℝ) : EReal) := by
  pointwise [val_main_v63, val_main_v62, val_main_cst_13]
  simp only [v61_eq fin, sum_coe]
  rfl

theorem v65_eq (h : Fin 16) (t j : Fin 4112) : val_main_v65 (F := Ideal) q kv kr co si (ix3 h t j)
    = (((inputs q kv kr co si ct).expo h t j / (inputs q kv kr co si ct).den h t : ℝ) : EReal) := by
  pointwise [val_main_v65, val_main_v64]
  rw [v61_eq fin, v63_eq fin, div_coe (Inputs.den_pos _ _ t.isLt).ne']

theorem v75_eq (h : Fin 16) (t j : Fin 4112) : val_main_v75 (F := Ideal) kv ct (ix3 h t j) = (((inputs q kv kr co si ct).dp h t j : ℝ) : EReal) := by
  pointwise [val_main_v75, val_main_v74, val_main_v73, val_main_v69]
  simp only [at3_coe fin.kv, at2_coe fin.ct, mul_coe, sum_coe]
  rfl

theorem v93_eq (h : Fin 16) (t j : Fin 4112) : val_main_v93 (F := Ideal) q kv kr co si ct (ix3 h t j) = ((((inputs q kv kr co si ct).head h).D t j : ℝ) : EReal) := by
  rw [Inputs.D_eq h (narrow q kv kr co si ct) t.isLt]
  pointwise [val_main_v93, val_main_v92, val_main_v91, val_main_v90, val_main_v89, val_main_v88, val_main_v87, val_main_v86, val_main_v85, val_main_v84,
    val_main_v83, val_main_v82, val_main_v81, val_main_v80, val_main_v79, val_main_v68, val_main_v67, val_main_v66, val_main_cst_14,
    val_main_cst_16, val_main_cst_17, val_main_cst_18, val_main_call3_v0, val_main_call3_cst, val_main_v40_1, val_main_v39, val_main_v38, val_main_v37,
    val_main_v36, val_main_v35, val_main_v34]
  have hd := (Inputs.den_pos (inputs q kv kr co si ct) h t.isLt).ne'
  simp only [v33_eq, sle_chunk _ _ j.isLt t.isLt, select_bool, v61_eq fin, v63_eq fin, v75_eq fin, mul_coe, sum_coe, div_coe hd, ← EReal.coe_one,
    div_coe (mul_ne_zero hd hd), neg_coe, add_coe, Finset.univ_unique, Finset.sum_singleton, ofBits_scale]
  split
  · rfl
  · rw [zero_mul, EReal.coe_zero]

/-! ## The results -/

theorem v96_eq (t : Fin 4112) (h : Fin 16) (l : Fin 64) : val_main_v96 (F := Ideal) q kv kr co si ct (ix3 t h l)
    = ((((inputs q kv kr co si ct).head h).dq 0 4112 t (128 + l) : ℝ) : EReal) := by
  pointwise [val_main_v96, val_main_v95, val_main_v1, val_main_v0]
  simp only [v93_eq fin, at2_coe fin.kr, mul_coe, sum_coe]
  unfold Head.dq
  refine congrArg Real.toEReal ?_
  rw [← Finset.range_eq_Ico, Finset.sum_range]
  refine Finset.sum_congr rfl fun j _ => congrArg _ ?_
  show at2 kr j l = if 128 + l.val < 128 then _ else at2 kr j (128 + l.val - 128)
  rw [if_neg (by omega), Nat.add_sub_cancel_left]

theorem v100_eq (t : Fin 4112) (h : Fin 16) (l : Fin 128) : val_main_v100 (F := Ideal) q kv kr co si ct (ix3 t h l)
    = ((((inputs q kv kr co si ct).head h).dq 0 4112 t l : ℝ) : EReal) := by
  pointwise [val_main_v100, val_main_v99, val_main_v4]
  simp only [v93_eq fin, at3_coe fin.kv, mul_coe, sum_coe]
  unfold Head.dq
  refine congrArg Real.toEReal ?_
  rw [← Finset.range_eq_Ico, Finset.sum_range]
  refine Finset.sum_congr rfl fun j _ => congrArg _ ?_
  show at3 kv j h l = if l.val < 128 then at3 kv j h l else _
  rw [if_pos l.isLt]

theorem v98_eq (j : Fin 4112) (h : Fin 16) (l : Fin 128) : val_main_v98 (F := Ideal) q kv kr co si ct (ix3 j h l)
    = ((((inputs q kv kr co si ct).head h).DK j l : ℝ) : EReal) := by
  pointwise [val_main_v98, val_main_v97, val_main_v2]
  simp only [v93_eq fin, at3_coe fin.q, mul_coe, sum_coe]
  unfold Head.DK
  refine congrArg Real.toEReal ?_
  rw [Finset.sum_range]
  refine Finset.sum_congr rfl fun t _ => congrArg _ ?_
  show at3 q t h l = if t.val < 4112 then if l.val < 128 then at3 q t h l else _ else _
  rw [if_pos t.isLt, if_pos l.isLt]

theorem v77_eq (j : Fin 4112) (h : Fin 16) (l : Fin 128) : val_main_v77 (F := Ideal) q kv kr co si ct (ix3 j h l)
    = ((((inputs q kv kr co si ct).head h).DV j l : ℝ) : EReal) := by
  pointwise [val_main_v77, val_main_v76, val_main_v74, val_main_v73]
  simp only [v65_eq fin, at2_coe fin.ct, mul_coe, sum_coe]
  unfold Head.DV
  refine congrArg Real.toEReal ?_
  rw [Finset.sum_range]
  refine Finset.sum_congr rfl fun t _ => ?_
  rw [Inputs.P_eq h (narrow q kv kr co si ct) t.isLt, mul_comm]
  rfl

theorem v94_eq (h : Fin 16) (j : Fin 4112) (l : Fin 64) : val_main_v94 (F := Ideal) q kv kr co si ct (ix3 h j l)
    = ((((inputs q kv kr co si ct).head h).DK j (128 + l) : ℝ) : EReal) := by
  pointwise [val_main_v94]
  simp only [v93_eq fin, v19_eq fin, mul_coe, sum_coe]
  unfold Head.DK
  refine congrArg Real.toEReal ?_
  rw [Finset.sum_range]
  refine Finset.sum_congr rfl fun t _ => congrArg _ ?_
  show Inputs.rope _ h t l = if t.val < 4112 then if 128 + l.val < 128 then _ else if 128 + l.val < 192 then Inputs.rope _ h t (128 + l.val - 128) else _ else _
  rw [if_pos t.isLt, if_neg (by omega), if_pos (by omega), Nat.add_sub_cancel_left]

end Cert.AttnRefIdeal.Rows
-- ==== Proof.AttnRes.lean ====
module
public import proofs.«01_k».proof.Proof.AttnRef
public import proofs.«01_k».proof.Proof.AttnOut
@[expose] public section
set_option maxHeartbeats 400000
noncomputable section
namespace Cert.AttnRefIdeal.Rows
open Idealize.ShloMosaic Cert.AttnRefIdeal Cert.AttnRefIdeal.Gen Cert.AttnRefIdeal.Read Cert.Reals Cert.Attn
open Facts
theorem Head.dq_wide (I : Inputs) (h : ℕ) (hn : I.Narrow) {t l : ℕ} (hl : 192 ≤ l) : (I.head h).dq 0 4112 t l = 0 :=
  Finset.sum_eq_zero fun j _ => by
    dsimp only [Inputs.head]
    rw [if_neg (by omega), hn _ _ (by omega), mul_zero]

theorem Head.DK_wide (I : Inputs) (h : ℕ) {j l : ℕ} (hl : 192 ≤ l) : (I.head h).DK j l = 0 :=
  Finset.sum_eq_zero fun t ht => by
    dsimp only [Inputs.head]
    rw [if_pos (Finset.mem_range.1 ht), if_neg (by omega), if_neg (by omega), mul_zero]

theorem chunk_beyond {t j : ℕ} (ht : t < 4112) (hj : 4112 ≤ j) : ¬chunk j ≤ chunk t := by
  unfold chunk
  split <;> split <;> omega

theorem Head.DK_beyond (h : Head) {j l : ℕ} (hj : 4112 ≤ j) : h.DK j l = 0 :=
  Finset.sum_eq_zero fun t ht => by rw [h.D_off (chunk_beyond (Finset.mem_range.1 ht) hj), zero_mul]

theorem Head.DV_beyond (h : Head) {j l : ℕ} (hj : 4112 ≤ j) : h.DV j l = 0 :=
  Finset.sum_eq_zero fun t ht => by rw [h.P_off (chunk_beyond (Finset.mem_range.1 ht) hj), zero_mul]

/-- The numbers padded with: the integer zero, converted, -/
theorem pad_zero (i : S_.Idx) : val_main_call4_v0 (F := Ideal) i = ((0 : ℝ) : EReal) := by
  show ((((0#32 : BitVec 32).toInt : ℝ)) : EReal) = _
  simp

/-- and the zero of the gradient's own padding. -/
theorem cst_zero (i : S_.Idx) : val_main_cst_15 (F := Ideal) i = ((0 : ℝ) : EReal) := (Ideal.ofBits_zero .f32).trans EReal.coe_zero.symm

variable {q : S4112x16x192.Idx → EReal} {kv : S4112x16x256.Idx → EReal} {kr : S4112x64.Idx → EReal} {co si : S4112x32.Idx → EReal}
  {ct : S4112x2048.Idx → EReal} (fin : Finite q kv kr co si ct)
include fin

theorem v113_eq (t : Fin 4112) (h : Fin 16) (l : Fin 32) : val_main_v113 (F := Ideal) q kv kr co si ct (ix3 t h l)
    = ((unrope (fun r l => ((inputs q kv kr co si ct).head h).dq 0 4112 r (128 + l)) ((inputs q kv kr co si ct).head h).C
        ((inputs q kv kr co si ct).head h).S t l : ℝ) : EReal) := by
  pointwise [val_main_v113, val_main_v104, val_main_v112, val_main_v102, val_main_v101, val_main_v103, val_main_v111, val_main_v6, val_main_v5]
  rw [v96_eq fin, v96_eq fin]
  simp only [at2_coe fin.co, at2_coe fin.si, mul_coe, add_coe]
  refine congrArg Real.toEReal ?_
  unfold unrope
  rw [if_pos (by omega), show ((l : ℕ) + 32) % 128 = 32 + l by omega]
  dsimp only [Inputs.head]
  rw [Nat.mod_eq_of_lt l.isLt, neg_mul, sub_neg_eq_add, add_comm]
  rfl

theorem v110_eq (t : Fin 4112) (h : Fin 16) (l : Fin 32) : val_main_v110 (F := Ideal) q kv kr co si ct (ix3 t h l)
    = ((unrope (fun r l => ((inputs q kv kr co si ct).head h).dq 0 4112 r (128 + l)) ((inputs q kv kr co si ct).head h).C
        ((inputs q kv kr co si ct).head h).S t (32 + l) : ℝ) : EReal) := by
  pointwise [val_main_v110, val_main_v106, val_main_v109, val_main_v107, val_main_v102, val_main_v101, val_main_v105, val_main_v108, val_main_v6, val_main_v5]
  rw [v96_eq fin, v96_eq fin]
  simp only [at2_coe fin.co, at2_coe fin.si, mul_coe, add_coe, neg_coe]
  refine congrArg Real.toEReal ?_
  unfold unrope
  rw [if_neg (by omega), show (32 + (l : ℕ) + 96) % 128 = l by omega]
  dsimp only [Inputs.head]
  rw [show (32 + (l : ℕ)) % 32 = l by omega, neg_mul, ← sub_eq_add_neg]
  rfl

theorem v122_eq (t : Fin 4224) (n : Fin 4096) : val_main_v122 (F := Ideal) q kv kr co si ct (ix2 t n)
    = ((((inputs q kv kr co si ct).head (n.val / 256)).out9 t (n.val % 256) : ℝ) : EReal) := by
  pointwise [val_main_v122, val_main_v119, val_main_v118, val_main_v117, val_main_v114]
  simp only [v100_eq fin, v110_eq fin, v113_eq fin]
  rw [show val_main_call4_v0 (F := Ideal) (Shape.Idx.first h_S_) = ((0 : ℝ) : EReal) from pad_zero _]
  unfold Head.out9 dqrow
  by_cases ht : t.val < 4112
  · rw [if_pos ht]
    by_cases hw : n.val % 256 < 192
    · rw [dif_pos ⟨ht, by omega, hw⟩]
      split
      · rfl
      · split
        · rfl
        · rw [show 32 + (n.val % 256 - 128 - 32) = n.val % 256 - 128 by omega]
    · rw [dif_neg (by omega), if_neg (by omega)]
      refine congrArg Real.toEReal ?_
      unfold unrope
      beta_reduce
      rw [Head.dq_wide _ _ (narrow q kv kr co si ct) (by omega), zero_mul, zero_sub]
      split
      · rw [Head.dq_wide _ _ (narrow q kv kr co si ct) (by omega), neg_zero, zero_mul, neg_zero]
      · rw [Head.dq_wide _ _ (narrow q kv kr co si ct) (by omega), zero_mul, neg_zero]
  · rw [if_neg ht, dif_neg (by omega)]

theorem v123_eq (t : Fin 4224) (n : Fin 4096) : val_main_v123 (F := Ideal) q kv kr co si ct (ix2 t n)
    = ((((inputs q kv kr co si ct).head (n.val / 256)).out10 t (n.val % 256) : ℝ) : EReal) := by
  pointwise [val_main_v123, val_main_v121, val_main_v120, val_main_v116, val_main_v115, val_main_v78]
  simp only [v98_eq fin, v77_eq fin]
  rw [show val_main_call5_v0 (F := Ideal) (Shape.Idx.first h_S_) = ((0 : ℝ) : EReal) from pad_zero _,
    show val_main_cst_15 (F := Ideal) (Shape.Idx.first h_S_) = ((0 : ℝ) : EReal) from cst_zero _,
    show val_main_cst_19 (F := Ideal) (Shape.Idx.first h_S_) = ((0 : ℝ) : EReal) from cst_zero _]
  unfold Head.out10
  by_cases ht : t.val < 4112
  · rw [dif_pos ht]
    by_cases hl : n.val % 256 < 128
    · rw [dif_neg (by omega), dif_pos ⟨ht, by omega, hl⟩, if_pos hl, add_coe, zero_add]
    · rw [dif_pos ⟨ht, by omega, by omega, by omega⟩, dif_neg (by omega), if_neg hl, add_coe, add_zero]
  · rw [dif_neg ht, Head.DK_beyond _ (by omega), Head.DV_beyond _ (by omega), ite_self]

theorem v124_eq (h : Fin 16) (t : Fin 4224) (n : Fin 128) : val_main_v124 (F := Ideal) q kv kr co si ct (ix3 h t n)
    = ((((inputs q kv kr co si ct).head h).out11 t n : ℝ) : EReal) := by
  pointwise [val_main_v124]
  simp only [v94_eq fin]
  rw [show val_main_call6_v0 (F := Ideal) (Shape.Idx.first h_S_) = ((0 : ℝ) : EReal) from pad_zero _]
  unfold Head.out11
  split
  · rfl
  · by_cases ht : t.val < 4112
    · rw [Head.DK_wide _ _ (by omega)]
    · rw [Head.DK_beyond _ (by omega)]

end Cert.AttnRefIdeal.Rows
-- ==== Proof.AttnHost.lean ====
/- What the attention gradient's host lines hand to the kernel, as real formulas. -/
module

public import proofs.«01_k».proof.Proof.AttnRes
public import proofs.«01_k».proof.Proof.AttnFrame

@[expose] public section

set_option maxHeartbeats 1000000

noncomputable section

namespace Cert.AttnBwdIdeal.Hand

open Idealize.ShloMosaic Idealize.ShloMosaic.StableHlo Idealize.ShloMosaic.TcCoe Idealize.SL.Sem Cert.AttnBwdIdeal Cert.AttnBwdIdeal.Gen Cert.Reals Cert.Attn
open Facts
open Cert.AttnRefIdeal.Read

variable {F : FTy → Type} [FloatOps F] (m : (ℓ : Loc nD τ sig) → Buf (Elt F) ℓ) (c : Dev nD)

abbrev argQ : Vec F S4112x16x192 .f32 := launchContents m c (Proc.devRef .tc main_arg0)
abbrev argKV : Vec F S4112x16x256 .f32 := launchContents m c (Proc.devRef .tc main_arg1)
abbrev argKR : Vec F S4112x64 .f32 := launchContents m c (Proc.devRef .tc main_arg2)
abbrev argC : Vec F S4112x32 .f32 := launchContents m c (Proc.devRef .tc main_arg3)
abbrev argS : Vec F S4112x32 .f32 := launchContents m c (Proc.devRef .tc main_arg4)
abbrev argG : Vec F S4112x2048 .f32 := launchContents m c (Proc.devRef .tc main_arg5)

/-- The number padded with. -/
abbrev padv : Vec F S_ .f32 := val_main_call4_v0 (F := F)

/-- The attention's output, -/
abbrev hostO (q : Vec F S4112x16x192 .f32) (kv : Vec F S4112x16x256 .f32) (kr : Vec F S4112x64 .f32) (co si : Vec F S4112x32 .f32) : Vec F S4112x2048 .f32 :=
  shapeCast S4112x2048 (transpose S4112x16x128 [2, 0, 1] (Host.dotGeneral (F := F) (φ₁ := .f32) (φ₂ := .f32) dot_S4112x16x128_S16x4112x4112_S16x128x4112_0_2_2_1_1_0 none
    (extractStridedSlice S4112x16x128 ![0, 0, 128] kv slices_S4112x16x256_S4112x16x128_0_0_128) (val_main_v65 (F := F) q kv kr co si))
    transposes_S16x128x4112_S4112x16x128_2_0_1) shapeCasts_S4112x16x128_S4112x2048

/-- and the logarithm of its denominator, from the scores and their maxima. -/
abbrev hostL (s : Vec F S16x4112x4112 .f32) (t : Vec F S16x4112 .f32) : Vec F S16x4112x1 .f32 :=
  addf (F := F) (φ := .f32) (broadcastInDim S16x4112x1 ![0, 1] bcast_S16x4112_S16x4112x1_0_1 t)
    (Host.log (F := F) (φ := .f32) (broadcastInDim S16x4112x1 ![0, 1] bcast_S16x4112_S16x4112x1_0_1
      (Host.reduceAdd (F := F) (φ := .f32) (Host.exp (F := F) (φ := .f32) (subf (F := F) (φ := .f32) s
        (broadcastInDim S16x4112x4112 ![0, 1, 2] bcast_S16x4112x1_S16x4112x4112_0_1_2 (broadcastInDim S16x4112x1 ![0, 1] bcast_S16x4112_S16x4112x1_0_1 t))))
        (constant (F := F) S_ .f32 0x00000000#32) reducesTo_S16x4112x4112_S16x4112_d2 h_S_)))

/-- Rows of padding below it, and 128 lanes beside. -/
abbrev wideL (x : Vec F S16x4112x1 .f32) : Vec F S16x4224x128 .f32 :=
  broadcastInDim S16x4224x128 ![0, 1, 2] bcast_S16x4224x1_S16x4224x128_0_1_2 (pad S16x4224x1 ![0, 0, 0] ![0, 112, 0] ![0, 0, 0] x padv
    pads_S16x4112x1_S16x4224x1_000_01120_000 h_S_)

/-- A table of 32 lanes, four times side by side. -/
abbrev tiled (x : Vec F S4112x32 .f32) : Vec F S4224x128 .f32 :=
  pad S4224x128 ![0, 0] ![112, 0] ![0, 0] (shapeCast S4112x128 (broadcastInDim S1x4112x4x32 ![0, 1, 2, 3] bcast_S1x4112x1x32_S1x4112x4x32_0_1_2_3
    (shapeCast S1x4112x1x32 x shapeCasts_S4112x32_S1x4112x1x32)) shapeCasts_S1x4112x4x32_S4112x128) padv pads_S4112x128_S4224x128_01120_000 h_S_

theorem V_q : V m c main_v87 = truncf (s := S4224x4096) .bf16 (shapeCast S4224x4096 (pad S4224x16x256 ![0, 0, 0] ![112, 0, 64] ![0, 0, 0]
    (concatenate S4112x16x192 2 [⟨S4112x16x128, val_main_v2 (F := F) (argQ m c)⟩, ⟨S4112x16x64, val_main_v19 (F := F) (argQ m c) (argC m c) (argS m c)⟩]
      concatenates_S4112x16x128_S4112x16x64_S4112x16x192_d2) padv pads_S4112x16x192_S4224x16x256_01120_000_0640 h_S_) shapeCasts_S4224x16x256_S4224x4096) bitsLt_bf16_f32 := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append]
  after_results
  rfl

theorem V_kv : V m c main_v90 = truncf (s := S4224x4096) .bf16 (pad S4224x4096 ![0, 0] ![112, 0] ![0, 0] (shapeCast S4112x4096 (argKV m c) shapeCasts_S4112x16x256_S4112x4096)
    padv pads_S4112x4096_S4224x4096_01120_000 h_S_) bitsLt_bf16_f32 := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append]
  after_results
  rfl

theorem V_kr : V m c main_v92 = truncf (s := S4224x128) .bf16 (pad S4224x128 ![0, 0] ![112, 64] ![0, 0] (argKR m c) padv
    pads_S4112x64_S4224x128_01120_0640 h_S_) bitsLt_bf16_f32 := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append]
  after_results
  rfl

theorem V_o : V m c main_v102 = truncf (s := S4224x2048) .bf16 (pad S4224x2048 ![0, 0] ![112, 0] ![0, 0]
    (hostO (argQ m c) (argKV m c) (argKR m c) (argC m c) (argS m c)) padv pads_S4112x2048_S4224x2048_01120_000 h_S_) bitsLt_bf16_f32 := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append]
  after_results
  rfl

theorem V_l : V m c main_v66 = wideL (hostL (val_main_v40_0 (F := F) (argQ m c) (argKV m c) (argKR m c) (argC m c) (argS m c))
    (val_main_v41 (F := F) (argQ m c) (argKV m c) (argKR m c) (argC m c) (argS m c))) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append]
  after_results
  rfl

theorem V_ct : V m c main_v104 = truncf (s := S4224x2048) .bf16 (pad S4224x2048 ![0, 0] ![112, 0] ![0, 0] (argG m c) padv
    pads_S4112x2048_S4224x2048_01120_000 h_S_) bitsLt_bf16_f32 := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append]
  after_results
  rfl

theorem V_co : V m c main_v96 = tiled (argC m c) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append]
  after_results
  rfl

theorem V_si : V m c main_v100 = tiled (argS m c) := by
  simp only [V, hostOps0, hostOps0_1, hostOps0_2, hostOps0_3, hostOps0_4, hostOps0_5, hostOps0_6, hostOps0_7, hostOps0_8, hostOps0_9, hostOps0_10,
    hostOps0_11, hostOps0_12, hostOps0_13, hostOps0_14, hostOps0_15, hostOps0_16, hostOps0_17, hostOps0_18, hostOps0_19, hostOps0_20, hostOps0_21,
    hostOps0_22, List.flatten_cons, List.flatten_nil, List.append_nil, List.cons_append, List.nil_append]
  after_results
  rfl

end Cert.AttnBwdIdeal.Hand
-- ==== Proof.AttnIn.lean ====
/- The arrays the attention gradient's kernel is given, entry by entry, and its blocks. -/
module

public import proofs.«01_k».proof.Proof.AttnHost

@[expose] public section

set_option maxHeartbeats 400000

noncomputable section

namespace Cert.AttnBwdIdeal.Hand

open Idealize.ShloMosaic Idealize.ShloMosaic.TcCoe Idealize.SL.Sem Cert.AttnBwdIdeal Cert.AttnBwdIdeal.Gen Cert.Reals Cert.Attn
open Cert.AttnRefIdeal.Read Cert.AttnRefIdeal.Rows
open Facts

/-- The memory the run starts from. -/
abbrev Mem := (ℓ : Loc nD τ sig) → Buf (Elt Ideal) ℓ

/-- The arguments are finite. -/
abbrev Fin6 (m : Mem) (c : Dev nD) : Prop := Cert.Attn.Finite (argQ m c) (argKV m c) (argKR m c) (argC m c) (argS m c) (argG m c)

/-- The arguments as reals. -/
abbrev ins (m : Mem) (c : Dev nD) : Inputs := inputs (argQ m c) (argKV m c) (argKR m c) (argC m c) (argS m c) (argG m c)

/-- The padded number is zero. -/
theorem padv_zero : padv (F := Ideal) (Shape.Idx.first h_S_) = ((0 : ℝ) : EReal) := pad_zero _

theorem wideL_apply (s : S16x4112x4112.Idx → EReal) (t : S16x4112.Idx → EReal) (h : Fin 16) (r : Fin 4224) (l : Fin 128) :
    (wideL (F := Ideal) (hostL (F := Ideal) s t) : S16x4224x128.Idx → EReal) (ix3 h r l)
      = if e : r.val < 4112 then t (ix2 h ⟨r, e⟩) + Ideal.log (∑ x : Fin 4112, Ideal.exp (s (ix3 h ⟨r, e⟩ x) - t (ix2 h ⟨r, e⟩)))
        else padv (F := Ideal) (Shape.Idx.first h_S_) := by
  pointwise []

variable {m : Mem} {c : Dev nD} (fin : Fin6 m c)
include fin

theorem in_q (r : Fin 4224) (n : Fin 4096) : (V (F := Ideal) m c main_v87 : S4224x4096.Idx → EReal) (ix2 r n)
    = ((((ins m c).head (n.val / 256)).Q r (n.val % 256) : ℝ) : EReal) := by
  rw [V_q]
  pointwise [val_main_v2]
  simp only [v19_eq fin, at3_coe fin.q]
  rw [padv_zero]
  dsimp only [Inputs.head]
  by_cases hr : r.val < 4112
  · rw [if_pos hr]
    split
    · split
      · rfl
      · rw [if_pos (by omega)]
    · rw [if_neg (by omega), if_neg (by omega)]
  · rw [if_neg hr, dif_neg (by omega)]

theorem in_kv (r : Fin 4224) (n : Fin 4096) : (V (F := Ideal) m c main_v90 : S4224x4096.Idx → EReal) (ix2 r n)
    = ((((ins m c).head (n.val / 256)).KV r (n.val % 256) : ℝ) : EReal) := by
  rw [V_kv]
  pointwise []
  simp only [at3_coe fin.kv]
  rw [padv_zero]
  split
  · rfl
  · refine congrArg Real.toEReal ?_
    show 0 = at3 (argKV m c) r _ _
    unfold at3
    rw [dif_neg (by omega)]

theorem in_kr (r : Fin 4224) (l : Fin 128) : (V (F := Ideal) m c main_v92 : S4224x128.Idx → EReal) (ix2 r l)
    = ((at2 (argKR m c) r l : ℝ) : EReal) := by
  rw [V_kr]
  pointwise []
  simp only [at2_coe fin.kr]
  rw [padv_zero]
  split
  · rfl
  · refine congrArg Real.toEReal ?_
    unfold at2
    rw [dif_neg (by omega)]

theorem in_o (r : Fin 4224) (n : Fin 2048) : (V (F := Ideal) m c main_v102 : S4224x2048.Idx → EReal) (ix2 r n)
    = ((((ins m c).head (n.val / 128)).O r (n.val % 128) : ℝ) : EReal) := by
  rw [V_o]
  pointwise []
  simp only [at3_coe fin.kv, v65_eq fin, mul_coe, sum_coe]
  rw [padv_zero]
  dsimp only [Inputs.head]
  split
  · rfl
  · rfl

theorem in_l (h : Fin 16) (r : Fin 4224) (l : Fin 128) : (V (F := Ideal) m c main_v66 : S16x4224x128.Idx → EReal) (ix3 h r l)
    = ((((ins m c).head h).ls r : ℝ) : EReal) := by
  rw [V_l, wideL_apply]
  simp only [v41_eq fin, v40_eq fin]
  rw [padv_zero]
  dsimp only [Inputs.head]
  split
  next e =>
    have d : (∑ x : Fin 4112, Ideal.exp ((ins m c).masked h r x - (((ins m c).top h r : ℝ) : EReal))) = (((ins m c).den h r : ℝ) : EReal) := by
      rw [Inputs.den, ← sum_coe]
      refine Finset.sum_congr rfl fun x _ => ?_
      unfold Inputs.masked Inputs.expo
      split
      · rw [sub_coe, Ideal.exp_coe]
      · rw [EReal.bot_sub, EReal.coe_zero]; exact Ideal.exp_bot
    refine (congrArg (fun z => (((ins m c).top h r : ℝ) : EReal) + Ideal.log z) d).trans ?_
    rw [Ideal.log_coe, if_neg (not_le.2 (Inputs.den_pos _ _ e)), add_coe]
  next => rfl

theorem in_g (r : Fin 4224) (n : Fin 2048) : (V (F := Ideal) m c main_v104 : S4224x2048.Idx → EReal) (ix2 r n)
    = ((((ins m c).head (n.val / 128)).G r (n.val % 128) : ℝ) : EReal) := by
  rw [V_ct]
  pointwise []
  simp only [at2_coe fin.ct]
  rw [padv_zero]
  show _ = ((at2 (argG m c) r (n.val / 128 * 128 + n.val % 128) : ℝ) : EReal)
  rw [Nat.div_add_mod' n.val 128]
  split
  · rfl
  · refine congrArg Real.toEReal ?_
    unfold at2
    rw [dif_neg (by omega)]

theorem in_c (h : ℕ) (r : Fin 4224) (l : Fin 128) : (V (F := Ideal) m c main_v96 : S4224x128.Idx → EReal) (ix2 r l)
    = ((((ins m c).head h).C r l : ℝ) : EReal) := by
  rw [V_co]
  pointwise []
  simp only [at2_coe fin.co]
  rw [padv_zero]
  split
  · rfl
  · refine congrArg Real.toEReal ?_
    show 0 = at2 (argC m c) r _
    unfold at2
    rw [dif_neg (by omega)]

theorem in_s (h : ℕ) (r : Fin 4224) (l : Fin 128) : (V (F := Ideal) m c main_v100 : S4224x128.Idx → EReal) (ix2 r l)
    = ((((ins m c).head h).S r l : ℝ) : EReal) := by
  rw [V_si]
  pointwise []
  simp only [at2_coe fin.si]
  rw [padv_zero]
  split
  · rfl
  · refine congrArg Real.toEReal ?_
    show 0 = at2 (argS m c) r _
    unfold at2
    rw [dif_neg (by omega)]

end Cert.AttnBwdIdeal.Hand
-- ==== Proof.AttnFinal.lean ====
/- The attention gradient's result arrays as real formulas. -/
module

public import proofs.«01_k».proof.Proof.AttnIn
public import proofs.«01_k».proof.Proof.Tile
public import Idealize.ShloMosaic.Lib.Pipeline.Value

@[expose] public section

set_option maxHeartbeats 400000

noncomputable section

namespace Cert.AttnBwdIdeal.Hand

open Idealize.ShloMosaic Idealize.ShloMosaic.TcCoe Idealize.SL.Sem Cert.AttnBwdIdeal Cert.AttnBwdIdeal.Gen Cert.Reals Cert.Attn Cert.Tile
open Idealize.ShloMosaic.Pipeline (Dat)

theorem idx : ∀ t : Fin cfg0.N, (win0_0.index t 0 = 0 ∧ win0_0.index t 1 = t.val) ∧ (win0_1.index t 0 = 0 ∧ win0_1.index t 1 = t.val)
    ∧ (win0_2.index t 0 = 0 ∧ win0_2.index t 1 = 0) ∧ (win0_3.index t 0 = 0 ∧ win0_3.index t 1 = t.val)
    ∧ (win0_4.index t 0 = t.val ∧ win0_4.index t 1 = 0 ∧ win0_4.index t 2 = 0) ∧ (win0_5.index t 0 = 0 ∧ win0_5.index t 1 = t.val)
    ∧ (win0_6.index t 0 = 0 ∧ win0_6.index t 1 = 0) ∧ (win0_7.index t 0 = 0 ∧ win0_7.index t 1 = 0)
    ∧ (win0_8.index t 0 = 0 ∧ win0_8.index t 1 = t.val) ∧ (win0_9.index t 0 = 0 ∧ win0_9.index t 1 = t.val) ∧ (win0_10.index t 0 = t.val ∧ win0_10.index t 1 = 0 ∧ win0_10.index t 2 = 0) := by
  decide +kernel

variable {m : Mem} {c : Dev nD} (fin : Fin6 m c)
include fin

theorem blk0 (t : Fin cfg0.N) : Holds (iblk m c 0 t : Vec Ideal S4224x256 .bf16) ((ins m c).head t.val).Q := fun r l => by
  have ht : t.val < 16 := lt_of_lt_of_eq t.isLt N_0
  have h := in_q fin r ⟨256 * t.val + l.val, by omega⟩
  rw [show (256 * t.val + l.val) / 256 = t.val by omega, show (256 * t.val + l.val) % 256 = l.val by omega] at h
  exact (tile2 (Val := Elt Ideal) (e := .bf16) (V m c main_v87) _ (idx t).1 r l r ⟨256 * t.val + l.val, by omega⟩ (by omega) (congrArg (· + l.val) (Nat.mul_comm _ _))).trans h

theorem blk1 (t : Fin cfg0.N) : Holds (iblk m c 1 t : Vec Ideal S4224x256 .bf16) ((ins m c).head t.val).KV := fun r l => by
  have ht : t.val < 16 := lt_of_lt_of_eq t.isLt N_0
  have h := in_kv fin r ⟨256 * t.val + l.val, by omega⟩
  rw [show (256 * t.val + l.val) / 256 = t.val by omega, show (256 * t.val + l.val) % 256 = l.val by omega] at h
  exact (tile2 (Val := Elt Ideal) (e := .bf16) (V m c main_v90) _ (idx t).2.1 r l r ⟨256 * t.val + l.val, by omega⟩ (by omega) (congrArg (· + l.val) (Nat.mul_comm _ _))).trans h

theorem blk2 (t : Fin cfg0.N) : Holds (iblk m c 2 t : Vec Ideal S4224x128 .bf16) (at2 (argKR m c)) := fun r l =>
  (tile2 (Val := Elt Ideal) (e := .bf16) (V m c main_v92) _ (idx t).2.2.1 r l r l (by omega) (by omega)).trans (in_kr fin r l)

theorem blk3 (t : Fin cfg0.N) : Holds (iblk m c 3 t : Vec Ideal S4224x128 .bf16) ((ins m c).head t.val).O := fun r l => by
  have ht : t.val < 16 := lt_of_lt_of_eq t.isLt N_0
  have h := in_o fin r ⟨128 * t.val + l.val, by omega⟩
  rw [show (128 * t.val + l.val) / 128 = t.val by omega, show (128 * t.val + l.val) % 128 = l.val by omega] at h
  exact (tile2 (Val := Elt Ideal) (e := .bf16) (V m c main_v102) _ (idx t).2.2.2.1 r l r ⟨128 * t.val + l.val, by omega⟩ (by omega) (congrArg (· + l.val) (Nat.mul_comm _ _))).trans h

theorem blk4 (t : Fin cfg0.N) (r : Fin 4224) (l : Fin 128) :
    (iblk m c 4 t : Vec Ideal S1x4224x128 .f32) (ix3 0 r l) = ((((ins m c).head t.val).ls r : ℝ) : EReal) :=
  have ht : t.val < 16 := lt_of_lt_of_eq t.isLt N_0
  (tile3 (Val := Elt Ideal) (e := .f32) (V m c main_v66) _ (idx t).2.2.2.2.1 0 r l ⟨t.val, ht⟩ r l (by show t.val = _; omega) (by omega) (by omega)).trans (in_l fin ⟨t.val, ht⟩ r l)

theorem blk5 (t : Fin cfg0.N) : Holds (iblk m c 5 t : Vec Ideal S4224x128 .bf16) ((ins m c).head t.val).G := fun r l => by
  have ht : t.val < 16 := lt_of_lt_of_eq t.isLt N_0
  have h := in_g fin r ⟨128 * t.val + l.val, by omega⟩
  rw [show (128 * t.val + l.val) / 128 = t.val by omega, show (128 * t.val + l.val) % 128 = l.val by omega] at h
  exact (tile2 (Val := Elt Ideal) (e := .bf16) (V m c main_v104) _ (idx t).2.2.2.2.2.1 r l r ⟨128 * t.val + l.val, by omega⟩ (by omega) (congrArg (· + l.val) (Nat.mul_comm _ _))).trans h

theorem blk6 (t : Fin cfg0.N) : Holds (iblk m c 6 t : Vec Ideal S4224x128 .f32) ((ins m c).head t.val).C := fun r l =>
  (tile2 (Val := Elt Ideal) (e := .f32) (V m c main_v96) _ (idx t).2.2.2.2.2.2.1 r l r l (by omega) (by omega)).trans (in_c fin t.val r l)

theorem blk7 (t : Fin cfg0.N) : Holds (iblk m c 7 t : Vec Ideal S4224x128 .f32) ((ins m c).head t.val).S := fun r l =>
  (tile2 (Val := Elt Ideal) (e := .f32) (V m c main_v100) _ (idx t).2.2.2.2.2.2.2.1 r l r l (by omega) (by omega)).trans (in_s fin t.val r l)

theorem block_reads (t : Fin cfg0.N) : BlockReads (blocksAt m c t) ((ins m c).head t.val) (at2 (argKR m c)) :=
  ⟨blk0 fin t, blk1 fin t, blk2 fin t, blk3 fin t, blk4 fin t, blk5 fin t, blk6 fin t, blk7 fin t, rfl⟩

omit fin

/-- The gradient of the queries, -/
def resQ (m : Mem) (c : Dev nD) : S4224x4096.Idx → EReal := fun i => ((((ins m c).head ((i 1).val / 256)).out9 (i 0).val ((i 1).val % 256) : ℝ) : EReal)

/-- of the keys and values, -/
def resKV (m : Mem) (c : Dev nD) : S4224x4096.Idx → EReal := fun i => ((((ins m c).head ((i 1).val / 256)).out10 (i 0).val ((i 1).val % 256) : ℝ) : EReal)

/-- and of the rotary keys, head by head. -/
def resKR (m : Mem) (c : Dev nD) : S16x4224x128.Idx → EReal := fun i => ((((ins m c).head (i 0).val).out11 (i 1).val (i 2).val : ℝ) : EReal)

include fin

theorem flushed8 (t : Fin cfg0.N) : (dats m 0 c).flushed 8 t = ((cfg0.win 8).blk t).view.read (Elt Ideal) (resQ m c) := by
  have e : (dats m 0 c).flushed 8 t = (cfg0.win 8).cut (grid0.coords t) (View.canon (outsAt m c t).L9) := by
    show (cfg0.win 8).cut (grid0.coords t) ((dats m 0 c).after 8 t) = _
    rw [after0_8]
  rw [e]
  funext j
  obtain ⟨r, l, rfl⟩ : ∃ (r : Fin 4224) (l : Fin 256), j = ix2 r l := ⟨j 0, j 1, by funext a; fin_cases a <;> rfl⟩
  rw [View.read_apply]
  refine (block9 (block_reads fin t) c (grid0.coords t) (argsAt t) r l).trans ?_
  unfold resQ
  have h0 : (((cfg0.win 8).blk t).view.emb (ix2 r l) 0).val = r.val := by
    show win0_8.index t 0 * 4224 + 1 * r.val = r.val
    rw [(idx t).2.2.2.2.2.2.2.2.1.1]; omega
  have h1 : (((cfg0.win 8).blk t).view.emb (ix2 r l) 1).val = 256 * t.val + l.val := by
    show win0_8.index t 1 * 256 + 1 * l.val = 256 * t.val + l.val
    rw [(idx t).2.2.2.2.2.2.2.2.1.2]; omega
  rw [h0, h1, show (256 * t.val + l.val) / 256 = t.val by omega, show (256 * t.val + l.val) % 256 = l.val by omega]
  rfl

theorem final8 : (dats m 0 c).arrAt 8 cfg0.N = resQ m c :=
  (dats m 0 c).arrAt_eq_of_cover 8 (resQ m c) (fun t _ => flushed8 fin t) fun i => by
    have h0 : (i 0 : Nat) < 4224 := (i 0).isLt
    have h1 : (i 1 : Nat) < 4096 := (i 1).isLt
    refine ⟨⟨(i 1 : Nat) / 256, lt_of_lt_of_eq (by omega) N_0.symm⟩, flush0_8 _, ?_⟩
    generalize hq : (⟨(i 1 : Nat) / 256, _⟩ : Fin cfg0.N) = q
    have hq' : q.val = (i 1 : Nat) / 256 := by rw [← hq]
    show i ∈ ((View.whole main_v105_0).slice (win0_8.rect q)).set
    rw [View.set_slice_whole, Rect.mem_set_unit]
    intro a
    match a with
    | ⟨0, _⟩ => show win0_8.index q 0 * 4224 ≤ (i 0 : Nat) ∧ (i 0 : Nat) < win0_8.index q 0 * 4224 + 4224; rw [(idx q).2.2.2.2.2.2.2.2.1.1]; omega
    | ⟨1, _⟩ => show win0_8.index q 1 * 256 ≤ (i 1 : Nat) ∧ (i 1 : Nat) < win0_8.index q 1 * 256 + 256; rw [(idx q).2.2.2.2.2.2.2.2.1.2]; omega

theorem flushed9 (t : Fin cfg0.N) : (dats m 0 c).flushed 9 t = ((cfg0.win 9).blk t).view.read (Elt Ideal) (resKV m c) := by
  have e : (dats m 0 c).flushed 9 t = (cfg0.win 9).cut (grid0.coords t) (View.canon (outsAt m c t).L10) := by
    show (cfg0.win 9).cut (grid0.coords t) ((dats m 0 c).after 9 t) = _
    rw [after0_9]
  rw [e]
  funext j
  obtain ⟨r, l, rfl⟩ : ∃ (r : Fin 4224) (l : Fin 256), j = ix2 r l := ⟨j 0, j 1, by funext a; fin_cases a <;> rfl⟩
  rw [View.read_apply]
  refine (block10 (block_reads fin t) c (grid0.coords t) (argsAt t) r l).trans ?_
  unfold resKV
  have h0 : (((cfg0.win 9).blk t).view.emb (ix2 r l) 0).val = r.val := by
    show win0_9.index t 0 * 4224 + 1 * r.val = r.val
    rw [(idx t).2.2.2.2.2.2.2.2.2.1.1]; omega
  have h1 : (((cfg0.win 9).blk t).view.emb (ix2 r l) 1).val = 256 * t.val + l.val := by
    show win0_9.index t 1 * 256 + 1 * l.val = 256 * t.val + l.val
    rw [(idx t).2.2.2.2.2.2.2.2.2.1.2]; omega
  rw [h0, h1, show (256 * t.val + l.val) / 256 = t.val by omega, show (256 * t.val + l.val) % 256 = l.val by omega]
  rfl

theorem final9 : (dats m 0 c).arrAt 9 cfg0.N = resKV m c :=
  (dats m 0 c).arrAt_eq_of_cover 9 (resKV m c) (fun t _ => flushed9 fin t) fun i => by
    have h0 : (i 0 : Nat) < 4224 := (i 0).isLt
    have h1 : (i 1 : Nat) < 4096 := (i 1).isLt
    refine ⟨⟨(i 1 : Nat) / 256, lt_of_lt_of_eq (by omega) N_0.symm⟩, flush0_9 _, ?_⟩
    generalize hq : (⟨(i 1 : Nat) / 256, _⟩ : Fin cfg0.N) = q
    have hq' : q.val = (i 1 : Nat) / 256 := by rw [← hq]
    show i ∈ ((View.whole main_v105_1).slice (win0_9.rect q)).set
    rw [View.set_slice_whole, Rect.mem_set_unit]
    intro a
    match a with
    | ⟨0, _⟩ => show win0_9.index q 0 * 4224 ≤ (i 0 : Nat) ∧ (i 0 : Nat) < win0_9.index q 0 * 4224 + 4224; rw [(idx q).2.2.2.2.2.2.2.2.2.1.1]; omega
    | ⟨1, _⟩ => show win0_9.index q 1 * 256 ≤ (i 1 : Nat) ∧ (i 1 : Nat) < win0_9.index q 1 * 256 + 256; rw [(idx q).2.2.2.2.2.2.2.2.2.1.2]; omega

theorem flushed10 (t : Fin cfg0.N) : (dats m 0 c).flushed 10 t = ((cfg0.win 10).blk t).view.read (Elt Ideal) (resKR m c) := by
  have e : (dats m 0 c).flushed 10 t = (cfg0.win 10).cut (grid0.coords t) (View.canon (outsAt m c t).L11) := by
    show (cfg0.win 10).cut (grid0.coords t) ((dats m 0 c).after 10 t) = _
    rw [after0_10]
  rw [e]
  funext j
  obtain ⟨h, r, l, rfl⟩ : ∃ (h : Fin 1) (r : Fin 4224) (l : Fin 128), j = ix3 h r l := ⟨j 0, j 1, j 2, by funext a; fin_cases a <;> rfl⟩
  obtain rfl : h = 0 := Subsingleton.elim _ _
  rw [View.read_apply]
  refine (block11 (block_reads fin t) c (grid0.coords t) (argsAt t) r l).trans ?_
  unfold resKR
  have h0 : (((cfg0.win 10).blk t).view.emb (ix3 0 r l) 0).val = t.val := by
    show win0_10.index t 0 * 1 + 1 * 0 = t.val
    rw [(idx t).2.2.2.2.2.2.2.2.2.2.1]; omega
  have h1 : (((cfg0.win 10).blk t).view.emb (ix3 0 r l) 1).val = r.val := by
    show win0_10.index t 1 * 4224 + 1 * r.val = r.val
    rw [(idx t).2.2.2.2.2.2.2.2.2.2.2.1]; omega
  have h2 : (((cfg0.win 10).blk t).view.emb (ix3 0 r l) 2).val = l.val := by
    show win0_10.index t 2 * 128 + 1 * l.val = l.val
    rw [(idx t).2.2.2.2.2.2.2.2.2.2.2.2]; omega
  rw [h0, h1, h2]
  rfl

theorem final10 : (dats m 0 c).arrAt 10 cfg0.N = resKR m c :=
  (dats m 0 c).arrAt_eq_of_cover 10 (resKR m c) (fun t _ => flushed10 fin t) fun i => by
    have h0 : (i 0 : Nat) < 16 := (i 0).isLt
    have h1 : (i 1 : Nat) < 4224 := (i 1).isLt
    have h2 : (i 2 : Nat) < 128 := (i 2).isLt
    refine ⟨⟨(i 0 : Nat), lt_of_lt_of_eq (by omega) N_0.symm⟩, flush0_10 _, ?_⟩
    generalize hq : (⟨(i 0 : Nat), _⟩ : Fin cfg0.N) = q
    have hq' : q.val = (i 0 : Nat) := by rw [← hq]
    show i ∈ ((View.whole main_v105_2).slice (win0_10.rect q)).set
    rw [View.set_slice_whole, Rect.mem_set_unit]
    intro a
    match a with
    | ⟨0, _⟩ => show win0_10.index q 0 * 1 ≤ (i 0 : Nat) ∧ (i 0 : Nat) < win0_10.index q 0 * 1 + 1; rw [(idx q).2.2.2.2.2.2.2.2.2.2.1]; omega
    | ⟨1, _⟩ => show win0_10.index q 1 * 4224 ≤ (i 1 : Nat) ∧ (i 1 : Nat) < win0_10.index q 1 * 4224 + 4224; rw [(idx q).2.2.2.2.2.2.2.2.2.2.2.1]; omega
    | ⟨2, _⟩ => show win0_10.index q 2 * 128 ≤ (i 2 : Nat) ∧ (i 2 : Nat) < win0_10.index q 2 * 128 + 128; rw [(idx q).2.2.2.2.2.2.2.2.2.2.2.2]; omega

end Cert.AttnBwdIdeal.Hand
-- ==== Proof.AttnClaim.lean ====
/- The claims about the attention's gradient, assembled. -/
module

public import proofs.«01_k».proof.Defs
public import proofs.«01_k».proof.Proof.AttnSame
public import proofs.«01_k».proof.Proof.AttnFinal
public import Idealize.ShloMosaic.Lib.Quiescent

@[expose] public section

noncomputable section

namespace Cert.Pre_finite_attn

open Idealize.ShloMosaic

theorem facts : Facts where
  bcast_S_S4112x16x192 := by decide
  reducesTo_S4112x16x192_S_d0_1_2 := by decide
  h_S_ := by decide
  bcast_S_S4112x16x256 := by decide
  reducesTo_S4112x16x256_S_d0_1_2 := by decide
  bcast_S_S4112x64 := by decide
  reducesTo_S4112x64_S_d0_1 := by decide
  bcast_S_S4112x32 := by decide
  reducesTo_S4112x32_S_d0_1 := by decide
  bcast_S_S4112x2048 := by decide
  reducesTo_S4112x2048_S_d0_1 := by decide

end Cert.Pre_finite_attn

namespace Cert.Attn

open Idealize.ShloMosaic Idealize.SL.Sem Cert.Reals
open Cert.AttnBwdIdeal.Hand

instance : Subsingleton Cert.Pre_finite_attn.S_.Idx := ⟨fun a b => funext fun i => i.elim0⟩

/-- The precondition says that every argument is finite. -/
theorem fin6 [Cert.Pre_finite_attn.Facts] {m : Mem} (h : Cert.Pre_AttnBwdIdeal_finite_attn m) (c : Dev Cert.AttnBwdIdeal.nD) : Fin6 m c := by
  have e := congrFun (h c) (fun i => i.elim0)
  dsimp only [Cert.Pre_finite_attn.fn, Cert.Pre_finite_attn.fn_part1] at e
  obtain ⟨e, e6⟩ := andi_one _ _ _ e
  obtain ⟨e, e5⟩ := andi_one _ _ _ e
  obtain ⟨e, e4⟩ := andi_one _ _ _ e
  obtain ⟨e, e3⟩ := andi_one _ _ _ e
  obtain ⟨e1, e2⟩ := andi_one _ _ _ e
  exact ⟨fun i => finite_of_cmpf (Host.reduce_andi_all _ _ _ _ _ e1 i), fun i => finite_of_cmpf (Host.reduce_andi_all _ _ _ _ _ e2 i),
    fun i => finite_of_cmpf (Host.reduce_andi_all _ _ _ _ _ e3 i), fun i => finite_of_cmpf (Host.reduce_andi_all _ _ _ _ _ e4 i),
    fun i => finite_of_cmpf (Host.reduce_andi_all _ _ _ _ _ e5 i), fun i => finite_of_cmpf (Host.reduce_andi_all _ _ _ _ _ e6 i)⟩

/-- The reference runs and leaves its arguments and the semaphores as they were. -/
theorem quiescent_ref : Cert.quiescent_AttnRefIdeal (hAttnRefIdeal := Cert.AttnRefIdeal.Gen.facts) := fun m ρ _ =>
  (θ_run _ _ _).mono (fun r h => ⟨fun c => (h c).2.2.2, sem_eq_zero_of_no_sems (by decide) r.2⟩) (Cert.AttnRefIdeal.Value.run (F := Ideal) m ρ)

section Values

variable {m : Mem} {c : Dev Cert.AttnBwdIdeal.nD} (fin : Fin6 m c)
include fin

theorem ref_q : Cert.AttnRefIdeal.Read.val_main_v122 (F := Ideal) (argQ m c) (argKV m c) (argKR m c) (argC m c) (argS m c) (argG m c) = resQ m c := by
  funext i
  obtain ⟨t, n, rfl⟩ : ∃ (t : Fin 4224) (n : Fin 4096), i = ix2 t n := ⟨i 0, i 1, by funext a; fin_cases a <;> rfl⟩
  exact Cert.AttnRefIdeal.Rows.v122_eq fin t n

theorem ref_kv : Cert.AttnRefIdeal.Read.val_main_v123 (F := Ideal) (argQ m c) (argKV m c) (argKR m c) (argC m c) (argS m c) (argG m c) = resKV m c := by
  funext i
  obtain ⟨t, n, rfl⟩ : ∃ (t : Fin 4224) (n : Fin 4096), i = ix2 t n := ⟨i 0, i 1, by funext a; fin_cases a <;> rfl⟩
  exact Cert.AttnRefIdeal.Rows.v123_eq fin t n

theorem ref_kr : Cert.AttnRefIdeal.Read.val_main_v124 (F := Ideal) (argQ m c) (argKV m c) (argKR m c) (argC m c) (argS m c) (argG m c) = resKR m c := by
  funext i
  obtain ⟨h, t, n, rfl⟩ : ∃ (h : Fin 16) (t : Fin 4224) (n : Fin 128), i = ix3 h t n := ⟨i 0, i 1, i 2, by funext a; fin_cases a <;> rfl⟩
  exact Cert.AttnRefIdeal.Rows.v124_eq fin h t n

end Values

theorem algebraic [hp : Cert.Pre_finite_attn.Facts] : Cert.algebraic_AttnBwdIdeal_AttnRefIdeal_pre_finite_attn (hAttnBwdIdeal := Cert.AttnBwdIdeal.Gen.facts)
    (hAttnRefIdeal := Cert.AttnRefIdeal.Gen.facts) := by
  intro m ρ m' ρ' hpre hag
  have hf := fun c => fin6 hpre c
  refine ⟨fun c => resQ m c, fun c => resKV m c, fun c => resKR m c, ?_, ?_⟩
  · refine (θ_run _ _ _).mono (fun r h c => ?_) (θ_run_and (Cert.AttnBwdIdeal.Gen.frame_of m ρ (dats m) (A_eq m) (run_main m ρ)) (run_main m ρ))
    obtain ⟨h0, h1⟩ := h
    exact ⟨((h1 c).1 8).trans (final8 (hf c)), ((h1 c).1 9).trans (final9 (hf c)), ((h1 c).1 10).trans (final10 (hf c)), h0 c⟩
  · refine (θ_run _ _ _).mono (fun r h c => ?_) (Cert.AttnRefIdeal.Value.run (F := Ideal) m' ρ')
    obtain ⟨h0, h1, h2, h3⟩ := h c
    obtain ⟨a0, a1, a2, a3, a4, a5⟩ := hag c
    have b0 : StableHlo.launchContents m' c (Proc.devRef .tc Cert.AttnRefIdeal.main_arg0) = argQ m c := a0
    have b1 : StableHlo.launchContents m' c (Proc.devRef .tc Cert.AttnRefIdeal.main_arg1) = argKV m c := a1
    have b2 : StableHlo.launchContents m' c (Proc.devRef .tc Cert.AttnRefIdeal.main_arg2) = argKR m c := a2
    have b3 : StableHlo.launchContents m' c (Proc.devRef .tc Cert.AttnRefIdeal.main_arg3) = argC m c := a3
    have b4 : StableHlo.launchContents m' c (Proc.devRef .tc Cert.AttnRefIdeal.main_arg4) = argS m c := a4
    have b5 : StableHlo.launchContents m' c (Proc.devRef .tc Cert.AttnRefIdeal.main_arg5) = argG m c := a5
    refine ⟨h0.trans ?_, h1.trans ?_, h2.trans ?_, h3⟩
    · rw [Cert.AttnRefIdeal.Read.val_main_v122_eq, b0, b1, b2, b3, b4, b5]
      exact ref_q (hf c)
    · rw [Cert.AttnRefIdeal.Read.val_main_v123_eq, b0, b1, b2, b3, b4, b5]
      exact ref_kv (hf c)
    · rw [Cert.AttnRefIdeal.Read.val_main_v124_eq, b0, b1, b2, b3, b4, b5]
      exact ref_kr (hf c)

end Cert.Attn
-- ==== Proof.Rms.lean ====
/- The root-mean-square norm of the rows of a matrix and its gradient, as real formulas. -/
module

public import proofs.«01_k».proof.Proof.Reals
public import Idealize.ShloMosaic.Lib.Pointwise

@[expose] public section

noncomputable section

namespace Cert.Rms

open Idealize.ShloMosaic Cert.Reals

variable (w : ℕ)

/-- The mean of squares of row `r` plus the small constant. -/
def ms (X : ℕ → ℕ → ℝ) (r : ℕ) : ℝ := (∑ k : Fin w, X r k * X r k) / (w : ℝ) + eps

/-- The reciprocal root of `ms`. -/
def rs (X : ℕ → ℕ → ℝ) (r : ℕ) : ℝ := (Real.sqrt (ms w X r))⁻¹

/-- The norm at `(r, l)`. -/
def nrm (X : ℕ → ℕ → ℝ) (G : ℕ → ℝ) (r l : ℕ) : ℝ := X r l * rs w X r * G l

/-- The gradient of the norm at `(r, l)`. -/
def dx (X : ℕ → ℕ → ℝ) (G : ℕ → ℝ) (D : ℕ → ℕ → ℝ) (r l : ℕ) : ℝ :=
  rs w X r * (D r l * G l - X r l * rs w X r * ((∑ k : Fin w, D r k * G k * (X r k * rs w X r)) / (w : ℝ)))

/-- Row `r`'s part of the gradient of the norm's weight. -/
def dgRow (X D : ℕ → ℕ → ℝ) (r l : ℕ) : ℝ := D r l * (X r l * rs w X r)

variable {w}

theorem ms_pos (X : ℕ → ℕ → ℝ) (r : ℕ) : 0 < ms w X r :=
  add_pos_of_nonneg_of_pos (div_nonneg (Finset.sum_nonneg fun k _ => mul_self_nonneg _) (Nat.cast_nonneg w)) eps_pos

/-- The scale of a row as the ideal arithmetic computes it. -/
theorem rs_ideal {X : ℕ → ℕ → ℝ} (hw : (w : ℝ) ≠ 0) (r : ℕ) :
    Ideal.rsqrt (Ideal.div (((∑ k : Fin w, X r k * X r k : ℝ)) : EReal) ((w : ℝ) : EReal) + Ideal.ofBits .f32 0x358637BD#32) = (rs w X r : EReal) := by
  rw [div_coe hw, ofBits_eps, add_coe]
  exact rsqrt_pos (ms_pos X r)

/-- The same with the mean already a real number. -/
theorem rs_ideal' {X : ℕ → ℕ → ℝ} (r : ℕ) :
    Ideal.rsqrt ((((∑ k : Fin w, X r k * X r k) / (w : ℝ) : ℝ) : EReal) + Ideal.ofBits .f32 0x358637BD#32) = (rs w X r : EReal) := by
  rw [ofBits_eps, add_coe]
  exact rsqrt_pos (ms_pos X r)

/-- The two ways of writing the gradient of the norm agree. -/
theorem dx_eq (X D : ℕ → ℕ → ℝ) (G : ℕ → ℝ) (r l : ℕ) :
    D r l * G l * rs w X r + X r l * ((∑ k : Fin w, X r k * (D r k * G k)) * (-(1 / 2) * (rs w X r / ms w X r)) / (w : ℝ))
      + (∑ k : Fin w, X r k * (D r k * G k)) * (-(1 / 2) * (rs w X r / ms w X r)) / (w : ℝ) * X r l = dx w X G D r l := by
  have hs : rs w X r / ms w X r = rs w X r * (rs w X r * rs w X r) := by
    rw [div_eq_mul_inv]
    congr 1
    unfold rs
    rw [← mul_inv, Real.mul_self_sqrt (ms_pos X r).le]
  have hsum : ∑ k : Fin w, D r k * G k * (X r k * rs w X r) = (∑ k : Fin w, X r k * (D r k * G k)) * rs w X r := by
    rw [Finset.sum_mul]
    exact Finset.sum_congr rfl fun k _ => by ring
  unfold dx
  rw [hs, hsum]
  ring

/-- A matrix of reals with rows of zeros around it. -/
theorem pad_real {a b lo k n : ℕ} {x : (⟨2, ![a, b]⟩ : Shape).Idx → EReal} (f : ℕ → ℕ → ℝ) (hf : ∀ (r : Fin a) (l : Fin b), x (ix2 r l) = (f r l : EReal))
    {u : Shape} (v : u.Idx → EReal) (h : (⟨2, ![a, b]⟩ : Shape).Pads ![lo, 0] ![k, 0] ![0, 0] ⟨2, ![n, b]⟩) (hu : 0 < u.numel)
    (hv : v (Shape.Idx.first hu) = 0) (r : Fin n) (l : Fin b) :
    pad ⟨2, ![n, b]⟩ ![lo, 0] ![k, 0] ![0, 0] x v h hu (ix2 r l) = ((if lo ≤ r.val ∧ r.val < lo + a then f (r.val - lo) l else 0 : ℝ) : EReal) := by
  by_cases hr : lo ≤ r.val ∧ r.val < lo + a
  · rw [if_pos hr]
    refine (pad_apply_of_inside _ _ _ x v h hu (ix2 r l) (ix2 ⟨r.val - lo, by omega⟩ l) ?_).trans (hf ⟨r.val - lo, by omega⟩ l)
    intro c
    fin_cases c
    · show r.val = lo + (r.val - lo) * (0 + 1); omega
    · show l.val = 0 + l.val * (0 + 1); omega
  · rw [if_neg hr]
    refine (pad_apply_of_not_inside _ _ _ x v h hu (ix2 r l) 0 ?_).trans ?_
    · show ¬(lo ≤ r.val ∧ (r.val - lo) % (0 + 1) = 0 ∧ (r.val - lo) / (0 + 1) < a)
      omega
    · rw [hv, EReal.coe_zero]

end Cert.Rms
-- ==== Proof.Loss.lean ====
/- The loss and its gradient: the kernel's tiles as real formulas. -/
module

public import proofs.«01_k».proof.Proof.Gen.LossHeadIdeal.Value
public import proofs.«01_k».proof.Proof.Rms
public import proofs.«01_k».proof.Proof.Tile
public import Idealize.ShloMosaic.Lib.Pointwise
public import Idealize.ShloMosaic.Lib.Quiescent

@[expose] public section

noncomputable section

namespace Cert.Loss

open Idealize.ShloMosaic Cert.Reals Cert.Rms

/-! ## The real formulas -/

/-- The error at `(r, l)`: the norm less the target at the rows that are neither memory tokens nor filling. -/
def err (X : ℕ → ℕ → ℝ) (G : ℕ → ℝ) (T : ℕ → ℕ → ℝ) (r l : ℕ) : ℝ :=
  if 16 ≤ r ∧ r < 4112 then nrm 2048 X G r l - T (r - 16) l else 0

/-- Row `r`'s part of the loss. -/
def part (X : ℕ → ℕ → ℝ) (G : ℕ → ℝ) (T : ℕ → ℕ → ℝ) (r : ℕ) : ℝ :=
  (∑ k : Fin 2048, err X G T r k * err X G T r k) / ((2048 : ℕ) : ℝ)

/-- The gradient of the loss with respect to the norm. -/
def dy (X : ℕ → ℕ → ℝ) (G : ℕ → ℝ) (T : ℕ → ℕ → ℝ) (r l : ℕ) : ℝ := err X G T r l * (1 / 2048)

theorem ofBits_w : Ideal.ofBits .f32 0x45000000#32 = (((2048 : ℕ) : ℝ) : EReal) := by
  rw [ofBits_2048]; norm_num

theorem w_ne : ((2048 : ℕ) : ℝ) ≠ 0 := by norm_num

theorem ofBits_half : Ideal.ofBits .f32 0x3F000000#32 = ((1 / 2 : ℝ) : EReal) := by
  simp [Ideal.ofBits, Ideal.ieee]
  norm_cast
  norm_num

theorem ofBits_inv_w : Ideal.ofBits .f32 0x3A000000#32 = ((1 / 2048 : ℝ) : EReal) := by
  simp [Ideal.ofBits, Ideal.ieee]
  norm_cast
  norm_num

end Cert.Loss

namespace Cert.LossHeadIdeal.Tiles

open Idealize.ShloMosaic Idealize.SL.Sem Cert.LossHeadIdeal Cert.LossHeadIdeal.Gen Cert.Reals Cert.Rms Cert.Loss Cert.Tile
open Facts

/-! ## One tile -/

/-- Which rows count, as the kernel computes it from the tile and the row in it. -/
theorem mask : ∀ (a : Fin 11) (r : Fin 384), IntOp.andi
        (IntOp.cmpi CmpIPredicate.sge (IntOp.addi (Scalar.muli (BitVec.ofNat 32 a.val) 384#32) (BitVec.ofNat 32 r.val)) 16#32)
        (IntOp.cmpi CmpIPredicate.slt (IntOp.addi (Scalar.muli (BitVec.ofNat 32 a.val) 384#32) (BitVec.ofNat 32 r.val)) 4112#32)
      = BitVec.ofBool (decide (16 ≤ 384 * a.val + r.val ∧ 384 * a.val + r.val < 4112)) := by decide +kernel

section Tile

variable {X T : ℕ → ℕ → ℝ} {G : ℕ → ℝ} {n : ℕ} (i : grid0.Coords) (v0 : Vec Ideal S384x2048 .f32) (v2 : Vec Ideal S1x2048 .f32) (v25 : Vec Ideal S384x2048 .f32)
  (hn : n = 384 * (i 0).val) (hi : (i 0).val < 11)
  (h0 : ∀ (r : Fin 384) (l : Fin 2048), v0 (ix2 r l) = (X (n + r) l : EReal))
  (h2 : ∀ l : Fin 2048, v2 (ix2 0 l) = (G l : EReal))
  (h25 : ∀ (r : Fin 384) (l : Fin 2048), v25 (ix2 r l) = ((if 16 ≤ n + r.val ∧ n + r.val < 16 + 4096 then T (n + r.val - 16) l else 0 : ℝ) : EReal))

include h0 h2 h25 hn hi in
theorem pay12_eq (r : Fin 384) (l : Fin 2048) : k0_pay12 i v0 v2 v25 (ix2 r l) = (err X G T (n + r) l : EReal) := by
  pointwise [k0_pay12, k0_pay10, k0_pay11]
  simp only [h0, h2, h25, mul_coe, sum_coe, ofBits_w, rs_ideal w_ne, sub_coe]
  rw [mask ⟨(i 0).val, hi⟩ r]
  show Scalar.select (BitVec.ofBool (decide (16 ≤ 384 * (i 0).val + r.val ∧ 384 * (i 0).val + r.val < 4112))) _ _ = _
  rw [← hn]
  unfold err
  by_cases hc : 16 ≤ n + r.val ∧ n + r.val < 4112
  · rw [if_pos hc, if_pos (show 16 ≤ n + r.val ∧ n + r.val < 16 + 4096 from hc), decide_eq_true hc]
    exact if_pos rfl
  · rw [if_neg hc, if_neg hc, decide_eq_false hc, EReal.coe_zero]
    exact if_neg (by decide)

include h0 h2 h25 hn hi in
theorem pay13_eq : k0_pay13 i v0 v2 v25 (ix2 0 0) = ((∑ r : Fin 384, 1 / 2 * part X G T (n + r) : ℝ) : EReal) := by
  have key : ∀ (r : Fin 384) (l : Fin 2048), k0_pay12 i v0 v2 v25 (ix2 r l) = (err X G T (n + r) l : EReal) := pay12_eq i v0 v2 v25 hn hi h0 h2 h25
  unfold k0_pay13
  generalize k0_pay12 i v0 v2 v25 = e at key ⊢
  pointwise
  simp only [key, mul_coe, sum_coe, ofBits_w, div_coe w_ne, ofBits_half]
  rw [Finset.mul_sum]
  rfl

variable {E : ℕ → ℕ → ℝ} (v1 v31 : FVec Ideal S384x2048 .f32) (v3 : FVec Ideal S1x2048 .f32)
  (g1 : ∀ (r : Fin 384) (l : Fin 2048), v1 (ix2 r l) = (X (n + r) l : EReal))
  (g3 : ∀ l : Fin 2048, v3 (ix2 0 l) = (G l : EReal))
  (g31 : ∀ (r : Fin 384) (l : Fin 2048), v31 (ix2 r l) = (E (n + r) l : EReal))

include g1 g3 g31 in
theorem pay4_eq (r : Fin 384) (l : Fin 2048) :
    k0_pay4 v1 v3 v31 (Scalar.ofBits .f32 0x3A000000#32) (ix2 r l) = (Rms.dx 2048 X G (fun r l => E r l * (1 / 2048)) (n + r) l : EReal) := by
  pointwise [k0_pay4, k0_pay3, k0_pay2, k0_pay1]
  simp only [g1, g3, g31, mul_coe, sum_coe, ofBits_w, ofBits_inv_w, rs_ideal', div_coe w_ne, sub_coe]
  rfl

include g1 g31 in
theorem pay5_eq (l : Fin 2048) :
    k0_pay5 v1 v31 (Scalar.ofBits .f32 0x3A000000#32) (ix2 0 l) = ((∑ r : Fin 384, Rms.dgRow 2048 X (fun r l => E r l * (1 / 2048)) (n + r) l : ℝ) : EReal) := by
  pointwise [k0_pay5, k0_pay3, k0_pay2, k0_pay1]
  simp only [g1, g31, mul_coe, sum_coe, ofBits_w, ofBits_inv_w, rs_ideal w_ne]
  rfl

end Tile

/-! ## What the arrays hold when the kernel starts -/

abbrev Mem := (ℓ : Loc nD τ sig) → Buf (Elt Ideal) ℓ

variable (m : Mem) (c : Dev nD)

abbrev argX : S4112x2048.Idx → EReal := m ((c.tc : Thread nD τ).loc main_arg0)
abbrev argG : S2048.Idx → EReal := m ((c.tc : Thread nD τ).loc main_arg1)
abbrev argT : S4096x2048.Idx → EReal := m ((c.tc : Thread nD τ).loc main_arg2)

/-- The value the host pads with. -/
abbrev padv : S_.Idx → EReal := sitofp (F := Ideal) .f32 (constantI S_ 32 0#32)

theorem padv_zero (i : S_.Idx) : padv i = 0 := by
  show ((((0#32 : BitVec 32).toInt : ℝ)) : EReal) = 0
  simp

abbrev padX : S4224x2048.Idx → EReal := pad S4224x2048 ![0, 0] ![112, 0] ![0, 0] (argX m c) padv pads_S4112x2048_S4224x2048_01120_000 h_S_
abbrev padT : S4224x2048.Idx → EReal := pad S4224x2048 ![16, 0] ![112, 0] ![0, 0] (argT m c) padv pads_S4096x2048_S4224x2048_161120_000 h_S_

theorem hosts : V m c main_v0 = padX m c ∧ V m c main_v1 = padT m c ∧ V m c main_v2 = broadcastInDim S1x2048 ![1] bcast_S2048_S1x2048_1 (argG m c) := by
  refine ⟨?_, ?_, ?_⟩ <;>
  · simp only [V, hostOps0, hostOps0_1, hostOps0_2, hostOps0_3, hostOps0_4, List.flatten_cons, List.flatten_nil, List.append_nil,
      List.cons_append, List.nil_append]
    after_results
    try rfl

/-! ## The blocks -/

theorem idx : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) ∧ (win0_4.index t 0 = t.val ∧ win0_4.index t 1 = 0)
    ∧ (win0_5.index t 0 = t.val ∧ win0_5.index t 1 = 0) ∧ (win0_6.index t 0 = 0 ∧ win0_6.index t 1 = 0) := by
  decide +kernel
theorem coord0 : ∀ t : Fin cfg0.N, (grid0.coords t 0).val = t.val := by decide +kernel

theorem lt_N (t : Fin cfg0.N) : t.val < 11 := lt_of_lt_of_eq t.isLt N_0

theorem row_lt (t : Fin cfg0.N) (r : Fin 384) : 384 * t.val + r.val < 4224 := by
  have h : t.val < 11 := lt_N t
  omega

/-- Row `r` of tile `t`. -/
abbrev row (t : Fin cfg0.N) (r : Fin 384) : Fin 4224 := ⟨384 * t.val + r.val, row_lt t r⟩

theorem mul_row (t : Fin cfg0.N) (r : Fin 384) : (row t r).val = t.val * 384 + r.val := congrArg (· + r.val) (Nat.mul_comm _ _)

theorem iblk0 (t : Fin cfg0.N) (r : Fin 384) (l : Fin 2048) :
    (iblk m c 0 t : Vec Ideal S384x2048 .f32) (ix2 r l) = padX m c (ix2 (row t r) l) :=
  (tile2 (Val := Elt Ideal) (e := .f32) (V m c main_v0) _ (idx t).1 r l (row t r) l (mul_row t r) (by omega)).trans (congrFun (hosts m c).1 _)

theorem iblk1 (t : Fin cfg0.N) (r : Fin 384) (l : Fin 2048) :
    (iblk m c 1 t : Vec Ideal S384x2048 .f32) (ix2 r l) = padT m c (ix2 (row t r) l) :=
  (tile2 (Val := Elt Ideal) (e := .f32) (V m c main_v1) _ (idx t).2.1 r l (row t r) l (mul_row t r) (by omega)).trans (congrFun (hosts m c).2.1 _)

theorem iblk2 (t : Fin cfg0.N) (l : Fin 2048) :
    (iblk m c 2 t : Vec Ideal S1x2048 .f32) (ix2 0 l) = argG m c (ix1 l) := by
  refine (tile2 (Val := Elt Ideal) (e := .f32) (V m c main_v2) _ (idx t).2.2.1 0 l 0 l rfl (by omega)).trans ((congrFun (hosts m c).2.2 _).trans ?_)
  pointwise

/-! ## What each point leaves in the staging buffers -/

theorem hz : (![0, 0] : Fin 2 → Nat) = fun _ => 0 := by funext a; fin_cases a <;> rfl

/-- The error of tile `t`. -/
abbrev errT (t : Fin cfg0.N) : FVec Ideal S384x2048 .f32 := k0_pay12 (grid0.coords t) (iblk m c 0 t) (iblk m c 2 t) (iblk m c 1 t)
/-- The loss of tile `t`. -/
abbrev lossT (t : Fin cfg0.N) : FVec Ideal S1x1 .f32 := k0_pay13 (grid0.coords t) (iblk m c 0 t) (iblk m c 2 t) (iblk m c 1 t)

/-- The literal the error is scaled by. -/
abbrev lit : Ideal .f32 := Scalar.ofBits .f32 0x3A000000#32

theorem after_A (t : Fin cfg0.N) (h0 : t.val % 11 = 0) (h1 : ¬1 ≤ t.val) :
    outsAt0 m c t.val t.isLt = (k0_pay7 (lossT m c t), k0_pay4 (k0_pay10 (iblk m c 0 t)) (k0_pay11 (iblk m c 2 t)) (errT m c t) lit,
      k0_pay6 (k0_pay10 (iblk m c 0 t)) (k0_pay11 (iblk m c 2 t)) (errT m c t) lit, k0_pay5 (k0_pay10 (iblk m c 0 t)) (errT m c t) lit) := by
  rw [outsAt0_A m c t h0 h1]
  unfold out0_A_3 out0_A_4 out0_A_5 out0_A_6
  rw [View.read_writes_eq_canon _ _ _ (fun y => cover0_A_3 ..), View.read_writes_eq_canon _ _ _ (fun y => cover0_A_4 ..), View.read_writes_eq_canon _ _ _ (fun y => cover0_A_5 ..),
    View.read_writes_eq_canon _ _ _ (fun y => cover0_A_6 ..)]
  unfold kernelRun0_A; dsimp only; sl_unfold_words
  simp only [View.canon_unit_zero (S := S384x2048) hz, View.canon_unit_zero (S := S1x2048) hz, View.canon_unit_zero (S := S1x128) hz, View.readAt_eq_ld, Memref.IsWhole.read_unread, View.ld_unit_zero (S := S384x2048) hz,
    View.ld_unit_zero (S := S1x2048) hz, View.ld_unit_zero (S := S1x128) hz, shapeCast_self]

theorem after_B (t : Fin cfg0.N) (h0 : ¬t.val % 11 = 0) (h1 : 1 ≤ t.val) :
    outsAt0 m c t.val t.isLt = (k0_pay9 (lossT m c t) (outsAt0 m c (t.val - 1) (Nat.lt_of_le_of_lt (Nat.sub_le _ _) t.isLt)).1,
      k0_pay4 (k0_pay10 (iblk m c 0 t)) (k0_pay11 (iblk m c 2 t)) (errT m c t) lit,
      k0_pay6 (k0_pay10 (iblk m c 0 t)) (k0_pay11 (iblk m c 2 t)) (errT m c t) lit,
      k0_pay8 (k0_pay10 (iblk m c 0 t)) (errT m c t) lit (outsAt0 m c (t.val - 1) (Nat.lt_of_le_of_lt (Nat.sub_le _ _) t.isLt)).2.2.2) := by
  rw [outsAt0_B m c t h0 h1]
  unfold out0_B_3 out0_B_4 out0_B_5 out0_B_6
  rw [View.read_writes_eq_canon _ _ _ (fun y => cover0_B_3 ..), View.read_writes_eq_canon _ _ _ (fun y => cover0_B_4 ..), View.read_writes_eq_canon _ _ _ (fun y => cover0_B_5 ..),
    View.read_writes_eq_canon _ _ _ (fun y => cover0_B_6 ..)]
  unfold kernelRun0_B; dsimp only; sl_unfold_words
  simp only [View.canon_unit_zero (S := S384x2048) hz, View.canon_unit_zero (S := S1x2048) hz, View.canon_unit_zero (S := S1x128) hz, View.readAt_eq_ld, Memref.IsWhole.read_unread, View.ld_unit_zero (S := S384x2048) hz,
    View.ld_unit_zero (S := S1x2048) hz, View.ld_unit_zero (S := S1x128) hz, shapeCast_self]

/-- The two copies of the gradient after a point. -/
theorem after_dx (t : Fin cfg0.N) : (outsAt0 m c t.val t.isLt).2.1 = k0_pay4 (k0_pay10 (iblk m c 0 t)) (k0_pay11 (iblk m c 2 t)) (errT m c t) lit
    ∧ (outsAt0 m c t.val t.isLt).2.2.1 = k0_pay4 (k0_pay10 (iblk m c 0 t)) (k0_pay11 (iblk m c 2 t)) (errT m c t) lit := by
  have hN : t.val < 11 := lt_N t
  by_cases h1 : 1 ≤ t.val
  · rw [after_B m c t (by omega) h1]; exact ⟨rfl, rfl⟩
  · rw [after_A m c t (by omega) h1]; exact ⟨rfl, rfl⟩

theorem at_row (i : S4224x2048.Idx) : ∃ t r l, i = ix2 (row t r) l := by
  have hi : (i 0).val < 4224 := (i 0).isLt
  refine ⟨⟨(i 0).val / 384, lt_of_lt_of_eq (by omega) N_0.symm⟩, ⟨(i 0).val % 384, by omega⟩, i 1, ?_⟩
  funext a
  match a with
  | ⟨0, _⟩ => exact Fin.ext (Nat.div_add_mod _ _).symm
  | ⟨1, _⟩ => rfl

/-! ## The result arrays -/

/-- The arguments, finite. -/
structure Fin3 : Prop where
  x : ∀ i, ((argX m c i).toReal : EReal) = argX m c i
  g : ∀ i, ((argG m c i).toReal : EReal) = argG m c i
  t : ∀ i, ((argT m c i).toReal : EReal) = argT m c i

abbrev rX : ℕ → ℕ → ℝ := at2 (argX m c)
abbrev rG : ℕ → ℝ := at1 (argG m c)
abbrev rT : ℕ → ℕ → ℝ := at2 (argT m c)

/-- The loss, as the kernel leaves it. -/
def resLoss : S1x128.Idx → EReal := fun _ => ((∑ r ∈ Finset.range 4224, 1 / 2 * part (rX m c) (rG m c) (rT m c) r : ℝ) : EReal)

/-- The gradient, as the kernel leaves it. -/
def resDx : S4224x2048.Idx → EReal := fun i => (Rms.dx 2048 (rX m c) (rG m c) (dy (rX m c) (rG m c) (rT m c)) (i 0).val (i 1).val : EReal)

/-- The gradient of the weight, as the kernel leaves it. -/
def resDg : S1x2048.Idx → EReal := fun i =>
  ((∑ r ∈ Finset.range 4224, Rms.dgRow 2048 (rX m c) (dy (rX m c) (rG m c) (rT m c)) r (i 1).val : ℝ) : EReal)

variable {m c} (h : Fin3 m c)
include h

theorem blkX (t : Fin cfg0.N) (r : Fin 384) (l : Fin 2048) :
    (iblk m c 0 t : Vec Ideal S384x2048 .f32) (ix2 r l) = (rX m c (384 * t.val + r.val) l.val : EReal) :=
  (iblk0 m c t r l).trans (pad_rows h.x padv _ _ (padv_zero _) (row t r) l)

theorem blkT (t : Fin cfg0.N) (r : Fin 384) (l : Fin 2048) :
    (iblk m c 1 t : Vec Ideal S384x2048 .f32) (ix2 r l)
      = ((if 16 ≤ 384 * t.val + r.val ∧ 384 * t.val + r.val < 16 + 4096 then rT m c (384 * t.val + r.val - 16) l.val else 0 : ℝ) : EReal) :=
  (iblk1 m c t r l).trans (pad_real (rT m c) (fun r l => at2_coe h.t r l) padv _ _ (padv_zero _) (row t r) l)

theorem blkG (t : Fin cfg0.N) (l : Fin 2048) :
    (iblk m c 2 t : Vec Ideal S1x2048 .f32) (ix2 0 l) = (rG m c l.val : EReal) :=
  (iblk2 m c t l).trans (at1_coe h.g l)

theorem tile_err (t : Fin cfg0.N) (r : Fin 384) (l : Fin 2048) : errT m c t (ix2 r l) = (err (rX m c) (rG m c) (rT m c) (384 * t.val + r.val) l.val : EReal) :=
  pay12_eq (grid0.coords t) _ _ _ (by rw [coord0]) (by rw [coord0]; exact lt_N t) (blkX h t) (blkG h t) (blkT h t) r l

theorem tile_loss (t : Fin cfg0.N) : lossT m c t (ix2 0 0) = ((∑ r : Fin 384, 1 / 2 * part (rX m c) (rG m c) (rT m c) (384 * t.val + r.val) : ℝ) : EReal) :=
  pay13_eq (grid0.coords t) _ _ _ (by rw [coord0]) (by rw [coord0]; exact lt_N t) (blkX h t) (blkG h t) (blkT h t)

theorem pay10 (t : Fin cfg0.N) (r : Fin 384) (l : Fin 2048) :
    k0_pay10 (iblk m c 0 t : Vec Ideal S384x2048 .f32) (ix2 r l) = (rX m c (384 * t.val + r.val) l.val : EReal) := by
  rw [← blkX h t r l]; unfold k0_pay10; rw [shapeCast_self]

theorem pay11 (t : Fin cfg0.N) (l : Fin 2048) :
    k0_pay11 (iblk m c 2 t : Vec Ideal S1x2048 .f32) (ix2 0 l) = (rG m c l.val : EReal) := by
  rw [← blkG h t l]; unfold k0_pay11; rw [shapeCast_self]

theorem tile_dx (t : Fin cfg0.N) (r : Fin 384) (l : Fin 2048) :
    k0_pay4 (k0_pay10 (iblk m c 0 t)) (k0_pay11 (iblk m c 2 t)) (errT m c t) lit (ix2 r l) = resDx m c (ix2 (row t r) l) :=
  pay4_eq _ _ _ (pay10 h t) (pay11 h t) (tile_err h t) r l

theorem tile_dg (t : Fin cfg0.N) (l : Fin 2048) :
    k0_pay5 (k0_pay10 (iblk m c 0 t)) (errT m c t) lit (ix2 0 l)
      = ((∑ r : Fin 384, Rms.dgRow 2048 (rX m c) (dy (rX m c) (rG m c) (rT m c)) (384 * t.val + r.val) l.val : ℝ) : EReal) :=
  pay5_eq _ _ (pay10 h t) (tile_err h t) l

/-- After point `n` the first output holds the loss of the rows of the tiles up to `n`. -/
theorem after_loss : ∀ (n : ℕ) (hn : n < cfg0.N) (l : Fin 128), (outsAt0 m c n hn).1 (ix2 0 l)
      = ((∑ r ∈ Finset.range (384 * (n + 1)), 1 / 2 * part (rX m c) (rG m c) (rT m c) r : ℝ) : EReal)
  | 0, hn, l => by
    have hA := after_A m c ⟨0, hn⟩ rfl (by simp)
    rw [hA]
    show k0_pay7 (lossT m c ⟨0, hn⟩) (ix2 0 l) = _
    rw [sum_tile, Nat.mul_zero, Finset.range_zero, Finset.sum_empty, zero_add]
    refine Eq.trans ?_ (tile_loss h ⟨0, hn⟩)
    generalize lossT m c ⟨0, hn⟩ = y
    pointwise [k0_pay7]
  | n + 1, hn, l => by
    have hN : n + 1 < 11 := lt_of_lt_of_eq hn N_0
    have hB := after_B m c ⟨n + 1, hn⟩ (by show ¬(n + 1) % 11 = 0; omega) (Nat.le_add_left 1 n)
    rw [hB]
    have ih := after_loss n (Nat.lt_of_succ_lt hn) l
    have e := tile_loss h ⟨n + 1, hn⟩
    show k0_pay9 (lossT m c ⟨n + 1, hn⟩) (outsAt0 m c n _).1 (ix2 0 l) = _
    rw [sum_tile, ← add_coe, ← ih, ← e]
    generalize lossT m c ⟨n + 1, hn⟩ = y
    pointwise [k0_pay9]

/-- After point `n` the fourth output holds the sum over the rows of the tiles up to `n`. -/
theorem after_dg : ∀ (n : ℕ) (hn : n < cfg0.N) (l : Fin 2048), (outsAt0 m c n hn).2.2.2 (ix2 0 l)
      = ((∑ r ∈ Finset.range (384 * (n + 1)), Rms.dgRow 2048 (rX m c) (dy (rX m c) (rG m c) (rT m c)) r l.val : ℝ) : EReal)
  | 0, hn, l => by
    have hA := after_A m c ⟨0, hn⟩ rfl (by simp)
    rw [hA]
    show k0_pay5 (k0_pay10 (iblk m c 0 ⟨0, hn⟩)) (errT m c ⟨0, hn⟩) lit (ix2 0 l) = _
    rw [sum_tile, tile_dg h ⟨0, hn⟩]
    simp
  | n + 1, hn, l => by
    have hN : n + 1 < 11 := lt_of_lt_of_eq hn N_0
    have hB := after_B m c ⟨n + 1, hn⟩ (by show ¬(n + 1) % 11 = 0; omega) (Nat.le_add_left 1 n)
    rw [hB]
    have ih := after_dg n (Nat.lt_of_succ_lt hn) l
    have e := tile_dg h ⟨n + 1, hn⟩ l
    show k0_pay8 (k0_pay10 (iblk m c 0 ⟨n + 1, hn⟩)) (errT m c ⟨n + 1, hn⟩) lit (outsAt0 m c n _).2.2.2 (ix2 0 l) = _
    rw [sum_tile, ← add_coe, ← ih, ← e]
    unfold k0_pay8
    generalize k0_pay5 (k0_pay10 (iblk m c 0 ⟨n + 1, hn⟩)) (errT m c ⟨n + 1, hn⟩) lit = y
    pointwise

theorem final_dx : (dats m 0 c).arrAt 4 cfg0.N = resDx m c := by
  funext i
  obtain ⟨t, r, l, rfl⟩ := at_row i
  refine (tile2 ((dats m 0 c).arrAt 4 cfg0.N) _ (idx t).2.2.2.2.1 r l (row t r) l (mul_row t r) (by omega)).symm.trans
    ((congrFun (Value.blocks4 m c t (flush0_4 t)) (ix2 r l)).trans ?_)
  rw [Value.flushed4, (after_dx m c t).1]
  exact tile_dx h t r l

theorem final_dxb : (dats m 0 c).arrAt 5 cfg0.N = resDx m c := by
  funext i
  obtain ⟨t, r, l, rfl⟩ := at_row i
  refine (tile2 ((dats m 0 c).arrAt 5 cfg0.N) _ (idx t).2.2.2.2.2.1 r l (row t r) l (mul_row t r) (by omega)).symm.trans
    ((congrFun (Value.blocks5 m c t (flush0_5 t)) (ix2 r l)).trans ?_)
  rw [Value.flushed5, (after_dx m c t).2]
  exact tile_dx h t r l

theorem flushed_loss (t : Fin cfg0.N) (hf : (cfg0.win 3).flush t = true) :
    (dats m 0 c).flushed 3 t = ((cfg0.win 3).blk t).view.read (Elt Ideal) (resLoss m c) := by
  have hN : t.val < 11 := lt_N t
  have ht : t.val = 10 := by have := (flush0_3 t).mp hf; omega
  rw [Value.flushed3]
  funext j
  obtain ⟨r, l, rfl⟩ : ∃ (r : Fin 1) (l : Fin 128), j = ix2 r l := ⟨j 0, j 1, by funext a; fin_cases a <;> rfl⟩
  obtain rfl : r = 0 := Subsingleton.elim _ _
  rw [View.read_apply]
  show (outsAt0 m c t.val t.isLt).1 (ix2 0 l) = resLoss m c (ix2 0 l)
  rw [after_loss h, ht]
  rfl

theorem flushed_dg (t : Fin cfg0.N) (hf : (cfg0.win 6).flush t = true) :
    (dats m 0 c).flushed 6 t = ((cfg0.win 6).blk t).view.read (Elt Ideal) (resDg m c) := by
  have hN : t.val < 11 := lt_N t
  have ht : t.val = 10 := by have := (flush0_6 t).mp hf; omega
  rw [Value.flushed6]
  funext j
  obtain ⟨r, l, rfl⟩ : ∃ (r : Fin 1) (l : Fin 2048), j = ix2 r l := ⟨j 0, j 1, by funext a; fin_cases a <;> rfl⟩
  obtain rfl : r = 0 := Subsingleton.elim _ _
  rw [View.read_apply]
  show (outsAt0 m c t.val t.isLt).2.2.2 (ix2 0 l) = resDg m c _
  rw [after_dg h, ht]
  unfold resDg
  have hl : l.val = (((cfg0.win 6).blk t).view.emb (ix2 0 l) 1).val := ?_
  · rw [← hl]
  show l.val = win0_6.index t 1 * 2048 + 1 * l.val
  rw [(idx t).2.2.2.2.2.2.2]; omega

theorem final_loss : (dats m 0 c).arrAt 3 cfg0.N = resLoss m c :=
  (dats m 0 c).arrAt_eq_of_cover 3 (resLoss m c) (fun t hf => flushed_loss h t hf) fun i => by
    have h0 : (i 0 : Nat) < 1 := (i 0).isLt
    have h1 : (i 1 : Nat) < 128 := (i 1).isLt
    refine ⟨⟨10, by decide⟩, (flush0_3 _).mpr rfl, ?_⟩
    generalize (⟨10, _⟩ : Fin cfg0.N) = q
    show i ∈ ((View.whole main_v3_0).slice (win0_3.rect q)).set
    rw [View.set_slice_whole, Rect.mem_set_unit]
    intro a
    match a with
    | ⟨0, _⟩ => show win0_3.index q 0 * 1 ≤ (i 0 : Nat) ∧ (i 0 : Nat) < win0_3.index q 0 * 1 + 1; rw [(idx q).2.2.2.1.1]; omega
    | ⟨1, _⟩ => show win0_3.index q 1 * 128 ≤ (i 1 : Nat) ∧ (i 1 : Nat) < win0_3.index q 1 * 128 + 128; rw [(idx q).2.2.2.1.2]; omega

theorem final_dg : (dats m 0 c).arrAt 6 cfg0.N = resDg m c :=
  (dats m 0 c).arrAt_eq_of_cover 6 (resDg m c) (fun t hf => flushed_dg h t hf) fun i => by
    have h0 : (i 0 : Nat) < 1 := (i 0).isLt
    have h1 : (i 1 : Nat) < 2048 := (i 1).isLt
    refine ⟨⟨10, by decide⟩, (flush0_6 _).mpr rfl, ?_⟩
    generalize (⟨10, _⟩ : Fin cfg0.N) = q
    show i ∈ ((View.whole main_v3_3).slice (win0_6.rect q)).set
    rw [View.set_slice_whole, Rect.mem_set_unit]
    intro a
    match a with
    | ⟨0, _⟩ => show win0_6.index q 0 * 1 ≤ (i 0 : Nat) ∧ (i 0 : Nat) < win0_6.index q 0 * 1 + 1; rw [(idx q).2.2.2.2.2.2.1]; omega
    | ⟨1, _⟩ => show win0_6.index q 1 * 2048 ≤ (i 1 : Nat) ∧ (i 1 : Nat) < win0_6.index q 1 * 2048 + 2048; rw [(idx q).2.2.2.2.2.2.2]; omega

end Cert.LossHeadIdeal.Tiles
-- ==== Proof.LossRef.lean ====
/- The loss and its gradient as `jax.vjp` writes them, as the same real formulas. -/
module

public import proofs.«01_k».proof.Proof.Gen.LossRefIdeal.Run
public import proofs.«01_k».proof.Proof.Gen.LossRefIdeal.Read
public import proofs.«01_k».proof.Proof.Loss

@[expose] public section

noncomputable section

namespace Cert.LossRefIdeal.Rows

open Idealize.ShloMosaic Cert.LossRefIdeal Cert.LossRefIdeal.Gen Cert.LossRefIdeal.Read Cert.Reals Cert.Rms Cert.Loss
open Facts

theorem ofBits_two : Ideal.ofBits .f32 0x40000000#32 = ((2 : ℝ) : EReal) := by
  simp [Ideal.ofBits, Ideal.ieee]
  norm_cast
  norm_num

theorem ofBits_one : Ideal.ofBits .f32 0x3F800000#32 = ((1 : ℝ) : EReal) := by
  simp [Ideal.ofBits, Ideal.ieee]
  norm_cast
  norm_num

variable (x : S4112x2048.Idx → EReal) (g : S2048.Idx → EReal) (t : S4096x2048.Idx → EReal)
  (hx : ∀ i, ((x i).toReal : EReal) = x i) (hg : ∀ i, ((g i).toReal : EReal) = g i) (ht : ∀ i, ((t i).toReal : EReal) = t i)

include hx in
theorem v7_eq (r : Fin 4112) (z : Fin 1) : val_main_v7 (F := Ideal) x (ix2 r z) = (rs 2048 (at2 x) r : EReal) := by
  obtain rfl : z = 0 := Subsingleton.elim _ _
  pointwise [val_main_v7, val_main_v6, val_main_v5, val_main_v4, val_main_v3, val_main_v2, val_main_v1, val_main_v0, val_main_cst, val_main_cst_0, val_main_cst_1]
  simp only [at2_coe hx, mul_coe, sum_coe, ofBits_w]
  exact rs_ideal w_ne r

include hx in
theorem v8_eq (r : Fin 4112) (z : Fin 1) : val_main_v8 (F := Ideal) x (ix2 r z) = ((rs 2048 (at2 x) r / ms 2048 (at2 x) r : ℝ) : EReal) := by
  obtain rfl : z = 0 := Subsingleton.elim _ _
  have e6 : val_main_v6 (F := Ideal) x (ix2 r 0) = (ms 2048 (at2 x) r : EReal) := by
    pointwise [val_main_v6, val_main_v5, val_main_v4, val_main_v3, val_main_v2, val_main_v1, val_main_v0, val_main_cst, val_main_cst_0, val_main_cst_1]
    simp only [at2_coe hx, mul_coe, sum_coe, ofBits_w, div_coe w_ne, ofBits_eps, add_coe]
    rfl
  rw [val_main_v8_apply, v7_eq x hx, e6]
  exact div_coe (ms_pos _ _).ne'

include hx hg in
theorem v15_eq (r : Fin 4112) (l : Fin 2048) : val_main_v15 (F := Ideal) x g (ix2 r l) = (nrm 2048 (at2 x) (at1 g) r l : EReal) := by
  have key := v7_eq x hx
  pointwise [val_main_v15, val_main_v14, val_main_v13, val_main_v12, val_main_v11]
  rw [key, at2_coe hx, at1_coe hg]
  simp only [mul_coe]
  rfl

include hx hg ht in
theorem v17_eq (r : Fin 4096) (l : Fin 2048) : val_main_v17 (F := Ideal) x g t (ix2 r l) = (err (at2 x) (at1 g) (at2 t) (r + 16) l : EReal) := by
  have hr : r.val + 16 < 4112 := by omega
  have e : idx_main_v16 (ix2 r l) = ix2 (⟨r.val + 16, hr⟩ : Fin 4112) l := by
    funext a
    apply Fin.ext
    match a with
    | ⟨0, _⟩ => show 16 + r.val = r.val + 16; omega
    | ⟨1, _⟩ => rfl
  rw [val_main_v17_apply, val_main_v16_apply, e, v15_eq x g hx hg, at2_coe ht]
  refine (sub_coe _ _).trans (congrArg Real.toEReal ?_)
  unfold err
  rw [if_pos ⟨by omega, hr⟩, Nat.add_sub_cancel]

include hx hg ht in
theorem v54_eq (l : Fin 128) :
    val_main_v54 (F := Ideal) x g t (ix2 0 l) = ((1 / 2 * ∑ r : Fin 4096, part (at2 x) (at1 g) (at2 t) (r.val + 16) : ℝ) : EReal) := by
  have key := v17_eq x g t hx hg ht
  pointwise [val_main_v54, val_main_v25, val_main_v24, val_main_v23, val_main_v22, val_main_v21, val_main_v18, val_main_cst_3, val_main_cst_4, val_main_cst_5,
    val_main_cst_6, val_main_cst_7]
  simp only [key, mul_coe, sum_coe, ofBits_w, ofBits_half, div_coe w_ne]
  rfl

include hx hg ht in
theorem v31_eq (r : Fin 4096) (l : Fin 2048) :
    val_main_v31 (F := Ideal) x g t (ix2 r l) = (dy (at2 x) (at1 g) (at2 t) (r.val + 16) l : EReal) := by
  have key := v17_eq x g t hx hg ht
  pointwise [val_main_v31, val_main_v30, val_main_v29, val_main_v28, val_main_v27, val_main_v26, val_main_v20, val_main_v19, val_main_cst_3, val_main_cst_8, val_main_cst_9,
    val_main_cst_10]
  rw [key]
  simp only [ofBits_half, ofBits_one, ofBits_two, ofBits_w, mul_coe, div_coe w_ne]
  refine congrArg Real.toEReal ?_
  unfold dy
  push_cast
  ring

include hx hg ht in
theorem v32_eq (r : Fin 4112) (l : Fin 2048) :
    val_main_v32 (F := Ideal) x g t (ix2 r l) = (dy (at2 x) (at1 g) (at2 t) r l : EReal) := by
  have key := v31_eq x g t hx hg ht
  unfold val_main_v32
  refine (pad_real (fun r l => dy (at2 x) (at1 g) (at2 t) (r + 16) l) key _ _ _ (Ideal.ofBits_zero .f32) r l).trans (congrArg Real.toEReal ?_)
  split
  · next hr => show dy _ _ _ (r.val - 16 + 16) _ = _; rw [Nat.sub_add_cancel hr.1]
  · next hr =>
    have hr' : ¬(16 ≤ r.val ∧ r.val < 4112) := by omega
    unfold dy err
    rw [if_neg hr', zero_mul]

include hx hg ht in
theorem v52_eq (r : Fin 4112) (l : Fin 2048) :
    val_main_v52 (F := Ideal) x g t (ix2 r l) = (Rms.dx 2048 (at2 x) (at1 g) (dy (at2 x) (at1 g) (at2 t)) r l : EReal) := by
  have k7 := v7_eq x hx
  have k8 := v8_eq x hx
  have k32 := v32_eq x g t hx hg ht
  pointwise [val_main_v52, val_main_v51, val_main_v50, val_main_v49, val_main_v48, val_main_v47, val_main_v46, val_main_v45, val_main_v44, val_main_v43, val_main_v42,
    val_main_v41, val_main_v40, val_main_v39, val_main_v37, val_main_v36, val_main_v13, val_main_v10, val_main_v9, val_main_cst_2, val_main_cst_14, val_main_cst_15, val_main_cst_16]
  rw [← dx_eq]
  simp only [k7, k8, k32, at2_coe hx, at1_coe hg, mul_coe, sum_coe, ofBits_w, ofBits_neg_half, div_coe w_ne, add_coe, add_assoc,
    Finset.univ_unique, Finset.sum_singleton]

include hx hg ht in
theorem v56_eq (l : Fin 2048) : val_main_v56 (F := Ideal) x g t (ix2 0 l)
      = ((∑ r ∈ Finset.range 4112, Rms.dgRow 2048 (at2 x) (dy (at2 x) (at1 g) (at2 t)) r l : ℝ) : EReal) := by
  have k7 := v7_eq x hx
  have k32 := v32_eq x g t hx hg ht
  pointwise [val_main_v56, val_main_v38, val_main_v35, val_main_v34, val_main_v33, val_main_v12, val_main_v11, val_main_cst_12, val_main_cst_13]
  simp only [k7, k32, at2_coe hx, mul_coe, sum_coe, Finset.univ_unique, Finset.sum_singleton]
  rw [Finset.sum_range fun r => Rms.dgRow 2048 (at2 x) (dy (at2 x) (at1 g) (at2 t)) r l]
  refine congrArg Real.toEReal (Finset.sum_congr rfl fun r _ => ?_)
  unfold Rms.dgRow
  ring

end Cert.LossRefIdeal.Rows
-- ==== Proof.LossClaim.lean ====
/- The claims about the loss and its gradient, assembled. -/
module

public import proofs.«01_k».proof.Defs
public import proofs.«01_k».proof.Proof.Gen.LossHead.Frame
public import proofs.«01_k».proof.Proof.Loss
public import proofs.«01_k».proof.Proof.LossRef

@[expose] public section

noncomputable section

namespace Cert.Pre_finite_loss

open Idealize.ShloMosaic

theorem facts : Facts where
  bcast_S_S4112x2048 := by decide
  reducesTo_S4112x2048_S_d0_1 := by decide
  h_S_ := by decide
  bcast_S_S2048 := by decide
  reducesTo_S2048_S_d0 := by decide
  bcast_S_S4096x2048 := by decide
  reducesTo_S4096x2048_S_d0_1 := by decide

end Cert.Pre_finite_loss

namespace Cert.Loss

open Idealize.ShloMosaic Idealize.SL.Sem Cert.Reals Cert.Rms

instance : Subsingleton Cert.Pre_finite_loss.S_.Idx := ⟨fun a b => funext fun i => i.elim0⟩

/-- The precondition says that the last layer's output, the norm's weight and the target are finite. -/
theorem fin3 [Cert.Pre_finite_loss.Facts] {m : Cert.LossHeadIdeal.Tiles.Mem} (h : Cert.Pre_LossHeadIdeal_finite_loss m) (c : Dev Cert.LossHeadIdeal.nD) :
    Cert.LossHeadIdeal.Tiles.Fin3 m c := by
  have e := congrFun (h c) (fun i => i.elim0)
  dsimp only [Cert.Pre_finite_loss.fn] at e
  obtain ⟨e', e3⟩ := andi_one _ _ _ e
  obtain ⟨e1, e2⟩ := andi_one _ _ _ e'
  exact ⟨fun i => finite_of_cmpf (Host.reduce_andi_all _ _ _ _ _ e1 i), fun i => finite_of_cmpf (Host.reduce_andi_all _ _ _ _ _ e2 i),
    fun i => finite_of_cmpf (Host.reduce_andi_all _ _ _ _ _ e3 i)⟩

/-- The reference runs and leaves its arguments and the semaphores as they were. -/
theorem quiescent_ref : Cert.quiescent_LossRefIdeal (hLossRefIdeal := Cert.LossRefIdeal.Gen.facts) := fun m ρ _ =>
  (θ_run _ _ _).mono (fun r h => ⟨fun c => (h c).2.2.2.2, sem_eq_zero_of_no_sems (by decide) r.2⟩) (Cert.LossRefIdeal.Value.run (F := Ideal) m ρ)

/-- The padded zero of the host. -/
theorem host_zero (i : Cert.LossRefIdeal.S_.Idx) : Cert.LossRefIdeal.Read.val_main_call0_v0 (F := Ideal) i = 0 := by
  show ((((0#32 : BitVec 32).toInt : ℝ)) : EReal) = 0
  simp

/-- A sum over the padded rows is a sum over the rows that count. -/
theorem sum_mid (f : ℕ → ℝ) (out : ∀ r, ¬(16 ≤ r ∧ r < 4112) → f r = 0) :
    1 / 2 * ∑ r : Fin 4096, f (r.val + 16) = ∑ r ∈ Finset.range 4224, 1 / 2 * f r := by
  rw [← Finset.mul_sum, sum_range_zero f (show 4112 ≤ 4224 by norm_num) fun r hr => out r (by omega), show 4112 = 16 + 4096 from rfl, Finset.sum_range_add,
    Finset.sum_eq_zero fun r hr => out r (by have := Finset.mem_range.1 hr; omega), zero_add, Finset.sum_range fun r => f (16 + r)]
  exact congrArg _ (Finset.sum_congr rfl fun r _ => by rw [Nat.add_comm])

section Values

variable {m : Cert.LossHeadIdeal.Tiles.Mem} {c : Dev Cert.LossHeadIdeal.nD} (h : Cert.LossHeadIdeal.Tiles.Fin3 m c)
open Cert.LossHeadIdeal.Tiles
include h

theorem ref_loss : Cert.LossRefIdeal.Read.val_main_v54 (F := Ideal) (argX m c) (argG m c) (argT m c) = resLoss m c := by
  funext i
  obtain ⟨r, l, rfl⟩ : ∃ (r : Fin 1) (l : Fin 128), i = ix2 r l := ⟨i 0, i 1, by funext a; fin_cases a <;> rfl⟩
  obtain rfl : r = 0 := Subsingleton.elim _ _
  rw [Cert.LossRefIdeal.Rows.v54_eq _ _ _ h.x h.g h.t]
  unfold resLoss
  refine congrArg Real.toEReal ?_
  refine sum_mid (part (rX m c) (rG m c) (rT m c)) fun r hr => ?_
  unfold part err
  simp only [if_neg hr, mul_zero, Finset.sum_const_zero, zero_div]

theorem ref_dx : Cert.LossRefIdeal.Read.val_main_v53 (F := Ideal) (argX m c) (argG m c) (argT m c) = resDx m c := by
  funext i
  obtain ⟨r, l, rfl⟩ : ∃ (r : Fin 4224) (l : Fin 2048), i = ix2 r l := ⟨i 0, i 1, by funext a; fin_cases a <;> rfl⟩
  unfold Cert.LossRefIdeal.Read.val_main_v53
  refine (pad_real _ (Cert.LossRefIdeal.Rows.v52_eq (argX m c) (argG m c) (argT m c) h.x h.g h.t) _ _ _ (host_zero _) r l).trans ?_
  show _ = ((Rms.dx 2048 (rX m c) (rG m c) (dy (rX m c) (rG m c) (rT m c)) r.val l.val : ℝ) : EReal)
  refine congrArg Real.toEReal ?_
  by_cases hr : 0 ≤ r.val ∧ r.val < 0 + 4112
  · rw [if_pos hr]; rfl
  · have e : 4112 ≤ r.val := by omega
    rw [if_neg hr]
    unfold Rms.dx
    rw [show dy (rX m c) (rG m c) (rT m c) r.val = fun _ => 0 from funext fun k => by unfold dy err; rw [if_neg (by omega), zero_mul]]
    simp

theorem ref_dg : Cert.LossRefIdeal.Read.val_main_v56 (F := Ideal) (argX m c) (argG m c) (argT m c) = resDg m c := by
  funext i
  obtain ⟨r, l, rfl⟩ : ∃ (r : Fin 1) (l : Fin 2048), i = ix2 r l := ⟨i 0, i 1, by funext a; fin_cases a <;> rfl⟩
  obtain rfl : r = 0 := Subsingleton.elim _ _
  rw [Cert.LossRefIdeal.Rows.v56_eq _ _ _ h.x h.g h.t]
  unfold resDg
  refine congrArg Real.toEReal (sum_range_zero _ (by norm_num) fun r hr => ?_).symm
  unfold Rms.dgRow dy err
  rw [if_neg (by omega), zero_mul, zero_mul]

end Values

theorem algebraic [hp : Cert.Pre_finite_loss.Facts] : Cert.algebraic_LossHeadIdeal_LossRefIdeal_pre_finite_loss (hLossHeadIdeal := Cert.LossHeadIdeal.Gen.facts)
    (hLossRefIdeal := Cert.LossRefIdeal.Gen.facts) := by
  intro m ρ m' ρ' hpre hag
  have hf := fun c => fin3 hpre c
  refine ⟨fun c => Cert.LossHeadIdeal.Tiles.resLoss m c, fun c => Cert.LossHeadIdeal.Tiles.resDx m c, fun c => Cert.LossHeadIdeal.Tiles.resDx m c,
    fun c => Cert.LossHeadIdeal.Tiles.resDg m c, ?_, ?_⟩
  · refine (θ_run _ _ _).mono (fun r h c => ?_) (Cert.LossHeadIdeal.Value.run_blocks m ρ)
    obtain ⟨h0, h1, h2, h3, h4⟩ := h c
    exact ⟨h0.trans (Cert.LossHeadIdeal.Tiles.final_loss (hf c)), h1.trans (Cert.LossHeadIdeal.Tiles.final_dx (hf c)),
      h2.trans (Cert.LossHeadIdeal.Tiles.final_dxb (hf c)), h3.trans (Cert.LossHeadIdeal.Tiles.final_dg (hf c)), h4⟩
  · refine (θ_run _ _ _).mono (fun r h c => ?_) (Cert.LossRefIdeal.Value.run (F := Ideal) m' ρ')
    obtain ⟨h0, h1, h2, h3, h4⟩ := h c
    obtain ⟨a0, a1, a2⟩ := hag c
    refine ⟨h0.trans ?_, h1.trans ?_, h2.trans ?_, h3.trans ?_, h4⟩
    · rw [Cert.LossRefIdeal.Read.val_main_v54_eq, a0, a1, a2]
      exact ref_loss (hf c)
    · rw [Cert.LossRefIdeal.Read.val_main_v53_eq, a0, a1, a2]
      exact ref_dx (hf c)
    · rw [Cert.LossRefIdeal.Read.val_main_v55_eq, a0, a1, a2]
      exact ref_dx (hf c)
    · rw [Cert.LossRefIdeal.Read.val_main_v56_eq, a0, a1, a2]
      exact ref_dg (hf c)

end Cert.Loss
-- ==== Proof.Prep.lean ====
/- The gradient of the two latent norms and of the shared rotary key: the kernel's tiles as real formulas. -/
module

public import proofs.«01_k».proof.Proof.Gen.PrepBwdIdeal.Value
public import proofs.«01_k».proof.Proof.Rms
public import proofs.«01_k».proof.Proof.Tile
public import Idealize.ShloMosaic.Lib.Quiescent

@[expose] public section

noncomputable section

namespace Cert.Prep

open Idealize.ShloMosaic Cert.Reals Cert.Rms

/-! ## The real formulas -/

/-- A rank-3 array of reals, zero outside. -/
def at3 {a b e : ℕ} (x : (⟨3, ![a, b, e]⟩ : Shape).Idx → EReal) (h r l : ℕ) : ℝ :=
  if hh : h < a ∧ r < b ∧ l < e then (x (ix3 ⟨h, hh.1⟩ ⟨r, hh.2.1⟩ ⟨l, hh.2.2⟩)).toReal else 0

theorem at3_coe {a b e : ℕ} {x : (⟨3, ![a, b, e]⟩ : Shape).Idx → EReal} (hx : ∀ i, ((x i).toReal : EReal) = x i) (h : Fin a) (r : Fin b) (l : Fin e) :
    x (ix3 h r l) = (at3 x h r l : EReal) := by
  unfold at3
  rw [dif_pos ⟨h.isLt, r.isLt, l.isLt⟩]
  exact (hx _).symm

theorem at3_out {a b e : ℕ} (x : (⟨3, ![a, b, e]⟩ : Shape).Idx → EReal) {h r l : ℕ} (hh : ¬(h < a ∧ r < b ∧ l < e)) : at3 x h r l = 0 := dif_neg hh

/-- The sum over the heads. -/
def heads (K : ℕ → ℕ → ℕ → ℝ) (r l : ℕ) : ℝ := ∑ h : Fin 16, K h r l

/-- The gradient of the rotation at `(r, l)`. -/
def unrot (S C N : ℕ → ℕ → ℝ) (r l : ℕ) : ℝ :=
  if l < 32 then S r l * C r l + S r (l + 32) * N r l else if l < 64 then S r l * C r (l - 32) - S r (l - 32) * N r (l - 32) else 0

/-- The gradient of the projection at `(r, l)`. -/
def dproj (Q K : ℕ → ℕ → ℝ) (GQ GK : ℕ → ℝ) (DQ DK S C N : ℕ → ℕ → ℝ) (r l : ℕ) : ℝ :=
  if l < 512 then Rms.dx 512 Q GQ DQ r l else if l < 1024 then Rms.dx 512 K GK DK r (l - 512) else unrot S C N r (l - 1024)

theorem ofBits_w : Ideal.ofBits .f32 0x44000000#32 = (((512 : ℕ) : ℝ) : EReal) := by
  simp [Ideal.ofBits, Ideal.ieee]
  norm_cast
  norm_num

theorem w_ne : ((512 : ℕ) : ℝ) ≠ 0 := by norm_num

end Cert.Prep

namespace Cert.PrepBwdIdeal.Tiles

open Idealize.ShloMosaic Idealize.SL.Sem Cert.PrepBwdIdeal Cert.PrepBwdIdeal.Gen Cert.Reals Cert.Rms Cert.Prep
open Facts Cert.Tile

/-! ## One tile -/

section Tile

variable {Q K DQ DK : ℕ → ℕ → ℝ} {GQ GK : ℕ → ℝ} {n : ℕ} (v0 : Vec Ideal S384x1152 .f32) (v2 v32 : Vec Ideal S384x512 .f32) (v5 v35 : Vec Ideal S1x512 .f32)
  (hq : ∀ (r : Fin 384) (l : Fin 512), v0 (ix2 r ⟨l.val, by omega⟩) = (Q (n + r) l : EReal))
  (hk : ∀ (r : Fin 384) (l : Fin 512), v0 (ix2 r ⟨512 + l.val, by omega⟩) = (K (n + r) l : EReal))
  (h2 : ∀ (r : Fin 384) (l : Fin 512), v2 (ix2 r l) = (DQ (n + r) l : EReal))
  (h5 : ∀ l : Fin 512, v5 (ix2 0 l) = (GQ l : EReal))
  (h32 : ∀ (r : Fin 384) (l : Fin 512), v32 (ix2 r l) = (DK (n + r) l : EReal))
  (h35 : ∀ l : Fin 512, v35 (ix2 0 l) = (GK l : EReal))

include hq in
theorem pay5_eq (r : Fin 384) (l : Fin 512) : k0_pay5 v0 (ix2 r l) = (Q (n + r) l : EReal) := by
  rw [← hq]
  pointwise [k0_pay5, k0_pay3]

include hk in
theorem pay11_eq (r : Fin 384) (l : Fin 512) : k0_pay11 v0 (ix2 r l) = (K (n + r) l : EReal) := by
  rw [← hk]
  pointwise [k0_pay11, k0_pay3]

include hq h2 h5 in
theorem pay8_eq (r : Fin 384) (l : Fin 512) : k0_pay8 v0 v2 v5 (ix2 r l) = (Rms.dx 512 Q GQ DQ (n + r) l : EReal) := by
  have key : ∀ (r : Fin 384) (l : Fin 512), k0_pay5 v0 (ix2 r l) = (Q (n + r) l : EReal) := pay5_eq v0 hq
  unfold k0_pay8 k0_pay7 k0_pay6 k0_pay4
  generalize k0_pay5 v0 = x at key ⊢
  pointwise
  simp only [key, h2, h5, mul_coe, sum_coe, ofBits_w, rs_ideal', div_coe w_ne, sub_coe]
  rfl

include hq h2 in
theorem pay9_eq (l : Fin 512) : k0_pay9 v0 v2 (ix2 0 l) = ((∑ r : Fin 384, Rms.dgRow 512 Q DQ (n + r) l : ℝ) : EReal) := by
  have key : ∀ (r : Fin 384) (l : Fin 512), k0_pay5 v0 (ix2 r l) = (Q (n + r) l : EReal) := pay5_eq v0 hq
  unfold k0_pay9 k0_pay7 k0_pay6 k0_pay4
  generalize k0_pay5 v0 = x at key ⊢
  pointwise
  simp only [key, h2, mul_coe, sum_coe, ofBits_w, rs_ideal', div_coe w_ne]
  rfl

include hk h32 h35 in
theorem pay17_eq (r : Fin 384) (l : Fin 512) :
    k0_pay17 (k0_pay10 v32) (k0_pay11 v0) (k0_pay12 v35) (k0_pay13 v0) k0_pay14 (ix2 r l) = (Rms.dx 512 K GK DK (n + r) l : EReal) := by
  have key : ∀ (r : Fin 384) (l : Fin 512), k0_pay11 v0 (ix2 r l) = (K (n + r) l : EReal) := pay11_eq v0 hk
  unfold k0_pay17 k0_pay16 k0_pay15 k0_pay14 k0_pay13 k0_pay12 k0_pay10
  generalize k0_pay11 v0 = x at key ⊢
  pointwise
  simp only [key, h32, h35, mul_coe, sum_coe, ofBits_w, rs_ideal', div_coe w_ne, sub_coe]
  rfl

include hk h32 in
theorem pay18_eq (l : Fin 512) :
    k0_pay18 (k0_pay10 v32) (k0_pay11 v0) (k0_pay13 v0) k0_pay14 (ix2 0 l) = ((∑ r : Fin 384, Rms.dgRow 512 K DK (n + r) l : ℝ) : EReal) := by
  have key : ∀ (r : Fin 384) (l : Fin 512), k0_pay11 v0 (ix2 r l) = (K (n + r) l : EReal) := pay11_eq v0 hk
  unfold k0_pay18 k0_pay16 k0_pay15 k0_pay14 k0_pay13 k0_pay10
  generalize k0_pay11 v0 = x at key ⊢
  pointwise
  simp only [key, h32, mul_coe, sum_coe, ofBits_w, rs_ideal', div_coe w_ne]
  rfl

variable {KR : ℕ → ℕ → ℕ → ℝ} (v : Fin 16 → Vec Ideal S1x384x128 .f32)
  (hv : ∀ (h : Fin 16) (r : Fin 384) (l : Fin 128), v h (ix3 0 r l) = (KR h (n + r) l : EReal))

/-- The kernel's sum over the heads. -/
abbrev sumH : FVec Ideal S384x128 .f32 :=
  k0_pay20 (k0_pay19 (v 0) (v 1) (v 2) (v 3) (v 4) (v 5)) (v 6) (v 7) (v 8) (v 9) (v 10) (v 11) (v 12) (v 13) (v 14) (v 15)

include hv in
theorem sumH_eq (r : Fin 384) (l : Fin 128) : sumH v (ix2 r l) = (heads KR (n + r) l : EReal) := by
  pointwise [k0_pay20, k0_pay19]
  simp only [hv, add_coe]
  refine congrArg Real.toEReal ?_
  unfold heads
  simp only [Fin.sum_univ_succ, Fin.sum_univ_zero]
  simp only [add_zero, ← add_assoc]
  rfl

/-- Which lanes are in the first half of their group of 64, as the kernel computes it. -/
theorem firstHalf : ∀ n : Fin 128, IntOp.cmpi CmpIPredicate.slt
      (Scalar.select
        (IntOp.andi
          (IntOp.xori
            (IntOp.cmpi CmpIPredicate.slt
              (IntOp.remsi ArithUnit.vector (BitVec.ofNat 32 n.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32)
              0#32))
          (IntOp.cmpi CmpIPredicate.ne
            (IntOp.remsi ArithUnit.vector (BitVec.ofNat 32 n.val)
              (Scalar.select (Scalar.cmpi CmpIPredicate.eq 64#32 0#32) 1#32 64#32))
            0#32))
        (IntOp.addi
          (IntOp.remsi ArithUnit.vector (BitVec.ofNat 32 n.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 n.val)
          (Scalar.select (Scalar.cmpi CmpIPredicate.eq 64#32 0#32) 1#32 64#32)))
      32#32 = BitVec.ofBool (decide (n.val % 64 < 32)) := by decide +kernel

theorem select_bool {α : Type} (p : Prop) [Decidable p] (a b : α) : Scalar.select (BitVec.ofBool (decide p)) a b = if p then a else b := by
  by_cases h : p
  · rw [if_pos h, decide_eq_true h]; exact if_pos rfl
  · rw [if_neg h, decide_eq_false h]; exact if_neg (by decide)

variable {A B S C N : ℕ → ℕ → ℝ} (w28 w58 : FVec Ideal S384x512 .f32) (w108 : FVec Ideal S384x128 .f32) (w109 w111 : Vec Ideal S384x128 .f32)
  (g28 : ∀ (r : Fin 384) (l : Fin 512), w28 (ix2 r l) = (A (n + r) l : EReal))
  (g58 : ∀ (r : Fin 384) (l : Fin 512), w58 (ix2 r l) = (B (n + r) l : EReal))
  (g108 : ∀ (r : Fin 384) (l : Fin 128), w108 (ix2 r l) = (S (n + r) l : EReal))
  (g109 : ∀ (r : Fin 384) (l : Fin 128), w109 (ix2 r l) = (C (n + r) (l.val % 32) : EReal))
  (g111 : ∀ (r : Fin 384) (l : Fin 128), w111 (ix2 r l) = (N (n + r) (l.val % 32) : EReal))
  (hS : ∀ r l, 64 ≤ l → S r l = 0)

include g28 g58 g108 g109 g111 hS in
theorem pay21_eq (r : Fin 384) (l : Fin 1152) : k0_pay21 w28 w58 w108 w109 w111 (ix2 r l)
    = ((if l.val < 512 then A (n + r) l else if l.val < 1024 then B (n + r) (l.val - 512) else unrot S C N (n + r) (l.val - 1024) : ℝ) : EReal) := by
  obtain ⟨z, hz, key⟩ : ∃ z : FVec Ideal S384x128 .f32, k0_pay21 w28 w58 w108 w109 w111
      = truncf .bf16 (concatenate S384x1152 1 [⟨S384x512, w28⟩, ⟨S384x512, w58⟩, ⟨S384x128, z⟩] concatenates_S384x512_S384x512_S384x128_S384x1152_d1) bitsLt_bf16_f32
      ∧ ∀ (r : Fin 384) (l : Fin 128), z (ix2 r l) = (unrot S C N (n + r) l : EReal) := by
    refine ⟨_, rfl, fun r l => ?_⟩
    pointwise []
    rw [firstHalf l]
    simp only [g108, g109, g111, select_bool]
    unfold unrot
    by_cases h1 : l.val < 32
    · rw [if_pos h1, if_pos (by omega), Nat.mod_eq_of_lt h1, show (l.val + 128 - 96) % 128 = l.val + 32 by omega, zero_sub, ← EReal.coe_neg, mul_coe, mul_coe, sub_coe]
      refine congrArg Real.toEReal ?_
      ring
    by_cases h2 : l.val < 64
    · rw [if_neg h1, if_pos h2, if_neg (by omega), show l.val % 32 = l.val - 32 by omega, show (l.val + 128 - 32) % 128 = l.val - 32 by omega, mul_coe, mul_coe, sub_coe]
    rw [if_neg h1, if_neg h2, hS _ l.val (by omega)]
    split
    · rw [hS _ ((l.val + 128 - 96) % 128) (by omega), zero_sub, ← EReal.coe_neg, mul_coe, mul_coe, sub_coe]
      refine congrArg Real.toEReal ?_
      ring
    · rw [hS _ ((l.val + 128 - 32) % 128) (by omega), mul_coe, mul_coe, sub_coe]
      refine congrArg Real.toEReal ?_
      ring
  rw [hz]
  pointwise []
  split
  · exact g28 r _
  split
  · next h => rw [if_pos (show l.val < 1024 by omega)]; exact g58 r _
  · next h =>
    rw [if_neg (show ¬l.val < 1024 by omega), key]
    show ((unrot S C N (n + r.val) (l.val - 512 - 512) : ℝ) : EReal) = _
    rw [Nat.sub_sub]

end Tile

/-! ## What the arrays hold when the kernel starts -/

abbrev Mem := (ℓ : Loc nD τ sig) → Buf (Elt Ideal) ℓ

variable (m : Mem) (c : Dev nD)

abbrev argP : S4112x1088.Idx → EReal := m ((c.tc : Thread nD τ).loc main_arg0)
abbrev argGQ : S512.Idx → EReal := m ((c.tc : Thread nD τ).loc main_arg1)
abbrev argGK : S512.Idx → EReal := m ((c.tc : Thread nD τ).loc main_arg2)
abbrev argC : S4112x32.Idx → EReal := m ((c.tc : Thread nD τ).loc main_arg3)
abbrev argN : S4112x32.Idx → EReal := m ((c.tc : Thread nD τ).loc main_arg4)
abbrev argDQ : S4112x512.Idx → EReal := m ((c.tc : Thread nD τ).loc main_arg5)
abbrev argDK : S4112x512.Idx → EReal := m ((c.tc : Thread nD τ).loc main_arg6)
abbrev argKR : S16x4112x64.Idx → EReal := m ((c.tc : Thread nD τ).loc main_arg7)

/-- The value the host pads with. -/
abbrev padv : S_.Idx → EReal := sitofp (F := Ideal) .f32 (constantI S_ 32 0#32)

theorem padv_zero (i : S_.Idx) : padv i = ((0 : ℝ) : EReal) := by
  show ((((0#32 : BitVec 32).toInt : ℝ)) : EReal) = _
  simp

theorem lit_zero : FloatOps.sitofp (F := Ideal) FTy.f32 (0#32 : BitVec 32) = ((0 : ℝ) : EReal) := padv_zero (Shape.Idx.first h_S_)

/-- A rotary table, four times side by side and padded. -/
abbrev tiled (x : S4112x32.Idx → EReal) : S4224x128.Idx → EReal :=
  pad S4224x128 ![0, 0] ![112, 0] ![0, 0] (shapeCast S4112x128 (broadcastInDim S1x4112x4x32 ![0, 1, 2, 3] bcast_S1x4112x1x32_S1x4112x4x32_0_1_2_3
    (shapeCast S1x4112x1x32 x shapeCasts_S4112x32_S1x4112x1x32)) shapeCasts_S1x4112x4x32_S4112x128) padv pads_S4112x128_S4224x128_01120_000 h_S_

theorem hosts : V m c main_v11 = pad S4224x1152 ![0, 0] ![112, 64] ![0, 0] (argP m c) padv pads_S4112x1088_S4224x1152_01120_0640 h_S_
    ∧ V m c main_v0 = pad S16x4224x128 ![0, 0, 0] ![0, 112, 64] ![0, 0, 0] (argKR m c) padv pads_S16x4112x64_S16x4224x128_000_01120_0640 h_S_
    ∧ V m c main_v4 = tiled (argC m c)
    ∧ V m c main_v8 = tiled (argN m c)
    ∧ V m c main_v9 = pad S4224x512 ![0, 0] ![112, 0] ![0, 0] (argDQ m c) padv pads_S4112x512_S4224x512_01120_000 h_S_
    ∧ V m c main_v10 = pad S4224x512 ![0, 0] ![112, 0] ![0, 0] (argDK m c) padv pads_S4112x512_S4224x512_01120_000 h_S_
    ∧ V m c main_v12 = broadcastInDim S1x512 ![1] bcast_S512_S1x512_1 (argGQ m c)
    ∧ V m c main_v13 = broadcastInDim S1x512 ![1] bcast_S512_S1x512_1 (argGK m c) := by
  refine ⟨?_, ?_, ?_, ?_, ?_, ?_, ?_, ?_⟩ <;>
    (simp only [V, hostOps0, hostOps0_1, hostOps0_2, hostOps0_3, hostOps0_4, hostOps0_5, hostOps0_6, hostOps0_7, hostOps0_8, hostOps0_9, hostOps0_10,
      hostOps0_11, hostOps0_12, List.flatten_cons, List.flatten_nil, List.append_nil, List.cons_append, List.nil_append]
     after_results
     try rfl)

structure Fin8 : Prop where
  p : ∀ i, ((argP m c i).toReal : EReal) = argP m c i
  gq : ∀ i, ((argGQ m c i).toReal : EReal) = argGQ m c i
  gk : ∀ i, ((argGK m c i).toReal : EReal) = argGK m c i
  co : ∀ i, ((argC m c i).toReal : EReal) = argC m c i
  si : ∀ i, ((argN m c i).toReal : EReal) = argN m c i
  dq : ∀ i, ((argDQ m c i).toReal : EReal) = argDQ m c i
  dk : ∀ i, ((argDK m c i).toReal : EReal) = argDK m c i
  kr : ∀ i, ((argKR m c i).toReal : EReal) = argKR m c i

abbrev rQ : ℕ → ℕ → ℝ := at2 (argP m c)
abbrev rK : ℕ → ℕ → ℝ := fun r l => at2 (argP m c) r (512 + l)

section In

variable {m c} (h : Fin8 m c)
include h

theorem in_p (r : Fin 4224) (l : Fin 1152) : (V m c main_v11 : S4224x1152.Idx → EReal) (ix2 r l) = (at2 (argP m c) r l : EReal) := by
  rw [(hosts m c).1]
  pointwise []
  simp only [at2_coe h.p]
  rw [lit_zero]
  split
  · rfl
  · refine congrArg Real.toEReal ?_
    unfold at2
    rw [dif_neg (by omega)]

theorem in_kr (k : Fin 16) (r : Fin 4224) (l : Fin 128) : (V m c main_v0 : S16x4224x128.Idx → EReal) (ix3 k r l) = (at3 (argKR m c) k r l : EReal) := by
  rw [(hosts m c).2.1]
  pointwise []
  simp only [at3_coe h.kr]
  rw [lit_zero]
  split
  · rfl
  · exact congrArg Real.toEReal (at3_out _ (by omega)).symm

theorem in_c (r : Fin 4224) (l : Fin 128) : (V m c main_v4 : S4224x128.Idx → EReal) (ix2 r l) = (at2 (argC m c) r (l.val % 32) : EReal) := by
  rw [(hosts m c).2.2.1]
  pointwise []
  simp only [at2_coe h.co]
  rw [lit_zero]
  split
  · rfl
  · refine congrArg Real.toEReal ?_
    unfold at2
    rw [dif_neg (by omega)]

theorem in_n (r : Fin 4224) (l : Fin 128) : (V m c main_v8 : S4224x128.Idx → EReal) (ix2 r l) = (at2 (argN m c) r (l.val % 32) : EReal) := by
  rw [(hosts m c).2.2.2.1]
  pointwise []
  simp only [at2_coe h.si]
  rw [lit_zero]
  split
  · rfl
  · refine congrArg Real.toEReal ?_
    unfold at2
    rw [dif_neg (by omega)]

theorem in_dq (r : Fin 4224) (l : Fin 512) : (V m c main_v9 : S4224x512.Idx → EReal) (ix2 r l) = (at2 (argDQ m c) r l : EReal) := by
  rw [(hosts m c).2.2.2.2.1]
  exact pad_rows h.dq padv _ _ (padv_zero _) r l

theorem in_dk (r : Fin 4224) (l : Fin 512) : (V m c main_v10 : S4224x512.Idx → EReal) (ix2 r l) = (at2 (argDK m c) r l : EReal) := by
  rw [(hosts m c).2.2.2.2.2.1]
  exact pad_rows h.dk padv _ _ (padv_zero _) r l

theorem in_gq (l : Fin 512) : (V m c main_v12 : S1x512.Idx → EReal) (ix2 0 l) = (at1 (argGQ m c) l : EReal) := by
  rw [(hosts m c).2.2.2.2.2.2.1, ← at1_coe h.gq]
  pointwise []

theorem in_gk (l : Fin 512) : (V m c main_v13 : S1x512.Idx → EReal) (ix2 0 l) = (at1 (argGK m c) l : EReal) := by
  rw [(hosts m c).2.2.2.2.2.2.2, ← at1_coe h.gk]
  pointwise []

end In

/-! ## The blocks -/

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx3 : ∀ t : Fin cfg0.N, win0_3.index t 0 = t.val ∧ win0_3.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx8 : ∀ t : Fin cfg0.N, win0_8.index t 0 = t.val ∧ win0_8.index t 1 = 0 := by decide +kernel
theorem idx2 : ∀ t : Fin cfg0.N, win0_2.index t 0 = 0 ∧ win0_2.index t 1 = t.val ∧ win0_2.index t 2 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel

theorem lt_N (t : Fin cfg0.N) : t.val < 11 := lt_of_lt_of_eq t.isLt N_0

theorem row_lt (t : Fin cfg0.N) (r : Fin 384) : 384 * t.val + r.val < 4224 := by
  have h : t.val < 11 := lt_N t
  omega

/-- Row `r` of tile `t`. -/
abbrev row (t : Fin cfg0.N) (r : Fin 384) : Fin 4224 := ⟨384 * t.val + r.val, row_lt t r⟩

/-- Every entry lies in some tile. -/
theorem at_row {b : ℕ} (i : (⟨2, ![4224, b]⟩ : Shape).Idx) : ∃ (t : Fin cfg0.N) (r : Fin 384) (l : Fin b), i = ix2 (row t r) l := by
  have h : (i 0 : Nat) < 4224 := (i 0).isLt
  refine ⟨⟨(i 0 : Nat) / 384, lt_of_lt_of_eq (by omega) N_0.symm⟩, ⟨(i 0 : Nat) % 384, by omega⟩, i 1, ?_⟩
  funext a
  match a with
  | ⟨0, _⟩ => exact Fin.ext (Nat.div_add_mod _ 384).symm
  | ⟨1, _⟩ => rfl

section Blocks

variable {m c} (h : Fin8 m c)
include h

theorem blk0 (t : Fin cfg0.N) (r : Fin 384) (l : Fin 512) :
    (iblk m c 0 t : Vec Ideal S384x512 .f32) (ix2 r l) = (at2 (argDQ m c) (384 * t.val + r.val) l : EReal) :=
  (tile2 (V m c main_v9) _ (idx0 t) r l (row t r) l (congrArg (· + r.val) (Nat.mul_comm _ _)) (by omega)).trans (in_dq h (row t r) l)

theorem blk1 (t : Fin cfg0.N) (r : Fin 384) (l : Fin 512) :
    (iblk m c 1 t : Vec Ideal S384x512 .f32) (ix2 r l) = (at2 (argDK m c) (384 * t.val + r.val) l : EReal) :=
  (tile2 (V m c main_v10) _ (idx1 t) r l (row t r) l (congrArg (· + r.val) (Nat.mul_comm _ _)) (by omega)).trans (in_dk h (row t r) l)

theorem blk2 (t : Fin cfg0.N) (k : Fin 16) (r : Fin 384) (l : Fin 128) :
    (iblk m c 2 t : Vec Ideal S16x384x128 .f32) (ix3 k r l) = (at3 (argKR m c) k (384 * t.val + r.val) l : EReal) := by
  rw [← in_kr h k (row t r) l]
  unfold iblk; rw [View.read_apply]
  show V m c main_v0 _ = V m c main_v0 _
  congr 1
  funext a
  apply Fin.ext
  match a with
  | ⟨0, _⟩ => show win0_2.index t 0 * 16 + 1 * k.val = k.val; rw [(idx2 t).1]; omega
  | ⟨1, _⟩ => show win0_2.index t 1 * 384 + 1 * r.val = 384 * t.val + r.val; rw [(idx2 t).2.1]; omega
  | ⟨2, _⟩ => show win0_2.index t 2 * 128 + 1 * l.val = l.val; rw [(idx2 t).2.2]; omega

theorem blk3 (t : Fin cfg0.N) (r : Fin 384) (l : Fin 1152) :
    (iblk m c 3 t : Vec Ideal S384x1152 .f32) (ix2 r l) = (at2 (argP m c) (384 * t.val + r.val) l : EReal) :=
  (tile2 (V m c main_v11) _ (idx3 t) r l (row t r) l (congrArg (· + r.val) (Nat.mul_comm _ _)) (by omega)).trans (in_p h (row t r) l)

theorem blk4 (t : Fin cfg0.N) (l : Fin 512) :
    (iblk m c 4 t : Vec Ideal S1x512 .f32) (ix2 0 l) = (at1 (argGQ m c) l : EReal) :=
  (tile2 (V m c main_v12) _ (idx4 t) 0 l 0 l rfl (by omega)).trans (in_gq h l)

theorem blk5 (t : Fin cfg0.N) (l : Fin 512) :
    (iblk m c 5 t : Vec Ideal S1x512 .f32) (ix2 0 l) = (at1 (argGK m c) l : EReal) :=
  (tile2 (V m c main_v13) _ (idx5 t) 0 l 0 l rfl (by omega)).trans (in_gk h l)

theorem blk6 (t : Fin cfg0.N) (r : Fin 384) (l : Fin 128) :
    (iblk m c 6 t : Vec Ideal S384x128 .f32) (ix2 r l) = (at2 (argC m c) (384 * t.val + r.val) (l.val % 32) : EReal) :=
  (tile2 (V m c main_v4) _ (idx6 t) r l (row t r) l (congrArg (· + r.val) (Nat.mul_comm _ _)) (by omega)).trans (in_c h (row t r) l)

theorem blk7 (t : Fin cfg0.N) (r : Fin 384) (l : Fin 128) :
    (iblk m c 7 t : Vec Ideal S384x128 .f32) (ix2 r l) = (at2 (argN m c) (384 * t.val + r.val) (l.val % 32) : EReal) :=
  (tile2 (V m c main_v8) _ (idx7 t) r l (row t r) l (congrArg (· + r.val) (Nat.mul_comm _ _)) (by omega)).trans (in_n h (row t r) l)

end Blocks

/-! ## What each point leaves in the staging buffers -/

theorem hz : (![0, 0] : Fin 2 → Nat) = fun _ => 0 := by funext a; fin_cases a <;> rfl

theorem inbH : ∀ (k : Fin 16) (a : Fin 3), (![k.val, 0, 0] : Fin 3 → Nat) a + S1x384x128.size a ≤ S16x384x128.size a := by decide

/-- Head `k` of tile `t` of the rotary key's cotangent. -/
abbrev kr (t : Fin cfg0.N) (k : Fin 16) : Vec Ideal S1x384x128 .f32 :=
  View.ld (iblk m c 2 t : Vec Ideal S16x384x128 .f32) (Rect.unit (s := S16x384x128) ![k.val, 0, 0] ![1, 384, 128] (inbH k))

abbrev tQ (t : Fin cfg0.N) : FVec Ideal S384x512 .f32 := k0_pay8 (iblk m c 3 t) (iblk m c 0 t) (iblk m c 4 t)
abbrev tK (t : Fin cfg0.N) : FVec Ideal S384x512 .f32 :=
  k0_pay17 (k0_pay10 (iblk m c 1 t)) (k0_pay11 (iblk m c 3 t)) (k0_pay12 (iblk m c 5 t)) (k0_pay13 (iblk m c 3 t)) k0_pay14
abbrev tP (t : Fin cfg0.N) : FVec Ideal S384x1152 .bf16 := k0_pay21 (tQ m c t) (tK m c t) (sumH (kr m c t)) (iblk m c 6 t) (iblk m c 7 t)
abbrev gQ (t : Fin cfg0.N) : FVec Ideal S1x512 .f32 := k0_pay9 (iblk m c 3 t) (iblk m c 0 t)
abbrev gK (t : Fin cfg0.N) : FVec Ideal S1x512 .f32 := k0_pay18 (k0_pay10 (iblk m c 1 t)) (k0_pay11 (iblk m c 3 t)) (k0_pay13 (iblk m c 3 t)) k0_pay14

theorem after_A (t : Fin cfg0.N) (h0 : t.val % 11 = 0) (h1 : ¬1 ≤ t.val) :
    outsAt0 m c t.val t.isLt = (tP m c t, gQ m c t,
      gK m c t) := by
  rw [outsAt0_A m c t h0 h1]
  unfold out0_A_8 out0_A_9 out0_A_10
  rw [View.read_writes_eq_canon _ _ _ (fun y => cover0_A_8 ..), View.read_writes_eq_canon _ _ _ (fun y => cover0_A_9 ..),
    View.read_writes_eq_canon _ _ _ (fun y => cover0_A_10 ..)]
  unfold kernelRun0_A; dsimp only; sl_unfold_words
  simp only [View.canon_unit_zero (S := S384x1152) hz, View.canon_unit_zero (S := S1x512) hz, View.readAt_eq_ld, Memref.IsWhole.read_unread, View.ld_unit_zero (S := S384x1152) hz,
    View.ld_unit_zero (S := S1x512) hz, View.ld_unit_zero (S := S384x512) hz, View.ld_unit_zero (S := S384x128) hz, shapeCast_self]
  rfl

theorem after_B (t : Fin cfg0.N) (h0 : ¬t.val % 11 = 0) (h1 : 1 ≤ t.val) :
    outsAt0 m c t.val t.isLt = (tP m c t, k0_pay1 (gQ m c t) (outsAt0 m c (t.val - 1) (Nat.lt_of_le_of_lt (Nat.sub_le _ _) t.isLt)).2.1,
      k0_pay2 (gK m c t) (outsAt0 m c (t.val - 1) (Nat.lt_of_le_of_lt (Nat.sub_le _ _) t.isLt)).2.2) := by
  rw [outsAt0_B m c t h0 h1]
  unfold out0_B_8 out0_B_9 out0_B_10
  rw [View.read_writes_eq_canon _ _ _ (fun y => cover0_B_8 ..), View.read_writes_eq_canon _ _ _ (fun y => cover0_B_9 ..),
    View.read_writes_eq_canon _ _ _ (fun y => cover0_B_10 ..)]
  unfold kernelRun0_B; dsimp only; sl_unfold_words
  simp only [View.canon_unit_zero (S := S384x1152) hz, View.canon_unit_zero (S := S1x512) hz, View.readAt_eq_ld, Memref.IsWhole.read_unread, View.ld_unit_zero (S := S384x1152) hz,
    View.ld_unit_zero (S := S1x512) hz, View.ld_unit_zero (S := S384x512) hz, View.ld_unit_zero (S := S384x128) hz, shapeCast_self]
  rfl

/-! ## The result arrays -/

abbrev val : ℕ → ℕ → ℝ := dproj (rQ m c) (rK m c) (at1 (argGQ m c)) (at1 (argGK m c)) (at2 (argDQ m c)) (at2 (argDK m c)) (heads (at3 (argKR m c))) (at2 (argC m c)) (at2 (argN m c))

/-- The gradient of the projection, as the kernel leaves it. -/
def resDp : S4224x1152.Idx → EReal := fun i => (val m c (i 0).val (i 1).val : EReal)

/-- The gradient of the query norm's weight, as the kernel leaves it. -/
def resQ : S1x512.Idx → EReal := fun i => ((∑ r ∈ Finset.range 4224, Rms.dgRow 512 (rQ m c) (at2 (argDQ m c)) r (i 1).val : ℝ) : EReal)

/-- The gradient of the key and value norm's weight, as the kernel leaves it. -/
def resK : S1x512.Idx → EReal := fun i => ((∑ r ∈ Finset.range 4224, Rms.dgRow 512 (rK m c) (at2 (argDK m c)) r (i 1).val : ℝ) : EReal)

section Res

variable {m c} (h : Fin8 m c)
include h

theorem blkQ (t : Fin cfg0.N) (r : Fin 384) (l : Fin 512) :
    (iblk m c 3 t : Vec Ideal S384x1152 .f32) (ix2 r ⟨l.val, by omega⟩) = (rQ m c (384 * t.val + r.val) l.val : EReal) := blk3 h t r ⟨l.val, by omega⟩
theorem blkK (t : Fin cfg0.N) (r : Fin 384) (l : Fin 512) :
    (iblk m c 3 t : Vec Ideal S384x1152 .f32) (ix2 r ⟨512 + l.val, by omega⟩) = (rK m c (384 * t.val + r.val) l.val : EReal) := blk3 h t r ⟨512 + l.val, by omega⟩

theorem kr_eq (t : Fin cfg0.N) (k : Fin 16) (r : Fin 384) (l : Fin 128) : kr m c t k (ix3 0 r l) = (at3 (argKR m c) k (384 * t.val + r.val) l : EReal) := by
  rw [← blk2 h t k r l]
  refine View.ld_unit_apply_of _ _ _ _ _ _ fun a => ?_
  match a with
  | ⟨0, _⟩ => rfl
  | ⟨1, _⟩ => show r.val = 0 + r.val; omega
  | ⟨2, _⟩ => show l.val = 0 + l.val; omega

theorem heads_out (r l : ℕ) (hl : 64 ≤ l) : heads (at3 (argKR m c)) r l = 0 :=
  Finset.sum_eq_zero fun _ _ => at3_out _ (by omega)

theorem tile_p (t : Fin cfg0.N) (r : Fin 384) (l : Fin 1152) : tP m c t (ix2 r l) = resDp m c (ix2 (row t r) l) :=
  pay21_eq _ _ _ _ _ (pay8_eq _ _ _ (blkQ h t) (blk0 h t) (blk4 h t)) (pay17_eq _ _ _ (blkK h t) (blk1 h t) (blk5 h t)) (sumH_eq _ (kr_eq h t)) (blk6 h t) (blk7 h t)
    (heads_out h) r l

theorem tile_gq (t : Fin cfg0.N) (l : Fin 512) : gQ m c t (ix2 0 l) = ((∑ r : Fin 384, Rms.dgRow 512 (rQ m c) (at2 (argDQ m c)) (384 * t.val + r.val) l.val : ℝ) : EReal) :=
  pay9_eq _ _ (blkQ h t) (blk0 h t) l

theorem tile_gk (t : Fin cfg0.N) (l : Fin 512) : gK m c t (ix2 0 l) = ((∑ r : Fin 384, Rms.dgRow 512 (rK m c) (at2 (argDK m c)) (384 * t.val + r.val) l.val : ℝ) : EReal) :=
  pay18_eq _ _ (blkK h t) (blk1 h t) l

theorem after_gq : ∀ (n : ℕ) (hn : n < cfg0.N) (l : Fin 512), (outsAt0 m c n hn).2.1 (ix2 0 l)
      = ((∑ r ∈ Finset.range (384 * (n + 1)), Rms.dgRow 512 (rQ m c) (at2 (argDQ m c)) r l.val : ℝ) : EReal)
  | 0, hn, l => by
    have hA := after_A m c ⟨0, hn⟩ rfl (by simp)
    rw [hA]
    show gQ m c ⟨0, hn⟩ (ix2 0 l) = _
    rw [sum_tile, tile_gq h ⟨0, hn⟩]
    simp
  | n + 1, hn, l => by
    have hN : n + 1 < 11 := lt_of_lt_of_eq hn N_0
    have hB := after_B m c ⟨n + 1, hn⟩ (by show ¬(n + 1) % 11 = 0; omega) (Nat.le_add_left 1 n)
    rw [hB]
    have ih := after_gq n (Nat.lt_of_succ_lt hn) l
    have e := tile_gq h ⟨n + 1, hn⟩ l
    show k0_pay1 (gQ m c ⟨n + 1, hn⟩) (outsAt0 m c n _).2.1 (ix2 0 l) = _
    rw [sum_tile, ← add_coe, ← ih, ← e]
    generalize gQ m c ⟨n + 1, hn⟩ = y
    pointwise [k0_pay1]

theorem after_gk : ∀ (n : ℕ) (hn : n < cfg0.N) (l : Fin 512), (outsAt0 m c n hn).2.2 (ix2 0 l)
      = ((∑ r ∈ Finset.range (384 * (n + 1)), Rms.dgRow 512 (rK m c) (at2 (argDK m c)) r l.val : ℝ) : EReal)
  | 0, hn, l => by
    have hA := after_A m c ⟨0, hn⟩ rfl (by simp)
    rw [hA]
    show gK m c ⟨0, hn⟩ (ix2 0 l) = _
    rw [sum_tile, tile_gk h ⟨0, hn⟩]
    simp
  | n + 1, hn, l => by
    have hN : n + 1 < 11 := lt_of_lt_of_eq hn N_0
    have hB := after_B m c ⟨n + 1, hn⟩ (by show ¬(n + 1) % 11 = 0; omega) (Nat.le_add_left 1 n)
    rw [hB]
    have ih := after_gk n (Nat.lt_of_succ_lt hn) l
    have e := tile_gk h ⟨n + 1, hn⟩ l
    show k0_pay2 (gK m c ⟨n + 1, hn⟩) (outsAt0 m c n _).2.2 (ix2 0 l) = _
    rw [sum_tile, ← add_coe, ← ih, ← e]
    generalize gK m c ⟨n + 1, hn⟩ = y
    pointwise [k0_pay2]

theorem final_p : (dats m 0 c).arrAt 8 cfg0.N = resDp m c := by
  funext i
  obtain ⟨t, r, l, rfl⟩ := at_row i
  have hA : (outsAt0 m c t.val t.isLt).1 = tP m c t := by
    by_cases h1 : 1 ≤ t.val
    · have hN : t.val < 11 := lt_N t
      rw [after_B m c t (by omega) h1]
    · rw [after_A m c t (by omega) h1]
  refine (tile2 ((dats m 0 c).arrAt 8 cfg0.N) _ (idx8 t) r l (row t r) l (congrArg (· + r.val) (Nat.mul_comm _ _)) (by omega)).symm.trans
    ((congrFun (Value.blocks8 m c t (flush0_8 t)) (ix2 r l)).trans ?_)
  rw [Value.flushed8, hA]
  exact tile_p h t r l

theorem flushed_gq (t : Fin cfg0.N) (hf : (cfg0.win 9).flush t = true) :
    (dats m 0 c).flushed 9 t = ((cfg0.win 9).blk t).view.read (Elt Ideal) (resQ m c) := by
  have hN : t.val < 11 := lt_N t
  have ht : t.val = 10 := by have := (flush0_9 t).mp hf; omega
  rw [Value.flushed9]
  funext j
  obtain ⟨r, l, rfl⟩ : ∃ (r : Fin 1) (l : Fin 512), j = ix2 r l := ⟨j 0, j 1, by funext a; fin_cases a <;> rfl⟩
  obtain rfl : r = 0 := Subsingleton.elim _ _
  rw [View.read_apply]
  show (outsAt0 m c t.val t.isLt).2.1 (ix2 0 l) = resQ m c _
  rw [after_gq h, ht]
  unfold resQ
  have hl : l.val = (((cfg0.win 9).blk t).view.emb (ix2 0 l) 1).val := ?_
  · rw [← hl]
  show l.val = win0_9.index t 1 * 512 + 1 * l.val
  rw [(idx9 t).2]; omega

theorem final_gq : (dats m 0 c).arrAt 9 cfg0.N = resQ m c :=
  (dats m 0 c).arrAt_eq_of_cover 9 (resQ m c) (fun t hf => flushed_gq h t hf) fun i => by
    have h0 : (i 0 : Nat) < 1 := (i 0).isLt
    have h1 : (i 1 : Nat) < 512 := (i 1).isLt
    refine ⟨⟨10, by decide⟩, (flush0_9 _).mpr rfl, ?_⟩
    generalize (⟨10, _⟩ : Fin cfg0.N) = q
    show i ∈ ((View.whole main_v14_1).slice (win0_9.rect q)).set
    rw [View.set_slice_whole, Rect.mem_set_unit]
    intro a
    match a with
    | ⟨0, _⟩ => show win0_9.index q 0 * 1 ≤ (i 0 : Nat) ∧ (i 0 : Nat) < win0_9.index q 0 * 1 + 1; rw [(idx9 q).1]; omega
    | ⟨1, _⟩ => show win0_9.index q 1 * 512 ≤ (i 1 : Nat) ∧ (i 1 : Nat) < win0_9.index q 1 * 512 + 512; rw [(idx9 q).2]; omega

theorem flushed_gk (t : Fin cfg0.N) (hf : (cfg0.win 10).flush t = true) :
    (dats m 0 c).flushed 10 t = ((cfg0.win 10).blk t).view.read (Elt Ideal) (resK m c) := by
  have hN : t.val < 11 := lt_N t
  have ht : t.val = 10 := by have := (flush0_10 t).mp hf; omega
  rw [Value.flushed10]
  funext j
  obtain ⟨r, l, rfl⟩ : ∃ (r : Fin 1) (l : Fin 512), j = ix2 r l := ⟨j 0, j 1, by funext a; fin_cases a <;> rfl⟩
  obtain rfl : r = 0 := Subsingleton.elim _ _
  rw [View.read_apply]
  show (outsAt0 m c t.val t.isLt).2.2 (ix2 0 l) = resK m c _
  rw [after_gk h, ht]
  unfold resK
  have hl : l.val = (((cfg0.win 10).blk t).view.emb (ix2 0 l) 1).val := ?_
  · rw [← hl]
  show l.val = win0_10.index t 1 * 512 + 1 * l.val
  rw [(idx10 t).2]; omega

theorem final_gk : (dats m 0 c).arrAt 10 cfg0.N = resK m c :=
  (dats m 0 c).arrAt_eq_of_cover 10 (resK m c) (fun t hf => flushed_gk h t hf) fun i => by
    have h0 : (i 0 : Nat) < 1 := (i 0).isLt
    have h1 : (i 1 : Nat) < 512 := (i 1).isLt
    refine ⟨⟨10, by decide⟩, (flush0_10 _).mpr rfl, ?_⟩
    generalize (⟨10, _⟩ : Fin cfg0.N) = q
    show i ∈ ((View.whole main_v14_2).slice (win0_10.rect q)).set
    rw [View.set_slice_whole, Rect.mem_set_unit]
    intro a
    match a with
    | ⟨0, _⟩ => show win0_10.index q 0 * 1 ≤ (i 0 : Nat) ∧ (i 0 : Nat) < win0_10.index q 0 * 1 + 1; rw [(idx10 q).1]; omega
    | ⟨1, _⟩ => show win0_10.index q 1 * 512 ≤ (i 1 : Nat) ∧ (i 1 : Nat) < win0_10.index q 1 * 512 + 512; rw [(idx10 q).2]; omega

end Res

end Cert.PrepBwdIdeal.Tiles
-- ==== Proof.PrepRef.lean ====
/- The gradient of the two latent norms and of the shared rotary key as `jax.vjp` writes it, as the same real formulas. -/
module

public import proofs.«01_k».proof.Proof.Gen.PrepRefIdeal.Run
public import proofs.«01_k».proof.Proof.Gen.PrepRefIdeal.Read
public import proofs.«01_k».proof.Proof.Prep

@[expose] public section

noncomputable section

namespace Cert.PrepRefIdeal.Rows

open Idealize.ShloMosaic Cert.PrepRefIdeal Cert.PrepRefIdeal.Gen Cert.PrepRefIdeal.Read Cert.Reals Cert.Rms Cert.Prep
open Facts

/-- The second 512 columns. -/
def shift (P : ℕ → ℕ → ℝ) (r l : ℕ) : ℝ := P r (512 + l)

variable (p : S4112x1088.Idx → EReal) (gq gk : S512.Idx → EReal) (co si : S4112x32.Idx → EReal) (dq dk : S4112x512.Idx → EReal) (kr : S16x4112x64.Idx → EReal)
  (hp : ∀ i, ((p i).toReal : EReal) = p i) (hgq : ∀ i, ((gq i).toReal : EReal) = gq i) (hgk : ∀ i, ((gk i).toReal : EReal) = gk i)
  (hco : ∀ i, ((co i).toReal : EReal) = co i) (hsi : ∀ i, ((si i).toReal : EReal) = si i) (hdq : ∀ i, ((dq i).toReal : EReal) = dq i)
  (hdk : ∀ i, ((dk i).toReal : EReal) = dk i) (hkr : ∀ i, ((kr i).toReal : EReal) = kr i)

/-! The norm of the first 512 columns. -/

include hp in
theorem xQ_eq (r : Fin 4112) (l : Fin 512) : val_main_v0 (F := Ideal) p (ix2 r l) = (at2 p r l : EReal) := by
  have e : idx_main_v0 (ix2 r l) = ix2 r ⟨l.val, by omega⟩ := by
    funext a
    apply Fin.ext
    match a with
    | ⟨0, _⟩ => rfl
    | ⟨1, _⟩ => rfl
  rw [val_main_v0_apply, e, at2_coe hp]

include hp in
theorem rsQ_eq (r : Fin 4112) (z : Fin 1) : val_main_v19 (F := Ideal) p (ix2 r z) = (rs 512 (at2 p) r : EReal) := by
  obtain rfl : z = 0 := Subsingleton.elim _ _
  have key := xQ_eq p hp
  pointwise [val_main_v19, val_main_v12, val_main_v13, val_main_v14, val_main_v15, val_main_v16, val_main_v17, val_main_v18, val_main_cst, val_main_cst_0, val_main_cst_1]
  simp only [key, mul_coe, sum_coe, ofBits_w]
  exact rs_ideal w_ne r

include hp in
theorem quQ_eq (r : Fin 4112) (z : Fin 1) : val_main_v20 (F := Ideal) p (ix2 r z) = ((rs 512 (at2 p) r / ms 512 (at2 p) r : ℝ) : EReal) := by
  obtain rfl : z = 0 := Subsingleton.elim _ _
  have key := xQ_eq p hp
  have e6 : val_main_v18 (F := Ideal) p (ix2 r 0) = (ms 512 (at2 p) r : EReal) := by
    pointwise [val_main_v12, val_main_v13, val_main_v14, val_main_v15, val_main_v16, val_main_v17, val_main_v18, val_main_cst, val_main_cst_0, val_main_cst_1]
    simp only [key, mul_coe, sum_coe, ofBits_w, div_coe w_ne, ofBits_eps, add_coe]
    rfl
  rw [val_main_v20_apply, rsQ_eq p hp, e6]
  exact div_coe (ms_pos _ _).ne'

include hp hgq hdq in
theorem dQ_eq (r : Fin 4112) (l : Fin 512) :
    val_main_v88 (F := Ideal) p gq dq (ix2 r l) = (Rms.dx 512 (at2 p) (at1 gq) (at2 dq) r l : EReal) := by
  have kx := xQ_eq p hp
  have k7 := rsQ_eq p hp
  have k8 := quQ_eq p hp
  pointwise [val_main_v88, val_main_v87, val_main_v86, val_main_v85, val_main_v84, val_main_v83, val_main_v82, val_main_v81, val_main_v80, val_main_v79, val_main_v78, val_main_v77, val_main_v76, val_main_v75, val_main_v73, val_main_v72, val_main_v25, val_main_v22, val_main_v21, val_main_cst_2, val_main_cst_16, val_main_cst_17, val_main_cst_18]
  rw [← dx_eq]
  simp only [kx, k7, k8, at2_coe hdq, at1_coe hgq, mul_coe, sum_coe, ofBits_w, ofBits_neg_half, div_coe w_ne, add_coe, add_assoc,
    Finset.univ_unique, Finset.sum_singleton]

include hp hdq in
theorem gQ_eq (l : Fin 512) : val_main_v102 (F := Ideal) p dq (ix2 0 l)
      = ((∑ r ∈ Finset.range 4112, Rms.dgRow 512 (at2 p) (at2 dq) r l : ℝ) : EReal) := by
  have kx := xQ_eq p hp
  have k7 := rsQ_eq p hp
  pointwise [val_main_v102, val_main_v74, val_main_v71, val_main_v70, val_main_v69, val_main_v24, val_main_v23, val_main_cst_14, val_main_cst_15]
  simp only [kx, k7, at2_coe hdq, mul_coe, sum_coe, Finset.univ_unique, Finset.sum_singleton]
  rw [Finset.sum_range fun r => Rms.dgRow 512 (at2 p) (at2 dq) r l]
  refine congrArg Real.toEReal (Finset.sum_congr rfl fun r _ => ?_)
  unfold Rms.dgRow
  ring

/-! The norm of the second 512 columns. -/

include hp in
theorem xK_eq (r : Fin 4112) (l : Fin 512) : val_main_v1 (F := Ideal) p (ix2 r l) = (shift (at2 p) r l : EReal) := by
  have e : idx_main_v1 (ix2 r l) = ix2 r ⟨512 + l.val, by omega⟩ := by
    funext a
    apply Fin.ext
    match a with
    | ⟨0, _⟩ => rfl
    | ⟨1, _⟩ => rfl
  rw [val_main_v1_apply, e, at2_coe hp]
  rfl

include hp in
theorem rsK_eq (r : Fin 4112) (z : Fin 1) : val_main_v35 (F := Ideal) p (ix2 r z) = (rs 512 (shift (at2 p)) r : EReal) := by
  obtain rfl : z = 0 := Subsingleton.elim _ _
  have key := xK_eq p hp
  pointwise [val_main_v35, val_main_v28, val_main_v29, val_main_v30, val_main_v31, val_main_v32, val_main_v33, val_main_v34, val_main_cst_3, val_main_cst_4, val_main_cst_5]
  simp only [key, mul_coe, sum_coe, ofBits_w]
  exact rs_ideal w_ne r

include hp in
theorem quK_eq (r : Fin 4112) (z : Fin 1) : val_main_v36 (F := Ideal) p (ix2 r z) = ((rs 512 (shift (at2 p)) r / ms 512 (shift (at2 p)) r : ℝ) : EReal) := by
  obtain rfl : z = 0 := Subsingleton.elim _ _
  have key := xK_eq p hp
  have e6 : val_main_v34 (F := Ideal) p (ix2 r 0) = (ms 512 (shift (at2 p)) r : EReal) := by
    pointwise [val_main_v28, val_main_v29, val_main_v30, val_main_v31, val_main_v32, val_main_v33, val_main_v34, val_main_cst_3, val_main_cst_4, val_main_cst_5]
    simp only [key, mul_coe, sum_coe, ofBits_w, div_coe w_ne, ofBits_eps, add_coe]
    rfl
  rw [val_main_v36_apply, rsK_eq p hp, e6]
  exact div_coe (ms_pos _ _).ne'

include hp hgk hdk in
theorem dK_eq (r : Fin 4112) (l : Fin 512) :
    val_main_v68 (F := Ideal) p gk dk (ix2 r l) = (Rms.dx 512 (shift (at2 p)) (at1 gk) (at2 dk) r l : EReal) := by
  have kx := xK_eq p hp
  have k7 := rsK_eq p hp
  have k8 := quK_eq p hp
  pointwise [val_main_v68, val_main_v67, val_main_v66, val_main_v65, val_main_v64, val_main_v63, val_main_v62, val_main_v61, val_main_v60, val_main_v59, val_main_v58, val_main_v57, val_main_v56, val_main_v55, val_main_v53, val_main_v52, val_main_v41, val_main_v38, val_main_v37, val_main_cst_6, val_main_cst_11, val_main_cst_12, val_main_cst_13]
  rw [← dx_eq]
  simp only [kx, k7, k8, at2_coe hdk, at1_coe hgk, mul_coe, sum_coe, ofBits_w, ofBits_neg_half, div_coe w_ne, add_coe, add_assoc,
    Finset.univ_unique, Finset.sum_singleton]

include hp hdk in
theorem gK_eq (l : Fin 512) : val_main_v103 (F := Ideal) p dk (ix2 0 l)
      = ((∑ r ∈ Finset.range 4112, Rms.dgRow 512 (shift (at2 p)) (at2 dk) r l : ℝ) : EReal) := by
  have kx := xK_eq p hp
  have k7 := rsK_eq p hp
  pointwise [val_main_v103, val_main_v54, val_main_v51, val_main_v50, val_main_v49, val_main_v40, val_main_v39, val_main_cst_9, val_main_cst_10]
  simp only [kx, k7, at2_coe hdk, mul_coe, sum_coe, Finset.univ_unique, Finset.sum_singleton]
  rw [Finset.sum_range fun r => Rms.dgRow 512 (shift (at2 p)) (at2 dk) r l]
  refine congrArg Real.toEReal (Finset.sum_congr rfl fun r _ => ?_)
  unfold Rms.dgRow
  ring

/-! The rotary key. -/

include hkr in
theorem v48_eq (r : Fin 4112) (l : Fin 64) : val_main_v48 (F := Ideal) kr (ix2 r l) = (heads (at3 kr) r l : EReal) := by
  pointwise [val_main_v48, val_main_v47, val_main_v46, val_main_cst_7, val_main_cst_8]
  simp only [at3_coe hkr, sum_coe, Finset.univ_unique, Finset.sum_singleton]
  rfl

include hkr in
theorem v89_eq (r : Fin 4112) (l : Fin 32) : val_main_v89 (F := Ideal) kr (ix2 r l) = (heads (at3 kr) r l : EReal) := by
  have e : idx_main_v89 (ix2 r l) = ix2 r ⟨l.val, by omega⟩ := by
    funext a
    apply Fin.ext
    match a with
    | ⟨0, _⟩ => rfl
    | ⟨1, _⟩ => rfl
  rw [val_main_v89_apply, e, v48_eq kr hkr]

include hkr in
theorem v90_eq (r : Fin 4112) (l : Fin 32) : val_main_v90 (F := Ideal) kr (ix2 r l) = (heads (at3 kr) r (l + 32) : EReal) := by
  have e : idx_main_v90 (ix2 r l) = ix2 r ⟨l.val + 32, by omega⟩ := by
    funext a
    apply Fin.ext
    match a with
    | ⟨0, _⟩ => rfl
    | ⟨1, _⟩ => show 32 + l.val = l.val + 32; omega
  rw [val_main_v90_apply, e, v48_eq kr hkr]

include hco hsi hkr in
theorem v97_eq (r : Fin 4112) (l : Fin 32) : val_main_v97 (F := Ideal) co si kr (ix2 r l)
    = ((heads (at3 kr) r l * at2 co r l + heads (at3 kr) r (l + 32) * at2 si r l : ℝ) : EReal) := by
  rw [val_main_v97_apply, val_main_v91_apply, val_main_v96_apply, v89_eq kr hkr, v90_eq kr hkr, at2_coe hco, at2_coe hsi]
  refine ((congrArg₂ _ (mul_coe _ _) (mul_coe _ _)).trans (add_coe _ _)).trans (congrArg Real.toEReal ?_)
  ring

include hco hsi hkr in
theorem v95_eq (r : Fin 4112) (l : Fin 32) : val_main_v95 (F := Ideal) co si kr (ix2 r l)
    = ((heads (at3 kr) r (l + 32) * at2 co r l - heads (at3 kr) r l * at2 si r l : ℝ) : EReal) := by
  rw [val_main_v95_apply, val_main_v92_apply, val_main_v94_apply, val_main_v93_apply, v89_eq kr hkr, v90_eq kr hkr, at2_coe hco, at2_coe hsi]
  show ((_ : ℝ) : EReal) * _ + -((_ : ℝ) : EReal) * _ = _
  rw [← EReal.coe_neg, mul_coe, mul_coe, add_coe]
  refine congrArg Real.toEReal ?_
  ring

include hco hsi hkr in
theorem v98_eq (r : Fin 4112) (l : Fin 64) : val_main_v98 (F := Ideal) co si kr (ix2 r l)
    = (unrot (heads (at3 kr)) (at2 co) (at2 si) r l : EReal) := by
  have k97 := v97_eq co si kr hco hsi hkr
  have k95 := v95_eq co si kr hco hsi hkr
  unfold val_main_v98
  generalize val_main_v97 (F := Ideal) co si kr = a at k97 ⊢
  generalize val_main_v95 (F := Ideal) co si kr = b at k95 ⊢
  pointwise []
  unfold unrot
  split
  · next h => exact k97 _ _
  · next h =>
    rw [if_pos (show l.val < 64 from l.isLt), k95]
    show ((heads (at3 kr) r (l.val - 32 + 32) * _ - _ : ℝ) : EReal) = _
    rw [Nat.sub_add_cancel (by omega)]

include hp hgq hgk hco hsi hdq hdk hkr in
theorem v99_eq (r : Fin 4112) (l : Fin 1088) : val_main_v99 (F := Ideal) p gq gk co si dq dk kr (ix2 r l)
    = (dproj (at2 p) (shift (at2 p)) (at1 gq) (at1 gk) (at2 dq) (at2 dk) (heads (at3 kr)) (at2 co) (at2 si) r l : EReal) := by
  have kq := dQ_eq p gq dq hp hgq hdq
  have kk := dK_eq p gk dk hp hgk hdk
  have kz := v98_eq co si kr hco hsi hkr
  unfold val_main_v99
  generalize val_main_v88 (F := Ideal) p gq dq = a at kq ⊢
  generalize val_main_v68 (F := Ideal) p gk dk = b at kk ⊢
  generalize val_main_v98 (F := Ideal) co si kr = z at kz ⊢
  pointwise []
  unfold dproj
  split
  · next h => exact kq _ _
  split
  · next h => rw [if_pos (show l.val < 1024 by omega)]; exact kk r _
  · next h =>
    rw [if_neg (show ¬l.val < 1024 by omega), kz]
    show ((unrot _ _ _ r.val (l.val - 512 - 512) : ℝ) : EReal) = _
    rw [Nat.sub_sub]

end Cert.PrepRefIdeal.Rows
-- ==== Proof.PrepClaim.lean ====
/- The claims about the latent norms' and the rotary key's gradient, assembled. -/
module

public import proofs.«01_k».proof.Defs
public import proofs.«01_k».proof.Proof.Gen.PrepBwd.Frame
public import proofs.«01_k».proof.Proof.Gen.Pre_finite_prep
public import proofs.«01_k».proof.Proof.Prep
public import proofs.«01_k».proof.Proof.PrepRef

@[expose] public section

noncomputable section

namespace Cert.Prep

open Idealize.ShloMosaic Idealize.SL.Sem Cert.Reals Cert.Rms

instance : Subsingleton Cert.Pre_finite_prep.S_.Idx := ⟨fun a b => funext fun i => i.elim0⟩

set_option maxRecDepth 8192 in
/-- The precondition says that the eight arguments are finite. -/
theorem fin8 {m : Cert.PrepBwdIdeal.Tiles.Mem} (h : Cert.Pre_PrepBwdIdeal_finite_prep m) (c : Dev Cert.PrepBwdIdeal.nD) :
    Cert.PrepBwdIdeal.Tiles.Fin8 m c := by
  let z : Cert.Pre_finite_prep.S_.Idx := fun i => i.elim0
  have e := congrFun (h c) z
  unfold Cert.Pre_finite_prep.fn Cert.Pre_finite_prep.fn_part1 at e
  dsimp only at e
  obtain ⟨e, e8⟩ := andi_one _ _ _ e
  obtain ⟨e, e7⟩ := andi_one _ _ _ e
  obtain ⟨e, e6⟩ := andi_one _ _ _ e
  obtain ⟨e, e5⟩ := andi_one _ _ _ e
  obtain ⟨e, e4⟩ := andi_one _ _ _ e
  obtain ⟨e, e3⟩ := andi_one _ _ _ e
  obtain ⟨e1, e2⟩ := andi_one _ _ _ e
  exact ⟨fun i => finite_of_cmpf (Host.reduce_andi_all _ _ _ _ _ e1 i), fun i => finite_of_cmpf (Host.reduce_andi_all _ _ _ _ _ e2 i),
    fun i => finite_of_cmpf (Host.reduce_andi_all _ _ _ _ _ e3 i), fun i => finite_of_cmpf (Host.reduce_andi_all _ _ _ _ _ e4 i),
    fun i => finite_of_cmpf (Host.reduce_andi_all _ _ _ _ _ e5 i), fun i => finite_of_cmpf (Host.reduce_andi_all _ _ _ _ _ e6 i),
    fun i => finite_of_cmpf (Host.reduce_andi_all _ _ _ _ _ e7 i), fun i => finite_of_cmpf (Host.reduce_andi_all _ _ _ _ _ e8 i)⟩

/-- The reference runs and leaves its arguments and the semaphores as they were. -/
theorem quiescent_ref : Cert.quiescent_PrepRefIdeal (hPrepRefIdeal := Cert.PrepRefIdeal.Gen.facts) := fun m ρ _ =>
  (θ_run _ _ _).mono (fun r h => ⟨fun c => (h c).2.2.2, sem_eq_zero_of_no_sems (by decide) r.2⟩) (Cert.PrepRefIdeal.Value.run (F := Ideal) m ρ)

/-- The padded zero of the host. -/
theorem host_zero (i : Cert.PrepRefIdeal.S_.Idx) : Cert.PrepRefIdeal.Read.val_main_call0_v0 (F := Ideal) i = 0 := by
  show ((((0#32 : BitVec 32).toInt : ℝ)) : EReal) = 0
  simp

/-- A matrix of reals with rows of zeros below it and columns of zeros to its right. -/
theorem pad_both {a b k q n w : ℕ} {x : (⟨2, ![a, b]⟩ : Shape).Idx → EReal} (f : ℕ → ℕ → ℝ) (hf : ∀ (r : Fin a) (l : Fin b), x (ix2 r l) = (f r l : EReal))
    (out : ∀ r l, ¬(r < a ∧ l < b) → f r l = 0) {u : Shape} (v : u.Idx → EReal) (h : (⟨2, ![a, b]⟩ : Shape).Pads ![0, 0] ![k, q] ![0, 0] ⟨2, ![n, w]⟩) (hu : 0 < u.numel)
    (hv : v (Shape.Idx.first hu) = 0) (r : Fin n) (l : Fin w) :
    pad ⟨2, ![n, w]⟩ ![0, 0] ![k, q] ![0, 0] x v h hu (ix2 r l) = (f r l : EReal) := by
  by_cases hr : r.val < a
  · by_cases hl : l.val < b
    · refine (pad_apply_of_inside _ _ _ x v h hu (ix2 r l) (ix2 ⟨r.val, hr⟩ ⟨l.val, hl⟩) ?_).trans (hf ⟨r.val, hr⟩ ⟨l.val, hl⟩)
      intro c
      fin_cases c
      · show r.val = 0 + r.val * (0 + 1); omega
      · show l.val = 0 + l.val * (0 + 1); omega
    · rw [out _ _ (by omega)]
      refine (pad_apply_of_not_inside _ _ _ x v h hu (ix2 r l) 1 ?_).trans ?_
      · show ¬(0 ≤ l.val ∧ (l.val - 0) % (0 + 1) = 0 ∧ (l.val - 0) / (0 + 1) < b)
        omega
      · rw [hv, EReal.coe_zero]
  · rw [out _ _ (by omega)]
    refine (pad_apply_of_not_inside _ _ _ x v h hu (ix2 r l) 0 ?_).trans ?_
    · show ¬(0 ≤ r.val ∧ (r.val - 0) % (0 + 1) = 0 ∧ (r.val - 0) / (0 + 1) < a)
      omega
    · rw [hv, EReal.coe_zero]

section Values

variable {m : Cert.PrepBwdIdeal.Tiles.Mem} {c : Dev Cert.PrepBwdIdeal.nD} (h : Cert.PrepBwdIdeal.Tiles.Fin8 m c)
open Cert.PrepBwdIdeal.Tiles

/-- The padding rows and columns of the projection's gradient are zero. -/
theorem val_out (r l : ℕ) (hr : ¬(r < 4112 ∧ l < 1088)) : Cert.PrepBwdIdeal.Tiles.val m c r l = 0 := by
  unfold Cert.PrepBwdIdeal.Tiles.val dproj
  by_cases h0 : r < 4112
  · rw [if_neg (by omega), if_neg (by omega)]
    unfold unrot
    rw [if_neg (by omega), if_neg (by omega)]
  · have e : ∀ X G l, Rms.dx 512 X G (at2 (argDQ m c)) r l = 0 := fun X G l => by
      unfold Rms.dx
      have z : ∀ l, at2 (argDQ m c) r l = 0 := fun l => dif_neg (by omega)
      simp [z]
    have e' : ∀ X G l, Rms.dx 512 X G (at2 (argDK m c)) r l = 0 := fun X G l => by
      unfold Rms.dx
      have z : ∀ l, at2 (argDK m c) r l = 0 := fun l => dif_neg (by omega)
      simp [z]
    have z : ∀ l, heads (at3 (argKR m c)) r l = 0 := fun l => Finset.sum_eq_zero fun _ _ => at3_out _ (by omega)
    rw [e, e']
    unfold unrot
    simp [z]

include h

theorem ref_p : Cert.PrepRefIdeal.Read.val_main_v101 (F := Ideal) (argP m c) (argGQ m c) (argGK m c) (argC m c) (argN m c) (argDQ m c) (argDK m c) (argKR m c) = resDp m c := by
  funext i
  obtain ⟨r, l, rfl⟩ : ∃ (r : Fin 4224) (l : Fin 1152), i = ix2 r l := ⟨i 0, i 1, by funext a; fin_cases a <;> rfl⟩
  have key := Cert.PrepRefIdeal.Rows.v99_eq (argP m c) (argGQ m c) (argGK m c) (argC m c) (argN m c) (argDQ m c) (argDK m c) (argKR m c) h.p h.gq h.gk h.co h.si h.dq h.dk h.kr
  refine (show _ = Cert.PrepRefIdeal.Read.val_main_v100 (F := Ideal) (argP m c) (argGQ m c) (argGK m c) (argC m c) (argN m c) (argDQ m c) (argDK m c) (argKR m c) (ix2 r l) from rfl).trans ?_
  unfold Cert.PrepRefIdeal.Read.val_main_v100
  exact pad_both (Cert.PrepBwdIdeal.Tiles.val m c) key val_out _ _ _ (host_zero _) r l

theorem ref_q : Cert.PrepRefIdeal.Read.val_main_v102 (F := Ideal) (argP m c) (argDQ m c) = resQ m c := by
  funext i
  obtain ⟨r, l, rfl⟩ : ∃ (r : Fin 1) (l : Fin 512), i = ix2 r l := ⟨i 0, i 1, by funext a; fin_cases a <;> rfl⟩
  obtain rfl : r = 0 := Subsingleton.elim _ _
  rw [Cert.PrepRefIdeal.Rows.gQ_eq _ _ h.p h.dq]
  unfold resQ
  refine congrArg Real.toEReal (sum_range_zero _ (by norm_num) fun r hr => ?_).symm
  unfold Rms.dgRow
  rw [show at2 (argDQ m c) r l.val = 0 from dif_neg (by omega), zero_mul]

theorem ref_k : Cert.PrepRefIdeal.Read.val_main_v103 (F := Ideal) (argP m c) (argDK m c) = resK m c := by
  funext i
  obtain ⟨r, l, rfl⟩ : ∃ (r : Fin 1) (l : Fin 512), i = ix2 r l := ⟨i 0, i 1, by funext a; fin_cases a <;> rfl⟩
  obtain rfl : r = 0 := Subsingleton.elim _ _
  rw [Cert.PrepRefIdeal.Rows.gK_eq _ _ h.p h.dk]
  unfold resK
  refine congrArg Real.toEReal (sum_range_zero (Rms.dgRow 512 (rK m c) (at2 (argDK m c)) · l.val) (by norm_num) fun r hr => ?_).symm
  unfold Rms.dgRow
  rw [show at2 (argDK m c) r l.val = 0 from dif_neg (by omega), zero_mul]

end Values

theorem algebraic : Cert.algebraic_PrepBwdIdeal_PrepRefIdeal_pre_finite_prep (hPrepBwdIdeal := Cert.PrepBwdIdeal.Gen.facts)
    (hPrepRefIdeal := Cert.PrepRefIdeal.Gen.facts) (hPre_finite_prep := Cert.Pre_finite_prep.Gen.facts) := by
  intro m ρ m' ρ' hpre hag
  have hf := fun c => fin8 hpre c
  refine ⟨fun c => Cert.PrepBwdIdeal.Tiles.resDp m c, fun c => Cert.PrepBwdIdeal.Tiles.resQ m c, fun c => Cert.PrepBwdIdeal.Tiles.resK m c, ?_, ?_⟩
  · refine (θ_run _ _ _).mono (fun r h c => ?_) (Cert.PrepBwdIdeal.Value.run_blocks m ρ)
    obtain ⟨h0, h1, h2, h3⟩ := h c
    exact ⟨h0.trans (Cert.PrepBwdIdeal.Tiles.final_p (hf c)), h1.trans (Cert.PrepBwdIdeal.Tiles.final_gq (hf c)),
      h2.trans (Cert.PrepBwdIdeal.Tiles.final_gk (hf c)), h3⟩
  · refine (θ_run _ _ _).mono (fun r h c => ?_) (Cert.PrepRefIdeal.Value.run (F := Ideal) m' ρ')
    obtain ⟨h0, h1, h2, h3⟩ := h c
    obtain ⟨a0, a1, a2, a3, a4, a5, a6, a7⟩ := hag c
    refine ⟨h0.trans ?_, h1.trans ?_, h2.trans ?_, h3⟩
    · rw [Cert.PrepRefIdeal.Read.val_main_v101_eq, a0, a1, a2, a3, a4, a5, a6, a7]
      exact ref_p (hf c)
    · rw [Cert.PrepRefIdeal.Read.val_main_v102_eq, a0, a5]
      exact ref_q (hf c)
    · rw [Cert.PrepRefIdeal.Read.val_main_v103_eq, a0, a6]
      exact ref_k (hf c)

end Cert.Prep
-- ==== Proof.Ffn.lean ====
/- The gated feed-forward as real formulas. -/
module

public import proofs.«01_k».proof.Proof.Rms
public import Idealize.ShloMosaic.Lib.Pipeline.ValueKit
public import Idealize.ShloMosaic.Lib.Pointwise

@[expose] public section

noncomputable section

namespace Cert.Ffn

open Idealize.ShloMosaic Cert.Reals Cert.Rms

/-- The product of the rows of `H` with column `l` of `W`. -/
def mm (H W : ℕ → ℕ → ℝ) (r l : ℕ) : ℝ := ∑ k : Fin 2048, H r k * W k l

/-- The logistic function. -/
def sg (x : ℝ) : ℝ := (1 + Real.exp (-x))⁻¹

/-- The logistic function from the hyperbolic tangent of the half. -/
theorem sg_tanh (x : ℝ) : 1 / 2 + 1 / 2 * Real.tanh (1 / 2 * x) = sg x := by
  have hx : Real.exp (-x) = Real.exp (-(1 / 2 * x)) * Real.exp (-(1 / 2 * x)) := by rw [← Real.exp_add]; congr 1; ring
  have hm : Real.exp (1 / 2 * x) * Real.exp (-(1 / 2 * x)) = 1 := by rw [← Real.exp_add, add_neg_cancel, Real.exp_zero]
  unfold sg
  rw [hx, Real.tanh_eq_sinh_div_cosh, Real.sinh_eq, Real.cosh_eq]
  have ha := Real.exp_pos (1 / 2 * x)
  have hb := Real.exp_pos (-(1 / 2 * x))
  generalize Real.exp (1 / 2 * x) = a at *
  generalize Real.exp (-(1 / 2 * x)) = b at *
  have h1 : a + b ≠ 0 := by positivity
  have h2 : 1 + b * b ≠ 0 := by positivity
  field_simp
  linear_combination (2 * b) * hm

/-- The gate's output at `(r, l)`: the logistic of the gate's product times both products. -/
def act (H W : ℕ → ℕ → ℝ) (r l : ℕ) : ℝ := mm H W r l * sg (mm H W r l) * mm H W r (5632 + l)

/-- The product of the rows of the cotangent `D` with row `l` of `Q`. -/
def dact (D Q : ℕ → ℕ → ℝ) (r l : ℕ) : ℝ := ∑ k : Fin 2048, D r k * Q l k

/-- The gradient with respect to the gate's product. -/
def dg (H W D Q : ℕ → ℕ → ℝ) (r l : ℕ) : ℝ :=
  dact D Q r l * mm H W r (5632 + l) * (sg (mm H W r l) * (1 + mm H W r l * (1 - sg (mm H W r l))))

/-- The gradient with respect to the other product. -/
def du (H W D Q : ℕ → ℕ → ℝ) (r l : ℕ) : ℝ := dact D Q r l * mm H W r l * sg (mm H W r l)

theorem mm_out {a b : ℕ} (x : (⟨2, ![a, b]⟩ : Shape).Idx → EReal) (W : ℕ → ℕ → ℝ) {r : ℕ} (l : ℕ) (h : ¬r < a) : mm (at2 x) W r l = 0 :=
  Finset.sum_eq_zero fun k _ => by rw [at2_out _ _ (by omega), zero_mul]

theorem dact_out {a b : ℕ} (x : (⟨2, ![a, b]⟩ : Shape).Idx → EReal) (Q : ℕ → ℕ → ℝ) {r : ℕ} (l : ℕ) (h : ¬r < a) : dact (at2 x) Q r l = 0 :=
  Finset.sum_eq_zero fun k _ => by rw [at2_out _ _ (by omega), zero_mul]

theorem ofBits_half : Ideal.ofBits .f32 0x3F000000#32 = ((1 / 2 : ℝ) : EReal) := by
  simp [Ideal.ofBits, Ideal.ieee]
  norm_cast
  norm_num

theorem ofBits_one : Ideal.ofBits .f32 0x3F800000#32 = ((1 : ℝ) : EReal) := by
  simp [Ideal.ofBits, Ideal.ieee]
  norm_cast
  norm_num

/-- Two matrices stacked, with rows of zeros below each. -/
theorem stack_pad {A B : (⟨3, ![1, 4112, 5632]⟩ : Shape).Idx → EReal} (f : ℕ → ℕ → ℝ)
    (hA : ∀ (r : Fin 4112) (l : Fin 5632), A (ix3 0 r l) = (f r l : EReal)) (hB : ∀ (r : Fin 4112) (l : Fin 5632), B (ix3 0 r l) = (f r (5632 + l) : EReal))
    (out : ∀ r l, ¬r < 4112 → f r l = 0) (hc : Shape.Concatenates [⟨3, ![1, 4112, 5632]⟩, ⟨3, ![1, 4112, 5632]⟩] ⟨3, ![2, 4112, 5632]⟩ 0) {u : Shape} (v : u.Idx → EReal)
    (h : (⟨3, ![2, 4112, 5632]⟩ : Shape).Pads ![0, 0, 0] ![0, 112, 0] ![0, 0, 0] ⟨3, ![2, 4224, 5632]⟩) (hu : 0 < u.numel)
    (hv : v (Shape.Idx.first hu) = 0) (g : Fin 2) (r : Fin 4224) (l : Fin 5632) :
    pad ⟨3, ![2, 4224, 5632]⟩ ![0, 0, 0] ![0, 112, 0] ![0, 0, 0] (concatenate ⟨3, ![2, 4112, 5632]⟩ 0 [⟨_, A⟩, ⟨_, B⟩] hc) v h hu (ix3 g r l)
      = (f r (5632 * g + l) : EReal) := by
  by_cases hr : r.val < 4112
  · refine (pad_apply_of_inside _ _ _ _ v h hu (ix3 g r l) (ix3 g ⟨r.val, hr⟩ l) ?_).trans ?_
    · intro c
      fin_cases c
      · show g.val = 0 + g.val * (0 + 1); omega
      · show r.val = 0 + r.val * (0 + 1); omega
      · show l.val = 0 + l.val * (0 + 1); omega
    · match g with
      | 0 =>
        refine Eq.trans ?_ ((hA ⟨r.val, hr⟩ l).trans (by show _ = ((f r.val (5632 * 0 + l.val) : ℝ) : EReal); rw [Nat.mul_zero, Nat.zero_add]))
        pointwise []
      | 1 =>
        refine Eq.trans ?_ (hB ⟨r.val, hr⟩ l)
        pointwise []
  · rw [out _ _ hr]
    refine (pad_apply_of_not_inside _ _ _ _ v h hu (ix3 g r l) 1 ?_).trans ?_
    · show ¬(0 ≤ r.val ∧ (r.val - 0) % (0 + 1) = 0 ∧ (r.val - 0) / (0 + 1) < 4112)
      omega
    · rw [hv, EReal.coe_zero]

/-- Every entry lies in a tile of 704 rows and 1408 columns. -/
theorem tile_of {N : ℕ} (hN : N = 24) (R : Fin 4224) (L : Fin 5632) :
    ∃ (t : Fin N) (r : Fin 704) (l : Fin 1408), R.val = t.val % 6 * 704 + r.val ∧ L.val = t.val / 6 * 1408 + l.val := by
  refine ⟨⟨L.val / 1408 * 6 + R.val / 704, lt_of_lt_of_eq (by omega) hN.symm⟩, ⟨R.val % 704, by omega⟩, ⟨L.val % 1408, by omega⟩, ?_, ?_⟩
  · show R.val = (L.val / 1408 * 6 + R.val / 704) % 6 * 704 + R.val % 704; omega
  · show L.val = (L.val / 1408 * 6 + R.val / 704) / 6 * 1408 + L.val % 1408; omega

end Cert.Ffn
-- ==== Proof.FfnUp.lean ====
/- The gated feed-forward's first call: the kernel's tiles as real formulas. -/
module

public import proofs.«01_k».proof.Proof.Gen.FfnUpIdeal.Value
public import proofs.«01_k».proof.Proof.Ffn
public import proofs.«01_k».proof.Proof.Tile
public import Idealize.ShloMosaic.Lib.Quiescent

@[expose] public section

noncomputable section

namespace Cert.FfnUpIdeal.Tiles

open Idealize.ShloMosaic Idealize.SL.Sem Cert.FfnUpIdeal Cert.FfnUpIdeal.Gen Cert.Reals Cert.Rms Cert.Ffn Cert.Tile
open Facts

/-! ## One tile -/

section Tile

variable {H W : ℕ → ℕ → ℝ} {n c : ℕ} (x : Vec Ideal S704x2048 .bf16) (wg wu : Vec Ideal S1x2048x1408 .bf16)
  (hx : ∀ (r : Fin 704) (k : Fin 2048), x (ix2 r k) = (H (n + r) k : EReal))
  (hg : ∀ (k : Fin 2048) (l : Fin 1408), wg (ix3 0 k l) = (W k (c + l) : EReal))
  (hu : ∀ (k : Fin 2048) (l : Fin 1408), wu (ix3 0 k l) = (W k (5632 + (c + l)) : EReal))

include hx hg in
theorem pay2_eq (r : Fin 704) (l : Fin 1408) : k0_pay2 x wg (ix2 r l) = (mm H W (n + r) (c + l) : EReal) := by
  pointwise [k0_pay2, k0_pay1]
  simp only [hx, hg, mul_coe, sum_coe]
  rfl

include hx hu in
theorem pay3_eq (r : Fin 704) (l : Fin 1408) : k0_pay3 x wu (ix2 r l) = (mm H W (n + r) (5632 + (c + l)) : EReal) := by
  pointwise [k0_pay3, k0_pay1]
  simp only [hx, hu, mul_coe, sum_coe]
  rfl

include hx hg in
theorem pay4_eq (r : Fin 704) (l : Fin 1408) : k0_pay4 x wg (ix3 0 r l) = (mm H W (n + r) (c + l) : EReal) := by
  have key := pay2_eq x wg hx hg
  unfold k0_pay4
  generalize k0_pay2 x wg = a at key ⊢
  pointwise
  exact key r l

include hx hu in
theorem pay5_eq (r : Fin 704) (l : Fin 1408) : k0_pay5 x wu (ix3 0 r l) = (mm H W (n + r) (5632 + (c + l)) : EReal) := by
  have key := pay3_eq x wu hx hu
  unfold k0_pay5
  generalize k0_pay3 x wu = a at key ⊢
  pointwise
  exact key r l

include hx hg hu in
theorem pay6_eq (r : Fin 704) (l : Fin 1408) : k0_pay6 x wg wu (ix2 r l) = (act H W (n + r) (c + l) : EReal) := by
  have k2 := pay2_eq x wg hx hg
  have k3 := pay3_eq x wu hx hu
  unfold k0_pay6
  generalize k0_pay2 x wg = a at k2 ⊢
  generalize k0_pay3 x wu = b at k3 ⊢
  pointwise
  simp only [k2, k3, ofBits_half, mul_coe, Ideal.tanh_coe, add_coe, sg_tanh]
  rfl

end Tile

/-! ## The arrays the kernel reads -/

abbrev Mem := (ℓ : Loc nD τ sig) → Buf (Elt Ideal) ℓ

variable (m : Mem) (c : Dev nD)

abbrev argH : S4112x2048.Idx → EReal := m ((c.tc : Thread nD τ).loc main_arg0)
abbrev argW : S2048x11264.Idx → EReal := m ((c.tc : Thread nD τ).loc main_arg1)

abbrev padv : S_.Idx → EReal := sitofp (F := Ideal) .f32 (constantI S_ 32 0#32)

theorem lit_zero : FloatOps.sitofp (F := Ideal) FTy.f32 (0#32 : BitVec 32) = ((0 : ℝ) : EReal) := by
  show ((((0#32 : BitVec 32).toInt : ℝ)) : EReal) = _
  simp

theorem V_x : V m c main_v4 = truncf (F := Ideal) .bf16 (pad S4224x2048 ![0, 0] ![112, 0] ![0, 0] (argH m c) padv pads_S4112x2048_S4224x2048_01120_000 h_S_) bitsLt_bf16_f32 := by
  simp only [V, hostOps0, hostOps0_1, hostOps0_2, List.flatten_cons, List.flatten_nil, List.append_nil, List.cons_append, List.nil_append]
  after_results
  rfl

theorem V_w : V m c main_v2 = truncf (F := Ideal) .bf16 (transpose S8x2048x1408 [1, 0, 2] (shapeCast S2048x8x1408 (argW m c) shapeCasts_S2048x11264_S2048x8x1408)
    transposes_S2048x8x1408_S8x2048x1408_1_0_2) bitsLt_bf16_f32 := by
  simp only [V, hostOps0, hostOps0_1, hostOps0_2, List.flatten_cons, List.flatten_nil, List.append_nil, List.cons_append, List.nil_append]
  after_results
  rfl

/-- The two arguments are finite. -/
structure Fin2 : Prop where
  h : ∀ i, ((argH m c i).toReal : EReal) = argH m c i
  w : ∀ i, ((argW m c i).toReal : EReal) = argW m c i

section In

variable {m c} (h : Fin2 m c)
include h

theorem in_x (r : Fin 4224) (l : Fin 2048) : (V m c main_v4 : S4224x2048.Idx → EReal) (ix2 r l) = (at2 (argH m c) r l : EReal) := by
  rw [V_x]
  pointwise []
  simp only [at2_coe h.h]
  rw [lit_zero]
  split
  · rfl
  · exact congrArg Real.toEReal (at2_out _ _ (by omega)).symm

theorem in_w (j : Fin 8) (k : Fin 2048) (l : Fin 1408) : (V m c main_v2 : S8x2048x1408.Idx → EReal) (ix3 j k l) = (at2 (argW m c) k (j.val * 1408 + l.val) : EReal) := by
  rw [V_w]
  pointwise []
  exact at2_coe h.w _ _

end In

/-! ## The blocks -/

theorem idx : ∀ t : Fin cfg0.N, (win0_0.index t 0 = t.val % 6 ∧ win0_0.index t 1 = 0)
    ∧ (win0_1.index t 0 = t.val / 6 ∧ win0_1.index t 1 = 0 ∧ win0_1.index t 2 = 0) ∧ (win0_2.index t 0 = t.val / 6 + 4 ∧ win0_2.index t 1 = 0 ∧ win0_2.index t 2 = 0)
    ∧ (win0_3.index t 0 = 0 ∧ win0_3.index t 1 = t.val % 6 ∧ win0_3.index t 2 = t.val / 6) ∧ (win0_4.index t 0 = t.val % 6 ∧ win0_4.index t 1 = t.val / 6) := by
  decide +kernel

theorem lt_N (t : Fin cfg0.N) : t.val < 24 := lt_of_lt_of_eq t.isLt N_0

/-- The first row and the first column of tile `t`. -/
abbrev row0 (t : Fin cfg0.N) : ℕ := t.val % 6 * 704
abbrev col0 (t : Fin cfg0.N) : ℕ := t.val / 6 * 1408

section Blocks

variable {m c} (h : Fin2 m c)
include h

theorem blk0 (t : Fin cfg0.N) (r : Fin 704) (k : Fin 2048) :
    (iblk m c 0 t : Vec Ideal S704x2048 .bf16) (ix2 r k) = (at2 (argH m c) (row0 t + r.val) k : EReal) :=
  (tile2 (Val := Elt Ideal) (e := .bf16) (V m c main_v4) _ (idx t).1 r k ⟨row0 t + r.val, by show t.val % 6 * 704 + r.val < 4224; omega⟩ k rfl (by omega)).trans (in_x h _ k)

theorem blk1 (t : Fin cfg0.N) (k : Fin 2048) (l : Fin 1408) :
    (iblk m c 1 t : Vec Ideal S1x2048x1408 .bf16) (ix3 0 k l) = (at2 (argW m c) k (col0 t + l.val) : EReal) :=
  have ht := lt_N t
  (tile3 (Val := Elt Ideal) (e := .bf16) (V m c main_v2) _ (idx t).2.1 0 k l ⟨t.val / 6, by omega⟩ k l (by show t.val / 6 = _; omega) (by omega) (by omega)).trans (in_w h _ k l)

theorem blk2 (t : Fin cfg0.N) (k : Fin 2048) (l : Fin 1408) :
    (iblk m c 2 t : Vec Ideal S1x2048x1408 .bf16) (ix3 0 k l) = (at2 (argW m c) k (5632 + (col0 t + l.val)) : EReal) := by
  have ht := lt_N t
  rw [show 5632 + (col0 t + l.val) = (t.val / 6 + 4) * 1408 + l.val from (by show 5632 + (t.val / 6 * 1408 + l.val) = _; omega)]
  exact (tile3 (Val := Elt Ideal) (e := .bf16) (V m c main_v2) _ (idx t).2.2.1 0 k l ⟨t.val / 6 + 4, by omega⟩ k l (by show t.val / 6 + 4 = _; omega) (by omega)
    (by omega)).trans (in_w h _ k l)

end Blocks

/-! ## The results -/

/-- The two products, the gate's first. -/
def resG : S2x4224x5632.Idx → EReal := fun i => (mm (at2 (argH m c)) (at2 (argW m c)) (i 1).val (5632 * (i 0).val + (i 2).val) : EReal)

/-- The gated activation. -/
def resA : S4224x5632.Idx → EReal := fun i => (act (at2 (argH m c)) (at2 (argW m c)) (i 0).val (i 1).val : EReal)

theorem ld0 (x : Vec Ideal S704x2048 .bf16) : View.ld x r0_0 = x :=
  View.ld_unit_zero (S := S704x2048) (by funext a; fin_cases a <;> rfl) _ x
theorem ld1 (x : Vec Ideal S1x2048x1408 .bf16) : View.ld x r0_1 = x :=
  View.ld_unit_zero (S := S1x2048x1408) (by funext a; fin_cases a <;> rfl) _ x

section Final

variable {m c} (h : Fin2 m c)
include h

theorem final_g : (dats m 0 c).arrAt 3 cfg0.N = resG m c := by
  funext i
  obtain ⟨g, R, L, rfl⟩ : ∃ (g : Fin 2) (R : Fin 4224) (L : Fin 5632), i = ix3 g R L := ⟨i 0, i 1, i 2, by funext a; fin_cases a <;> rfl⟩
  obtain ⟨t, r, l, hR, hL⟩ := tile_of N_0 R L
  refine (tile3 ((dats m 0 c).arrAt 3 cfg0.N) _ (idx t).2.2.2.1 g r l g R L (by omega) hR hL).symm.trans
    ((congrFun (Value.blocks3 m c t (flush0_3 t)) (ix3 g r l)).trans ?_)
  rw [Value.flushed3]
  show out0_3 (F := Ideal) (iblk m c 0 t) (iblk m c 1 t) (iblk m c 2 t) (ix3 g r l) = (mm _ _ R.val (5632 * g.val + L.val) : EReal)
  unfold out0_3
  rw [ld0, ld1, ld1, hR, hL]
  match g with
  | 0 =>
    refine (canon_fst _ _ _ _ r l).trans ((pay4_eq _ _ (blk0 h t) (blk1 h t) r l).trans ?_)
    show _ = ((mm _ _ _ (5632 * 0 + _) : ℝ) : EReal)
    rw [Nat.mul_zero, Nat.zero_add]
  | 1 =>
    exact (canon_snd _ _ _ _ r l).trans (pay5_eq _ _ (blk0 h t) (blk2 h t) r l)

theorem final_a : (dats m 0 c).arrAt 4 cfg0.N = resA m c := by
  funext i
  obtain ⟨R, L, rfl⟩ : ∃ (R : Fin 4224) (L : Fin 5632), i = ix2 R L := ⟨i 0, i 1, by funext a; fin_cases a <;> rfl⟩
  obtain ⟨t, r, l, hR, hL⟩ := tile_of N_0 R L
  refine (tile2 ((dats m 0 c).arrAt 4 cfg0.N) _ (idx t).2.2.2.2 r l R L hR hL).symm.trans
    ((congrFun (Value.blocks4 m c t (flush0_4 t)) (ix2 r l)).trans ?_)
  rw [Value.flushed4]
  show out0_4 (F := Ideal) (iblk m c 0 t) (iblk m c 1 t) (iblk m c 2 t) (ix2 r l) = (act _ _ R.val L.val : EReal)
  unfold out0_4
  rw [ld0, ld1, ld1, View.canon_unit_zero (S := S704x1408) (by funext a; fin_cases a <;> rfl), hR, hL]
  exact pay6_eq _ _ _ (blk0 h t) (blk1 h t) (blk2 h t) r l

end Final

end Cert.FfnUpIdeal.Tiles
-- ==== Proof.FfnUpRef.lean ====
/- The gated feed-forward's first half as plain host operations, as the same real formulas. -/
module

public import proofs.«01_k».proof.Proof.Gen.FfnUpRefIdeal.Run
public import proofs.«01_k».proof.Proof.Gen.FfnUpRefIdeal.Read
public import proofs.«01_k».proof.Proof.Ffn

@[expose] public section

noncomputable section

namespace Cert.FfnUpRefIdeal.Rows

open Idealize.ShloMosaic Cert.FfnUpRefIdeal Cert.FfnUpRefIdeal.Gen Cert.FfnUpRefIdeal.Read Cert.Reals Cert.Rms Cert.Ffn
open Facts

variable (x : S4112x2048.Idx → EReal) (w : S2048x11264.Idx → EReal)
  (hx : ∀ i, ((x i).toReal : EReal) = x i) (hw : ∀ i, ((w i).toReal : EReal) = w i)

/-- The padded zero of the host. -/
theorem host_zero (i : S_.Idx) : val_main_call0_v0 (F := Ideal) i = 0 := by
  show ((((0#32 : BitVec 32).toInt : ℝ)) : EReal) = 0
  simp

theorem host_zero' (i : S_.Idx) : val_main_call2_v0 (F := Ideal) i = 0 := host_zero i

include hx hw

theorem prod_eq (r : Fin 4112) (l : Fin 11264) : val_main_v0 (F := Ideal) x w (ix2 r l) = (mm (at2 x) (at2 w) r l : EReal) := by
  pointwise [val_main_v0]
  simp only [at2_coe hx, at2_coe hw, mul_coe, sum_coe]
  rfl

theorem g_eq (r : Fin 4112) (l : Fin 5632) : val_main_v1 (F := Ideal) x w (ix2 r l) = (mm (at2 x) (at2 w) r l : EReal) := by
  have e : idx_main_v1 (ix2 r l) = ix2 r ⟨l.val, by omega⟩ := by
    funext a
    apply Fin.ext
    match a with
    | ⟨0, _⟩ => rfl
    | ⟨1, _⟩ => rfl
  rw [val_main_v1_apply, e, prod_eq x w hx hw]

theorem u_eq (r : Fin 4112) (l : Fin 5632) : val_main_v2 (F := Ideal) x w (ix2 r l) = (mm (at2 x) (at2 w) r (5632 + l) : EReal) := by
  have e : idx_main_v2 (ix2 r l) = ix2 r ⟨5632 + l.val, by omega⟩ := by
    funext a
    apply Fin.ext
    match a with
    | ⟨0, _⟩ => rfl
    | ⟨1, _⟩ => rfl
  rw [val_main_v2_apply, e, prod_eq x w hx hw]

theorem sig_eq (r : Fin 4112) (l : Fin 5632) : val_main_call1_v5 (F := Ideal) x w (ix2 r l) = (sg (mm (at2 x) (at2 w) r l) : EReal) := by
  have key := g_eq x w hx hw
  unfold val_main_call1_v5 val_main_call1_v3 val_main_call1_v1 val_main_call1_v0
  generalize val_main_v1 (F := Ideal) x w = g at key ⊢
  pointwise [val_main_call1_v4, val_main_call1_v2, val_main_call1_cst, val_main_call1_cst_0]
  have hp : (1 + Real.exp (-mm (at2 x) (at2 w) r l)) ≠ 0 := by positivity
  rw [key, ← EReal.coe_one, ← EReal.coe_neg, Ideal.exp_coe, add_coe, div_coe hp]
  refine congrArg Real.toEReal ?_
  unfold sg
  rw [one_div]

theorem act_eq (r : Fin 4112) (l : Fin 5632) : val_main_v9 (F := Ideal) x w (ix2 r l) = (act (at2 x) (at2 w) r l : EReal) := by
  rw [val_main_v9_apply, val_main_v8_apply, u_eq x w hx hw, sig_eq x w hx hw, g_eq x w hx hw]
  show ((_ : EReal) * _) * _ = _
  rw [mul_coe, mul_coe]
  rfl

theorem res_g (g : Fin 2) (r : Fin 4224) (l : Fin 5632) : val_main_v7 (F := Ideal) x w (ix3 g r l) = (mm (at2 x) (at2 w) r (5632 * g + l) : EReal) := by
  refine (show _ = val_main_v6 (F := Ideal) x w (ix3 g r l) from rfl).trans ?_
  unfold val_main_v6 val_main_v5
  refine stack_pad (mm (at2 x) (at2 w)) (fun r l => ?_) (fun r l => ?_) (fun r l h => mm_out _ _ _ h) _ _ _ _ (host_zero _) g r l
  · rw [val_main_v3_apply]
    have e : idx_main_v3 (ix3 0 r l) = ix2 r l := by
      funext a
      match a with
      | ⟨0, _⟩ => rfl
      | ⟨1, _⟩ => rfl
    rw [e]
    exact g_eq x w hx hw r l
  · rw [val_main_v4_apply]
    have e : idx_main_v4 (ix3 0 r l) = ix2 r l := by
      funext a
      match a with
      | ⟨0, _⟩ => rfl
      | ⟨1, _⟩ => rfl
    rw [e]
    exact u_eq x w hx hw r l

theorem res_a (r : Fin 4224) (l : Fin 5632) : val_main_v11 (F := Ideal) x w (ix2 r l) = (act (at2 x) (at2 w) r l : EReal) := by
  refine (show _ = val_main_v10 (F := Ideal) x w (ix2 r l) from rfl).trans ?_
  unfold val_main_v10
  rw [pad_real (act (at2 x) (at2 w)) (act_eq x w hx hw) _ _ _ (host_zero' _) r l]
  refine congrArg Real.toEReal ?_
  split
  · rfl
  · unfold act
    rw [mm_out _ _ _ (by omega), zero_mul, zero_mul]

end Cert.FfnUpRefIdeal.Rows
-- ==== Proof.FfnUpClaim.lean ====
/- The claims about the gated feed-forward's first half, assembled. -/
module

public import proofs.«01_k».proof.Defs
public import proofs.«01_k».proof.Proof.Gen.FfnUp.Frame
public import proofs.«01_k».proof.Proof.Gen.Pre_finite_up
public import proofs.«01_k».proof.Proof.FfnUp
public import proofs.«01_k».proof.Proof.FfnUpRef

@[expose] public section

noncomputable section

namespace Cert.FfnUp

open Idealize.ShloMosaic Idealize.SL.Sem Cert.Reals Cert.Rms

/-- The precondition says that the two arguments are finite. -/
theorem fin2 {m : Cert.FfnUpIdeal.Tiles.Mem} (h : Cert.Pre_FfnUpIdeal_finite_up m) (c : Dev Cert.FfnUpIdeal.nD) :
    Cert.FfnUpIdeal.Tiles.Fin2 m c := by
  haveI : Subsingleton Cert.Pre_finite_up.S_.Idx := ⟨fun a b => funext fun i => i.elim0⟩
  let z : Cert.Pre_finite_up.S_.Idx := fun i => i.elim0
  have e := congrFun (h c) z
  unfold Cert.Pre_finite_up.fn at e
  dsimp only at e
  obtain ⟨e1, e2⟩ := andi_one _ _ _ e
  exact ⟨fun i => finite_of_cmpf (Host.reduce_andi_all _ _ _ _ _ e1 i), fun i => finite_of_cmpf (Host.reduce_andi_all _ _ _ _ _ e2 i)⟩

/-- The reference runs and leaves its arguments and the semaphores as they were. -/
theorem quiescent_ref : Cert.quiescent_FfnUpRefIdeal (hFfnUpRefIdeal := Cert.FfnUpRefIdeal.Gen.facts) := fun m ρ _ =>
  (θ_run _ _ _).mono (fun r h => ⟨fun c => (h c).2.2, sem_eq_zero_of_no_sems (by decide) r.2⟩) (Cert.FfnUpRefIdeal.Value.run (F := Ideal) m ρ)

section Values

variable {m : Cert.FfnUpIdeal.Tiles.Mem} {c : Dev Cert.FfnUpIdeal.nD} (h : Cert.FfnUpIdeal.Tiles.Fin2 m c)
open Cert.FfnUpIdeal.Tiles
include h

theorem ref_g : Cert.FfnUpRefIdeal.Read.val_main_v7 (F := Ideal) (argH m c) (argW m c) = resG m c := by
  funext i
  obtain ⟨g, r, l, rfl⟩ : ∃ (g : Fin 2) (r : Fin 4224) (l : Fin 5632), i = ix3 g r l := ⟨i 0, i 1, i 2, by funext a; fin_cases a <;> rfl⟩
  exact Cert.FfnUpRefIdeal.Rows.res_g _ _ h.h h.w g r l

theorem ref_a : Cert.FfnUpRefIdeal.Read.val_main_v11 (F := Ideal) (argH m c) (argW m c) = resA m c := by
  funext i
  obtain ⟨r, l, rfl⟩ : ∃ (r : Fin 4224) (l : Fin 5632), i = ix2 r l := ⟨i 0, i 1, by funext a; fin_cases a <;> rfl⟩
  exact Cert.FfnUpRefIdeal.Rows.res_a _ _ h.h h.w r l

end Values

theorem algebraic : Cert.algebraic_FfnUpIdeal_FfnUpRefIdeal_pre_finite_up (hFfnUpIdeal := Cert.FfnUpIdeal.Gen.facts)
    (hFfnUpRefIdeal := Cert.FfnUpRefIdeal.Gen.facts) (hPre_finite_up := Cert.Pre_finite_up.Gen.facts) := by
  intro m ρ m' ρ' hpre hag
  have hf := fun c => fin2 hpre c
  refine ⟨fun c => Cert.FfnUpIdeal.Tiles.resG m c, fun c => Cert.FfnUpIdeal.Tiles.resA m c, ?_, ?_⟩
  · refine (θ_run _ _ _).mono (fun r h c => ?_) (Cert.FfnUpIdeal.Value.run_blocks m ρ)
    obtain ⟨h0, h1, h3⟩ := h c
    exact ⟨h0.trans (Cert.FfnUpIdeal.Tiles.final_g (hf c)), h1.trans (Cert.FfnUpIdeal.Tiles.final_a (hf c)), h3⟩
  · refine (θ_run _ _ _).mono (fun r h c => ?_) (Cert.FfnUpRefIdeal.Value.run (F := Ideal) m' ρ')
    obtain ⟨h0, h1, h3⟩ := h c
    obtain ⟨a0, a1⟩ := hag c
    refine ⟨h0.trans ?_, h1.trans ?_, h3⟩
    · rw [Cert.FfnUpRefIdeal.Read.val_main_v7_eq, a0, a1]
      exact ref_g (hf c)
    · rw [Cert.FfnUpRefIdeal.Read.val_main_v11_eq, a0, a1]
      exact ref_a (hf c)

end Cert.FfnUp
-- ==== Proof.FfnDact.lean ====
/- The gated feed-forward's gradient at its two products: the kernel's tiles as real formulas. -/
module

public import proofs.«01_k».proof.Proof.Gen.FfnDactIdeal.Value
public import proofs.«01_k».proof.Proof.Ffn
public import proofs.«01_k».proof.Proof.Tile
public import Idealize.ShloMosaic.Lib.Quiescent

@[expose] public section

noncomputable section

namespace Cert.FfnDactIdeal.Tiles

open Idealize.ShloMosaic Idealize.SL.Sem Cert.FfnDactIdeal Cert.FfnDactIdeal.Gen Cert.Reals Cert.Rms Cert.Ffn Cert.Tile
open Facts

/-! ## One tile -/

section Tile

variable {H W D Q : ℕ → ℕ → ℝ} {n c : ℕ} (x : Vec Ideal S704x2048 .bf16) (q : Vec Ideal S1408x2048 .bf16) (g u : Vec Ideal S1x704x1408 .bf16)
  (hx : ∀ (r : Fin 704) (k : Fin 2048), x (ix2 r k) = (D (n + r) k : EReal))
  (hq : ∀ (l : Fin 1408) (k : Fin 2048), q (ix2 l k) = (Q (c + l) k : EReal))
  (hg : ∀ (r : Fin 704) (l : Fin 1408), g (ix3 0 r l) = (mm H W (n + r) (c + l) : EReal))
  (hu : ∀ (r : Fin 704) (l : Fin 1408), u (ix3 0 r l) = (mm H W (n + r) (5632 + (c + l)) : EReal))

include hx hq in
theorem pay2_eq (r : Fin 704) (l : Fin 1408) : k0_pay2 x q (ix2 r l) = (dact D Q (n + r) (c + l) : EReal) := by
  pointwise [k0_pay2]
  simp only [hx, hq, mul_coe, sum_coe]
  rfl

include hg in
theorem pay3_eq (r : Fin 704) (l : Fin 1408) : k0_pay3 g (ix2 r l) = (mm H W (n + r) (c + l) : EReal) := by
  pointwise [k0_pay3]
  exact hg r l

include hg in
theorem pay4_eq (r : Fin 704) (l : Fin 1408) : k0_pay4 g (ix2 r l) = (sg (mm H W (n + r) (c + l)) : EReal) := by
  have key := pay3_eq g hg
  unfold k0_pay4
  generalize k0_pay3 g = a at key ⊢
  pointwise
  simp only [key, ofBits_half, mul_coe, Ideal.tanh_coe, add_coe, sg_tanh]

include hx hq hg hu in
theorem pay5_eq (r : Fin 704) (l : Fin 1408) : k0_pay5 x q g u (ix3 0 r l) = (dg H W D Q (n + r) (c + l) : EReal) := by
  have k2 := pay2_eq x q hx hq
  have k3 := pay3_eq g hg
  have k4 := pay4_eq g hg
  unfold k0_pay5
  generalize k0_pay2 x q = d at k2 ⊢
  generalize k0_pay3 g = a at k3 ⊢
  generalize k0_pay4 g = s at k4 ⊢
  pointwise
  simp only [k2, k3, k4, hu, ofBits_one, mul_coe, sub_coe, add_coe]
  rfl

include hx hq hg in
theorem pay6_eq (r : Fin 704) (l : Fin 1408) : k0_pay1 (k0_pay6 x q g) (ix3 0 r l) = (du H W D Q (n + r) (c + l) : EReal) := by
  have k2 := pay2_eq x q hx hq
  have k3 := pay3_eq g hg
  have k4 := pay4_eq g hg
  unfold k0_pay6
  generalize k0_pay2 x q = d at k2 ⊢
  generalize k0_pay3 g = a at k3 ⊢
  generalize k0_pay4 g = s at k4 ⊢
  pointwise [k0_pay1]
  simp only [k2, k3, k4, mul_coe]
  rfl

end Tile

/-! ## The arrays the kernel reads -/

abbrev Mem := (ℓ : Loc nD τ sig) → Buf (Elt Ideal) ℓ

variable (m : Mem) (c : Dev nD)

abbrev argH : S4112x2048.Idx → EReal := m ((c.tc : Thread nD τ).loc main_arg0)
abbrev argW : S2048x11264.Idx → EReal := m ((c.tc : Thread nD τ).loc main_arg1)
abbrev argQ : S5632x2048.Idx → EReal := m ((c.tc : Thread nD τ).loc main_arg2)
abbrev argD : S4112x2048.Idx → EReal := m ((c.tc : Thread nD τ).loc main_arg3)

abbrev padv : S_.Idx → EReal := sitofp (F := Ideal) .f32 (constantI S_ 32 0#32)

theorem lit_zero : FloatOps.sitofp (F := Ideal) FTy.f32 (0#32 : BitVec 32) = ((0 : ℝ) : EReal) := by
  show ((((0#32 : BitVec 32).toInt : ℝ)) : EReal) = _
  simp

theorem padv_zero (i : S_.Idx) : padv i = 0 := lit_zero.trans EReal.coe_zero

/-- The two products, as the host multiplies them. -/
abbrev prod : S4112x11264.Idx → EReal :=
  Host.dotGeneral (F := Ideal) (φ₁ := .f32) (φ₂ := .f32) dot_S4112x2048_S2048x11264_S4112x11264_1_0_0_1_n_n none (argH m c) (argW m c)

abbrev halfG : S1x4112x5632.Idx → EReal :=
  broadcastInDim S1x4112x5632 ![1, 2] bcast_S4112x5632_S1x4112x5632_1_2 (extractStridedSlice S4112x5632 ![0, 0] (prod m c) slices_S4112x11264_S4112x5632_0_0)
abbrev halfU : S1x4112x5632.Idx → EReal :=
  broadcastInDim S1x4112x5632 ![1, 2] bcast_S4112x5632_S1x4112x5632_1_2 (extractStridedSlice S4112x5632 ![0, 5632] (prod m c) slices_S4112x11264_S4112x5632_0_5632)

theorem V_g : V m c main_v7 = truncf (F := Ideal) .bf16 (pad S2x4224x5632 ![0, 0, 0] ![0, 112, 0] ![0, 0, 0]
    (concatenate S2x4112x5632 0 [⟨S1x4112x5632, halfG m c⟩, ⟨S1x4112x5632, halfU m c⟩] concatenates_S1x4112x5632_S1x4112x5632_S2x4112x5632_d0)
    padv pads_S2x4112x5632_S2x4224x5632_000_01120_000 h_S_) bitsLt_bf16_f32 := by
  simp only [V, hostOps0, hostOps0_1, hostOps0_2, hostOps0_3, hostOps0_4, List.flatten_cons, List.flatten_nil, List.append_nil, List.cons_append, List.nil_append]
  after_results
  rfl

theorem V_d : V m c main_v9 = truncf (F := Ideal) .bf16 (pad S4224x2048 ![0, 0] ![112, 0] ![0, 0] (argD m c) padv pads_S4112x2048_S4224x2048_01120_000 h_S_) bitsLt_bf16_f32 := by
  simp only [V, hostOps0, hostOps0_1, hostOps0_2, hostOps0_3, hostOps0_4, List.flatten_cons, List.flatten_nil, List.append_nil, List.cons_append, List.nil_append]
  after_results
  rfl

theorem V_q : V m c main_v10 = truncf (F := Ideal) .bf16 (argQ m c) bitsLt_bf16_f32 := by
  simp only [V, hostOps0, hostOps0_1, hostOps0_2, hostOps0_3, hostOps0_4, List.flatten_cons, List.flatten_nil, List.append_nil, List.cons_append, List.nil_append]
  after_results

/-- The four arguments are finite. -/
structure Fin4 : Prop where
  h : ∀ i, ((argH m c i).toReal : EReal) = argH m c i
  w : ∀ i, ((argW m c i).toReal : EReal) = argW m c i
  q : ∀ i, ((argQ m c i).toReal : EReal) = argQ m c i
  d : ∀ i, ((argD m c i).toReal : EReal) = argD m c i

section In

variable {m c} (h : Fin4 m c)
include h

theorem prod_eq (r : Fin 4112) (l : Fin 11264) : prod m c (ix2 r l) = (mm (at2 (argH m c)) (at2 (argW m c)) r l : EReal) := by
  pointwise []
  simp only [at2_coe h.h, at2_coe h.w, mul_coe, sum_coe]
  rfl

theorem halfG_eq (r : Fin 4112) (l : Fin 5632) : halfG m c (ix3 0 r l) = (mm (at2 (argH m c)) (at2 (argW m c)) r l : EReal) := by
  have key := prod_eq h
  unfold halfG
  generalize prod m c = y at key ⊢
  pointwise []
  exact key r ⟨l.val, by omega⟩

theorem halfU_eq (r : Fin 4112) (l : Fin 5632) : halfU m c (ix3 0 r l) = (mm (at2 (argH m c)) (at2 (argW m c)) r (5632 + l) : EReal) := by
  have key := prod_eq h
  unfold halfU
  generalize prod m c = y at key ⊢
  pointwise []
  exact key r ⟨5632 + l.val, by omega⟩

theorem in_g (g : Fin 2) (r : Fin 4224) (l : Fin 5632) :
    (V m c main_v7 : S2x4224x5632.Idx → EReal) (ix3 g r l) = (mm (at2 (argH m c)) (at2 (argW m c)) r (5632 * g + l) : EReal) := by
  rw [V_g]
  exact stack_pad (mm (at2 (argH m c)) (at2 (argW m c))) (halfG_eq h) (halfU_eq h) (fun r l hr => mm_out _ _ _ hr) concatenates_S1x4112x5632_S1x4112x5632_S2x4112x5632_d0 padv
    pads_S2x4112x5632_S2x4224x5632_000_01120_000 h_S_ (padv_zero _) g r l

theorem in_d (r : Fin 4224) (l : Fin 2048) : (V m c main_v9 : S4224x2048.Idx → EReal) (ix2 r l) = (at2 (argD m c) r l : EReal) := by
  rw [V_d]
  pointwise []
  simp only [at2_coe h.d]
  rw [lit_zero]
  split
  · rfl
  · exact congrArg Real.toEReal (at2_out _ _ (by omega)).symm

theorem in_q (l : Fin 5632) (k : Fin 2048) : (V m c main_v10 : S5632x2048.Idx → EReal) (ix2 l k) = (at2 (argQ m c) l k : EReal) := by
  rw [V_q]
  exact at2_coe h.q _ _

end In

/-! ## The blocks -/

theorem idx : ∀ t : Fin cfg0.N, (win0_0.index t 0 = t.val % 6 ∧ win0_0.index t 1 = 0) ∧ (win0_1.index t 0 = t.val / 6 ∧ win0_1.index t 1 = 0)
    ∧ (win0_2.index t 0 = 0 ∧ win0_2.index t 1 = t.val % 6 ∧ win0_2.index t 2 = t.val / 6)
    ∧ (win0_3.index t 0 = 0 ∧ win0_3.index t 1 = t.val % 6 ∧ win0_3.index t 2 = t.val / 6) := by
  decide +kernel

/-- The first row and the first column of tile `t`. -/
abbrev row0 (t : Fin cfg0.N) : ℕ := t.val % 6 * 704
abbrev col0 (t : Fin cfg0.N) : ℕ := t.val / 6 * 1408

theorem row_lt (t : Fin cfg0.N) (r : Fin 704) : row0 t + r.val < 4224 := by
  show t.val % 6 * 704 + r.val < 4224
  omega

theorem col_lt (t : Fin cfg0.N) (l : Fin 1408) : col0 t + l.val < 5632 := by
  have h := lt_of_lt_of_eq t.isLt N_0
  show t.val / 6 * 1408 + l.val < 5632
  omega

section Blocks

variable {m c} (h : Fin4 m c)
include h

theorem blk0 (t : Fin cfg0.N) (r : Fin 704) (k : Fin 2048) :
    (iblk m c 0 t : Vec Ideal S704x2048 .bf16) (ix2 r k) = (at2 (argD m c) (row0 t + r.val) k : EReal) :=
  (tile2 (Val := Elt Ideal) (e := .bf16) (V m c main_v9) _ (idx t).1 r k ⟨_, row_lt t r⟩ k rfl (by omega)).trans (in_d h _ k)

theorem blk1 (t : Fin cfg0.N) (l : Fin 1408) (k : Fin 2048) :
    (iblk m c 1 t : Vec Ideal S1408x2048 .bf16) (ix2 l k) = (at2 (argQ m c) (col0 t + l.val) k : EReal) :=
  (tile2 (Val := Elt Ideal) (e := .bf16) (V m c main_v10) _ (idx t).2.1 l k ⟨_, col_lt t l⟩ k rfl (by omega)).trans (in_q h _ k)

theorem blk2 (t : Fin cfg0.N) (g : Fin 2) (r : Fin 704) (l : Fin 1408) :
    (iblk m c 2 t : Vec Ideal S2x704x1408 .bf16) (ix3 g r l) = (mm (at2 (argH m c)) (at2 (argW m c)) (row0 t + r.val) (5632 * g + (col0 t + l.val)) : EReal) :=
  (tile3 (Val := Elt Ideal) (e := .bf16) (V m c main_v7) _ (idx t).2.2.1 g r l g ⟨_, row_lt t r⟩ ⟨_, col_lt t l⟩ (by omega) rfl rfl).trans (in_g h g _ _)

end Blocks

/-! ## The result -/

/-- The gradient at the gate's product or, in the second half, at the other one. -/
def val (g r l : ℕ) : ℝ :=
  if g = 0 then dg (at2 (argH m c)) (at2 (argW m c)) (at2 (argD m c)) (at2 (argQ m c)) r l
  else du (at2 (argH m c)) (at2 (argW m c)) (at2 (argD m c)) (at2 (argQ m c)) r l

def res : S2x4224x5632.Idx → EReal := fun i => (val m c (i 0).val (i 1).val (i 2).val : EReal)

theorem ld0 (x : Vec Ideal S704x2048 .bf16) : View.ld x r0_0 = x :=
  View.ld_unit_zero (S := S704x2048) (by funext a; fin_cases a <;> rfl) _ x
theorem ld1 (x : Vec Ideal S1408x2048 .bf16) : View.ld x r0_1 = x :=
  View.ld_unit_zero (S := S1408x2048) (by funext a; fin_cases a <;> rfl) _ x

section Final

variable {m c} (h : Fin4 m c)
include h

theorem ld2 (t : Fin cfg0.N) (r : Fin 704) (l : Fin 1408) :
    View.ld (iblk m c 2 t : Vec Ideal S2x704x1408 .bf16) r0_2 (ix3 0 r l) = (mm (at2 (argH m c)) (at2 (argW m c)) (row0 t + r.val) (col0 t + l.val) : EReal) := by
  refine Eq.trans (show _ = (iblk m c 2 t : Vec Ideal S2x704x1408 .bf16) (r0_2.emb (ix3 0 r l)) from rfl) ?_
  rw [show r0_2.emb (ix3 0 r l) = ix3 0 r l from emb_half r l 0 rfl _, blk2 h]
  show ((mm _ _ _ (5632 * 0 + _) : ℝ) : EReal) = _
  rw [Nat.mul_zero, Nat.zero_add]

theorem ld3 (t : Fin cfg0.N) (r : Fin 704) (l : Fin 1408) :
    View.ld (iblk m c 2 t : Vec Ideal S2x704x1408 .bf16) r0_3 (ix3 0 r l) = (mm (at2 (argH m c)) (at2 (argW m c)) (row0 t + r.val) (5632 + (col0 t + l.val)) : EReal) := by
  refine Eq.trans (show _ = (iblk m c 2 t : Vec Ideal S2x704x1408 .bf16) (r0_3.emb (ix3 0 r l)) from rfl) ?_
  rw [show r0_3.emb (ix3 0 r l) = ix3 1 r l from emb_half r l 1 rfl _, blk2 h]
  rfl

theorem final_g : (dats m 0 c).arrAt 3 cfg0.N = res m c := by
  funext i
  obtain ⟨g, R, L, rfl⟩ : ∃ (g : Fin 2) (R : Fin 4224) (L : Fin 5632), i = ix3 g R L := ⟨i 0, i 1, i 2, by funext a; fin_cases a <;> rfl⟩
  obtain ⟨t, r, l, hR, hL⟩ := tile_of N_0 R L
  refine (tile3 ((dats m 0 c).arrAt 3 cfg0.N) _ (idx t).2.2.2 g r l g R L (by omega) hR hL).symm.trans
    ((congrFun (Value.blocks3 m c t (flush0_3 t)) (ix3 g r l)).trans ?_)
  rw [Value.flushed3]
  show out0_3 (F := Ideal) (iblk m c 0 t) (iblk m c 1 t) (iblk m c 2 t) (ix3 g r l) = (val m c g.val R.val L.val : EReal)
  unfold out0_3
  rw [ld0, ld1, hR, hL]
  match g with
  | 0 => exact (canon_fst _ _ _ _ r l).trans (pay5_eq _ _ _ _ (blk0 h t) (blk1 h t) (ld2 h t) (ld3 h t) r l)
  | 1 => exact (canon_snd _ _ _ _ r l).trans (pay6_eq _ _ _ (blk0 h t) (blk1 h t) (ld2 h t) r l)

end Final

end Cert.FfnDactIdeal.Tiles
-- ==== Proof.FfnDactRef.lean ====
/- The gated feed-forward's gradient as `jax.vjp` writes it, as the same real formulas. -/
module

public import proofs.«01_k».proof.Proof.Gen.FfnDactRefIdeal.Run
public import proofs.«01_k».proof.Proof.Gen.FfnDactRefIdeal.Read
public import proofs.«01_k».proof.Proof.Ffn

@[expose] public section

noncomputable section

namespace Cert.FfnDactRefIdeal.Rows

open Idealize.ShloMosaic Cert.FfnDactRefIdeal Cert.FfnDactRefIdeal.Gen Cert.FfnDactRefIdeal.Read Cert.Reals Cert.Rms Cert.Ffn
open Facts

/-- The two gradients side by side. -/
def both (H W D Q : ℕ → ℕ → ℝ) (r l : ℕ) : ℝ := if l < 5632 then dg H W D Q r l else du H W D Q r (l - 5632)

variable (x : S4112x2048.Idx → EReal) (w : S2048x11264.Idx → EReal) (q : S5632x2048.Idx → EReal) (d : S4112x2048.Idx → EReal)
  (hx : ∀ i, ((x i).toReal : EReal) = x i) (hw : ∀ i, ((w i).toReal : EReal) = w i) (hq : ∀ i, ((q i).toReal : EReal) = q i) (hd : ∀ i, ((d i).toReal : EReal) = d i)

/-- The padded zero of the host. -/
theorem host_zero (i : S_.Idx) : val_main_call2_v0 (F := Ideal) i = 0 := by
  show ((((0#32 : BitVec 32).toInt : ℝ)) : EReal) = 0
  simp

include hx hw

theorem prod_eq (r : Fin 4112) (l : Fin 11264) : val_main_v0 (F := Ideal) x w (ix2 r l) = (mm (at2 x) (at2 w) r l : EReal) := by
  pointwise [val_main_v0]
  simp only [at2_coe hx, at2_coe hw, mul_coe, sum_coe]
  rfl

theorem g_eq (r : Fin 4112) (l : Fin 5632) : val_main_v1 (F := Ideal) x w (ix2 r l) = (mm (at2 x) (at2 w) r l : EReal) := by
  have e : idx_main_v1 (ix2 r l) = ix2 r ⟨l.val, by omega⟩ := by
    funext a
    apply Fin.ext
    match a with
    | ⟨0, _⟩ => rfl
    | ⟨1, _⟩ => rfl
  rw [val_main_v1_apply, e, prod_eq x w hx hw]

theorem u_eq (r : Fin 4112) (l : Fin 5632) : val_main_v2 (F := Ideal) x w (ix2 r l) = (mm (at2 x) (at2 w) r (5632 + l) : EReal) := by
  have e : idx_main_v2 (ix2 r l) = ix2 r ⟨5632 + l.val, by omega⟩ := by
    funext a
    apply Fin.ext
    match a with
    | ⟨0, _⟩ => rfl
    | ⟨1, _⟩ => rfl
  rw [val_main_v2_apply, e, prod_eq x w hx hw]

theorem sig_eq (r : Fin 4112) (l : Fin 5632) : val_main_v3_2 (F := Ideal) x w (ix2 r l) = (sg (mm (at2 x) (at2 w) r l) : EReal) := by
  have key := g_eq x w hx hw
  unfold val_main_v3_2 val_main_call0_v3 val_main_call0_v1 val_main_call0_v0
  generalize val_main_v1 (F := Ideal) x w = g at key ⊢
  pointwise [val_main_call0_v4, val_main_call0_v2, val_main_call0_cst, val_main_call0_cst_0]
  have hp : (1 + Real.exp (-mm (at2 x) (at2 w) r l)) ≠ 0 := by positivity
  rw [key, ← EReal.coe_one, ← EReal.coe_neg, Ideal.exp_coe, add_coe, div_coe hp]
  refine congrArg Real.toEReal ?_
  unfold sg
  rw [one_div]

omit hx hw in
include hq hd in
theorem dact_eq (r : Fin 4112) (l : Fin 5632) : val_main_v6 (F := Ideal) q d (ix2 r l) = (dact (at2 d) (at2 q) r l : EReal) := by
  pointwise [val_main_v6]
  simp only [at2_coe hq, at2_coe hd, mul_coe, sum_coe]
  rfl

theorem der_eq (r : Fin 4112) (l : Fin 5632) :
    val_main_v3_1 (F := Ideal) x w (ix2 r l) = (sg (mm (at2 x) (at2 w) r l) * (1 - sg (mm (at2 x) (at2 w) r l)) : ℝ) := by
  have key := sig_eq x w hx hw
  unfold val_main_v3_1 val_main_call0_v7
  generalize val_main_v3_2 (F := Ideal) x w = s at key ⊢
  pointwise [val_main_call0_v6, val_main_call0_cst_1]
  rw [key, ← EReal.coe_one, sub_coe, mul_coe]

include hq hd

theorem du_eq (r : Fin 4112) (l : Fin 5632) : val_main_v7 (F := Ideal) x w q d (ix2 r l) = (du (at2 x) (at2 w) (at2 d) (at2 q) r l : EReal) := by
  rw [val_main_v7_apply, val_main_v3_0_apply, sig_eq x w hx hw, g_eq x w hx hw, dact_eq q d hq hd]
  show ((_ : EReal) * _) * _ = _
  rw [mul_coe, mul_coe]
  refine congrArg Real.toEReal ?_
  unfold du
  ring

theorem dg_eq (r : Fin 4112) (l : Fin 5632) : val_main_v9 (F := Ideal) x w q d (ix2 r l) = (dg (at2 x) (at2 w) (at2 d) (at2 q) r l : EReal) := by
  rw [val_main_v9_apply, val_main_call1_v1_apply, val_main_call1_v2_apply, val_main_call1_v0_apply, val_main_v8_apply, der_eq x w hx hw, sig_eq x w hx hw, g_eq x w hx hw,
    u_eq x w hx hw, dact_eq q d hq hd]
  show (((_ : EReal) * _) * _) + (_ * (_ * _)) * _ = _
  simp only [mul_coe, add_coe]
  refine congrArg Real.toEReal ?_
  unfold dg
  ring

theorem res_eq (g : Fin 2) (r : Fin 4224) (l : Fin 5632) :
    val_main_v14 (F := Ideal) x w q d (ix3 g r l) = ((if g.val = 0 then dg (at2 x) (at2 w) (at2 d) (at2 q) r l else du (at2 x) (at2 w) (at2 d) (at2 q) r l : ℝ) : EReal) := by
  refine (show _ = val_main_v13 (F := Ideal) x w q d (ix3 g r l) from rfl).trans ?_
  unfold val_main_v13 val_main_v12
  refine (stack_pad (both (at2 x) (at2 w) (at2 d) (at2 q)) (fun r l => ?_) (fun r l => ?_) (fun r l h => ?_) _ _ _ _ (host_zero _) g r l).trans ?_
  · rw [val_main_v10_apply]
    have e : idx_main_v10 (ix3 0 r l) = ix2 r l := by
      funext a
      match a with
      | ⟨0, _⟩ => rfl
      | ⟨1, _⟩ => rfl
    rw [e]
    rw [dg_eq x w q d hx hw hq hd r l]
    unfold both
    rw [if_pos l.isLt]
  · rw [val_main_v11_apply]
    have e : idx_main_v11 (ix3 0 r l) = ix2 r l := by
      funext a
      match a with
      | ⟨0, _⟩ => rfl
      | ⟨1, _⟩ => rfl
    rw [e]
    rw [du_eq x w q d hx hw hq hd r l]
    unfold both
    rw [if_neg (by omega), Nat.add_sub_cancel_left]
  · unfold both dg du
    rw [dact_out _ _ _ h, dact_out _ _ _ h]
    simp
  · refine congrArg Real.toEReal ?_
    unfold both
    have hg := g.isLt
    by_cases h0 : g.val = 0
    · rw [if_pos h0, if_pos (by omega), h0, Nat.mul_zero, Nat.zero_add]
    · have h1 : g.val = 1 := by omega
      rw [if_neg h0, if_neg (by omega), h1, Nat.mul_one, Nat.add_sub_cancel_left]

end Cert.FfnDactRefIdeal.Rows
-- ==== Proof.FfnDactClaim.lean ====
/- The claims about the gated feed-forward's gradient at its two products, assembled. -/
module

public import proofs.«01_k».proof.Defs
public import proofs.«01_k».proof.Proof.Gen.FfnDact.Frame
public import proofs.«01_k».proof.Proof.Gen.Pre_finite_dact
public import proofs.«01_k».proof.Proof.FfnDact
public import proofs.«01_k».proof.Proof.FfnDactRef

@[expose] public section

noncomputable section

namespace Cert.FfnDact

open Idealize.ShloMosaic Idealize.SL.Sem Cert.Reals Cert.Rms

/-- The precondition says that the four arguments are finite. -/
theorem fin4 {m : Cert.FfnDactIdeal.Tiles.Mem} (h : Cert.Pre_FfnDactIdeal_finite_dact m) (c : Dev Cert.FfnDactIdeal.nD) :
    Cert.FfnDactIdeal.Tiles.Fin4 m c := by
  haveI : Subsingleton Cert.Pre_finite_dact.S_.Idx := ⟨fun a b => funext fun i => i.elim0⟩
  let z : Cert.Pre_finite_dact.S_.Idx := fun i => i.elim0
  have e := congrFun (h c) z
  unfold Cert.Pre_finite_dact.fn at e
  dsimp only at e
  obtain ⟨e, e4⟩ := andi_one _ _ _ e
  obtain ⟨e, e3⟩ := andi_one _ _ _ e
  obtain ⟨e1, e2⟩ := andi_one _ _ _ e
  exact ⟨fun i => finite_of_cmpf (Host.reduce_andi_all _ _ _ _ _ e1 i), fun i => finite_of_cmpf (Host.reduce_andi_all _ _ _ _ _ e2 i),
    fun i => finite_of_cmpf (Host.reduce_andi_all _ _ _ _ _ e3 i), fun i => finite_of_cmpf (Host.reduce_andi_all _ _ _ _ _ e4 i)⟩

/-- The reference runs and leaves its arguments and the semaphores as they were. -/
theorem quiescent_ref : Cert.quiescent_FfnDactRefIdeal (hFfnDactRefIdeal := Cert.FfnDactRefIdeal.Gen.facts) := fun m ρ _ =>
  (θ_run _ _ _).mono (fun r h => ⟨fun c => (h c).2, sem_eq_zero_of_no_sems (by decide) r.2⟩) (Cert.FfnDactRefIdeal.Value.run (F := Ideal) m ρ)

theorem ref_eq {m : Cert.FfnDactIdeal.Tiles.Mem} {c : Dev Cert.FfnDactIdeal.nD} (h : Cert.FfnDactIdeal.Tiles.Fin4 m c) :
    Cert.FfnDactRefIdeal.Read.val_main_v14 (F := Ideal) (Cert.FfnDactIdeal.Tiles.argH m c) (Cert.FfnDactIdeal.Tiles.argW m c) (Cert.FfnDactIdeal.Tiles.argQ m c)
      (Cert.FfnDactIdeal.Tiles.argD m c) = Cert.FfnDactIdeal.Tiles.res m c := by
  funext i
  obtain ⟨g, r, l, rfl⟩ : ∃ (g : Fin 2) (r : Fin 4224) (l : Fin 5632), i = ix3 g r l := ⟨i 0, i 1, i 2, by funext a; fin_cases a <;> rfl⟩
  exact Cert.FfnDactRefIdeal.Rows.res_eq _ _ _ _ h.h h.w h.q h.d g r l

theorem algebraic : Cert.algebraic_FfnDactIdeal_FfnDactRefIdeal_pre_finite_dact (hFfnDactIdeal := Cert.FfnDactIdeal.Gen.facts)
    (hFfnDactRefIdeal := Cert.FfnDactRefIdeal.Gen.facts) (hPre_finite_dact := Cert.Pre_finite_dact.Gen.facts) := by
  intro m ρ m' ρ' hpre hag
  have hf := fun c => fin4 hpre c
  refine ⟨fun c => Cert.FfnDactIdeal.Tiles.res m c, ?_, ?_⟩
  · refine (θ_run _ _ _).mono (fun r h c => ?_) (Cert.FfnDactIdeal.Value.run_blocks m ρ)
    obtain ⟨h0, h3⟩ := h c
    exact ⟨h0.trans (Cert.FfnDactIdeal.Tiles.final_g (hf c)), h3⟩
  · refine (θ_run _ _ _).mono (fun r h c => ?_) (Cert.FfnDactRefIdeal.Value.run (F := Ideal) m' ρ')
    obtain ⟨h0, h3⟩ := h c
    obtain ⟨a0, a1, a2, a3⟩ := hag c
    refine ⟨h0.trans ?_, h3⟩
    rw [Cert.FfnDactRefIdeal.Read.val_main_v14_eq, a0, a1, a2, a3]
    exact ref_eq (hf c)

end Cert.FfnDact
-- ==== Proof.AttendLoop.lean ====
/- The loop over query tiles of the forward attention: what one trip reads and writes, and what all trips before
   a given one have written. -/
module

public import proofs.«01_k».proof.Proof.Gen.AttnFwdIdeal.Frame
public import proofs.«01_k».proof.Proof.Gen.AttnFwdIdeal.Loops

@[expose] public section

set_option maxRecDepth 16384
set_option maxHeartbeats 4000000

noncomputable section

namespace Cert.AttnFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnFwdIdeal Cert.AttnFwdIdeal.Gen

variable {F : FTy → Type} [FloatOps F] [Named F]

/-- The kernel's nine blocks: three it reads, two it writes, and its four scratch buffers. -/
structure Args where
  a1 : Memref sig .tc .vmem S4224x256 .bf16
  h1 : a1.IsWhole
  a2 : Memref sig .tc .vmem S4224x256 .bf16
  h2 : a2.IsWhole
  a3 : Memref sig .tc .vmem S4224x128 .bf16
  h3 : a3.IsWhole
  a4 : Memref sig .tc .vmem S4224x128 .bf16
  h4 : a4.IsWhole
  a5 : Memref sig .tc .vmem S1x4224x128 .f32
  h5 : a5.IsWhole
  a6 : Memref sig .tc .vmem S4224x256 .bf16
  h6 : a6.IsWhole
  a7 : Memref sig .tc .vmem S512x1 .f32
  h7 : a7.IsWhole
  a8 : Memref sig .tc .vmem S512x1 .f32
  h8 : a8.IsWhole
  a9 : Memref sig .tc .vmem S512x128 .f32
  h9 : a9.IsWhole

/-- The contents of the blocks a trip only reads: the queries, the keys and values, and the copy of the keys. -/
structure Ins (F : FTy → Type) (A : Args) where
  x1 : BufTy.Contents (Elt F) A.a1.view.ty
  x2 : BufTy.Contents (Elt F) A.a2.view.ty
  x6 : BufTy.Contents (Elt F) A.a6.view.ty

/-- What a trip holds. -/
abbrev Trip (c : Dev nD) (A : Args) (X : Ins F A) (f4 : BufTy.Contents (Elt F) A.a4.view.ty) (f5 : BufTy.Contents (Elt F) A.a5.view.ty) (f7 : BufTy.Contents (Elt F) A.a7.view.ty) (f8 : BufTy.Contents (Elt F) A.a8.view.ty) (f9 : BufTy.Contents (Elt F) A.a9.view.ty) :
    sProp (MT nD τ sig Unit (Elt F) ℕ (UR sig nD τ) ℕ) :=
  iprop((A.a1.view.loc (c : Thread nD τ) ↦[A.a1.view.set]{fullShare} X.x1) ∗
    (A.a2.view.loc (c : Thread nD τ) ↦[A.a2.view.set]{fullShare} X.x2) ∗
    (A.a6.view.loc (c : Thread nD τ) ↦[A.a6.view.set]{fullShare} X.x6) ∗
    (A.a4.view.loc (c : Thread nD τ) ↦[A.a4.view.set]{fullShare} f4) ∗
    (A.a5.view.loc (c : Thread nD τ) ↦[A.a5.view.set]{fullShare} f5) ∗
    (A.a7.view.loc (c : Thread nD τ) ↦[A.a7.view.set]{fullShare} f7) ∗
    (A.a8.view.loc (c : Thread nD τ) ↦[A.a8.view.set]{fullShare} f8) ∗
    (A.a9.view.loc (c : Thread nD τ) ↦[A.a9.view.set]{fullShare} f9))

/-- What one trip writes: its rows of the two outputs, and the three accumulators, begun anew by every trip. -/
structure Pieces (F : FTy → Type) [FloatOps F] (A : Args) where
  L4 : List (View.Piece (Elt F) S4224x128 .bf16)
  L5 : List (View.Piece (Elt F) S1x4224x128 .f32)
  C7 : BufTy.Contents (Elt F) A.a7.view.ty
  C8 : BufTy.Contents (Elt F) A.a8.view.ty
  C9 : BufTy.Contents (Elt F) A.a9.view.ty

/-- One trip, at an odd tile (a half block remains). -/
@[irreducible] def trip_odd (c : Dev nD) (i : grid0.Coords) (A : Args) (X : Ins F A)
    (k : Fin k0_t1_loop.trips) (hk : k0_cond1 k = 1#1) :
    { L : Pieces F A //
        ∀ (E : Set ℕ) (f4 : BufTy.Contents (Elt F) A.a4.view.ty) (f5 : BufTy.Contents (Elt F) A.a5.view.ty) (f7 : BufTy.Contents (Elt F) A.a7.view.ty) (f8 : BufTy.Contents (Elt F) A.a8.view.ty) (f9 : BufTy.Contents (Elt F) A.a9.view.ty),
          Trip c A X f4 f5 f7 f8 f9
          ⊢ wp frame (wpE (defs₀ (F := F)) Variants.none (c : Thread nD τ) none) E
              (k0_t1_body (F := F) i A.a1 A.h1 A.a2 A.h2 A.a3 A.h3 A.a4 A.h4 A.a5 A.h5 A.a6 A.h6 A.a7 A.h7 A.a8 A.h8 A.a9 A.h9 k PUnit.unit)
              (fun _ => Trip c A X (A.a4.view.writes (Elt F) f4 L.L4) (A.a5.view.writes (Elt F) f5 L.L5) L.C7 L.C8 L.C9) } := by
  refine ⟨⟨?_, ?_, ?_, ?_, ?_⟩, fun E f4 f5 f7 f8 f9 => ?run⟩
  case run =>
    unfold k0_t1_body
    iintro ⟨HR1, HR2, HR6, HW4, HW5, HW7, HW8, HW9⟩
    sl_exec
    sl_step
    sl_close

/-- One trip, at an even tile (no half block remains). -/
@[irreducible] def trip_even (c : Dev nD) (i : grid0.Coords) (A : Args) (X : Ins F A)
    (k : Fin k0_t1_loop.trips) (hk : ¬ k0_cond1 k = 1#1) :
    { L : Pieces F A //
        ∀ (E : Set ℕ) (f4 : BufTy.Contents (Elt F) A.a4.view.ty) (f5 : BufTy.Contents (Elt F) A.a5.view.ty) (f7 : BufTy.Contents (Elt F) A.a7.view.ty) (f8 : BufTy.Contents (Elt F) A.a8.view.ty) (f9 : BufTy.Contents (Elt F) A.a9.view.ty),
          Trip c A X f4 f5 f7 f8 f9
          ⊢ wp frame (wpE (defs₀ (F := F)) Variants.none (c : Thread nD τ) none) E
              (k0_t1_body (F := F) i A.a1 A.h1 A.a2 A.h2 A.a3 A.h3 A.a4 A.h4 A.a5 A.h5 A.a6 A.h6 A.a7 A.h7 A.a8 A.h8 A.a9 A.h9 k PUnit.unit)
              (fun _ => Trip c A X (A.a4.view.writes (Elt F) f4 L.L4) (A.a5.view.writes (Elt F) f5 L.L5) L.C7 L.C8 L.C9) } := by
  refine ⟨⟨?_, ?_, ?_, ?_, ?_⟩, fun E f4 f5 f7 f8 f9 => ?run⟩
  case run =>
    unfold k0_t1_body
    iintro ⟨HR1, HR2, HR6, HW4, HW5, HW7, HW8, HW9⟩
    sl_exec
    sl_step
    sl_close

/-- What one trip writes, at either parity. -/
def tripL (c : Dev nD) (i : grid0.Coords) (A : Args) (X : Ins F A) (k : Fin k0_t1_loop.trips) : Pieces F A :=
  if hk : k0_cond1 k = 1#1 then (trip_odd c i A X k hk).1 else (trip_even c i A X k hk).1

theorem trip_run (c : Dev nD) (i : grid0.Coords) (A : Args) (X : Ins F A) (k : Fin k0_t1_loop.trips) (E : Set ℕ)
    (f4 : BufTy.Contents (Elt F) A.a4.view.ty) (f5 : BufTy.Contents (Elt F) A.a5.view.ty) (f7 : BufTy.Contents (Elt F) A.a7.view.ty) (f8 : BufTy.Contents (Elt F) A.a8.view.ty) (f9 : BufTy.Contents (Elt F) A.a9.view.ty) :
    Trip c A X f4 f5 f7 f8 f9
    ⊢ wp frame (wpE (defs₀ (F := F)) Variants.none (c : Thread nD τ) none) E
        (k0_t1_body (F := F) i A.a1 A.h1 A.a2 A.h2 A.a3 A.h3 A.a4 A.h4 A.a5 A.h5 A.a6 A.h6 A.a7 A.h7 A.a8 A.h8 A.a9 A.h9 k PUnit.unit)
        (fun _ => Trip c A X (A.a4.view.writes (Elt F) f4 (tripL c i A X k).L4) (A.a5.view.writes (Elt F) f5 (tripL c i A X k).L5) (tripL c i A X k).C7 (tripL c i A X k).C8 (tripL c i A X k).C9) := by
  unfold tripL
  split
  · next hk => exact (trip_odd c i A X k hk).2 E f4 f5 f7 f8 f9
  · next hk => exact (trip_even c i A X k hk).2 E f4 f5 f7 f8 f9

/-- The rows of the first output written so far, the last trip's in front; -/
def done4 (c : Dev nD) (i : grid0.Coords) (A : Args) (X : Ins F A) : ℕ → List (View.Piece (Elt F) S4224x128 .bf16)
  | 0 => []
  | k + 1 => (if h : k < k0_t1_loop.trips then (tripL c i A X ⟨k, h⟩).L4 else []) ++ done4 c i A X k

/-- and of the second. -/
def done5 (c : Dev nD) (i : grid0.Coords) (A : Args) (X : Ins F A) : ℕ → List (View.Piece (Elt F) S1x4224x128 .f32)
  | 0 => []
  | k + 1 => (if h : k < k0_t1_loop.trips then (tripL c i A X ⟨k, h⟩).L5 else []) ++ done5 c i A X k

theorem done4_succ (c : Dev nD) (i : grid0.Coords) (A : Args) (X : Ins F A) (k : Fin k0_t1_loop.trips) :
    done4 c i A X (k.val + 1) = (tripL c i A X k).L4 ++ done4 c i A X k.val := by
  show (if h : k.val < k0_t1_loop.trips then (tripL c i A X ⟨k.val, h⟩).L4 else []) ++ _ = _
  rw [dif_pos k.isLt]

theorem done5_succ (c : Dev nD) (i : grid0.Coords) (A : Args) (X : Ins F A) (k : Fin k0_t1_loop.trips) :
    done5 c i A X (k.val + 1) = (tripL c i A X k).L5 ++ done5 c i A X k.val := by
  show (if h : k.val < k0_t1_loop.trips then (tripL c i A X ⟨k.val, h⟩).L5 else []) ++ _ = _
  rw [dif_pos k.isLt]

set_option warn.classDefReducibility false in
/-- The loop's invariant: before trip `k`, the blocks read as they were, the outputs with the pieces of the earlier
    trips, the accumulators holding something. -/
@[sl_loop] def loopInv (c : Dev nD) (i : grid0.Coords) (A : Args) (x1 : BufTy.Contents (Elt F) A.a1.view.ty) (x2 : BufTy.Contents (Elt F) A.a2.view.ty) (x6 : BufTy.Contents (Elt F) A.a6.view.ty) (E : Set ℕ)
    (G4 : BufTy.Contents (Elt F) A.a4.view.ty) (G5 : BufTy.Contents (Elt F) A.a5.view.ty) :
    LoopInvTy_k0_t1 (F := F) Unit ℕ (UR sig nD τ) ℕ Variants.none c none E i A.a1 A.h1 A.a2 A.h2 A.a3 A.h3 A.a4 A.h4 A.a5 A.h5 A.a6 A.h6 A.a7 A.h7 A.a8 A.h8 A.a9 A.h9 where
  inv k _ := iprop((A.a1.view.loc (c : Thread nD τ) ↦[A.a1.view.set]{fullShare} x1) ∗ (A.a2.view.loc (c : Thread nD τ) ↦[A.a2.view.set]{fullShare} x2) ∗ (A.a6.view.loc (c : Thread nD τ) ↦[A.a6.view.set]{fullShare} x6) ∗
    (∃ f, (A.a4.view.loc (c : Thread nD τ) ↦[A.a4.view.set]{fullShare} f) ∗ ⌜f = A.a4.view.writes (Elt F) G4 (done4 c i A ⟨x1, x2, x6⟩ k)⌝) ∗
    (∃ f, (A.a5.view.loc (c : Thread nD τ) ↦[A.a5.view.set]{fullShare} f) ∗ ⌜f = A.a5.view.writes (Elt F) G5 (done5 c i A ⟨x1, x2, x6⟩ k)⌝) ∗
    (∃ f, (A.a7.view.loc (c : Thread nD τ) ↦[A.a7.view.set]{fullShare} f)) ∗ (∃ f, (A.a8.view.loc (c : Thread nD τ) ↦[A.a8.view.set]{fullShare} f)) ∗ (∃ f, (A.a9.view.loc (c : Thread nD τ) ↦[A.a9.view.set]{fullShare} f)))
  step k acc := by
    iintro ⟨HR1, HR2, HR6, ⟨%f4, HW4, %h4⟩, ⟨%f5, HW5, %h5⟩, ⟨%f7, HW7⟩, ⟨%f8, HW8⟩, ⟨%f9, HW9⟩⟩
    iapply (wp_wand_r Idealize.ShloMosaic.frame (wpE (defs₀ (F := F)) Variants.none (c : Thread nD τ) none) E)
    isplitl [HR1 HR2 HR6 HW4 HW5 HW7 HW8 HW9]
    · iapply (trip_run c i A ⟨x1, x2, x6⟩ k E f4 f5 f7 f8 f9)
      isplitl [HR1]; · iexact HR1
      isplitl [HR2]; · iexact HR2
      isplitl [HR6]; · iexact HR6
      isplitl [HW4]; · iexact HW4
      isplitl [HW5]; · iexact HW5
      isplitl [HW7]; · iexact HW7
      isplitl [HW8]; · iexact HW8
      iexact HW9
    · iintro %_ ⟨HR1, HR2, HR6, HW4, HW5, HW7, HW8, HW9⟩
      rw [done4_succ, done5_succ]
      isplitl [HR1]; · iexact HR1
      isplitl [HR2]; · iexact HR2
      isplitl [HR6]; · iexact HR6
      isplitl [HW4]
      · iexists _; isplitl [HW4]
        · iexact HW4
        · ipureintro; rw [h4, ← View.writes_append]
      isplitl [HW5]
      · iexists _; isplitl [HW5]
        · iexact HW5
        · ipureintro; rw [h5, ← View.writes_append]
      isplitl [HW7]; · iexists _; iexact HW7
      isplitl [HW8]; · iexists _; iexact HW8
      iexists _; iexact HW9

end Cert.AttnFwdIdeal.Hand
-- ==== Proof.AttendMath.lean ====
/- The running maximum, sum and average of a row of a softmax, over the reals: what one more block of scores does to
   them. -/
module

public import proofs.«01_k».proof.Proof.Tiles
public import proofs.«01_k».proof.Proof.AttnMath
public import proofs.«01_k».proof.Proof.AttnRef

@[expose] public section

noncomputable section

namespace Cert.Attend

open Idealize.ShloMosaic Cert.Reals Cert.Attn

/-- One row's running maximum `m`, sum `l` and weighted sum `a`, standing for the sum `c` of exponentials and the
    weighted sum `y`: either nothing was seen, or both are scaled by the exponential of some real number. -/
def Row (c : ℝ) (y : ℕ → ℝ) (m l : EReal) (a : Fin 128 → EReal) : Prop :=
  (m = ⊥ ∧ l = 0 ∧ (∀ d, a d = 0) ∧ c = 0 ∧ ∀ d : Fin 128, y d = 0) ∨
    ∃ μ : ℝ, m = (μ : EReal) ∧ l = ((Real.exp (-μ) * c : ℝ) : EReal) ∧ ∀ d : Fin 128, a d = ((Real.exp (-μ) * y d : ℝ) : EReal)

theorem Row.congr {c c' : ℝ} {y y' : ℕ → ℝ} {m l : EReal} {a : Fin 128 → EReal} (h : Row c y m l a) (ec : c = c') (ey : ∀ d : Fin 128, y d = y' d) :
    Row c' y' m l a := by
  subst ec
  rcases h with ⟨hm, hl, ha, hc, hy⟩ | ⟨μ, hm, hl, ha⟩
  · exact Or.inl ⟨hm, hl, ha, hc, fun d => (ey d).symm.trans (hy d)⟩
  · exact Or.inr ⟨μ, hm, hl, fun d => by rw [ha, ey]⟩

/-- One more block of scores, at least one of them let through. -/
theorem Row.step {W : ℕ} {c : ℝ} {y : ℕ → ℝ} {m l : EReal} {a : Fin 128 → EReal} (h : Row c y m l a) {S : Fin W → EReal}
    (ok : Fin W → Prop) [DecidablePred ok] (σ : Fin W → ℝ) (hS : ∀ k, S k = if ok k then (σ k : EReal) else ⊥) (k₀ : Fin W) (hk : ok k₀)
    (V : Fin W → Fin 128 → EReal) (v : Fin W → ℕ → ℝ) (hV : ∀ k d, V k d = (v k d : EReal)) {m' l' : EReal} {a' : Fin 128 → EReal}
    (hm : m' = max m (Finset.fold max ⊥ S Finset.univ))
    (hl : l' = Ideal.exp (m - m') * l + ∑ k, Ideal.exp (S k - m'))
    (ha : ∀ d, a' d = Ideal.exp (m - m') * a d + ∑ k, Ideal.exp (S k - m') * V k d) :
    Row (c + ∑ k, if ok k then Real.exp (σ k) else 0) (fun d => y d + ∑ k, if ok k then Real.exp (σ k) * v k d else 0) m' l' a' := by
  obtain ⟨s, hs⟩ : ∃ s : ℝ, (s : EReal) = Finset.fold max ⊥ S Finset.univ :=
    ⟨_, fold_max_real S (fun k => by rw [hS]; split; exacts [EReal.coe_ne_top _, bot_ne_top]) k₀ (by rw [hS, if_pos hk]; exact EReal.coe_ne_bot _)⟩
  rw [← hs] at hm
  obtain ⟨ν, hν⟩ : ∃ ν : ℝ, m' = (ν : EReal) := by
    rcases h with ⟨h, -⟩ | ⟨μ, h, -⟩
    · exact ⟨s, by rw [hm, h]; exact max_eq_right bot_le⟩
    · exact ⟨max μ s, by rw [hm, h]; exact (EReal.coe_strictMono.monotone.map_max).symm⟩
  have he : ∀ k, Ideal.exp (S k - m') = ((Real.exp (-ν) * (if ok k then Real.exp (σ k) else 0) : ℝ) : EReal) := fun k => by
    rw [hS, hν]
    split
    · rw [sub_coe, Ideal.exp_coe, ← Real.exp_add, sub_eq_neg_add]
    · rw [EReal.bot_sub, mul_zero, EReal.coe_zero]; exact Ideal.exp_bot
  have hs1 : ∑ k, Ideal.exp (S k - m') = ((Real.exp (-ν) * ∑ k, (if ok k then Real.exp (σ k) else 0) : ℝ) : EReal) := by
    rw [Finset.sum_congr rfl fun k _ => he k, sum_coe, Finset.mul_sum]
  have hs2 : ∀ d : Fin 128, ∑ k, Ideal.exp (S k - m') * V k d = ((Real.exp (-ν) * ∑ k, (if ok k then Real.exp (σ k) * v k d else 0) : ℝ) : EReal) := fun d => by
    rw [Finset.sum_congr rfl fun k _ => show Ideal.exp (S k - m') * V k d = ((Real.exp (-ν) * (if ok k then Real.exp (σ k) * v k d else 0) : ℝ) : EReal) from ?_,
      sum_coe, Finset.mul_sum]
    rw [he, hV, mul_coe]
    split
    · rw [mul_assoc]
    · rw [mul_zero, zero_mul]
  refine Or.inr ⟨ν, hν, ?_, fun d => ?_⟩
  · rw [hl, hs1]
    rcases h with ⟨h, h1, -, h3, -⟩ | ⟨μ, h, h1, -⟩
    · rw [h1, mul_zero, zero_add, h3, zero_add]
    · rw [h, hν, h1, sub_coe, Ideal.exp_coe, mul_coe, add_coe, ← mul_assoc, ← Real.exp_add, mul_add, show μ - ν + -μ = -ν by ring]
  · rw [ha, hs2]
    rcases h with ⟨h, -, h2, -, h4⟩ | ⟨μ, h, -, h2⟩
    · rw [h2, mul_zero, zero_add]
      dsimp only
      rw [h4, zero_add]
    · rw [h, hν, h2, sub_coe, Ideal.exp_coe, mul_coe, add_coe, ← mul_assoc, ← Real.exp_add, mul_add, show μ - ν + -μ = -ν by ring]

/-- The quotient of the two sums, -/
theorem Row.quot {c : ℝ} {y : ℕ → ℝ} {m l : EReal} {a : Fin 128 → EReal} (h : Row c y m l a) (hc : 0 < c) (d : Fin 128) :
    Ideal.div (a d) l = ((y d / c : ℝ) : EReal) := by
  rcases h with ⟨-, -, -, h, -⟩ | ⟨μ, -, hl, ha⟩
  · exact absurd h hc.ne'
  · rw [hl, ha, div_coe (mul_ne_zero (Real.exp_pos _).ne' hc.ne'), mul_div_mul_left _ _ (Real.exp_pos _).ne']

/-- and the logarithm of the sum. -/
theorem Row.logsum {c : ℝ} {y : ℕ → ℝ} {m l : EReal} {a : Fin 128 → EReal} (h : Row c y m l a) (hc : 0 < c) :
    m + Ideal.log l = ((Real.log c : ℝ) : EReal) := by
  rcases h with ⟨-, -, -, h, -⟩ | ⟨μ, hm, hl, -⟩
  · exact absurd h hc.ne'
  · rw [hm, hl, Ideal.log_coe, if_neg (not_le.2 (mul_pos (Real.exp_pos _) hc)), add_coe, Real.log_mul (Real.exp_pos _).ne' hc.ne', Real.log_exp,
      add_neg_cancel_left]

/-- A block of rows of the three. -/
def Acc {n : ℕ} (c : ℕ → ℝ) (y : ℕ → ℕ → ℝ) (m l : (⟨2, ![n, 1]⟩ : Shape).Idx → EReal) (a : (⟨2, ![n, 128]⟩ : Shape).Idx → EReal) : Prop :=
  ∀ r : Fin n, Row (c r) (y r) (m (ix2 r 0)) (l (ix2 r 0)) fun d => a (ix2 r d)

theorem Acc.congr {n : ℕ} {c c' : ℕ → ℝ} {y y' : ℕ → ℕ → ℝ} {m l : (⟨2, ![n, 1]⟩ : Shape).Idx → EReal} {a : (⟨2, ![n, 128]⟩ : Shape).Idx → EReal}
    (h : Acc c y m l a) (ec : ∀ r, r < n → c r = c' r) (ey : ∀ r d, r < n → y r d = y' r d) : Acc c' y' m l a :=
  fun r => (h r).congr (ec r r.isLt) fun d => ey r d r.isLt

end Cert.Attend
-- ==== Proof.AttendPay.lean ====
/- What the forward attention's arithmetic does to the running maximum, sum and average of a tile of rows, block of keys
   by block of keys, over the reals. -/
module

public import proofs.«01_k».proof.Proof.AttendMath
public import proofs.«01_k».proof.Proof.Gen.AttnFwdIdeal.Skeleton

@[expose] public section

set_option maxRecDepth 16384
set_option maxHeartbeats 400000

noncomputable section

namespace Cert.AttnFwdIdeal.Hand

open Idealize.ShloMosaic Cert.AttnFwdIdeal Cert.AttnFwdIdeal.Gen Cert.Reals Cert.Attn Cert.Attend

/-- The scaled score of a query against a key. -/
def dot (q k : ℕ → ℕ → ℝ) (r j : ℕ) : ℝ := (∑ d : Fin 256, q r d * k j d) * scale

/-- The mask's number is minus infinity. -/
theorem named_mask : (Named.named (F := Ideal) κ "mask" 0xF149F2CA#32 : Ideal .f32) = ⊥ := rfl

section Full
variable {q k v : ℕ → ℕ → ℝ} {c : ℕ → ℝ} {y : ℕ → ℕ → ℝ} {m l : Vec Ideal S256x1 .f32} {a : Vec Ideal S256x128 .f32} {Q : FVec Ideal S256x256 .bf16}

/-- A block of keys all of which are seen. -/
theorem full_step {W : ℕ} (w0 : 0 < W) {S : Fin W → EReal} {V : Fin W → Fin 128 → EReal} {r : Fin 256} (h : Acc (n := 256) c y m l a)
    (hS : ∀ j, S j = ((dot q k r j : ℝ) : EReal)) (hV : ∀ j d, V j d = ((v j d : ℝ) : EReal)) {m' l' : EReal} {a' : Fin 128 → EReal}
    (hm : m' = max (m (ix2 r 0)) (Finset.fold max (Ideal.ofBits .f32 0xFF800000#32) S Finset.univ))
    (hl : l' = Ideal.exp (m (ix2 r 0) - m') * l (ix2 r 0) + ∑ j, Ideal.exp (S j - m'))
    (ha : ∀ d, a' d = Ideal.exp (m (ix2 r 0) - m') * a (ix2 r d) + ∑ j, Ideal.exp (S j - m') * V j d) :
    Row (c r + ∑ j : Fin W, Real.exp (dot q k r j)) (fun d => y r d + ∑ j : Fin W, Real.exp (dot q k r j) * v j d) m' l' a' := by
  rw [ofBits_neg_inf] at hm
  refine ((h r).step (ok := fun _ => True) (fun j : Fin W => dot q k r j) (fun j => ?_) ⟨0, w0⟩ trivial V (fun j d => v j d) hV hm hl ha).congr ?_ fun d => ?_
  · rw [if_pos trivial]; exact hS j
  · simp only [if_true]
  · simp only [if_true]

theorem pay6_eq {K : Vec Ideal S1024x256 .bf16} (hq : Holds Q q) (hk : Holds K k) (r : Fin 256) (j : Fin 1024) : k0_pay6 Q K (ix2 r j) = ((dot q k r j : ℝ) : EReal) := by
  pointwise [k0_pay6]
  simp only [hq _ _, hk _ _, mul_coe, sum_coe, ofBits_scale]
  rfl

theorem pay13_eq {K : Vec Ideal S1024x256 .bf16} (hq : Holds Q q) (hk : Holds K k) (r : Fin 256) (j : Fin 1024) : k0_pay13 Q K (ix2 r j) = ((dot q k r j : ℝ) : EReal) := by
  pointwise [k0_pay13]
  simp only [hq _ _, hk _ _, mul_coe, sum_coe, ofBits_scale]
  rfl

theorem pay32_eq {K : Vec Ideal S512x256 .bf16} (hq : Holds Q q) (hk : Holds K k) (r : Fin 256) (j : Fin 512) : k0_pay32 Q K (ix2 r j) = ((dot q k r j : ℝ) : EReal) := by
  pointwise [k0_pay32]
  simp only [hq _ _, hk _ _, mul_coe, sum_coe, ofBits_scale]
  rfl

theorem pay39_eq {K : Vec Ideal S512x256 .bf16} (hq : Holds Q q) (hk : Holds K k) (r : Fin 256) (j : Fin 512) : k0_pay39 Q K (ix2 r j) = ((dot q k r j : ℝ) : EReal) := by
  pointwise [k0_pay39]
  simp only [hq _ _, hk _ _, mul_coe, sum_coe, ofBits_scale]
  rfl

/-- Two tiles of keys, the upper half of the rows, -/
theorem pair_upper {K : Vec Ideal S1024x256 .bf16} {V : Vec Ideal S1024x128 .bf16} (hq : Holds Q q) (hk : Holds K k) (hv : Holds V v) (h : Acc (n := 256) c y m l a) :
    Acc (n := 256) (fun r => c r + ∑ j : Fin 1024, Real.exp (dot q k r j)) (fun r d => y r d + ∑ j : Fin 1024, Real.exp (dot q k r j) * v j d)
      (k0_pay12 (k0_pay7 Q K m)) (k0_pay10 Q K m l) (k0_pay11 Q K V m a) := fun r => by
  rw [show k0_pay12 (k0_pay7 Q K m) (ix2 r 0) = k0_pay7 Q K m (ix2 r 0) by pointwise [k0_pay12]]
  refine full_step (by norm_num) h (S := fun j => k0_pay6 Q K (ix2 r j)) (V := fun j d => V (ix2 j d)) (pay6_eq hq hk r) (fun j d => hv j d) ?_ ?_ fun d => ?_
  · pointwise [k0_pay7]
  · pointwise [k0_pay10, k0_pay8, k0_pay9]
  · pointwise [k0_pay11, k0_pay8, k0_pay9]

/-- and the lower. -/
theorem pair_lower {K : Vec Ideal S1024x256 .bf16} {V : Vec Ideal S1024x128 .bf16} (hq : Holds Q q) (hk : Holds K k) (hv : Holds V v) (h : Acc (n := 256) c y m l a) :
    Acc (n := 256) (fun r => c r + ∑ j : Fin 1024, Real.exp (dot q k r j)) (fun r d => y r d + ∑ j : Fin 1024, Real.exp (dot q k r j) * v j d)
      (k0_pay50 (k0_pay14 Q K m)) (k0_pay17 Q K m l) (k0_pay18 Q K V m a) := fun r => by
  rw [show k0_pay50 (k0_pay14 Q K m) (ix2 r 0) = k0_pay14 Q K m (ix2 r 0) by pointwise [k0_pay50]]
  refine full_step (by norm_num) h (S := fun j => k0_pay13 Q K (ix2 r j)) (V := fun j d => V (ix2 j d)) (pay13_eq hq hk r) (fun j d => hv j d) ?_ ?_ fun d => ?_
  · pointwise [k0_pay14]
  · pointwise [k0_pay17, k0_pay15, k0_pay16]
  · pointwise [k0_pay18, k0_pay15, k0_pay16]

/-- One tile of keys, the upper half of the rows, -/
theorem one_upper {K : Vec Ideal S512x256 .bf16} {V : Vec Ideal S512x128 .bf16} (hq : Holds Q q) (hk : Holds K k) (hv : Holds V v) (h : Acc (n := 256) c y m l a) :
    Acc (n := 256) (fun r => c r + ∑ j : Fin 512, Real.exp (dot q k r j)) (fun r d => y r d + ∑ j : Fin 512, Real.exp (dot q k r j) * v j d)
      (k0_pay38 (k0_pay33 Q K m)) (k0_pay36 Q K m l) (k0_pay37 Q K V m a) := fun r => by
  rw [show k0_pay38 (k0_pay33 Q K m) (ix2 r 0) = k0_pay33 Q K m (ix2 r 0) by pointwise [k0_pay38]]
  refine full_step (by norm_num) h (S := fun j => k0_pay32 Q K (ix2 r j)) (V := fun j d => V (ix2 j d)) (pay32_eq hq hk r) (fun j d => hv j d) ?_ ?_ fun d => ?_
  · pointwise [k0_pay33]
  · pointwise [k0_pay36, k0_pay34, k0_pay35]
  · pointwise [k0_pay37, k0_pay34, k0_pay35]

/-- and the lower. -/
theorem one_lower {K : Vec Ideal S512x256 .bf16} {V : Vec Ideal S512x128 .bf16} (hq : Holds Q q) (hk : Holds K k) (hv : Holds V v) (h : Acc (n := 256) c y m l a) :
    Acc (n := 256) (fun r => c r + ∑ j : Fin 512, Real.exp (dot q k r j)) (fun r d => y r d + ∑ j : Fin 512, Real.exp (dot q k r j) * v j d)
      (k0_pay52 (k0_pay40 Q K m)) (k0_pay43 Q K m l) (k0_pay44 Q K V m a) := fun r => by
  rw [show k0_pay52 (k0_pay40 Q K m) (ix2 r 0) = k0_pay40 Q K m (ix2 r 0) by pointwise [k0_pay52]]
  refine full_step (by norm_num) h (S := fun j => k0_pay39 Q K (ix2 r j)) (V := fun j d => V (ix2 j d)) (pay39_eq hq hk r) (fun j d => hv j d) ?_ ?_ fun d => ?_
  · pointwise [k0_pay40]
  · pointwise [k0_pay43, k0_pay41, k0_pay42]
  · pointwise [k0_pay44, k0_pay41, k0_pay42]

end Full

end Cert.AttnFwdIdeal.Hand
-- ==== Proof.AttendOwn.lean ====
/- What the forward attention's arithmetic does with a tile's own keys, behind the prefix of sixteen, and with the prefix's
   own rows, over the reals. -/
module

public import proofs.«01_k».proof.Proof.AttendPay

@[expose] public section

set_option maxRecDepth 16384
set_option maxHeartbeats 400000

noncomputable section

namespace Cert.AttnFwdIdeal.Hand

open Idealize.ShloMosaic Cert.AttnFwdIdeal Cert.AttnFwdIdeal.Gen Cert.Reals Cert.Attn Cert.Attend

theorem add256 : ∀ l : Fin 256, IntOp.addi (256#32) (BitVec.ofNat 32 l.val) = BitVec.ofNat 32 (256 + l.val) := by decide +kernel

theorem chunkle256 (a b : ℕ) (ha : a < 512) (hb : b < 256) :
    IntOp.cmpi .sle (IntOp.shrsi .vector (BitVec.ofNat 32 a) 6#32)
      (IntOp.shrsi .vector (IntOp.addi (256#32) (BitVec.ofNat 32 b)) 6#32) = BitVec.ofBool (decide (a / 64 ≤ (256 + b) / 64)) := by
  rw [add256 ⟨b, hb⟩, shr6 ⟨a, ha⟩, shr6 ⟨256 + b, by omega⟩]
  exact sle8 ⟨a / 64, by omega⟩ ⟨(256 + b) / 64, by omega⟩

/-- Which of the columns of a tile's own block a row sees: of the first 128 the prefix of sixteen, of the rest those of
    no later chunk. -/
abbrev seen (o r j : ℕ) : Prop := j < 16 ∨ (128 ≤ j ∧ (j - 128) / 64 ≤ (o + r) / 64)

/-- The first 128 columns and the rest. -/
def cat (f g : ℕ → ℝ) (j : ℕ) : ℝ := if j < 128 then f j else g (j - 128)

/-- The sum over a tile's own block. -/
def ownSum (W o r : ℕ) (f g : ℕ → ℝ) : ℝ := (∑ j : Fin 16, f j) + ∑ j : Fin W, if j.val / 64 ≤ (o + r) / 64 then g j else 0

theorem sum_seen {W N : ℕ} (hN : N = 128 + W) (o r : ℕ) (f g : ℕ → ℝ) :
    (∑ j : Fin N, if seen o r j then cat f g j else 0) = ownSum W o r f g := by
  subst hN
  unfold ownSum
  rw [← Finset.sum_range fun j => if seen o r j then cat f g j else 0, ← Finset.sum_range fun j => f j,
    ← Finset.sum_range fun j => if j / 64 ≤ (o + r) / 64 then g j else 0, Finset.sum_range_add]
  refine congrArg₂ _ ?_ (Finset.sum_congr rfl fun j hj => ?_)
  · refine (Finset.sum_range_add (fun j => if seen o r j then cat f g j else 0) 16 112).trans ?_
    refine add_eq_left.2 (Finset.sum_eq_zero fun j hj => if_neg ?_) |>.trans (Finset.sum_congr rfl fun j hj => ?_)
    · have := Finset.mem_range.1 hj; show ¬seen o r (16 + j); unfold seen; omega
    · have := Finset.mem_range.1 hj
      rw [if_pos (Or.inl this)]; exact if_pos (by omega)
  · unfold cat seen
    rw [if_neg (by omega : ¬128 + j < 128), Nat.add_sub_cancel_left]
    by_cases e : j / 64 ≤ (o + r) / 64
    · rw [if_pos e, if_pos (Or.inr ⟨by omega, e⟩)]
    · rw [if_neg e, if_neg]; rintro (h | h) <;> omega

variable {q kp ko vp vo : ℕ → ℕ → ℝ} {c : ℕ → ℝ} {y : ℕ → ℕ → ℝ} {m l : Vec Ideal S256x1 .f32} {a : Vec Ideal S256x128 .f32} {Q : FVec Ideal S256x256 .bf16}

/-- A tile's own block. -/
theorem own_step {W N : ℕ} (hN : N = 128 + W) (o : ℕ) {S : Fin N → EReal} {V : Fin N → Fin 128 → EReal} {r : Fin 256} (h : Acc (n := 256) c y m l a)
    (hS : ∀ j : Fin N, S j = if seen o r j then ((cat (dot q kp r) (dot q ko r) j : ℝ) : EReal) else ⊥)
    (hV : ∀ (j : Fin N) (d : Fin 128), V j d = ((cat (fun j => vp j d) (fun j => vo j d) j : ℝ) : EReal)) {m' l' : EReal} {a' : Fin 128 → EReal}
    (hm : m' = max (m (ix2 r 0)) (Finset.fold max (Ideal.ofBits .f32 0xFF800000#32) S Finset.univ))
    (hl : l' = Ideal.exp (m (ix2 r 0) - m') * l (ix2 r 0) + ∑ j, Ideal.exp (S j - m'))
    (ha : ∀ d, a' d = Ideal.exp (m (ix2 r 0) - m') * a (ix2 r d) + ∑ j, Ideal.exp (S j - m') * V j d) :
    Row (c r + ownSum W o r (fun j => Real.exp (dot q kp r j)) fun j => Real.exp (dot q ko r j))
      (fun d => y r d + ownSum W o r (fun j => Real.exp (dot q kp r j) * vp j d) fun j => Real.exp (dot q ko r j) * vo j d) m' l' a' := by
  rw [ofBits_neg_inf] at hm
  refine ((h r).step (ok := fun j : Fin N => seen o r j) (fun j : Fin N => cat (dot q kp r) (dot q ko r) j) hS ⟨0, by omega⟩ (Or.inl (by norm_num)) V
    (fun j d => cat (fun j => vp j d) (fun j => vo j d) j) hV hm hl ha).congr ?_ fun d => ?_
  · rw [← sum_seen hN]
    refine congrArg _ (Finset.sum_congr rfl fun j _ => ?_)
    unfold cat; split <;> first | rfl | (split <;> rfl)
  · rw [← sum_seen hN]
    refine congrArg _ (Finset.sum_congr rfl fun j _ => ?_)
    unfold cat; split <;> first | rfl | (split <;> rfl)

theorem pay53_eq {K : Vec Ideal S128x256 .bf16} (hq : Holds Q q) (hk : Holds K kp) (r : Fin 256) (j : Fin 128) :
    k0_pay53 Q K (ix2 r j) = if j.val < 16 then ((dot q kp r j : ℝ) : EReal) else ⊥ := by
  pointwise [k0_pay53]
  simp only [hq _ _, hk _ _, mul_coe, sum_coe, ofBits_scale, named_mask]
  rw [slt16 ⟨j, by omega⟩, select_bool]
  rfl

theorem pay55_eq {P : FVec Ideal S256x128 .f32} {K : Vec Ideal S256x256 .bf16} (hq : Holds Q q) (hk : Holds K ko)
    (hP : ∀ (r : Fin 256) (j : Fin 128), P (ix2 r j) = if j.val < 16 then ((dot q kp r j : ℝ) : EReal) else ⊥) (r : Fin 256) (j : Fin 384) :
    k0_pay55 Q P k0_pay54 (iota .tc S256x256 32 [1] iota_S256x256_d1_w32) K (ix2 r j)
      = if seen 0 r j then ((cat (dot q kp r) (dot q ko r) j : ℝ) : EReal) else ⊥ := by
  pointwise [k0_pay55, k0_pay54]
  simp only [hP, hq _ _, hk _ _, mul_coe, sum_coe, ofBits_scale, named_mask]
  unfold cat
  by_cases e : j.val < 128
  · rw [dif_pos e, if_pos e]
    exact if_congr (by unfold seen; omega) rfl rfl
  · rw [dif_neg e, if_neg e, chunkle _ _ (by omega) (by omega), select_bool]
    exact if_congr (by unfold seen; omega) rfl rfl

theorem pay65_eq {Kp : Vec Ideal S128x256 .bf16} {K : Vec Ideal S512x256 .bf16} (hq : Holds Q q) (hp : Holds Kp kp) (hk : Holds K ko) (r : Fin 256) (j : Fin 640) :
    k0_pay65 Q Kp K (ix2 r j) = if seen 256 r j then ((cat (dot q kp r) (dot q ko r) j : ℝ) : EReal) else ⊥ := by
  pointwise [k0_pay65]
  simp only [hp _ _, hq _ _, hk _ _, mul_coe, sum_coe, ofBits_scale, named_mask]
  unfold cat
  by_cases e : j.val < 128
  · rw [dif_pos e, if_pos e, slt16 ⟨j, by omega⟩, select_bool]
    dsimp only
    exact if_congr (by unfold seen; omega) rfl rfl
  · rw [dif_neg e, if_neg e, chunkle256 _ _ (by omega) (by omega), select_bool]
    exact if_congr (by unfold seen; omega) rfl rfl

/-- The upper half of the rows, -/
theorem own_upper {Kp : Vec Ideal S128x256 .bf16} {K : Vec Ideal S256x256 .bf16} {Vp : Vec Ideal S128x128 .bf16} {V : Vec Ideal S256x128 .bf16}
    (hq : Holds Q q) (hp : Holds Kp kp) (hk : Holds K ko) (hvp : Holds Vp vp) (hv : Holds V vo) (h : Acc (n := 256) c y m l a) :
    Acc (n := 256) (fun r => c r + ownSum 256 0 r (fun j => Real.exp (dot q kp r j)) fun j => Real.exp (dot q ko r j))
      (fun r d => y r d + ownSum 256 0 r (fun j => Real.exp (dot q kp r j) * vp j d) fun j => Real.exp (dot q ko r j) * vo j d)
      (k0_pay64 (k0_pay57 Q (k0_pay53 Q Kp) k0_pay54 (iota .tc S256x256 32 [1] iota_S256x256_d1_w32) K m))
      (k0_pay60 Q (k0_pay53 Q Kp) k0_pay54 (iota .tc S256x256 32 [1] iota_S256x256_d1_w32) K m l)
      (k0_pay63 (k0_pay56 Vp V) (k0_pay61 Q (k0_pay53 Q Kp) k0_pay54 (iota .tc S256x256 32 [1] iota_S256x256_d1_w32) K m a)
        (k0_pay62 Q (k0_pay53 Q Kp) k0_pay54 (iota .tc S256x256 32 [1] iota_S256x256_d1_w32) K m)) := fun r => by
  have hS := pay55_eq hq hk (pay53_eq hq hp) r
  have hV : ∀ (j : Fin 384) (d : Fin 128), k0_pay56 Vp V (ix2 j d) = ((cat (fun j => vp j d) (fun j => vo j d) j : ℝ) : EReal) := fun j d => by
    pointwise [k0_pay56]
    unfold cat
    by_cases e : j.val < 128
    · rw [dif_pos e, if_pos e]; exact hvp _ _
    · rw [dif_neg e, if_neg e]; exact hv _ _
  generalize k0_pay53 Q Kp = P at hS ⊢
  generalize k0_pay56 Vp V = U at hV ⊢
  generalize k0_pay54 = I1 at hS ⊢
  generalize iota .tc S256x256 32 [1] iota_S256x256_d1_w32 = I2 at hS ⊢
  rw [show k0_pay64 (k0_pay57 Q P I1 I2 K m) (ix2 r 0) = k0_pay57 Q P I1 I2 K m (ix2 r 0) by pointwise [k0_pay64]]
  refine own_step (W := 256) rfl 0 h hS hV ?_ ?_ fun d => ?_
  · pointwise [k0_pay57]
  · pointwise [k0_pay60, k0_pay58, k0_pay59]
  · pointwise [k0_pay63, k0_pay61, k0_pay62, k0_pay58, k0_pay59]

/-- and the lower. -/
theorem own_lower {Kp : Vec Ideal S128x256 .bf16} {K : Vec Ideal S512x256 .bf16} {Vp : Vec Ideal S128x128 .bf16} {V : Vec Ideal S512x128 .bf16}
    (hq : Holds Q q) (hp : Holds Kp kp) (hk : Holds K ko) (hvp : Holds Vp vp) (hv : Holds V vo) (h : Acc (n := 256) c y m l a) :
    Acc (n := 256) (fun r => c r + ownSum 512 256 r (fun j => Real.exp (dot q kp r j)) fun j => Real.exp (dot q ko r j))
      (fun r d => y r d + ownSum 512 256 r (fun j => Real.exp (dot q kp r j) * vp j d) fun j => Real.exp (dot q ko r j) * vo j d)
      (k0_pay72 (k0_pay65 Q Kp K) m) (k0_pay70 (k0_pay65 Q Kp K) m l) (k0_pay71 (k0_pay65 Q Kp K) (k0_pay66 Vp) V m a) := fun r => by
  have hS := pay65_eq hq hp hk r
  have hV : ∀ (j : Fin 640) (d : Fin 128), concatenate S640x128 0 [⟨S128x128, k0_pay66 Vp⟩, ⟨S512x128, shapeCast S512x128 V shapeCasts_S512x128_S512x128⟩]
      concatenates_S128x128_S512x128_S640x128_d0 (ix2 j d) = ((cat (fun j => vp j d) (fun j => vo j d) j : ℝ) : EReal) := fun j d => by
    pointwise [k0_pay66]
    unfold cat
    by_cases e : j.val < 128
    · rw [dif_pos e, if_pos e]; exact hvp _ _
    · rw [dif_neg e, if_neg e]; exact hv _ _
  generalize k0_pay65 Q Kp K = S at hS ⊢
  unfold k0_pay71
  dsimp only
  generalize concatenate S640x128 0 [⟨S128x128, k0_pay66 Vp⟩, ⟨S512x128, shapeCast S512x128 V shapeCasts_S512x128_S512x128⟩]
      concatenates_S128x128_S512x128_S640x128_d0 = U at hV ⊢
  rw [show k0_pay72 S m (ix2 r 0) = k0_pay67 S m (ix2 r 0) by pointwise [k0_pay72]]
  refine own_step (W := 512) rfl 256 h hS hV ?_ ?_ fun d => ?_
  · pointwise [k0_pay67]
  · pointwise [k0_pay70, k0_pay68, k0_pay69]
  · pointwise [k0_pay68, k0_pay69]

end Cert.AttnFwdIdeal.Hand
-- ==== Proof.AttendTrip.lean ====
/- One tile of query rows of the forward attention over the reals: the loop over pairs of key tiles, the single key tile
   before an odd tile, and the tile's own keys. -/
module

public import proofs.«01_k».proof.Proof.AttendLoop
public import proofs.«01_k».proof.Proof.AttendOwn

@[expose] public section

set_option maxRecDepth 16384
set_option maxHeartbeats 4000000

noncomputable section

namespace Cert.Attn.Head
variable (h : Head)

/-- The weight of a key for a query: the exponential of the scaled score, where the query sees the key. -/
def wt (t j : ℕ) : ℝ := if chunk j ≤ chunk t then Real.exp ((∑ d : Fin 256, h.Q t d * h.K j d) * Cert.Attn.scale) else 0

/-- The weights of an interval of keys, -/
def cs (a b t : ℕ) : ℝ := ∑ j ∈ Finset.Ico a b, h.wt t j

/-- and the values weighted by them. -/
def ys (a b t d : ℕ) : ℝ := ∑ j ∈ Finset.Ico a b, h.wt t j * h.KV j (128 + d)

theorem cs_add {a b c t : ℕ} (hab : a ≤ b) (hbc : b ≤ c) : h.cs a b t + h.cs b c t = h.cs a c t := Finset.sum_Ico_consecutive _ hab hbc

theorem ys_add {a b c t d : ℕ} (hab : a ≤ b) (hbc : b ≤ c) : h.ys a b t d + h.ys b c t d = h.ys a c t d := Finset.sum_Ico_consecutive _ hab hbc

end Cert.Attn.Head

namespace Cert.Attend

open Idealize.ShloMosaic Cert.Reals Cert.Attn

variable {sig : RefSig} {κ : Kind} {sp : Space}

/-- The running maximum, sum and average of a half of a tile's rows, loaded. -/
theorem Acc.load {v7 v8 : View sig κ sp ⟨2, ![512, 1]⟩ .f32} {v9 : View sig κ sp ⟨2, ![512, 128]⟩ .f32} {f7 : v7.ty.Contents (Elt Ideal)}
    {f8 : v8.ty.Contents (Elt Ideal)} {f9 : v9.ty.Contents (Elt Ideal)} {c : ℕ → ℝ} {y : ℕ → ℕ → ℝ} (o : ℕ) (ho : o + 256 ≤ 512)
    (h : ∀ r : Fin 512, o ≤ r.val → r.val < o + 256 → Row (c r) (y r) (v7.read (Elt Ideal) f7 (ix2 r 0)) (v8.read (Elt Ideal) f8 (ix2 r 0))
      fun d => v9.read (Elt Ideal) f9 (ix2 r d)) (inb1) (inb2) (inb3) :
    Acc (n := 256) (fun r => c (o + r)) (fun r => y (o + r)) (v7.readAt (Elt Ideal) (Rect.unit (s := ⟨2, ![512, 1]⟩) ![o, 0] ![256, 1] inb1).toLoadRect f7)
      (v8.readAt (Elt Ideal) (Rect.unit (s := ⟨2, ![512, 1]⟩) ![o, 0] ![256, 1] inb2).toLoadRect f8)
      (v9.readAt (Elt Ideal) (Rect.unit (s := ⟨2, ![512, 128]⟩) ![o, 0] ![256, 128] inb3).toLoadRect f9) := fun r => by
  have e := h ⟨o + r, by omega⟩ (by dsimp only; omega) (by dsimp only; omega)
  dsimp only at e
  rw [load_apply v7 f7 ![o, 0] inb1 r 0 ho (by norm_num), load_apply v8 f8 ![o, 0] inb2 r 0 ho (by norm_num),
    show (fun d => v9.readAt (Elt Ideal) (Rect.unit (s := ⟨2, ![512, 128]⟩) ![o, 0] ![256, 128] inb3).toLoadRect f9 (ix2 r d))
      = fun d => v9.read (Elt Ideal) f9 (ix2 ⟨o + r, by omega⟩ d) from funext fun d => by
        rw [load_apply v9 f9 ![o, 0] inb3 r d ho (by norm_num)]; congr 2; exact Fin.ext (Nat.zero_add _)]
  exact e

/-- The two halves stored. -/
theorem Acc.halves {v7 v8 : View sig κ sp ⟨2, ![512, 1]⟩ .f32} {v9 : View sig κ sp ⟨2, ![512, 128]⟩ .f32} {f7 : v7.ty.Contents (Elt Ideal)}
    {f8 : v8.ty.Contents (Elt Ideal)} {f9 : v9.ty.Contents (Elt Ideal)} {c c₁ c₂ : ℕ → ℝ} {y y₁ y₂ : ℕ → ℕ → ℝ}
    {L7 L8 : List (View.Piece (Elt Ideal) ⟨2, ![512, 1]⟩ .f32)} {L9 : List (View.Piece (Elt Ideal) ⟨2, ![512, 128]⟩ .f32)}
    {p7 p8 q7 q8 : (⟨2, ![256, 1]⟩ : Shape).Idx → EReal} {p9 q9 : (⟨2, ![256, 128]⟩ : Shape).Idx → EReal}
    (h₁ : Acc (n := 256) c₁ y₁ p7 p8 p9) (h₂ : Acc (n := 256) c₂ y₂ q7 q8 q9) (i7) (i8) (i9) (j7) (j8) (j9)
    (e₁ : ∀ r, r < 256 → c₁ r = c r) (e₂ : ∀ r, r < 256 → c₂ r = c (256 + r)) (z₁ : ∀ r d, r < 256 → d < 128 → y₁ r d = y r d)
    (z₂ : ∀ r d, r < 256 → d < 128 → y₂ r d = y (256 + r) d) :
    Acc (n := 512) c y
      (v7.read (Elt Ideal) (v7.writes (Elt Ideal) f7 (⟨Rect.unit (s := ⟨2, ![512, 1]⟩) ![256, 0] ![256, 1] j7, q7⟩ :: ⟨Rect.unit (s := ⟨2, ![512, 1]⟩) ![0, 0] ![256, 1] i7, p7⟩ :: L7)))
      (v8.read (Elt Ideal) (v8.writes (Elt Ideal) f8 (⟨Rect.unit (s := ⟨2, ![512, 1]⟩) ![256, 0] ![256, 1] j8, q8⟩ :: ⟨Rect.unit (s := ⟨2, ![512, 1]⟩) ![0, 0] ![256, 1] i8, p8⟩ :: L8)))
      (v9.read (Elt Ideal) (v9.writes (Elt Ideal) f9 (⟨Rect.unit (s := ⟨2, ![512, 128]⟩) ![256, 0] ![256, 128] j9, q9⟩ :: ⟨Rect.unit (s := ⟨2, ![512, 128]⟩) ![0, 0] ![256, 128] i9, p9⟩ :: L9))) := fun r => by
  by_cases hr : r.val < 256
  · refine (Row.congr ?_ (e₁ r hr) fun d => z₁ r d hr d.isLt)
    rw [store_out v7 f7 _ ![256, 0] j7 q7 r 0 (by show ¬(256 ≤ r.val ∧ r.val < 512); omega), store_out v8 f8 _ ![256, 0] j8 q8 r 0 (by show ¬(256 ≤ r.val ∧ r.val < 512); omega),
      store_in v7 f7 L7 ![0, 0] i7 p7 rfl r 0 (Nat.zero_le _) (by show r.val < 0 + 256; omega), store_in v8 f8 L8 ![0, 0] i8 p8 rfl r 0 (Nat.zero_le _) (by show r.val < 0 + 256; omega)]
    simp only [store_out v9 f9 _ ![256, 0] j9 q9 r _ (show ¬(256 ≤ r.val ∧ r.val < 512) by omega), store_in v9 f9 L9 ![0, 0] i9 p9 rfl r _ (Nat.zero_le _) (show r.val < 0 + 256 by omega)]
    exact h₁ ⟨r, hr⟩
  · have e : 256 + (r.val - 256) = r.val := by omega
    refine (Row.congr ?_ ((e₂ (r.val - 256) (by omega)).trans (by rw [e])) fun d => (z₂ (r.val - 256) d (by omega) d.isLt).trans (by rw [e]))
    rw [store_in v7 f7 _ ![256, 0] j7 q7 rfl r 0 (show 256 ≤ r.val by omega) (show r.val < 256 + 256 by omega),
      store_in v8 f8 _ ![256, 0] j8 q8 rfl r 0 (show 256 ≤ r.val by omega) (show r.val < 256 + 256 by omega)]
    simp only [store_in v9 f9 _ ![256, 0] j9 q9 rfl r _ (show 256 ≤ r.val by omega) (show r.val < 256 + 256 by omega)]
    exact h₂ ⟨r.val - 256, by omega⟩

/-- The lower half does not see a store of the upper one. -/
theorem Acc.below {v7 v8 : View sig κ sp ⟨2, ![512, 1]⟩ .f32} {v9 : View sig κ sp ⟨2, ![512, 128]⟩ .f32} {f7 : v7.ty.Contents (Elt Ideal)}
    {f8 : v8.ty.Contents (Elt Ideal)} {f9 : v9.ty.Contents (Elt Ideal)} {c : ℕ → ℝ} {y : ℕ → ℕ → ℝ}
    {L7 L8 : List (View.Piece (Elt Ideal) ⟨2, ![512, 1]⟩ .f32)} {L9 : List (View.Piece (Elt Ideal) ⟨2, ![512, 128]⟩ .f32)}
    {p7 p8 : (⟨2, ![256, 1]⟩ : Shape).Idx → EReal} {p9 : (⟨2, ![256, 128]⟩ : Shape).Idx → EReal}
    (h : Acc (n := 512) c y (v7.read (Elt Ideal) (v7.writes (Elt Ideal) f7 L7)) (v8.read (Elt Ideal) (v8.writes (Elt Ideal) f8 L8)) (v9.read (Elt Ideal) (v9.writes (Elt Ideal) f9 L9)))
    (i7) (i8) (i9) (r : Fin 512) (hr : 256 ≤ r.val) (hr' : r.val < 256 + 256) :
    Row (c r) (y r) (v7.read (Elt Ideal) (v7.writes (Elt Ideal) f7 (⟨Rect.unit (s := ⟨2, ![512, 1]⟩) ![0, 0] ![256, 1] i7, p7⟩ :: L7)) (ix2 r 0))
      (v8.read (Elt Ideal) (v8.writes (Elt Ideal) f8 (⟨Rect.unit (s := ⟨2, ![512, 1]⟩) ![0, 0] ![256, 1] i8, p8⟩ :: L8)) (ix2 r 0))
      fun d => v9.read (Elt Ideal) (v9.writes (Elt Ideal) f9 (⟨Rect.unit (s := ⟨2, ![512, 128]⟩) ![0, 0] ![256, 128] i9, p9⟩ :: L9)) (ix2 r d) := by
  rw [store_out v7 f7 _ ![0, 0] i7 p7 r 0 (by show ¬(0 ≤ r.val ∧ r.val < 0 + 256); omega), store_out v8 f8 _ ![0, 0] i8 p8 r 0 (by show ¬(0 ≤ r.val ∧ r.val < 0 + 256); omega)]
  simp only [store_out v9 f9 _ ![0, 0] i9 p9 r _ (show ¬(0 ≤ r.val ∧ r.val < 0 + 256) by omega)]
  exact h r

end Cert.Attend

namespace Cert.AttnFwdIdeal.Hand

open Idealize.ShloMosaic Cert.AttnFwdIdeal Cert.AttnFwdIdeal.Gen Cert.Reals Cert.Attn Cert.Attend

/-! ## Where the blocks lie -/

theorem off1_eq : ∀ t, k0_off1 t 0#32 = ![16 + 512 * t.val, 0] := by decide +kernel
theorem off1_eq' : ∀ t, k0_off1 t 256#32 = ![16 + 512 * t.val + 256, 0] := by decide +kernel
theorem off2_eq : ∀ t k, k0_off2 t k = ![16 + 1024 * k.val, 0] := by decide +kernel
theorem off3_eq : ∀ t k, k0_off3 t k = ![16 + 1024 * k.val, 128] := by decide +kernel
theorem off6_eq : ∀ t, k0_cond1 t = 1#1 → k0_off6 t = ![16 + 512 * (t.val - 1), 0] := by decide +kernel
theorem off7_eq : ∀ t, k0_cond1 t = 1#1 → k0_off7 t = ![16 + 512 * (t.val - 1), 128] := by decide +kernel
theorem off8_eq : ∀ t, k0_off8 t = ![16 + 512 * t.val, 0] := by decide +kernel
theorem off9_eq : ∀ t, k0_off9 t = ![16 + 512 * t.val, 128] := by decide +kernel
theorem off10_eq : ∀ t, k0_off10 t = ![16 + 512 * t.val, 0] := by decide +kernel
theorem off11_eq : ∀ t, k0_off11 t = ![16 + 512 * t.val, 128] := by decide +kernel
theorem pairs_eq : ∀ t, (k0_t2_loop t).trips = t.val / 2 := by decide +kernel
theorem rest_eq : ∀ t, (k0_t3_loop t).trips = 0 := by decide +kernel
theorem odd_iff : ∀ t, k0_cond1 t = 1#1 ↔ t.val % 2 = 1 := by decide +kernel

/-- What the blocks a trip reads hold. -/
structure Reads (A : Args) (X : Ins Ideal A) (h : Head) : Prop where
  q : Holds (a := 4224) (b := 256) (A.a1.view.read (Elt Ideal) X.x1) h.Q
  kv : Holds (a := 4224) (b := 256) (A.a2.view.read (Elt Ideal) X.x2) h.KV
  k : Holds (a := 4224) (b := 256) (A.a6.view.read (Elt Ideal) X.x6) h.K

/-- The three accumulators stand for sums over the rows of a tile. -/
abbrev State (A : Args) (f7 : BufTy.Contents (Elt Ideal) A.a7.view.ty) (f8 : BufTy.Contents (Elt Ideal) A.a8.view.ty) (f9 : BufTy.Contents (Elt Ideal) A.a9.view.ty)
    (c : ℕ → ℝ) (y : ℕ → ℕ → ℝ) : Prop :=
  Acc (n := 512) c y (A.a7.view.read (Elt Ideal) f7) (A.a8.view.read (Elt Ideal) f8) (A.a9.view.read (Elt Ideal) f9)

section Sums
variable (h : Head)

/-- A block of keys before the tile. -/
theorem block_cs {t n o W r : ℕ} (hn : n + W ≤ 16 + 512 * t) :
    (∑ j : Fin W, Real.exp (dot (fun r d => h.Q (16 + 512 * t + o + r) d) (fun j d => h.K (n + j) (0 + d)) r j)) = h.cs n (n + W) (16 + 512 * t + o + r) := by
  unfold Head.cs
  rw [Finset.sum_Ico_eq_sum_range, Nat.add_sub_cancel_left, Finset.sum_range]
  refine Finset.sum_congr rfl fun j _ => ?_
  unfold Head.wt dot
  rw [if_pos (by rw [show 16 + 512 * t + o + r = 16 + 512 * t + (o + r) by omega]; exact Head.chunk_le (by omega))]
  simp only [Nat.zero_add]

theorem block_ys {t n o W r d : ℕ} (hn : n + W ≤ 16 + 512 * t) :
    (∑ j : Fin W, Real.exp (dot (fun r d => h.Q (16 + 512 * t + o + r) d) (fun j d => h.K (n + j) (0 + d)) r j) * h.KV (n + j) (128 + d))
      = h.ys n (n + W) (16 + 512 * t + o + r) d := by
  unfold Head.ys
  rw [Finset.sum_Ico_eq_sum_range, Nat.add_sub_cancel_left, Finset.sum_range]
  refine Finset.sum_congr rfl fun j _ => ?_
  unfold Head.wt dot
  rw [if_pos (by rw [show 16 + 512 * t + o + r = 16 + 512 * t + (o + r) by omega]; exact Head.chunk_le (by omega))]
  simp only [Nat.zero_add]

end Sums

section Pair
variable {h : Head} {A : Args} {x2 : BufTy.Contents (Elt Ideal) A.a2.view.ty} {x6 : BufTy.Contents (Elt Ideal) A.a6.view.ty}
  {t : Fin k0_t1_loop.trips} {v58 v62 : FVec Ideal S256x256 .bf16}
  (hkv : Holds (a := 4224) (b := 256) (A.a2.view.read (Elt Ideal) x2) h.KV) (hk : Holds (a := 4224) (b := 256) (A.a6.view.read (Elt Ideal) x6) h.K)
  (hq : Holds v58 fun r d => h.Q (16 + 512 * t.val + 0 + r) d) (hq' : Holds v62 fun r d => h.Q (16 + 512 * t.val + 256 + r) d)
  (c : Dev nD) (i : grid0.Coords) (w1 w2 w4 : BitVec 32) (w3 : BitVec 1)

include hkv hk hq hq' in
/-- One pair. -/
theorem pair_trip (k : Fin (k0_t2_loop t).trips) {f7 : BufTy.Contents (Elt Ideal) A.a7.view.ty} {f8 : BufTy.Contents (Elt Ideal) A.a8.view.ty}
    {f9 : BufTy.Contents (Elt Ideal) A.a9.view.ty} {s : ℕ → ℝ} {y : ℕ → ℕ → ℝ} (S : State A f7 f8 f9 s y) :
    State A
      (A.a7.view.writes (Elt Ideal) f7 ((trip_k0_t2 (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 x2 x6 k).1 f7 f8 f9))
      (A.a8.view.writes (Elt Ideal) f8 ((trip_k0_t2 (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 x2 x6 k).2.1 f7 f8 f9))
      (A.a9.view.writes (Elt Ideal) f9 ((trip_k0_t2 (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 x2 x6 k).2.2.1 f7 f8 f9))
      (fun r => s r + h.cs (16 + 1024 * k.val) (16 + 1024 * (k.val + 1)) (16 + 512 * t.val + r))
      (fun r d => y r d + h.ys (16 + 1024 * k.val) (16 + 1024 * (k.val + 1)) (16 + 512 * t.val + r) d) := by
  have hn : k.val < t.val / 2 := pairs_eq t ▸ k.isLt
  have hb : 16 + 1024 * k.val + 1024 ≤ 16 + 512 * t.val := by omega
  have ek := off2_eq t k
  have ev := off3_eq t k
  have K : Holds (a := 1024) (b := 256) _ fun j d => h.K (16 + 1024 * k.val + j) (0 + d) :=
    (hk.load16 (n := 1024) (m := 256) (k0_off2 t k) (k0_off2_inb t k)).congr fun j d _ _ => by rw [ek]; rfl
  have V : Holds (a := 1024) (b := 128) _ fun j d => h.KV (16 + 1024 * k.val + j) (128 + d) :=
    (hkv.load16 (n := 1024) (m := 128) (k0_off3 t k) (k0_off3_inb t k)).congr fun j d _ _ => by rw [ev]; rfl
  have u := pair_upper hq K V (Acc.load 0 (by norm_num) (fun r _ _ => S r) inb_S512x1_S256x1_0_0 inb_S512x1_S256x1_0_0 inb_S512x128_S256x128_0_0)
  have l := pair_lower hq' K V (Acc.load 256 (by norm_num) (fun r _ _ => S r) inb_S512x1_S256x1_256_0 inb_S512x1_S256x1_256_0 inb_S512x128_S256x128_256_0)
  unfold trip_k0_t2
  dsimp only
  refine Acc.halves u l _ _ _ _ _ _ ?_ ?_ ?_ ?_ (L7 := []) (L8 := []) (L9 := [])
  · intro r hr
    rw [block_cs h hb, Nat.zero_add]; rfl
  · intro r hr
    rw [block_cs h hb, Nat.add_assoc (16 + 512 * t.val) 256 r]; rfl
  · intro r d hr hd
    rw [block_ys h hb, Nat.zero_add]; rfl
  · intro r d hr hd
    rw [block_ys h hb, Nat.add_assoc (16 + 512 * t.val) 256 r]; rfl

include hkv hk hq hq' in
/-- All pairs before the `n`-th. -/
theorem pairs (n : ℕ) (hn : n ≤ t.val / 2) {f7 : BufTy.Contents (Elt Ideal) A.a7.view.ty} {f8 : BufTy.Contents (Elt Ideal) A.a8.view.ty}
    {f9 : BufTy.Contents (Elt Ideal) A.a9.view.ty} {s : ℕ → ℝ} {y : ℕ → ℕ → ℝ} (S : State A f7 f8 f9 s y) :
    State A
      (A.a7.view.writes (Elt Ideal) f7 (pb_k0_t2 (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 x2 x6 f7 f8 f9 n).1)
      (A.a8.view.writes (Elt Ideal) f8 (pb_k0_t2 (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 x2 x6 f7 f8 f9 n).2.1)
      (A.a9.view.writes (Elt Ideal) f9 (pb_k0_t2 (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 x2 x6 f7 f8 f9 n).2.2)
      (fun r => s r + h.cs 16 (16 + 1024 * n) (16 + 512 * t.val + r))
      (fun r d => y r d + h.ys 16 (16 + 1024 * n) (16 + 512 * t.val + r) d) := by
  induction n with
  | zero => exact S.congr (fun r _ => by unfold Head.cs; simp) fun r d _ => by unfold Head.ys; simp
  | succ n ih =>
    have e := ih (by omega)
    have hlt : n < (k0_t2_loop t).trips := by rw [pairs_eq]; omega
    have w := pb_k0_t2_succ (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 x2 x6 f7 f8 f9 ⟨n, hlt⟩
    dsimp only at w
    rw [w]
    dsimp only
    rw [View.writes_append, View.writes_append, View.writes_append]
    refine (pair_trip hkv hk hq hq' c i w1 w2 w4 w3 ⟨n, hlt⟩ e).congr (fun r _ => ?_) fun r d _ => ?_
    · dsimp only; rw [add_assoc, h.cs_add (by omega) (by omega)]
    · dsimp only; rw [add_assoc, h.ys_add (by omega) (by omega)]

end Pair

/-! ## A tile's own keys -/

section Own
variable (h : Head)

theorem own_sum {W t o r : ℕ} (hW : W = 256 ∨ W = 512) (hr : o + r < W) (f : ℕ → ℝ) :
    ((∑ j : Fin 16, Real.exp (dot (fun r d => h.Q (16 + 512 * t + o + r) d) (fun j d => h.K (0 + j) (0 + d)) r j) * f (0 + j)) +
      ∑ j : Fin W, if j.val / 64 ≤ (o + r) / 64 then Real.exp (dot (fun r d => h.Q (16 + 512 * t + o + r) d) (fun j d => h.K (16 + 512 * t + j) (0 + d)) r j) * f (16 + 512 * t + j) else 0)
    = (∑ j ∈ Finset.Ico 0 16, h.wt (16 + 512 * t + (o + r)) j * f j) + ∑ j ∈ Finset.Ico (16 + 512 * t) (16 + 512 * (t + 1)), h.wt (16 + 512 * t + (o + r)) j * f j := by
  have big : ∀ j < 512, h.wt (16 + 512 * t + (o + r)) (16 + 512 * t + j) = if j / 64 ≤ (o + r) / 64 then
      Real.exp (dot (fun r d => h.Q (16 + 512 * t + o + r) d) (fun j d => h.K (16 + 512 * t + j) (0 + d)) r j) else 0 := fun j hj => by
    unfold Head.wt dot chunk
    simp only [Nat.zero_add, Nat.add_assoc]
    refine if_congr ?_ rfl rfl
    rw [if_neg (by omega), if_neg (by omega)]; omega
  refine congrArg₂ _ ?_ ?_
  · rw [Finset.sum_Ico_eq_sum_range, Finset.sum_range]
    refine Finset.sum_congr rfl fun j _ => ?_
    unfold Head.wt dot
    rw [if_pos (by exact Head.chunk_le (i := t) (by have := j.isLt; omega))]
    simp only [Nat.zero_add, Nat.add_assoc]
  · rw [Finset.sum_Ico_eq_sum_range, show 16 + 512 * (t + 1) - (16 + 512 * t) = W + (512 - W) by omega, Finset.sum_range_add,
      Finset.sum_eq_zero (s := Finset.range (512 - W)), add_zero, Finset.sum_range]
    · refine Finset.sum_congr rfl fun j _ => ?_
      rw [big j (by omega)]
      split
      · rfl
      · rw [zero_mul]
    · intro j hj
      have := Finset.mem_range.1 hj
      by_cases e : (W + j) / 64 ≤ (o + r) / 64
      · omega
      · rw [big _ (by omega), if_neg e, zero_mul]

end Own

end Cert.AttnFwdIdeal.Hand
-- ==== Proof.AttendRef.lean ====
module

public import proofs.«01_k».proof.Proof.Gen.AttendRefIdeal.Run
public import proofs.«01_k».proof.Proof.Gen.AttendRefIdeal.Read
public import proofs.«01_k».proof.Proof.AttnRef
public import proofs.«01_k».proof.Proof.AttendTrip

@[expose] public section

noncomputable section

namespace Cert.Attn.Inputs

open Idealize.ShloMosaic Cert.Reals

variable {I : Inputs} (h : ℕ) (hn : I.Narrow) {t : ℕ} (ht : t < 4112)
include hn ht

/-- A key's weight beside the exponential that reference.py divides by. -/
theorem wt_eq (j : ℕ) : (I.head h).wt t j = Real.exp (I.top h t) * I.expo h t j := by
  unfold Head.wt expo
  rw [dot_eq h hn ht]
  split
  · rw [← Real.exp_add, add_sub_cancel]
  · rw [mul_zero]

theorem cs_eq : (I.head h).cs 0 4112 t = Real.exp (I.top h t) * I.den h t := by
  unfold Head.cs den
  rw [← Finset.range_eq_Ico, Finset.sum_range, Finset.mul_sum]
  exact Finset.sum_congr rfl fun j _ => wt_eq h hn ht j

/-- The average of the values, -/
theorem out_eq (d : ℕ) : (I.head h).ys 0 4112 t d / (I.head h).cs 0 4112 t = I.out h t d := by
  have e : (I.head h).ys 0 4112 t d = Real.exp (I.top h t) * ∑ j : Fin 4112, I.expo h t j * I.kv j h (128 + d) := by
    unfold Head.ys
    rw [← Finset.range_eq_Ico, Finset.sum_range, Finset.mul_sum]
    refine Finset.sum_congr rfl fun j _ => ?_
    rw [wt_eq h hn ht, mul_assoc]
    rfl
  rw [e, cs_eq h hn ht, mul_div_mul_left _ _ (Real.exp_pos _).ne']
  unfold out
  rw [Finset.sum_div]
  exact Finset.sum_congr rfl fun j _ => by rw [mul_comm (I.expo h t j), mul_div_assoc]

/-- and the logarithm of the sum of exponentials. -/
theorem log_eq : Real.log ((I.head h).cs 0 4112 t) = I.top h t + Real.log (I.den h t) := by
  rw [cs_eq h hn ht, Real.log_mul (Real.exp_pos _).ne' (I.den_pos h ht).ne', Real.log_exp]

end Cert.Attn.Inputs

namespace Cert.AttendRefIdeal.Rows

open Idealize.ShloMosaic Cert.AttendRefIdeal Cert.AttendRefIdeal.Gen Cert.AttendRefIdeal.Read Cert.Reals Cert.Attn
open Facts

variable {q : S4112x16x192.Idx → EReal} {kv : S4112x16x256.Idx → EReal} {kr : S4112x64.Idx → EReal} {co si : S4112x32.Idx → EReal} {ct : (⟨2, ![4112, 2048]⟩ : Shape).Idx → EReal}

/-- The masked scores, their maxima and the softmax are the lines the gradient differentiates. -/
theorem scores : val_main_v40 (F := Ideal) q kv kr co si = Cert.AttnRefIdeal.Read.val_main_v40_0 (F := Ideal) q kv kr co si := rfl

theorem maxima : val_main_v56 (F := Ideal) q kv kr co si = Cert.AttnRefIdeal.Read.val_main_v41 (F := Ideal) q kv kr co si := rfl

theorem softmax : val_main_v51 (F := Ideal) q kv kr co si = Cert.AttnRefIdeal.Read.val_main_v65 (F := Ideal) q kv kr co si := rfl

theorem pad3 : val_main_call3_v0 (F := Ideal) (Shape.Idx.first h_S_) = ((0 : ℝ) : EReal) := by
  show ((((0#32 : BitVec 32).toInt : ℝ)) : EReal) = _
  simp

theorem pad4 : val_main_call4_v0 (F := Ideal) (Shape.Idx.first h_S_) = ((0 : ℝ) : EReal) := by
  show ((((0#32 : BitVec 32).toInt : ℝ)) : EReal) = _
  simp

/-- The logarithm of a softmax's denominator, from the scores and their maxima, padded and repeated on 128 lanes. -/
abbrev wide (s : Vec Ideal S16x4112x4112 .f32) (t : Vec Ideal S16x4112 .f32) : Vec Ideal S16x4224x128 .f32 :=
  broadcastInDim S16x4224x128 ![0, 1, 2] bcast_S16x4224x1_S16x4224x128_0_1_2 (pad S16x4224x1 ![0, 0, 0] ![0, 112, 0] ![0, 0, 0]
    (addf (F := Ideal) (φ := .f32) (broadcastInDim S16x4112x1 ![0, 1] bcast_S16x4112_S16x4112x1_0_1 t)
      (Host.log (F := Ideal) (φ := .f32) (broadcastInDim S16x4112x1 ![0, 1] bcast_S16x4112_S16x4112x1_0_1
        (Host.reduceAdd (F := Ideal) (φ := .f32) (Host.exp (F := Ideal) (φ := .f32) (subf (F := Ideal) (φ := .f32) s
          (broadcastInDim S16x4112x4112 ![0, 1, 2] bcast_S16x4112x1_S16x4112x4112_0_1_2 (broadcastInDim S16x4112x1 ![0, 1] bcast_S16x4112_S16x4112x1_0_1 t))))
          (constant (F := Ideal) S_ .f32 0x00000000#32) reducesTo_S16x4112x4112_S16x4112_d2 h_S_))))
    (val_main_call4_v0 (F := Ideal)) pads_S16x4112x1_S16x4224x1_000_01120_000 h_S_)

theorem wide_at (s : S16x4112x4112.Idx → EReal) (t : S16x4112.Idx → EReal) (h : Fin 16) (r : Fin 4224) (l : Fin 128) :
    (wide s t : S16x4224x128.Idx → EReal) (ix3 h r l)
      = if e : r.val < 4112 then t (ix2 h ⟨r, e⟩) + Ideal.log (∑ x : Fin 4112, Ideal.exp (s (ix3 h ⟨r, e⟩ x) - t (ix2 h ⟨r, e⟩)))
        else val_main_call4_v0 (F := Ideal) (Shape.Idx.first h_S_) := by
  pointwise []

theorem v68_wide : val_main_v68 (F := Ideal) q kv kr co si = wide (val_main_v40 (F := Ideal) q kv kr co si) (val_main_v56 (F := Ideal) q kv kr co si) := rfl

variable (fin : Finite q kv kr co si ct)
include fin

/-- The output, padded, -/
theorem v66_eq (r : Fin 4224) (n : Fin 2048) : val_main_v66 (F := Ideal) q kv kr co si (ix2 r n)
    = if r.val < 4112 then (((inputs q kv kr co si ct).out (n.val / 128) r (n.val % 128) : ℝ) : EReal) else 0 := by
  pointwise [val_main_v66, val_main_v65, val_main_v55, val_main_v54, val_main_v53, val_main_v52]
  simp only [softmax, Cert.AttnRefIdeal.Rows.v65_eq fin, at3_coe fin.kv, mul_coe, sum_coe]
  rw [pad3]
  split
  · rfl
  · rfl

/-- and the logarithm of the sum of exponentials, padded and repeated on every lane. -/
theorem v68_eq (h : Fin 16) (r : Fin 4224) (l : Fin 128) : val_main_v68 (F := Ideal) q kv kr co si (ix3 h r l)
    = if r.val < 4112 then (((inputs q kv kr co si ct).top h r + Real.log ((inputs q kv kr co si ct).den h r) : ℝ) : EReal) else 0 := by
  rw [v68_wide, wide_at]
  simp only [scores, maxima, Cert.AttnRefIdeal.Rows.v41_eq fin, Cert.AttnRefIdeal.Rows.v40_eq fin]
  rw [pad4]
  split
  next e =>
    have d : (∑ x : Fin 4112, Ideal.exp ((inputs q kv kr co si ct).masked h r x - (((inputs q kv kr co si ct).top h r : ℝ) : EReal)))
        = (((inputs q kv kr co si ct).den h r : ℝ) : EReal) := by
      rw [Inputs.den, ← sum_coe]
      refine Finset.sum_congr rfl fun x _ => ?_
      unfold Inputs.masked Inputs.expo
      split
      · rw [sub_coe, Ideal.exp_coe]
      · rw [EReal.bot_sub, EReal.coe_zero]; exact Ideal.exp_bot
    refine (congrArg (fun z => (((inputs q kv kr co si ct).top h r : ℝ) : EReal) + Ideal.log z) d).trans ?_
    rw [Ideal.log_coe, if_neg (not_le.2 (Inputs.den_pos _ _ e)), add_coe]
  next => rfl

end Cert.AttendRefIdeal.Rows
-- ==== Proof.AttendBody.lean ====
/- The forward attention's body, run once on any blocks. -/
module

public import proofs.«01_k».proof.Proof.AttendLoop

@[expose] public section

set_option maxRecDepth 16384
set_option maxHeartbeats 4000000

noncomputable section

namespace Cert.AttnFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnFwdIdeal Cert.AttnFwdIdeal.Gen

variable {F : FTy → Type} [FloatOps F] [Named F]

/-- The three blocks read. -/
structure Blocks (F : FTy → Type) where
  x1 : Vec F S4224x256 .bf16
  x2 : Vec F S4224x256 .bf16
  x3 : Vec F S4224x128 .bf16

/-- The pieces left in the two outputs. -/
structure Outs (F : FTy → Type) [FloatOps F] where
  L4 : List (View.Piece (Elt F) S4224x128 .bf16)
  L5 : List (View.Piece (Elt F) S1x4224x128 .f32)

/-- The body, run once on any blocks: the inputs come back, the outputs hold the pieces, the scratch holds something. -/
def bodyRun (c : Dev nD) (i : grid0.Coords) (A : Args) (X : Blocks F) :
    { L : Outs F // ∀ (E : Set ℕ) (K : PUnit → sProp (MT nD τ sig Unit (Elt F) ℕ (UR sig nD τ) ℕ)),
        iprop(owns (c : Thread nD τ) A.a1 fullShare X.x1 ∗
          owns (c : Thread nD τ) A.a2 fullShare X.x2 ∗
          owns (c : Thread nD τ) A.a3 fullShare X.x3 ∗
          (∃ d, owns (c : Thread nD τ) A.a4 fullShare d) ∗
          (∃ d, owns (c : Thread nD τ) A.a5 fullShare d) ∗
          (∃ d, owns (c : Thread nD τ) A.a6 fullShare d) ∗
          (∃ d, owns (c : Thread nD τ) A.a7 fullShare d) ∗
          (∃ d, owns (c : Thread nD τ) A.a8 fullShare d) ∗
          (∃ d, owns (c : Thread nD τ) A.a9 fullShare d) ∗
          (iprop(owns (c : Thread nD τ) A.a1 fullShare X.x1 ∗
          owns (c : Thread nD τ) A.a2 fullShare X.x2 ∗
          owns (c : Thread nD τ) A.a3 fullShare X.x3 ∗
          (∃ f, (A.a4.view.loc (c : Thread nD τ) ↦[A.a4.view.set]{fullShare} (A.a4.view.writes (Elt F) f L.L4))) ∗
          (∃ f, (A.a5.view.loc (c : Thread nD τ) ↦[A.a5.view.set]{fullShare} (A.a5.view.writes (Elt F) f L.L5))) ∗
          (∃ d, owns (c : Thread nD τ) A.a6 fullShare d) ∗
          (∃ d, owns (c : Thread nD τ) A.a7 fullShare d) ∗
          (∃ d, owns (c : Thread nD τ) A.a8 fullShare d) ∗
          (∃ d, owns (c : Thread nD τ) A.a9 fullShare d)) -∗ K ⟨⟩))
        ⊢ wp frame (wpE (defs₀ (F := F)) Variants.none (c : Thread nD τ) none) E (cc0_attn_fwd i A.a1 A.h1 A.a2 A.h2 A.a3 A.h3 A.a4 A.h4 A.a5 A.h5 A.a6 A.h6 A.a7 A.h7 A.a8 A.h8 A.a9 A.h9) K } := by
  refine ⟨⟨?_, ?_⟩, fun E K => ?run⟩
  case run =>
    simp only [cc0_attn_fwd_eq_skeleton]
    unfold cc0_attn_fwd_skel
    simp only [k0_part12_eq_skeleton]
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
    obtain rfl := A.h1.eq_unread hf1
    obtain rfl := A.h2.eq_unread hf2
    obtain rfl := A.h3.eq_unread hf3
    sl_exec
    sl_step
    iapply Hk
    isplitl [H1]
    · iexists _; isplitr; · ipureintro; exact A.h1.read_unread _
      iexact H1
    isplitl [H2]
    · iexists _; isplitr; · ipureintro; exact A.h2.read_unread _
      iexact H2
    isplitl [H3]
    · iexists _; isplitr; · ipureintro; exact A.h3.read_unread _
      iexact H3
    isplitl [H4]; · iexists _; iexact H4
    isplitl [H5]; · iexists _; iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    iexists _, _; isplitr; swap; · iexact H9
    ipureintro; rfl

end Cert.AttnFwdIdeal.Hand
-- ==== Proof.AttendFrame.lean ====
/- The forward attention's frame: the pieces one run leaves cover its outputs, so the program runs to the end and
   returns its arguments unchanged; and what its two result arrays then hold, block by block. -/
module

public import proofs.«01_k».proof.Proof.AttendBody
public import Idealize.ShloMosaic.Lib.Claim

@[expose] public section

set_option maxRecDepth 16384
set_option maxHeartbeats 4000000

noncomputable section

namespace Cert.AttnFwdIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnFwdIdeal Cert.AttnFwdIdeal.Gen

variable {F : FTy → Type} [FloatOps F] [Named F]

theorem trips_eight : k0_t1_loop.trips = 8 := by decide +kernel

theorem off12_row (k : Fin k0_t1_loop.trips) : k0_off12 k = ![16 + 512 * k.val, 0] := by
  revert k; decide +kernel

theorem off13_row (k : Fin k0_t1_loop.trips) : k0_off13 k = ![0, 16 + 512 * k.val, 0] := by
  revert k; decide +kernel

/-- A trip writes the rows of its query tile. -/
theorem tripL_L4 (c : Dev nD) (i : grid0.Coords) (A : Args) (X : Ins F A) (k : Fin k0_t1_loop.trips) :
    ∃ v, (tripL c i A X k).L4 = [⟨Rect.unit (k0_off12 k) S512x128.size (k0_off12_inb k), v⟩] := by
  unfold tripL
  split
  · unfold trip_odd; exact ⟨_, rfl⟩
  · unfold trip_even; exact ⟨_, rfl⟩

theorem tripL_L5 (c : Dev nD) (i : grid0.Coords) (A : Args) (X : Ins F A) (k : Fin k0_t1_loop.trips) :
    ∃ v, (tripL c i A X k).L5 = [⟨Rect.unit (k0_off13 k) S1x512x128.size (k0_off13_inb k), v⟩] := by
  unfold tripL
  split
  · unfold trip_odd; exact ⟨_, rfl⟩
  · unfold trip_even; exact ⟨_, rfl⟩

/-- The rows of every earlier tile are among the pieces. -/
theorem done4_mem (c : Dev nD) (i : grid0.Coords) (A : Args) (X : Ins F A) :
    ∀ (n : ℕ) (hn : n ≤ k0_t1_loop.trips) (k : Fin k0_t1_loop.trips), k.val < n →
      ∃ v, (⟨Rect.unit (k0_off12 k) S512x128.size (k0_off12_inb k), v⟩ : View.Piece (Elt F) S4224x128 .bf16) ∈ done4 c i A X n
  | 0, _, k, h => absurd h (Nat.not_lt_zero _)
  | n + 1, hn, k, h => by
    rw [done4_succ c i A X ⟨n, hn⟩]
    obtain ⟨v, hv⟩ := tripL_L4 c i A X ⟨n, hn⟩
    rw [hv]
    by_cases hk : k.val = n
    · obtain rfl : k = ⟨n, hn⟩ := Fin.ext hk
      exact ⟨v, List.mem_append_left _ (List.mem_singleton.2 rfl)⟩
    · obtain ⟨w, hw⟩ := done4_mem c i A X n (by omega) k (by omega)
      exact ⟨w, List.mem_append_right _ hw⟩

theorem cover4 (c : Dev nD) (i : grid0.Coords) (A : Args) (X : Blocks F) (y : S4224x128.Idx) :
    ∃ q ∈ (bodyRun c i A X).1.L4, y ∈ q.1.set := by
  have h0 : (y 0).val < 4224 := (y 0).isLt
  have h1 : (y 1).val < 128 := (y 1).isLt
  unfold bodyRun
  dsimp only
  by_cases hlo : (y 0).val < 16
  · refine ⟨_, List.mem_append_right _ (List.mem_cons_self ..), ?_⟩
    rw [Rect.mem_set_unit]
    intro a
    match a with
    | ⟨0, _⟩ => exact ⟨Nat.zero_le _, by show (y 0).val < 0 + 16; omega⟩
    | ⟨1, _⟩ => exact ⟨Nat.zero_le _, by show (y 1).val < 0 + 128; omega⟩
  by_cases hhi : 4112 ≤ (y 0).val
  · refine ⟨_, List.mem_append_right _ (List.mem_cons_of_mem _ (List.mem_cons_self ..)), ?_⟩
    rw [Rect.mem_set_unit]
    intro a
    match a with
    | ⟨0, _⟩ => exact ⟨hhi, by show (y 0).val < 4112 + 112; omega⟩
    | ⟨1, _⟩ => exact ⟨Nat.zero_le _, by show (y 1).val < 0 + 128; omega⟩
  · have hk : ((y 0).val - 16) / 512 < k0_t1_loop.trips := by rw [trips_eight]; omega
    obtain ⟨v, hv⟩ := done4_mem (F := F) c i A _ (Scf.trips (0#32) (Scalar.addi (0#32) (8#32)) 1#32) (by decide +kernel)
      ⟨((y 0).val - 16) / 512, hk⟩ (lt_of_lt_of_eq hk (by decide +kernel))
    refine ⟨_, List.mem_append_left _ hv, ?_⟩
    rw [Rect.mem_set_unit, off12_row]
    intro a
    match a with
    | ⟨0, _⟩ => exact ⟨by show 16 + 512 * (((y 0).val - 16) / 512) ≤ (y 0).val; omega,
        by show (y 0).val < 16 + 512 * (((y 0).val - 16) / 512) + 512; omega⟩
    | ⟨1, _⟩ => exact ⟨Nat.zero_le _, by show (y 1).val < 0 + 128; omega⟩

/-- The rows of every earlier tile are among the pieces. -/
theorem done5_mem (c : Dev nD) (i : grid0.Coords) (A : Args) (X : Ins F A) :
    ∀ (n : ℕ) (hn : n ≤ k0_t1_loop.trips) (k : Fin k0_t1_loop.trips), k.val < n →
      ∃ v, (⟨Rect.unit (k0_off13 k) S1x512x128.size (k0_off13_inb k), v⟩ : View.Piece (Elt F) S1x4224x128 .f32) ∈ done5 c i A X n
  | 0, _, k, h => absurd h (Nat.not_lt_zero _)
  | n + 1, hn, k, h => by
    rw [done5_succ c i A X ⟨n, hn⟩]
    obtain ⟨v, hv⟩ := tripL_L5 c i A X ⟨n, hn⟩
    rw [hv]
    by_cases hk : k.val = n
    · obtain rfl : k = ⟨n, hn⟩ := Fin.ext hk
      exact ⟨v, List.mem_append_left _ (List.mem_singleton.2 rfl)⟩
    · obtain ⟨w, hw⟩ := done5_mem c i A X n (by omega) k (by omega)
      exact ⟨w, List.mem_append_right _ hw⟩

theorem cover5 (c : Dev nD) (i : grid0.Coords) (A : Args) (X : Blocks F) (y : S1x4224x128.Idx) :
    ∃ q ∈ (bodyRun c i A X).1.L5, y ∈ q.1.set := by
  have hz : (y 0).val < 1 := (y 0).isLt
  have h0 : (y 1).val < 4224 := (y 1).isLt
  have h1 : (y 2).val < 128 := (y 2).isLt
  unfold bodyRun
  dsimp only
  by_cases hlo : (y 1).val < 16
  · refine ⟨_, List.mem_append_right _ (List.mem_cons_self ..), ?_⟩
    rw [Rect.mem_set_unit]
    intro a
    match a with
    | ⟨0, _⟩ => exact ⟨Nat.zero_le _, by show (y 0).val < 0 + 1; omega⟩
    | ⟨1, _⟩ => exact ⟨Nat.zero_le _, by show (y 1).val < 0 + 16; omega⟩
    | ⟨2, _⟩ => exact ⟨Nat.zero_le _, by show (y 2).val < 0 + 128; omega⟩
  by_cases hhi : 4112 ≤ (y 1).val
  · refine ⟨_, List.mem_append_right _ (List.mem_cons_of_mem _ (List.mem_cons_self ..)), ?_⟩
    rw [Rect.mem_set_unit]
    intro a
    match a with
    | ⟨0, _⟩ => exact ⟨Nat.zero_le _, by show (y 0).val < 0 + 1; omega⟩
    | ⟨1, _⟩ => exact ⟨hhi, by show (y 1).val < 4112 + 112; omega⟩
    | ⟨2, _⟩ => exact ⟨Nat.zero_le _, by show (y 2).val < 0 + 128; omega⟩
  · have hk : ((y 1).val - 16) / 512 < k0_t1_loop.trips := by rw [trips_eight]; omega
    obtain ⟨v, hv⟩ := done5_mem (F := F) c i A _ (Scf.trips (0#32) (Scalar.addi (0#32) (8#32)) 1#32) (by decide +kernel)
      ⟨((y 1).val - 16) / 512, hk⟩ (lt_of_lt_of_eq hk (by decide +kernel))
    refine ⟨_, List.mem_append_left _ hv, ?_⟩
    rw [Rect.mem_set_unit, off13_row]
    intro a
    match a with
    | ⟨0, _⟩ => exact ⟨Nat.zero_le _, by show (y 0).val < 0 + 1; omega⟩
    | ⟨1, _⟩ => exact ⟨by show 16 + 512 * (((y 1).val - 16) / 512) ≤ (y 1).val; omega,
        by show (y 1).val < 16 + 512 * (((y 1).val - 16) / 512) + 512; omega⟩
    | ⟨2, _⟩ => exact ⟨Nat.zero_le _, by show (y 2).val < 0 + 128; omega⟩

variable (m : (ℓ : Loc nD τ sig) → Buf (Elt F) ℓ) (ρ : Dev nD → PrngReg)

/-- The blocks the body is called with at point `t`. -/
abbrev argsAt (t : Fin cfg0.N) : Args :=
  ⟨(win0_0.stage (cfg0.slots t 0)), (hstage0_0 ((cfg0.slots t 0).cast nbuf0_0)),
   (win0_1.stage (cfg0.slots t 1)), (hstage0_1 ((cfg0.slots t 1).cast nbuf0_1)),
   (win0_2.stage (cfg0.slots t 2)), (hstage0_2 ((cfg0.slots t 2).cast nbuf0_2)),
   (win0_3.stage (cfg0.slots t 3)), (hstage0_3 ((cfg0.slots t 3).cast nbuf0_3)),
   (win0_4.stage (cfg0.slots t 4)), (hstage0_4 ((cfg0.slots t 4).cast nbuf0_4)),
   Memref.whole cc0_scratch0, Memref.isWhole_whole _,
   Memref.whole cc0_scratch1, Memref.isWhole_whole _,
   Memref.whole cc0_scratch2, Memref.isWhole_whole _,
   Memref.whole cc0_scratch3, Memref.isWhole_whole _⟩

/-- What they hold. -/
abbrev blocksAt (c : Dev nD) (t : Fin cfg0.N) : Blocks F :=
  ⟨iblk m c 0 t, iblk m c 1 t, iblk m c 2 t⟩

/-- What the run leaves at point `t`. -/
def outsAt (c : Dev nD) (t : Fin cfg0.N) : Outs F := (bodyRun c (grid0.coords t) (argsAt t) (blocksAt m c t)).1

/-- The pipeline's proof data: at each point the inputs' blocks as staged, the outputs at what the run's pieces leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => View.canon (outsAt m c t).L4
    | ⟨4, _⟩ => View.canon (outsAt m c t).L5
    | ⟨_ + 5, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = View.canon (outsAt m c t).L4 := by
  dsimp only [dats]
theorem after0_4 (c : Dev nD) (t : Fin cfg0.N) : (dats m 0 c).after 4 t = View.canon (outsAt m c t).L5 := by
  dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The scratch buffers hold something, and the generator register. -/
theorem PhiA0_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- What the body is given at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (argsAt t).a1 fullShare ((dats m 0 c).before 0 t d))
    ∗ (∃ d, owns (c : Thread nD τ) (argsAt t).a2 fullShare ((dats m 0 c).before 1 t d))
    ∗ (∃ d, owns (c : Thread nD τ) (argsAt t).a3 fullShare ((dats m 0 c).before 2 t d))
    ∗ (∃ d, owns (c : Thread nD τ) (argsAt t).a4 fullShare ((dats m 0 c).before 3 t d))
    ∗ (∃ d, owns (c : Thread nD τ) (argsAt t).a5 fullShare ((dats m 0 c).before 4 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (argsAt t).a1 fullShare ((dats m 0 c).after 0 t)
    ∗ owns (c : Thread nD τ) (argsAt t).a2 fullShare ((dats m 0 c).after 1 t)
    ∗ owns (c : Thread nD τ) (argsAt t).a3 fullShare ((dats m 0 c).after 2 t)
    ∗ owns (c : Thread nD τ) (argsAt t).a4 fullShare ((dats m 0 c).after 3 t)
    ∗ owns (c : Thread nD τ) (argsAt t).a5 fullShare ((dats m 0 c).after 4 t))

theorem sound_body (c : Dev nD) (t : Fin cfg0.N) :
    bodyPre m c t ⊢ wp frame (wpE (defs₀ (F := F)) Variants.none (c : Thread nD τ) none) Set.univ (bodyAt0 t)
      (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩⟩
  iapply ((bodyRun c (grid0.coords t) (argsAt t) (blocksAt m c t)).2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  isplitl [HS3]; · iexact HS3
  iintro ⟨H0, H1, H2, ⟨%e3, H3⟩, ⟨%e4, H4⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_eq_canon _ _ _ (cover4 c _ _ _)
  unfold owns; iexists _; isplitr
  swap; · iexact H4
  ipureintro; exact View.read_writes_eq_canon _ _ _ (cover5 c _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline ends at what the proof data say, every counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, the arguments are unchanged and the counters are zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ))
    ((θ_run defs _ _).mono (fun _ h => h.2) (run_main_quiescent m ρ))

end Cert.AttnFwdIdeal.Hand
-- ==== Proof.AttendIn.lean ====
/- What the forward attention's host lines hand to the kernel, entry by entry. -/
module

public import proofs.«01_k».proof.Proof.AttendRef
public import proofs.«01_k».proof.Proof.AttendFrame

@[expose] public section

set_option maxHeartbeats 1000000

noncomputable section

namespace Cert.AttnFwdIdeal.Hand

open Idealize.ShloMosaic Idealize.ShloMosaic.StableHlo Idealize.ShloMosaic.TcCoe Idealize.SL.Sem Cert.AttnFwdIdeal Cert.AttnFwdIdeal.Gen Cert.Reals Cert.Attn
open Facts
open Cert.AttendRefIdeal.Read

/-- The memory the run starts from. -/
abbrev Mem := (ℓ : Loc nD τ sig) → Buf (Elt Ideal) ℓ

variable (m : Mem) (c : Dev nD)

abbrev argQ : Vec Ideal S4112x16x192 .f32 := launchContents m c (Proc.devRef .tc main_arg0)
abbrev argKV : Vec Ideal S4112x16x256 .f32 := launchContents m c (Proc.devRef .tc main_arg1)
abbrev argKR : Vec Ideal S4112x64 .f32 := launchContents m c (Proc.devRef .tc main_arg2)
abbrev argC : Vec Ideal S4112x32 .f32 := launchContents m c (Proc.devRef .tc main_arg3)
abbrev argS : Vec Ideal S4112x32 .f32 := launchContents m c (Proc.devRef .tc main_arg4)

/-- The arguments are finite; there is no cotangent. -/
abbrev Fin5 : Prop := Cert.Attn.Finite (argQ m c) (argKV m c) (argKR m c) (argC m c) (argS m c) (fun _ => 0)

/-- The arguments as reals. -/
abbrev ins : Inputs := inputs (argQ m c) (argKV m c) (argKR m c) (argC m c) (argS m c) (fun _ => 0)

/-- The number padded with. -/
abbrev padv : Vec Ideal S_ .f32 := val_main_call4_v0 (F := Ideal)

theorem padv_zero : padv (Shape.Idx.first h_S_) = ((0 : ℝ) : EReal) := Cert.AttendRefIdeal.Rows.pad4

theorem V_q : V (F := Ideal) m c main_v20 = truncf (F := Ideal) (s := S4224x4096) .bf16 (shapeCast S4224x4096 (pad S4224x16x256 ![0, 0, 0] ![112, 0, 64] ![0, 0, 0]
    (concatenate S4112x16x192 2 [⟨S4112x16x128, val_main_v2 (F := Ideal) (argQ m c)⟩, ⟨S4112x16x64, val_main_v19 (F := Ideal) (argQ m c) (argC m c) (argS m c)⟩]
      concatenates_S4112x16x128_S4112x16x64_S4112x16x192_d2) padv pads_S4112x16x192_S4224x16x256_01120_000_0640 h_S_) shapeCasts_S4224x16x256_S4224x4096) bitsLt_bf16_f32 := by
  simp only [V, hostOps0, hostOps0_1, hostOps0_2, hostOps0_3, hostOps0_4, hostOps0_5, hostOps0_6,
    List.flatten_cons, List.flatten_nil, List.append_nil, List.cons_append, List.nil_append]
  after_results
  rfl

theorem V_kv : V (F := Ideal) m c main_v23 = truncf (F := Ideal) (s := S4224x4096) .bf16 (pad S4224x4096 ![0, 0] ![112, 0] ![0, 0] (shapeCast S4112x4096 (argKV m c) shapeCasts_S4112x16x256_S4112x4096)
    padv pads_S4112x4096_S4224x4096_01120_000 h_S_) bitsLt_bf16_f32 := by
  simp only [V, hostOps0, hostOps0_1, hostOps0_2, hostOps0_3, hostOps0_4, hostOps0_5, hostOps0_6,
    List.flatten_cons, List.flatten_nil, List.append_nil, List.cons_append, List.nil_append]
  after_results
  rfl

theorem V_kr : V (F := Ideal) m c main_v25 = truncf (F := Ideal) (s := S4224x128) .bf16 (pad S4224x128 ![0, 0] ![112, 64] ![0, 0] (argKR m c) padv
    pads_S4112x64_S4224x128_01120_0640 h_S_) bitsLt_bf16_f32 := by
  simp only [V, hostOps0, hostOps0_1, hostOps0_2, hostOps0_3, hostOps0_4, hostOps0_5, hostOps0_6,
    List.flatten_cons, List.flatten_nil, List.append_nil, List.cons_append, List.nil_append]
  after_results
  rfl

/-- The rotation is the gradient's reference's. -/
theorem rope_eq : val_main_v19 (F := Ideal) (argQ m c) (argC m c) (argS m c) = Cert.AttnRefIdeal.Read.val_main_v19 (F := Ideal) (argQ m c) (argC m c) (argS m c) := rfl

variable {m c} (fin : Fin5 m c)
include fin

theorem in_q (r : Fin 4224) (n : Fin 4096) : (V (F := Ideal) m c main_v20 : S4224x4096.Idx → EReal) (ix2 r n)
    = ((((ins m c).head (n.val / 256)).Q r (n.val % 256) : ℝ) : EReal) := by
  rw [V_q, rope_eq]
  pointwise [val_main_v2]
  simp only [Cert.AttnRefIdeal.Rows.v19_eq fin, at3_coe fin.q]
  rw [padv_zero]
  dsimp only [Inputs.head]
  by_cases hr : r.val < 4112
  · rw [if_pos hr]
    split
    · split
      · rfl
      · rw [if_pos (by omega)]
    · rw [if_neg (by omega), if_neg (by omega)]
  · rw [if_neg hr, dif_neg (by omega)]

theorem in_kv (r : Fin 4224) (n : Fin 4096) : (V (F := Ideal) m c main_v23 : S4224x4096.Idx → EReal) (ix2 r n)
    = ((((ins m c).head (n.val / 256)).KV r (n.val % 256) : ℝ) : EReal) := by
  rw [V_kv]
  pointwise []
  simp only [at3_coe fin.kv]
  rw [padv_zero]
  split
  · rfl
  · refine congrArg Real.toEReal ?_
    show 0 = at3 (argKV m c) r _ _
    unfold at3
    rw [dif_neg (by omega)]

theorem in_kr (r : Fin 4224) (l : Fin 128) : (V (F := Ideal) m c main_v25 : S4224x128.Idx → EReal) (ix2 r l)
    = ((at2 (argKR m c) r l : ℝ) : EReal) := by
  rw [V_kr]
  pointwise []
  simp only [at2_coe fin.kr]
  rw [padv_zero]
  split
  · rfl
  · refine congrArg Real.toEReal ?_
    unfold at2
    rw [dif_neg (by omega)]

end Cert.AttnFwdIdeal.Hand
-- ==== Proof.AttendTile.lean ====
/- A whole tile of query rows of the forward attention over the reals: its key blocks together and what is stored. -/
module

public import proofs.«01_k».proof.Proof.AttendTrip

@[expose] public section

set_option maxRecDepth 16384
set_option maxHeartbeats 4000000

noncomputable section

namespace Cert.AttnFwdIdeal.Hand

open Idealize.ShloMosaic Cert.AttnFwdIdeal Cert.AttnFwdIdeal.Gen Cert.Reals Cert.Attn Cert.Attend

theorem ownSum_cs (h : Head) {W t o r : ℕ} (hW : W = 256 ∨ W = 512) (hr : o + r < W) :
    ownSum W o r (fun j => Real.exp (dot (fun r d => h.Q (16 + 512 * t + o + r) d) (fun j d => h.K (0 + j) (0 + d)) r j))
        (fun j => Real.exp (dot (fun r d => h.Q (16 + 512 * t + o + r) d) (fun j d => h.K (16 + 512 * t + j) (0 + d)) r j))
      = h.cs 0 16 (16 + 512 * t + (o + r)) + h.cs (16 + 512 * t) (16 + 512 * (t + 1)) (16 + 512 * t + (o + r)) := by
  have e := own_sum h (t := t) hW hr fun _ => 1
  simp only [mul_one] at e
  exact e

theorem ownSum_ys (h : Head) {W t o r d : ℕ} (hW : W = 256 ∨ W = 512) (hr : o + r < W) :
    ownSum W o r (fun j => Real.exp (dot (fun r d => h.Q (16 + 512 * t + o + r) d) (fun j d => h.K (0 + j) (0 + d)) r j) * h.KV (0 + j) (128 + d))
        (fun j => Real.exp (dot (fun r d => h.Q (16 + 512 * t + o + r) d) (fun j d => h.K (16 + 512 * t + j) (0 + d)) r j) * h.KV (16 + 512 * t + j) (128 + d))
      = h.ys 0 16 (16 + 512 * t + (o + r)) d + h.ys (16 + 512 * t) (16 + 512 * (t + 1)) (16 + 512 * t + (o + r)) d :=
  own_sum h (t := t) hW hr fun j => h.KV j (128 + d)

theorem tiles_eq : k0_t1_loop.trips = 8 := by decide +kernel

/-- Nothing seen yet. -/
theorem start (A : Args) (f7 : BufTy.Contents (Elt Ideal) A.a7.view.ty) (f8 : BufTy.Contents (Elt Ideal) A.a8.view.ty) (f9 : BufTy.Contents (Elt Ideal) A.a9.view.ty) :
    State A (A.a7.view.writes (Elt Ideal) f7 [⟨Rect.unit (s := S512x1) ![0, 0] ![512, 1] inb_S512x1_S512x1_0_0, k0_pay47 (F := Ideal)⟩])
      (A.a8.view.writes (Elt Ideal) f8 [⟨Rect.unit (s := S512x1) ![0, 0] ![512, 1] inb_S512x1_S512x1_0_0, k0_pay48 (F := Ideal)⟩])
      (A.a9.view.writes (Elt Ideal) f9 [⟨Rect.unit (s := S512x128) ![0, 0] ![512, 128] inb_S512x128_S512x128_0_0, k0_pay49 (F := Ideal)⟩]) (fun _ => 0) fun _ _ => 0 := fun r => by
  refine Or.inl ⟨?_, ?_, fun d => ?_, rfl, fun _ => rfl⟩
  · refine (store_in A.a7.view f7 [] ![0, 0] inb_S512x1_S512x1_0_0 (k0_pay47 (F := Ideal)) rfl r 0 (Nat.zero_le _) (by show r.val < 0 + 512; omega)).trans ?_
    pointwise [k0_pay47]
    exact named_mask
  · refine (store_in A.a8.view f8 [] ![0, 0] inb_S512x1_S512x1_0_0 (k0_pay48 (F := Ideal)) rfl r 0 (Nat.zero_le _) (by show r.val < 0 + 512; omega)).trans ?_
    pointwise [k0_pay48]
  · refine (store_in A.a9.view f9 [] ![0, 0] inb_S512x128_S512x128_0_0 (k0_pay49 (F := Ideal)) rfl r d (Nat.zero_le _) (by show r.val < 0 + 512; omega)).trans ?_
    pointwise [k0_pay49]

section Words
variable {h : Head} {A : Args} {X : Ins Ideal A} (R : Reads A X h) (t : Fin k0_t1_loop.trips)
include R

theorem load_q (inb) : Holds (k0_pay45 (A.a1.view.readAt (Elt Ideal) (Rect.unit (s := S4224x256) (k0_off1 t 0#32) ![256, 256] inb).toLoadRect X.x1))
    fun r d => h.Q (16 + 512 * t.val + 0 + r) d := by
  have e := off1_eq t
  intro r d
  pointwise [k0_pay45]
  refine (R.q.load16 _ _ r d).trans ?_
  rw [e]; show ((h.Q _ (0 + d) : ℝ) : EReal) = _; rw [Nat.zero_add]; rfl

theorem load_q' (inb) : Holds (k0_pay46 (A.a1.view.readAt (Elt Ideal) (Rect.unit (s := S4224x256) (k0_off1 t 256#32) ![256, 256] inb).toLoadRect X.x1))
    fun r d => h.Q (16 + 512 * t.val + 256 + r) d := by
  have e := off1_eq' t
  intro r d
  pointwise [k0_pay46]
  refine (R.q.load16 _ _ r d).trans ?_
  rw [e]; show ((h.Q _ (0 + d) : ℝ) : EReal) = _; rw [Nat.zero_add]; rfl

/-- A load of keys, -/
theorem load_k {n : ℕ} (off : Fin 2 → ℕ) (inb) {o : ℕ} (e : off = ![o, 0]) :
    Holds (a := n) (b := 256) (A.a6.view.readAt (Elt Ideal) (Rect.unit (s := S4224x256) off ![n, 256] inb).toLoadRect X.x6) fun j d => h.K (o + j) (0 + d) :=
  (R.k.load16 off inb).congr fun j d _ _ => by rw [e]; rfl

/-- and of values. -/
theorem load_v {n : ℕ} (off : Fin 2 → ℕ) (inb) {o : ℕ} (e : off = ![o, 128]) :
    Holds (a := n) (b := 128) (A.a2.view.readAt (Elt Ideal) (Rect.unit (s := S4224x256) off ![n, 128] inb).toLoadRect X.x2) fun j d => h.KV (o + j) (128 + d) :=
  (R.kv.load16 off inb).congr fun j d _ _ => by rw [e]; rfl

end Words

theorem cs_all (h : Head) {i r : ℕ} (hr : r < 512) (hi : i < 8) : h.cs 0 4112 (16 + 512 * i + r) = h.cs 0 (16 + 512 * (i + 1)) (16 + 512 * i + r) := by
  rw [← h.cs_add (show 0 ≤ 16 + 512 * (i + 1) by omega) (show 16 + 512 * (i + 1) ≤ 4112 by omega), add_eq_left]
  refine Finset.sum_eq_zero fun j hj => ?_
  rw [Finset.mem_Ico] at hj
  exact if_neg (Head.not_chunk_le hr hj.1)

theorem ys_all (h : Head) {i r d : ℕ} (hr : r < 512) (hi : i < 8) : h.ys 0 4112 (16 + 512 * i + r) d = h.ys 0 (16 + 512 * (i + 1)) (16 + 512 * i + r) d := by
  rw [← h.ys_add (show 0 ≤ 16 + 512 * (i + 1) by omega) (show 16 + 512 * (i + 1) ≤ 4112 by omega), add_eq_left]
  refine Finset.sum_eq_zero fun j hj => ?_
  rw [Finset.mem_Ico] at hj
  rw [Head.wt, if_neg (Head.not_chunk_le hr hj.1), zero_mul]

/-- What a tile stores: the quotients and the logarithms. -/
structure Stored (h : Head) (t : ℕ) (p4 : (⟨2, ![512, 128]⟩ : Shape).Idx → EReal) (p5 : (⟨3, ![1, 512, 128]⟩ : Shape).Idx → EReal) : Prop where
  o : Holds p4 fun r d => h.ys 0 4112 (16 + 512 * t + r) d / h.cs 0 4112 (16 + 512 * t + r)
  l : ∀ (r : Fin 512) (d : Fin 128), p5 (ix3 0 r d) = ((Real.log (h.cs 0 4112 (16 + 512 * t + r)) : ℝ) : EReal)

theorem cs_pos (h : Head) (t : ℕ) (ht : t < 4112) : 0 < h.cs 0 4112 t := by
  refine Finset.sum_pos' (fun j _ => ?_) ⟨t, Finset.mem_Ico.2 ⟨Nat.zero_le _, ht⟩, ?_⟩
  · unfold Head.wt; split
    · exact (Real.exp_pos _).le
    · exact le_rfl
  · rw [Head.wt, if_pos le_rfl]; exact Real.exp_pos _

theorem stored {h : Head} {A : Args} {t : ℕ} (ht : t < 8) {f7 : BufTy.Contents (Elt Ideal) A.a7.view.ty} {f8 : BufTy.Contents (Elt Ideal) A.a8.view.ty}
    {f9 : BufTy.Contents (Elt Ideal) A.a9.view.ty}
    (S : State A f7 f8 f9 (fun r => h.cs 0 4112 (16 + 512 * t + r)) fun r d => h.ys 0 4112 (16 + 512 * t + r) d) :
    Stored h t (k0_pay73 (A.a9.view.readAt (Elt Ideal) (Rect.unit (s := S512x128) ![0, 0] ![512, 128] inb_S512x128_S512x128_0_0).toLoadRect f9)
        (A.a8.view.readAt (Elt Ideal) (Rect.unit (s := S512x1) ![0, 0] ![512, 1] inb_S512x1_S512x1_0_0).toLoadRect f8))
      (k0_pay5 (A.a7.view.readAt (Elt Ideal) (Rect.unit (s := S512x1) ![0, 0] ![512, 1] inb_S512x1_S512x1_0_0).toLoadRect f7)
        (A.a8.view.readAt (Elt Ideal) (Rect.unit (s := S512x1) ![0, 0] ![512, 1] inb_S512x1_S512x1_0_0).toLoadRect f8)) := by
  have e7 : ∀ r : Fin 512, A.a7.view.readAt (Elt Ideal) (Rect.unit (s := S512x1) ![0, 0] ![512, 1] inb_S512x1_S512x1_0_0).toLoadRect f7 (ix2 r 0)
      = A.a7.view.read (Elt Ideal) f7 (ix2 r 0) := fun r =>
    (load_apply A.a7.view f7 ![0, 0] inb_S512x1_S512x1_0_0 r 0 (by norm_num) (by norm_num)).trans (by congr 2; exact Fin.ext (Nat.zero_add _))
  have e8 : ∀ r : Fin 512, A.a8.view.readAt (Elt Ideal) (Rect.unit (s := S512x1) ![0, 0] ![512, 1] inb_S512x1_S512x1_0_0).toLoadRect f8 (ix2 r 0)
      = A.a8.view.read (Elt Ideal) f8 (ix2 r 0) := fun r =>
    (load_apply A.a8.view f8 ![0, 0] inb_S512x1_S512x1_0_0 r 0 (by norm_num) (by norm_num)).trans (by congr 2; exact Fin.ext (Nat.zero_add _))
  have e9 : ∀ (r : Fin 512) (d : Fin 128), A.a9.view.readAt (Elt Ideal) (Rect.unit (s := S512x128) ![0, 0] ![512, 128] inb_S512x128_S512x128_0_0).toLoadRect f9 (ix2 r d)
      = A.a9.view.read (Elt Ideal) f9 (ix2 r d) := fun r d =>
    (load_apply A.a9.view f9 ![0, 0] inb_S512x128_S512x128_0_0 r d (by norm_num) (by norm_num)).trans
      (by congr 2 <;> exact Fin.ext (Nat.zero_add _))
  generalize A.a7.view.readAt (Elt Ideal) (Rect.unit (s := S512x1) ![0, 0] ![512, 1] inb_S512x1_S512x1_0_0).toLoadRect f7 = m at e7 ⊢
  generalize A.a8.view.readAt (Elt Ideal) (Rect.unit (s := S512x1) ![0, 0] ![512, 1] inb_S512x1_S512x1_0_0).toLoadRect f8 = l at e8 ⊢
  generalize A.a9.view.readAt (Elt Ideal) (Rect.unit (s := S512x128) ![0, 0] ![512, 128] inb_S512x128_S512x128_0_0).toLoadRect f9 = a at e9 ⊢
  refine ⟨fun r d => ?_, fun r d => ?_⟩
  · pointwise [k0_pay73]
    rw [e8, e9]
    exact (S r).quot (cs_pos h _ (by omega)) d
  · pointwise [k0_pay5]
    rw [e7, e8]
    exact (S r).logsum (cs_pos h _ (by omega))

/-- The upper half of the rows of a state, loaded, -/
theorem upper {A : Args} {f7 : BufTy.Contents (Elt Ideal) A.a7.view.ty} {f8 : BufTy.Contents (Elt Ideal) A.a8.view.ty} {f9 : BufTy.Contents (Elt Ideal) A.a9.view.ty}
    {c : ℕ → ℝ} {y : ℕ → ℕ → ℝ} (S : State A f7 f8 f9 c y) :
    Acc (n := 256) (fun r => c (0 + r)) (fun r => y (0 + r))
      (A.a7.view.readAt (Elt Ideal) (Rect.unit (s := S512x1) ![0, 0] ![256, 1] inb_S512x1_S256x1_0_0).toLoadRect f7)
      (A.a8.view.readAt (Elt Ideal) (Rect.unit (s := S512x1) ![0, 0] ![256, 1] inb_S512x1_S256x1_0_0).toLoadRect f8)
      (A.a9.view.readAt (Elt Ideal) (Rect.unit (s := S512x128) ![0, 0] ![256, 128] inb_S512x128_S256x128_0_0).toLoadRect f9) :=
  Acc.load 0 (by norm_num) (fun r _ _ => S r) _ _ _

/-- and the lower half, behind a store of the upper. -/
theorem lower {A : Args} {f7 : BufTy.Contents (Elt Ideal) A.a7.view.ty} {f8 : BufTy.Contents (Elt Ideal) A.a8.view.ty} {f9 : BufTy.Contents (Elt Ideal) A.a9.view.ty}
    {c : ℕ → ℝ} {y : ℕ → ℕ → ℝ} {L7 L8 : List (View.Piece (Elt Ideal) S512x1 .f32)} {L9 : List (View.Piece (Elt Ideal) S512x128 .f32)}
    (S : State A (A.a7.view.writes (Elt Ideal) f7 L7) (A.a8.view.writes (Elt Ideal) f8 L8) (A.a9.view.writes (Elt Ideal) f9 L9) c y)
    {c' : ℕ → ℝ} {y' : ℕ → ℕ → ℝ} {p7 p8 : (⟨2, ![256, 1]⟩ : Shape).Idx → EReal} {p9 : (⟨2, ![256, 128]⟩ : Shape).Idx → EReal} (_ : Acc (n := 256) c' y' p7 p8 p9) :
    Acc (n := 256) (fun r => c (256 + r)) (fun r => y (256 + r))
      (A.a7.view.readAt (Elt Ideal) (Rect.unit (s := S512x1) ![256, 0] ![256, 1] inb_S512x1_S256x1_256_0).toLoadRect
        (A.a7.view.writes (Elt Ideal) f7 (⟨Rect.unit (s := S512x1) ![0, 0] ![256, 1] inb_S512x1_S256x1_0_0, p7⟩ :: L7)))
      (A.a8.view.readAt (Elt Ideal) (Rect.unit (s := S512x1) ![256, 0] ![256, 1] inb_S512x1_S256x1_256_0).toLoadRect
        (A.a8.view.writes (Elt Ideal) f8 (⟨Rect.unit (s := S512x1) ![0, 0] ![256, 1] inb_S512x1_S256x1_0_0, p8⟩ :: L8)))
      (A.a9.view.readAt (Elt Ideal) (Rect.unit (s := S512x128) ![256, 0] ![256, 128] inb_S512x128_S256x128_256_0).toLoadRect
        (A.a9.view.writes (Elt Ideal) f9 (⟨Rect.unit (s := S512x128) ![0, 0] ![256, 128] inb_S512x128_S256x128_0_0, p9⟩ :: L9))) :=
  Acc.load 256 (by norm_num) (Cert.Attend.Acc.below S _ _ _) _ _ _

/-- Both halves stored. -/
theorem both {A : Args} {f7 : BufTy.Contents (Elt Ideal) A.a7.view.ty} {f8 : BufTy.Contents (Elt Ideal) A.a8.view.ty} {f9 : BufTy.Contents (Elt Ideal) A.a9.view.ty}
    {s c c₁ c₂ : ℕ → ℝ} {z y y₁ y₂ : ℕ → ℕ → ℝ} {L7 L8 : List (View.Piece (Elt Ideal) S512x1 .f32)} {L9 : List (View.Piece (Elt Ideal) S512x128 .f32)}
    (_ : State A (A.a7.view.writes (Elt Ideal) f7 L7) (A.a8.view.writes (Elt Ideal) f8 L8) (A.a9.view.writes (Elt Ideal) f9 L9) s z)
    {p7 p8 q7 q8 : (⟨2, ![256, 1]⟩ : Shape).Idx → EReal} {p9 q9 : (⟨2, ![256, 128]⟩ : Shape).Idx → EReal}
    (h₁ : Acc (n := 256) c₁ y₁ p7 p8 p9) (h₂ : Acc (n := 256) c₂ y₂ q7 q8 q9)
    (e₁ : ∀ r, r < 256 → c₁ r = c r) (e₂ : ∀ r, r < 256 → c₂ r = c (256 + r)) (z₁ : ∀ r d, r < 256 → d < 128 → y₁ r d = y r d)
    (z₂ : ∀ r d, r < 256 → d < 128 → y₂ r d = y (256 + r) d) :
    State A (A.a7.view.writes (Elt Ideal) f7 (⟨Rect.unit (s := S512x1) ![256, 0] ![256, 1] inb_S512x1_S256x1_256_0, q7⟩ :: ⟨Rect.unit (s := S512x1) ![0, 0] ![256, 1] inb_S512x1_S256x1_0_0, p7⟩ :: L7))
      (A.a8.view.writes (Elt Ideal) f8 (⟨Rect.unit (s := S512x1) ![256, 0] ![256, 1] inb_S512x1_S256x1_256_0, q8⟩ :: ⟨Rect.unit (s := S512x1) ![0, 0] ![256, 1] inb_S512x1_S256x1_0_0, p8⟩ :: L8))
      (A.a9.view.writes (Elt Ideal) f9 (⟨Rect.unit (s := S512x128) ![256, 0] ![256, 128] inb_S512x128_S256x128_256_0, q9⟩ :: ⟨Rect.unit (s := S512x128) ![0, 0] ![256, 128] inb_S512x128_S256x128_0_0, p9⟩ :: L9))
      c y :=
  Acc.halves h₁ h₂ _ _ _ _ _ _ e₁ e₂ z₁ z₂

/-- A tile's own keys end the sums. -/
theorem own_end_cs (h : Head) {W t o r : ℕ} (ht : t < 8) (hW : W = 256 ∨ W = 512) (hr : o + r < W) {x : ℝ} (hx : x = h.cs 16 (16 + 512 * t) (16 + 512 * t + (o + r))) :
    x + ownSum W o r (fun j => Real.exp (dot (fun r d => h.Q (16 + 512 * t + o + r) d) (fun j d => h.K (0 + j) (0 + d)) r j))
        (fun j => Real.exp (dot (fun r d => h.Q (16 + 512 * t + o + r) d) (fun j d => h.K (16 + 512 * t + j) (0 + d)) r j))
      = h.cs 0 4112 (16 + 512 * t + (o + r)) := by
  rw [hx, ownSum_cs h hW hr, cs_all h (by omega) ht, ← add_assoc, add_comm (h.cs 16 _ _), h.cs_add (by omega) (by omega), h.cs_add (by omega) (by omega)]

theorem own_end_ys (h : Head) {W t o r d : ℕ} (ht : t < 8) (hW : W = 256 ∨ W = 512) (hr : o + r < W) {x : ℝ} (hx : x = h.ys 16 (16 + 512 * t) (16 + 512 * t + (o + r)) d) :
    x + ownSum W o r (fun j => Real.exp (dot (fun r d => h.Q (16 + 512 * t + o + r) d) (fun j d => h.K (0 + j) (0 + d)) r j) * h.KV (0 + j) (128 + d))
        (fun j => Real.exp (dot (fun r d => h.Q (16 + 512 * t + o + r) d) (fun j d => h.K (16 + 512 * t + j) (0 + d)) r j) * h.KV (16 + 512 * t + j) (128 + d))
      = h.ys 0 4112 (16 + 512 * t + (o + r)) d := by
  rw [hx, ownSum_ys h hW hr, ys_all h (by omega) ht, ← add_assoc, add_comm (h.ys 16 _ _ _), h.ys_add (by omega) (by omega), h.ys_add (by omega) (by omega)]

/-- The loop over what remains of a pair does not run. -/
theorem no_rest {A : Args} {f7 : BufTy.Contents (Elt Ideal) A.a7.view.ty} {f8 : BufTy.Contents (Elt Ideal) A.a8.view.ty} {f9 : BufTy.Contents (Elt Ideal) A.a9.view.ty}
    {c' : ℕ → ℝ} {y' : ℕ → ℕ → ℝ} {L7 L8 : List (View.Piece (Elt Ideal) S512x1 .f32)} {L9 : List (View.Piece (Elt Ideal) S512x128 .f32)}
    (S : State A (A.a7.view.writes (Elt Ideal) f7 L7) (A.a8.view.writes (Elt Ideal) f8 L8) (A.a9.view.writes (Elt Ideal) f9 L9) c' y')
    (c : Dev nD) (i : grid0.Coords) (t : Fin k0_t1_loop.trips) (w1 w2 w4 w5 : BitVec 32) (w3 : BitVec 1) (v58 v62 : FVec Ideal S256x256 .bf16)
    (x2 : BufTy.Contents (Elt Ideal) A.a2.view.ty) (x6 : BufTy.Contents (Elt Ideal) A.a6.view.ty) :
    State A
      (A.a7.view.writes (Elt Ideal) f7 ((pb_k0_t3 (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 w5 x2 x6 (A.a7.view.writes (Elt Ideal) f7 L7) (A.a8.view.writes (Elt Ideal) f8 L8) (A.a9.view.writes (Elt Ideal) f9 L9) (Scf.trips (k0_t3_loop t).lb (k0_t3_loop t).ub (k0_t3_loop t).st)).1 ++ L7))
      (A.a8.view.writes (Elt Ideal) f8 ((pb_k0_t3 (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 w5 x2 x6 (A.a7.view.writes (Elt Ideal) f7 L7) (A.a8.view.writes (Elt Ideal) f8 L8) (A.a9.view.writes (Elt Ideal) f9 L9) (Scf.trips (k0_t3_loop t).lb (k0_t3_loop t).ub (k0_t3_loop t).st)).2.1 ++ L8))
      (A.a9.view.writes (Elt Ideal) f9 ((pb_k0_t3 (F := Ideal) Variants.none c none i A.a1 A.h1 A.a2 A.h2 A.a3 A.h3 A.a4 A.h4 A.a5 A.h5 A.a6 A.h6 A.a7 A.h7 A.a8 A.h8 A.a9 A.h9 t w1 v58 v62 w2 w3 w4 w5 x2 x6 (A.a7.view.writes (Elt Ideal) f7 L7) (A.a8.view.writes (Elt Ideal) f8 L8) (A.a9.view.writes (Elt Ideal) f9 L9) (Scf.trips (k0_t3_loop t).lb (k0_t3_loop t).ub (k0_t3_loop t).st)).2.2 ++ L9)) c' y' := by
  have n3 : Scf.trips (k0_t3_loop t).lb (k0_t3_loop t).ub (k0_t3_loop t).st = 0 := rest_eq t
  rw [n3]
  exact S

theorem value_even {h : Head} {A : Args} {X : Ins Ideal A} (R : Reads A X h) (c : Dev nD) (i : grid0.Coords) (t : Fin k0_t1_loop.trips) (ho : ¬k0_cond1 t = 1#1) :
    ∃ i4 i5 p4 p5, (trip_even c i A X t ho).1.L4 = [⟨Rect.unit (s := S4224x128) (k0_off12 t) ![512, 128] i4, p4⟩] ∧
      (trip_even c i A X t ho).1.L5 = [⟨Rect.unit (s := S1x4224x128) (k0_off13 t) ![1, 512, 128] i5, p5⟩] ∧ Stored h t.val p4 p5 := by
  have ht : t.val < 8 := tiles_eq ▸ t.isLt
  have hp := mt (odd_iff t).2 ho
  have hq := load_q R t (k0_off1_inb t 0)
  have hq' := load_q' R t (k0_off1_inb t 1)
  have n2 : Scf.trips (k0_t2_loop t).lb (k0_t2_loop t).ub (k0_t2_loop t).st = t.val / 2 := pairs_eq t
  have S1 := pairs R.kv R.k hq hq' c i (trip_even.sl.arg10 t) (trip_even.sl.v75 t) (trip_even.sl.v87 t) (trip_even.sl.v86 t)
    (Scf.trips (k0_t2_loop t).lb (k0_t2_loop t).ub (k0_t2_loop t).st) n2.le (start A A.a7.view.junk A.a8.view.junk A.a9.view.junk)
  unfold State at S1
  rw [← View.writes_append, ← View.writes_append, ← View.writes_append] at S1
  have S1 := no_rest S1 c i t (trip_even.sl.arg10 t) (trip_even.sl.v75 t) (trip_even.sl.v87 t) (trip_even.sl.v96 t) (trip_even.sl.v86 t)
    (trip_even.sl.r A X t) (trip_even.sl.r_1 A X t) X.x2 X.x6
  have K0 := load_k R (n := 128) ![0, 0] inb_S4224x256_S128x256_0_0 rfl
  have V0 := load_v R (n := 128) ![0, 128] inb_S4224x256_S128x128_0_128 rfl
  have S2u := own_upper hq K0 (load_k R (n := 256) _ (k0_off8_inb t) (off8_eq t)) V0 (load_v R (n := 256) _ (k0_off9_inb t) (off9_eq t)) (upper S1)
  have S2l := own_lower hq' K0 (load_k R (n := 512) _ (k0_off10_inb t) (off10_eq t)) V0 (load_v R (n := 512) _ (k0_off11_inb t) (off11_eq t)) (lower S1 S2u)
  have e2 : 16 + 1024 * Scf.trips (k0_t2_loop t).lb (k0_t2_loop t).ub (k0_t2_loop t).st = 16 + 512 * t.val := by omega
  have S2 := both
    (c := fun r => h.cs 0 4112 (16 + 512 * t.val + r)) (y := fun r d => h.ys 0 4112 (16 + 512 * t.val + r) d) S1 S2u S2l
    (fun r hr => (own_end_cs h ht (Or.inl rfl) (by omega) (by rw [e2]; exact zero_add _)).trans (by rw [Nat.zero_add]))
    (fun r hr => own_end_cs h ht (Or.inr rfl) (by omega) (by rw [e2]; exact zero_add _))
    (fun r d hr hd => (own_end_ys h ht (Or.inl rfl) (by omega) (by rw [e2]; exact zero_add _)).trans (by rw [Nat.zero_add]))
    (fun r d hr hd => own_end_ys h ht (Or.inr rfl) (by omega) (by rw [e2]; exact zero_add _))
  have F := stored ht S2
  unfold trip_even
  dsimp only
  refine ⟨_, _, _, _, rfl, rfl, ?_⟩
  exact F

theorem value_odd {h : Head} {A : Args} {X : Ins Ideal A} (R : Reads A X h) (c : Dev nD) (i : grid0.Coords) (t : Fin k0_t1_loop.trips) (ho : k0_cond1 t = 1#1) :
    ∃ i4 i5 p4 p5, (trip_odd c i A X t ho).1.L4 = [⟨Rect.unit (s := S4224x128) (k0_off12 t) ![512, 128] i4, p4⟩] ∧
      (trip_odd c i A X t ho).1.L5 = [⟨Rect.unit (s := S1x4224x128) (k0_off13 t) ![1, 512, 128] i5, p5⟩] ∧ Stored h t.val p4 p5 := by
  have ht : t.val < 8 := tiles_eq ▸ t.isLt
  have hp := (odd_iff t).1 ho
  have hq := load_q R t (k0_off1_inb t 0)
  have hq' := load_q' R t (k0_off1_inb t 1)
  have n2 : Scf.trips (k0_t2_loop t).lb (k0_t2_loop t).ub (k0_t2_loop t).st = t.val / 2 := pairs_eq t
  have S1 := pairs R.kv R.k hq hq' c i (trip_odd.sl.arg10 t) (trip_odd.sl.v75 t) (trip_odd.sl.v87 t) (trip_odd.sl.v86 t)
    (Scf.trips (k0_t2_loop t).lb (k0_t2_loop t).ub (k0_t2_loop t).st) n2.le (start A A.a7.view.junk A.a8.view.junk A.a9.view.junk)
  unfold State at S1
  rw [← View.writes_append, ← View.writes_append, ← View.writes_append] at S1
  have S1 := no_rest S1 c i t (trip_odd.sl.arg10 t) (trip_odd.sl.v75 t) (trip_odd.sl.v87 t) (trip_odd.sl.v96 t) (trip_odd.sl.v86 t)
    (trip_odd.sl.r A X t) (trip_odd.sl.r_1 A X t) X.x2 X.x6
  have e2 : 16 + 1024 * Scf.trips (k0_t2_loop t).lb (k0_t2_loop t).ub (k0_t2_loop t).st = 16 + 512 * (t.val - 1) := by omega
  have e3 : 16 + 512 * (t.val - 1) + 512 = 16 + 512 * t.val := by omega
  have hb : 16 + 512 * (t.val - 1) + 512 ≤ 16 + 512 * t.val := by omega
  have K1 := load_k R (n := 512) _ (k0_off6_inb t ho) (off6_eq t ho)
  have V1 := load_v R (n := 512) _ (k0_off7_inb t ho) (off7_eq t ho)
  have Su := one_upper hq K1 V1 (upper S1)
  have Sl := one_lower hq' K1 V1 (lower S1 Su)
  have S1 := both (c := fun r => h.cs 16 (16 + 512 * t.val) (16 + 512 * t.val + r)) (y := fun r d => h.ys 16 (16 + 512 * t.val) (16 + 512 * t.val + r) d) S1 Su Sl
    (fun r hr => by rw [block_cs h hb, e2, e3, zero_add]; rw [Nat.zero_add, Nat.add_zero, h.cs_add (by omega) (by omega)])
    (fun r hr => by rw [block_cs h hb, e2, e3, zero_add]; rw [Nat.add_assoc (16 + 512 * t.val) 256 r, h.cs_add (by omega) (by omega)])
    (fun r d hr hd => by rw [block_ys h hb, e2, e3, zero_add]; rw [Nat.zero_add, Nat.add_zero, h.ys_add (by omega) (by omega)])
    (fun r d hr hd => by rw [block_ys h hb, e2, e3, zero_add]; rw [Nat.add_assoc (16 + 512 * t.val) 256 r, h.ys_add (by omega) (by omega)])
  have K0 := load_k R (n := 128) ![0, 0] inb_S4224x256_S128x256_0_0 rfl
  have V0 := load_v R (n := 128) ![0, 128] inb_S4224x256_S128x128_0_128 rfl
  have S2u := own_upper hq K0 (load_k R (n := 256) _ (k0_off8_inb t) (off8_eq t)) V0 (load_v R (n := 256) _ (k0_off9_inb t) (off9_eq t)) (upper S1)
  have S2l := own_lower hq' K0 (load_k R (n := 512) _ (k0_off10_inb t) (off10_eq t)) V0 (load_v R (n := 512) _ (k0_off11_inb t) (off11_eq t)) (lower S1 S2u)
  have S2 := both
    (c := fun r => h.cs 0 4112 (16 + 512 * t.val + r)) (y := fun r d => h.ys 0 4112 (16 + 512 * t.val + r) d) S1 S2u S2l
    (fun r hr => (own_end_cs h ht (Or.inl rfl) (by omega) rfl).trans (by rw [Nat.zero_add]))
    (fun r hr => own_end_cs h ht (Or.inr rfl) (by omega) rfl)
    (fun r d hr hd => (own_end_ys h ht (Or.inl rfl) (by omega) rfl).trans (by rw [Nat.zero_add]))
    (fun r d hr hd => own_end_ys h ht (Or.inr rfl) (by omega) rfl)
  have F := stored ht S2
  unfold trip_odd
  dsimp only
  refine ⟨_, _, _, _, rfl, rfl, ?_⟩
  exact F

end Cert.AttnFwdIdeal.Hand
-- ==== Proof.AttendMeta.lean ====
/- The forward attention's first sixteen rows, the prefix, which see themselves alone; the zeros behind the last row; the
   copy of the keys; over the reals. -/
module

public import proofs.«01_k».proof.Proof.AttendTrip

@[expose] public section

set_option maxRecDepth 16384
set_option maxHeartbeats 400000

noncomputable section

namespace Cert.AttnFwdIdeal.Hand

open Idealize.ShloMosaic Cert.AttnFwdIdeal Cert.AttnFwdIdeal.Gen Cert.Reals Cert.Attn Cert.Attend

section Rows
variable {q k v : ℕ → ℕ → ℝ} {Q K : Vec Ideal S128x256 .bf16} {V : Vec Ideal S128x128 .bf16}

theorem pay78_eq (hq : Holds Q q) (hk : Holds K k) (r j : Fin 128) :
    k0_pay78 Q K (ix2 r j) = if j.val < 16 then ((dot q k r j : ℝ) : EReal) else ⊥ := by
  pointwise [k0_pay78]
  simp only [hq _ _, hk _ _, mul_coe, sum_coe, ofBits_scale, named_mask]
  rw [slt16 ⟨j, by omega⟩, select_bool]
  rfl

/-- The exponents, -/
theorem pay80_eq (r j : Fin 128) : k0_pay80 Q K (ix2 r j) = k0_pay78 Q K (ix2 r j) - k0_pay79 Q K (ix2 r 0) := by
  generalize e : k0_pay79 Q K = M
  unfold k0_pay80
  rw [e]
  generalize k0_pay78 Q K = S
  pointwise []

/-- and the row's sums. -/
theorem first_row (hq : Holds Q q) (hk : Holds K k) (hv : Holds V v) (r : Fin 128) :
    Row (∑ j : Fin 128, if j.val < 16 then Real.exp (dot q k r j) else 0) (fun d => ∑ j : Fin 128, if j.val < 16 then Real.exp (dot q k r j) * v j d else 0)
      (k0_pay79 Q K (ix2 r 0)) (∑ j : Fin 128, Ideal.exp (k0_pay80 Q K (ix2 r j))) fun d => ∑ j : Fin 128, Ideal.exp (k0_pay80 Q K (ix2 r j)) * V (ix2 j d) := by
  have z : Row 0 (fun _ => 0) ⊥ 0 fun _ => 0 := Or.inl ⟨rfl, rfl, fun _ => rfl, rfl, fun _ => rfl⟩
  have hS := pay78_eq hq hk r
  refine (z.step (W := 128) (S := fun j => k0_pay78 Q K (ix2 r j)) (ok := fun j => j.val < 16) (fun j => dot q k r j) hS ⟨0, by norm_num⟩ (by norm_num)
    (fun j d => V (ix2 j d)) (fun j d => v j d) (fun j d => hv j d) (m' := k0_pay79 Q K (ix2 r 0)) ?_ ?_ fun d => ?_).congr (zero_add _) fun d => zero_add _
  · unfold k0_pay79
    generalize k0_pay78 Q K = S
    pointwise []
    rw [ofBits_neg_inf, max_eq_right bot_le]
  · simp only [pay80_eq, mul_zero, zero_add]
  · simp only [pay80_eq, mul_zero, zero_add]

/-- The prefix's averages, -/
theorem first_o (hq : Holds Q q) (hk : Holds K k) (hv : Holds V v) (r : Fin 16) (d : Fin 128)
    (hc : 0 < ∑ j : Fin 128, if j.val < 16 then Real.exp (dot q k r j) else 0) :
    k0_pay3 (k0_pay80 Q K) V (ix2 r d) = (((∑ j : Fin 128, if j.val < 16 then Real.exp (dot q k r j) * v j d else 0)
      / ∑ j : Fin 128, if j.val < 16 then Real.exp (dot q k r j) else 0 : ℝ) : EReal) := by
  have R := (first_row hq hk hv ⟨r, by omega⟩).quot hc d
  refine Eq.trans ?_ R
  generalize k0_pay80 Q K = E
  pointwise [k0_pay3, k0_pay2, k0_pay1]

/-- and the logarithms of its sums. -/
theorem first_l (hq : Holds Q q) (hk : Holds K k) (r : Fin 16) (d : Fin 128)
    (hc : 0 < ∑ j : Fin 128, if j.val < 16 then Real.exp (dot q k r j) else 0) :
    k0_pay4 (k0_pay79 Q K) (k0_pay80 Q K) (ix3 0 r d) = ((Real.log (∑ j : Fin 128, if j.val < 16 then Real.exp (dot q k r j) else 0) : ℝ) : EReal) := by
  have R := (first_row (V := fun _ => (0 : EReal)) (v := fun _ _ => 0) hq hk (fun _ _ => EReal.coe_zero.symm) ⟨r, by omega⟩).logsum hc
  refine Eq.trans ?_ R
  generalize k0_pay80 Q K = E
  generalize k0_pay79 Q K = M
  pointwise [k0_pay4, k0_pay2, k0_pay1]

end Rows

theorem pay74_holds {x : Vec Ideal S4224x128 .bf16} {f : ℕ → ℕ → ℝ} (hx : Holds x f) : Holds (k0_pay74 x) f := by
  intro r l; pointwise [k0_pay74]; exact hx r l

theorem pay75_holds {x : Vec Ideal S4224x128 .bf16} {f : ℕ → ℕ → ℝ} (hx : Holds x f) : Holds (k0_pay75 x) f := by
  intro r l; pointwise [k0_pay75]; exact hx r l

theorem pay76_eq (r : Fin 112) (l : Fin 128) : k0_pay76 (F := Ideal) (ix2 r l) = (0 : EReal) := by
  pointwise [k0_pay76]

theorem pay77_eq (r : Fin 112) (l : Fin 128) : k0_pay77 (F := Ideal) (ix3 0 r l) = (0 : EReal) := by
  pointwise [k0_pay77]

/-- The prefix's rows see the prefix. -/
theorem first_cs (h : Head) {t : ℕ} (ht : t < 16) (g : ℕ → ℝ) :
    (∑ j : Fin 128, if j.val < 16 then Real.exp (dot h.Q h.K t j) * g j else 0) = ∑ j ∈ Finset.Ico 0 4112, h.wt t j * g j := by
  have e : ∀ j, j < 16 → chunk j ≤ chunk t := fun j hj => by unfold chunk; rw [if_pos hj]; exact Nat.zero_le _
  have e' : ∀ j, 16 ≤ j → ¬chunk j ≤ chunk t := fun j hj => by unfold chunk; rw [if_neg (by omega), if_pos ht]; omega
  rw [← Finset.sum_range fun j => if j < 16 then Real.exp (dot h.Q h.K t j) * g j else 0, Finset.range_eq_Ico,
    ← Finset.sum_Ico_consecutive _ (show 0 ≤ 16 by omega) (show 16 ≤ 128 by omega), ← Finset.sum_Ico_consecutive _ (show 0 ≤ 16 by omega) (show 16 ≤ 4112 by omega)]
  refine congrArg₂ (· + ·) (Finset.sum_congr rfl fun j hj => ?_) ((Finset.sum_eq_zero fun j hj => ?_).trans (Finset.sum_eq_zero fun j hj => ?_).symm)
  · have := Finset.mem_Ico.1 hj
    rw [if_pos this.2, Head.wt, if_pos (e j this.2)]; rfl
  · have := Finset.mem_Ico.1 hj
    exact if_neg (by omega)
  · have := Finset.mem_Ico.1 hj
    rw [Head.wt, if_neg (e' j this.1), zero_mul]

end Cert.AttnFwdIdeal.Hand
-- ==== Proof.AttendHead.lean ====
/- One head of the forward attention over the reals: the copy of the keys, the prefix's rows, the loop over the tiles of query
   rows, the zeros behind the last row. -/
module

public import proofs.«01_k».proof.Proof.AttendTile
public import proofs.«01_k».proof.Proof.AttendMeta
public import proofs.«01_k».proof.Proof.AttendFrame

@[expose] public section

set_option maxRecDepth 16384
set_option maxHeartbeats 400000

noncomputable section

namespace Cert.AttnFwdIdeal.Hand

open Idealize.ShloMosaic Idealize.ShloMosaic.TcCoe Cert.AttnFwdIdeal Cert.AttnFwdIdeal.Gen Cert.Reals Cert.Attn Cert.Attend

/-! ## What stores of whole rows leave -/

section Canon
variable {a b n : ℕ} {e : EltTy}

/-- Inside the last store's rows, its payload; -/
theorem canon_in (L : List (View.Piece (Elt Ideal) ⟨2, ![a, b]⟩ e)) (off : Fin 2 → ℕ) (inb) (p : (⟨2, ![n, b]⟩ : Shape).Idx → Elt Ideal e) (h1 : off 1 = 0)
    (r : Fin a) (l : Fin b) (hr : off 0 ≤ r.val) (hn : r.val < off 0 + n) :
    (View.canon (⟨Rect.unit (s := ⟨2, ![a, b]⟩) off ![n, b] inb, p⟩ :: L) : (⟨2, ![a, b]⟩ : Shape).Idx → Elt Ideal e) (ix2 r l) = p (ix2 ⟨r.val - off 0, by omega⟩ l) := by
  have w : (Rect.unit (s := ⟨2, ![a, b]⟩) off ![n, b] inb).emb (ix2 (⟨r.val - off 0, by omega⟩ : Fin n) l) = ix2 r l := by
    funext c
    apply Fin.ext
    match c with
    | ⟨0, _⟩ => show off 0 + 1 * (r.val - off 0) = r.val; omega
    | ⟨1, _⟩ => show off 1 + 1 * l.val = l.val; omega
  rw [← w]
  exact View.canon_cons_emb (Rect.unit (s := ⟨2, ![a, b]⟩) off ![n, b] inb) p L (ix2 (⟨r.val - off 0, by omega⟩ : Fin n) l)

/-- outside, what the earlier ones left. -/
theorem canon_out (L : List (View.Piece (Elt Ideal) ⟨2, ![a, b]⟩ e)) (off : Fin 2 → ℕ) (inb) (p : (⟨2, ![n, b]⟩ : Shape).Idx → Elt Ideal e)
    (r : Fin a) (l : Fin b) (hc : ¬(off 0 ≤ r.val ∧ r.val < off 0 + n)) :
    (View.canon (⟨Rect.unit (s := ⟨2, ![a, b]⟩) off ![n, b] inb, p⟩ :: L) : (⟨2, ![a, b]⟩ : Shape).Idx → Elt Ideal e) (ix2 r l)
      = (View.canon L : (⟨2, ![a, b]⟩ : Shape).Idx → Elt Ideal e) (ix2 r l) := by
  refine View.canon_cons_of_not_mem (Val := Elt Ideal) ⟨Rect.unit (s := ⟨2, ![a, b]⟩) off ![n, b] inb, p⟩ L ?_
  show ix2 r l ∉ (Rect.unit (s := ⟨2, ![a, b]⟩) off ![n, b] inb).set
  rw [Rect.mem_set_unit]
  exact fun hm => hc (hm 0)

/-- The same with a leading axis of one. -/
theorem canon3_in (L : List (View.Piece (Elt Ideal) ⟨3, ![1, a, b]⟩ e)) (off : Fin 3 → ℕ) (inb) (p : (⟨3, ![1, n, b]⟩ : Shape).Idx → Elt Ideal e) (h0 : off 0 = 0) (h2 : off 2 = 0)
    (r : Fin a) (l : Fin b) (hr : off 1 ≤ r.val) (hn : r.val < off 1 + n) :
    (View.canon (⟨Rect.unit (s := ⟨3, ![1, a, b]⟩) off ![1, n, b] inb, p⟩ :: L) : (⟨3, ![1, a, b]⟩ : Shape).Idx → Elt Ideal e) (ix3 0 r l) = p (ix3 0 ⟨r.val - off 1, by omega⟩ l) := by
  have w : (Rect.unit (s := ⟨3, ![1, a, b]⟩) off ![1, n, b] inb).emb (ix3 (0 : Fin 1) (⟨r.val - off 1, by omega⟩ : Fin n) l) = ix3 0 r l := by
    funext c
    apply Fin.ext
    match c with
    | ⟨0, _⟩ => show off 0 + 1 * 0 = 0; omega
    | ⟨1, _⟩ => show off 1 + 1 * (r.val - off 1) = r.val; omega
    | ⟨2, _⟩ => show off 2 + 1 * l.val = l.val; omega
  rw [← w]
  exact View.canon_cons_emb (Rect.unit (s := ⟨3, ![1, a, b]⟩) off ![1, n, b] inb) p L (ix3 (0 : Fin 1) (⟨r.val - off 1, by omega⟩ : Fin n) l)

theorem canon3_out (L : List (View.Piece (Elt Ideal) ⟨3, ![1, a, b]⟩ e)) (off : Fin 3 → ℕ) (inb) (p : (⟨3, ![1, n, b]⟩ : Shape).Idx → Elt Ideal e)
    (r : Fin a) (l : Fin b) (hc : ¬(off 1 ≤ r.val ∧ r.val < off 1 + n)) :
    (View.canon (⟨Rect.unit (s := ⟨3, ![1, a, b]⟩) off ![1, n, b] inb, p⟩ :: L) : (⟨3, ![1, a, b]⟩ : Shape).Idx → Elt Ideal e) (ix3 0 r l)
      = (View.canon L : (⟨3, ![1, a, b]⟩ : Shape).Idx → Elt Ideal e) (ix3 0 r l) := by
  refine View.canon_cons_of_not_mem (Val := Elt Ideal) ⟨Rect.unit (s := ⟨3, ![1, a, b]⟩) off ![1, n, b] inb, p⟩ L ?_
  show ix3 0 r l ∉ (Rect.unit (s := ⟨3, ![1, a, b]⟩) off ![1, n, b] inb).set
  rw [Rect.mem_set_unit]
  exact fun hm => hc (hm 1)

end Canon

/-! ## The loop over the tiles -/

theorem value_trip {h : Head} {A : Args} {X : Ins Ideal A} (R : Reads A X h) (c : Dev nD) (i : grid0.Coords) (t : Fin k0_t1_loop.trips) :
    ∃ i4 i5 p4 p5, (tripL c i A X t).L4 = [⟨Rect.unit (s := S4224x128) (k0_off12 t) ![512, 128] i4, p4⟩] ∧
      (tripL c i A X t).L5 = [⟨Rect.unit (s := S1x4224x128) (k0_off13 t) ![1, 512, 128] i5, p5⟩] ∧ Stored h t.val p4 p5 := by
  unfold tripL
  split
  · next e => exact value_odd R c i t e
  · next e => exact value_even R c i t e

section Loop
variable {h : Head} {A : Args} {X : Ins Ideal A} (R : Reads A X h) (c : Dev nD) (i : grid0.Coords)
include R

theorem tiles4 (L : List (View.Piece (Elt Ideal) S4224x128 .bf16)) (r : Fin 4224) (d : Fin 128) : ∀ n, n ≤ 8 →
    (View.canon (done4 c i A X n ++ L) : Vec Ideal S4224x128 .bf16) (ix2 r d)
      = if 16 ≤ r.val ∧ r.val < 16 + 512 * n then ((h.ys 0 4112 r d / h.cs 0 4112 r : ℝ) : EReal) else (View.canon L : Vec Ideal S4224x128 .bf16) (ix2 r d)
  | 0, _ => by rw [if_neg (by omega)]; rfl
  | n + 1, hn => by
    have ih := tiles4 L r d n (by omega)
    have ht : n < k0_t1_loop.trips := by rw [trips_eight]; omega
    rw [done4_succ c i A X ⟨n, ht⟩]
    obtain ⟨i4, i5, p4, p5, e4, e5, S⟩ := value_trip R c i ⟨n, ht⟩
    have eo := off12_row ⟨n, ht⟩
    have e0 : k0_off12 ⟨n, ht⟩ 0 = 16 + 512 * n := by rw [eo]; rfl
    have e1 : k0_off12 ⟨n, ht⟩ 1 = 0 := by rw [eo]; rfl
    rw [e4]
    show (View.canon (_ :: (done4 c i A X n ++ L)) : Vec Ideal S4224x128 .bf16) (ix2 r d) = _
    by_cases hr : 16 + 512 * n ≤ r.val ∧ r.val < 16 + 512 * n + 512
    · refine (canon_in (n := 512) _ _ i4 p4 e1 r d (by rw [e0]; exact hr.1) (by rw [e0]; exact hr.2)).trans ?_
      rw [if_pos (by omega)]
      refine (S.o _ d).trans ?_
      show ((h.ys 0 4112 (16 + 512 * n + (r.val - k0_off12 ⟨n, ht⟩ 0)) d / h.cs 0 4112 (16 + 512 * n + (r.val - k0_off12 ⟨n, ht⟩ 0)) : ℝ) : EReal) = _
      rw [e0, Nat.add_sub_cancel' hr.1]
    · refine (canon_out (n := 512) _ _ i4 p4 r d (by rw [e0]; exact hr)).trans (ih.trans ?_)
      exact if_congr (by omega) rfl rfl

theorem tiles5 (L : List (View.Piece (Elt Ideal) S1x4224x128 .f32)) (r : Fin 4224) (d : Fin 128) : ∀ n, n ≤ 8 →
    (View.canon (done5 c i A X n ++ L) : Vec Ideal S1x4224x128 .f32) (ix3 0 r d)
      = if 16 ≤ r.val ∧ r.val < 16 + 512 * n then ((Real.log (h.cs 0 4112 r) : ℝ) : EReal) else (View.canon L : Vec Ideal S1x4224x128 .f32) (ix3 0 r d)
  | 0, _ => by rw [if_neg (by omega)]; rfl
  | n + 1, hn => by
    have ih := tiles5 L r d n (by omega)
    have ht : n < k0_t1_loop.trips := by rw [trips_eight]; omega
    rw [done5_succ c i A X ⟨n, ht⟩]
    obtain ⟨i4, i5, p4, p5, e4, e5, S⟩ := value_trip R c i ⟨n, ht⟩
    have eo := off13_row ⟨n, ht⟩
    have e0 : k0_off13 ⟨n, ht⟩ 1 = 16 + 512 * n := by rw [eo]; rfl
    have e1 : k0_off13 ⟨n, ht⟩ 0 = 0 := by rw [eo]; rfl
    have e2 : k0_off13 ⟨n, ht⟩ 2 = 0 := by rw [eo]; rfl
    rw [e5]
    show (View.canon (_ :: (done5 c i A X n ++ L)) : Vec Ideal S1x4224x128 .f32) (ix3 0 r d) = _
    by_cases hr : 16 + 512 * n ≤ r.val ∧ r.val < 16 + 512 * n + 512
    · refine (canon3_in (n := 512) _ _ i5 p5 e1 e2 r d (by rw [e0]; exact hr.1) (by rw [e0]; exact hr.2)).trans ?_
      rw [if_pos (by omega)]
      refine (S.l _ d).trans ?_
      show ((Real.log (h.cs 0 4112 (16 + 512 * n + (r.val - k0_off13 ⟨n, ht⟩ 1))) : ℝ) : EReal) = _
      rw [e0, Nat.add_sub_cancel' hr.1]
    · refine (canon3_out (n := 512) _ _ i5 p5 r d (by rw [e0]; exact hr)).trans (ih.trans ?_)
      exact if_congr (by omega) rfl rfl

end Loop

/-! ## The whole body -/

/-- What the blocks hold of a head. -/
structure BlockReads (X : Blocks Ideal) (h : Head) (KR : ℕ → ℕ → ℝ) : Prop where
  q : Holds (a := 4224) (b := 256) X.x1 h.Q
  kv : Holds (a := 4224) (b := 256) X.x2 h.KV
  kr : Holds (a := 4224) (b := 128) X.x3 KR
  k : h.K = fun j d => if d < 128 then h.KV j d else KR j (d - 128)

/-- The copy of the keys. -/
theorem keys_holds {X : Blocks Ideal} {h : Head} {KR : ℕ → ℕ → ℝ} (B : BlockReads X h KR) (c : Dev nD) (A : Args) :
    Holds (a := 4224) (b := 256) (A.a6.view.read (Elt Ideal) (A.a6.view.writes (Elt Ideal) A.a6.view.junk (bodyRun.sl.H6_2 c A X))) h.K := by
  have hr : Holds (A.a3.view.readAt (Elt Ideal) (Rect.unit (s := S4224x128) ![0, 0] ![4224, 128] inb_S4224x128_S4224x128_0_0).toLoadRect (A.h3.unread X.x3)) KR := by
    refine (Holds.load16 (g := KR) ?_ ![0, 0] inb_S4224x128_S4224x128_0_0).congr fun r l _ _ => ?_
    · rw [A.h3.read_unread]; exact B.kr
    · show KR (0 + r) (0 + l) = _; rw [Nat.zero_add, Nat.zero_add]
  have hk : Holds (A.a2.view.readAt (Elt Ideal) (Rect.unit (s := S4224x256) ![0, 0] ![4224, 128] inb_S4224x256_S4224x128_0_0).toLoadRect (A.h2.unread X.x2)) h.KV := by
    refine (Holds.load16 (g := h.KV) ?_ ![0, 0] inb_S4224x256_S4224x128_0_0).congr fun r l _ _ => ?_
    · rw [A.h2.read_unread]; exact B.kv
    · show h.KV (0 + r) (0 + l) = _; rw [Nat.zero_add, Nat.zero_add]
  unfold bodyRun.sl.H6_2
  refine (Holds.bands ![0, 0] ![0, 128] inb_S4224x256_S4224x128_0_0 inb_S4224x256_S4224x128_0_128 (pay74_holds hk) (pay75_holds hr) rfl rfl rfl rfl rfl).congr
    fun r l _ _ => ?_
  rw [B.k]

/-- What the loop reads. -/
abbrev insOf (c : Dev nD) (A : Args) (X : Blocks Ideal) : Ins Ideal A :=
  { x1 := A.h1.unread X.x1, x2 := A.h2.unread X.x2, x6 := A.a6.view.writes (Elt Ideal) A.a6.view.junk (bodyRun.sl.H6_2 c A X) }

theorem reads_of {X : Blocks Ideal} {h : Head} {KR : ℕ → ℕ → ℝ} (B : BlockReads X h KR) (c : Dev nD) (A : Args) :
    Reads A (insOf c A X) h := by
  refine ⟨?_, ?_, ?_⟩
  · show Holds (a := 4224) (b := 256) (A.a1.view.read (Elt Ideal) (A.h1.unread X.x1)) h.Q
    rw [A.h1.read_unread]; exact B.q
  · show Holds (a := 4224) (b := 256) (A.a2.view.read (Elt Ideal) (A.h2.unread X.x2)) h.KV
    rw [A.h2.read_unread]; exact B.kv
  · dsimp only [insOf]
    have e := keys_holds B c A
    revert e
    generalize A.a6.view.writes (Elt Ideal) A.a6.view.junk (bodyRun.sl.H6_2 c A X) = z
    exact fun e => e

section Prefix
variable {X : Blocks Ideal} {h : Head} {KR : ℕ → ℕ → ℝ} (B : BlockReads X h KR) (c : Dev nD) (A : Args)
include B c A

theorem first_q : Holds (A.a1.view.readAt (Elt Ideal) (Rect.unit (s := S4224x256) ![0, 0] ![128, 256] inb_S4224x256_S128x256_0_0).toLoadRect (A.h1.unread X.x1)) h.Q := by
  refine ((reads_of B c A).q.load16 ![0, 0] inb_S4224x256_S128x256_0_0).congr fun r l _ _ => ?_
  show h.Q (0 + r) (0 + l) = _; rw [Nat.zero_add, Nat.zero_add]

theorem first_k : Holds (bodyRun.sl.v21 c A X) h.K := by
  unfold bodyRun.sl.v21
  refine ((keys_holds B c A).load16 ![0, 0] inb_S4224x256_S128x256_0_0).congr fun r l _ _ => ?_
  show h.K (0 + r) (0 + l) = _; rw [Nat.zero_add, Nat.zero_add]

theorem first_v : Holds (A.a2.view.readAt (Elt Ideal) (Rect.unit (s := S4224x256) ![0, 128] ![128, 128] inb_S4224x256_S128x128_0_128).toLoadRect (A.h2.unread X.x2))
    fun j d => h.KV j (128 + d) := by
  refine ((reads_of B c A).kv.load16 ![0, 128] inb_S4224x256_S128x128_0_128).congr fun r l _ _ => ?_
  show h.KV (0 + r) _ = _; rw [Nat.zero_add]; rfl

theorem prefix_cs {t : ℕ} (ht : t < 16) : (∑ j : Fin 128, if j.val < 16 then Real.exp (dot h.Q h.K t j) else 0) = h.cs 0 4112 t := by
  have e := first_cs h ht fun _ => 1
  simp only [mul_one] at e
  exact e

theorem prefix_o (r : Fin 16) (d : Fin 128) : k0_pay3 (bodyRun.sl.r_1 c A X)
      (A.a2.view.readAt (Elt Ideal) (Rect.unit (s := S4224x256) ![0, 128] ![128, 128] inb_S4224x256_S128x128_0_128).toLoadRect (A.h2.unread X.x2)) (ix2 r d)
    = ((h.ys 0 4112 r d / h.cs 0 4112 r : ℝ) : EReal) := by
  have e := prefix_cs B c A r.isLt
  refine (first_o (first_q B c A) (first_k B c A) (first_v B c A) r d (by rw [e]; exact cs_pos h r (by omega))).trans ?_
  rw [e]
  exact congrArg (fun z : ℝ => ((z / h.cs 0 4112 r : ℝ) : EReal)) (first_cs h r.isLt fun j => h.KV j (128 + d))

theorem prefix_l (r : Fin 16) (d : Fin 128) : k0_pay4 (bodyRun.sl.r c A X) (bodyRun.sl.r_1 c A X) (ix3 0 r d) = ((Real.log (h.cs 0 4112 r) : ℝ) : EReal) := by
  have e := prefix_cs B c A r.isLt
  refine (first_l (first_q B c A) (first_k B c A) r d (by rw [e]; exact cs_pos h r (by omega))).trans ?_
  rw [e]

end Prefix

theorem all_trips : Scf.trips (0#32) (Scalar.addi 0#32 8#32) 1#32 = 8 := by decide +kernel

section Head
variable {X : Blocks Ideal} {h : Head} {KR : ℕ → ℕ → ℝ} (B : BlockReads X h KR) (c : Dev nD) (i : grid0.Coords) (A : Args)
include B

/-- The head's averages, -/
theorem head_o (r : Fin 4224) (d : Fin 128) : (View.canon (bodyRun c i A X).1.L4 : Vec Ideal S4224x128 .bf16) (ix2 r d)
    = if r.val < 4112 then ((h.ys 0 4112 r d / h.cs 0 4112 r : ℝ) : EReal) else 0 := by
  unfold bodyRun
  dsimp only
  rw [all_trips]
  refine (tiles4 (reads_of B c A) c i _ r d 8 le_rfl).trans ?_
  by_cases hm : 16 ≤ r.val ∧ r.val < 16 + 512 * 8
  · rw [if_pos hm, if_pos (by omega)]
  rw [if_neg hm]
  by_cases hr : r.val < 16
  · rw [if_pos (by omega)]
    exact (canon_in (n := 16) _ ![0, 0] inb_S4224x128_S16x128_0_0 _ rfl r d (Nat.zero_le _) (by show r.val < 0 + 16; omega)).trans (prefix_o B c A ⟨r, hr⟩ d)
  · rw [if_neg (by omega)]
    refine (canon_out (n := 16) _ ![0, 0] inb_S4224x128_S16x128_0_0 _ r d (by show ¬(0 ≤ r.val ∧ r.val < 0 + 16); omega)).trans ?_
    exact (canon_in (n := 112) _ ![4112, 0] inb_S4224x128_S112x128_4112_0 _ rfl r d (by show 4112 ≤ r.val; omega) (by show r.val < 4112 + 112; omega)).trans (pay76_eq _ _)

/-- and the logarithms of its sums. -/
theorem head_l (r : Fin 4224) (d : Fin 128) : (View.canon (bodyRun c i A X).1.L5 : Vec Ideal S1x4224x128 .f32) (ix3 0 r d)
    = if r.val < 4112 then ((Real.log (h.cs 0 4112 r) : ℝ) : EReal) else 0 := by
  unfold bodyRun
  dsimp only
  rw [all_trips]
  refine (tiles5 (reads_of B c A) c i _ r d 8 le_rfl).trans ?_
  by_cases hm : 16 ≤ r.val ∧ r.val < 16 + 512 * 8
  · rw [if_pos hm, if_pos (by omega)]
  rw [if_neg hm]
  by_cases hr : r.val < 16
  · rw [if_pos (by omega)]
    exact (canon3_in (n := 16) _ ![0, 0, 0] inb_S1x4224x128_S1x16x128_0_0_0 _ rfl rfl r d (Nat.zero_le _) (by show r.val < 0 + 16; omega)).trans (prefix_l B c A ⟨r, hr⟩ d)
  · rw [if_neg (by omega)]
    refine (canon3_out (n := 16) _ ![0, 0, 0] inb_S1x4224x128_S1x16x128_0_0_0 _ r d (by show ¬(0 ≤ r.val ∧ r.val < 0 + 16); omega)).trans ?_
    exact (canon3_in (n := 112) _ ![0, 4112, 0] inb_S1x4224x128_S1x112x128_0_4112_0 _ rfl rfl r d (by show 4112 ≤ r.val; omega) (by show r.val < 4112 + 112; omega)).trans (pay77_eq _ _)

end Head

end Cert.AttnFwdIdeal.Hand
-- ==== Proof.AttendFinal.lean ====
/- The forward attention's result arrays as real formulas. -/
module

public import proofs.«01_k».proof.Proof.AttendIn
public import proofs.«01_k».proof.Proof.Tile
public import proofs.«01_k».proof.Proof.AttendHead
public import Idealize.ShloMosaic.Lib.Pipeline.Value

@[expose] public section

set_option maxHeartbeats 400000

noncomputable section

namespace Cert.AttnFwdIdeal.Hand

open Idealize.ShloMosaic Idealize.ShloMosaic.TcCoe Idealize.SL.Sem Cert.AttnFwdIdeal Cert.AttnFwdIdeal.Gen Cert.Reals Cert.Attn Cert.Tile
open Idealize.ShloMosaic.Pipeline (Dat)

theorem idx : ∀ t : Fin cfg0.N, (win0_0.index t 0 = 0 ∧ win0_0.index t 1 = t.val) ∧ (win0_1.index t 0 = 0 ∧ win0_1.index t 1 = t.val)
    ∧ (win0_2.index t 0 = 0 ∧ win0_2.index t 1 = 0) ∧ (win0_3.index t 0 = 0 ∧ win0_3.index t 1 = t.val)
    ∧ (win0_4.index t 0 = t.val ∧ win0_4.index t 1 = 0 ∧ win0_4.index t 2 = 0) := by
  decide +kernel

variable {m : Mem} {c : Dev nD} (fin : Fin5 m c)
include fin

theorem blk0 (t : Fin cfg0.N) : Holds (iblk m c 0 t : Vec Ideal S4224x256 .bf16) ((ins m c).head t.val).Q := fun r l => by
  have ht : t.val < 16 := lt_of_lt_of_eq t.isLt N_0
  have h := in_q fin r ⟨256 * t.val + l.val, by omega⟩
  rw [show (256 * t.val + l.val) / 256 = t.val by omega, show (256 * t.val + l.val) % 256 = l.val by omega] at h
  exact (tile2 (Val := Elt Ideal) (e := .bf16) (V m c main_v20) _ (idx t).1 r l r ⟨256 * t.val + l.val, by omega⟩ (by omega) (congrArg (· + l.val) (Nat.mul_comm _ _))).trans h

theorem blk1 (t : Fin cfg0.N) : Holds (iblk m c 1 t : Vec Ideal S4224x256 .bf16) ((ins m c).head t.val).KV := fun r l => by
  have ht : t.val < 16 := lt_of_lt_of_eq t.isLt N_0
  have h := in_kv fin r ⟨256 * t.val + l.val, by omega⟩
  rw [show (256 * t.val + l.val) / 256 = t.val by omega, show (256 * t.val + l.val) % 256 = l.val by omega] at h
  exact (tile2 (Val := Elt Ideal) (e := .bf16) (V m c main_v23) _ (idx t).2.1 r l r ⟨256 * t.val + l.val, by omega⟩ (by omega) (congrArg (· + l.val) (Nat.mul_comm _ _))).trans h

theorem blk2 (t : Fin cfg0.N) : Holds (iblk m c 2 t : Vec Ideal S4224x128 .bf16) (at2 (argKR m c)) := fun r l =>
  (tile2 (Val := Elt Ideal) (e := .bf16) (V m c main_v25) _ (idx t).2.2.1 r l r l (by omega) (by omega)).trans (in_kr fin r l)

theorem block_reads (t : Fin cfg0.N) : BlockReads (blocksAt m c t) ((ins m c).head t.val) (at2 (argKR m c)) :=
  ⟨blk0 fin t, blk1 fin t, blk2 fin t, rfl⟩

omit fin

/-- The output, -/
def resO (m : Mem) (c : Dev nD) : S4224x2048.Idx → EReal := fun i =>
  if (i 0).val < 4112 then (((ins m c).out ((i 1).val / 128) (i 0).val ((i 1).val % 128) : ℝ) : EReal) else 0

/-- and the logarithm of the sum of exponentials. -/
def resL (m : Mem) (c : Dev nD) : S16x4224x128.Idx → EReal := fun i =>
  if (i 1).val < 4112 then (((ins m c).top (i 0).val (i 1).val + Real.log ((ins m c).den (i 0).val (i 1).val) : ℝ) : EReal) else 0

theorem ins_narrow (m : Mem) (c : Dev nD) : (ins m c).Narrow := narrow _ _ _ _ _ _

include fin

theorem flushed3 (t : Fin cfg0.N) : (dats m 0 c).flushed 3 t = ((cfg0.win 3).blk t).view.read (Elt Ideal) (resO m c) := by
  have e : (dats m 0 c).flushed 3 t = (cfg0.win 3).cut (grid0.coords t) (View.canon (outsAt m c t).L4) := by
    show (cfg0.win 3).cut (grid0.coords t) ((dats m 0 c).after 3 t) = _
    rw [after0_3]
  rw [e]
  funext j
  obtain ⟨r, l, rfl⟩ : ∃ (r : Fin 4224) (l : Fin 128), j = ix2 r l := ⟨j 0, j 1, by funext a; fin_cases a <;> rfl⟩
  rw [View.read_apply]
  refine (head_o (block_reads fin t) c (grid0.coords t) (argsAt t) r l).trans ?_
  unfold resO
  have h0 : (((cfg0.win 3).blk t).view.emb (ix2 r l) 0).val = r.val := by
    show win0_3.index t 0 * 4224 + 1 * r.val = r.val
    rw [(idx t).2.2.2.1.1]; omega
  have h1 : (((cfg0.win 3).blk t).view.emb (ix2 r l) 1).val = 128 * t.val + l.val := by
    show win0_3.index t 1 * 128 + 1 * l.val = 128 * t.val + l.val
    rw [(idx t).2.2.2.1.2]; omega
  rw [h0, h1, show (128 * t.val + l.val) / 128 = t.val by omega, show (128 * t.val + l.val) % 128 = l.val by omega]
  by_cases hr : r.val < 4112
  · rw [if_pos hr, if_pos hr, Inputs.out_eq _ (ins_narrow m c) hr]; rfl
  · rw [if_neg hr, if_neg hr]; rfl

theorem final3 : (dats m 0 c).arrAt 3 cfg0.N = resO m c :=
  (dats m 0 c).arrAt_eq_of_cover 3 (resO m c) (fun t _ => flushed3 fin t) fun i => by
    have h0 : (i 0 : Nat) < 4224 := (i 0).isLt
    have h1 : (i 1 : Nat) < 2048 := (i 1).isLt
    refine ⟨⟨(i 1 : Nat) / 128, lt_of_lt_of_eq (by omega) N_0.symm⟩, flush0_3 _, ?_⟩
    generalize hq : (⟨(i 1 : Nat) / 128, _⟩ : Fin cfg0.N) = q
    have hq' : q.val = (i 1 : Nat) / 128 := by rw [← hq]
    show i ∈ ((View.whole main_v26_0).slice (win0_3.rect q)).set
    rw [View.set_slice_whole, Rect.mem_set_unit]
    intro a
    match a with
    | ⟨0, _⟩ => show win0_3.index q 0 * 4224 ≤ (i 0 : Nat) ∧ (i 0 : Nat) < win0_3.index q 0 * 4224 + 4224; rw [(idx q).2.2.2.1.1]; omega
    | ⟨1, _⟩ => show win0_3.index q 1 * 128 ≤ (i 1 : Nat) ∧ (i 1 : Nat) < win0_3.index q 1 * 128 + 128; rw [(idx q).2.2.2.1.2]; omega

theorem flushed4 (t : Fin cfg0.N) : (dats m 0 c).flushed 4 t = ((cfg0.win 4).blk t).view.read (Elt Ideal) (resL m c) := by
  have e : (dats m 0 c).flushed 4 t = (cfg0.win 4).cut (grid0.coords t) (View.canon (outsAt m c t).L5) := by
    show (cfg0.win 4).cut (grid0.coords t) ((dats m 0 c).after 4 t) = _
    rw [after0_4]
  rw [e]
  funext j
  obtain ⟨h, r, l, rfl⟩ : ∃ (h : Fin 1) (r : Fin 4224) (l : Fin 128), j = ix3 h r l := ⟨j 0, j 1, j 2, by funext a; fin_cases a <;> rfl⟩
  obtain rfl : h = 0 := Subsingleton.elim _ _
  rw [View.read_apply]
  refine (head_l (block_reads fin t) c (grid0.coords t) (argsAt t) r l).trans ?_
  unfold resL
  have h0 : (((cfg0.win 4).blk t).view.emb (ix3 0 r l) 0).val = t.val := by
    show win0_4.index t 0 * 1 + 1 * 0 = t.val
    rw [(idx t).2.2.2.2.1]; omega
  have h1 : (((cfg0.win 4).blk t).view.emb (ix3 0 r l) 1).val = r.val := by
    show win0_4.index t 1 * 4224 + 1 * r.val = r.val
    rw [(idx t).2.2.2.2.2.1]; omega
  rw [h0, h1]
  by_cases hr : r.val < 4112
  · rw [if_pos hr, if_pos hr, Inputs.log_eq _ (ins_narrow m c) hr]; rfl
  · rw [if_neg hr, if_neg hr]; rfl

theorem final4 : (dats m 0 c).arrAt 4 cfg0.N = resL m c :=
  (dats m 0 c).arrAt_eq_of_cover 4 (resL m c) (fun t _ => flushed4 fin t) fun i => by
    have h0 : (i 0 : Nat) < 16 := (i 0).isLt
    have h1 : (i 1 : Nat) < 4224 := (i 1).isLt
    have h2 : (i 2 : Nat) < 128 := (i 2).isLt
    refine ⟨⟨(i 0 : Nat), lt_of_lt_of_eq (by omega) N_0.symm⟩, flush0_4 _, ?_⟩
    generalize hq : (⟨(i 0 : Nat), _⟩ : Fin cfg0.N) = q
    have hq' : q.val = (i 0 : Nat) := by rw [← hq]
    show i ∈ ((View.whole main_v26_1).slice (win0_4.rect q)).set
    rw [View.set_slice_whole, Rect.mem_set_unit]
    intro a
    match a with
    | ⟨0, _⟩ => show win0_4.index q 0 * 1 ≤ (i 0 : Nat) ∧ (i 0 : Nat) < win0_4.index q 0 * 1 + 1; rw [(idx q).2.2.2.2.1]; omega
    | ⟨1, _⟩ => show win0_4.index q 1 * 4224 ≤ (i 1 : Nat) ∧ (i 1 : Nat) < win0_4.index q 1 * 4224 + 4224; rw [(idx q).2.2.2.2.2.1]; omega
    | ⟨2, _⟩ => show win0_4.index q 2 * 128 ≤ (i 2 : Nat) ∧ (i 2 : Nat) < win0_4.index q 2 * 128 + 128; rw [(idx q).2.2.2.2.2.2]; omega

end Cert.AttnFwdIdeal.Hand
-- ==== Proof.AttendClaim.lean ====
/- The claims about the forward attention, assembled. -/
module

public import proofs.«01_k».proof.Defs
public import proofs.«01_k».proof.Proof.AttendFrameF
public import proofs.«01_k».proof.Proof.AttendFinal
public import Idealize.ShloMosaic.Lib.Quiescent

@[expose] public section

noncomputable section

namespace Cert.Attend

open Idealize.ShloMosaic Idealize.SL.Sem Cert.Reals
open Cert.AttnFwdIdeal.Hand

/-- The precondition says that every argument is finite. -/
theorem fin5 [Cert.Pre_finite_attend.Facts] {m : Mem} (h : Cert.Pre_AttnFwdIdeal_finite_attend m) (c : Dev Cert.AttnFwdIdeal.nD) : Fin5 m c := by
  haveI : Subsingleton Cert.Pre_finite_attend.S_.Idx := ⟨fun a b => funext fun i => i.elim0⟩
  have e := congrFun (h c) (fun i => i.elim0)
  dsimp only [Cert.Pre_finite_attend.fn, Cert.Pre_finite_attend.fn_part1] at e
  obtain ⟨e, e5⟩ := andi_one _ _ _ e
  obtain ⟨e, e4⟩ := andi_one _ _ _ e
  obtain ⟨e, e3⟩ := andi_one _ _ _ e
  obtain ⟨e1, e2⟩ := andi_one _ _ _ e
  exact ⟨fun i => finite_of_cmpf (Host.reduce_andi_all _ _ _ _ _ e1 i), fun i => finite_of_cmpf (Host.reduce_andi_all _ _ _ _ _ e2 i),
    fun i => finite_of_cmpf (Host.reduce_andi_all _ _ _ _ _ e3 i), fun i => finite_of_cmpf (Host.reduce_andi_all _ _ _ _ _ e4 i),
    fun i => finite_of_cmpf (Host.reduce_andi_all _ _ _ _ _ e5 i), fun i => rfl⟩

/-- The reference runs and leaves its arguments and the semaphores as they were. -/
theorem quiescent_ref : Cert.quiescent_AttendRefIdeal (hAttendRefIdeal := Cert.AttendRefIdeal.Gen.facts) := fun m ρ _ =>
  (θ_run _ _ _).mono (fun r h => ⟨fun c => (h c).2.2, sem_eq_zero_of_no_sems (by decide) r.2⟩) (Cert.AttendRefIdeal.Value.run (F := Ideal) m ρ)

/-- The named constant stands for minus infinity. -/
theorem preserves : Cert.preserves_AttnFwd_AttnFwdIdeal := ⟨rfl, fun _ => rfl, rfl⟩

section Values

variable {m : Mem} {c : Dev Cert.AttnFwdIdeal.nD} (fin : Fin5 m c)
include fin

theorem ref_o : Cert.AttendRefIdeal.Read.val_main_v66 (F := Ideal) (argQ m c) (argKV m c) (argKR m c) (argC m c) (argS m c) = resO m c := by
  funext i
  obtain ⟨t, n, rfl⟩ : ∃ (t : Fin 4224) (n : Fin 2048), i = ix2 t n := ⟨i 0, i 1, by funext a; fin_cases a <;> rfl⟩
  exact Cert.AttendRefIdeal.Rows.v66_eq fin t n

theorem ref_l : Cert.AttendRefIdeal.Read.val_main_v68 (F := Ideal) (argQ m c) (argKV m c) (argKR m c) (argC m c) (argS m c) = resL m c := by
  funext i
  obtain ⟨h, t, n, rfl⟩ : ∃ (h : Fin 16) (t : Fin 4224) (n : Fin 128), i = ix3 h t n := ⟨i 0, i 1, i 2, by funext a; fin_cases a <;> rfl⟩
  exact Cert.AttendRefIdeal.Rows.v68_eq fin h t n

end Values

theorem algebraic [hp : Cert.Pre_finite_attend.Facts] : Cert.algebraic_AttnFwdIdeal_AttendRefIdeal_pre_finite_attend (hAttnFwdIdeal := Cert.AttnFwdIdeal.Gen.facts)
    (hAttendRefIdeal := Cert.AttendRefIdeal.Gen.facts) := by
  intro m ρ m' ρ' hpre hag
  have hf := fun c => fin5 hpre c
  refine ⟨fun c => resO m c, fun c => resL m c, ?_, ?_⟩
  · refine (θ_run _ _ _).mono (fun r h c => ?_) (θ_run_and (Cert.AttnFwdIdeal.Gen.frame_of m ρ (dats m) (A_eq m) (run_main m ρ)) (run_main m ρ))
    obtain ⟨h0, h1⟩ := h
    exact ⟨((h1 c).1 3).trans (final3 (hf c)), ((h1 c).1 4).trans (final4 (hf c)), h0 c⟩
  · refine (θ_run _ _ _).mono (fun r h c => ?_) (Cert.AttendRefIdeal.Value.run (F := Ideal) m' ρ')
    obtain ⟨h0, h1, h2⟩ := h c
    obtain ⟨a0, a1, a2, a3, a4⟩ := hag c
    have b0 : m' ((c.tc : Thread Cert.AttendRefIdeal.nD Cert.AttendRefIdeal.τ).loc Cert.AttendRefIdeal.main_arg0) = argQ m c := a0
    have b1 : m' ((c.tc : Thread Cert.AttendRefIdeal.nD Cert.AttendRefIdeal.τ).loc Cert.AttendRefIdeal.main_arg1) = argKV m c := a1
    have b2 : m' ((c.tc : Thread Cert.AttendRefIdeal.nD Cert.AttendRefIdeal.τ).loc Cert.AttendRefIdeal.main_arg2) = argKR m c := a2
    have b3 : m' ((c.tc : Thread Cert.AttendRefIdeal.nD Cert.AttendRefIdeal.τ).loc Cert.AttendRefIdeal.main_arg3) = argC m c := a3
    have b4 : m' ((c.tc : Thread Cert.AttendRefIdeal.nD Cert.AttendRefIdeal.τ).loc Cert.AttendRefIdeal.main_arg4) = argS m c := a4
    refine ⟨h0.trans ?_, h1.trans ?_, h2⟩
    · rw [Cert.AttendRefIdeal.Read.val_main_v66_eq, b0, b1, b2, b3, b4]
      exact ref_o (hf c)
    · rw [Cert.AttendRefIdeal.Read.val_main_v68_eq, b0, b1, b2, b3, b4]
      exact ref_l (hf c)

end Cert.Attend
-- ==== Proof.RowNorm.lean ====
/- The norm of a row over the extended reals, no matter whether the entries are finite, and matrices read at any two natural
   numbers, zero outside. -/
module

public import proofs.«01_k».proof.Proof.Reals

@[expose] public section

noncomputable section

namespace Cert.RowNorm

open Idealize.ShloMosaic Cert.Reals

/-- The entry at `(r, l)`, zero outside the matrix. -/
def e2 {a b : ℕ} (x : (⟨2, ![a, b]⟩ : Shape).Idx → EReal) (r l : ℕ) : EReal := if h : r < a ∧ l < b then x (ix2 ⟨r, h.1⟩ ⟨l, h.2⟩) else 0

/-- The entry at `l`, zero outside the vector. -/
def e1 {a : ℕ} (x : (⟨1, ![a]⟩ : Shape).Idx → EReal) (l : ℕ) : EReal := if h : l < a then x (ix1 ⟨l, h⟩) else 0

theorem e2_in {a b : ℕ} (x : (⟨2, ![a, b]⟩ : Shape).Idx → EReal) (r : Fin a) (l : Fin b) : x (ix2 r l) = e2 x r l := by
  unfold e2
  rw [dif_pos ⟨r.isLt, l.isLt⟩]

theorem e1_in {a : ℕ} (x : (⟨1, ![a]⟩ : Shape).Idx → EReal) (l : Fin a) : x (ix1 l) = e1 x l := by
  unfold e1
  rw [dif_pos l.isLt]

theorem e2_out {a b : ℕ} (x : (⟨2, ![a, b]⟩ : Shape).Idx → EReal) {r l : ℕ} (h : ¬(r < a ∧ l < b)) : e2 x r l = 0 := dif_neg h

/-- Zeros below a matrix and to its right change no entry. -/
theorem pad_e2 {a b p q n w : ℕ} (x : (⟨2, ![a, b]⟩ : Shape).Idx → EReal) {u : Shape} (v : u.Idx → EReal)
    (h : (⟨2, ![a, b]⟩ : Shape).Pads ![0, 0] ![p, q] ![0, 0] ⟨2, ![n, w]⟩) (hu : 0 < u.numel) (hv : v (Shape.Idx.first hu) = 0)
    (r : Fin n) (l : Fin w) : pad ⟨2, ![n, w]⟩ ![0, 0] ![p, q] ![0, 0] x v h hu (ix2 r l) = e2 x r l := by
  by_cases hr : r.val < a
  · by_cases hl : l.val < b
    · refine (pad_apply_of_inside _ _ _ x v h hu (ix2 r l) (ix2 ⟨r.val, hr⟩ ⟨l.val, hl⟩) ?_).trans (e2_in x ⟨r.val, hr⟩ ⟨l.val, hl⟩)
      intro c
      fin_cases c
      · show r.val = 0 + r.val * (0 + 1); omega
      · show l.val = 0 + l.val * (0 + 1); omega
    · rw [e2_out x (fun k => hl k.2)]
      refine (pad_apply_of_not_inside _ _ _ x v h hu (ix2 r l) 1 ?_).trans hv
      show ¬(0 ≤ l.val ∧ (l.val - 0) % (0 + 1) = 0 ∧ (l.val - 0) / (0 + 1) < b)
      omega
  · rw [e2_out x (fun k => hr k.1)]
    refine (pad_apply_of_not_inside _ _ _ x v h hu (ix2 r l) 0 ?_).trans hv
    show ¬(0 ≤ r.val ∧ (r.val - 0) % (0 + 1) = 0 ∧ (r.val - 0) / (0 + 1) < a)
    omega

/-- The integer zero, converted. -/
theorem zero_conv : FloatOps.sitofp (F := Ideal) FTy.f32 (0#32 : BitVec 32) = (0 : EReal) := by
  show ((((0#32 : BitVec 32).toInt : ℝ)) : EReal) = 0
  simp

/-- The norm at `(r, l)` of rows of width `w`, `n` being that width as a constant. -/
def nrm (w : ℕ) (n : EReal) (X : ℕ → ℕ → EReal) (G : ℕ → EReal) (r l : ℕ) : EReal :=
  X r l * Ideal.rsqrt (Ideal.div (∑ k : Fin w, X r k * X r k) n + Ideal.ofBits .f32 0x358637BD#32) * G l

theorem nrm_zero (w : ℕ) (n : EReal) (X : ℕ → ℕ → EReal) (G : ℕ → EReal) (r l : ℕ) (h : X r l = 0) : nrm w n X G r l = 0 := by
  unfold nrm
  rw [h, zero_mul, zero_mul]

/-- The norm reads its row only. -/
theorem nrm_congr {w : ℕ} (n : EReal) {X Y : ℕ → ℕ → EReal} (G : ℕ → EReal) {r s : ℕ} (h : ∀ k : Fin w, X r k = Y s k) (l : Fin w) :
    nrm w n X G r l = nrm w n Y G s l := by
  unfold nrm
  simp only [h]

end Cert.RowNorm
-- ==== Proof.NormFwd.lean ====
/- The norm's forward call: the kernel's tiles of 1408 rows as the norm of every row. -/
module

public import proofs.«01_k».proof.Proof.Gen.NormFwdIdeal.Value
public import proofs.«01_k».proof.Proof.RowNorm
public import proofs.«01_k».proof.Proof.Tile

@[expose] public section

noncomputable section

namespace Cert.NormFwdIdeal.Tiles

open Idealize.ShloMosaic Idealize.SL.Sem Cert.NormFwdIdeal Cert.NormFwdIdeal.Gen Cert.Reals Cert.RowNorm Cert.Tile
open Facts

/-- The rows' width, 2048. -/
abbrev width : EReal := Ideal.ofBits .f32 0x45000000#32

theorem pay1_eq {X : ℕ → ℕ → EReal} {G : ℕ → EReal} {n : ℕ} (x : Vec Ideal S1408x2048 .f32) (g : Vec Ideal S1x2048 .f32)
    (hx : ∀ (r : Fin 1408) (k : Fin 2048), x (ix2 r k) = X (n + r) k) (hg : ∀ k : Fin 2048, g (ix2 0 k) = G k) (r : Fin 1408) (l : Fin 2048) :
    k0_pay1 x g (ix2 r l) = nrm 2048 width X G (n + r) l := by
  pointwise [k0_pay1]
  simp only [hx, hg]
  rfl

abbrev Mem := (ℓ : Loc nD τ sig) → Buf (Elt Ideal) ℓ

variable (m : Mem) (c : Dev nD)

abbrev argX : S4112x2048.Idx → EReal := m ((c.tc : Thread nD τ).loc main_arg0)
abbrev argG : S2048.Idx → EReal := m ((c.tc : Thread nD τ).loc main_arg1)

theorem V_x : V m c main_v0 = pad S4224x2048 ![0, 0] ![112, 0] ![0, 0] (argX m c) (sitofp (F := Ideal) .f32 (constantI S_ 32 0#32))
    pads_S4112x2048_S4224x2048_01120_000 h_S_ := by
  simp only [V, hostOps0, hostOps0_1, hostOps0_2, List.flatten_cons, List.flatten_nil, List.append_nil, List.cons_append, List.nil_append]
  after_results
  rfl

theorem V_g : V m c main_v1 = broadcastInDim S1x2048 ![1] bcast_S2048_S1x2048_1 (argG m c) := by
  simp only [V, hostOps0, hostOps0_1, hostOps0_2, List.flatten_cons, List.flatten_nil, List.append_nil, List.cons_append, List.nil_append]
  after_results

theorem idx : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) := by
  decide +kernel

theorem zero_pad (i : S_.Idx) : sitofp (F := Ideal) .f32 (constantI S_ 32 0#32) i = (0 : EReal) := zero_conv

theorem row_lt (t : Fin cfg0.N) (r : Fin 1408) : t.val * 1408 + r.val < 4224 := by
  have h : t.val < 3 := lt_of_lt_of_eq t.isLt N_0
  omega

theorem blk0 (t : Fin cfg0.N) (r : Fin 1408) (k : Fin 2048) :
    (iblk m c 0 t : Vec Ideal S1408x2048 .f32) (ix2 r k) = e2 (argX m c) (t.val * 1408 + r.val) k :=
  (tile2 (Val := Elt Ideal) (e := .f32) (V m c main_v0) _ (idx t).1 r k ⟨_, row_lt t r⟩ k rfl (by omega)).trans
    ((congrFun (V_x m c) _).trans (pad_e2 (argX m c) _ pads_S4112x2048_S4224x2048_01120_000 h_S_ (zero_pad _) ⟨_, row_lt t r⟩ k))

theorem blk1 (t : Fin cfg0.N) (k : Fin 2048) : (iblk m c 1 t : Vec Ideal S1x2048 .f32) (ix2 0 k) = e1 (argG m c) k := by
  refine (tile2 (Val := Elt Ideal) (e := .f32) (V m c main_v1) _ (idx t).2.1 0 k 0 k rfl (by omega)).trans ((congrFun (V_g m c) _).trans (Eq.trans ?_ (e1_in _ k)))
  pointwise

/-- The normed rows, zero below the last one. -/
def res : S4224x2048.Idx → EReal := fun i => nrm 2048 width (e2 (argX m c)) (e1 (argG m c)) (i 0).val (i 1).val

theorem ld0 (x : Vec Ideal S1408x2048 .f32) : View.ld x r0_0 = x :=
  View.ld_unit_zero (S := S1408x2048) (by funext a; fin_cases a <;> rfl) _ x
theorem ld1 (x : Vec Ideal S1x2048 .f32) : View.ld x r0_1 = x :=
  View.ld_unit_zero (S := S1x2048) (by funext a; fin_cases a <;> rfl) _ x

theorem final : (dats m 0 c).arrAt 2 cfg0.N = res m c := by
  funext i
  obtain ⟨R, l, rfl⟩ : ∃ (R : Fin 4224) (l : Fin 2048), i = ix2 R l := ⟨i 0, i 1, by funext a; fin_cases a <;> rfl⟩
  obtain ⟨t, r, hR⟩ : ∃ (t : Fin cfg0.N) (r : Fin 1408), R.val = t.val * 1408 + r.val :=
    ⟨⟨R.val / 1408, lt_of_lt_of_eq (by omega) N_0.symm⟩, ⟨R.val % 1408, by omega⟩, (Nat.div_add_mod' _ _).symm⟩
  refine (tile2 ((dats m 0 c).arrAt 2 cfg0.N) _ (idx t).2.2 r l R l hR (by omega)).symm.trans
    ((congrFun (Value.blocks2 m c t (flush0_2 t)) (ix2 r l)).trans ?_)
  rw [Value.flushed2]
  show out0_2 (F := Ideal) (iblk m c 0 t) (iblk m c 1 t) (ix2 r l) = nrm 2048 width (e2 (argX m c)) (e1 (argG m c)) R.val l
  unfold out0_2
  rw [ld0, ld1, View.canon_unit_zero (S := S1408x2048) (by funext a; fin_cases a <;> rfl), pay1_eq _ _ (blk0 m c t) (blk1 m c t), hR]

end Cert.NormFwdIdeal.Tiles
-- ==== Proof.NormFwdClaim.lean ====
/- The norm's forward call against the norm as plain host operations. -/
module

public import proofs.«01_k».proof.Defs
public import proofs.«01_k».proof.Proof.Gen.NormFwd.Frame
public import proofs.«01_k».proof.Proof.Gen.NormFwdRefIdeal.Run
public import proofs.«01_k».proof.Proof.Gen.NormFwdRefIdeal.Read
public import proofs.«01_k».proof.Proof.NormFwd
public import Idealize.ShloMosaic.Lib.Quiescent

@[expose] public section

noncomputable section

namespace Cert.NormFwd

open Idealize.ShloMosaic Idealize.SL.Sem Cert.Reals Cert.RowNorm Cert.NormFwdRefIdeal.Read

/-- The reference runs and leaves its arguments and the semaphores as they were. -/
theorem quiescent_ref : Cert.quiescent_NormFwdRefIdeal (hNormFwdRefIdeal := Cert.NormFwdRefIdeal.Gen.facts) := fun m ρ _ =>
  (θ_run _ _ _).mono (fun r h => ⟨fun c => (h c).2, sem_eq_zero_of_no_sems (by decide) r.2⟩) (Cert.NormFwdRefIdeal.Value.run (F := Ideal) m ρ)

open Cert.NormFwdRefIdeal in
theorem row_eq (x : S4112x2048.Idx → EReal) (g : S2048.Idx → EReal) (r : Fin 4112) (l : Fin 2048) :
    val_main_v12 (F := Ideal) x g (ix2 r l) = nrm 2048 Cert.NormFwdIdeal.Tiles.width (e2 x) (e1 g) r l := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  simp only [e2_in, e1_in]
  rfl

theorem ref_eq (m : Cert.NormFwdIdeal.Tiles.Mem) (c : Dev Cert.NormFwdIdeal.nD) :
    val_main_v14 (F := Ideal) (Cert.NormFwdIdeal.Tiles.argX m c) (Cert.NormFwdIdeal.Tiles.argG m c) = Cert.NormFwdIdeal.Tiles.res m c := by
  funext i
  obtain ⟨r, l, rfl⟩ : ∃ (r : Fin 4224) (l : Fin 2048), i = ix2 r l := ⟨i 0, i 1, by funext a; fin_cases a <;> rfl⟩
  refine (show _ = val_main_v13 (F := Ideal) _ _ (ix2 r l) from rfl).trans ?_
  unfold val_main_v13
  refine (pad_e2 _ _ _ _ zero_conv r l).trans ?_
  by_cases h : r.val < 4112
  · exact (e2_in _ ⟨r.val, h⟩ l).symm.trans (row_eq _ _ ⟨r.val, h⟩ l)
  · rw [e2_out _ (fun k => h k.1)]
    exact (nrm_zero _ _ _ _ _ _ (e2_out _ (fun k => h k.1))).symm

theorem algebraic : Cert.algebraic_NormFwdIdeal_NormFwdRefIdeal (hNormFwdIdeal := Cert.NormFwdIdeal.Gen.facts)
    (hNormFwdRefIdeal := Cert.NormFwdRefIdeal.Gen.facts) := by
  intro m ρ m' ρ' _ hag
  refine ⟨fun c => Cert.NormFwdIdeal.Tiles.res m c, ?_, ?_⟩
  · refine (θ_run _ _ _).mono (fun r h c => ?_) (Cert.NormFwdIdeal.Value.run_blocks m ρ)
    obtain ⟨h0, h1⟩ := h c
    exact ⟨h0.trans (Cert.NormFwdIdeal.Tiles.final m c), h1⟩
  · refine (θ_run _ _ _).mono (fun r h c => ?_) (Cert.NormFwdRefIdeal.Value.run (F := Ideal) m' ρ')
    obtain ⟨h0, h1⟩ := h c
    obtain ⟨a0, a1⟩ := hag c
    refine ⟨h0.trans ?_, h1⟩
    rw [val_main_v14_eq, a0, a1]
    exact ref_eq m c

end Cert.NormFwd
-- ==== Proof.PrepFwd.lean ====
/- The latent norms' and the rotary key's forward call: the kernel's tiles of 384 rows as the norms and the rotation of every row. -/
module

public import proofs.«01_k».proof.Proof.Gen.PrepFwdIdeal.Value
public import proofs.«01_k».proof.Proof.Prep
public import proofs.«01_k».proof.Proof.RowNorm

@[expose] public section

noncomputable section

namespace Cert.PrepFwdIdeal.Tiles

open Idealize.ShloMosaic Idealize.SL.Sem Cert.PrepFwdIdeal Cert.PrepFwdIdeal.Gen Cert.Reals Cert.RowNorm Cert.Tile
open Cert.PrepBwdIdeal.Tiles (firstHalf select_bool)
open Facts

/-- The norms' width, 512. -/
abbrev width : EReal := Ideal.ofBits .f32 0x44000000#32

/-- The rotation of 64 columns, zero to their right. -/
def rot (S C N : ℕ → ℕ → EReal) (r l : ℕ) : EReal :=
  if l < 32 then S r l * C r l - S r (l + 32) * N r l else if l < 64 then S r l * C r (l - 32) + S r (l - 32) * N r (l - 32) else 0

/-- A zero row stays zero. -/
theorem rot_zero {S : ℕ → ℕ → EReal} {r : ℕ} (h : ∀ k, S r k = 0) (C N : ℕ → ℕ → EReal) (l : ℕ) : rot S C N r l = 0 := by
  unfold rot
  simp only [h, zero_mul, sub_zero, add_zero, ite_self]

section Tile

variable {P C N : ℕ → ℕ → EReal} {G : ℕ → EReal} {n : ℕ} (p : Vec Ideal S384x1152 .f32) (g : Vec Ideal S1x512 .f32) (co si : Vec Ideal S384x128 .f32)
  (hp : ∀ (r : Fin 384) (k : Fin 1152), p (ix2 r k) = P (n + r) k) (hg : ∀ k : Fin 512, g (ix2 0 k) = G k)
  (hc : ∀ (r : Fin 384) (k : Fin 128), co (ix2 r k) = C (n + r) (k % 32)) (hn : ∀ (r : Fin 384) (k : Fin 128), si (ix2 r k) = N (n + r) (k % 32))

include hp hg in
theorem pay3_eq (r : Fin 384) (l : Fin 512) : k0_pay3 p g (ix2 r l) = nrm 512 width P G (n + r) l := by
  pointwise [k0_pay3, k0_pay2]
  simp only [hp, hg]
  rfl

include hp hg in
theorem pay4_eq (r : Fin 384) (l : Fin 512) : k0_pay4 p g (ix2 r l) = nrm 512 width (fun r k => P r (512 + k)) G (n + r) l := by
  pointwise [k0_pay4, k0_pay2]
  simp only [hp, hg]
  rfl

include hp hc hn in
theorem pay1_eq (hP : ∀ r l, 1088 ≤ l → P r l = 0) (r : Fin 384) (l : Fin 128) :
    k0_pay1 (k0_pay5 p) (k0_pay6 co) si (ix2 r l) = rot (fun r k => P r (1024 + k)) C N (n + r) l := by
  have key : ∀ (r : Fin 384) (l : Fin 128), k0_pay5 p (ix2 r l) = P (n + r) (1024 + l) := fun r l => by
    pointwise [k0_pay5, k0_pay2]
    exact hp _ _
  unfold k0_pay1 k0_pay6
  generalize k0_pay5 p = x at key ⊢
  pointwise []
  rw [firstHalf l]
  simp only [key, hc, hn, select_bool]
  unfold rot
  by_cases h1 : l.val < 32
  · rw [if_pos h1, if_pos (by omega), Nat.mod_eq_of_lt h1, show (l.val + 128 - 96) % 128 = l.val + 32 by omega, sub_eq_add_neg, sub_eq_add_neg, zero_add,
      EReal.neg_mul]
  by_cases h2 : l.val < 64
  · rw [if_neg h1, if_pos h2, if_neg (by omega), show l.val % 32 = l.val - 32 by omega, show (l.val + 128 - 32) % 128 = l.val - 32 by omega]
  rw [if_neg h1, if_neg h2, hP _ (1024 + l.val) (by omega)]
  split
  · rw [hP _ (1024 + (l.val + 128 - 96) % 128) (by omega), sub_eq_add_neg, neg_zero, add_zero, zero_mul, zero_mul, zero_add]
  · rw [hP _ (1024 + (l.val + 128 - 32) % 128) (by omega), zero_mul, zero_mul, zero_add]

end Tile

abbrev Mem := (ℓ : Loc nD τ sig) → Buf (Elt Ideal) ℓ

variable (m : Mem) (c : Dev nD)

abbrev argP : S4112x1088.Idx → EReal := m ((c.tc : Thread nD τ).loc main_arg0)
abbrev argGQ : S512.Idx → EReal := m ((c.tc : Thread nD τ).loc main_arg1)
abbrev argGK : S512.Idx → EReal := m ((c.tc : Thread nD τ).loc main_arg2)
abbrev argC : S4112x32.Idx → EReal := m ((c.tc : Thread nD τ).loc main_arg3)
abbrev argN : S4112x32.Idx → EReal := m ((c.tc : Thread nD τ).loc main_arg4)

abbrev zeros : S_.Idx → EReal := sitofp (F := Ideal) .f32 (constantI S_ 32 0#32)

/-- A rotary table, four times side by side. -/
abbrev four (x : S4112x32.Idx → EReal) : S4112x128.Idx → EReal :=
  shapeCast S4112x128 (broadcastInDim S1x4112x4x32 ![0, 1, 2, 3] bcast_S1x4112x1x32_S1x4112x4x32_0_1_2_3 (shapeCast S1x4112x1x32 x shapeCasts_S4112x32_S1x4112x1x32))
    shapeCasts_S1x4112x4x32_S4112x128

theorem four_eq (x : S4112x32.Idx → EReal) (r : ℕ) (l : Fin 128) : e2 (four x) r l = e2 x r (l % 32) := by
  by_cases h : r < 4112
  · rw [show e2 (four x) r l = four x (ix2 ⟨r, h⟩ l) from (e2_in _ ⟨r, h⟩ l).symm]
    pointwise []
    exact e2_in x ⟨r, h⟩ ⟨l.val % 32, _⟩
  · rw [e2_out _ (fun k => h k.1), e2_out _ (fun k => h k.1)]

theorem hosts : V m c main_v8 = pad S4224x1152 ![0, 0] ![112, 64] ![0, 0] (argP m c) zeros pads_S4112x1088_S4224x1152_01120_0640 h_S_
    ∧ V m c main_v9 = broadcastInDim S1x512 ![1] bcast_S512_S1x512_1 (argGQ m c)
    ∧ V m c main_v10 = broadcastInDim S1x512 ![1] bcast_S512_S1x512_1 (argGK m c)
    ∧ V m c main_v3 = pad S4224x128 ![0, 0] ![112, 0] ![0, 0] (four (argC m c)) zeros pads_S4112x128_S4224x128_01120_000 h_S_
    ∧ V m c main_v7 = pad S4224x128 ![0, 0] ![112, 0] ![0, 0] (four (argN m c)) zeros pads_S4112x128_S4224x128_01120_000 h_S_ := by
  refine ⟨?_, ?_, ?_, ?_, ?_⟩ <;>
    (simp only [V, hostOps0, hostOps0_1, hostOps0_2, hostOps0_3, hostOps0_4, hostOps0_5, hostOps0_6, List.flatten_cons, List.flatten_nil,
      List.append_nil, List.cons_append, List.nil_append]
     after_results
     try rfl)

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel

theorem row_lt (t : Fin cfg0.N) (r : Fin 384) : 384 * t.val + r.val < 4224 := by
  have h : t.val < 11 := lt_of_lt_of_eq t.isLt N_0
  omega

/-- Row `r` of tile `t`. -/
abbrev row (t : Fin cfg0.N) (r : Fin 384) : Fin 4224 := ⟨384 * t.val + r.val, row_lt t r⟩

theorem mul_row (t : Fin cfg0.N) (r : Fin 384) : (row t r).val = t.val * 384 + r.val := congrArg (· + r.val) (Nat.mul_comm _ _)

/-- Every entry lies in some tile. -/
theorem at_row {b : ℕ} (i : (⟨2, ![4224, b]⟩ : Shape).Idx) : ∃ (t : Fin cfg0.N) (r : Fin 384) (l : Fin b), i = ix2 (row t r) l := by
  have h : (i 0 : Nat) < 4224 := (i 0).isLt
  refine ⟨⟨(i 0 : Nat) / 384, lt_of_lt_of_eq (by omega) N_0.symm⟩, ⟨(i 0 : Nat) % 384, by omega⟩, i 1, ?_⟩
  funext a
  match a with
  | ⟨0, _⟩ => exact Fin.ext (Nat.div_add_mod _ 384).symm
  | ⟨1, _⟩ => rfl

theorem blk0 (t : Fin cfg0.N) (r : Fin 384) (k : Fin 1152) :
    (iblk m c 0 t : Vec Ideal S384x1152 .f32) (ix2 r k) = e2 (argP m c) (384 * t.val + r.val) k := by
  rw [← pad_e2 (argP m c) zeros pads_S4112x1088_S4224x1152_01120_0640 h_S_ zero_conv (row t r) k, ← (hosts m c).1]
  exact tile2 (V m c main_v8) _ (idx0 t) r k (row t r) k (mul_row t r) (by omega)

theorem blk1 (t : Fin cfg0.N) (k : Fin 512) : (iblk m c 1 t : Vec Ideal S1x512 .f32) (ix2 0 k) = e1 (argGQ m c) k := by
  refine (tile2 (V m c main_v9) _ (idx1 t) 0 k 0 k rfl (by omega)).trans ?_
  rw [← e1_in, (hosts m c).2.1]
  pointwise

theorem blk2 (t : Fin cfg0.N) (k : Fin 512) : (iblk m c 2 t : Vec Ideal S1x512 .f32) (ix2 0 k) = e1 (argGK m c) k := by
  refine (tile2 (V m c main_v10) _ (idx2 t) 0 k 0 k rfl (by omega)).trans ?_
  rw [← e1_in, (hosts m c).2.2.1]
  pointwise

theorem blk3 (t : Fin cfg0.N) (r : Fin 384) (k : Fin 128) :
    (iblk m c 3 t : Vec Ideal S384x128 .f32) (ix2 r k) = e2 (argC m c) (384 * t.val + r.val) (k % 32) := by
  rw [← four_eq, ← pad_e2 (four (argC m c)) zeros pads_S4112x128_S4224x128_01120_000 h_S_ zero_conv (row t r) k, ← (hosts m c).2.2.2.1]
  exact tile2 (V m c main_v3) _ (idx3 t) r k (row t r) k (mul_row t r) (by omega)

theorem blk4 (t : Fin cfg0.N) (r : Fin 384) (k : Fin 128) :
    (iblk m c 4 t : Vec Ideal S384x128 .f32) (ix2 r k) = e2 (argN m c) (384 * t.val + r.val) (k % 32) := by
  rw [← four_eq, ← pad_e2 (four (argN m c)) zeros pads_S4112x128_S4224x128_01120_000 h_S_ zero_conv (row t r) k, ← (hosts m c).2.2.2.2]
  exact tile2 (V m c main_v7) _ (idx4 t) r k (row t r) k (mul_row t r) (by omega)

/-- The query latent's norm, the key latent's, and the rotary key. -/
def resQ : S4224x512.Idx → EReal := fun i => nrm 512 width (e2 (argP m c)) (e1 (argGQ m c)) (i 0).val (i 1).val
def resK : S4224x512.Idx → EReal := fun i => nrm 512 width (fun r k => e2 (argP m c) r (512 + k)) (e1 (argGK m c)) (i 0).val (i 1).val
def resR : S4224x128.Idx → EReal := fun i => rot (fun r k => e2 (argP m c) r (1024 + k)) (e2 (argC m c)) (e2 (argN m c)) (i 0).val (i 1).val

theorem ld0 (x : Vec Ideal S384x1152 .f32) : View.ld x r0_0 = x :=
  View.ld_unit_zero (S := S384x1152) (by funext a; fin_cases a <;> rfl) _ x
theorem ld1 (x : Vec Ideal S1x512 .f32) : View.ld x r0_1 = x :=
  View.ld_unit_zero (S := S1x512) (by funext a; fin_cases a <;> rfl) _ x
theorem ld3 (x : Vec Ideal S384x128 .f32) : View.ld x r0_3 = x :=
  View.ld_unit_zero (S := S384x128) (by funext a; fin_cases a <;> rfl) _ x

theorem final5 : (dats m 0 c).arrAt 5 cfg0.N = resQ m c := by
  funext i
  obtain ⟨t, r, l, rfl⟩ := at_row i
  refine (tile2 ((dats m 0 c).arrAt 5 cfg0.N) _ (idx5 t) r l (row t r) l (mul_row t r) (by omega)).symm.trans
    ((congrFun (Value.blocks5 m c t (flush0_5 t)) (ix2 r l)).trans ?_)
  rw [Value.flushed5]
  unfold out0_5
  rw [ld0, ld1, View.canon_unit_zero (S := S384x512) (by funext a; fin_cases a <;> rfl)]
  exact pay3_eq _ _ (blk0 m c t) (blk1 m c t) r l

theorem final6 : (dats m 0 c).arrAt 6 cfg0.N = resK m c := by
  funext i
  obtain ⟨t, r, l, rfl⟩ := at_row i
  refine (tile2 ((dats m 0 c).arrAt 6 cfg0.N) _ (idx6 t) r l (row t r) l (mul_row t r) (by omega)).symm.trans
    ((congrFun (Value.blocks6 m c t (flush0_6 t)) (ix2 r l)).trans ?_)
  rw [Value.flushed6]
  unfold out0_6
  rw [ld0, ld1, View.canon_unit_zero (S := S384x512) (by funext a; fin_cases a <;> rfl)]
  exact pay4_eq _ _ (blk0 m c t) (blk2 m c t) r l

theorem final7 : (dats m 0 c).arrAt 7 cfg0.N = resR m c := by
  funext i
  obtain ⟨t, r, l, rfl⟩ := at_row i
  refine (tile2 ((dats m 0 c).arrAt 7 cfg0.N) _ (idx7 t) r l (row t r) l (mul_row t r) (by omega)).symm.trans
    ((congrFun (Value.blocks7 m c t (flush0_7 t)) (ix2 r l)).trans ?_)
  rw [Value.flushed7]
  unfold out0_7
  rw [ld0, ld3, ld3, View.canon_unit_zero (S := S384x128) (by funext a; fin_cases a <;> rfl)]
  exact pay1_eq _ _ _ (blk0 m c t) (blk3 m c t) (blk4 m c t) (fun r l h => e2_out _ (by omega)) r l

end Cert.PrepFwdIdeal.Tiles
-- ==== Proof.PrepFwdClaim.lean ====
/- The latent norms' and the rotary key's forward call against the same lines as plain host operations. -/
module

public import proofs.«01_k».proof.Defs
public import proofs.«01_k».proof.Proof.Gen.PrepFwd.Frame
public import proofs.«01_k».proof.Proof.Gen.PrepFwdRefIdeal.Run
public import proofs.«01_k».proof.Proof.Gen.PrepFwdRefIdeal.Read
public import proofs.«01_k».proof.Proof.PrepFwd

@[expose] public section

noncomputable section

namespace Cert.PrepFwd

open Idealize.ShloMosaic Idealize.SL.Sem Cert.Reals Cert.RowNorm Cert.PrepFwdRefIdeal.Read Cert.PrepFwdIdeal.Tiles

/-- The reference runs and leaves its arguments and the semaphores as they were. -/
theorem quiescent_ref : Cert.quiescent_PrepFwdRefIdeal (hPrepFwdRefIdeal := Cert.PrepFwdRefIdeal.Gen.facts) := fun m ρ _ =>
  (θ_run _ _ _).mono (fun r h => ⟨fun c => (h c).2.2.2, sem_eq_zero_of_no_sems (by decide) r.2⟩) (Cert.PrepFwdRefIdeal.Value.run (F := Ideal) m ρ)

section Rows

open Cert.PrepFwdRefIdeal

variable (p : S4112x1088.Idx → EReal) (g : S512.Idx → EReal) (co si : S4112x32.Idx → EReal)

theorem q_eq (r : Fin 4112) (l : Fin 512) : val_main_v24 (F := Ideal) p g (ix2 r l) = nrm 512 width (e2 p) (e1 g) r l := by
  pointwise [val_main_v24, val_main_v23, val_main_v22, val_main_v21, val_main_v20, val_main_v19, val_main_v18, val_main_v17, val_main_v16, val_main_v15,
    val_main_v14, val_main_v13, val_main_v12, val_main_v0, val_main_cst, val_main_cst_0, val_main_cst_1]
  simp only [e2_in, e1_in]
  rfl

theorem k_eq (r : Fin 4112) (l : Fin 512) : val_main_v39 (F := Ideal) p g (ix2 r l) = nrm 512 width (fun r k => e2 p r (512 + k)) (e1 g) r l := by
  pointwise [val_main_v39, val_main_v38, val_main_v37, val_main_v36, val_main_v35, val_main_v34, val_main_v33, val_main_v32, val_main_v31, val_main_v30,
    val_main_v29, val_main_v28, val_main_v27, val_main_v1, val_main_cst_2, val_main_cst_3, val_main_cst_4]
  simp only [e2_in, e1_in]
  rfl

theorem x_eq (r : Fin 4112) (l : Fin 64) : val_main_v2 (F := Ideal) p (ix2 r l) = e2 p r (1024 + l) := by
  pointwise [val_main_v2]
  exact e2_in p r _

theorem r_eq (r : Fin 4112) (l : Fin 64) : val_main_v11 (F := Ideal) p co si (ix2 r l) = rot (fun r k => e2 p r (1024 + k)) (e2 co) (e2 si) r l := by
  have key := x_eq p
  unfold val_main_v11 val_main_v10 val_main_v9 val_main_v8 val_main_v7 val_main_v6 val_main_v5 val_main_v4 val_main_v3
  generalize val_main_v2 (F := Ideal) p = x at key ⊢
  pointwise []
  simp only [key]
  simp only [e2_in]
  unfold rot
  split
  · next h =>
    show _ - e2 p r (1024 + (32 + l.val)) * _ = _
    rw [Nat.add_comm 32 l.val]
  · next h =>
    rw [if_pos l.isLt]
    show e2 p r (1024 + (32 + (l.val - 32))) * _ + _ = _
    rw [Nat.add_sub_of_le (by omega)]

end Rows

section Values

variable (m : Mem) (c : Dev Cert.PrepFwdIdeal.nD)

theorem ref_q : val_main_v26 (F := Ideal) (argP m c) (argGQ m c) = resQ m c := by
  funext i
  obtain ⟨r, l, rfl⟩ : ∃ (r : Fin 4224) (l : Fin 512), i = ix2 r l := ⟨i 0, i 1, by funext a; fin_cases a <;> rfl⟩
  refine (show _ = val_main_v25 (F := Ideal) _ _ (ix2 r l) from rfl).trans ?_
  unfold val_main_v25
  refine (pad_e2 _ _ _ _ zero_conv r l).trans ?_
  by_cases h : r.val < 4112
  · exact (e2_in _ ⟨r.val, h⟩ l).symm.trans (q_eq _ _ ⟨r.val, h⟩ l)
  · rw [e2_out _ (fun k => h k.1)]
    exact (nrm_zero _ _ _ _ _ _ (e2_out _ (fun k => h k.1))).symm

theorem ref_k : val_main_v41 (F := Ideal) (argP m c) (argGK m c) = resK m c := by
  funext i
  obtain ⟨r, l, rfl⟩ : ∃ (r : Fin 4224) (l : Fin 512), i = ix2 r l := ⟨i 0, i 1, by funext a; fin_cases a <;> rfl⟩
  refine (show _ = val_main_v40 (F := Ideal) _ _ (ix2 r l) from rfl).trans ?_
  unfold val_main_v40
  refine (pad_e2 _ _ _ _ zero_conv r l).trans ?_
  by_cases h : r.val < 4112
  · exact (e2_in _ ⟨r.val, h⟩ l).symm.trans (k_eq _ _ ⟨r.val, h⟩ l)
  · rw [e2_out _ (fun k => h k.1)]
    exact (nrm_zero 512 width (fun r k => e2 (argP m c) r (512 + k)) (e1 (argGK m c)) r.val l.val (e2_out _ (fun k => h k.1))).symm

theorem ref_r : val_main_v43 (F := Ideal) (argP m c) (argC m c) (argN m c) = resR m c := by
  funext i
  obtain ⟨r, l, rfl⟩ : ∃ (r : Fin 4224) (l : Fin 128), i = ix2 r l := ⟨i 0, i 1, by funext a; fin_cases a <;> rfl⟩
  refine (show _ = val_main_v42 (F := Ideal) _ _ _ (ix2 r l) from rfl).trans ?_
  unfold val_main_v42
  refine (pad_e2 _ _ _ _ zero_conv r l).trans ?_
  by_cases hl : l.val < 64
  · by_cases h : r.val < 4112
    · exact (e2_in _ ⟨r.val, h⟩ ⟨l.val, hl⟩).symm.trans (r_eq _ _ _ ⟨r.val, h⟩ ⟨l.val, hl⟩)
    · rw [e2_out _ (fun k => h k.1)]
      exact (rot_zero (S := fun r k => e2 (argP m c) r (1024 + k)) (r := r.val) (fun k => e2_out _ (fun q => h q.1)) (e2 (argC m c)) (e2 (argN m c)) l.val).symm
  · rw [e2_out _ (fun k => hl k.2)]
    show 0 = rot _ _ _ r.val l.val
    unfold rot
    rw [if_neg (by omega), if_neg hl]

end Values

theorem algebraic : Cert.algebraic_PrepFwdIdeal_PrepFwdRefIdeal (hPrepFwdIdeal := Cert.PrepFwdIdeal.Gen.facts)
    (hPrepFwdRefIdeal := Cert.PrepFwdRefIdeal.Gen.facts) := by
  intro m ρ m' ρ' _ hag
  refine ⟨fun c => resQ m c, fun c => resK m c, fun c => resR m c, ?_, ?_⟩
  · refine (θ_run _ _ _).mono (fun r h c => ?_) (Cert.PrepFwdIdeal.Value.run_blocks m ρ)
    obtain ⟨h0, h1, h2, h3⟩ := h c
    exact ⟨h0.trans (final5 m c), h1.trans (final6 m c), h2.trans (final7 m c), h3⟩
  · refine (θ_run _ _ _).mono (fun r h c => ?_) (Cert.PrepFwdRefIdeal.Value.run (F := Ideal) m' ρ')
    obtain ⟨h0, h1, h2, h3⟩ := h c
    obtain ⟨a0, a1, a2, a3, a4⟩ := hag c
    refine ⟨h0.trans ?_, h1.trans ?_, h2.trans ?_, h3⟩
    · rw [val_main_v26_eq, a0, a1]
      exact ref_q m c
    · rw [val_main_v41_eq, a0, a2]
      exact ref_k m c
    · rw [val_main_v43_eq, a0, a3, a4]
      exact ref_r m c

end Cert.PrepFwd
-- ==== Proof.Adamw.lean ====
/- The optimiser's step of a norm's weights: the call's one tile against the same step as plain host operations. -/
module

public import proofs.«01_k».proof.Defs
public import proofs.«01_k».proof.Proof.Gen.Adamw.Frame
public import proofs.«01_k».proof.Proof.Gen.AdamwIdeal.Value
public import proofs.«01_k».proof.Proof.Gen.AdamwRefIdeal.Run
public import proofs.«01_k».proof.Proof.Gen.AdamwRefIdeal.Read
public import proofs.«01_k».proof.Proof.RowNorm
public import Idealize.ShloMosaic.Lib.Quiescent

@[expose] public section

set_option maxHeartbeats 1000000

noncomputable section

namespace Cert.AdamwIdeal.Tiles

open Idealize.ShloMosaic Idealize.SL.Sem Cert.AdamwIdeal Cert.AdamwIdeal.Gen Cert.Reals Cert.RowNorm
open Facts

abbrev lit (b : BitVec 32) : EReal := Ideal.ofBits .f32 b

/-- The first and the second moment after the step, and the change of the weight. -/
def mom (m g : EReal) : EReal := lit 0x3F666666#32 * m + lit 0x3DCCCCCD#32 * g
def sqm (v g : EReal) : EReal := lit 0x3F7FBE77#32 * v + lit 0x3A83126F#32 * (g * g)
def delta (w m v g : EReal) : EReal :=
  lit 0xBA83126F#32 * (Ideal.div (Ideal.div (mom m g) (lit 0x3F26BD02#32)) (Ideal.sqrt (Ideal.div (sqm v g) (lit 0x3C231ACC#32)) + lit 0x322BCC77#32)
    + lit 0x3C23D70A#32 * w)

theorem mom_zero : mom 0 0 = 0 := by simp [mom]
theorem sqm_zero : sqm 0 0 = 0 := by simp [sqm]

/-- Where all is zero the weight stays: none of the step's divisors is zero. -/
theorem delta_zero : delta 0 0 0 0 = 0 := by
  have pos : ∀ b : BitVec 32, b = 0x3F26BD02#32 ∨ b = 0x3C231ACC#32 ∨ b = 0x322BCC77#32 → lit b ≠ 0 := by
    rintro b (rfl | rfl | rfl) <;> simp [lit, Ideal.ofBits, Ideal.ieee, -EReal.coe_mul]
  have hdiv : ∀ y : EReal, y ≠ 0 → Ideal.div 0 y = 0 := fun y hy => by rw [Ideal.div, if_neg hy, zero_mul]
  have hs : Ideal.sqrt 0 = 0 := by
    show (if (0 : ℝ) < 0 then (⊥ : EReal) else ((Real.sqrt 0 : ℝ) : EReal)) = 0
    simp
  unfold delta
  rw [mom_zero, sqm_zero, hdiv _ (pos _ (.inr (.inl rfl))), hdiv _ (pos _ (.inl rfl)), hs, zero_add, hdiv _ (pos _ (.inr (.inr rfl))), mul_zero,
    add_zero, mul_zero]

/-- The kernel adds the eight devices' gradients one after the other. -/
theorem pay_g (x0 x1 x2 : Vec Ideal S8x2048 .f32) (x : Vec Ideal S8x8x2048 .f32) (r : Fin 8) (l : Fin 2048) :
    k0_pay8 x0 x1 x2 x (ix2 r l) = ∑ s : Fin 8, x (ix3 s r l) := by
  rw [Fin.sum_univ_eight]
  unfold k0_pay8
  pointwise [k0_pay4]

theorem pay_m (x0 x1 x2 : Vec Ideal S8x2048 .f32) (x : Vec Ideal S8x8x2048 .f32) (r : Fin 8) (l : Fin 2048) :
    k0_pay1 (k0_pay8 x0 x1 x2 x) (k0_pay9 x0 x1 x2 x) (ix2 r l) = mom (x1 (ix2 r l)) (∑ s : Fin 8, x (ix3 s r l)) := by
  rw [← pay_g x0 x1 x2]
  unfold k0_pay9
  generalize k0_pay8 x0 x1 x2 x = g
  pointwise [k0_pay1, k0_pay6]
  rfl

theorem pay_v (x0 x1 x2 : Vec Ideal S8x2048 .f32) (x : Vec Ideal S8x8x2048 .f32) (r : Fin 8) (l : Fin 2048) :
    k0_pay2 (k0_pay8 x0 x1 x2 x) (k0_pay10 x0 x1 x2 x) (ix2 r l) = sqm (x2 (ix2 r l)) (∑ s : Fin 8, x (ix3 s r l)) := by
  rw [← pay_g x0 x1 x2]
  unfold k0_pay10
  generalize k0_pay8 x0 x1 x2 x = g
  pointwise [k0_pay2, k0_pay7]
  rfl

theorem pay_d (x0 x1 x2 : Vec Ideal S8x2048 .f32) (x : Vec Ideal S8x8x2048 .f32) (r : Fin 8) (l : Fin 2048) :
    k0_pay3 (k0_pay8 x0 x1 x2 x) (k0_pay5 (View.ld x0 r0_8)) (k0_pay9 x0 x1 x2 x) (k0_pay10 x0 x1 x2 x) (ix2 r l)
      = delta (x0 (ix2 r l)) (x1 (ix2 r l)) (x2 (ix2 r l)) (∑ s : Fin 8, x (ix3 s r l)) := by
  unfold delta
  rw [← pay_m x0 x1 x2, ← pay_v x0 x1 x2]
  generalize k0_pay8 x0 x1 x2 x = g
  pointwise [k0_pay3, k0_pay5]

abbrev Mem := (ℓ : Loc nD τ sig) → Buf (Elt Ideal) ℓ

variable (m : Mem) (c : Dev nD) (t : Fin cfg0.N)

theorem off : ∀ t : Fin cfg0.N, (fun a => win0_0.index t a * S8x2048.size a) = fun _ => 0 := by decide +kernel
theorem off3 : ∀ t : Fin cfg0.N, (fun a => win0_3.index t a * S8x8x2048.size a) = fun _ => 0 := by decide +kernel

/-- The one grid step's tiles are the whole arrays. -/
theorem blk0 : (iblk m c 0 t : Vec Ideal S8x2048 .f32) = V m c main_v0 :=
  View.ld_unit_zero (Val := Elt Ideal) (e := .f32) (S := S8x2048) (off t) _ (V m c main_v0)
theorem blk1 : (iblk m c 1 t : Vec Ideal S8x2048 .f32) = V m c main_v1 :=
  View.ld_unit_zero (Val := Elt Ideal) (e := .f32) (S := S8x2048) (off t) _ (V m c main_v1)
theorem blk2 : (iblk m c 2 t : Vec Ideal S8x2048 .f32) = V m c main_v2 :=
  View.ld_unit_zero (Val := Elt Ideal) (e := .f32) (S := S8x2048) (off t) _ (V m c main_v2)
theorem blk3 : (iblk m c 3 t : Vec Ideal S8x8x2048 .f32) = V m c main_v3 :=
  View.ld_unit_zero (Val := Elt Ideal) (e := .f32) (S := S8x8x2048) (off3 t) _ (V m c main_v3)

abbrev argW : S4x2048.Idx → EReal := m ((c.tc : Thread nD τ).loc main_arg0)
abbrev argM : S4x2048.Idx → EReal := m ((c.tc : Thread nD τ).loc main_arg1)
abbrev argV : S4x2048.Idx → EReal := m ((c.tc : Thread nD τ).loc main_arg2)
abbrev argG : S8x4x2048.Idx → EReal := m ((c.tc : Thread nD τ).loc main_arg3)

/-- Rows of zeros below. -/
abbrev padded (x : S4x2048.Idx → EReal) : S8x2048.Idx → EReal :=
  pad S8x2048 ![0, 0] ![4, 0] ![0, 0] x (sitofp (F := Ideal) .f32 (constantI S_ 32 0#32)) pads_S4x2048_S8x2048_040_000 h_S_

theorem hosts : V m c main_v0 = padded (argW m c) ∧ V m c main_v1 = padded (argM m c) ∧ V m c main_v2 = padded (argV m c)
    ∧ V m c main_v3 = pad S8x8x2048 ![0, 0, 0] ![0, 4, 0] ![0, 0, 0] (argG m c) (sitofp (F := Ideal) .f32 (constantI S_ 32 0#32))
      pads_S8x4x2048_S8x8x2048_000_040_000 h_S_ := by
  refine ⟨?_, ?_, ?_, ?_⟩ <;>
    (simp only [V, hostOps0, hostOps0_1, hostOps0_2, hostOps0_3, hostOps0_4, hostOps0_5, hostOps0_6, hostOps0_7, List.flatten_cons,
      List.flatten_nil, List.append_nil, List.cons_append, List.nil_append]
     after_results
     rfl)

theorem padded_in (x : S4x2048.Idx → EReal) (r : Fin 8) (l : Fin 2048) : padded x (ix2 r l) = e2 x r l := pad_e2 x _ _ _ zero_conv r l

/-- The eight devices' gradients added up. -/
def total (x : S8x4x2048.Idx → EReal) : S4x2048.Idx → EReal := fun i => ∑ s : Fin 8, x (ix3 s (i 0) (i 1))

/-- The padded arrays, as matrices. -/
abbrev mW : S8x2048.Idx → EReal := V m c main_v0
abbrev mM : S8x2048.Idx → EReal := V m c main_v1
abbrev mV : S8x2048.Idx → EReal := V m c main_v2
abbrev mG : S8x8x2048.Idx → EReal := V m c main_v3

theorem V_g (r : Fin 8) (l : Fin 2048) : ∑ s : Fin 8, mG m c (ix3 s r l) = e2 (total (argG m c)) r l := by
  rw [mG, (hosts m c).2.2.2]
  by_cases h : r.val < 4
  · refine Eq.trans (Finset.sum_congr rfl fun s _ => ?_) (e2_in (total (argG m c)) ⟨r.val, h⟩ l)
    refine pad_apply_of_inside _ _ _ _ _ _ _ (ix3 s r l) (ix3 s ⟨r.val, h⟩ l) fun a => ?_
    match a with
    | ⟨0, _⟩ => show s.val = 0 + s.val * (0 + 1); omega
    | ⟨1, _⟩ => show r.val = 0 + r.val * (0 + 1); omega
    | ⟨2, _⟩ => show l.val = 0 + l.val * (0 + 1); omega
  · rw [e2_out _ (fun k => h k.1)]
    refine Finset.sum_eq_zero fun s _ => (pad_apply_of_not_inside _ _ _ _ _ _ _ (ix3 s r l) 1 ?_).trans zero_conv
    show ¬(0 ≤ r.val ∧ (r.val - 0) % (0 + 1) = 0 ∧ (r.val - 0) / (0 + 1) < 4)
    omega

/-- A function of weight, moments and gradient at every entry, zero in the rows below. -/
def each (f : EReal → EReal → EReal → EReal → EReal) (w m v : S4x2048.Idx → EReal) (g : S8x4x2048.Idx → EReal) : S8x2048.Idx → EReal :=
  fun i => f (e2 w (i 0).val (i 1).val) (e2 m (i 0).val (i 1).val) (e2 v (i 0).val (i 1).val) (e2 (total g) (i 0).val (i 1).val)

abbrev res (f : EReal → EReal → EReal → EReal → EReal) : S8x2048.Idx → EReal := each f (argW m c) (argM m c) (argV m c) (argG m c)

/-- A stored payload with these entries is the result. -/
theorem res_of (f) (y X : Vec Ideal S8x2048 .f32) (hX : X = View.canon [⟨r0_8, y⟩])
    (h : ∀ (r : Fin 8) (l : Fin 2048),
      y (ix2 r l) = f (mW m c (ix2 r l)) (mM m c (ix2 r l)) (mV m c (ix2 r l)) (∑ s : Fin 8, mG m c (ix3 s r l))) : X = res m c f := by
  rw [hX, View.canon_unit_zero (S := S8x2048) (by funext a; fin_cases a <;> rfl)]
  funext i
  obtain ⟨r, l, rfl⟩ : ∃ (r : Fin 8) (l : Fin 2048), i = ix2 r l := ⟨i 0, i 1, by funext a; fin_cases a <;> rfl⟩
  rw [h, V_g, mW, mM, mV, (hosts m c).1, (hosts m c).2.1, (hosts m c).2.2.1, padded_in, padded_in, padded_in]
  rfl

abbrev t0 : Fin cfg0.N := ⟨0, by decide⟩

theorem final4 : (dats m 0 c).arrAt 4 cfg0.N = res m c (fun _ _ _ g => g) := by
  refine (View.ld_unit_zero (S := S8x2048) (off t0) _ _).symm.trans ((Value.blocks4 m c t0 (flush0_4 t0)).trans ?_)
  rw [Value.flushed4, blk0, blk1, blk2, blk3]
  exact res_of m c _ _ _ rfl (pay_g _ _ _ _)

theorem final5 : (dats m 0 c).arrAt 5 cfg0.N = res m c (delta) := by
  refine (View.ld_unit_zero (S := S8x2048) (off t0) _ _).symm.trans ((Value.blocks5 m c t0 (flush0_5 t0)).trans ?_)
  rw [Value.flushed5, blk0, blk1, blk2, blk3]
  exact res_of m c _ _ _ rfl (pay_d _ _ _ _)

theorem final6 : (dats m 0 c).arrAt 6 cfg0.N = res m c (fun _ m _ g => mom m g) := by
  refine (View.ld_unit_zero (S := S8x2048) (off t0) _ _).symm.trans ((Value.blocks6 m c t0 (flush0_6 t0)).trans ?_)
  rw [Value.flushed6, blk0, blk1, blk2, blk3]
  exact res_of m c _ _ _ rfl (pay_m _ _ _ _)

theorem final7 : (dats m 0 c).arrAt 7 cfg0.N = res m c (fun _ _ v g => sqm v g) := by
  refine (View.ld_unit_zero (S := S8x2048) (off t0) _ _).symm.trans ((Value.blocks7 m c t0 (flush0_7 t0)).trans ?_)
  rw [Value.flushed7, blk0, blk1, blk2, blk3]
  exact res_of m c _ _ _ rfl (pay_v _ _ _ _)

end Cert.AdamwIdeal.Tiles

namespace Cert.Adamw

open Idealize.ShloMosaic Idealize.SL.Sem Cert.Reals Cert.RowNorm Cert.AdamwIdeal.Tiles Cert.AdamwRefIdeal.Read

/-- The reference runs and leaves its arguments and the semaphores as they were. -/
theorem quiescent_ref : Cert.quiescent_AdamwRefIdeal (hAdamwRefIdeal := Cert.AdamwRefIdeal.Gen.facts) := fun m ρ _ =>
  (θ_run _ _ _).mono (fun r h => ⟨fun c => (h c).2.2.2.2, sem_eq_zero_of_no_sems (by decide) r.2⟩) (Cert.AdamwRefIdeal.Value.run (F := Ideal) m ρ)

section Ref
open Cert.AdamwRefIdeal

variable (w m v : S4x2048.Idx → EReal) (g : S8x4x2048.Idx → EReal) (r : Fin 4) (l : Fin 2048)

theorem ref_g : val_main_v0 (F := Ideal) g (ix2 r l) = total g (ix2 r l) := by
  pointwise [val_main_v0, val_main_cst]
  rfl

theorem ref_m : val_main_v5 (F := Ideal) m g (ix2 r l) = mom (m (ix2 r l)) (total g (ix2 r l)) := by
  rw [← ref_g]
  pointwise [val_main_v5, val_main_v4, val_main_v3, val_main_v2, val_main_v1, val_main_cst_0, val_main_cst_1]
  rfl

theorem ref_v : val_main_v11 (F := Ideal) v g (ix2 r l) = sqm (v (ix2 r l)) (total g (ix2 r l)) := by
  rw [← ref_g]
  pointwise [val_main_v11, val_main_v10, val_main_v9, val_main_v8, val_main_v7, val_main_v6, val_main_cst_2, val_main_cst_3]
  rfl

theorem ref_d : val_main_v24 (F := Ideal) w m v g (ix2 r l) = delta (w (ix2 r l)) (m (ix2 r l)) (v (ix2 r l)) (total g (ix2 r l)) := by
  unfold delta
  rw [← ref_m, ← ref_v]
  pointwise [val_main_v24, val_main_v23, val_main_v22, val_main_v21, val_main_v20, val_main_v19, val_main_v18, val_main_v17, val_main_v16,
    val_main_v15, val_main_v14, val_main_v13, val_main_v12, val_main_cst_4, val_main_cst_5, val_main_cst_6, val_main_cst_7,
    val_main_cst_8]

/-- A result with these entries, padded. -/
theorem ref_of (f) (h0 : f 0 0 0 0 = 0) (y : S4x2048.Idx → EReal)
    (h : ∀ (r : Fin 4) (l : Fin 2048), y (ix2 r l) = f (w (ix2 r l)) (m (ix2 r l)) (v (ix2 r l)) (total g (ix2 r l))) : padded y = each f w m v g := by
  funext i
  obtain ⟨r, l, rfl⟩ : ∃ (r : Fin 8) (l : Fin 2048), i = ix2 r l := ⟨i 0, i 1, by funext a; fin_cases a <;> rfl⟩
  rw [padded_in]
  show e2 y r l = f (e2 w r l) (e2 m r l) (e2 v r l) (e2 (total g) r l)
  by_cases hr : r.val < 4
  · have q := fun x : S4x2048.Idx → EReal => (e2_in x ⟨r.val, hr⟩ l).symm
    exact (q y).trans ((h _ _).trans (by rw [q w, q m, q v, q (total g)]))
  · have q := fun x : S4x2048.Idx → EReal => e2_out x (r := r.val) (l := l.val) (fun k => hr k.1)
    rw [q y, q w, q m, q v, q (total g), h0]

end Ref

theorem algebraic : Cert.algebraic_AdamwIdeal_AdamwRefIdeal (hAdamwIdeal := Cert.AdamwIdeal.Gen.facts)
    (hAdamwRefIdeal := Cert.AdamwRefIdeal.Gen.facts) := by
  intro m ρ m' ρ' _ hag
  refine ⟨fun c => res m c fun _ _ _ g => g, fun c => res m c delta, fun c => res m c fun _ m _ g => mom m g, fun c => res m c fun _ _ v g => sqm v g,
    ?_, ?_⟩
  · refine (θ_run _ _ _).mono (fun r h c => ?_) (Cert.AdamwIdeal.Value.run_blocks m ρ)
    obtain ⟨h0, h1, h2, h3, h4⟩ := h c
    exact ⟨h0.trans (final4 m c), h1.trans (final5 m c), h2.trans (final6 m c), h3.trans (final7 m c), h4⟩
  · refine (θ_run _ _ _).mono (fun r h c => ?_) (Cert.AdamwRefIdeal.Value.run (F := Ideal) m' ρ')
    obtain ⟨h0, h1, h2, h3, h4⟩ := h c
    obtain ⟨a0, a1, a2, a3⟩ := hag c
    refine ⟨h0.trans ?_, h1.trans ?_, h2.trans ?_, h3.trans ?_, h4⟩
    · rw [val_main_v25_eq, a3]
      exact ref_of (argW m c) (argM m c) (argV m c) (argG m c) _ rfl _ fun r l => ref_g _ r l
    · rw [val_main_v26_eq, a0, a1, a2, a3]
      exact ref_of _ _ _ _ _ delta_zero _ fun r l => ref_d _ _ _ _ r l
    · rw [val_main_v27_eq, a1, a3]
      exact ref_of (argW m c) _ (argV m c) _ (fun _ m _ g => mom m g) mom_zero _ fun r l => ref_m _ _ r l
    · rw [val_main_v28_eq, a2, a3]
      exact ref_of (argW m c) (argM m c) _ _ (fun _ _ v g => sqm v g) sqm_zero _ fun r l => ref_v _ _ r l

end Cert.Adamw
-- ==== Proof.Down.lean ====
/- The feed-forward's last product with the residual path added: the kernel's tiles of 384 rows and 1024 columns as the host's product. -/
module

public import proofs.«01_k».proof.Defs
public import proofs.«01_k».proof.Proof.Gen.Down.Frame
public import proofs.«01_k».proof.Proof.Gen.DownIdeal.Value
public import proofs.«01_k».proof.Proof.Gen.DownRefIdeal.Run
public import proofs.«01_k».proof.Proof.Gen.DownRefIdeal.Read
public import proofs.«01_k».proof.Proof.Tile
public import Idealize.ShloMosaic.Lib.Quiescent

@[expose] public section

noncomputable section

namespace Cert.DownIdeal.Tiles

open Idealize.ShloMosaic Idealize.SL.Sem Cert.DownIdeal Cert.DownIdeal.Gen Cert.Tile
open Facts

theorem pay_eq (x : Vec Ideal S384x5632 .bf16) (w : Vec Ideal S5632x1024 .bf16) (h : Vec Ideal S384x1024 .f32) (r : Fin 384) (l : Fin 1024) :
    k0_pay1 x w h (ix2 r l) = h (ix2 r l) + ∑ k : Fin 5632, x (ix2 r k) * w (ix2 k l) := by
  rw [add_comm]
  pointwise [k0_pay1]

abbrev Mem := (ℓ : Loc nD τ sig) → Buf (Elt Ideal) ℓ

variable (m : Mem) (c : Dev nD)

abbrev argX : S4224x5632.Idx → EReal := m ((c.tc : Thread nD τ).loc main_arg0)
abbrev argW : S5632x2048.Idx → EReal := m ((c.tc : Thread nD τ).loc main_arg1)
abbrev argH : S4224x2048.Idx → EReal := m ((c.tc : Thread nD τ).loc main_arg2)

theorem idx : ∀ t : Fin cfg0.N, (win0_0.index t 0 = t.val % 11 ∧ win0_0.index t 1 = 0) ∧ (win0_1.index t 0 = 0 ∧ win0_1.index t 1 = t.val / 11)
    ∧ (win0_2.index t 0 = t.val % 11 ∧ win0_2.index t 1 = t.val / 11) ∧ (win0_3.index t 0 = t.val % 11 ∧ win0_3.index t 1 = t.val / 11) := by
  decide +kernel

/-- The product and the residual path. -/
def res : S4224x2048.Idx → EReal := fun i => argH m c i + ∑ k : Fin 5632, argX m c (ix2 (i 0) k) * argW m c (ix2 k (i 1))

theorem final : (dats m 0 c).arrAt 3 cfg0.N = res m c := by
  funext i
  obtain ⟨R, L, rfl⟩ : ∃ (R : Fin 4224) (L : Fin 2048), i = ix2 R L := ⟨i 0, i 1, by funext a; fin_cases a <;> rfl⟩
  let t : Fin cfg0.N := ⟨L.val / 1024 * 11 + R.val / 384, lt_of_lt_of_eq (by omega) N_0.symm⟩
  let r : Fin 384 := ⟨R.val % 384, by omega⟩
  let l : Fin 1024 := ⟨L.val % 1024, by omega⟩
  have hR : R.val = t.val % 11 * 384 + r.val := by show _ = (L.val / 1024 * 11 + R.val / 384) % 11 * 384 + R.val % 384; omega
  have hL : L.val = t.val / 11 * 1024 + l.val := by show _ = (L.val / 1024 * 11 + R.val / 384) / 11 * 1024 + L.val % 1024; omega
  refine (tile2 ((dats m 0 c).arrAt 3 cfg0.N) _ (idx t).2.2.2 r l R L hR hL).symm.trans
    ((congrFun (Value.blocks3 m c t (flush0_3 t)) (ix2 r l)).trans ?_)
  rw [Value.flushed3]
  unfold out0_3
  rw [View.canon_unit_zero (S := S384x1024) (by funext a; fin_cases a <;> rfl),
    View.ld_unit_zero (S := S384x5632) (by funext a; fin_cases a <;> rfl), View.ld_unit_zero (S := S5632x1024) (by funext a; fin_cases a <;> rfl),
    View.ld_unit_zero (S := S384x1024) (by funext a; fin_cases a <;> rfl)]
  refine (pay_eq _ _ _ r l).trans (congrArg₂ (· + ·) (tile2 (Val := Elt Ideal) (e := .f32) (V m c main_arg2) _ (idx t).2.2.1 r l R L hR hL) (Finset.sum_congr rfl fun k _ => ?_))
  exact congrArg₂ (· * ·) (tile2 (Val := Elt Ideal) (e := .bf16) (V m c main_arg0) _ (idx t).1 r k R k hR (by omega)) (tile2 (Val := Elt Ideal) (e := .bf16) (V m c main_arg1) _ (idx t).2.1 k l k L (by omega) hL)

end Cert.DownIdeal.Tiles

namespace Cert.Down

open Idealize.ShloMosaic Idealize.SL.Sem Cert.DownRefIdeal.Read Cert.DownIdeal.Tiles

/-- The reference runs and leaves its arguments and the semaphores as they were. -/
theorem quiescent_ref : Cert.quiescent_DownRefIdeal (hDownRefIdeal := Cert.DownRefIdeal.Gen.facts) := fun m ρ _ =>
  (θ_run _ _ _).mono (fun r h => ⟨fun c => (h c).2, sem_eq_zero_of_no_sems (by decide) r.2⟩) (Cert.DownRefIdeal.Value.run (F := Ideal) m ρ)

theorem ref_eq (m : Mem) (c : Dev Cert.DownIdeal.nD) : val_main_v3 (F := Ideal) (argX m c) (argW m c) (argH m c) = res m c := by
  funext i
  obtain ⟨r, l, rfl⟩ : ∃ (r : Fin 4224) (l : Fin 2048), i = ix2 r l := ⟨i 0, i 1, by funext a; fin_cases a <;> rfl⟩
  pointwise [val_main_v3, val_main_v2, val_main_v1, val_main_v0]
  rfl

theorem algebraic : Cert.algebraic_DownIdeal_DownRefIdeal (hDownIdeal := Cert.DownIdeal.Gen.facts)
    (hDownRefIdeal := Cert.DownRefIdeal.Gen.facts) := by
  intro m ρ m' ρ' _ hag
  refine ⟨fun c => res m c, ?_, ?_⟩
  · refine (θ_run _ _ _).mono (fun r h c => ?_) (Cert.DownIdeal.Value.run_blocks m ρ)
    obtain ⟨h0, h1⟩ := h c
    exact ⟨h0.trans (final m c), h1⟩
  · refine (θ_run _ _ _).mono (fun r h c => ?_) (Cert.DownRefIdeal.Value.run (F := Ideal) m' ρ')
    obtain ⟨h0, h1⟩ := h c
    obtain ⟨a0, a1, a2⟩ := hag c
    refine ⟨h0.trans ?_, h1⟩
    rw [val_main_v3_eq, a0, a1, a2]
    exact ref_eq m c

end Cert.Down
-- ==== Proof.Dhn.lean ====
/- The gradient of the feed-forward's input: the kernel's sums over eight blocks of columns as the host's product over all of them. -/
module

public import proofs.«01_k».proof.Defs
public import proofs.«01_k».proof.Proof.Gen.Dhn.Frame
public import proofs.«01_k».proof.Proof.Gen.DhnIdeal.Value
public import proofs.«01_k».proof.Proof.Gen.DhnRefIdeal.Run
public import proofs.«01_k».proof.Proof.Gen.DhnRefIdeal.Read
public import proofs.«01_k».proof.Proof.Tile
public import Idealize.ShloMosaic.Lib.Quiescent

@[expose] public section

noncomputable section

namespace Cert.DhnIdeal.Tiles

open Idealize.ShloMosaic Idealize.SL.Sem Cert.DhnIdeal Cert.DhnIdeal.Gen Cert.Tile
open Facts

/-- A block of the gradient times a block of the transposed weight. -/
def dot (a : Vec Ideal S1x384x1408 .bf16) (b : Vec Ideal S1x512x1408 .bf16) (r : Fin 384) (l : Fin 512) : EReal :=
  ∑ k : Fin 1408, a (ix3 0 r k) * b (ix3 0 l k)

theorem pay_eq (a0 a1 a2 a3 a4 a5 a6 a7 : Vec Ideal S1x384x1408 .bf16) (b0 b1 b2 b3 b4 b5 b6 b7 : Vec Ideal S1x512x1408 .bf16) (r : Fin 384) (l : Fin 512) :
    k0_pay1 (k0_pay2 a0 b0 a1 b1 a2 b2 a3 b3) (k0_pay3 a4) b4 a5 b5 a6 b6 a7 b7 (ix2 r l) = dot a0 b0 r l + dot a1 b1 r l + dot a2 b2 r l
      + dot a3 b3 r l + dot a4 b4 r l + dot a5 b5 r l + dot a6 b6 r l + dot a7 b7 r l := by
  unfold dot
  pointwise [k0_pay1, k0_pay2, k0_pay3]

abbrev Mem := (ℓ : Loc nD τ sig) → Buf (Elt Ideal) ℓ

variable (m : Mem) (c : Dev nD)

abbrev argG : S2x4224x5632.Idx → EReal := m ((c.tc : Thread nD τ).loc main_arg0)
abbrev argW : S2048x11264.Idx → EReal := m ((c.tc : Thread nD τ).loc main_arg1)

theorem idx : ∀ t : Fin cfg0.N, (win0_0.index t 0 = 0 ∧ win0_0.index t 1 = t.val % 11 ∧ win0_0.index t 2 = 0)
    ∧ (win0_1.index t 0 = 0 ∧ win0_1.index t 1 = t.val / 11 ∧ win0_1.index t 2 = 0) ∧ (win0_2.index t 0 = t.val % 11 ∧ win0_2.index t 1 = t.val / 11) := by
  decide +kernel

theorem host_w (j : Fin 8) (l : Fin 2048) (k : Fin 1408) :
    (V m c main_v1 : S8x2048x1408.Idx → EReal) (ix3 j l k) = argW m c (ix2 l ⟨j.val * 1408 + k.val, by omega⟩) := by
  have e : V m c main_v1 = transpose S8x2048x1408 [1, 0, 2] (shapeCast S2048x8x1408 (argW m c) shapeCasts_S2048x11264_S2048x8x1408)
      transposes_S2048x8x1408_S8x2048x1408_1_0_2 := by
    simp only [V, hostOps0]
    after_results
    rfl
  rw [e]
  pointwise []

/-- Column `k` of block `j` of the gradient: the two halves lie beside each other, in four blocks each. -/
def part (j : Fin 8) (r : Fin 4224) (k : Fin 1408) : S2x4224x5632.Idx := ix3 ⟨j.val / 4, by omega⟩ r ⟨j.val % 4 * 1408 + k.val, by omega⟩

/-- One block's share of an entry. -/
def share (j : Fin 8) (r : Fin 4224) (l : Fin 2048) : EReal := ∑ k : Fin 1408, argG m c (part j r k) * argW m c (ix2 l ⟨j.val * 1408 + k.val, by omega⟩)

/-- The gradient times the transposed weight, block by block. -/
def res : S4224x2048.Idx → EReal := fun i => ∑ j : Fin 8, share m c j (i 0) (i 1)

theorem dot_eq (t : Fin cfg0.N) (j : Fin 8) {o o' : Fin 3 → ℕ} (inb inb') (ho : ∀ a, o a = (![j.val / 4, 0, j.val % 4 * 1408] : Fin 3 → ℕ) a)
    (ho' : ∀ a, o' a = (![j.val, 0, 0] : Fin 3 → ℕ) a) (r : Fin 384) (l : Fin 512) (R : Fin 4224) (L : Fin 2048)
    (hR : R.val = t.val % 11 * 384 + r.val) (hL : L.val = t.val / 11 * 512 + l.val) :
    dot (View.ld (Val := Elt Ideal) (e' := .bf16) (iblk m c 0 t) (Rect.unit (s := S2x384x5632) o S1x384x1408.size inb))
      (View.ld (Val := Elt Ideal) (e' := .bf16) (iblk m c 1 t) (Rect.unit (s := S8x512x1408) o' S1x512x1408.size inb')) r l = share m c j R L := by
  refine Finset.sum_congr rfl fun k _ => congrArg₂ (· * ·) ?_ ?_
  · refine (View.ld_unit_apply_of _ _ _ inb (ix3 0 r k) (ix3 ⟨j.val / 4, by omega⟩ r ⟨j.val % 4 * 1408 + k.val, by omega⟩) fun a => ?_).trans
      (tile3 (Val := Elt Ideal) (e := .bf16) (V m c main_arg0) _ (idx t).1 ⟨j.val / 4, by omega⟩ r ⟨j.val % 4 * 1408 + k.val, by omega⟩
        ⟨j.val / 4, by omega⟩ R ⟨j.val % 4 * 1408 + k.val, by omega⟩ (by omega) hR (by omega))
    rw [ho a]
    match a with
    | ⟨0, _⟩ => rfl
    | ⟨1, _⟩ => exact (Nat.zero_add _).symm
    | ⟨2, _⟩ => rfl
  · refine (View.ld_unit_apply_of _ _ _ inb' (ix3 0 l k) (ix3 j l k) fun a => ?_).trans
      ((tile3 (Val := Elt Ideal) (e := .bf16) (V m c main_v1) _ (idx t).2.1 j l k j L k (by omega) hL (by omega)).trans (host_w m c j L k))
    rw [ho' a]
    match a with
    | ⟨0, _⟩ => rfl
    | ⟨1, _⟩ => exact (Nat.zero_add _).symm
    | ⟨2, _⟩ => exact (Nat.zero_add _).symm

theorem final : (dats m 0 c).arrAt 2 cfg0.N = res m c := by
  funext i
  obtain ⟨R, L, rfl⟩ : ∃ (R : Fin 4224) (L : Fin 2048), i = ix2 R L := ⟨i 0, i 1, by funext a; fin_cases a <;> rfl⟩
  let t : Fin cfg0.N := ⟨L.val / 512 * 11 + R.val / 384, lt_of_lt_of_eq (by omega) N_0.symm⟩
  let r : Fin 384 := ⟨R.val % 384, by omega⟩
  let l : Fin 512 := ⟨L.val % 512, by omega⟩
  have hR : R.val = t.val % 11 * 384 + r.val := by show _ = (L.val / 512 * 11 + R.val / 384) % 11 * 384 + R.val % 384; omega
  have hL : L.val = t.val / 11 * 512 + l.val := by show _ = (L.val / 512 * 11 + R.val / 384) / 11 * 512 + L.val % 512; omega
  refine (tile2 ((dats m 0 c).arrAt 2 cfg0.N) _ (idx t).2.2 r l R L hR hL).symm.trans
    ((congrFun (Value.blocks2 m c t (flush0_2 t)) (ix2 r l)).trans ?_)
  rw [Value.flushed2]
  unfold out0_2
  rw [View.canon_unit_zero (S := S384x512) (by funext a; fin_cases a <;> rfl)]
  refine (pay_eq _ _ _ _ _ _ _ _ _ _ _ _ _ _ _ _ r l).trans (Eq.trans ?_ (Fin.sum_univ_eight fun j => share m c j R L).symm)
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact dot_eq m c t 0 _ _ (by decide) (by decide) r l R L hR hL
  · exact dot_eq m c t 1 _ _ (by decide) (by decide) r l R L hR hL
  · exact dot_eq m c t 2 _ _ (by decide) (by decide) r l R L hR hL
  · exact dot_eq m c t 3 _ _ (by decide) (by decide) r l R L hR hL
  · exact dot_eq m c t 4 _ _ (by decide) (by decide) r l R L hR hL
  · exact dot_eq m c t 5 _ _ (by decide) (by decide) r l R L hR hL
  · exact dot_eq m c t 6 _ _ (by decide) (by decide) r l R L hR hL
  · exact dot_eq m c t 7 _ _ (by decide) (by decide) r l R L hR hL

end Cert.DhnIdeal.Tiles

namespace Cert.Dhn

open Idealize.ShloMosaic Idealize.SL.Sem Cert.DhnRefIdeal.Read Cert.DhnIdeal.Tiles

/-- The reference runs and leaves its arguments and the semaphores as they were. -/
theorem quiescent_ref : Cert.quiescent_DhnRefIdeal (hDhnRefIdeal := Cert.DhnRefIdeal.Gen.facts) := fun m ρ _ =>
  (θ_run _ _ _).mono (fun r h => ⟨fun c => (h c).2, sem_eq_zero_of_no_sems (by decide) r.2⟩) (Cert.DhnRefIdeal.Value.run (F := Ideal) m ρ)

theorem beside (g : S2x4224x5632.Idx → EReal) (j : Fin 8) (r : Fin 4224) (k : Fin 1408) (h : j.val * 1408 + k.val < 11264) :
    val_main_v4 (F := Ideal) g (ix2 r ⟨j.val * 1408 + k.val, h⟩) = g (part j r k) := by
  unfold part
  pointwise [val_main_v4, val_main_v3, val_main_v2, val_main_v1, val_main_v0]
  split_ifs <;> refine congrArg g ?_ <;> funext a <;> apply Fin.ext <;> fin_cases a <;> simp <;> omega

/-- A sum over all the columns, block by block. -/
theorem sum_blocks (f : Fin 11264 → EReal) : ∑ k, f k = ∑ j : Fin 8, ∑ k : Fin 1408, f ⟨j.val * 1408 + k.val, by omega⟩ := by
  refine ((Equiv.sum_comp (finProdFinEquiv (m := 8) (n := 1408)) f).symm.trans (Fintype.sum_prod_type _)).trans
    (Finset.sum_congr rfl fun j _ => Finset.sum_congr rfl fun k _ => congrArg f (Fin.ext ?_))
  show k.val + 1408 * j.val = j.val * 1408 + k.val
  omega

theorem ref_eq (m : Mem) (c : Dev Cert.DhnIdeal.nD) : val_main_v9 (F := Ideal) (argG m c) (argW m c) = res m c := by
  funext i
  obtain ⟨r, l, rfl⟩ : ∃ (r : Fin 4224) (l : Fin 2048), i = ix2 r l := ⟨i 0, i 1, by funext a; fin_cases a <;> rfl⟩
  refine (val_main_v8_apply _ _ (ix2 r l)).trans ((sum_blocks _).trans (Finset.sum_congr rfl fun j _ => Finset.sum_congr rfl fun k _ =>
    congrArg₂ (· * ·) ?_ ?_))
  · refine (congrArg (val_main_v4 (F := Ideal) (argG m c)) ?_).trans (beside (argG m c) j r k (by omega))
    funext a
    fin_cases a <;> rfl
  · pointwise [val_main_v7, val_main_v6]

theorem algebraic : Cert.algebraic_DhnIdeal_DhnRefIdeal (hDhnIdeal := Cert.DhnIdeal.Gen.facts)
    (hDhnRefIdeal := Cert.DhnRefIdeal.Gen.facts) := by
  intro m ρ m' ρ' _ hag
  refine ⟨fun c => res m c, ?_, ?_⟩
  · refine (θ_run _ _ _).mono (fun r h c => ?_) (Cert.DhnIdeal.Value.run_blocks m ρ)
    obtain ⟨h0, h1⟩ := h c
    exact ⟨h0.trans (final m c), h1⟩
  · refine (θ_run _ _ _).mono (fun r h c => ?_) (Cert.DhnRefIdeal.Value.run (F := Ideal) m' ρ')
    obtain ⟨h0, h1⟩ := h c
    obtain ⟨a0, a1⟩ := hag c
    refine ⟨h0.trans ?_, h1⟩
    rw [val_main_v9_eq, a0, a1]
    exact ref_eq m c

end Cert.Dhn
-- ==== Proof.Dwgu.lean ====
/- The gradient of the feed-forward's first weight: the kernel's tiles of 512 rows in eight blocks of columns as the host's product. -/
module

public import proofs.«01_k».proof.Defs
public import proofs.«01_k».proof.Proof.Gen.Dwgu.Frame
public import proofs.«01_k».proof.Proof.Gen.DwguIdeal.Value
public import proofs.«01_k».proof.Proof.Gen.DwguRefIdeal.Run
public import proofs.«01_k».proof.Proof.Gen.DwguRefIdeal.Read
public import proofs.«01_k».proof.Proof.Tile
public import Idealize.ShloMosaic.Lib.Quiescent

@[expose] public section

noncomputable section

namespace Cert.DwguIdeal.Tiles

open Idealize.ShloMosaic Idealize.SL.Sem Cert.DwguIdeal Cert.DwguIdeal.Gen Cert.Tile
open Facts

theorem pay_eq (x : Vec Ideal S4224x512 .bf16) (w : Vec Ideal S1x4224x1408 .bf16) (r : Fin 512) (l : Fin 1408) :
    k0_pay1 x w (ix3 0 r l) = ∑ k : Fin 4224, x (ix2 k r) * w (ix3 0 k l) := by
  pointwise [k0_pay1]

abbrev Mem := (ℓ : Loc nD τ sig) → Buf (Elt Ideal) ℓ

variable (m : Mem) (c : Dev nD)

abbrev argX : S4224x2048.Idx → EReal := m ((c.tc : Thread nD τ).loc main_arg0)
abbrev argG : S2x4224x5632.Idx → EReal := m ((c.tc : Thread nD τ).loc main_arg1)

theorem idx : ∀ t : Fin cfg0.N, (win0_0.index t 0 = 0 ∧ win0_0.index t 1 = t.val % 4)
    ∧ (win0_1.index t 0 = t.val / 16 ∧ win0_1.index t 1 = 0 ∧ win0_1.index t 2 = t.val / 4 % 4)
    ∧ (win0_2.index t 0 = t.val / 4 ∧ win0_2.index t 1 = t.val % 4 ∧ win0_2.index t 2 = 0) := by
  decide +kernel

/-- Column `l` of block `j` of the gradient: the two halves lie beside each other, in four blocks each. -/
def part (j : Fin 8) (l : Fin 1408) (k : Fin 4224) : S2x4224x5632.Idx := ix3 ⟨j.val / 4, by omega⟩ k ⟨j.val % 4 * 1408 + l.val, by omega⟩

/-- The transposed input times the gradient, in blocks of columns. -/
def res : S8x2048x1408.Idx → EReal := fun i => ∑ k : Fin 4224, argX m c (ix2 k (i 1)) * argG m c (part (i 0) (i 2) k)

theorem final : (dats m 0 c).arrAt 2 cfg0.N = res m c := by
  funext i
  obtain ⟨j, R, l, rfl⟩ : ∃ (j : Fin 8) (R : Fin 2048) (l : Fin 1408), i = ix3 j R l := ⟨i 0, i 1, i 2, by funext a; fin_cases a <;> rfl⟩
  let t : Fin cfg0.N := ⟨j.val * 4 + R.val / 512, lt_of_lt_of_eq (by omega) N_0.symm⟩
  let r : Fin 512 := ⟨R.val % 512, by omega⟩
  have hR : R.val = t.val % 4 * 512 + r.val := by show _ = (j.val * 4 + R.val / 512) % 4 * 512 + R.val % 512; omega
  have hj : j.val = t.val / 4 := by show _ = (j.val * 4 + R.val / 512) / 4; omega
  refine (tile3 ((dats m 0 c).arrAt 2 cfg0.N) _ (idx t).2.2 0 r l j R l (by omega) hR (by omega)).symm.trans
    ((congrFun (Value.blocks2 m c t (flush0_2 t)) (ix3 0 r l)).trans ?_)
  rw [Value.flushed2]
  unfold out0_2
  rw [View.canon_unit_zero (S := S1x512x1408) (by funext a; fin_cases a <;> rfl),
    View.ld_unit_zero (S := S4224x512) (by funext a; fin_cases a <;> rfl), View.ld_unit_zero (S := S1x4224x1408) (by funext a; fin_cases a <;> rfl)]
  refine (pay_eq _ _ r l).trans (Finset.sum_congr rfl fun k _ => congrArg₂ (· * ·)
    (tile2 (Val := Elt Ideal) (e := .bf16) (V m c main_arg0) _ (idx t).1 k r k R (by omega) hR) ?_)
  refine tile3 (Val := Elt Ideal) (e := .bf16) (V m c main_arg1) _ (idx t).2.1 0 k l _ k _ ?_ (by omega) ?_
  · show j.val / 4 = _; omega
  · show j.val % 4 * 1408 + l.val = _; omega

end Cert.DwguIdeal.Tiles

namespace Cert.Dwgu

open Idealize.ShloMosaic Idealize.SL.Sem Cert.DwguRefIdeal.Read Cert.DwguIdeal.Tiles

/-- The reference runs and leaves its arguments and the semaphores as they were. -/
theorem quiescent_ref : Cert.quiescent_DwguRefIdeal (hDwguRefIdeal := Cert.DwguRefIdeal.Gen.facts) := fun m ρ _ =>
  (θ_run _ _ _).mono (fun r h => ⟨fun c => (h c).2, sem_eq_zero_of_no_sems (by decide) r.2⟩) (Cert.DwguRefIdeal.Value.run (F := Ideal) m ρ)

theorem beside (g : S2x4224x5632.Idx → EReal) (j : Fin 8) (l : Fin 1408) (k : Fin 4224) (h : j.val * 1408 + l.val < 11264) :
    val_main_v4 (F := Ideal) g (ix2 k ⟨j.val * 1408 + l.val, h⟩) = g (part j l k) := by
  unfold part
  pointwise [val_main_v4, val_main_v3, val_main_v2, val_main_v1, val_main_v0]
  split_ifs <;> refine congrArg g ?_ <;> funext a <;> apply Fin.ext <;> fin_cases a <;> simp <;> omega

theorem ref_eq (m : Mem) (c : Dev Cert.DwguIdeal.nD) : val_main_v11 (F := Ideal) (argX m c) (argG m c) = res m c := by
  funext i
  obtain ⟨j, r, l, rfl⟩ : ∃ (j : Fin 8) (r : Fin 2048) (l : Fin 1408), i = ix3 j r l := ⟨i 0, i 1, i 2, by funext a; fin_cases a <;> rfl⟩
  have h : j.val * 1408 + l.val < 11264 := by omega
  have e : idx_main_v9 (idx_main_v10 (ix3 j r l)) = ix2 r ⟨j.val * 1408 + l.val, h⟩ := by
    funext a
    apply Fin.ext
    match a with
    | ⟨0, _⟩ => show ((r.val * 8 + j.val) * 1408 + l.val) / 11264 = r.val; omega
    | ⟨1, _⟩ => show ((r.val * 8 + j.val) * 1408 + l.val) % 11264 = j.val * 1408 + l.val; omega
  rw [val_main_v11_apply, val_main_v10_apply, val_main_v9_apply, e, val_main_v8_apply]
  refine Finset.sum_congr rfl fun k _ => congrArg₂ (· * ·) ?_ ?_
  · pointwise [val_main_v7, val_main_v6]
  · refine (congrArg (val_main_v4 (F := Ideal) (argG m c)) ?_).trans (beside (argG m c) j l k h)
    funext a
    fin_cases a <;> rfl

theorem algebraic : Cert.algebraic_DwguIdeal_DwguRefIdeal (hDwguIdeal := Cert.DwguIdeal.Gen.facts)
    (hDwguRefIdeal := Cert.DwguRefIdeal.Gen.facts) := by
  intro m ρ m' ρ' _ hag
  refine ⟨fun c => res m c, ?_, ?_⟩
  · refine (θ_run _ _ _).mono (fun r h c => ?_) (Cert.DwguIdeal.Value.run_blocks m ρ)
    obtain ⟨h0, h1⟩ := h c
    exact ⟨h0.trans (final m c), h1⟩
  · refine (θ_run _ _ _).mono (fun r h c => ?_) (Cert.DwguRefIdeal.Value.run (F := Ideal) m' ρ')
    obtain ⟨h0, h1⟩ := h c
    obtain ⟨a0, a1⟩ := hag c
    refine ⟨h0.trans ?_, h1⟩
    rw [val_main_v11_eq, a0, a1]
    exact ref_eq m c

end Cert.Dwgu
-- ==== Proof.lean ====
module

public import proofs.«01_k».proof.Defs
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormRefIdeal.Run
public import proofs.«01_k».proof.Proof.Gen.NormRefIdeal.Read
public import proofs.«01_k».proof.Proof.Gen.NormRefIdeal
public import proofs.«01_k».proof.Proof.Reals
public import proofs.«01_k».proof.Proof.Norm
public import proofs.«01_k».proof.Proof.NormRef
public import proofs.«01_k».proof.Proof.NormClaim
public import proofs.«01_k».proof.Proof.Gen.AttnBwd
public import proofs.«01_k».proof.Proof.Gen.AttnBwdIdeal
public import proofs.«01_k».proof.Proof.Gen.AttnBwdIdeal.Loops
public import proofs.«01_k».proof.Proof.Gen.AttnBwdIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.AttnClaim
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.LossClaim
public import proofs.«01_k».proof.Proof.Gen.PrepBwd
public import proofs.«01_k».proof.Proof.Gen.PrepBwd.Frame
public import proofs.«01_k».proof.Proof.Gen.PrepBwdIdeal
public import proofs.«01_k».proof.Proof.Gen.PrepBwdIdeal.Frame
public import proofs.«01_k».proof.Proof.Gen.PrepBwdIdeal.Value
public import proofs.«01_k».proof.Proof.Gen.PrepRefIdeal
public import proofs.«01_k».proof.Proof.Gen.PrepRefIdeal.Run
public import proofs.«01_k».proof.Proof.Gen.PrepRefIdeal.Read
public import proofs.«01_k».proof.Proof.PrepClaim
public import proofs.«01_k».proof.Proof.Gen.Pre_finite_prep
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.FfnUpClaim
public import proofs.«01_k».proof.Proof.Gen.Pre_finite_up
public import proofs.«01_k».proof.Proof.Gen.FfnDact
public import proofs.«01_k».proof.Proof.Gen.FfnDact.Frame
public import proofs.«01_k».proof.Proof.Gen.FfnDactIdeal
public import proofs.«01_k».proof.Proof.Gen.FfnDactIdeal.Frame
public import proofs.«01_k».proof.Proof.Gen.FfnDactIdeal.Value
public import proofs.«01_k».proof.Proof.Gen.FfnDactRefIdeal
public import proofs.«01_k».proof.Proof.Gen.FfnDactRefIdeal.Run
public import proofs.«01_k».proof.Proof.Gen.FfnDactRefIdeal.Read
public import proofs.«01_k».proof.Proof.FfnDactClaim
public import proofs.«01_k».proof.Proof.Gen.Pre_finite_dact
public import proofs.«01_k».proof.Proof.Gen.AttnFwd
public import proofs.«01_k».proof.Proof.Gen.AttnFwd.Loops
public import proofs.«01_k».proof.Proof.Gen.AttnFwd.Frame
public import proofs.«01_k».proof.Proof.Gen.AttnFwdIdeal
public import proofs.«01_k».proof.Proof.Gen.AttnFwdIdeal.Loops
public import proofs.«01_k».proof.Proof.Gen.AttnFwdIdeal.Frame
public import proofs.«01_k».proof.Proof.Gen.AttendRefIdeal
public import proofs.«01_k».proof.Proof.Gen.AttendRefIdeal.Run
public import proofs.«01_k».proof.Proof.Gen.AttendRefIdeal.Read
public import proofs.«01_k».proof.Proof.AttendClaim
public import proofs.«01_k».proof.Proof.Gen.Pre_finite_attend
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.NormFwdClaim
public import proofs.«01_k».proof.Proof.Gen.PrepFwd
public import proofs.«01_k».proof.Proof.Gen.PrepFwd.Frame
public import proofs.«01_k».proof.Proof.Gen.PrepFwdIdeal
public import proofs.«01_k».proof.Proof.Gen.PrepFwdIdeal.Frame
public import proofs.«01_k».proof.Proof.Gen.PrepFwdIdeal.Value
public import proofs.«01_k».proof.Proof.Gen.PrepFwdRefIdeal
public import proofs.«01_k».proof.Proof.Gen.PrepFwdRefIdeal.Run
public import proofs.«01_k».proof.Proof.Gen.PrepFwdRefIdeal.Read
public import proofs.«01_k».proof.Proof.PrepFwdClaim
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read
public import proofs.«01_k».proof.Proof.Adamw
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Down
public import proofs.«01_k».proof.Proof.Gen.Dhn
public import proofs.«01_k».proof.Proof.Gen.Dhn.Frame
public import proofs.«01_k».proof.Proof.Gen.DhnIdeal
public import proofs.«01_k».proof.Proof.Gen.DhnIdeal.Frame
public import proofs.«01_k».proof.Proof.Gen.DhnIdeal.Value
public import proofs.«01_k».proof.Proof.Gen.DhnRefIdeal
public import proofs.«01_k».proof.Proof.Gen.DhnRefIdeal.Run
public import proofs.«01_k».proof.Proof.Gen.DhnRefIdeal.Read
public import proofs.«01_k».proof.Proof.Dhn
public import proofs.«01_k».proof.Proof.Gen.Dwgu
public import proofs.«01_k».proof.Proof.Gen.Dwgu.Frame
public import proofs.«01_k».proof.Proof.Gen.DwguIdeal
public import proofs.«01_k».proof.Proof.Gen.DwguIdeal.Frame
public import proofs.«01_k».proof.Proof.Gen.DwguIdeal.Value
public import proofs.«01_k».proof.Proof.Gen.DwguRefIdeal
public import proofs.«01_k».proof.Proof.Gen.DwguRefIdeal.Run
public import proofs.«01_k».proof.Proof.Gen.DwguRefIdeal.Read
public import proofs.«01_k».proof.Proof.Dwgu
public import Idealize.ShloMosaic.Lib.Quiescent
public import Idealize.ShloMosaic.Adequacy
public import Idealize.ShloMosaic.Init

@[expose] public section

noncomputable section

namespace Cert.Proof

open Idealize.ShloMosaic Idealize.SL.Sem

theorem claim : Cert.Claim := ⟨Cert.NormBwd.Gen.facts, Cert.NormBwdIdeal.Gen.facts, Cert.NormRefIdeal.Gen.facts, Cert.AttnBwd.Gen.facts,
  Cert.AttnBwdIdeal.Gen.facts, Cert.AttnRefIdeal.Gen.facts, Cert.LossHead.Gen.facts, Cert.LossHeadIdeal.Gen.facts, Cert.LossRefIdeal.Gen.facts,
  Cert.PrepBwd.Gen.facts, Cert.PrepBwdIdeal.Gen.facts, Cert.PrepRefIdeal.Gen.facts, Cert.FfnUp.Gen.facts, Cert.FfnUpIdeal.Gen.facts, Cert.FfnUpRefIdeal.Gen.facts,
  Cert.FfnDact.Gen.facts, Cert.FfnDactIdeal.Gen.facts, Cert.FfnDactRefIdeal.Gen.facts,
  Cert.AttnFwd.Gen.facts, Cert.AttnFwdIdeal.Gen.facts, Cert.AttendRefIdeal.Gen.facts,
  Cert.NormFwd.Gen.facts, Cert.NormFwdIdeal.Gen.facts, Cert.NormFwdRefIdeal.Gen.facts,
  Cert.PrepFwd.Gen.facts, Cert.PrepFwdIdeal.Gen.facts, Cert.PrepFwdRefIdeal.Gen.facts,
  Cert.Adamw.Gen.facts, Cert.AdamwIdeal.Gen.facts, Cert.AdamwRefIdeal.Gen.facts,
  Cert.Down.Gen.facts, Cert.DownIdeal.Gen.facts, Cert.DownRefIdeal.Gen.facts,
  Cert.Dhn.Gen.facts, Cert.DhnIdeal.Gen.facts, Cert.DhnRefIdeal.Gen.facts,
  Cert.Dwgu.Gen.facts, Cert.DwguIdeal.Gen.facts, Cert.DwguRefIdeal.Gen.facts,
  Cert.Pre_finite_norm.facts, Cert.Pre_finite_attn.facts, Cert.Pre_finite_loss.facts, Cert.Pre_finite_prep.Gen.facts, Cert.Pre_finite_up.Gen.facts, Cert.Pre_finite_dact.Gen.facts,
  Cert.Pre_finite_attend.Gen.facts,
  fun m ρ _ => Cert.NormBwd.Gen.frame m ρ, fun m ρ _ => Cert.NormBwdIdeal.Gen.frame m ρ, fun m ρ _ => Cert.NormBwdIdeal.Gen.frame m ρ,
  Cert.Norm.quiescent_ref, fun m ρ _ => Cert.Norm.quiescent_ref m ρ trivial,
  Cert.AttnBwd.quiescent, fun m ρ _ => Cert.AttnBwdIdeal.Hand.frame m ρ, fun m ρ _ => Cert.AttnBwdIdeal.Hand.frame m ρ,
  Cert.Attn.quiescent_ref, fun m ρ _ => Cert.Attn.quiescent_ref m ρ trivial,
  fun m ρ _ => Cert.LossHead.Gen.frame m ρ, fun m ρ _ => Cert.LossHeadIdeal.Gen.frame m ρ, fun m ρ _ => Cert.LossHeadIdeal.Gen.frame m ρ,
  Cert.Loss.quiescent_ref, fun m ρ _ => Cert.Loss.quiescent_ref m ρ trivial,
  fun m ρ _ => Cert.PrepBwd.Gen.frame m ρ, fun m ρ _ => Cert.PrepBwdIdeal.Gen.frame m ρ, fun m ρ _ => Cert.PrepBwdIdeal.Gen.frame m ρ,
  Cert.Prep.quiescent_ref, fun m ρ _ => Cert.Prep.quiescent_ref m ρ trivial,
  fun m ρ _ => Cert.FfnUp.Gen.frame m ρ, fun m ρ _ => Cert.FfnUpIdeal.Gen.frame m ρ, fun m ρ _ => Cert.FfnUpIdeal.Gen.frame m ρ,
  Cert.FfnUp.quiescent_ref, fun m ρ _ => Cert.FfnUp.quiescent_ref m ρ trivial,
  fun m ρ _ => Cert.FfnDact.Gen.frame m ρ, fun m ρ _ => Cert.FfnDactIdeal.Gen.frame m ρ, fun m ρ _ => Cert.FfnDactIdeal.Gen.frame m ρ,
  Cert.FfnDact.quiescent_ref, fun m ρ _ => Cert.FfnDact.quiescent_ref m ρ trivial,
  fun m ρ _ => Cert.AttnFwd.Hand.frame m ρ, fun m ρ _ => Cert.AttnFwdIdeal.Hand.frame m ρ, fun m ρ _ => Cert.AttnFwdIdeal.Hand.frame m ρ,
  Cert.Attend.quiescent_ref, fun m ρ _ => Cert.Attend.quiescent_ref m ρ trivial,
  fun m ρ _ => Cert.NormFwd.Gen.frame m ρ, fun m ρ _ => Cert.NormFwdIdeal.Gen.frame m ρ, Cert.NormFwd.quiescent_ref,
  fun m ρ _ => Cert.PrepFwd.Gen.frame m ρ, fun m ρ _ => Cert.PrepFwdIdeal.Gen.frame m ρ, Cert.PrepFwd.quiescent_ref,
  fun m ρ _ => Cert.Adamw.Gen.frame m ρ, fun m ρ _ => Cert.AdamwIdeal.Gen.frame m ρ, Cert.Adamw.quiescent_ref,
  fun m ρ _ => Cert.Down.Gen.frame m ρ, fun m ρ _ => Cert.DownIdeal.Gen.frame m ρ, Cert.Down.quiescent_ref,
  fun m ρ _ => Cert.Dhn.Gen.frame m ρ, fun m ρ _ => Cert.DhnIdeal.Gen.frame m ρ, Cert.Dhn.quiescent_ref,
  fun m ρ _ => Cert.Dwgu.Gen.frame m ρ, fun m ρ _ => Cert.DwguIdeal.Gen.frame m ρ, Cert.Dwgu.quiescent_ref,
  trivial, Cert.Norm.algebraic (hp := Cert.Pre_finite_norm.facts), trivial, Cert.Attn.algebraic (hp := Cert.Pre_finite_attn.facts),
  trivial, Cert.Loss.algebraic (hp := Cert.Pre_finite_loss.facts), trivial, Cert.Prep.algebraic, trivial, Cert.FfnUp.algebraic,
  trivial, Cert.FfnDact.algebraic, Cert.Attend.preserves, Cert.Attend.algebraic, trivial, Cert.NormFwd.algebraic, trivial, Cert.PrepFwd.algebraic,
  trivial, Cert.Adamw.algebraic, trivial, Cert.Down.algebraic,
  trivial, Cert.Dhn.algebraic, trivial, Cert.Dwgu.algebraic⟩

end Cert.Proof

end
